-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v3_0)) (v2 : (c : Dev Cert.KernelIdeal.nD) → Buf (Elt Ideal) ((c.tc : Thread Cert.KernelIdeal.nD Cert.KernelIdeal.τ).loc Cert.KernelIdeal.main_v3_1)) (v3 : (c : Dev Cert.KernelIdeal.nD) → Buf (Elt Ideal) ((c.tc : Thread Cert.KernelIdeal.nD Cert.KernelIdeal.τ).loc Cert.KernelIdeal.main_v3_2)) (v4 : (c : Dev Cert.KernelIdeal.nD) → Buf (Elt Ideal) ((c.tc : Thread Cert.KernelIdeal.nD Cert.KernelIdeal.τ).loc Cert.KernelIdeal.main_v3_3)) (v5 : (c : Dev Cert.KernelIdeal.nD) → Buf (Elt Ideal) ((c.tc : Thread Cert.KernelIdeal.nD Cert.KernelIdeal.τ).loc Cert.KernelIdeal.main_v3_4)) (v6 : (c : Dev Cert.KernelIdeal.nD) → Buf (Elt Ideal) ((c.tc : Thread Cert.KernelIdeal.nD Cert.KernelIdeal.τ).loc Cert.KernelIdeal.main_v3_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v3_0) = v1 c
          ∧ r.2.mem ((c.tc : Thread Cert.KernelIdeal.nD Cert.KernelIdeal.τ).loc Cert.KernelIdeal.main_v3_1) = v2 c
          ∧ r.2.mem ((c.tc : Thread Cert.KernelIdeal.nD Cert.KernelIdeal.τ).loc Cert.KernelIdeal.main_v3_2) = v3 c
          ∧ r.2.mem ((c.tc : Thread Cert.KernelIdeal.nD Cert.KernelIdeal.τ).loc Cert.KernelIdeal.main_v3_3) = v4 c
          ∧ r.2.mem ((c.tc : Thread Cert.KernelIdeal.nD Cert.KernelIdeal.τ).loc Cert.KernelIdeal.main_v3_4) = v5 c
          ∧ r.2.mem ((c.tc : Thread Cert.KernelIdeal.nD Cert.KernelIdeal.τ).loc Cert.KernelIdeal.main_v3_5) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_v41) = v2 c
          ∧ r.2.mem ((c.tc : Thread Cert.ReferenceIdeal.nD Cert.ReferenceIdeal.τ).loc Cert.ReferenceIdeal.main_v49) = v3 c
          ∧ r.2.mem ((c.tc : Thread Cert.ReferenceIdeal.nD Cert.ReferenceIdeal.τ).loc Cert.ReferenceIdeal.main_v46) = v4 c
          ∧ r.2.mem ((c.tc : Thread Cert.ReferenceIdeal.nD Cert.ReferenceIdeal.τ).loc Cert.ReferenceIdeal.main_v38) = v5 c
          ∧ r.2.mem ((c.tc : Thread Cert.ReferenceIdeal.nD Cert.ReferenceIdeal.τ).loc Cert.ReferenceIdeal.main_v51) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v27) = v0 c
          ∧ r.2.mem ((c.tc : Thread Cert.Reference2Ideal.nD Cert.Reference2Ideal.τ).loc Cert.Reference2Ideal.main_v28) = v1 c
          ∧ r.2.mem ((c.tc : Thread Cert.Reference2Ideal.nD Cert.Reference2Ideal.τ).loc Cert.Reference2Ideal.main_v29) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v42) = v0 c
          ∧ r.2.mem ((c.tc : Thread Cert.Reference5Ideal.nD Cert.Reference5Ideal.τ).loc Cert.Reference5Ideal.main_v25) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v12) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v38) = v0 c
          ∧ r.2.mem ((c.tc : Thread Cert.Reference8Ideal.nD Cert.Reference8Ideal.τ).loc Cert.Reference8Ideal.main_v21) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v38) = v0 c
          ∧ r.2.mem ((c.tc : Thread Cert.Reference9Ideal.nD Cert.Reference9Ideal.τ).loc Cert.Reference9Ideal.main_v21) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v5) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
-- ==== Pre_finite.lean ====
abbrev S8x8192x128 : Shape := ⟨3, ![8, 8192, 128]⟩
abbrev S8x8192x64 : Shape := ⟨3, ![8, 8192, 64]⟩
abbrev S8x128 : Shape := ⟨2, ![8, 128]⟩
abbrev S_ : Shape := ⟨0, ![]⟩

class Facts : Prop where
  bcast_S_S8x8192x128 : S_.BroadcastsInDim S8x8192x128 (![] : Fin 0 → Fin S8x8192x128.rank)
  reducesTo_S8x8192x128_S_d0_1_2 : S8x8192x128.ReducesTo [0, 1, 2] S_
  h_S_ : 0 < S_.numel
  bitsLt_bf16_f32 : FTy.bits .bf16 < FTy.bits .f32
  bcast_S_S8x8192x64 : S_.BroadcastsInDim S8x8192x64 (![] : Fin 0 → Fin S8x8192x64.rank)
  reducesTo_S8x8192x64_S_d0_1_2 : S8x8192x64.ReducesTo [0, 1, 2] S_
  bcast_S_S8x128 : S_.BroadcastsInDim S8x128 (![] : Fin 0 → Fin S8x128.rank)
  reducesTo_S8x128_S_d0_1 : S8x128.ReducesTo [0, 1] S_

variable [Facts]

def fn_part2 {F : FTy → Type} [FloatOps F] (main_v32 : IVec S_ 1) (main_v34 : FVec F S8x8192x128 .f32) (main_cst_10 : FVec F S_ .f32) : IVec S_ 1 :=
  let main_v35 : FVec F S8x8192x128 .f32 := broadcastInDim S8x8192x128 ![] bcast_S_S8x8192x128 main_cst_10
  let main_v36 : IVec S8x8192x128 1 := cmpf .olt main_v34 main_v35
  let main_c_11 : IVec S_ 1 := constantI S_ 1 1#1
  let main_v37 : IVec S_ 1 := (fun x v => Host.reduce IntOp.andi x v reducesTo_S8x8192x128_S_d0_1_2 h_S_) main_v36 main_c_11
  let main_v38 : IVec S_ 1 := andi main_v32 main_v37
  main_v38

def fn_part1 {F : FTy → Type} [FloatOps F] (main_arg4 : FVec F S8x8192x64 .bf16) (main_arg5 : FVec F S8x128 .f32) (main_arg6 : FVec F S8x8192x128 .bf16) (main_v15 : IVec S_ 1) (main_v17 : FVec F S8x8192x128 .f32) : IVec S_ 1 :=
  let main_cst_4 : FVec F S_ .f32 := constant S_ .f32 0x7F800000#32
  let main_v18 : FVec F S8x8192x128 .f32 := broadcastInDim S8x8192x128 ![] bcast_S_S8x8192x128 main_cst_4
  let main_v19 : IVec S8x8192x128 1 := cmpf .olt main_v17 main_v18
  let main_c_5 : IVec S_ 1 := constantI S_ 1 1#1
  let main_v20 : IVec S_ 1 := (fun x v => Host.reduce IntOp.andi x v reducesTo_S8x8192x128_S_d0_1_2 h_S_) main_v19 main_c_5
  let main_v21 : IVec S_ 1 := andi main_v15 main_v20
  let main_v22 : FVec F S8x8192x64 .f32 := (extf .f32 · bitsLt_bf16_f32) main_arg4
  let main_v23 : FVec F S8x8192x64 .f32 := Host.absf main_v22
  let main_cst_6 : FVec F S_ .f32 := constant S_ .f32 0x7F800000#32
  let main_v24 : FVec F S8x8192x64 .f32 := broadcastInDim S8x8192x64 ![] bcast_S_S8x8192x64 main_cst_6
  let main_v25 : IVec S8x8192x64 1 := cmpf .olt main_v23 main_v24
  let main_c_7 : IVec S_ 1 := constantI S_ 1 1#1
  let main_v26 : IVec S_ 1 := (fun x v => Host.reduce IntOp.andi x v reducesTo_S8x8192x64_S_d0_1_2 h_S_) main_v25 main_c_7
  let main_v27 : IVec S_ 1 := andi main_v21 main_v26
  let main_v28 : FVec F S8x128 .f32 := Host.absf main_arg5
  let main_cst_8 : FVec F S_ .f32 := constant S_ .f32 0x7F800000#32
  let main_v29 : FVec F S8x128 .f32 := broadcastInDim S8x128 ![] bcast_S_S8x128 main_cst_8
  let main_v30 : IVec S8x128 1 := cmpf .olt main_v28 main_v29
  let main_c_9 : IVec S_ 1 := constantI S_ 1 1#1
  let main_v31 : IVec S_ 1 := (fun x v => Host.reduce IntOp.andi x v reducesTo_S8x128_S_d0_1 h_S_) main_v30 main_c_9
  let main_v32 : IVec S_ 1 := andi main_v27 main_v31
  let main_v33 : FVec F S8x8192x128 .f32 := (extf .f32 · bitsLt_bf16_f32) main_arg6
  let main_v34 : FVec F S8x8192x128 .f32 := Host.absf main_v33
  let main_cst_10 : FVec F S_ .f32 := constant S_ .f32 0x7F800000#32
  fn_part2 (F := F) main_v32 main_v34 main_cst_10

def fn {F : FTy → Type} [FloatOps F] (main_arg0 : FVec F S8x8192x128 .f32) (main_arg1 : FVec F S8x8192x128 .bf16) (main_arg2 : FVec F S8x8192x128 .bf16) (main_arg3 : FVec F S8x8192x128 .bf16) (main_arg4 : FVec F S8x8192x64 .bf16) (main_arg5 : FVec F S8x128 .f32) (main_arg6 : FVec F S8x8192x128 .bf16) : IVec S_ 1 :=
  let main_v0 : FVec F S8x8192x128 .f32 := Host.absf main_arg0
  let main_cst : FVec F S_ .f32 := constant S_ .f32 0x7F800000#32
  let main_v1 : FVec F S8x8192x128 .f32 := broadcastInDim S8x8192x128 ![] bcast_S_S8x8192x128 main_cst
  let main_v2 : IVec S8x8192x128 1 := cmpf .olt main_v0 main_v1
  let main_c : IVec S_ 1 := constantI S_ 1 1#1
  let main_v3 : IVec S_ 1 := (fun x v => Host.reduce IntOp.andi x v reducesTo_S8x8192x128_S_d0_1_2 h_S_) main_v2 main_c
  let main_v4 : FVec F S8x8192x128 .f32 := (extf .f32 · bitsLt_bf16_f32) main_arg1
  let main_v5 : FVec F S8x8192x128 .f32 := Host.absf main_v4
  let main_cst_0 : FVec F S_ .f32 := constant S_ .f32 0x7F800000#32
  let main_v6 : FVec F S8x8192x128 .f32 := broadcastInDim S8x8192x128 ![] bcast_S_S8x8192x128 main_cst_0
  let main_v7 : IVec S8x8192x128 1 := cmpf .olt main_v5 main_v6
  let main_c_1 : IVec S_ 1 := constantI S_ 1 1#1
  let main_v8 : IVec S_ 1 := (fun x v => Host.reduce IntOp.andi x v reducesTo_S8x8192x128_S_d0_1_2 h_S_) main_v7 main_c_1
  let main_v9 : IVec S_ 1 := andi main_v3 main_v8
  let main_v10 : FVec F S8x8192x128 .f32 := (extf .f32 · bitsLt_bf16_f32) main_arg2
  let main_v11 : FVec F S8x8192x128 .f32 := Host.absf main_v10
  let main_cst_2 : FVec F S_ .f32 := constant S_ .f32 0x7F800000#32
  let main_v12 : FVec F S8x8192x128 .f32 := broadcastInDim S8x8192x128 ![] bcast_S_S8x8192x128 main_cst_2
  let main_v13 : IVec S8x8192x128 1 := cmpf .olt main_v11 main_v12
  let main_c_3 : IVec S_ 1 := constantI S_ 1 1#1
  let main_v14 : IVec S_ 1 := (fun x v => Host.reduce IntOp.andi x v reducesTo_S8x8192x128_S_d0_1_2 h_S_) main_v13 main_c_3
  let main_v15 : IVec S_ 1 := andi main_v9 main_v14
  let main_v16 : FVec F S8x8192x128 .f32 := (extf .f32 · bitsLt_bf16_f32) main_arg3
  let main_v17 : FVec F S8x8192x128 .f32 := Host.absf main_v16
  fn_part1 (F := F) main_arg4 main_arg5 main_arg6 main_v15 main_v17
-- ==== Kernel.lean ====
abbrev S8x8192x128 : Shape := ⟨3, ![8, 8192, 128]⟩
abbrev S8x8192x64 : Shape := ⟨3, ![8, 8192, 64]⟩
abbrev S8x128 : Shape := ⟨2, ![8, 128]⟩
abbrev S8x128x1x1 : Shape := ⟨4, ![8, 128, 1, 1]⟩
abbrev S8x128x1x128 : Shape := ⟨4, ![8, 128, 1, 128]⟩
abbrev S128x8x128x128 : Shape := ⟨4, ![128, 8, 128, 128]⟩
abbrev S8x512x128 : Shape := ⟨3, ![8, 512, 128]⟩
abbrev S8x512x64 : Shape := ⟨3, ![8, 512, 64]⟩
abbrev S8x8x1x128 : Shape := ⟨4, ![8, 8, 1, 128]⟩
abbrev S8x8x128x128 : Shape := ⟨4, ![8, 8, 128, 128]⟩
abbrev S8x128x128 : Shape := ⟨3, ![8, 128, 128]⟩
abbrev S1x8x128x128 : Shape := ⟨4, ![1, 8, 128, 128]⟩
abbrev S8x64x128 : Shape := ⟨3, ![8, 64, 128]⟩
abbrev S8x64x64 : Shape := ⟨3, ![8, 64, 64]⟩
abbrev S8x1x1x128 : Shape := ⟨4, ![8, 1, 1, 128]⟩
abbrev S8x1x128 : Shape := ⟨3, ![8, 1, 128]⟩
abbrev S8x128x1 : Shape := ⟨3, ![8, 128, 1]⟩
abbrev S8x1 : Shape := ⟨2, ![8, 1]⟩
abbrev S8x1x1 : Shape := ⟨3, ![8, 1, 1]⟩

abbrev nBuf : Space → Nat
  | .hbm => 17
  | .vmem => 46
  | .smem => 0
  | _ => 0

abbrev bufTy : (tb : Table) → Fin (tcTables nBuf tb) → BufTy
  | .hbm, ⟨0, _⟩ => ⟨S8x8192x128, .f32⟩
  | .hbm, ⟨1, _⟩ => ⟨S8x8192x128, .bf16⟩
  | .hbm, ⟨2, _⟩ => ⟨S8x8192x128, .bf16⟩
  | .hbm, ⟨3, _⟩ => ⟨S8x8192x128, .bf16⟩
  | .hbm, ⟨4, _⟩ => ⟨S8x8192x64, .bf16⟩
  | .hbm, ⟨5, _⟩ => ⟨S8x128, .f32⟩
  | .hbm, ⟨6, _⟩ => ⟨S8x8192x128, .bf16⟩
  | .hbm, ⟨7, _⟩ => ⟨S8x128x1x1, .f32⟩
  | .hbm, ⟨8, _⟩ => ⟨S8x128x1x128, .f32⟩
  | .hbm, ⟨9, _⟩ => ⟨S8x8192x128, .f32⟩
  | .hbm, ⟨10, _⟩ => ⟨S128x8x128x128, .bf16⟩
  | .hbm, ⟨11, _⟩ => ⟨S8x8192x128, .bf16⟩
  | .hbm, ⟨12, _⟩ => ⟨S8x8192x128, .bf16⟩
  | .hbm, ⟨13, _⟩ => ⟨S8x8192x128, .bf16⟩
  | .hbm, ⟨14, _⟩ => ⟨S8x8192x128, .bf16⟩
  | .hbm, ⟨15, _⟩ => ⟨S8x8192x64, .bf16⟩
  | .hbm, ⟨16, _⟩ => ⟨S8x128x1x128, .f32⟩
  | .local _ .vmem, ⟨0, _⟩ => ⟨S8x512x128, .f32⟩
  | .local _ .vmem, ⟨1, _⟩ => ⟨S8x512x128, .f32⟩
  | .local _ .vmem, ⟨2, _⟩ => ⟨S8x512x128, .bf16⟩
  | .local _ .vmem, ⟨3, _⟩ => ⟨S8x512x128, .bf16⟩
  | .local _ .vmem, ⟨4, _⟩ => ⟨S8x512x128, .bf16⟩
  | .local _ .vmem, ⟨5, _⟩ => ⟨S8x512x128, .bf16⟩
  | .local _ .vmem, ⟨6, _⟩ => ⟨S8x512x128, .bf16⟩
  | .local _ .vmem, ⟨7, _⟩ => ⟨S8x512x128, .bf16⟩
  | .local _ .vmem, ⟨8, _⟩ => ⟨S8x512x64, .bf16⟩
  | .local _ .vmem, ⟨9, _⟩ => ⟨S8x512x64, .bf16⟩
  | .local _ .vmem, ⟨10, _⟩ => ⟨S8x8x1x128, .f32⟩
  | .local _ .vmem, ⟨11, _⟩ => ⟨S8x8x1x128, .f32⟩
  | .local _ .vmem, ⟨12, _⟩ => ⟨S8x512x128, .f32⟩
  | .local _ .vmem, ⟨13, _⟩ => ⟨S8x512x128, .f32⟩
  | .local _ .vmem, ⟨14, _⟩ => ⟨S8x8x128x128, .bf16⟩
  | .local _ .vmem, ⟨15, _⟩ => ⟨S8x8x128x128, .bf16⟩
  | .local _ .vmem, ⟨16, _⟩ => ⟨S8x128x128, .f32⟩
  | .local _ .vmem, ⟨17, _⟩ => ⟨S8x512x128, .f32⟩
  | .local _ .vmem, ⟨18, _⟩ => ⟨S8x512x128, .f32⟩
  | .local _ .vmem, ⟨19, _⟩ => ⟨S8x512x128, .bf16⟩
  | .local _ .vmem, ⟨20, _⟩ => ⟨S8x512x128, .bf16⟩
  | .local _ .vmem, ⟨21, _⟩ => ⟨S8x512x128, .bf16⟩
  | .local _ .vmem, ⟨22, _⟩ => ⟨S8x512x128, .bf16⟩
  | .local _ .vmem, ⟨23, _⟩ => ⟨S8x512x128, .bf16⟩
  | .local _ .vmem, ⟨24, _⟩ => ⟨S8x512x128, .bf16⟩
  | .local _ .vmem, ⟨25, _⟩ => ⟨S8x512x64, .bf16⟩
  | .local _ .vmem, ⟨26, _⟩ => ⟨S8x512x64, .bf16⟩
  | .local _ .vmem, ⟨27, _⟩ => ⟨S8x8x1x128, .f32⟩
  | .local _ .vmem, ⟨28, _⟩ => ⟨S8x8x1x128, .f32⟩
  | .local _ .vmem, ⟨29, _⟩ => ⟨S8x8x128x128, .bf16⟩
  | .local _ .vmem, ⟨30, _⟩ => ⟨S8x8x128x128, .bf16⟩
  | .local _ .vmem, ⟨31, _⟩ => ⟨S8x512x128, .bf16⟩
  | .local _ .vmem, ⟨32, _⟩ => ⟨S8x512x128, .bf16⟩
  | .local _ .vmem, ⟨33, _⟩ => ⟨S8x512x128, .bf16⟩
  | .local _ .vmem, ⟨34, _⟩ => ⟨S8x512x128, .bf16⟩
  | .local _ .vmem, ⟨35, _⟩ => ⟨S8x512x128, .bf16⟩
  | .local _ .vmem, ⟨36, _⟩ => ⟨S8x512x128, .bf16⟩
  | .local _ .vmem, ⟨37, _⟩ => ⟨S8x512x128, .bf16⟩
  | .local _ .vmem, ⟨38, _⟩ => ⟨S8x512x128, .bf16⟩
  | .local _ .vmem, ⟨39, _⟩ => ⟨S8x512x128, .bf16⟩
  | .local _ .vmem, ⟨40, _⟩ => ⟨S8x512x128, .bf16⟩
  | .local _ .vmem, ⟨41, _⟩ => ⟨S8x512x64, .bf16⟩
  | .local _ .vmem, ⟨42, _⟩ => ⟨S8x512x64, .bf16⟩
  | .local _ .vmem, ⟨43, _⟩ => ⟨S8x8x1x128, .f32⟩
  | .local _ .vmem, ⟨44, _⟩ => ⟨S8x8x1x128, .f32⟩
  | .local _ .vmem, ⟨45, _⟩ => ⟨S8x128x128, .f32⟩
  | _, _ => ⟨S8x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_v3_4 : Ref sig .tc := ⟨.hbm, 15, rfl⟩
abbrev main_v3_5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc1_stg4_0 : Ref sig .tc := ⟨.vmem, 25, rfl⟩
abbrev cc1_stg4_1 : Ref sig .tc := ⟨.vmem, 26, rfl⟩
abbrev cc1_stg5_0 : Ref sig .tc := ⟨.vmem, 27, rfl⟩
abbrev cc1_stg5_1 : Ref sig .tc := ⟨.vmem, 28, rfl⟩
abbrev cc1_stg6_0 : Ref sig .tc := ⟨.vmem, 29, rfl⟩
abbrev cc1_stg6_1 : Ref sig .tc := ⟨.vmem, 30, rfl⟩
abbrev cc1_stg7_0 : Ref sig .tc := ⟨.vmem, 31, rfl⟩
abbrev cc1_stg7_1 : Ref sig .tc := ⟨.vmem, 32, rfl⟩
abbrev cc1_stg8_0 : Ref sig .tc := ⟨.vmem, 33, rfl⟩
abbrev cc1_stg8_1 : Ref sig .tc := ⟨.vmem, 34, rfl⟩
abbrev cc1_stg9_0 : Ref sig .tc := ⟨.vmem, 35, rfl⟩
abbrev cc1_stg9_1 : Ref sig .tc := ⟨.vmem, 36, rfl⟩
abbrev cc1_stg10_0 : Ref sig .tc := ⟨.vmem, 37, rfl⟩
abbrev cc1_stg10_1 : Ref sig .tc := ⟨.vmem, 38, rfl⟩
abbrev cc1_stg11_0 : Ref sig .tc := ⟨.vmem, 39, rfl⟩
abbrev cc1_stg11_1 : Ref sig .tc := ⟨.vmem, 40, rfl⟩
abbrev cc1_stg12_0 : Ref sig .tc := ⟨.vmem, 41, rfl⟩
abbrev cc1_stg12_1 : Ref sig .tc := ⟨.vmem, 42, rfl⟩
abbrev cc1_stg13_0 : Ref sig .tc := ⟨.vmem, 43, rfl⟩
abbrev cc1_stg13_1 : Ref sig .tc := ⟨.vmem, 44, rfl⟩
abbrev cc1_scratch0 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc1_sem8_0 : DmaSem sig := 32
abbrev cc1_sem8_1 : DmaSem sig := 33
abbrev cc1_sem9_0 : DmaSem sig := 34
abbrev cc1_sem9_1 : DmaSem sig := 35
abbrev cc1_sem10_0 : DmaSem sig := 36
abbrev cc1_sem10_1 : DmaSem sig := 37
abbrev cc1_sem11_0 : DmaSem sig := 38
abbrev cc1_sem11_1 : DmaSem sig := 39
abbrev cc1_sem12_0 : DmaSem sig := 40
abbrev cc1_sem12_1 : DmaSem sig := 41
abbrev cc1_sem13_0 : DmaSem sig := 42
abbrev cc1_sem13_1 : DmaSem sig := 43

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x8x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x8x128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc1_transform_1 (i : grid1.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc1_transform_2 (i : grid1.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc1_transform_3 (i : grid1.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc1_transform_4 (i : grid1.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc1_transform_5 (i : grid1.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc1_transform_6 (i : grid1.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc1_transform_7 (i : grid1.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc1_transform_8 (i : grid1.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc1_transform_9 (i : grid1.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc1_transform_10 (i : grid1.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc1_transform_11 (i : grid1.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc1_transform_12 (i : grid1.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc1_transform_13 (i : grid1.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

abbrev stage1_0 : Fin 2 → Memref sig .tc .vmem S8x512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x512x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x512x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8x512x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S8x512x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S8x8x1x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S8x8x128x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S8x512x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S8x512x128 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S8x512x128 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S8x512x128 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S8x512x128 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S8x512x64 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S8x8x1x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]
-- ==== ReferenceIdeal.lean ====
abbrev S8x8192x128 : Shape := ⟨3, ![8, 8192, 128]⟩
abbrev S8x8192x64 : Shape := ⟨3, ![8, 8192, 64]⟩
abbrev S8x128 : Shape := ⟨2, ![8, 128]⟩
abbrev S8x128x64x128 : Shape := ⟨4, ![8, 128, 64, 128]⟩
abbrev S128x8x64x128 : Shape := ⟨4, ![128, 8, 64, 128]⟩
abbrev S8x128x64x64 : Shape := ⟨4, ![8, 128, 64, 64]⟩
abbrev S128x8x64x64 : Shape := ⟨4, ![128, 8, 64, 64]⟩
abbrev S128x8 : Shape := ⟨2, ![128, 8]⟩
abbrev S_ : Shape := ⟨0, ![]⟩
abbrev S8x128x128 : Shape := ⟨3, ![8, 128, 128]⟩
abbrev S128x8x128x128 : Shape := ⟨4, ![128, 8, 128, 128]⟩
abbrev S128x8x1x1 : Shape := ⟨4, ![128, 8, 1, 1]⟩
abbrev S1x8x64x128 : Shape := ⟨4, ![1, 8, 64, 128]⟩
abbrev S8x64x128 : Shape := ⟨3, ![8, 64, 128]⟩
abbrev S1x8x64x64 : Shape := ⟨4, ![1, 8, 64, 64]⟩
abbrev S8x64x64 : Shape := ⟨3, ![8, 64, 64]⟩
abbrev S1x8 : Shape := ⟨2, ![1, 8]⟩
abbrev S8 : Shape := ⟨1, ![8]⟩
abbrev S8x1x1 : Shape := ⟨3, ![8, 1, 1]⟩
abbrev S1x8x128x128 : Shape := ⟨4, ![1, 8, 128, 128]⟩
abbrev S1x8x1x1 : Shape := ⟨4, ![1, 8, 1, 1]⟩
abbrev S8x128x64 : Shape := ⟨3, ![8, 128, 64]⟩
abbrev S8x128x1x1 : Shape := ⟨4, ![8, 128, 1, 1]⟩
abbrev S8x128x1x128 : Shape := ⟨4, ![8, 128, 1, 128]⟩

abbrev nBuf : Space → Nat
  | .hbm => 266
  | .vmem => 0
  | .smem => 0
  | _ => 0

abbrev hbmTy0_0 (i : Nat) : BufTy := match i % 128 with
  | 0 => ⟨S8x8192x128, .f32⟩
  | 1 => ⟨S8x8192x128, .bf16⟩
  | 2 => ⟨S8x8192x128, .bf16⟩
  | 3 => ⟨S8x8192x128, .bf16⟩
  | 4 => ⟨S8x8192x64, .bf16⟩
  | 5 => ⟨S8x128, .f32⟩
  | 6 => ⟨S8x8192x128, .bf16⟩
  | 7 => ⟨S8x8192x128, .f32⟩
  | 8 => ⟨S8x128x64x128, .f32⟩
  | 9 => ⟨S128x8x64x128, .f32⟩
  | 10 => ⟨S8x8192x128, .f32⟩
  | 11 => ⟨S8x128x64x128, .f32⟩
  | 12 => ⟨S128x8x64x128, .f32⟩
  | 13 => ⟨S8x128x64x128, .f32⟩
  | 14 => ⟨S128x8x64x128, .f32⟩
  | 15 => ⟨S8x8192x128, .f32⟩
  | 16 => ⟨S8x128x64x128, .f32⟩
  | 17 => ⟨S128x8x64x128, .f32⟩
  | 18 => ⟨S8x8192x64, .f32⟩
  | 19 => ⟨S8x128x64x64, .f32⟩
  | 20 => ⟨S128x8x64x64, .f32⟩
  | 21 => ⟨S128x8, .f32⟩
  | 22 => ⟨S_, .f32⟩
  | 23 => ⟨S8x128x128, .f32⟩
  | 24 => ⟨S_, .f32⟩
  | 25 => ⟨S128x8x64x128, .f32⟩
  | 26 => ⟨S_, .f32⟩
  | 27 => ⟨S128x8x128x128, .f32⟩
  | 28 => ⟨S_, .f32⟩
  | 29 => ⟨S128x8x64x128, .f32⟩
  | 30 => ⟨S_, .f32⟩
  | 31 => ⟨S128x8x1x1, .f32⟩
  | 32 => ⟨S_, .i32⟩
  | 33 => ⟨S128x8x64x128, .f32⟩
  | 34 => ⟨S128x8x64x128, .f32⟩
  | 35 => ⟨S128x8x64x128, .f32⟩
  | 36 => ⟨S128x8x64x128, .f32⟩
  | 37 => ⟨S128x8x64x64, .f32⟩
  | 38 => ⟨S128x8, .f32⟩
  | 39 => ⟨S_, .i32⟩
  | 40 => ⟨S8x128x128, .f32⟩
  | 41 => ⟨S128x8x64x128, .f32⟩
  | 42 => ⟨S128x8x128x128, .f32⟩
  | 43 => ⟨S128x8x64x128, .f32⟩
  | 44 => ⟨S128x8x1x1, .f32⟩
  | 45 => ⟨S_, .i32⟩
  | 46 => ⟨S_, .i1⟩
  | 47 => ⟨S_, .i32⟩
  | 48 => ⟨S_, .i32⟩
  | 49 => ⟨S_, .i32⟩
  | 50 => ⟨S1x8x64x128, .f32⟩
  | 51 => ⟨S8x64x128, .f32⟩
  | 52 => ⟨S_, .i32⟩
  | 53 => ⟨S_, .i32⟩
  | 54 => ⟨S_, .i32⟩
  | 55 => ⟨S1x8x64x128, .f32⟩
  | 56 => ⟨S8x64x128, .f32⟩
  | 57 => ⟨S_, .i32⟩
  | 58 => ⟨S_, .i32⟩
  | 59 => ⟨S_, .i32⟩
  | 60 => ⟨S1x8x64x128, .f32⟩
  | 61 => ⟨S8x64x128, .f32⟩
  | 62 => ⟨S_, .i32⟩
  | 63 => ⟨S_, .i32⟩
  | 64 => ⟨S_, .i32⟩
  | 65 => ⟨S1x8x64x128, .f32⟩
  | 66 => ⟨S8x64x128, .f32⟩
  | 67 => ⟨S_, .i32⟩
  | 68 => ⟨S_, .i32⟩
  | 69 => ⟨S_, .i32⟩
  | 70 => ⟨S1x8x64x64, .f32⟩
  | 71 => ⟨S8x64x64, .f32⟩
  | 72 => ⟨S_, .i32⟩
  | 73 => ⟨S1x8, .f32⟩
  | 74 => ⟨S8, .f32⟩
  | 75 => ⟨S8x64x128, .f32⟩
  | 76 => ⟨S8x64x128, .f32⟩
  | 77 => ⟨S8x64x128, .f32⟩
  | 78 => ⟨S8x64x128, .f32⟩
  | 79 => ⟨S8x64x128, .f32⟩
  | 80 => ⟨S8x1x1, .f32⟩
  | 81 => ⟨S8x128x128, .f32⟩
  | 82 => ⟨S8x128x128, .f32⟩
  | 83 => ⟨S8x128x128, .f32⟩
  | 84 => ⟨S8x128x128, .f32⟩
  | 85 => ⟨S1x8x64x128, .f32⟩
  | 86 => ⟨S_, .i32⟩
  | 87 => ⟨S_, .i32⟩
  | 88 => ⟨S_, .i32⟩
  | 89 => ⟨S128x8x64x128, .f32⟩
  | 90 => ⟨S1x8x128x128, .f32⟩
  | 91 => ⟨S_, .i32⟩
  | 92 => ⟨S_, .i32⟩
  | 93 => ⟨S_, .i32⟩
  | 94 => ⟨S128x8x128x128, .f32⟩
  | 95 => ⟨S1x8x64x128, .f32⟩
  | 96 => ⟨S_, .i32⟩
  | 97 => ⟨S_, .i32⟩
  | 98 => ⟨S_, .i32⟩
  | 99 => ⟨S128x8x64x128, .f32⟩
  | 100 => ⟨S1x8x1x1, .f32⟩
  | 101 => ⟨S_, .i32⟩
  | 102 => ⟨S_, .i32⟩
  | 103 => ⟨S_, .i32⟩
  | 104 => ⟨S128x8x1x1, .f32⟩
  | 105 => ⟨S_, .i32⟩
  | 106 => ⟨S_, .i32⟩
  | 107 => ⟨S8x128x64x128, .f32⟩
  | 108 => ⟨S8x8192x128, .f32⟩
  | 109 => ⟨S8x8192x128, .f32⟩
  | 110 => ⟨S_, .f32⟩
  | 111 => ⟨S8x128x128, .f32⟩
  | 112 => ⟨S8x128x64x128, .f32⟩
  | 113 => ⟨S128x8x64x128, .f32⟩
  | 114 => ⟨S_, .f32⟩
  | 115 => ⟨S8x128x128, .f32⟩
  | 116 => ⟨S_, .f32⟩
  | 117 => ⟨S128x8x64x128, .f32⟩
  | 118 => ⟨S_, .f32⟩
  | 119 => ⟨S128x8x64x128, .f32⟩
  | 120 => ⟨S_, .f32⟩
  | 121 => ⟨S128x8x64x128, .f32⟩
  | 122 => ⟨S_, .f32⟩
  | 123 => ⟨S128x8x64x128, .f32⟩
  | 124 => ⟨S_, .f32⟩
  | 125 => ⟨S128x8x64x64, .f32⟩
  | 126 => ⟨S_, .f32⟩
  | 127 => ⟨S128x8, .f32⟩
  | _ => ⟨S8x8192x128, .f32⟩

abbrev hbmTy0_1 (i : Nat) : BufTy := match i % 128 with
  | 0 => ⟨S_, .i32⟩
  | 1 => ⟨S128x8x64x128, .f32⟩
  | 2 => ⟨S128x8x128x128, .f32⟩
  | 3 => ⟨S128x8x64x128, .f32⟩
  | 4 => ⟨S128x8x64x128, .f32⟩
  | 5 => ⟨S128x8x64x128, .f32⟩
  | 6 => ⟨S128x8x64x64, .f32⟩
  | 7 => ⟨S128x8x1x1, .f32⟩
  | 8 => ⟨S128x8x64x128, .f32⟩
  | 9 => ⟨S_, .i32⟩
  | 10 => ⟨S8x128x128, .f32⟩
  | 11 => ⟨S128x8x64x128, .f32⟩
  | 12 => ⟨S128x8x64x128, .f32⟩
  | 13 => ⟨S128x8x64x128, .f32⟩
  | 14 => ⟨S128x8x64x128, .f32⟩
  | 15 => ⟨S128x8x64x64, .f32⟩
  | 16 => ⟨S128x8, .f32⟩
  | 17 => ⟨S_, .i32⟩
  | 18 => ⟨S_, .i1⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S1x8x64x128, .f32⟩
  | 27 => ⟨S8x64x128, .f32⟩
  | 28 => ⟨S_, .i32⟩
  | 29 => ⟨S_, .i32⟩
  | 30 => ⟨S_, .i32⟩
  | 31 => ⟨S1x8x128x128, .f32⟩
  | 32 => ⟨S8x128x128, .f32⟩
  | 33 => ⟨S_, .i32⟩
  | 34 => ⟨S_, .i32⟩
  | 35 => ⟨S_, .i32⟩
  | 36 => ⟨S1x8x64x128, .f32⟩
  | 37 => ⟨S8x64x128, .f32⟩
  | 38 => ⟨S_, .i32⟩
  | 39 => ⟨S_, .i32⟩
  | 40 => ⟨S_, .i32⟩
  | 41 => ⟨S1x8x64x128, .f32⟩
  | 42 => ⟨S8x64x128, .f32⟩
  | 43 => ⟨S_, .i32⟩
  | 44 => ⟨S_, .i32⟩
  | 45 => ⟨S_, .i32⟩
  | 46 => ⟨S1x8x64x128, .f32⟩
  | 47 => ⟨S8x64x128, .f32⟩
  | 48 => ⟨S_, .i32⟩
  | 49 => ⟨S_, .i32⟩
  | 50 => ⟨S_, .i32⟩
  | 51 => ⟨S1x8x64x64, .f32⟩
  | 52 => ⟨S8x64x64, .f32⟩
  | 53 => ⟨S_, .i32⟩
  | 54 => ⟨S_, .i32⟩
  | 55 => ⟨S_, .i32⟩
  | 56 => ⟨S1x8x1x1, .f32⟩
  | 57 => ⟨S8x1x1, .f32⟩
  | 58 => ⟨S_, .i32⟩
  | 59 => ⟨S_, .i32⟩
  | 60 => ⟨S_, .i32⟩
  | 61 => ⟨S1x8x64x128, .f32⟩
  | 62 => ⟨S8x64x128, .f32⟩
  | 63 => ⟨S8x128x64, .f32⟩
  | 64 => ⟨S8x64x128, .f32⟩
  | 65 => ⟨S8x128x64, .f32⟩
  | 66 => ⟨S8x64x128, .f32⟩
  | 67 => ⟨S8x128x128, .f32⟩
  | 68 => ⟨S_, .f32⟩
  | 69 => ⟨S8, .f32⟩
  | 70 => ⟨S8x1x1, .f32⟩
  | 71 => ⟨S8x128x128, .f32⟩
  | 72 => ⟨S8x128x128, .f32⟩
  | 73 => ⟨S_, .f32⟩
  | 74 => ⟨S8, .f32⟩
  | 75 => ⟨S8x128x64, .f32⟩
  | 76 => ⟨S8x64x128, .f32⟩
  | 77 => ⟨S8x64x128, .f32⟩
  | 78 => ⟨S8x64x64, .f32⟩
  | 79 => ⟨S8x128x128, .f32⟩
  | 80 => ⟨S8x128x128, .f32⟩
  | 81 => ⟨S8x128x128, .f32⟩
  | 82 => ⟨S8x64x128, .f32⟩
  | 83 => ⟨S8x64x128, .f32⟩
  | 84 => ⟨S8x128x128, .f32⟩
  | 85 => ⟨S8x128x128, .f32⟩
  | 86 => ⟨S8x128x128, .f32⟩
  | 87 => ⟨S8x64x128, .f32⟩
  | 88 => ⟨S1x8x64x128, .f32⟩
  | 89 => ⟨S_, .i32⟩
  | 90 => ⟨S_, .i32⟩
  | 91 => ⟨S_, .i32⟩
  | 92 => ⟨S128x8x64x128, .f32⟩
  | 93 => ⟨S1x8x64x128, .f32⟩
  | 94 => ⟨S_, .i32⟩
  | 95 => ⟨S_, .i32⟩
  | 96 => ⟨S_, .i32⟩
  | 97 => ⟨S128x8x64x128, .f32⟩
  | 98 => ⟨S1x8x64x128, .f32⟩
  | 99 => ⟨S_, .i32⟩
  | 100 => ⟨S_, .i32⟩
  | 101 => ⟨S_, .i32⟩
  | 102 => ⟨S128x8x64x128, .f32⟩
  | 103 => ⟨S1x8x64x128, .f32⟩
  | 104 => ⟨S_, .i32⟩
  | 105 => ⟨S_, .i32⟩
  | 106 => ⟨S_, .i32⟩
  | 107 => ⟨S128x8x64x128, .f32⟩
  | 108 => ⟨S1x8x64x64, .f32⟩
  | 109 => ⟨S_, .i32⟩
  | 110 => ⟨S_, .i32⟩
  | 111 => ⟨S_, .i32⟩
  | 112 => ⟨S128x8x64x64, .f32⟩
  | 113 => ⟨S1x8, .f32⟩
  | 114 => ⟨S_, .i32⟩
  | 115 => ⟨S128x8, .f32⟩
  | 116 => ⟨S_, .i32⟩
  | 117 => ⟨S_, .i32⟩
  | 118 => ⟨S8x128, .f32⟩
  | 119 => ⟨S8x128x64x64, .f32⟩
  | 120 => ⟨S8x8192x64, .f32⟩
  | 121 => ⟨S8x8192x64, .bf16⟩
  | 122 => ⟨S8x128x64x128, .f32⟩
  | 123 => ⟨S8x8192x128, .f32⟩
  | 124 => ⟨S8x8192x128, .bf16⟩
  | 125 => ⟨S8x128x64x128, .f32⟩
  | 126 => ⟨S8x8192x128, .f32⟩
  | 127 => ⟨S8x128x64x128, .f32⟩
  | _ => ⟨S8x8192x128, .f32⟩

abbrev hbmTy0_2 (i : Nat) : BufTy := match i % 128 with
  | 0 => ⟨S8x8192x128, .f32⟩
  | 1 => ⟨S8x8192x128, .bf16⟩
  | 2 => ⟨S8x128x64x128, .f32⟩
  | 3 => ⟨S8x8192x128, .f32⟩
  | 4 => ⟨S8x8192x128, .bf16⟩
  | 5 => ⟨S8x128x1x1, .f32⟩
  | 6 => ⟨S_, .i32⟩
  | 7 => ⟨S_, .f32⟩
  | 8 => ⟨S8x128x1x128, .f32⟩
  | 9 => ⟨S8x8192x128, .bf16⟩
  | _ => ⟨S8x8192x128, .f32⟩

abbrev hbmTy (i : Nat) : BufTy := match i / 128 with
  | 0 => hbmTy0_0 i
  | 1 => hbmTy0_1 i
  | 2 => hbmTy0_2 i
  | _ => ⟨S8x8192x128, .f32⟩

abbrev bufTy : (tb : Table) → Fin (tcTables nBuf tb) → BufTy
  | .hbm, ⟨i, _⟩ => hbmTy i
  | _, _ => ⟨S8x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_c : Ref sig .tc := ⟨.hbm, 32, rfl⟩
abbrev main_v20_0 : Ref sig .tc := ⟨.hbm, 33, rfl⟩
abbrev main_v20_1 : Ref sig .tc := ⟨.hbm, 34, rfl⟩
abbrev main_v20_2 : Ref sig .tc := ⟨.hbm, 35, rfl⟩
abbrev main_v20_3 : Ref sig .tc := ⟨.hbm, 36, rfl⟩
abbrev main_v20_4 : Ref sig .tc := ⟨.hbm, 37, rfl⟩
abbrev main_v20_5 : Ref sig .tc := ⟨.hbm, 38, rfl⟩
abbrev main_v20_6 : Ref sig .tc := ⟨.hbm, 39, rfl⟩
abbrev main_v20_7 : Ref sig .tc := ⟨.hbm, 40, rfl⟩
abbrev main_v20_8 : Ref sig .tc := ⟨.hbm, 41, rfl⟩
abbrev main_v20_9 : Ref sig .tc := ⟨.hbm, 42, rfl⟩
abbrev main_v20_10 : Ref sig .tc := ⟨.hbm, 43, rfl⟩
abbrev main_v20_11 : Ref sig .tc := ⟨.hbm, 44, rfl⟩
abbrev main_while0c_c_25 : Ref sig .tc := ⟨.hbm, 45, rfl⟩
abbrev main_while0c_v53 : Ref sig .tc := ⟨.hbm, 46, rfl⟩
abbrev main_while0b_call0_c : Ref sig .tc := ⟨.hbm, 47, rfl⟩
abbrev main_while0b_call0_c_0 : Ref sig .tc := ⟨.hbm, 48, rfl⟩
abbrev main_while0b_call0_c_1 : Ref sig .tc := ⟨.hbm, 49, rfl⟩
abbrev main_while0b_call0_v0 : Ref sig .tc := ⟨.hbm, 50, rfl⟩
abbrev main_while0b_v53 : Ref sig .tc := ⟨.hbm, 51, rfl⟩
abbrev main_while0b_call1_c : Ref sig .tc := ⟨.hbm, 52, rfl⟩
abbrev main_while0b_call1_c_0 : Ref sig .tc := ⟨.hbm, 53, rfl⟩
abbrev main_while0b_call1_c_1 : Ref sig .tc := ⟨.hbm, 54, rfl⟩
abbrev main_while0b_call1_v0 : Ref sig .tc := ⟨.hbm, 55, rfl⟩
abbrev main_while0b_v54 : Ref sig .tc := ⟨.hbm, 56, rfl⟩
abbrev main_while0b_call2_c : Ref sig .tc := ⟨.hbm, 57, rfl⟩
abbrev main_while0b_call2_c_0 : Ref sig .tc := ⟨.hbm, 58, rfl⟩
abbrev main_while0b_call2_c_1 : Ref sig .tc := ⟨.hbm, 59, rfl⟩
abbrev main_while0b_call2_v0 : Ref sig .tc := ⟨.hbm, 60, rfl⟩
abbrev main_while0b_v55 : Ref sig .tc := ⟨.hbm, 61, rfl⟩
abbrev main_while0b_call3_c : Ref sig .tc := ⟨.hbm, 62, rfl⟩
abbrev main_while0b_call3_c_0 : Ref sig .tc := ⟨.hbm, 63, rfl⟩
abbrev main_while0b_call3_c_1 : Ref sig .tc := ⟨.hbm, 64, rfl⟩
abbrev main_while0b_call3_v0 : Ref sig .tc := ⟨.hbm, 65, rfl⟩
abbrev main_while0b_v56 : Ref sig .tc := ⟨.hbm, 66, rfl⟩
abbrev main_while0b_call4_c : Ref sig .tc := ⟨.hbm, 67, rfl⟩
abbrev main_while0b_call4_c_0 : Ref sig .tc := ⟨.hbm, 68, rfl⟩
abbrev main_while0b_call4_c_1 : Ref sig .tc := ⟨.hbm, 69, rfl⟩
abbrev main_while0b_call4_v0 : Ref sig .tc := ⟨.hbm, 70, rfl⟩
abbrev main_while0b_v57 : Ref sig .tc := ⟨.hbm, 71, rfl⟩
abbrev main_while0b_call5_c : Ref sig .tc := ⟨.hbm, 72, rfl⟩
abbrev main_while0b_call5_v0 : Ref sig .tc := ⟨.hbm, 73, rfl⟩
abbrev main_while0b_v58 : Ref sig .tc := ⟨.hbm, 74, rfl⟩
abbrev main_while0b_v59 : Ref sig .tc := ⟨.hbm, 75, rfl⟩
abbrev main_while0b_v60 : Ref sig .tc := ⟨.hbm, 76, rfl⟩
abbrev main_while0b_v61 : Ref sig .tc := ⟨.hbm, 77, rfl⟩
abbrev main_while0b_v62 : Ref sig .tc := ⟨.hbm, 78, rfl⟩
abbrev main_while0b_v63 : Ref sig .tc := ⟨.hbm, 79, rfl⟩
abbrev main_while0b_v64 : Ref sig .tc := ⟨.hbm, 80, rfl⟩
abbrev main_while0b_v65 : Ref sig .tc := ⟨.hbm, 81, rfl⟩
abbrev main_while0b_v66 : Ref sig .tc := ⟨.hbm, 82, rfl⟩
abbrev main_while0b_v67 : Ref sig .tc := ⟨.hbm, 83, rfl⟩
abbrev main_while0b_v68 : Ref sig .tc := ⟨.hbm, 84, rfl⟩
abbrev main_while0b_call6_v0 : Ref sig .tc := ⟨.hbm, 85, rfl⟩
abbrev main_while0b_call6_c : Ref sig .tc := ⟨.hbm, 86, rfl⟩
abbrev main_while0b_call6_c_0 : Ref sig .tc := ⟨.hbm, 87, rfl⟩
abbrev main_while0b_call6_c_1 : Ref sig .tc := ⟨.hbm, 88, rfl⟩
abbrev main_while0b_v69 : Ref sig .tc := ⟨.hbm, 89, rfl⟩
abbrev main_while0b_call7_v0 : Ref sig .tc := ⟨.hbm, 90, rfl⟩
abbrev main_while0b_call7_c : Ref sig .tc := ⟨.hbm, 91, rfl⟩
abbrev main_while0b_call7_c_0 : Ref sig .tc := ⟨.hbm, 92, rfl⟩
abbrev main_while0b_call7_c_1 : Ref sig .tc := ⟨.hbm, 93, rfl⟩
abbrev main_while0b_v70 : Ref sig .tc := ⟨.hbm, 94, rfl⟩
abbrev main_while0b_call8_v0 : Ref sig .tc := ⟨.hbm, 95, rfl⟩
abbrev main_while0b_call8_c : Ref sig .tc := ⟨.hbm, 96, rfl⟩
abbrev main_while0b_call8_c_0 : Ref sig .tc := ⟨.hbm, 97, rfl⟩
abbrev main_while0b_call8_c_1 : Ref sig .tc := ⟨.hbm, 98, rfl⟩
abbrev main_while0b_v71 : Ref sig .tc := ⟨.hbm, 99, rfl⟩
abbrev main_while0b_call9_v0 : Ref sig .tc := ⟨.hbm, 100, rfl⟩
abbrev main_while0b_call9_c : Ref sig .tc := ⟨.hbm, 101, rfl⟩
abbrev main_while0b_call9_c_0 : Ref sig .tc := ⟨.hbm, 102, rfl⟩
abbrev main_while0b_call9_c_1 : Ref sig .tc := ⟨.hbm, 103, rfl⟩
abbrev main_while0b_v72 : Ref sig .tc := ⟨.hbm, 104, rfl⟩
abbrev main_while0b_c_25 : Ref sig .tc := ⟨.hbm, 105, rfl⟩
abbrev main_while0b_v73 : Ref sig .tc := ⟨.hbm, 106, rfl⟩
abbrev main_v21 : Ref sig .tc := ⟨.hbm, 107, rfl⟩
abbrev main_v22 : Ref sig .tc := ⟨.hbm, 108, rfl⟩
abbrev main_v23 : Ref sig .tc := ⟨.hbm, 109, rfl⟩
abbrev main_cst_4 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_cst_5 : Ref sig .tc := ⟨.hbm, 114, rfl⟩
abbrev main_v27 : Ref sig .tc := ⟨.hbm, 115, rfl⟩
abbrev main_cst_6 : Ref sig .tc := ⟨.hbm, 116, rfl⟩
abbrev main_v28 : Ref sig .tc := ⟨.hbm, 117, rfl⟩
abbrev main_cst_7 : Ref sig .tc := ⟨.hbm, 118, rfl⟩
abbrev main_v29 : Ref sig .tc := ⟨.hbm, 119, rfl⟩
abbrev main_cst_8 : Ref sig .tc := ⟨.hbm, 120, rfl⟩
abbrev main_v30 : Ref sig .tc := ⟨.hbm, 121, rfl⟩
abbrev main_cst_9 : Ref sig .tc := ⟨.hbm, 122, rfl⟩
abbrev main_v31 : Ref sig .tc := ⟨.hbm, 123, rfl⟩
abbrev main_cst_10 : Ref sig .tc := ⟨.hbm, 124, rfl⟩
abbrev main_v32 : Ref sig .tc := ⟨.hbm, 125, rfl⟩
abbrev main_cst_11 : Ref sig .tc := ⟨.hbm, 126, rfl⟩
abbrev main_v33 : Ref sig .tc := ⟨.hbm, 127, rfl⟩
abbrev main_c_12 : Ref sig .tc := ⟨.hbm, 128, rfl⟩
abbrev main_v34_0 : Ref sig .tc := ⟨.hbm, 129, rfl⟩
abbrev main_v34_1 : Ref sig .tc := ⟨.hbm, 130, rfl⟩
abbrev main_v34_2 : Ref sig .tc := ⟨.hbm, 131, rfl⟩
abbrev main_v34_3 : Ref sig .tc := ⟨.hbm, 132, rfl⟩
abbrev main_v34_4 : Ref sig .tc := ⟨.hbm, 133, rfl⟩
abbrev main_v34_5 : Ref sig .tc := ⟨.hbm, 134, rfl⟩
abbrev main_v34_6 : Ref sig .tc := ⟨.hbm, 135, rfl⟩
abbrev main_v34_7 : Ref sig .tc := ⟨.hbm, 136, rfl⟩
abbrev main_v34_8 : Ref sig .tc := ⟨.hbm, 137, rfl⟩
abbrev main_v34_9 : Ref sig .tc := ⟨.hbm, 138, rfl⟩
abbrev main_v34_10 : Ref sig .tc := ⟨.hbm, 139, rfl⟩
abbrev main_v34_11 : Ref sig .tc := ⟨.hbm, 140, rfl⟩
abbrev main_v34_12 : Ref sig .tc := ⟨.hbm, 141, rfl⟩
abbrev main_v34_13 : Ref sig .tc := ⟨.hbm, 142, rfl⟩
abbrev main_v34_14 : Ref sig .tc := ⟨.hbm, 143, rfl⟩
abbrev main_v34_15 : Ref sig .tc := ⟨.hbm, 144, rfl⟩
abbrev main_while1c_c_29 : Ref sig .tc := ⟨.hbm, 145, rfl⟩
abbrev main_while1c_v53 : Ref sig .tc := ⟨.hbm, 146, rfl⟩
abbrev main_while1b_c_29 : Ref sig .tc := ⟨.hbm, 147, rfl⟩
abbrev main_while1b_v53 : Ref sig .tc := ⟨.hbm, 148, rfl⟩
abbrev main_while1b_c_30 : Ref sig .tc := ⟨.hbm, 149, rfl⟩
abbrev main_while1b_v54 : Ref sig .tc := ⟨.hbm, 150, rfl⟩
abbrev main_while1b_call10_c : Ref sig .tc := ⟨.hbm, 151, rfl⟩
abbrev main_while1b_call10_c_0 : Ref sig .tc := ⟨.hbm, 152, rfl⟩
abbrev main_while1b_call10_c_1 : Ref sig .tc := ⟨.hbm, 153, rfl⟩
abbrev main_while1b_call10_v0 : Ref sig .tc := ⟨.hbm, 154, rfl⟩
abbrev main_while1b_v55 : Ref sig .tc := ⟨.hbm, 155, rfl⟩
abbrev main_while1b_call11_c : Ref sig .tc := ⟨.hbm, 156, rfl⟩
abbrev main_while1b_call11_c_0 : Ref sig .tc := ⟨.hbm, 157, rfl⟩
abbrev main_while1b_call11_c_1 : Ref sig .tc := ⟨.hbm, 158, rfl⟩
abbrev main_while1b_call11_v0 : Ref sig .tc := ⟨.hbm, 159, rfl⟩
abbrev main_while1b_v56 : Ref sig .tc := ⟨.hbm, 160, rfl⟩
abbrev main_while1b_call12_c : Ref sig .tc := ⟨.hbm, 161, rfl⟩
abbrev main_while1b_call12_c_0 : Ref sig .tc := ⟨.hbm, 162, rfl⟩
abbrev main_while1b_call12_c_1 : Ref sig .tc := ⟨.hbm, 163, rfl⟩
abbrev main_while1b_call12_v0 : Ref sig .tc := ⟨.hbm, 164, rfl⟩
abbrev main_while1b_v57 : Ref sig .tc := ⟨.hbm, 165, rfl⟩
abbrev main_while1b_call13_c : Ref sig .tc := ⟨.hbm, 166, rfl⟩
abbrev main_while1b_call13_c_0 : Ref sig .tc := ⟨.hbm, 167, rfl⟩
abbrev main_while1b_call13_c_1 : Ref sig .tc := ⟨.hbm, 168, rfl⟩
abbrev main_while1b_call13_v0 : Ref sig .tc := ⟨.hbm, 169, rfl⟩
abbrev main_while1b_v58 : Ref sig .tc := ⟨.hbm, 170, rfl⟩
abbrev main_while1b_call14_c : Ref sig .tc := ⟨.hbm, 171, rfl⟩
abbrev main_while1b_call14_c_0 : Ref sig .tc := ⟨.hbm, 172, rfl⟩
abbrev main_while1b_call14_c_1 : Ref sig .tc := ⟨.hbm, 173, rfl⟩
abbrev main_while1b_call14_v0 : Ref sig .tc := ⟨.hbm, 174, rfl⟩
abbrev main_while1b_v59 : Ref sig .tc := ⟨.hbm, 175, rfl⟩
abbrev main_while1b_call15_c : Ref sig .tc := ⟨.hbm, 176, rfl⟩
abbrev main_while1b_call15_c_0 : Ref sig .tc := ⟨.hbm, 177, rfl⟩
abbrev main_while1b_call15_c_1 : Ref sig .tc := ⟨.hbm, 178, rfl⟩
abbrev main_while1b_call15_v0 : Ref sig .tc := ⟨.hbm, 179, rfl⟩
abbrev main_while1b_v60 : Ref sig .tc := ⟨.hbm, 180, rfl⟩
abbrev main_while1b_call16_c : Ref sig .tc := ⟨.hbm, 181, rfl⟩
abbrev main_while1b_call16_c_0 : Ref sig .tc := ⟨.hbm, 182, rfl⟩
abbrev main_while1b_call16_c_1 : Ref sig .tc := ⟨.hbm, 183, rfl⟩
abbrev main_while1b_call16_v0 : Ref sig .tc := ⟨.hbm, 184, rfl⟩
abbrev main_while1b_v61 : Ref sig .tc := ⟨.hbm, 185, rfl⟩
abbrev main_while1b_call17_c : Ref sig .tc := ⟨.hbm, 186, rfl⟩
abbrev main_while1b_call17_c_0 : Ref sig .tc := ⟨.hbm, 187, rfl⟩
abbrev main_while1b_call17_c_1 : Ref sig .tc := ⟨.hbm, 188, rfl⟩
abbrev main_while1b_call17_v0 : Ref sig .tc := ⟨.hbm, 189, rfl⟩
abbrev main_while1b_v62 : Ref sig .tc := ⟨.hbm, 190, rfl⟩
abbrev main_while1b_v63 : Ref sig .tc := ⟨.hbm, 191, rfl⟩
abbrev main_while1b_v64 : Ref sig .tc := ⟨.hbm, 192, rfl⟩
abbrev main_while1b_v65 : Ref sig .tc := ⟨.hbm, 193, rfl⟩
abbrev main_while1b_v66 : Ref sig .tc := ⟨.hbm, 194, rfl⟩
abbrev main_while1b_v67 : Ref sig .tc := ⟨.hbm, 195, rfl⟩
abbrev main_while1b_cst_31 : Ref sig .tc := ⟨.hbm, 196, rfl⟩
abbrev main_while1b_v68 : Ref sig .tc := ⟨.hbm, 197, rfl⟩
abbrev main_while1b_v69 : Ref sig .tc := ⟨.hbm, 198, rfl⟩
abbrev main_while1b_v70 : Ref sig .tc := ⟨.hbm, 199, rfl⟩
abbrev main_while1b_v71 : Ref sig .tc := ⟨.hbm, 200, rfl⟩
abbrev main_while1b_cst_32 : Ref sig .tc := ⟨.hbm, 201, rfl⟩
abbrev main_while1b_v72 : Ref sig .tc := ⟨.hbm, 202, rfl⟩
abbrev main_while1b_v73 : Ref sig .tc := ⟨.hbm, 203, rfl⟩
abbrev main_while1b_v74 : Ref sig .tc := ⟨.hbm, 204, rfl⟩
abbrev main_while1b_v75 : Ref sig .tc := ⟨.hbm, 205, rfl⟩
abbrev main_while1b_v76 : Ref sig .tc := ⟨.hbm, 206, rfl⟩
abbrev main_while1b_v77 : Ref sig .tc := ⟨.hbm, 207, rfl⟩
abbrev main_while1b_v78 : Ref sig .tc := ⟨.hbm, 208, rfl⟩
abbrev main_while1b_v79 : Ref sig .tc := ⟨.hbm, 209, rfl⟩
abbrev main_while1b_v80 : Ref sig .tc := ⟨.hbm, 210, rfl⟩
abbrev main_while1b_v81 : Ref sig .tc := ⟨.hbm, 211, rfl⟩
abbrev main_while1b_v82 : Ref sig .tc := ⟨.hbm, 212, rfl⟩
abbrev main_while1b_v83 : Ref sig .tc := ⟨.hbm, 213, rfl⟩
abbrev main_while1b_v84 : Ref sig .tc := ⟨.hbm, 214, rfl⟩
abbrev main_while1b_v85 : Ref sig .tc := ⟨.hbm, 215, rfl⟩
abbrev main_while1b_call18_v0 : Ref sig .tc := ⟨.hbm, 216, rfl⟩
abbrev main_while1b_call18_c : Ref sig .tc := ⟨.hbm, 217, rfl⟩
abbrev main_while1b_call18_c_0 : Ref sig .tc := ⟨.hbm, 218, rfl⟩
abbrev main_while1b_call18_c_1 : Ref sig .tc := ⟨.hbm, 219, rfl⟩
abbrev main_while1b_v86 : Ref sig .tc := ⟨.hbm, 220, rfl⟩
abbrev main_while1b_call19_v0 : Ref sig .tc := ⟨.hbm, 221, rfl⟩
abbrev main_while1b_call19_c : Ref sig .tc := ⟨.hbm, 222, rfl⟩
abbrev main_while1b_call19_c_0 : Ref sig .tc := ⟨.hbm, 223, rfl⟩
abbrev main_while1b_call19_c_1 : Ref sig .tc := ⟨.hbm, 224, rfl⟩
abbrev main_while1b_v87 : Ref sig .tc := ⟨.hbm, 225, rfl⟩
abbrev main_while1b_call20_v0 : Ref sig .tc := ⟨.hbm, 226, rfl⟩
abbrev main_while1b_call20_c : Ref sig .tc := ⟨.hbm, 227, rfl⟩
abbrev main_while1b_call20_c_0 : Ref sig .tc := ⟨.hbm, 228, rfl⟩
abbrev main_while1b_call20_c_1 : Ref sig .tc := ⟨.hbm, 229, rfl⟩
abbrev main_while1b_v88 : Ref sig .tc := ⟨.hbm, 230, rfl⟩
abbrev main_while1b_call21_v0 : Ref sig .tc := ⟨.hbm, 231, rfl⟩
abbrev main_while1b_call21_c : Ref sig .tc := ⟨.hbm, 232, rfl⟩
abbrev main_while1b_call21_c_0 : Ref sig .tc := ⟨.hbm, 233, rfl⟩
abbrev main_while1b_call21_c_1 : Ref sig .tc := ⟨.hbm, 234, rfl⟩
abbrev main_while1b_v89 : Ref sig .tc := ⟨.hbm, 235, rfl⟩
abbrev main_while1b_call22_v0 : Ref sig .tc := ⟨.hbm, 236, rfl⟩
abbrev main_while1b_call22_c : Ref sig .tc := ⟨.hbm, 237, rfl⟩
abbrev main_while1b_call22_c_0 : Ref sig .tc := ⟨.hbm, 238, rfl⟩
abbrev main_while1b_call22_c_1 : Ref sig .tc := ⟨.hbm, 239, rfl⟩
abbrev main_while1b_v90 : Ref sig .tc := ⟨.hbm, 240, rfl⟩
abbrev main_while1b_call23_v0 : Ref sig .tc := ⟨.hbm, 241, rfl⟩
abbrev main_while1b_call23_c : Ref sig .tc := ⟨.hbm, 242, rfl⟩
abbrev main_while1b_v91 : Ref sig .tc := ⟨.hbm, 243, rfl⟩
abbrev main_while1b_c_33 : Ref sig .tc := ⟨.hbm, 244, rfl⟩
abbrev main_while1b_v92 : Ref sig .tc := ⟨.hbm, 245, rfl⟩
abbrev main_v35 : Ref sig .tc := ⟨.hbm, 246, rfl⟩
abbrev main_v36 : Ref sig .tc := ⟨.hbm, 247, rfl⟩
abbrev main_v37 : Ref sig .tc := ⟨.hbm, 248, rfl⟩
abbrev main_v38 : Ref sig .tc := ⟨.hbm, 249, rfl⟩
abbrev main_v39 : Ref sig .tc := ⟨.hbm, 250, rfl⟩
abbrev main_v40 : Ref sig .tc := ⟨.hbm, 251, rfl⟩
abbrev main_v41 : Ref sig .tc := ⟨.hbm, 252, rfl⟩
abbrev main_v42 : Ref sig .tc := ⟨.hbm, 253, rfl⟩
abbrev main_v43 : Ref sig .tc := ⟨.hbm, 254, rfl⟩
abbrev main_v44 : Ref sig .tc := ⟨.hbm, 255, rfl⟩
abbrev main_v45 : Ref sig .tc := ⟨.hbm, 256, rfl⟩
abbrev main_v46 : Ref sig .tc := ⟨.hbm, 257, rfl⟩
abbrev main_v47 : Ref sig .tc := ⟨.hbm, 258, rfl⟩
abbrev main_v48 : Ref sig .tc := ⟨.hbm, 259, rfl⟩
abbrev main_v49 : Ref sig .tc := ⟨.hbm, 260, rfl⟩
abbrev main_v50 : Ref sig .tc := ⟨.hbm, 261, rfl⟩
abbrev main_c_13 : Ref sig .tc := ⟨.hbm, 262, rfl⟩
abbrev main_call24_v0 : Ref sig .tc := ⟨.hbm, 263, rfl⟩
abbrev main_v51 : Ref sig .tc := ⟨.hbm, 264, rfl⟩
abbrev main_v52 : Ref sig .tc := ⟨.hbm, 265, rfl⟩

abbrev nD : Nat := 1
abbrev τ : Topo := Topo.v7x

variable {F : FTy → Type} [FloatOps F]

abbrev main_while0_count : Scf.Loop 32 := ⟨0#32, 128#32, 1#32⟩

abbrev main_while1_count : Scf.Loop 32 := ⟨0#32, 128#32, 1#32⟩
-- ==== Kernel2.lean ====
abbrev S8192x1024 : Shape := ⟨2, ![8192, 1024]⟩
abbrev S1x1024 : Shape := ⟨2, ![1, 1024]⟩
abbrev S8x1024x704 : Shape := ⟨3, ![8, 1024, 704]⟩
abbrev S4x704x1024 : Shape := ⟨3, ![4, 704, 1024]⟩
abbrev S8x8192x704 : Shape := ⟨3, ![8, 8192, 704]⟩
abbrev S512x1024 : Shape := ⟨2, ![512, 1024]⟩
abbrev S8x512x704 : Shape := ⟨3, ![8, 512, 704]⟩
abbrev S512 : Shape := ⟨1, ![512]⟩
abbrev S512x1 : Shape := ⟨2, ![512, 1]⟩
abbrev S1x1024x704 : Shape := ⟨3, ![1, 1024, 704]⟩
abbrev S1024x704 : Shape := ⟨2, ![1024, 704]⟩
abbrev S512x704 : Shape := ⟨2, ![512, 704]⟩
abbrev S1x512x704 : Shape := ⟨3, ![1, 512, 704]⟩
abbrev S1x704x1024 : Shape := ⟨3, ![1, 704, 1024]⟩
abbrev S704x1024 : Shape := ⟨2, ![704, 1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8x1024x704, .bf16⟩
  | .hbm, ⟨3, _⟩ => ⟨S4x704x1024, .bf16⟩
  | .hbm, ⟨4, _⟩ => ⟨S8192x1024, .f32⟩
  | .hbm, ⟨5, _⟩ => ⟨S8192x1024, .bf16⟩
  | .hbm, ⟨6, _⟩ => ⟨S8x8192x704, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S8x1024x704, .bf16⟩
  | .local _ .vmem, ⟨4, _⟩ => ⟨S4x704x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S8x512x704, .bf16⟩
  | .local _ .vmem, ⟨10, _⟩ => ⟨S8x512x704, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x704 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S8192x1024 : Shape := ⟨2, ![8192, 1024]⟩
abbrev S1x1024 : Shape := ⟨2, ![1, 1024]⟩
abbrev S8x1024x704 : Shape := ⟨3, ![8, 1024, 704]⟩
abbrev S4x704x1024 : Shape := ⟨3, ![4, 704, 1024]⟩
abbrev S1024x8x704 : Shape := ⟨3, ![1024, 8, 704]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S8192x2816 : Shape := ⟨2, ![8192, 2816]⟩
abbrev S8192x8x704 : Shape := ⟨3, ![8192, 8, 704]⟩
abbrev S8x8192x704 : Shape := ⟨3, ![8, 8192, 704]⟩

abbrev nBuf : Space → Nat
  | .hbm => 46
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8x1024x704, .bf16⟩
  | .hbm, ⟨3, _⟩ => ⟨S4x704x1024, .bf16⟩
  | .hbm, ⟨4, _⟩ => ⟨S8x1024x704, .f32⟩
  | .hbm, ⟨5, _⟩ => ⟨S1024x8x704, .f32⟩
  | .hbm, ⟨6, _⟩ => ⟨S1024x5632, .f32⟩
  | .hbm, ⟨7, _⟩ => ⟨S4x704x1024, .f32⟩
  | .hbm, ⟨8, _⟩ => ⟨S2816x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x5632, .f32⟩
  | .hbm, ⟨25, _⟩ => ⟨S8192x2816, .f32⟩
  | .hbm, ⟨26, _⟩ => ⟨S8192x2816, .f32⟩
  | .hbm, ⟨27, _⟩ => ⟨S8192x8x704, .f32⟩
  | .hbm, ⟨28, _⟩ => ⟨S8x8192x704, .f32⟩
  | .hbm, ⟨29, _⟩ => ⟨S8192x2816, .f32⟩
  | .hbm, ⟨30, _⟩ => ⟨S8192x2816, .f32⟩
  | .hbm, ⟨31, _⟩ => ⟨S_, .f32⟩
  | .hbm, ⟨32, _⟩ => ⟨S8192x2816, .f32⟩
  | .hbm, ⟨33, _⟩ => ⟨S8192x2816, .f32⟩
  | .hbm, ⟨34, _⟩ => ⟨S_, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .bf16⟩
  | .hbm, ⟨45, _⟩ => ⟨S8x8192x704, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]
-- ==== Kernel5.lean ====
abbrev S8192x1024 : Shape := ⟨2, ![8192, 1024]⟩
abbrev S1x1024 : Shape := ⟨2, ![1, 1024]⟩
abbrev S8x1024x704 : Shape := ⟨3, ![8, 1024, 704]⟩
abbrev S8x8192x704 : Shape := ⟨3, ![8, 8192, 704]⟩
abbrev S8x512x704 : Shape := ⟨3, ![8, 512, 704]⟩
abbrev S512x1024 : Shape := ⟨2, ![512, 1024]⟩
abbrev S1x512x704 : Shape := ⟨3, ![1, 512, 704]⟩
abbrev S512x704 : Shape := ⟨2, ![512, 704]⟩
abbrev S1x1024x704 : Shape := ⟨3, ![1, 1024, 704]⟩
abbrev S1024x704 : Shape := ⟨2, ![1024, 704]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8x1024x704, .bf16⟩
  | .hbm, ⟨3, _⟩ => ⟨S8x8192x704, .bf16⟩
  | .hbm, ⟨4, _⟩ => ⟨S8192x1024, .f32⟩
  | .hbm, ⟨5, _⟩ => ⟨S8192x1024, .f32⟩
  | .hbm, ⟨6, _⟩ => ⟨S1x1024, .f32⟩
  | .local _ .vmem, ⟨0, _⟩ => ⟨S8x512x704, .bf16⟩
  | .local _ .vmem, ⟨1, _⟩ => ⟨S8x512x704, .bf16⟩
  | .local _ .vmem, ⟨2, _⟩ => ⟨S8x1024x704, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x704 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference5Ideal.lean ====
abbrev S8192x1024 : Shape := ⟨2, ![8192, 1024]⟩
abbrev S1x1024 : Shape := ⟨2, ![1, 1024]⟩
abbrev S8x1024x704 : Shape := ⟨3, ![8, 1024, 704]⟩
abbrev S8x8192x704 : Shape := ⟨3, ![8, 8192, 704]⟩
abbrev S8192x8x704 : Shape := ⟨3, ![8192, 8, 704]⟩
abbrev S8192x5632 : Shape := ⟨2, ![8192, 5632]⟩
abbrev S1024x8x704 : Shape := ⟨3, ![1024, 8, 704]⟩
abbrev S1024x5632 : Shape := ⟨2, ![1024, 5632]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 56
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8x1024x704, .bf16⟩
  | .hbm, ⟨3, _⟩ => ⟨S8x8192x704, .bf16⟩
  | .hbm, ⟨4, _⟩ => ⟨S8192x1024, .f32⟩
  | .hbm, ⟨5, _⟩ => ⟨S8x8192x704, .f32⟩
  | .hbm, ⟨6, _⟩ => ⟨S8192x8x704, .f32⟩
  | .hbm, ⟨7, _⟩ => ⟨S8192x5632, .f32⟩
  | .hbm, ⟨8, _⟩ => ⟨S8x1024x704, .f32⟩
  | .hbm, ⟨9, _⟩ => ⟨S1024x8x704, .f32⟩
  | .hbm, ⟨10, _⟩ => ⟨S1024x5632, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x5632, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== Kernel6.lean ====
abbrev S8192x1024 : Shape := ⟨2, ![8192, 1024]⟩
abbrev S8x1024x704 : Shape := ⟨3, ![8, 1024, 704]⟩
abbrev S8x8192x704 : Shape := ⟨3, ![8, 8192, 704]⟩
abbrev S1024x1024 : Shape := ⟨2, ![1024, 1024]⟩
abbrev S1x1024x704 : Shape := ⟨3, ![1, 1024, 704]⟩
abbrev S1024x704 : Shape := ⟨2, ![1024, 704]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8x1024x704, .bf16⟩
  | .hbm, ⟨2, _⟩ => ⟨S8x8192x704, .bf16⟩
  | .local _ .vmem, ⟨0, _⟩ => ⟨S1024x1024, .bf16⟩
  | .local _ .vmem, ⟨1, _⟩ => ⟨S1024x1024, .bf16⟩
  | .local _ .vmem, ⟨2, _⟩ => ⟨S8x1024x704, .bf16⟩
  | .local _ .vmem, ⟨3, _⟩ => ⟨S8x1024x704, .bf16⟩
  | .local _ .vmem, ⟨4, _⟩ => ⟨S8x1024x704, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x704 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S8192x1024 : Shape := ⟨2, ![8192, 1024]⟩
abbrev S8x1024x704 : Shape := ⟨3, ![8, 1024, 704]⟩
abbrev S1024x8x704 : Shape := ⟨3, ![1024, 8, 704]⟩
abbrev S1024x5632 : Shape := ⟨2, ![1024, 5632]⟩
abbrev S8192x5632 : Shape := ⟨2, ![8192, 5632]⟩
abbrev S8192x8x704 : Shape := ⟨3, ![8192, 8, 704]⟩
abbrev S8x8192x704 : Shape := ⟨3, ![8, 8192, 704]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8x1024x704, .bf16⟩
  | .hbm, ⟨2, _⟩ => ⟨S8x1024x704, .f32⟩
  | .hbm, ⟨3, _⟩ => ⟨S1024x8x704, .f32⟩
  | .hbm, ⟨4, _⟩ => ⟨S1024x5632, .f32⟩
  | .hbm, ⟨5, _⟩ => ⟨S8192x1024, .f32⟩
  | .hbm, ⟨6, _⟩ => ⟨S8192x5632, .f32⟩
  | .hbm, ⟨7, _⟩ => ⟨S8192x8x704, .f32⟩
  | .hbm, ⟨8, _⟩ => ⟨S8x8192x704, .f32⟩
  | .hbm, ⟨9, _⟩ => ⟨S8x8192x704, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Kernel7.lean ====
abbrev S8x8192x704 : Shape := ⟨3, ![8, 8192, 704]⟩
abbrev S4x704x1024 : Shape := ⟨3, ![4, 704, 1024]⟩
abbrev S8192x1024 : Shape := ⟨2, ![8192, 1024]⟩
abbrev S8x512x704 : Shape := ⟨3, ![8, 512, 704]⟩
abbrev S512x1024 : Shape := ⟨2, ![512, 1024]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8x8192x704, .bf16⟩
  | .hbm, ⟨1, _⟩ => ⟨S4x704x1024, .bf16⟩
  | .hbm, ⟨2, _⟩ => ⟨S8192x1024, .f32⟩
  | .hbm, ⟨3, _⟩ => ⟨S8192x1024, .f32⟩
  | .local _ .vmem, ⟨0, _⟩ => ⟨S8x512x704, .bf16⟩
  | .local _ .vmem, ⟨1, _⟩ => ⟨S8x512x704, .bf16⟩
  | .local _ .vmem, ⟨2, _⟩ => ⟨S4x704x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8x8192x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S8x8192x704 : Shape := ⟨3, ![8, 8192, 704]⟩
abbrev S4x704x1024 : Shape := ⟨3, ![4, 704, 1024]⟩
abbrev S8192x1024 : Shape := ⟨2, ![8192, 1024]⟩
abbrev S8192x8x704 : Shape := ⟨3, ![8192, 8, 704]⟩
abbrev S8192x5632 : Shape := ⟨2, ![8192, 5632]⟩
abbrev S8192x2816 : Shape := ⟨2, ![8192, 2816]⟩
abbrev S_ : Shape := ⟨0, ![]⟩
abbrev S2816x1024 : Shape := ⟨2, ![2816, 1024]⟩

abbrev nBuf : Space → Nat
  | .hbm => 25
  | .vmem => 0
  | .smem => 0
  | _ => 0

abbrev bufTy : (tb : Table) → Fin (tcTables nBuf tb) → BufTy
  | .hbm, ⟨0, _⟩ => ⟨S8x8192x704, .bf16⟩
  | .hbm, ⟨1, _⟩ => ⟨S4x704x1024, .bf16⟩
  | .hbm, ⟨2, _⟩ => ⟨S8192x1024, .f32⟩
  | .hbm, ⟨3, _⟩ => ⟨S8x8192x704, .f32⟩
  | .hbm, ⟨4, _⟩ => ⟨S8192x8x704, .f32⟩
  | .hbm, ⟨5, _⟩ => ⟨S8192x5632, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S4x704x1024, .f32⟩
  | .hbm, ⟨19, _⟩ => ⟨S2816x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S8192x1024, .f32⟩
  | _, _ => ⟨S8x8192x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩

abbrev nD : Nat := 1
abbrev τ : Topo := Topo.v7x

variable {F : FTy → Type} [FloatOps F]
-- ==== Kernel8.lean ====
abbrev S8192x1024 : Shape := ⟨2, ![8192, 1024]⟩
abbrev S1x1024 : Shape := ⟨2, ![1, 1024]⟩
abbrev S1024x4224 : Shape := ⟨2, ![1024, 4224]⟩
abbrev S8192x4224 : Shape := ⟨2, ![8192, 4224]⟩
abbrev S512x4224 : Shape := ⟨2, ![512, 4224]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4224, .bf16⟩
  | .hbm, ⟨3, _⟩ => ⟨S8192x4224, .bf16⟩
  | .hbm, ⟨4, _⟩ => ⟨S8192x1024, .f32⟩
  | .hbm, ⟨5, _⟩ => ⟨S8192x1024, .f32⟩
  | .hbm, ⟨6, _⟩ => ⟨S1x1024, .f32⟩
  | .local _ .vmem, ⟨0, _⟩ => ⟨S512x4224, .bf16⟩
  | .local _ .vmem, ⟨1, _⟩ => ⟨S512x4224, .bf16⟩
  | .local _ .vmem, ⟨2, _⟩ => ⟨S1024x4224, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4224 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4224 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference8Ideal.lean ====
abbrev S8192x1024 : Shape := ⟨2, ![8192, 1024]⟩
abbrev S1x1024 : Shape := ⟨2, ![1, 1024]⟩
abbrev S1024x4224 : Shape := ⟨2, ![1024, 4224]⟩
abbrev S8192x4224 : Shape := ⟨2, ![8192, 4224]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4224, .bf16⟩
  | .hbm, ⟨3, _⟩ => ⟨S8192x4224, .bf16⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S1024x4224, .f32⟩
  | .hbm, ⟨25, _⟩ => ⟨S8192x4224, .f32⟩
  | .hbm, ⟨26, _⟩ => ⟨S8192x4224, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel9.lean ====
abbrev S8192x1024 : Shape := ⟨2, ![8192, 1024]⟩
abbrev S1x1024 : Shape := ⟨2, ![1, 1024]⟩
abbrev S1024x1536 : Shape := ⟨2, ![1024, 1536]⟩
abbrev S8192x1536 : Shape := ⟨2, ![8192, 1536]⟩
abbrev S512x1536 : Shape := ⟨2, ![512, 1536]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1536, .bf16⟩
  | .hbm, ⟨3, _⟩ => ⟨S8192x1536, .bf16⟩
  | .hbm, ⟨4, _⟩ => ⟨S8192x1024, .f32⟩
  | .hbm, ⟨5, _⟩ => ⟨S8192x1024, .f32⟩
  | .hbm, ⟨6, _⟩ => ⟨S1x1024, .f32⟩
  | .local _ .vmem, ⟨0, _⟩ => ⟨S512x1536, .bf16⟩
  | .local _ .vmem, ⟨1, _⟩ => ⟨S512x1536, .bf16⟩
  | .local _ .vmem, ⟨2, _⟩ => ⟨S1024x1536, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference9Ideal.lean ====
abbrev S8192x1024 : Shape := ⟨2, ![8192, 1024]⟩
abbrev S1x1024 : Shape := ⟨2, ![1, 1024]⟩
abbrev S1024x1536 : Shape := ⟨2, ![1024, 1536]⟩
abbrev S8192x1536 : Shape := ⟨2, ![8192, 1536]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1536, .bf16⟩
  | .hbm, ⟨3, _⟩ => ⟨S8192x1536, .bf16⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S1024x1536, .f32⟩
  | .hbm, ⟨25, _⟩ => ⟨S8192x1536, .f32⟩
  | .hbm, ⟨26, _⟩ => ⟨S8192x1536, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel10.lean ====
abbrev S8192x1024 : Shape := ⟨2, ![8192, 1024]⟩
abbrev S8192x4224 : Shape := ⟨2, ![8192, 4224]⟩
abbrev S1024x4224 : Shape := ⟨2, ![1024, 4224]⟩
abbrev S1024x1024 : Shape := ⟨2, ![1024, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x4224, .bf16⟩
  | .hbm, ⟨2, _⟩ => ⟨S1024x4224, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference10Ideal.lean ====
abbrev S8192x1024 : Shape := ⟨2, ![8192, 1024]⟩
abbrev S8192x4224 : Shape := ⟨2, ![8192, 4224]⟩
abbrev S_ : Shape := ⟨0, ![]⟩
abbrev S1024x4224 : Shape := ⟨2, ![1024, 4224]⟩
abbrev S4224x1024 : Shape := ⟨2, ![4224, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4224, .bf16⟩
  | .hbm, ⟨2, _⟩ => ⟨S_, .f32⟩
  | .hbm, ⟨3, _⟩ => ⟨S1024x4224, .f32⟩
  | .hbm, ⟨4, _⟩ => ⟨S8192x1024, .f32⟩
  | .hbm, ⟨5, _⟩ => ⟨S8192x4224, .f32⟩
  | .hbm, ⟨6, _⟩ => ⟨S8192x4224, .f32⟩
  | .hbm, ⟨7, _⟩ => ⟨S4224x1024, .f32⟩
  | .hbm, ⟨8, _⟩ => ⟨S1024x4224, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S8192x1024 : Shape := ⟨2, ![8192, 1024]⟩
abbrev S8192x1536 : Shape := ⟨2, ![8192, 1536]⟩
abbrev S1024x1536 : Shape := ⟨2, ![1024, 1536]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S1024x1536, .f32⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference11Ideal.lean ====
abbrev S8192x1024 : Shape := ⟨2, ![8192, 1024]⟩
abbrev S8192x1536 : Shape := ⟨2, ![8192, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S_, .f32⟩
  | .hbm, ⟨3, _⟩ => ⟨S1024x1536, .f32⟩
  | .hbm, ⟨4, _⟩ => ⟨S8192x1024, .f32⟩
  | .hbm, ⟨5, _⟩ => ⟨S8192x1536, .f32⟩
  | .hbm, ⟨6, _⟩ => ⟨S8192x1536, .f32⟩
  | .hbm, ⟨7, _⟩ => ⟨S1536x1024, .f32⟩
  | .hbm, ⟨8, _⟩ => ⟨S1024x1536, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference12Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S8192x1024 : Shape := ⟨2, ![8192, 1024]⟩
abbrev S1024x4224 : Shape := ⟨2, ![1024, 4224]⟩
abbrev S8192x4096 : Shape := ⟨2, ![8192, 4096]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x4224, .bf16⟩
  | .hbm, ⟨2, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference13Ideal.lean ====
abbrev S8192x1024 : Shape := ⟨2, ![8192, 1024]⟩
abbrev S1024x4224 : Shape := ⟨2, ![1024, 4224]⟩
abbrev S8192x4224 : Shape := ⟨2, ![8192, 4224]⟩
abbrev S8192x4096 : Shape := ⟨2, ![8192, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4224, .bf16⟩
  | .hbm, ⟨2, _⟩ => ⟨S8192x1024, .f32⟩
  | .hbm, ⟨3, _⟩ => ⟨S1024x4224, .f32⟩
  | .hbm, ⟨4, _⟩ => ⟨S8192x4224, .f32⟩
  | .hbm, ⟨5, _⟩ => ⟨S8192x4096, .f32⟩
  | .hbm, ⟨6, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel14.lean ====
abbrev S8192x1024 : Shape := ⟨2, ![8192, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference14Ideal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel15.lean ====
abbrev S8192x1024 : Shape := ⟨2, ![8192, 1024]⟩
abbrev S1024x1536 : Shape := ⟨2, ![1024, 1536]⟩
abbrev S1x1536 : Shape := ⟨2, ![1, 1536]⟩
abbrev S8192x1536 : Shape := ⟨2, ![8192, 1536]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1536, .bf16⟩
  | .hbm, ⟨2, _⟩ => ⟨S1x1536, .f32⟩
  | .hbm, ⟨3, _⟩ => ⟨S8192x1536, .f32⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1x1536, .f32⟩
  | .local _ .vmem, ⟨4, _⟩ => ⟨S1024x1536, .f32⟩
  | .local _ .vmem, ⟨5, _⟩ => ⟨S1024x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1024x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference15Ideal.lean ====
abbrev S8192x1024 : Shape := ⟨2, ![8192, 1024]⟩
abbrev S1024x1536 : Shape := ⟨2, ![1024, 1536]⟩
abbrev S1x1536 : Shape := ⟨2, ![1, 1536]⟩
abbrev S8192x1536 : Shape := ⟨2, ![8192, 1536]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1536, .bf16⟩
  | .hbm, ⟨2, _⟩ => ⟨S1x1536, .f32⟩
  | .hbm, ⟨3, _⟩ => ⟨S8192x1024, .f32⟩
  | .hbm, ⟨4, _⟩ => ⟨S1024x1536, .f32⟩
  | .hbm, ⟨5, _⟩ => ⟨S8192x1536, .f32⟩
  | .hbm, ⟨6, _⟩ => ⟨S8192x1536, .f32⟩
  | .hbm, ⟨7, _⟩ => ⟨S8192x1536, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel16.lean ====
abbrev S8192x1024 : Shape := ⟨2, ![8192, 1024]⟩
abbrev S1024x1024 : Shape := ⟨2, ![1024, 1024]⟩
abbrev S1x1024 : Shape := ⟨2, ![1, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S1x1024, .f32⟩
  | .hbm, ⟨3, _⟩ => ⟨S8192x1024, .f32⟩
  | .hbm, ⟨4, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference16Ideal.lean ====
abbrev S8192x1024 : Shape := ⟨2, ![8192, 1024]⟩
abbrev S1024x1024 : Shape := ⟨2, ![1024, 1024]⟩
abbrev S1x1024 : Shape := ⟨2, ![1, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel17.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference17Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Scan.FwdBase.lean ====
/- What the two cases of the forward scan share: its blocks, its staging buffers and its carried state. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Scan.Fwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

/-! ## The kernel body on any staging memrefs: a subtype the run finds -/

abbrev VO0_6 : View sig .tc .vmem S8x512x128 .f32 := (Memref.whole cc0_stg6_0 : Memref sig .tc .vmem S8x512x128 .f32).view
abbrev VO0_7 : View sig .tc .vmem S8x8x128x128 .bf16 := (Memref.whole cc0_stg7_0 : Memref sig .tc .vmem S8x8x128x128 .bf16).view
abbrev ms0_0 (t : Fin cfg0.N) : Memref sig .tc .vmem S8x512x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x512x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x512x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x512x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x512x64 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x8x1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x512x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x8x128x128 .bf16 := win0_7.stage (cfg0.slots t 7)
abbrev hs0_7 (t : Fin cfg0.N) : (ms0_7 t).IsWhole := hstage0_7 ((cfg0.slots t 7).cast nbuf0_7)
abbrev scM0_0 : Memref sig .tc .vmem S8x128x128 .f32 := Memref.whole cc0_scratch0
abbrev VS0_0 : View sig .tc .vmem S8x128x128 .f32 := scM0_0.view

/-- The buffers of the other call and the generator register: what the body never touches. -/
def other (c : Dev nD) : sProp 𝕄 :=
  iprop(Pipeline.scopedRestBut (Ix := Unit) (Name := ℕ) (U := UR sig nD τ) (Lvl := ℕ) (Val := Elt F) spec0 c [cc0_scratch0] ∗ (∃ r, prngReg c r))

/-- The invariant of a call between points, with the carried state split off. -/
theorem PhiA0_eq (c : Dev nD) :
    (Pipeline.ΦA spec0 c : sProp 𝕄)
      = iprop(iprop((∃ d, owns (c : Thread nD τ) scM0_0 fullShare d)) ∗ other c) := by
  unfold Pipeline.ΦA other
  rw [Pipeline.scopedRest_split_of_list spec0 c [cc0_scratch0] (by decide) (by decide)]
  simp only [scM0_0, owns_whole]
  exact equiv_iff.mp ⟨Idealize.SL.BI.sep_assoc, Idealize.SL.BI.sep_assoc'⟩

end Cert.KernelIdeal.Scan.Fwd

end
-- ==== Proof.Scan.FwdA.lean ====
/- The forward scan's body, at the first point, where the state starts at zero: what it stores. -/
module

public import proofs.«01_k».proof.Proof.Scan.FwdBase

@[expose] public section

set_option maxRecDepth 16384

noncomputable section

namespace Cert.KernelIdeal.Scan.Fwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def kernelRun0_A (c : Dev nD) (i : grid0.Coords) (arg1 : Memref sig .tc .vmem S8x512x128 .f32) (harg1 : arg1.IsWhole) (arg2 : Memref sig .tc .vmem S8x512x128 .bf16) (harg2 : arg2.IsWhole) (arg3 : Memref sig .tc .vmem S8x512x128 .bf16) (harg3 : arg3.IsWhole) (arg4 : Memref sig .tc .vmem S8x512x128 .bf16) (harg4 : arg4.IsWhole) (arg5 : Memref sig .tc .vmem S8x512x64 .bf16) (harg5 : arg5.IsWhole) (arg6 : Memref sig .tc .vmem S8x8x1x128 .f32) (harg6 : arg6.IsWhole) (arg7 : Memref sig .tc .vmem S8x512x128 .f32) (harg7 : arg7.IsWhole) (arg8 : Memref sig .tc .vmem S8x8x128x128 .bf16) (harg8 : arg8.IsWhole) (arg9 : Memref sig .tc .vmem S8x128x128 .f32) (harg9 : arg9.IsWhole) (hc0 : cond0_0 i)
    (x0 : Vec F S8x512x128 .f32) (x1 : Vec F S8x512x128 .bf16) (x2 : Vec F S8x512x128 .bf16) (x3 : Vec F S8x512x128 .bf16) (x4 : Vec F S8x512x64 .bf16) (x5 : Vec F S8x8x1x128 .f32) :
    Σ' (L6 : List (View.Piece (Elt F) S8x512x128 .f32)), Σ' (L7 : List (View.Piece (Elt F) S8x8x128x128 .bf16)), { LS0 : List (View.Piece (Elt F) S8x128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc0_gdn_scan_fwd i arg1 harg1 arg2 harg2 arg3 harg3 arg4 harg4 arg5 harg5 arg6 harg6 arg7 harg7 arg8 harg8 arg9 harg9) K } := by
  refine ⟨?_, ?_, ?_, fun E K => ?run⟩
  case run =>
    simp only [cc0_gdn_scan_fwd_eq_skeleton]; unfold cc0_gdn_scan_fwd_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact HS0

end Cert.KernelIdeal.Scan.Fwd

end
-- ==== Proof.Scan.FwdB.lean ====
/- The forward scan's body, at the later points, from the state the point before left: what it stores. -/
module

public import proofs.«01_k».proof.Proof.Scan.FwdBase

@[expose] public section

set_option maxRecDepth 16384

noncomputable section

namespace Cert.KernelIdeal.Scan.Fwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def kernelRun0_B (c : Dev nD) (i : grid0.Coords) (arg1 : Memref sig .tc .vmem S8x512x128 .f32) (harg1 : arg1.IsWhole) (arg2 : Memref sig .tc .vmem S8x512x128 .bf16) (harg2 : arg2.IsWhole) (arg3 : Memref sig .tc .vmem S8x512x128 .bf16) (harg3 : arg3.IsWhole) (arg4 : Memref sig .tc .vmem S8x512x128 .bf16) (harg4 : arg4.IsWhole) (arg5 : Memref sig .tc .vmem S8x512x64 .bf16) (harg5 : arg5.IsWhole) (arg6 : Memref sig .tc .vmem S8x8x1x128 .f32) (harg6 : arg6.IsWhole) (arg7 : Memref sig .tc .vmem S8x512x128 .f32) (harg7 : arg7.IsWhole) (arg8 : Memref sig .tc .vmem S8x8x128x128 .bf16) (harg8 : arg8.IsWhole) (arg9 : Memref sig .tc .vmem S8x128x128 .f32) (harg9 : arg9.IsWhole) (hc0 : ¬cond0_0 i)
    (x0 : Vec F S8x512x128 .f32) (x1 : Vec F S8x512x128 .bf16) (x2 : Vec F S8x512x128 .bf16) (x3 : Vec F S8x512x128 .bf16) (x4 : Vec F S8x512x64 .bf16) (x5 : Vec F S8x8x1x128 .f32) (xs0 : Vec F S8x128x128 .f32) :
    Σ' (L6 : List (View.Piece (Elt F) S8x512x128 .f32)), Σ' (L7 : List (View.Piece (Elt F) S8x8x128x128 .bf16)), { LS0 : List (View.Piece (Elt F) S8x128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc0_gdn_scan_fwd i arg1 harg1 arg2 harg2 arg3 harg3 arg4 harg4 arg5 harg5 arg6 harg6 arg7 harg7 arg8 harg8 arg9 harg9) K } := by
  refine ⟨?_, ?_, ?_, fun E K => ?run⟩
  case run =>
    simp only [cc0_gdn_scan_fwd_eq_skeleton]; unfold cc0_gdn_scan_fwd_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact HS0

end Cert.KernelIdeal.Scan.Fwd

end
-- ==== Proof.Scan.FwdDat.lean ====
/- The forward scan over its whole grid: what each output and the carried state hold after every point, and that the body keeps to it. -/
module

public import proofs.«01_k».proof.Proof.Scan.FwdA
public import proofs.«01_k».proof.Proof.Scan.FwdB

@[expose] public section

set_option maxRecDepth 16384

noncomputable section

namespace Cert.KernelIdeal.Scan.Fwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (c : Dev nD) (i : grid0.Coords) (arg1 : Memref sig .tc .vmem S8x512x128 .f32) (harg1 : arg1.IsWhole) (arg2 : Memref sig .tc .vmem S8x512x128 .bf16) (harg2 : arg2.IsWhole) (arg3 : Memref sig .tc .vmem S8x512x128 .bf16) (harg3 : arg3.IsWhole) (arg4 : Memref sig .tc .vmem S8x512x128 .bf16) (harg4 : arg4.IsWhole) (arg5 : Memref sig .tc .vmem S8x512x64 .bf16) (harg5 : arg5.IsWhole) (arg6 : Memref sig .tc .vmem S8x8x1x128 .f32) (harg6 : arg6.IsWhole) (arg7 : Memref sig .tc .vmem S8x512x128 .f32) (harg7 : arg7.IsWhole) (arg8 : Memref sig .tc .vmem S8x8x128x128 .bf16) (harg8 : arg8.IsWhole) (arg9 : Memref sig .tc .vmem S8x128x128 .f32) (harg9 : arg9.IsWhole) (hc0 : cond0_0 i)
    (x0 : Vec F S8x512x128 .f32) (x1 : Vec F S8x512x128 .bf16) (x2 : Vec F S8x512x128 .bf16) (x3 : Vec F S8x512x128 .bf16) (x4 : Vec F S8x512x64 .bf16) (x5 : Vec F S8x8x1x128 .f32)

theorem cover0_A_6 (y : S8x512x128.Idx) :
    ∃ pc ∈ (kernelRun0_A c i arg1 harg1 arg2 harg2 arg3 harg3 arg4 harg4 arg5 harg5 arg6 harg6 arg7 harg7 arg8 harg8 arg9 harg9 hc0 x0 x1 x2 x3 x4 x5).1, y ∈ pc.1.set :=
  View.cover_of_tiledL (s := S8x512x128) _ S8x64x128.size (by sl_kernel_rfl) y

def out0_A_6 : Vec F S8x512x128 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 hc0 x0 x1 x2 x3 x4 x5).1)

theorem cover0_A_7 (y : S8x8x128x128.Idx) :
    ∃ pc ∈ (kernelRun0_A c i arg1 harg1 arg2 harg2 arg3 harg3 arg4 harg4 arg5 harg5 arg6 harg6 arg7 harg7 arg8 harg8 arg9 harg9 hc0 x0 x1 x2 x3 x4 x5).2.1, y ∈ pc.1.set :=
  View.cover_of_tiledL (s := S8x8x128x128) _ S1x8x128x128.size (by sl_kernel_rfl) y

def out0_A_7 : Vec F S8x8x128x128 .bf16 :=
  VO0_7.read (Elt F) (VO0_7.writes (Elt F) VO0_7.junk (kernelRun0_A c i arg1 harg1 arg2 harg2 arg3 harg3 arg4 harg4 arg5 harg5 arg6 harg6 arg7 harg7 arg8 harg8 arg9 harg9 hc0 x0 x1 x2 x3 x4 x5).2.1)

theorem scover0_A_0 (y : S8x128x128.Idx) :
    ∃ pc ∈ (kernelRun0_A c i arg1 harg1 arg2 harg2 arg3 harg3 arg4 harg4 arg5 harg5 arg6 harg6 arg7 harg7 arg8 harg8 arg9 harg9 hc0 x0 x1 x2 x3 x4 x5).2.2.1, y ∈ pc.1.set :=
  View.cover_of_tiledL (s := S8x128x128) _ S8x128x128.size (by sl_kernel_rfl) y

def sout0_A_0 : Vec F S8x128x128 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 hc0 x0 x1 x2 x3 x4 x5).2.2.1)

end

section
variable (c : Dev nD) (i : grid0.Coords) (arg1 : Memref sig .tc .vmem S8x512x128 .f32) (harg1 : arg1.IsWhole) (arg2 : Memref sig .tc .vmem S8x512x128 .bf16) (harg2 : arg2.IsWhole) (arg3 : Memref sig .tc .vmem S8x512x128 .bf16) (harg3 : arg3.IsWhole) (arg4 : Memref sig .tc .vmem S8x512x128 .bf16) (harg4 : arg4.IsWhole) (arg5 : Memref sig .tc .vmem S8x512x64 .bf16) (harg5 : arg5.IsWhole) (arg6 : Memref sig .tc .vmem S8x8x1x128 .f32) (harg6 : arg6.IsWhole) (arg7 : Memref sig .tc .vmem S8x512x128 .f32) (harg7 : arg7.IsWhole) (arg8 : Memref sig .tc .vmem S8x8x128x128 .bf16) (harg8 : arg8.IsWhole) (arg9 : Memref sig .tc .vmem S8x128x128 .f32) (harg9 : arg9.IsWhole) (hc0 : ¬cond0_0 i)
    (x0 : Vec F S8x512x128 .f32) (x1 : Vec F S8x512x128 .bf16) (x2 : Vec F S8x512x128 .bf16) (x3 : Vec F S8x512x128 .bf16) (x4 : Vec F S8x512x64 .bf16) (x5 : Vec F S8x8x1x128 .f32) (xs0 : Vec F S8x128x128 .f32)

theorem cover0_B_6 (y : S8x512x128.Idx) :
    ∃ pc ∈ (kernelRun0_B c i arg1 harg1 arg2 harg2 arg3 harg3 arg4 harg4 arg5 harg5 arg6 harg6 arg7 harg7 arg8 harg8 arg9 harg9 hc0 x0 x1 x2 x3 x4 x5 xs0).1, y ∈ pc.1.set :=
  View.cover_of_tiledL (s := S8x512x128) _ S8x64x128.size (by sl_kernel_rfl) y

def out0_B_6 : Vec F S8x512x128 .f32 :=
  VO0_6.read (Elt F) (VO0_6.writes (Elt F) VO0_6.junk (kernelRun0_B c i arg1 harg1 arg2 harg2 arg3 harg3 arg4 harg4 arg5 harg5 arg6 harg6 arg7 harg7 arg8 harg8 arg9 harg9 hc0 x0 x1 x2 x3 x4 x5 xs0).1)

theorem cover0_B_7 (y : S8x8x128x128.Idx) :
    ∃ pc ∈ (kernelRun0_B c i arg1 harg1 arg2 harg2 arg3 harg3 arg4 harg4 arg5 harg5 arg6 harg6 arg7 harg7 arg8 harg8 arg9 harg9 hc0 x0 x1 x2 x3 x4 x5 xs0).2.1, y ∈ pc.1.set :=
  View.cover_of_tiledL (s := S8x8x128x128) _ S1x8x128x128.size (by sl_kernel_rfl) y

def out0_B_7 : Vec F S8x8x128x128 .bf16 :=
  VO0_7.read (Elt F) (VO0_7.writes (Elt F) VO0_7.junk (kernelRun0_B c i arg1 harg1 arg2 harg2 arg3 harg3 arg4 harg4 arg5 harg5 arg6 harg6 arg7 harg7 arg8 harg8 arg9 harg9 hc0 x0 x1 x2 x3 x4 x5 xs0).2.1)

theorem scover0_B_0 (y : S8x128x128.Idx) :
    ∃ pc ∈ (kernelRun0_B c i arg1 harg1 arg2 harg2 arg3 harg3 arg4 harg4 arg5 harg5 arg6 harg6 arg7 harg7 arg8 harg8 arg9 harg9 hc0 x0 x1 x2 x3 x4 x5 xs0).2.2.1, y ∈ pc.1.set :=
  View.cover_of_tiledL (s := S8x128x128) _ S8x128x128.size (by sl_kernel_rfl) y

def sout0_B_0 : Vec F S8x128x128 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 hc0 x0 x1 x2 x3 x4 x5 xs0).2.2.1)

end

variable (V : (c : Dev nD) → (b : Ref sig .tc) → Buf (Elt F) ((c : Thread nD τ).loc b))

/-! ## What the outputs hold after each point -/

/-- What a point leaves where the carried state starts from nothing. -/
abbrev tupA (c : Dev nD) (t : Fin cfg0.N) (h0 : t.val % 16 = 0) : Vec F S8x512x128 .f32 × Vec F S8x8x128x128 .bf16 × Vec F S8x128x128 .f32 :=
  (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk V c 0 t) (iblk V c 1 t) (iblk V c 2 t) (iblk V c 3 t) (iblk V c 4 t) (iblk V c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk V c 0 t) (iblk V c 1 t) (iblk V c 2 t) (iblk V c 3 t) (iblk V c 4 t) (iblk V c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk V c 0 t) (iblk V c 1 t) (iblk V c 2 t) (iblk V c 3 t) (iblk V c 4 t) (iblk V c 5 t))

/-- What a point leaves on top of the carried state `s`. -/
abbrev tupB (c : Dev nD) (t : Fin cfg0.N) (h0 : ¬t.val % 16 = 0) (s : Vec F S8x128x128 .f32) : Vec F S8x512x128 .f32 × Vec F S8x8x128x128 .bf16 × Vec F S8x128x128 .f32 :=
  (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk V c 0 t) (iblk V c 1 t) (iblk V c 2 t) (iblk V c 3 t) (iblk V c 4 t) (iblk V c 5 t) s, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk V c 0 t) (iblk V c 1 t) (iblk V c 2 t) (iblk V c 3 t) (iblk V c 4 t) (iblk V c 5 t) s, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk V c 0 t) (iblk V c 1 t) (iblk V c 2 t) (iblk V c 3 t) (iblk V c 4 t) (iblk V c 5 t) s)

def outsAt0 (c : Dev nD) : (n : ℕ) → n < cfg0.N → Vec F S8x512x128 .f32 × Vec F S8x8x128x128 .bf16 × Vec F S8x128x128 .f32
  | 0, hn => tupA V c ⟨0, hn⟩ (Nat.zero_mod _)
  | n + 1, hn =>
    if h0 : (n + 1) % 16 = 0 then tupA V c ⟨n + 1, hn⟩ h0
    else tupB V c ⟨n + 1, hn⟩ h0 (outsAt0 c n (Nat.lt_of_succ_lt hn)).2.2

theorem outsAt0_A (c : Dev nD) (t : Fin cfg0.N) (h0 : t.val % 16 = 0) : outsAt0 V c t.val t.isLt = tupA V c t h0 := by
  obtain ⟨n, hn⟩ := t
  cases n with
  | zero => exact rfl
  | succ n => exact dif_pos h0

theorem outsAt0_B (c : Dev nD) (t : Fin cfg0.N) (h0 : ¬t.val % 16 = 0) :
    outsAt0 V c t.val t.isLt = tupB V c t h0 (outsAt0 V c (t.val - 1) (Nat.lt_of_le_of_lt (Nat.sub_le _ _) t.isLt)).2.2 := by
  obtain ⟨n, hn⟩ := t
  cases n with
  | zero => exact absurd (Nat.zero_mod _) h0
  | succ n => exact dif_neg h0

def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2)) ∗ other c)

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2)) ∗ other c) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2)) ∗ other c) := by
  cases n with
  | zero => exact absurd rfl hz
  | succ n => rfl

/-! ## The pipeline's proof data -/

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => (outsAt0 V c t.val t.isLt).1
    | ⟨7, _⟩ => (outsAt0 V c t.val t.isLt).2.1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; exact Pipeline.Dat.Φ_castSucc (PhiS V c) t

theorem after0_0 (c : Dev nD) (t : Fin cfg0.N) : (dat V c).after 0 t = iblk V c 0 t := by dsimp only [dat]
theorem after0_1 (c : Dev nD) (t : Fin cfg0.N) : (dat V c).after 1 t = iblk V c 1 t := by dsimp only [dat]
theorem after0_2 (c : Dev nD) (t : Fin cfg0.N) : (dat V c).after 2 t = iblk V c 2 t := by dsimp only [dat]
theorem after0_3 (c : Dev nD) (t : Fin cfg0.N) : (dat V c).after 3 t = iblk V c 3 t := by dsimp only [dat]
theorem after0_4 (c : Dev nD) (t : Fin cfg0.N) : (dat V c).after 4 t = iblk V c 4 t := by dsimp only [dat]
theorem after0_5 (c : Dev nD) (t : Fin cfg0.N) : (dat V c).after 5 t = iblk V c 5 t := by dsimp only [dat]
theorem after0_6 (c : Dev nD) (t : Fin cfg0.N) : (dat V c).after 6 t = (outsAt0 V c t.val t.isLt).1 := by dsimp only [dat]
theorem after0_7 (c : Dev nD) (t : Fin cfg0.N) : (dat V c).after 7 t = (outsAt0 V c t.val t.isLt).2.1 := by dsimp only [dat]

theorem before0_0 (c : Dev nD) (t : Fin cfg0.N) (d) : (dat V c).before 0 t d = iblk V c 0 t :=
  before0_0_of V (dat V c) (A_eq V c 0) (after0_0 V c) t d
theorem before0_1 (c : Dev nD) (t : Fin cfg0.N) (d) : (dat V c).before 1 t d = iblk V c 1 t :=
  before0_1_of V (dat V c) (A_eq V c 1) (after0_1 V c) t d
theorem before0_2 (c : Dev nD) (t : Fin cfg0.N) (d) : (dat V c).before 2 t d = iblk V c 2 t :=
  before0_2_of V (dat V c) (A_eq V c 2) (after0_2 V c) t d
theorem before0_3 (c : Dev nD) (t : Fin cfg0.N) (d) : (dat V c).before 3 t d = iblk V c 3 t :=
  before0_3_of V (dat V c) (A_eq V c 3) (after0_3 V c) t d
theorem before0_4 (c : Dev nD) (t : Fin cfg0.N) (d) : (dat V c).before 4 t d = iblk V c 4 t :=
  before0_4_of V (dat V c) (A_eq V c 4) (after0_4 V c) t d
theorem before0_5 (c : Dev nD) (t : Fin cfg0.N) (d) : (dat V c).before 5 t d = iblk V c 5 t :=
  before0_5_of V (dat V c) (A_eq V c 5) (after0_5 V c) t d

/-! ## The body obligation, at a generic point -/

def bodyPre (c : Dev nD) (t : Fin cfg0.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d))
    ∗ (∃ d, owns (c : Thread nD τ) (ms0_3 t) fullShare ((dat V c).before 3 t d))
    ∗ (∃ d, owns (c : Thread nD τ) (ms0_4 t) fullShare ((dat V c).before 4 t d))
    ∗ (∃ d, owns (c : Thread nD τ) (ms0_5 t) fullShare ((dat V c).before 5 t d))
    ∗ (∃ d, owns (c : Thread nD τ) (ms0_6 t) fullShare ((dat V c).before 6 t d))
    ∗ (∃ d, owns (c : Thread nD τ) (ms0_7 t) fullShare ((dat V c).before 7 t d)))

def bodyPost (c : Dev nD) (t : Fin cfg0.N) : sProp 𝕄 :=
  iprop((dat V c).Φ t.succ ∗ (dat V c).owesAt () t.succ
    ∗ owns (c : Thread nD τ) (ms0_0 t) fullShare ((dat V c).after 0 t)
    ∗ owns (c : Thread nD τ) (ms0_1 t) fullShare ((dat V c).after 1 t)
    ∗ owns (c : Thread nD τ) (ms0_2 t) fullShare ((dat V c).after 2 t)
    ∗ owns (c : Thread nD τ) (ms0_3 t) fullShare ((dat V c).after 3 t)
    ∗ owns (c : Thread nD τ) (ms0_4 t) fullShare ((dat V c).after 4 t)
    ∗ owns (c : Thread nD τ) (ms0_5 t) fullShare ((dat V c).after 5 t)
    ∗ owns (c : Thread nD τ) (ms0_6 t) fullShare ((dat V c).after 6 t)
    ∗ owns (c : Thread nD τ) (ms0_7 t) fullShare ((dat V c).after 7 t))

set_option maxHeartbeats 6400000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4, before0_5]
  rw [show (dat V c).owesAt () t.succ = (dat V c).owesAt () t.castSucc from rfl,
    after0_0, after0_1, after0_2, after0_3, after0_4, after0_5, after0_6, after0_7]
  rw [show (dat V c).Φ t.succ = PhiS V c (t.val + 1) t.isLt from rfl, PhiS_succ]
  have hN : t.val < 16 := lt_of_lt_of_eq t.isLt (show cfg0.N = 16 from N_0)
  by_cases h0 : t.val % 16 = 0
  · by_cases hz : t.val = 0
    · rw [PhiS_castSucc V c t, PhiS_zero V c _ _ hz, PhiA0_eq]
      rw [outsAt0_A V c t h0]
      unfold tupA out0_A_6 out0_A_7 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ ((hcond0_0 t).mpr h0) (iblk V c 0 t) (iblk V c 1 t) (iblk V c 2 t) (iblk V c 3 t) (iblk V c 4 t) (iblk V c 5 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      iintro ⟨H0, H1, H2, H3, H4, H5, ⟨%e6, H6⟩, ⟨%e7, H7⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _)
      unfold owns; iexists _; isplitr
      swap; · iexact H7
      ipureintro; exact View.read_writes_of_cover _ _ _ _ _ (cover0_A_7 c _ _ _ _ _ _ _ _ _ _ _ _ _ _ _ _ _ _ _ _ _ _ _ _ _ _)
    · exfalso; have hN : t.val < 16 := lt_of_lt_of_eq t.isLt (show cfg0.N = 16 from N_0); omega
  · by_cases hz : t.val = 0
    · exfalso; have hN : t.val < 16 := lt_of_lt_of_eq t.isLt (show cfg0.N = 16 from N_0); omega
    · rw [PhiS_castSucc V c t, PhiS_pos V c _ _ hz]
      rw [outsAt0_B V c t h0]
      unfold tupB out0_B_6 out0_B_7 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ (fun h => h0 ((hcond0_0 t).mp h)) (iblk V c 0 t) (iblk V c 1 t) (iblk V c 2 t) (iblk V c 3 t) (iblk V c 4 t) (iblk V c 5 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      iintro ⟨H0, H1, H2, H3, H4, H5, ⟨%e6, H6⟩, ⟨%e7, H7⟩, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _)
      unfold owns; iexists _; isplitr
      swap; · iexact H7
      ipureintro; exact View.read_writes_of_cover _ _ _ _ _ (cover0_B_7 c _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA0_eq]
  iintro ⟨HS0, Hg⟩
  isplitl [HS0]
  · iexists _; iexact HS0
  iexact Hg

theorem hout (c : Dev nD) : (dat V c).Φ (Fin.last cfg0.N) ⊢ Pipeline.ΦA spec0 c :=
  Phi_out V c _ (by rw [Fin.val_last]; have : cfg0.N = 16 := N_0; omega)

end Cert.KernelIdeal.Scan.Fwd

end
-- ==== Proof.Scan.BwdBase.lean ====
/- What the two cases of the backward scan share: its blocks, its staging buffers and its carried state. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Scan.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before0_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg1 c) (hA : dat.A 6 = V c (Pipeline.arrRef spec1 6))
    (hafter : ∀ t, dat.after 6 t = iblk V c 6 t) (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg1 c) (hA : dat.A 7 = V c (Pipeline.arrRef spec1 7))
    (hafter : ∀ t, dat.after 7 t = iblk V c 7 t) (t : Fin cfg1.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

abbrev cond0_0 (i : grid1.Coords) : Prop := (Scalar.cmpi .ne (Scalar.extui (Scalar.cmpi .eq (BitVec.ofNat 32 (i 0).val) 0#32)) 0#32) = 1#1
theorem hcond0_0 : ∀ t : Fin cfg1.N, cond0_0 (grid1.coords t) ↔ t.val % 16 = 0 :=
  (fun t => by
    have ht : t.val < 16 := Nat.lt_of_lt_of_eq t.isLt N_1
    have e0 : (grid1.coords t 0).val = t.val / 1 % 16 := Pipeline.Grid.coords_val t 0 (by decide) rfl
    simp only [cond0_0, e0]
    word_cmp
   : ∀ t : Fin grid1.N, cond0_0 (grid1.coords t) ↔ t.val % 16 = 0)

/-! ## The kernel body on any staging memrefs: a subtype the run finds -/

abbrev VO0_8 : View sig .tc .vmem S8x512x128 .bf16 := (Memref.whole cc1_stg8_0 : Memref sig .tc .vmem S8x512x128 .bf16).view
abbrev VO0_9 : View sig .tc .vmem S8x512x128 .bf16 := (Memref.whole cc1_stg9_0 : Memref sig .tc .vmem S8x512x128 .bf16).view
abbrev VO0_10 : View sig .tc .vmem S8x512x128 .bf16 := (Memref.whole cc1_stg10_0 : Memref sig .tc .vmem S8x512x128 .bf16).view
abbrev VO0_11 : View sig .tc .vmem S8x512x128 .bf16 := (Memref.whole cc1_stg11_0 : Memref sig .tc .vmem S8x512x128 .bf16).view
abbrev VO0_12 : View sig .tc .vmem S8x512x64 .bf16 := (Memref.whole cc1_stg12_0 : Memref sig .tc .vmem S8x512x64 .bf16).view
abbrev VO0_13 : View sig .tc .vmem S8x8x1x128 .f32 := (Memref.whole cc1_stg13_0 : Memref sig .tc .vmem S8x8x1x128 .f32).view
abbrev ms0_0 (t : Fin cfg1.N) : Memref sig .tc .vmem S8x512x128 .f32 := win1_0.stage (cfg1.slots t 0)
abbrev hs0_0 (t : Fin cfg1.N) : (ms0_0 t).IsWhole := hstage1_0 ((cfg1.slots t 0).cast nbuf1_0)
abbrev ms0_1 (t : Fin cfg1.N) : Memref sig .tc .vmem S8x512x128 .bf16 := win1_1.stage (cfg1.slots t 1)
abbrev hs0_1 (t : Fin cfg1.N) : (ms0_1 t).IsWhole := hstage1_1 ((cfg1.slots t 1).cast nbuf1_1)
abbrev ms0_2 (t : Fin cfg1.N) : Memref sig .tc .vmem S8x512x128 .bf16 := win1_2.stage (cfg1.slots t 2)
abbrev hs0_2 (t : Fin cfg1.N) : (ms0_2 t).IsWhole := hstage1_2 ((cfg1.slots t 2).cast nbuf1_2)
abbrev ms0_3 (t : Fin cfg1.N) : Memref sig .tc .vmem S8x512x128 .bf16 := win1_3.stage (cfg1.slots t 3)
abbrev hs0_3 (t : Fin cfg1.N) : (ms0_3 t).IsWhole := hstage1_3 ((cfg1.slots t 3).cast nbuf1_3)
abbrev ms0_4 (t : Fin cfg1.N) : Memref sig .tc .vmem S8x512x64 .bf16 := win1_4.stage (cfg1.slots t 4)
abbrev hs0_4 (t : Fin cfg1.N) : (ms0_4 t).IsWhole := hstage1_4 ((cfg1.slots t 4).cast nbuf1_4)
abbrev ms0_5 (t : Fin cfg1.N) : Memref sig .tc .vmem S8x8x1x128 .f32 := win1_5.stage (cfg1.slots t 5)
abbrev hs0_5 (t : Fin cfg1.N) : (ms0_5 t).IsWhole := hstage1_5 ((cfg1.slots t 5).cast nbuf1_5)
abbrev ms0_6 (t : Fin cfg1.N) : Memref sig .tc .vmem S8x8x128x128 .bf16 := win1_6.stage (cfg1.slots t 6)
abbrev hs0_6 (t : Fin cfg1.N) : (ms0_6 t).IsWhole := hstage1_6 ((cfg1.slots t 6).cast nbuf1_6)
abbrev ms0_7 (t : Fin cfg1.N) : Memref sig .tc .vmem S8x512x128 .bf16 := win1_7.stage (cfg1.slots t 7)
abbrev hs0_7 (t : Fin cfg1.N) : (ms0_7 t).IsWhole := hstage1_7 ((cfg1.slots t 7).cast nbuf1_7)
abbrev ms0_8 (t : Fin cfg1.N) : Memref sig .tc .vmem S8x512x128 .bf16 := win1_8.stage (cfg1.slots t 8)
abbrev hs0_8 (t : Fin cfg1.N) : (ms0_8 t).IsWhole := hstage1_8 ((cfg1.slots t 8).cast nbuf1_8)
abbrev ms0_9 (t : Fin cfg1.N) : Memref sig .tc .vmem S8x512x128 .bf16 := win1_9.stage (cfg1.slots t 9)
abbrev hs0_9 (t : Fin cfg1.N) : (ms0_9 t).IsWhole := hstage1_9 ((cfg1.slots t 9).cast nbuf1_9)
abbrev ms0_10 (t : Fin cfg1.N) : Memref sig .tc .vmem S8x512x128 .bf16 := win1_10.stage (cfg1.slots t 10)
abbrev hs0_10 (t : Fin cfg1.N) : (ms0_10 t).IsWhole := hstage1_10 ((cfg1.slots t 10).cast nbuf1_10)
abbrev ms0_11 (t : Fin cfg1.N) : Memref sig .tc .vmem S8x512x128 .bf16 := win1_11.stage (cfg1.slots t 11)
abbrev hs0_11 (t : Fin cfg1.N) : (ms0_11 t).IsWhole := hstage1_11 ((cfg1.slots t 11).cast nbuf1_11)
abbrev ms0_12 (t : Fin cfg1.N) : Memref sig .tc .vmem S8x512x64 .bf16 := win1_12.stage (cfg1.slots t 12)
abbrev hs0_12 (t : Fin cfg1.N) : (ms0_12 t).IsWhole := hstage1_12 ((cfg1.slots t 12).cast nbuf1_12)
abbrev ms0_13 (t : Fin cfg1.N) : Memref sig .tc .vmem S8x8x1x128 .f32 := win1_13.stage (cfg1.slots t 13)
abbrev hs0_13 (t : Fin cfg1.N) : (ms0_13 t).IsWhole := hstage1_13 ((cfg1.slots t 13).cast nbuf1_13)
abbrev scM0_0 : Memref sig .tc .vmem S8x128x128 .f32 := Memref.whole cc1_scratch0
abbrev VS0_0 : View sig .tc .vmem S8x128x128 .f32 := scM0_0.view

/-- The buffers of the other call and the generator register: what the body never touches. -/
def other (c : Dev nD) : sProp 𝕄 :=
  iprop(Pipeline.scopedRestBut (Ix := Unit) (Name := ℕ) (U := UR sig nD τ) (Lvl := ℕ) (Val := Elt F) spec1 c [cc1_scratch0] ∗ (∃ r, prngReg c r))

/-- The invariant of a call between points, with the carried state split off. -/
theorem PhiA0_eq (c : Dev nD) :
    (Pipeline.ΦA spec1 c : sProp 𝕄)
      = iprop(iprop((∃ d, owns (c : Thread nD τ) scM0_0 fullShare d)) ∗ other c) := by
  unfold Pipeline.ΦA other
  rw [Pipeline.scopedRest_split_of_list spec1 c [cc1_scratch0] (by decide) (by decide)]
  simp only [scM0_0, owns_whole]
  exact equiv_iff.mp ⟨Idealize.SL.BI.sep_assoc, Idealize.SL.BI.sep_assoc'⟩

end Cert.KernelIdeal.Scan.Bwd

end
-- ==== Proof.Scan.BwdA.lean ====
/- The backward scan's body, at the first point, where the state starts at zero: what it stores. -/
module

public import proofs.«01_k».proof.Proof.Scan.BwdBase

@[expose] public section

set_option maxRecDepth 16384

noncomputable section

namespace Cert.KernelIdeal.Scan.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def kernelRun0_A (c : Dev nD) (i : grid1.Coords) (arg1 : Memref sig .tc .vmem S8x512x128 .f32) (harg1 : arg1.IsWhole) (arg2 : Memref sig .tc .vmem S8x512x128 .bf16) (harg2 : arg2.IsWhole) (arg3 : Memref sig .tc .vmem S8x512x128 .bf16) (harg3 : arg3.IsWhole) (arg4 : Memref sig .tc .vmem S8x512x128 .bf16) (harg4 : arg4.IsWhole) (arg5 : Memref sig .tc .vmem S8x512x64 .bf16) (harg5 : arg5.IsWhole) (arg6 : Memref sig .tc .vmem S8x8x1x128 .f32) (harg6 : arg6.IsWhole) (arg7 : Memref sig .tc .vmem S8x8x128x128 .bf16) (harg7 : arg7.IsWhole) (arg8 : Memref sig .tc .vmem S8x512x128 .bf16) (harg8 : arg8.IsWhole) (arg9 : Memref sig .tc .vmem S8x512x128 .bf16) (harg9 : arg9.IsWhole) (arg10 : Memref sig .tc .vmem S8x512x128 .bf16) (harg10 : arg10.IsWhole) (arg11 : Memref sig .tc .vmem S8x512x128 .bf16) (harg11 : arg11.IsWhole) (arg12 : Memref sig .tc .vmem S8x512x128 .bf16) (harg12 : arg12.IsWhole) (arg13 : Memref sig .tc .vmem S8x512x64 .bf16) (harg13 : arg13.IsWhole) (arg14 : Memref sig .tc .vmem S8x8x1x128 .f32) (harg14 : arg14.IsWhole) (arg15 : Memref sig .tc .vmem S8x128x128 .f32) (harg15 : arg15.IsWhole) (hc0 : cond0_0 i)
    (x0 : Vec F S8x512x128 .f32) (x1 : Vec F S8x512x128 .bf16) (x2 : Vec F S8x512x128 .bf16) (x3 : Vec F S8x512x128 .bf16) (x4 : Vec F S8x512x64 .bf16) (x5 : Vec F S8x8x1x128 .f32) (x6 : Vec F S8x8x128x128 .bf16) (x7 : Vec F S8x512x128 .bf16) :
    Σ' (L8 : List (View.Piece (Elt F) S8x512x128 .bf16)), Σ' (L9 : List (View.Piece (Elt F) S8x512x128 .bf16)), Σ' (L10 : List (View.Piece (Elt F) S8x512x128 .bf16)), Σ' (L11 : List (View.Piece (Elt F) S8x512x128 .bf16)), Σ' (L12 : List (View.Piece (Elt F) S8x512x64 .bf16)), Σ' (L13 : List (View.Piece (Elt F) S8x8x1x128 .f32)), { LS0 : List (View.Piece (Elt F) S8x128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f LS0)) -∗ K ⟨⟩))
          ⊢ wp frame (wpE (defs₀ (F := F)) Variants.none c none) E (cc1_gdn_scan_bwd i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, ?_, fun E K => ?run⟩
  case run =>
    simp only [cc1_gdn_scan_bwd_eq_skeleton]; unfold cc1_gdn_scan_bwd_skel
    simp only [k1_part16_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact HS0

end Cert.KernelIdeal.Scan.Bwd

end
-- ==== Proof.Scan.BwdB.lean ====
/- The backward scan's body, at the later points, from the state the point before left: what it stores. -/
module

public import proofs.«01_k».proof.Proof.Scan.BwdBase

@[expose] public section

set_option maxRecDepth 16384

noncomputable section

namespace Cert.KernelIdeal.Scan.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def kernelRun0_B (c : Dev nD) (i : grid1.Coords) (arg1 : Memref sig .tc .vmem S8x512x128 .f32) (harg1 : arg1.IsWhole) (arg2 : Memref sig .tc .vmem S8x512x128 .bf16) (harg2 : arg2.IsWhole) (arg3 : Memref sig .tc .vmem S8x512x128 .bf16) (harg3 : arg3.IsWhole) (arg4 : Memref sig .tc .vmem S8x512x128 .bf16) (harg4 : arg4.IsWhole) (arg5 : Memref sig .tc .vmem S8x512x64 .bf16) (harg5 : arg5.IsWhole) (arg6 : Memref sig .tc .vmem S8x8x1x128 .f32) (harg6 : arg6.IsWhole) (arg7 : Memref sig .tc .vmem S8x8x128x128 .bf16) (harg7 : arg7.IsWhole) (arg8 : Memref sig .tc .vmem S8x512x128 .bf16) (harg8 : arg8.IsWhole) (arg9 : Memref sig .tc .vmem S8x512x128 .bf16) (harg9 : arg9.IsWhole) (arg10 : Memref sig .tc .vmem S8x512x128 .bf16) (harg10 : arg10.IsWhole) (arg11 : Memref sig .tc .vmem S8x512x128 .bf16) (harg11 : arg11.IsWhole) (arg12 : Memref sig .tc .vmem S8x512x128 .bf16) (harg12 : arg12.IsWhole) (arg13 : Memref sig .tc .vmem S8x512x64 .bf16) (harg13 : arg13.IsWhole) (arg14 : Memref sig .tc .vmem S8x8x1x128 .f32) (harg14 : arg14.IsWhole) (arg15 : Memref sig .tc .vmem S8x128x128 .f32) (harg15 : arg15.IsWhole) (hc0 : ¬cond0_0 i)
    (x0 : Vec F S8x512x128 .f32) (x1 : Vec F S8x512x128 .bf16) (x2 : Vec F S8x512x128 .bf16) (x3 : Vec F S8x512x128 .bf16) (x4 : Vec F S8x512x64 .bf16) (x5 : Vec F S8x8x1x128 .f32) (x6 : Vec F S8x8x128x128 .bf16) (x7 : Vec F S8x512x128 .bf16) (xs0 : Vec F S8x128x128 .f32) :
    Σ' (L8 : List (View.Piece (Elt F) S8x512x128 .bf16)), Σ' (L9 : List (View.Piece (Elt F) S8x512x128 .bf16)), Σ' (L10 : List (View.Piece (Elt F) S8x512x128 .bf16)), Σ' (L11 : List (View.Piece (Elt F) S8x512x128 .bf16)), Σ' (L12 : List (View.Piece (Elt F) S8x512x64 .bf16)), Σ' (L13 : List (View.Piece (Elt F) S8x8x1x128 .f32)), { LS0 : List (View.Piece (Elt F) S8x128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f LS0)) -∗ K ⟨⟩))
          ⊢ wp frame (wpE (defs₀ (F := F)) Variants.none c none) E (cc1_gdn_scan_bwd i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, ?_, fun E K => ?run⟩
  case run =>
    simp only [cc1_gdn_scan_bwd_eq_skeleton]; unfold cc1_gdn_scan_bwd_skel
    simp only [k1_part16_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg15.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact HS0

end Cert.KernelIdeal.Scan.Bwd

end
-- ==== Proof.Scan.BwdDat.lean ====
/- The backward scan over its whole grid: what each output and the carried state hold after every point, and that the body keeps to it. -/
module

public import proofs.«01_k».proof.Proof.Scan.BwdA
public import proofs.«01_k».proof.Proof.Scan.BwdB

@[expose] public section

set_option maxRecDepth 16384

noncomputable section

namespace Cert.KernelIdeal.Scan.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (c : Dev nD) (i : grid1.Coords) (arg1 : Memref sig .tc .vmem S8x512x128 .f32) (harg1 : arg1.IsWhole) (arg2 : Memref sig .tc .vmem S8x512x128 .bf16) (harg2 : arg2.IsWhole) (arg3 : Memref sig .tc .vmem S8x512x128 .bf16) (harg3 : arg3.IsWhole) (arg4 : Memref sig .tc .vmem S8x512x128 .bf16) (harg4 : arg4.IsWhole) (arg5 : Memref sig .tc .vmem S8x512x64 .bf16) (harg5 : arg5.IsWhole) (arg6 : Memref sig .tc .vmem S8x8x1x128 .f32) (harg6 : arg6.IsWhole) (arg7 : Memref sig .tc .vmem S8x8x128x128 .bf16) (harg7 : arg7.IsWhole) (arg8 : Memref sig .tc .vmem S8x512x128 .bf16) (harg8 : arg8.IsWhole) (arg9 : Memref sig .tc .vmem S8x512x128 .bf16) (harg9 : arg9.IsWhole) (arg10 : Memref sig .tc .vmem S8x512x128 .bf16) (harg10 : arg10.IsWhole) (arg11 : Memref sig .tc .vmem S8x512x128 .bf16) (harg11 : arg11.IsWhole) (arg12 : Memref sig .tc .vmem S8x512x128 .bf16) (harg12 : arg12.IsWhole) (arg13 : Memref sig .tc .vmem S8x512x64 .bf16) (harg13 : arg13.IsWhole) (arg14 : Memref sig .tc .vmem S8x8x1x128 .f32) (harg14 : arg14.IsWhole) (arg15 : Memref sig .tc .vmem S8x128x128 .f32) (harg15 : arg15.IsWhole) (hc0 : cond0_0 i)
    (x0 : Vec F S8x512x128 .f32) (x1 : Vec F S8x512x128 .bf16) (x2 : Vec F S8x512x128 .bf16) (x3 : Vec F S8x512x128 .bf16) (x4 : Vec F S8x512x64 .bf16) (x5 : Vec F S8x8x1x128 .f32) (x6 : Vec F S8x8x128x128 .bf16) (x7 : Vec F S8x512x128 .bf16)

theorem cover0_A_8 (y : S8x512x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).1, y ∈ pc.1.set :=
  View.cover_of_tiledL (s := S8x512x128) _ S8x64x128.size (by sl_kernel_rfl) y

def out0_A_8 : Vec F S8x512x128 .bf16 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).1)

theorem cover0_A_9 (y : S8x512x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.1, y ∈ pc.1.set :=
  View.cover_of_tiledL (s := S8x512x128) _ S8x64x128.size (by sl_kernel_rfl) y

def out0_A_9 : Vec F S8x512x128 .bf16 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.1)

theorem cover0_A_10 (y : S8x512x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.1, y ∈ pc.1.set :=
  View.cover_of_tiledL (s := S8x512x128) _ S8x64x128.size (by sl_kernel_rfl) y

def out0_A_10 : Vec F S8x512x128 .bf16 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.1)

theorem cover0_A_11 (y : S8x512x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.1, y ∈ pc.1.set :=
  View.cover_of_tiledL (s := S8x512x128) _ S8x64x128.size (by sl_kernel_rfl) y

def out0_A_11 : Vec F S8x512x128 .bf16 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.1)

theorem cover0_A_12 (y : S8x512x64.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.1, y ∈ pc.1.set :=
  View.cover_of_tiledL (s := S8x512x64) _ S8x64x64.size (by sl_kernel_rfl) y

def out0_A_12 : Vec F S8x512x64 .bf16 :=
  VO0_12.read (Elt F) (VO0_12.writes (Elt F) VO0_12.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.1)

theorem cover0_A_13 (y : S8x8x1x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.2.1, y ∈ pc.1.set :=
  View.cover_of_tiledL (s := S8x8x1x128) _ S8x1x1x128.size (by sl_kernel_rfl) y

def out0_A_13 : Vec F S8x8x1x128 .f32 :=
  VO0_13.read (Elt F) (VO0_13.writes (Elt F) VO0_13.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.2.1)

theorem scover0_A_0 (y : S8x128x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.2.2.1, y ∈ pc.1.set :=
  View.cover_of_tiledL (s := S8x128x128) _ S8x128x128.size (by sl_kernel_rfl) y

def sout0_A_0 : Vec F S8x128x128 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.2.2.1)

end

section
variable (c : Dev nD) (i : grid1.Coords) (arg1 : Memref sig .tc .vmem S8x512x128 .f32) (harg1 : arg1.IsWhole) (arg2 : Memref sig .tc .vmem S8x512x128 .bf16) (harg2 : arg2.IsWhole) (arg3 : Memref sig .tc .vmem S8x512x128 .bf16) (harg3 : arg3.IsWhole) (arg4 : Memref sig .tc .vmem S8x512x128 .bf16) (harg4 : arg4.IsWhole) (arg5 : Memref sig .tc .vmem S8x512x64 .bf16) (harg5 : arg5.IsWhole) (arg6 : Memref sig .tc .vmem S8x8x1x128 .f32) (harg6 : arg6.IsWhole) (arg7 : Memref sig .tc .vmem S8x8x128x128 .bf16) (harg7 : arg7.IsWhole) (arg8 : Memref sig .tc .vmem S8x512x128 .bf16) (harg8 : arg8.IsWhole) (arg9 : Memref sig .tc .vmem S8x512x128 .bf16) (harg9 : arg9.IsWhole) (arg10 : Memref sig .tc .vmem S8x512x128 .bf16) (harg10 : arg10.IsWhole) (arg11 : Memref sig .tc .vmem S8x512x128 .bf16) (harg11 : arg11.IsWhole) (arg12 : Memref sig .tc .vmem S8x512x128 .bf16) (harg12 : arg12.IsWhole) (arg13 : Memref sig .tc .vmem S8x512x64 .bf16) (harg13 : arg13.IsWhole) (arg14 : Memref sig .tc .vmem S8x8x1x128 .f32) (harg14 : arg14.IsWhole) (arg15 : Memref sig .tc .vmem S8x128x128 .f32) (harg15 : arg15.IsWhole) (hc0 : ¬cond0_0 i)
    (x0 : Vec F S8x512x128 .f32) (x1 : Vec F S8x512x128 .bf16) (x2 : Vec F S8x512x128 .bf16) (x3 : Vec F S8x512x128 .bf16) (x4 : Vec F S8x512x64 .bf16) (x5 : Vec F S8x8x1x128 .f32) (x6 : Vec F S8x8x128x128 .bf16) (x7 : Vec F S8x512x128 .bf16) (xs0 : Vec F S8x128x128 .f32)

theorem cover0_B_8 (y : S8x512x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).1, y ∈ pc.1.set :=
  View.cover_of_tiledL (s := S8x512x128) _ S8x64x128.size (by sl_kernel_rfl) y

def out0_B_8 : Vec F S8x512x128 .bf16 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).1)

theorem cover0_B_9 (y : S8x512x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.1, y ∈ pc.1.set :=
  View.cover_of_tiledL (s := S8x512x128) _ S8x64x128.size (by sl_kernel_rfl) y

def out0_B_9 : Vec F S8x512x128 .bf16 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.1)

theorem cover0_B_10 (y : S8x512x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.1, y ∈ pc.1.set :=
  View.cover_of_tiledL (s := S8x512x128) _ S8x64x128.size (by sl_kernel_rfl) y

def out0_B_10 : Vec F S8x512x128 .bf16 :=
  VO0_10.read (Elt F) (VO0_10.writes (Elt F) VO0_10.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.1)

theorem cover0_B_11 (y : S8x512x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.2.1, y ∈ pc.1.set :=
  View.cover_of_tiledL (s := S8x512x128) _ S8x64x128.size (by sl_kernel_rfl) y

def out0_B_11 : Vec F S8x512x128 .bf16 :=
  VO0_11.read (Elt F) (VO0_11.writes (Elt F) VO0_11.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.2.1)

theorem cover0_B_12 (y : S8x512x64.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.2.2.1, y ∈ pc.1.set :=
  View.cover_of_tiledL (s := S8x512x64) _ S8x64x64.size (by sl_kernel_rfl) y

def out0_B_12 : Vec F S8x512x64 .bf16 :=
  VO0_12.read (Elt F) (VO0_12.writes (Elt F) VO0_12.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.2.2.1)

theorem cover0_B_13 (y : S8x8x1x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.2.2.2.1, y ∈ pc.1.set :=
  View.cover_of_tiledL (s := S8x8x1x128) _ S8x1x1x128.size (by sl_kernel_rfl) y

def out0_B_13 : Vec F S8x8x1x128 .f32 :=
  VO0_13.read (Elt F) (VO0_13.writes (Elt F) VO0_13.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.2.2.2.1)

theorem scover0_B_0 (y : S8x128x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.2.2.2.2.1, y ∈ pc.1.set :=
  View.cover_of_tiledL (s := S8x128x128) _ S8x128x128.size (by sl_kernel_rfl) y

def sout0_B_0 : Vec F S8x128x128 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.2.2.2.2.1)

end

variable (V : (c : Dev nD) → (b : Ref sig .tc) → Buf (Elt F) ((c : Thread nD τ).loc b))

/-! ## What the outputs hold after each point -/

/-- What a point leaves where the carried state starts from nothing. -/
abbrev tupA (c : Dev nD) (t : Fin cfg1.N) (h0 : t.val % 16 = 0) : Vec F S8x512x128 .bf16 × Vec F S8x512x128 .bf16 × Vec F S8x512x128 .bf16 × Vec F S8x512x128 .bf16 × Vec F S8x512x64 .bf16 × Vec F S8x8x1x128 .f32 × Vec F S8x128x128 .f32 :=
  (out0_A_8 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) (iblk V c 0 t) (iblk V c 1 t) (iblk V c 2 t) (iblk V c 3 t) (iblk V c 4 t) (iblk V c 5 t) (iblk V c 6 t) (iblk V c 7 t), out0_A_9 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) (iblk V c 0 t) (iblk V c 1 t) (iblk V c 2 t) (iblk V c 3 t) (iblk V c 4 t) (iblk V c 5 t) (iblk V c 6 t) (iblk V c 7 t), out0_A_10 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) (iblk V c 0 t) (iblk V c 1 t) (iblk V c 2 t) (iblk V c 3 t) (iblk V c 4 t) (iblk V c 5 t) (iblk V c 6 t) (iblk V c 7 t), out0_A_11 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) (iblk V c 0 t) (iblk V c 1 t) (iblk V c 2 t) (iblk V c 3 t) (iblk V c 4 t) (iblk V c 5 t) (iblk V c 6 t) (iblk V c 7 t), out0_A_12 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) (iblk V c 0 t) (iblk V c 1 t) (iblk V c 2 t) (iblk V c 3 t) (iblk V c 4 t) (iblk V c 5 t) (iblk V c 6 t) (iblk V c 7 t), out0_A_13 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) (iblk V c 0 t) (iblk V c 1 t) (iblk V c 2 t) (iblk V c 3 t) (iblk V c 4 t) (iblk V c 5 t) (iblk V c 6 t) (iblk V c 7 t), sout0_A_0 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) (iblk V c 0 t) (iblk V c 1 t) (iblk V c 2 t) (iblk V c 3 t) (iblk V c 4 t) (iblk V c 5 t) (iblk V c 6 t) (iblk V c 7 t))

/-- What a point leaves on top of the carried state `s`. -/
abbrev tupB (c : Dev nD) (t : Fin cfg1.N) (h0 : ¬t.val % 16 = 0) (s : Vec F S8x128x128 .f32) : Vec F S8x512x128 .bf16 × Vec F S8x512x128 .bf16 × Vec F S8x512x128 .bf16 × Vec F S8x512x128 .bf16 × Vec F S8x512x64 .bf16 × Vec F S8x8x1x128 .f32 × Vec F S8x128x128 .f32 :=
  (out0_B_8 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (iblk V c 0 t) (iblk V c 1 t) (iblk V c 2 t) (iblk V c 3 t) (iblk V c 4 t) (iblk V c 5 t) (iblk V c 6 t) (iblk V c 7 t) s, out0_B_9 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (iblk V c 0 t) (iblk V c 1 t) (iblk V c 2 t) (iblk V c 3 t) (iblk V c 4 t) (iblk V c 5 t) (iblk V c 6 t) (iblk V c 7 t) s, out0_B_10 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (iblk V c 0 t) (iblk V c 1 t) (iblk V c 2 t) (iblk V c 3 t) (iblk V c 4 t) (iblk V c 5 t) (iblk V c 6 t) (iblk V c 7 t) s, out0_B_11 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (iblk V c 0 t) (iblk V c 1 t) (iblk V c 2 t) (iblk V c 3 t) (iblk V c 4 t) (iblk V c 5 t) (iblk V c 6 t) (iblk V c 7 t) s, out0_B_12 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (iblk V c 0 t) (iblk V c 1 t) (iblk V c 2 t) (iblk V c 3 t) (iblk V c 4 t) (iblk V c 5 t) (iblk V c 6 t) (iblk V c 7 t) s, out0_B_13 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (iblk V c 0 t) (iblk V c 1 t) (iblk V c 2 t) (iblk V c 3 t) (iblk V c 4 t) (iblk V c 5 t) (iblk V c 6 t) (iblk V c 7 t) s, sout0_B_0 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (iblk V c 0 t) (iblk V c 1 t) (iblk V c 2 t) (iblk V c 3 t) (iblk V c 4 t) (iblk V c 5 t) (iblk V c 6 t) (iblk V c 7 t) s)

def outsAt0 (c : Dev nD) : (n : ℕ) → n < cfg1.N → Vec F S8x512x128 .bf16 × Vec F S8x512x128 .bf16 × Vec F S8x512x128 .bf16 × Vec F S8x512x128 .bf16 × Vec F S8x512x64 .bf16 × Vec F S8x8x1x128 .f32 × Vec F S8x128x128 .f32
  | 0, hn => tupA V c ⟨0, hn⟩ (Nat.zero_mod _)
  | n + 1, hn =>
    if h0 : (n + 1) % 16 = 0 then tupA V c ⟨n + 1, hn⟩ h0
    else tupB V c ⟨n + 1, hn⟩ h0 (outsAt0 c n (Nat.lt_of_succ_lt hn)).2.2.2.2.2.2

theorem outsAt0_A (c : Dev nD) (t : Fin cfg1.N) (h0 : t.val % 16 = 0) : outsAt0 V c t.val t.isLt = tupA V c t h0 := by
  obtain ⟨n, hn⟩ := t
  cases n with
  | zero => exact rfl
  | succ n => exact dif_pos h0

theorem outsAt0_B (c : Dev nD) (t : Fin cfg1.N) (h0 : ¬t.val % 16 = 0) :
    outsAt0 V c t.val t.isLt = tupB V c t h0 (outsAt0 V c (t.val - 1) (Nat.lt_of_le_of_lt (Nat.sub_le _ _) t.isLt)).2.2.2.2.2.2 := by
  obtain ⟨n, hn⟩ := t
  cases n with
  | zero => exact absurd (Nat.zero_mod _) h0
  | succ n => exact dif_neg h0

def PhiS (c : Dev nD) : (n : ℕ) → n ≤ cfg1.N → sProp 𝕄
  | 0, _ => Pipeline.ΦA spec1 c
  | n + 1, hn => iprop(iprop(owns (c : Thread nD τ) scM0_0 fullShare ((outsAt0 V c n hn).2.2.2.2.2.2)) ∗ other c)

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scM0_0 fullShare ((outsAt0 V c n hn).2.2.2.2.2.2)) ∗ other c) := rfl

theorem PhiS_pos (c : Dev nD) (n : ℕ) (h : n ≤ cfg1.N) (hz : n ≠ 0) :
    PhiS V c n h = iprop(iprop(owns (c : Thread nD τ) scM0_0 fullShare ((outsAt0 V c (n - 1) (by omega)).2.2.2.2.2.2)) ∗ other c) := by
  cases n with
  | zero => exact absurd rfl hz
  | succ n => rfl

/-! ## The pipeline's proof data -/

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => (outsAt0 V c t.val t.isLt).1
    | ⟨9, _⟩ => (outsAt0 V c t.val t.isLt).2.1
    | ⟨10, _⟩ => (outsAt0 V c t.val t.isLt).2.2.1
    | ⟨11, _⟩ => (outsAt0 V c t.val t.isLt).2.2.2.1
    | ⟨12, _⟩ => (outsAt0 V c t.val t.isLt).2.2.2.2.1
    | ⟨13, _⟩ => (outsAt0 V c t.val t.isLt).2.2.2.2.2.1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; exact Pipeline.Dat.Φ_castSucc (PhiS V c) t

theorem after0_0 (c : Dev nD) (t : Fin cfg1.N) : (dat V c).after 0 t = iblk V c 0 t := by dsimp only [dat]
theorem after0_1 (c : Dev nD) (t : Fin cfg1.N) : (dat V c).after 1 t = iblk V c 1 t := by dsimp only [dat]
theorem after0_2 (c : Dev nD) (t : Fin cfg1.N) : (dat V c).after 2 t = iblk V c 2 t := by dsimp only [dat]
theorem after0_3 (c : Dev nD) (t : Fin cfg1.N) : (dat V c).after 3 t = iblk V c 3 t := by dsimp only [dat]
theorem after0_4 (c : Dev nD) (t : Fin cfg1.N) : (dat V c).after 4 t = iblk V c 4 t := by dsimp only [dat]
theorem after0_5 (c : Dev nD) (t : Fin cfg1.N) : (dat V c).after 5 t = iblk V c 5 t := by dsimp only [dat]
theorem after0_6 (c : Dev nD) (t : Fin cfg1.N) : (dat V c).after 6 t = iblk V c 6 t := by dsimp only [dat]
theorem after0_7 (c : Dev nD) (t : Fin cfg1.N) : (dat V c).after 7 t = iblk V c 7 t := by dsimp only [dat]
theorem after0_8 (c : Dev nD) (t : Fin cfg1.N) : (dat V c).after 8 t = (outsAt0 V c t.val t.isLt).1 := by dsimp only [dat]
theorem after0_9 (c : Dev nD) (t : Fin cfg1.N) : (dat V c).after 9 t = (outsAt0 V c t.val t.isLt).2.1 := by dsimp only [dat]
theorem after0_10 (c : Dev nD) (t : Fin cfg1.N) : (dat V c).after 10 t = (outsAt0 V c t.val t.isLt).2.2.1 := by dsimp only [dat]
theorem after0_11 (c : Dev nD) (t : Fin cfg1.N) : (dat V c).after 11 t = (outsAt0 V c t.val t.isLt).2.2.2.1 := by dsimp only [dat]
theorem after0_12 (c : Dev nD) (t : Fin cfg1.N) : (dat V c).after 12 t = (outsAt0 V c t.val t.isLt).2.2.2.2.1 := by dsimp only [dat]
theorem after0_13 (c : Dev nD) (t : Fin cfg1.N) : (dat V c).after 13 t = (outsAt0 V c t.val t.isLt).2.2.2.2.2.1 := by dsimp only [dat]

theorem before0_0 (c : Dev nD) (t : Fin cfg1.N) (d) : (dat V c).before 0 t d = iblk V c 0 t :=
  before0_0_of V (dat V c) (A_eq V c 0) (after0_0 V c) t d
theorem before0_1 (c : Dev nD) (t : Fin cfg1.N) (d) : (dat V c).before 1 t d = iblk V c 1 t :=
  before0_1_of V (dat V c) (A_eq V c 1) (after0_1 V c) t d
theorem before0_2 (c : Dev nD) (t : Fin cfg1.N) (d) : (dat V c).before 2 t d = iblk V c 2 t :=
  before0_2_of V (dat V c) (A_eq V c 2) (after0_2 V c) t d
theorem before0_3 (c : Dev nD) (t : Fin cfg1.N) (d) : (dat V c).before 3 t d = iblk V c 3 t :=
  before0_3_of V (dat V c) (A_eq V c 3) (after0_3 V c) t d
theorem before0_4 (c : Dev nD) (t : Fin cfg1.N) (d) : (dat V c).before 4 t d = iblk V c 4 t :=
  before0_4_of V (dat V c) (A_eq V c 4) (after0_4 V c) t d
theorem before0_5 (c : Dev nD) (t : Fin cfg1.N) (d) : (dat V c).before 5 t d = iblk V c 5 t :=
  before0_5_of V (dat V c) (A_eq V c 5) (after0_5 V c) t d
theorem before0_6 (c : Dev nD) (t : Fin cfg1.N) (d) : (dat V c).before 6 t d = iblk V c 6 t :=
  before0_6_of V (dat V c) (A_eq V c 6) (after0_6 V c) t d
theorem before0_7 (c : Dev nD) (t : Fin cfg1.N) (d) : (dat V c).before 7 t d = iblk V c 7 t :=
  before0_7_of V (dat V c) (A_eq V c 7) (after0_7 V c) t d

/-! ## The body obligation, at a generic point -/

def bodyPre (c : Dev nD) (t : Fin cfg1.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d))
    ∗ (∃ d, owns (c : Thread nD τ) (ms0_3 t) fullShare ((dat V c).before 3 t d))
    ∗ (∃ d, owns (c : Thread nD τ) (ms0_4 t) fullShare ((dat V c).before 4 t d))
    ∗ (∃ d, owns (c : Thread nD τ) (ms0_5 t) fullShare ((dat V c).before 5 t d))
    ∗ (∃ d, owns (c : Thread nD τ) (ms0_6 t) fullShare ((dat V c).before 6 t d))
    ∗ (∃ d, owns (c : Thread nD τ) (ms0_7 t) fullShare ((dat V c).before 7 t d))
    ∗ (∃ d, owns (c : Thread nD τ) (ms0_8 t) fullShare ((dat V c).before 8 t d))
    ∗ (∃ d, owns (c : Thread nD τ) (ms0_9 t) fullShare ((dat V c).before 9 t d))
    ∗ (∃ d, owns (c : Thread nD τ) (ms0_10 t) fullShare ((dat V c).before 10 t d))
    ∗ (∃ d, owns (c : Thread nD τ) (ms0_11 t) fullShare ((dat V c).before 11 t d))
    ∗ (∃ d, owns (c : Thread nD τ) (ms0_12 t) fullShare ((dat V c).before 12 t d))
    ∗ (∃ d, owns (c : Thread nD τ) (ms0_13 t) fullShare ((dat V c).before 13 t d)))

def bodyPost (c : Dev nD) (t : Fin cfg1.N) : sProp 𝕄 :=
  iprop((dat V c).Φ t.succ ∗ (dat V c).owesAt () t.succ
    ∗ owns (c : Thread nD τ) (ms0_0 t) fullShare ((dat V c).after 0 t)
    ∗ owns (c : Thread nD τ) (ms0_1 t) fullShare ((dat V c).after 1 t)
    ∗ owns (c : Thread nD τ) (ms0_2 t) fullShare ((dat V c).after 2 t)
    ∗ owns (c : Thread nD τ) (ms0_3 t) fullShare ((dat V c).after 3 t)
    ∗ owns (c : Thread nD τ) (ms0_4 t) fullShare ((dat V c).after 4 t)
    ∗ owns (c : Thread nD τ) (ms0_5 t) fullShare ((dat V c).after 5 t)
    ∗ owns (c : Thread nD τ) (ms0_6 t) fullShare ((dat V c).after 6 t)
    ∗ owns (c : Thread nD τ) (ms0_7 t) fullShare ((dat V c).after 7 t)
    ∗ owns (c : Thread nD τ) (ms0_8 t) fullShare ((dat V c).after 8 t)
    ∗ owns (c : Thread nD τ) (ms0_9 t) fullShare ((dat V c).after 9 t)
    ∗ owns (c : Thread nD τ) (ms0_10 t) fullShare ((dat V c).after 10 t)
    ∗ owns (c : Thread nD τ) (ms0_11 t) fullShare ((dat V c).after 11 t)
    ∗ owns (c : Thread nD τ) (ms0_12 t) fullShare ((dat V c).after 12 t)
    ∗ owns (c : Thread nD τ) (ms0_13 t) fullShare ((dat V c).after 13 t))

set_option maxHeartbeats 9600000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0_0, before0_1, before0_2, before0_3, before0_4, before0_5, before0_6, before0_7]
  rw [show (dat V c).owesAt () t.succ = (dat V c).owesAt () t.castSucc from rfl,
    after0_0, after0_1, after0_2, after0_3, after0_4, after0_5, after0_6, after0_7, after0_8, after0_9, after0_10, after0_11, after0_12, after0_13]
  rw [show (dat V c).Φ t.succ = PhiS V c (t.val + 1) t.isLt from rfl, PhiS_succ]
  have hN : t.val < 16 := lt_of_lt_of_eq t.isLt (show cfg1.N = 16 from N_1)
  by_cases h0 : t.val % 16 = 0
  · by_cases hz : t.val = 0
    · rw [PhiS_castSucc V c t, PhiS_zero V c _ _ hz, PhiA0_eq]
      rw [outsAt0_A V c t h0]
      unfold tupA out0_A_8 out0_A_9 out0_A_10 out0_A_11 out0_A_12 out0_A_13 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((kernelRun0_A c (grid1.coords t) _ _ _ _ _ _ _ _ _ _ _ _ _ _ _ _ _ _ _ _ _ _ _ _ _ _ _ _ _ _ ((hcond0_0 t).mpr h0) (iblk V c 0 t) (iblk V c 1 t) (iblk V c 2 t) (iblk V c 3 t) (iblk V c 4 t) (iblk V c 5 t) (iblk V c 6 t) (iblk V c 7 t)).2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      isplitl [HS0]; · iexact HS0
      iintro ⟨H0, H1, H2, H3, H4, H5, H6, H7, ⟨%e8, H8⟩, ⟨%e9, H9⟩, ⟨%e10, H10⟩, ⟨%e11, H11⟩, ⟨%e12, H12⟩, ⟨%e13, H13⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover0_A_10 c _ _ _ _ _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_of_cover _ _ _ _ _ (cover0_A_11 c _ _ _ _ _ _ _ _ _ _ _ _ _ _ _ _ _ _ _ _ _ _ _ _ _ _ _ _ _ _ _ _ _ _ _ _ _ _ _ _)
      isplitl [H12]
      · unfold owns; iexists _; isplitr
        swap; · iexact H12
        ipureintro; exact View.read_writes_of_cover _ _ _ _ _ (cover0_A_12 c _ _ _ _ _ _ _ _ _ _ _ _ _ _ _ _ _ _ _ _ _ _ _ _ _ _ _ _ _ _ _ _ _ _ _ _ _ _ _ _)
      unfold owns; iexists _; isplitr
      swap; · iexact H13
      ipureintro; exact View.read_writes_of_cover _ _ _ _ _ (cover0_A_13 c _ _ _ _ _ _ _ _ _ _ _ _ _ _ _ _ _ _ _ _ _ _ _ _ _ _ _ _ _ _ _ _ _ _ _ _ _ _ _ _)
    · exfalso; have hN : t.val < 16 := lt_of_lt_of_eq t.isLt (show cfg1.N = 16 from N_1); omega
  · by_cases hz : t.val = 0
    · exfalso; have hN : t.val < 16 := lt_of_lt_of_eq t.isLt (show cfg1.N = 16 from N_1); omega
    · rw [PhiS_castSucc V c t, PhiS_pos V c _ _ hz]
      rw [outsAt0_B V c t h0]
      unfold tupB out0_B_8 out0_B_9 out0_B_10 out0_B_11 out0_B_12 out0_B_13 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((kernelRun0_B c (grid1.coords t) _ _ _ _ _ _ _ _ _ _ _ _ _ _ _ _ _ _ _ _ _ _ _ _ _ _ _ _ _ _ (fun h => h0 ((hcond0_0 t).mp h)) (iblk V c 0 t) (iblk V c 1 t) (iblk V c 2 t) (iblk V c 3 t) (iblk V c 4 t) (iblk V c 5 t) (iblk V c 6 t) (iblk V c 7 t) _).2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      isplitl [HS0]; · iexact HS0
      iintro ⟨H0, H1, H2, H3, H4, H5, H6, H7, ⟨%e8, H8⟩, ⟨%e9, H9⟩, ⟨%e10, H10⟩, ⟨%e11, H11⟩, ⟨%e12, H12⟩, ⟨%e13, H13⟩, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_B_8 c _ _ _ _ _ _ _ _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_B_9 c _ _ _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover0_B_10 c _ _ _ _ _ _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_of_cover _ _ _ _ _ (cover0_B_11 c _ _ _ _ _ _ _ _ _ _ _ _ _ _ _ _ _ _ _ _ _ _ _ _ _ _ _ _ _ _ _ _ _ _ _ _ _ _ _ _ _)
      isplitl [H12]
      · unfold owns; iexists _; isplitr
        swap; · iexact H12
        ipureintro; exact View.read_writes_of_cover _ _ _ _ _ (cover0_B_12 c _ _ _ _ _ _ _ _ _ _ _ _ _ _ _ _ _ _ _ _ _ _ _ _ _ _ _ _ _ _ _ _ _ _ _ _ _ _ _ _ _)
      unfold owns; iexists _; isplitr
      swap; · iexact H13
      ipureintro; exact View.read_writes_of_cover _ _ _ _ _ (cover0_B_13 c _ _ _ _ _ _ _ _ _ _ _ _ _ _ _ _ _ _ _ _ _ _ _ _ _ _ _ _ _ _ _ _ _ _ _ _ _ _ _ _ _)

theorem defs₀_row (t : Fin cfg1.N) :
    defs₀ (F := F) .tc cfg1.body (cfg1.bodyArgs t (cfg1.slots t)) = bodyAt1 t := by
  unfold defs₀; rw [Defs.onTc_tc]

theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA0_eq]
  iintro ⟨HS0, Hg⟩
  isplitl [HS0]
  · iexists _; iexact HS0
  iexact Hg

theorem hout (c : Dev nD) : (dat V c).Φ (Fin.last cfg1.N) ⊢ Pipeline.ΦA spec1 c :=
  Phi_out V c _ (by rw [Fin.val_last]; have : cfg1.N = 16 := N_1; omega)

end Cert.KernelIdeal.Scan.Bwd

end
-- ==== Proof.Scan.Run.lean ====
/- The run of the two scans: the forward call, then the backward call, each entered from the buffers the item before it left. -/
module

public import proofs.«01_k».proof.Proof.Scan.FwdDat
public import proofs.«01_k».proof.Proof.Scan.BwdDat
public import proofs.«01_k».proof.Proof.Gen.KernelIdeal.Regions
public import Idealize.ShloMosaic.Lib.Pipeline.RegionArraysS

@[expose] public section

noncomputable section

namespace Cert.KernelIdeal.Scan

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The forward call's data, entered from what the host operations leave. -/
def d0 (c : Dev nD) : Dat τ (Elt F) Unit ℕ (UR sig nD τ) ℕ cfg0 c :=
  Fwd.dat (fun c b => V1 m c (Proc.devRef .tc b)) c
/-- The buffers after the forward call. -/
def W2 (c : Dev nD) : Valuation τ sig (Elt F) := Pipeline.afterRegion (d0 m c) (V1 m c)
/-- The backward call's data, entered from what the forward call leaves. -/
def d1 (c : Dev nD) : Dat τ (Elt F) Unit ℕ (UR sig nD τ) ℕ cfg1 c :=
  Bwd.dat (fun c b => W2 m c (Proc.devRef .tc b)) c
/-- The buffers at the end. -/
def W3 (c : Dev nD) : Valuation τ sig (Elt F) := Pipeline.afterRegion (d1 m c) (W2 m c)

abbrev pdats : (p : Fin 2) → (c : Dev nD) → Dat τ (Elt F) Unit ℕ (UR sig nD τ) ℕ (cfgs p) c := fun p =>
  match p with
  | ⟨0, _⟩ => d0 m
  | ⟨1, _⟩ => d1 m

/-- The cells of the cores that run the pipelines, each with the one index. -/
def lvlSet : GSem nD τ sig → Finset Unit := fun g => if g.1.2 = .tc then {()} else ∅
abbrev lvl : GSem nD τ sig → Unit → ℕ := fun _ _ => 0

theorem lvlSet_off (g : GSem nD τ sig) (h : g.1.2 ≠ .tc) : lvlSet g = ∅ := if_neg h

theorem cut (p : Fin 2) : Pipeline.LevelCut (pcfgs (F := F)) adm () lvlSet lvl p (fun _ => 0) (fun _ => 0) where
  hι c w s := by unfold lvlSet; rw [if_pos rfl]; exact Finset.mem_singleton_self _
  hιb _ _ _ := le_refl _
  hD _ _ _ h := absurd h (Nat.lt_irrefl 0)

/-- What a core keeps beside its buffers: nothing owed, and the generator register at something. -/
abbrev prng (c : Dev nD) : sProp 𝕄 := iprop(∃ r, prngReg c r)
abbrev Rest (c : Dev nD) : sProp 𝕄 :=
  iprop((∃ Wd, owes (c : Thread nD τ) (0 : CellTallies nD τ sig Unit) Wd) ∗ prng c ∗ BI.emp)

set_option backward.isDefEq.respectTransparency.types false in
def reg0 : RegionSeg (pcfgs (F := F)) adm (pdats m) () defs₀ Variants.none lvlSet lvl 0 :=
  RegionSeg.ofHeldIn (pcfgs (F := F)) adm (pdats m) () defs₀ Variants.none lvlSet lvl 0 (fun _ => 0)
    (Pipeline.ucRefs τ sig) prng prng launch0.toP rfl
    (fun c => (Fwd.body_obligation (fun c b => V1 m c (Proc.devRef .tc b)) c).loose)
    (fun _ _ => rfl) (fun _ => rfl) (fun c => (d0 m c).share_full fun _ => rfl)
    (fun c => Fwd.hin (fun c b => V1 m c (Proc.devRef .tc b)) c)
    (fun c => Fwd.hout (fun c b => V1 m c (Proc.devRef .tc b)) c)
    (fun _ => 0) (cut 0) (fun _ => BI.emp) (V1 m) (fun _ _ => rfl)

set_option backward.isDefEq.respectTransparency.types false in
def reg1 : RegionSeg (pcfgs (F := F)) adm (pdats m) () defs₀ Variants.none lvlSet lvl 1 :=
  RegionSeg.ofHeldIn (pcfgs (F := F)) adm (pdats m) () defs₀ Variants.none lvlSet lvl 1 (fun _ => 0)
    (Pipeline.ucRefs τ sig) prng prng launch1.toP rfl
    (fun c => (Bwd.body_obligation (fun c b => W2 m c (Proc.devRef .tc b)) c).loose)
    (fun _ _ => rfl) (fun _ => rfl) (fun c => (d1 m c).share_full fun _ => rfl)
    (fun c => Bwd.hin (fun c b => W2 m c (Proc.devRef .tc b)) c)
    (fun c => Bwd.hout (fun c b => W2 m c (Proc.devRef .tc b)) c)
    (fun _ => 0) (cut 1) (fun _ => BI.emp) (W2 m) (fun _ _ => rfl)

theorem sub0 : Pipeline.arrRefs (τ := τ) (pcfgs (F := F) 0).spec ⊆ Pipeline.ucRefs τ sig := Pipeline.arrRefs_sub_ucRefs spec0 (by decide)
theorem sub1 : Pipeline.arrRefs (τ := τ) (pcfgs (F := F) 1).spec ⊆ Pipeline.ucRefs τ sig := Pipeline.arrRefs_sub_ucRefs spec1 (by decide)

set_option backward.isDefEq.respectTransparency.types false in
theorem pre0 (c : Dev nD) : iprop(StableHlo.held (c : Thread nD τ) (Pipeline.ucRefs τ sig) (V1 m c) ∗ Rest c) ⊢ (reg0 m).pre c := by
  delta reg0
  exact RegionSeg.ofHeldIn_pre (p := 0) (D := fun _ => 0) (X := prng) (Y := prng) (R := fun _ => BI.emp) (W := V1 m) sub0 c
set_option backward.isDefEq.respectTransparency.types false in
theorem post0 (c : Dev nD) : (reg0 m).post c ⊢ iprop(StableHlo.held (c : Thread nD τ) (Pipeline.ucRefs τ sig) (W2 m c) ∗ Rest c) := by
  delta reg0 W2
  exact RegionSeg.ofHeldIn_post (p := 0) (D := fun _ => 0) (X := prng) (Y := prng) (R := fun _ => BI.emp) (W := V1 m) sub0 c
set_option backward.isDefEq.respectTransparency.types false in
theorem pre1 (c : Dev nD) : iprop(StableHlo.held (c : Thread nD τ) (Pipeline.ucRefs τ sig) (W2 m c) ∗ Rest c) ⊢ (reg1 m).pre c := by
  delta reg1
  exact RegionSeg.ofHeldIn_pre (p := 1) (D := fun _ => 0) (X := prng) (Y := prng) (R := fun _ => BI.emp) (W := W2 m) sub1 c
set_option backward.isDefEq.respectTransparency.types false in
theorem post1 (c : Dev nD) : (reg1 m).post c ⊢ iprop(StableHlo.held (c : Thread nD τ) (Pipeline.ucRefs τ sig) (W3 m c) ∗ Rest c) := by
  delta reg1 W3
  exact RegionSeg.ofHeldIn_post (p := 1) (D := fun _ => 0) (X := prng) (Y := prng) (R := fun _ => BI.emp) (W := W2 m) sub1 c

set_option backward.isDefEq.respectTransparency.types false in
/-- Every weakly fair execution terminates, every buffer that outlives the calls holds what `W3` says, and every counter
    is at zero. -/
theorem run_main (ρ : Dev nD → PrngReg) :
    θ_run defs (onTc (τ := τ) (main (F := F))) ⟨m, fun _ => 0, ρ⟩ (fun r =>
      (∀ c : Dev nD, ∀ b ∈ Pipeline.ucRefs τ sig, r.2.mem (c, b) = W3 m c b) ∧ r.2.sem = fun _ => 0) := by
  refine Pipeline.θ_run_regions_kit_dev_sems (pcfgs (F := F)) adm (pdats m) () cellOf_inj emb₁ defs₀ Variants.none lvlSet lvl m ρ main
    (segs m Variants.none lvlSet lvl (fun _ => Rest) () (pdats m) (reg0 m) (reg1 m))
    (fun c Q => by
      rewrite [main_chain c, Seg.run_eq_chain,
        show (segs m Variants.none lvlSet lvl (fun _ => Rest) () (pdats m) (reg0 m) (reg1 m) c).map Seg.prog = [
          StableHlo.seq hostOps0,
          Prog.lift (.customCall (Pipeline.entry 0) ()),
          Prog.lift (.customCall (Pipeline.entry 1) ()) ] from rfl]
      dsimp (config := { failIfUnchanged := false }) only
      exact .rfl)
    (fun c => by simp only [segs, Seg.pipes_host, Seg.pipes_region, Seg.pipes_nil]; decide) (fun _ => 0) lvlSet_off (fun _ => BI.emp)
    (initOf (Pipeline.cells cfgs cellOf_inj) (Pipeline.launchToks cfgs cellOf_inj))
    ?_
    (T₀ := fun c => iprop(StableHlo.held (c : Thread nD τ) (Pipeline.ucRefs τ sig) (V0 m c) ∗ Rest c))
    (Tₙ := fun c => iprop(StableHlo.held (c : Thread nD τ) (Pipeline.ucRefs τ sig) (W3 m c)))
    (hch := fun c => ⟨.rfl, pre0 m c, (post0 m c).trans (pre1 m c), (post1 m c).trans ?_⟩)
    (hinit := ?_) (QY := fun c s => ∀ b ∈ Pipeline.ucRefs τ sig, s.mem (c, b) = W3 m c b)
    (hfin := fun c s' => ?_) (hQ := fun _ h hz => ⟨h, funext fun g => hz g (.inr (regions_no_unscoped g.2))⟩)
  · iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · iintro ⟨Hh, HO, -, -⟩
    isplitl [Hh]; · iexact Hh
    iexact HO
  · refine Pipeline.initEach lvlSet lvl fun c => ?_
    rw [show unscopedBufs c (fun b => m ((c : Thread nD τ).loc b)) = StableHlo.held (c : Thread nD τ) (Pipeline.ucRefs τ sig) (V0 m c) from
      Pipeline.unscopedBufs_held c (V0 m c)]
    iintro ⟨⟨Hh, -, HO, -, Hp, -⟩, -⟩
    imodintro
    isplitl [Hh]; · iexact Hh
    isplitl [HO]; · iexists ∅; iexact HO
    isplitl [Hp]; · iexists _; iexact Hp
    iempintro
  · unfold StableHlo.held
    iintro ⟨Hh, HSI⟩
    ihave Hr := (pointsTo_read_all (Pipeline.ucRefs τ sig) (fun b => ((c : Thread nD τ).1, b)) (W3 m c) s') $$ [Hh HSI]
    · isplitl [Hh] <;> iassumption
    icases Hr with ⟨%h, HSI⟩
    imodintro
    isplitr
    · ipureintro; exact h
    · iexact HSI

end Cert.KernelIdeal.Scan

end
-- ==== Proof.Scan.RefRun.lean ====
/- The reference program's run: host operations, the loop of the forward scan, host operations, the loop of the backward
   scan, host operations. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

noncomputable section

namespace Cert.ReferenceIdeal.Scan

open Idealize.ShloMosaic Idealize.ShloMosaic.TcCoe Cert.ReferenceIdeal Cert.ReferenceIdeal.Gen
open Idealize.SL Idealize.SL.RA Idealize.SL.BI
open scoped Idealize.SL.BI
open Idealize.SL.BI.BIBase Idealize.SL.BI.Laws Idealize.SL.ProofMode Idealize.SL.Sem
open Idealize.ShloMosaic.Pipeline (CSeg Ticket PCfg ucRefs unscopedBufs_held sub_ucRefs)
open Idealize.ShloMosaic.StableHlo

variable {F : FTy → Type} [FloatOps F]

local notation "T(" S ", " e ")" => BufTy.Contents (Elt F) (BufTy.mk S e)

/-- Operations that make nothing afresh. -/
abbrev Fresh (l : List (HloOp τ sig (Elt F))) : Prop := l.Forall fun op => op.fresh = ∅
/-- Operations on the core's own references. -/
abbrev Subs (l : List (HloOp τ sig (Elt F))) : Prop := l.Forall fun op => op.bufs ⊆ StableHlo.tcRefs τ sig
/-- Operations that write these references only. -/
abbrev Writes (l : List (HloOp τ sig (Elt F))) (W : List (Ref sig .tc)) : Prop := l.Forall fun op => op.writes ⊆ (W.map (Proc.devRef (τ := τ) .tc)).toFinset

/-- A tensor of the reference's signature. -/
abbrev R (S : Shape) (e : EltTy) := StableHlo.TRef sig ⟨S, e⟩
/-- The reference's host programs. -/
abbrev HP := Prog (TpuEff nD τ sig (Elt F) (HostLoop.Sig (Pipeline.Sig Λ₀ (Fin 0) fun p => (pcfgs (F := F) p).Adm) 2) .tc) PUnit
abbrev hostOps0 : List (HloOp τ sig (Elt F)) :=
  ( unary main_arg2 main_v0 ((extf .f32 · bitsLt_bf16_f32) : T(S8x8192x128, .bf16) → T(S8x8192x128, .f32))
  :: StableHlo.reshape main_v0 main_v1 (rfl : (.f32 : EltTy) = .f32) shapeCasts_S8x8192x128_S8x128x64x128
  :: unary main_v1 main_v2 ((transpose S128x8x64x128 [1, 0, 2, 3] · transposes_S8x128x64x128_S128x8x64x128_1_0_2_3) : T(S8x128x64x128, .f32) → T(S128x8x64x128, .f32))
  :: unary main_arg3 main_v3 ((extf .f32 · bitsLt_bf16_f32) : T(S8x8192x128, .bf16) → T(S8x8192x128, .f32))
  :: StableHlo.reshape main_v3 main_v4 (rfl : (.f32 : EltTy) = .f32) shapeCasts_S8x8192x128_S8x128x64x128
  :: unary main_v4 main_v5 ((transpose S128x8x64x128 [1, 0, 2, 3] · transposes_S8x128x64x128_S128x8x64x128_1_0_2_3) : T(S8x128x64x128, .f32) → T(S128x8x64x128, .f32))
  :: StableHlo.reshape main_arg0 main_v6 (rfl : (.f32 : EltTy) = .f32) shapeCasts_S8x8192x128_S8x128x64x128
  :: unary main_v6 main_v7 ((transpose S128x8x64x128 [1, 0, 2, 3] · transposes_S8x128x64x128_S128x8x64x128_1_0_2_3) : T(S8x128x64x128, .f32) → T(S128x8x64x128, .f32))
  :: unary main_arg1 main_v8 ((extf .f32 · bitsLt_bf16_f32) : T(S8x8192x128, .bf16) → T(S8x8192x128, .f32))
  :: StableHlo.reshape main_v8 main_v9 (rfl : (.f32 : EltTy) = .f32) shapeCasts_S8x8192x128_S8x128x64x128
  :: unary main_v9 main_v10 ((transpose S128x8x64x128 [1, 0, 2, 3] · transposes_S8x128x64x128_S128x8x64x128_1_0_2_3) : T(S8x128x64x128, .f32) → T(S128x8x64x128, .f32))
  :: unary main_arg4 main_v11 ((extf .f32 · bitsLt_bf16_f32) : T(S8x8192x64, .bf16) → T(S8x8192x64, .f32))
  :: StableHlo.reshape main_v11 main_v12 (rfl : (.f32 : EltTy) = .f32) shapeCasts_S8x8192x64_S8x128x64x64
  :: unary main_v12 main_v13 ((transpose S128x8x64x64 [1, 0, 2, 3] · transposes_S8x128x64x64_S128x8x64x64_1_0_2_3) : T(S8x128x64x64, .f32) → T(S128x8x64x64, .f32))
  :: unary main_arg5 main_v14 ((transpose S128x8 [1, 0] · transposes_S8x128_S128x8_1_0) : T(S8x128, .f32) → T(S128x8, .f32))
  :: nullary main_cst (constant S_ .f32 0x00000000#32)
  :: unary main_cst main_v15 (broadcastInDim S8x128x128 ![] bcast_S_S8x128x128 : T(S_, .f32) → T(S8x128x128, .f32))
  :: nullary main_cst_0 (constant S_ .f32 0x00000000#32)
  :: unary main_cst_0 main_v16 (broadcastInDim S128x8x64x128 ![] bcast_S_S128x8x64x128 : T(S_, .f32) → T(S128x8x64x128, .f32))
  :: nullary main_cst_1 (constant S_ .f32 0x00000000#32)
  :: unary main_cst_1 main_v17 (broadcastInDim S128x8x128x128 ![] bcast_S_S128x8x128x128 : T(S_, .f32) → T(S128x8x128x128, .f32))
  :: nullary main_cst_2 (constant S_ .f32 0x00000000#32)
  :: unary main_cst_2 main_v18 (broadcastInDim S128x8x64x128 ![] bcast_S_S128x8x64x128 : T(S_, .f32) → T(S128x8x64x128, .f32))
  :: nullary main_cst_3 (constant S_ .f32 0x00000000#32)
  :: unary main_cst_3 main_v19 (broadcastInDim S128x8x1x1 ![] bcast_S_S128x8x1x1 : T(S_, .f32) → T(S128x8x1x1, .f32))
  :: nullary main_c (constantI S_ 32 0#32)
  :: unary main_v2 main_v20_0 id
  :: unary main_v5 main_v20_1 id
  :: unary main_v7 main_v20_2 id
  :: unary main_v10 main_v20_3 id
  :: unary main_v13 main_v20_4 id
  :: unary main_v14 main_v20_5 id
  :: unary main_c main_v20_6 id
  :: unary main_v15 main_v20_7 id
  :: unary main_v16 main_v20_8 id
  :: unary main_v17 main_v20_9 id
  :: unary main_v18 main_v20_10 id
  :: unary main_v19 main_v20_11 id
  :: [] )
theorem hostOps0_sub : Subs (F := F) hostOps0 :=
  ⟨unary_bufs_sub .., reshape_bufs_sub .., unary_bufs_sub .., unary_bufs_sub .., reshape_bufs_sub .., unary_bufs_sub .., reshape_bufs_sub .., unary_bufs_sub .., unary_bufs_sub .., reshape_bufs_sub .., unary_bufs_sub .., unary_bufs_sub .., reshape_bufs_sub .., unary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
abbrev hostOps0_1 : List (HloOp τ sig (Elt F)) :=
  ( unary main_v20_8 main_v21 ((transpose S8x128x64x128 [1, 0, 2, 3] · transposes_S128x8x64x128_S8x128x64x128_1_0_2_3) : T(S128x8x64x128, .f32) → T(S8x128x64x128, .f32))
  :: StableHlo.reshape main_v21 main_v22 (rfl : (.f32 : EltTy) = .f32) shapeCasts_S8x128x64x128_S8x8192x128
  :: unary main_arg6 main_v23 ((extf .f32 · bitsLt_bf16_f32) : T(S8x8192x128, .bf16) → T(S8x8192x128, .f32))
  :: nullary main_cst_4 (constant S_ .f32 0x00000000#32)
  :: unary main_cst_4 main_v24 (broadcastInDim S8x128x128 ![] bcast_S_S8x128x128 : T(S_, .f32) → T(S8x128x128, .f32))
  :: StableHlo.reshape main_v23 main_v25 (rfl : (.f32 : EltTy) = .f32) shapeCasts_S8x8192x128_S8x128x64x128
  :: unary main_v25 main_v26 ((transpose S128x8x64x128 [1, 0, 2, 3] · transposes_S8x128x64x128_S128x8x64x128_1_0_2_3) : T(S8x128x64x128, .f32) → T(S128x8x64x128, .f32))
  :: nullary main_cst_5 (constant S_ .f32 0x00000000#32)
  :: unary main_cst_5 main_v27 (broadcastInDim S8x128x128 ![] bcast_S_S8x128x128 : T(S_, .f32) → T(S8x128x128, .f32))
  :: nullary main_cst_6 (constant S_ .f32 0x00000000#32)
  :: unary main_cst_6 main_v28 (broadcastInDim S128x8x64x128 ![] bcast_S_S128x8x64x128 : T(S_, .f32) → T(S128x8x64x128, .f32))
  :: nullary main_cst_7 (constant S_ .f32 0x00000000#32)
  :: unary main_cst_7 main_v29 (broadcastInDim S128x8x64x128 ![] bcast_S_S128x8x64x128 : T(S_, .f32) → T(S128x8x64x128, .f32))
  :: nullary main_cst_8 (constant S_ .f32 0x00000000#32)
  :: unary main_cst_8 main_v30 (broadcastInDim S128x8x64x128 ![] bcast_S_S128x8x64x128 : T(S_, .f32) → T(S128x8x64x128, .f32))
  :: nullary main_cst_9 (constant S_ .f32 0x00000000#32)
  :: unary main_cst_9 main_v31 (broadcastInDim S128x8x64x128 ![] bcast_S_S128x8x64x128 : T(S_, .f32) → T(S128x8x64x128, .f32))
  :: nullary main_cst_10 (constant S_ .f32 0x00000000#32)
  :: unary main_cst_10 main_v32 (broadcastInDim S128x8x64x64 ![] bcast_S_S128x8x64x64 : T(S_, .f32) → T(S128x8x64x64, .f32))
  :: nullary main_cst_11 (constant S_ .f32 0x00000000#32)
  :: unary main_cst_11 main_v33 (broadcastInDim S128x8 ![] bcast_S_S128x8 : T(S_, .f32) → T(S128x8, .f32))
  :: nullary main_c_12 (constantI S_ 32 0#32)
  :: unary main_v26 main_v34_0 id
  :: unary main_v20_9 main_v34_1 id
  :: unary main_v10 main_v34_2 id
  :: unary main_v2 main_v34_3 id
  :: unary main_v20_10 main_v34_4 id
  :: unary main_v13 main_v34_5 id
  :: unary main_v20_11 main_v34_6 id
  :: unary main_v5 main_v34_7 id
  :: unary main_c_12 main_v34_8 id
  :: unary main_v27 main_v34_9 id
  :: unary main_v28 main_v34_10 id
  :: unary main_v29 main_v34_11 id
  :: unary main_v30 main_v34_12 id
  :: unary main_v31 main_v34_13 id
  :: unary main_v32 main_v34_14 id
  :: unary main_v33 main_v34_15 id
  :: [] )
theorem hostOps0_1_sub : Subs (F := F) hostOps0_1 :=
  ⟨unary_bufs_sub .., reshape_bufs_sub .., unary_bufs_sub .., nullary_bufs_sub .., unary_bufs_sub .., reshape_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
abbrev hostOps0_2 : List (HloOp τ sig (Elt F)) :=
  [ unary main_v34_15 main_v35 ((transpose S8x128 [1, 0] · transposes_S128x8_S8x128_1_0) : T(S128x8, .f32) → T(S8x128, .f32)),
    unary main_v34_14 main_v36 ((transpose S8x128x64x64 [1, 0, 2, 3] · transposes_S128x8x64x64_S8x128x64x64_1_0_2_3) : T(S128x8x64x64, .f32) → T(S8x128x64x64, .f32)),
    StableHlo.reshape main_v36 main_v37 (rfl : (.f32 : EltTy) = .f32) shapeCasts_S8x128x64x64_S8x8192x64,
    unary main_v37 main_v38 ((truncf .bf16 · bitsLt_bf16_f32) : T(S8x8192x64, .f32) → T(S8x8192x64, .bf16)),
    unary main_v34_13 main_v39 ((transpose S8x128x64x128 [1, 0, 2, 3] · transposes_S128x8x64x128_S8x128x64x128_1_0_2_3) : T(S128x8x64x128, .f32) → T(S8x128x64x128, .f32)),
    StableHlo.reshape main_v39 main_v40 (rfl : (.f32 : EltTy) = .f32) shapeCasts_S8x128x64x128_S8x8192x128,
    unary main_v40 main_v41 ((truncf .bf16 · bitsLt_bf16_f32) : T(S8x8192x128, .f32) → T(S8x8192x128, .bf16)),
    unary main_v34_12 main_v42 ((transpose S8x128x64x128 [1, 0, 2, 3] · transposes_S128x8x64x128_S8x128x64x128_1_0_2_3) : T(S128x8x64x128, .f32) → T(S8x128x64x128, .f32)),
    StableHlo.reshape main_v42 main_v43 (rfl : (.f32 : EltTy) = .f32) shapeCasts_S8x128x64x128_S8x8192x128,
    unary main_v34_11 main_v44 ((transpose S8x128x64x128 [1, 0, 2, 3] · transposes_S128x8x64x128_S8x128x64x128_1_0_2_3) : T(S128x8x64x128, .f32) → T(S8x128x64x128, .f32)),
    StableHlo.reshape main_v44 main_v45 (rfl : (.f32 : EltTy) = .f32) shapeCasts_S8x128x64x128_S8x8192x128,
    unary main_v45 main_v46 ((truncf .bf16 · bitsLt_bf16_f32) : T(S8x8192x128, .f32) → T(S8x8192x128, .bf16)),
    unary main_v34_10 main_v47 ((transpose S8x128x64x128 [1, 0, 2, 3] · transposes_S128x8x64x128_S8x128x64x128_1_0_2_3) : T(S128x8x64x128, .f32) → T(S8x128x64x128, .f32)),
    StableHlo.reshape main_v47 main_v48 (rfl : (.f32 : EltTy) = .f32) shapeCasts_S8x128x64x128_S8x8192x128,
    unary main_v48 main_v49 ((truncf .bf16 · bitsLt_bf16_f32) : T(S8x8192x128, .f32) → T(S8x8192x128, .bf16)),
    unary main_v35 main_v50 (broadcastInDim S8x128x1x1 ![0, 1] bcast_S8x128_S8x128x1x1_0_1 : T(S8x128, .f32) → T(S8x128x1x1, .f32)),
    nullary main_c_13 (constantI S_ 32 0#32) ]
theorem hostOps0_2_sub : Subs (F := F) hostOps0_2 :=
  ⟨unary_bufs_sub .., unary_bufs_sub .., reshape_bufs_sub .., unary_bufs_sub .., unary_bufs_sub .., reshape_bufs_sub .., unary_bufs_sub .., unary_bufs_sub .., reshape_bufs_sub .., unary_bufs_sub .., reshape_bufs_sub .., unary_bufs_sub .., unary_bufs_sub .., reshape_bufs_sub .., unary_bufs_sub .., unary_bufs_sub .., nullary_bufs_sub ..⟩
abbrev hostOps0_3 : List (HloOp τ sig (Elt F)) :=
  [ TRef.unary (.of main_c_13 : R S_ .i32) (.of main_call24_v0 : R S_ .f32) (sitofp .f32),
    TRef.binary (.of main_v50 : R S8x128x1x1 .f32) (.of main_call24_v0 : R S_ .f32) (.of main_v51 : R S8x128x1x128 .f32) (fun x v => pad S8x128x1x128 ![0, 0, 0, 0] ![0, 0, 0, 127] ![0, 0, 0, 0] x v pads_S8x128x1x1_S8x128x1x128_000_000_000_01270 h_S_) ]
theorem hostOps0_3_sub : Subs (F := F) hostOps0_3 :=
  ⟨unary_bufs_sub .., binary_bufs_sub ..⟩
abbrev hostOps0_4 : List (HloOp τ sig (Elt F)) :=
  [ unary main_v43 main_v52 ((truncf .bf16 · bitsLt_bf16_f32) : T(S8x8192x128, .f32) → T(S8x8192x128, .bf16)) ]
theorem hostOps0_4_sub : Subs (F := F) hostOps0_4 :=
  unary_bufs_sub ..
abbrev main_part0_ops1 : List (HloOp τ sig (Elt F)) := hostOps0_1.take 21
/-- The first window of `main` is the chain of its items. -/
theorem main_part0_chain (c : Dev nD) : main_part0 (F := F) c = (Pipeline.chainK
  [ seq hostOps0,
    HostLoop.enter 0 ]
  (seq main_part0_ops1) : HP (F := F)) := by
  rewrite [chainK_seq_cons, Pipeline.chainK_cons]
  chain_rfl

abbrev main_part1_ops0 : List (HloOp τ sig (Elt F)) := hostOps0_1.drop 21
/-- The last window of `main` is the chain of its items. -/
theorem main_part1_chain (c : Dev nD) : main_part1 (F := F) c = (Pipeline.chain
  [ seq main_part1_ops0,
    HostLoop.enter 1,
    seq hostOps0_2,
    seq hostOps0_3,
    seq hostOps0_4 ] : HP (F := F)) := by
  rewrite [chain_seq_cons, Pipeline.chain_cons, chain_seq_cons, Pipeline.chain_cons, chain_seq_cons]
  chain_rfl

/-- The last window of `main` is the chain of its items. -/
theorem main_chain_windows (c : Dev nD) : main (F := F) c = (Pipeline.chain
  [ seq hostOps0,
    HostLoop.enter 0,
    seq main_part0_ops1,
    seq main_part1_ops0,
    HostLoop.enter 1,
    seq hostOps0_2,
    seq hostOps0_3,
    seq hostOps0_4 ] : HP (F := F)) := by
  show (main_part0 (F := F) c >>= fun _ => main_part1 (F := F) c) = _
  rewrite [main_part1_chain, main_part0_chain, Pipeline.chainK_bind_chain]
  chain_rfl

/-- `main`'s items, each with the pieces its windows cut it into. -/
abbrev main_groups (c : Dev nD) : List (StableHlo.Group nD τ sig (Elt F) (HostLoop.Sig (Pipeline.Sig Λ₀ (Fin 0) fun p => (pcfgs (F := F) p).Adm) 2)) :=
  [ .ops [hostOps0],
    .prog (HostLoop.enter 0),
    .ops [main_part0_ops1, main_part1_ops0],
    .prog (HostLoop.enter 1),
    .ops [hostOps0_2],
    .ops [hostOps0_3],
    .ops [hostOps0_4] ]

/-- The windows' items are the groups cut into their pieces. -/
theorem main_chain_cut (c : Dev nD) : (Pipeline.chain
  [ seq hostOps0,
    HostLoop.enter 0,
    seq main_part0_ops1,
    seq main_part1_ops0,
    HostLoop.enter 1,
    seq hostOps0_2,
    seq hostOps0_3,
    seq hostOps0_4 ] : HP (F := F)) = Pipeline.chain ((main_groups (F := F) c).flatMap StableHlo.Group.cut) := by
  chain_rfl

/-- The groups joined are `main`'s items. -/
theorem main_chain_whole (c : Dev nD) : Pipeline.chain ((main_groups (F := F) c).map StableHlo.Group.whole) = (Pipeline.chain
  [ seq hostOps0,
    HostLoop.enter 0,
    seq hostOps0_1,
    HostLoop.enter 1,
    seq hostOps0_2,
    seq hostOps0_3,
    seq hostOps0_4 ] : HP (F := F)) := by
  chain_rfl

/-- `main` is the chain of its items. -/
theorem main_chain (c : Dev nD) : main (F := F) c = (Pipeline.chain
  [ seq hostOps0,
    HostLoop.enter 0,
    seq hostOps0_1,
    HostLoop.enter 1,
    seq hostOps0_2,
    seq hostOps0_3,
    seq hostOps0_4 ] : HP (F := F)) :=
  (main_chain_windows (F := F) c).trans <| (main_chain_cut (F := F) c).trans <|
    (chain_cut_eq_whole (main_groups (F := F) c)).trans (main_chain_whole (F := F) c)

/-! The calls of the loops' slice reads and writes, each kind once. -/
abbrev call0 (p0 : R S_ .i32) (p1 : R S_ .i32) (p2 : R S_ .i32) (p3 : R S128x8x64x128 .f32) (p4 : R S_ .i32) (p5 : R S1x8x64x128 .f32) (p6 : R S8x64x128 .f32) : List (HloOp τ sig (Elt F)) :=
  [ TRef.nullary p0 (constantI S_ 32 0#32),
    TRef.nullary p1 (constantI S_ 32 0#32),
    TRef.nullary p2 (constantI S_ 32 0#32),
    TRef.unaryIndexed p3 ![p4, p0, p1, p2] p5 (fun x i => Host.dynamicSlice S1x8x64x128 x (fun k => (i k (Shape.Idx.first h_S_)).toInt) sliceFits_S128x8x64x128_S1x8x64x128),
    TRef.reshape p5 p6 (rfl : (.f32 : EltTy) = .f32) shapeCasts_S1x8x64x128_S8x64x128 ]
theorem call0_sub (p0 : R S_ .i32) (p1 : R S_ .i32) (p2 : R S_ .i32) (p3 : R S128x8x64x128 .f32) (p4 : R S_ .i32) (p5 : R S1x8x64x128 .f32) (p6 : R S8x64x128 .f32) : Subs (F := F) (call0 p0 p1 p2 p3 p4 p5 p6) :=
  ⟨nullary_bufs_sub .., nullary_bufs_sub .., nullary_bufs_sub .., unaryIndexed_bufs_sub .., reshape_bufs_sub ..⟩
abbrev call1 (p0 : R S_ .i32) (p1 : R S_ .i32) (p2 : R S_ .i32) (p3 : R S128x8x64x64 .f32) (p4 : R S_ .i32) (p5 : R S1x8x64x64 .f32) (p6 : R S8x64x64 .f32) : List (HloOp τ sig (Elt F)) :=
  [ TRef.nullary p0 (constantI S_ 32 0#32),
    TRef.nullary p1 (constantI S_ 32 0#32),
    TRef.nullary p2 (constantI S_ 32 0#32),
    TRef.unaryIndexed p3 ![p4, p0, p1, p2] p5 (fun x i => Host.dynamicSlice S1x8x64x64 x (fun k => (i k (Shape.Idx.first h_S_)).toInt) sliceFits_S128x8x64x64_S1x8x64x64),
    TRef.reshape p5 p6 (rfl : (.f32 : EltTy) = .f32) shapeCasts_S1x8x64x64_S8x64x64 ]
theorem call1_sub (p0 : R S_ .i32) (p1 : R S_ .i32) (p2 : R S_ .i32) (p3 : R S128x8x64x64 .f32) (p4 : R S_ .i32) (p5 : R S1x8x64x64 .f32) (p6 : R S8x64x64 .f32) : Subs (F := F) (call1 p0 p1 p2 p3 p4 p5 p6) :=
  ⟨nullary_bufs_sub .., nullary_bufs_sub .., nullary_bufs_sub .., unaryIndexed_bufs_sub .., reshape_bufs_sub ..⟩
abbrev call2 (p0 : R S8x64x128 .f32) (p1 : R S1x8x64x128 .f32) (p2 : R S_ .i32) (p3 : R S_ .i32) (p4 : R S_ .i32) (p5 : R S128x8x64x128 .f32) (p6 : R S_ .i32) (p7 : R S128x8x64x128 .f32) : List (HloOp τ sig (Elt F)) :=
  [ TRef.unary p0 p1 (broadcastInDim S1x8x64x128 ![1, 2, 3] bcast_S8x64x128_S1x8x64x128_1_2_3),
    TRef.nullary p2 (constantI S_ 32 0#32),
    TRef.nullary p3 (constantI S_ 32 0#32),
    TRef.nullary p4 (constantI S_ 32 0#32),
    TRef.binaryIndexed p5 p1 ![p6, p2, p3, p4] p7 (fun x u i => Host.dynamicUpdateSlice x u (fun k => (i k (Shape.Idx.first h_S_)).toInt) updateFits_S128x8x64x128_S1x8x64x128) ]
theorem call2_sub (p0 : R S8x64x128 .f32) (p1 : R S1x8x64x128 .f32) (p2 : R S_ .i32) (p3 : R S_ .i32) (p4 : R S_ .i32) (p5 : R S128x8x64x128 .f32) (p6 : R S_ .i32) (p7 : R S128x8x64x128 .f32) : Subs (F := F) (call2 p0 p1 p2 p3 p4 p5 p6 p7) :=
  ⟨unary_bufs_sub .., nullary_bufs_sub .., nullary_bufs_sub .., nullary_bufs_sub .., binaryIndexed_bufs_sub ..⟩

abbrev while0Ops0 : List (HloOp τ sig (Elt F)) := call0 (.of main_while0b_call0_c) (.of main_while0b_call0_c_0) (.of main_while0b_call0_c_1) (.of main_v20_0) (.of main_v20_6) (.of main_while0b_call0_v0) (.of main_while0b_v53)
theorem while0Ops0_sub : Subs (F := F) while0Ops0 := call0_sub ..
abbrev while0Ops0_1 : List (HloOp τ sig (Elt F)) := call0 (.of main_while0b_call1_c) (.of main_while0b_call1_c_0) (.of main_while0b_call1_c_1) (.of main_v20_1) (.of main_v20_6) (.of main_while0b_call1_v0) (.of main_while0b_v54)
theorem while0Ops0_1_sub : Subs (F := F) while0Ops0_1 := call0_sub ..
abbrev while0Ops0_2 : List (HloOp τ sig (Elt F)) := call0 (.of main_while0b_call2_c) (.of main_while0b_call2_c_0) (.of main_while0b_call2_c_1) (.of main_v20_2) (.of main_v20_6) (.of main_while0b_call2_v0) (.of main_while0b_v55)
theorem while0Ops0_2_sub : Subs (F := F) while0Ops0_2 := call0_sub ..
abbrev while0Ops0_3 : List (HloOp τ sig (Elt F)) := call0 (.of main_while0b_call3_c) (.of main_while0b_call3_c_0) (.of main_while0b_call3_c_1) (.of main_v20_3) (.of main_v20_6) (.of main_while0b_call3_v0) (.of main_while0b_v56)
theorem while0Ops0_3_sub : Subs (F := F) while0Ops0_3 := call0_sub ..
abbrev while0Ops0_4 : List (HloOp τ sig (Elt F)) := call1 (.of main_while0b_call4_c) (.of main_while0b_call4_c_0) (.of main_while0b_call4_c_1) (.of main_v20_4) (.of main_v20_6) (.of main_while0b_call4_v0) (.of main_while0b_v57)
theorem while0Ops0_4_sub : Subs (F := F) while0Ops0_4 := call1_sub ..
abbrev while0Ops0_5 : List (HloOp τ sig (Elt F)) :=
  [ TRef.nullary (.of main_while0b_call5_c : R S_ .i32) (constantI S_ 32 0#32),
    TRef.unaryIndexed (.of main_v20_5 : R S128x8 .f32) ![(.of main_v20_6 : R S_ .i32), (.of main_while0b_call5_c : R S_ .i32)] (.of main_while0b_call5_v0 : R S1x8 .f32) (fun x i => Host.dynamicSlice S1x8 x (fun k => (i k (Shape.Idx.first h_S_)).toInt) sliceFits_S128x8_S1x8),
    TRef.reshape (.of main_while0b_call5_v0 : R S1x8 .f32) (.of main_while0b_v58 : R S8 .f32) (rfl : (.f32 : EltTy) = .f32) shapeCasts_S1x8_S8 ]
theorem while0Ops0_5_sub : Subs (F := F) while0Ops0_5 :=
  ⟨nullary_bufs_sub .., unaryIndexed_bufs_sub .., reshape_bufs_sub ..⟩
abbrev while0Ops0_6 : List (HloOp τ sig (Elt F)) :=
  [ binary main_while0b_v56 main_v20_7 main_while0b_v59 ((fun l r => Host.dotGeneral dot_S8x64x128_S8x128x128_S8x64x128_2_1_1_2_0_0 none l r) : T(S8x64x128, .f32) → T(S8x128x128, .f32) → T(S8x64x128, .f32)),
    binary main_while0b_v55 main_while0b_v59 main_while0b_v60 (subf : T(S8x64x128, .f32) → T(S8x64x128, .f32) → T(S8x64x128, .f32)),
    binary main_while0b_v53 main_v20_7 main_while0b_v61 ((fun l r => Host.dotGeneral dot_S8x64x128_S8x128x128_S8x64x128_2_1_1_2_0_0 none l r) : T(S8x64x128, .f32) → T(S8x128x128, .f32) → T(S8x64x128, .f32)),
    binary main_while0b_v57 main_while0b_v60 main_while0b_v62 ((fun l r => Host.dotGeneral dot_S8x64x64_S8x64x128_S8x64x128_2_1_1_2_0_0 none l r) : T(S8x64x64, .f32) → T(S8x64x128, .f32) → T(S8x64x128, .f32)),
    binary main_while0b_v61 main_while0b_v62 main_while0b_v63 (addf : T(S8x64x128, .f32) → T(S8x64x128, .f32) → T(S8x64x128, .f32)),
    unary main_while0b_v58 main_while0b_v64 (broadcastInDim S8x1x1 ![0] bcast_S8_S8x1x1_0 : T(S8, .f32) → T(S8x1x1, .f32)),
    unary main_while0b_v64 main_while0b_v65 (broadcastInDim S8x128x128 ![0, 1, 2] bcast_S8x1x1_S8x128x128_0_1_2 : T(S8x1x1, .f32) → T(S8x128x128, .f32)),
    binary main_v20_7 main_while0b_v65 main_while0b_v66 (mulf : T(S8x128x128, .f32) → T(S8x128x128, .f32) → T(S8x128x128, .f32)),
    binary main_while0b_v54 main_while0b_v60 main_while0b_v67 ((fun l r => Host.dotGeneral dot_S8x64x128_S8x64x128_S8x128x128_1_1_2_2_0_0 none l r) : T(S8x64x128, .f32) → T(S8x64x128, .f32) → T(S8x128x128, .f32)),
    binary main_while0b_v66 main_while0b_v67 main_while0b_v68 (addf : T(S8x128x128, .f32) → T(S8x128x128, .f32) → T(S8x128x128, .f32)) ]
theorem while0Ops0_6_sub : Subs (F := F) while0Ops0_6 :=
  ⟨binary_bufs_sub .., binary_bufs_sub .., binary_bufs_sub .., binary_bufs_sub .., binary_bufs_sub .., unary_bufs_sub .., unary_bufs_sub .., binary_bufs_sub .., binary_bufs_sub .., binary_bufs_sub ..⟩
abbrev while0Ops0_7 : List (HloOp τ sig (Elt F)) := call2 (.of main_while0b_v63) (.of main_while0b_call6_v0) (.of main_while0b_call6_c) (.of main_while0b_call6_c_0) (.of main_while0b_call6_c_1) (.of main_v20_8) (.of main_v20_6) (.of main_while0b_v69)
theorem while0Ops0_7_sub : Subs (F := F) while0Ops0_7 := call2_sub ..
abbrev while0Ops0_8 : List (HloOp τ sig (Elt F)) :=
  [ TRef.unary (.of main_v20_7 : R S8x128x128 .f32) (.of main_while0b_call7_v0 : R S1x8x128x128 .f32) (broadcastInDim S1x8x128x128 ![1, 2, 3] bcast_S8x128x128_S1x8x128x128_1_2_3),
    TRef.nullary (.of main_while0b_call7_c : R S_ .i32) (constantI S_ 32 0#32),
    TRef.nullary (.of main_while0b_call7_c_0 : R S_ .i32) (constantI S_ 32 0#32),
    TRef.nullary (.of main_while0b_call7_c_1 : R S_ .i32) (constantI S_ 32 0#32),
    TRef.binaryIndexed (.of main_v20_9 : R S128x8x128x128 .f32) (.of main_while0b_call7_v0 : R S1x8x128x128 .f32) ![(.of main_v20_6 : R S_ .i32), (.of main_while0b_call7_c : R S_ .i32), (.of main_while0b_call7_c_0 : R S_ .i32), (.of main_while0b_call7_c_1 : R S_ .i32)] (.of main_while0b_v70 : R S128x8x128x128 .f32) (fun x u i => Host.dynamicUpdateSlice x u (fun k => (i k (Shape.Idx.first h_S_)).toInt) updateFits_S128x8x128x128_S1x8x128x128) ]
theorem while0Ops0_8_sub : Subs (F := F) while0Ops0_8 :=
  ⟨unary_bufs_sub .., nullary_bufs_sub .., nullary_bufs_sub .., nullary_bufs_sub .., binaryIndexed_bufs_sub ..⟩
abbrev while0Ops0_9 : List (HloOp τ sig (Elt F)) := call2 (.of main_while0b_v60) (.of main_while0b_call8_v0) (.of main_while0b_call8_c) (.of main_while0b_call8_c_0) (.of main_while0b_call8_c_1) (.of main_v20_10) (.of main_v20_6) (.of main_while0b_v71)
theorem while0Ops0_9_sub : Subs (F := F) while0Ops0_9 := call2_sub ..
abbrev while0Ops0_10 : List (HloOp τ sig (Elt F)) :=
  [ TRef.unary (.of main_while0b_v64 : R S8x1x1 .f32) (.of main_while0b_call9_v0 : R S1x8x1x1 .f32) (broadcastInDim S1x8x1x1 ![1, 2, 3] bcast_S8x1x1_S1x8x1x1_1_2_3),
    TRef.nullary (.of main_while0b_call9_c : R S_ .i32) (constantI S_ 32 0#32),
    TRef.nullary (.of main_while0b_call9_c_0 : R S_ .i32) (constantI S_ 32 0#32),
    TRef.nullary (.of main_while0b_call9_c_1 : R S_ .i32) (constantI S_ 32 0#32),
    TRef.binaryIndexed (.of main_v20_11 : R S128x8x1x1 .f32) (.of main_while0b_call9_v0 : R S1x8x1x1 .f32) ![(.of main_v20_6 : R S_ .i32), (.of main_while0b_call9_c : R S_ .i32), (.of main_while0b_call9_c_0 : R S_ .i32), (.of main_while0b_call9_c_1 : R S_ .i32)] (.of main_while0b_v72 : R S128x8x1x1 .f32) (fun x u i => Host.dynamicUpdateSlice x u (fun k => (i k (Shape.Idx.first h_S_)).toInt) updateFits_S128x8x1x1_S1x8x1x1) ]
theorem while0Ops0_10_sub : Subs (F := F) while0Ops0_10 :=
  ⟨unary_bufs_sub .., nullary_bufs_sub .., nullary_bufs_sub .., nullary_bufs_sub .., binaryIndexed_bufs_sub ..⟩
abbrev while0Ops0_11 : List (HloOp τ sig (Elt F)) :=
  [ nullary main_while0b_c_25 (constantI S_ 32 1#32),
    binary main_v20_6 main_while0b_c_25 main_while0b_v73 (addi : T(S_, .i32) → T(S_, .i32) → T(S_, .i32)),
    unary main_while0b_v73 main_v20_6 id,
    unary main_while0b_v68 main_v20_7 id,
    unary main_while0b_v69 main_v20_8 id,
    unary main_while0b_v70 main_v20_9 id,
    unary main_while0b_v71 main_v20_10 id,
    unary main_while0b_v72 main_v20_11 id ]
theorem while0Ops0_11_sub : Subs (F := F) while0Ops0_11 :=
  ⟨nullary_bufs_sub .., binary_bufs_sub .., unary_bufs_sub .., unary_bufs_sub .., unary_bufs_sub .., unary_bufs_sub .., unary_bufs_sub .., unary_bufs_sub ..⟩
/-- `main` is the chain of its items. -/
theorem while0_body_chain : main_while0_body (F := F) = (Pipeline.chain
  [ seq while0Ops0,
    seq while0Ops0_1,
    seq while0Ops0_2,
    seq while0Ops0_3,
    seq while0Ops0_4,
    seq while0Ops0_5,
    seq while0Ops0_6,
    seq while0Ops0_7,
    seq while0Ops0_8,
    seq while0Ops0_9,
    seq while0Ops0_10,
    seq while0Ops0_11 ] : HP (F := F)) := by
  rewrite [Pipeline.chain_cons, Pipeline.chain_cons, Pipeline.chain_cons, Pipeline.chain_cons, Pipeline.chain_cons, Pipeline.chain_cons, chain_seq_cons, Pipeline.chain_cons, Pipeline.chain_cons, Pipeline.chain_cons, Pipeline.chain_cons, chain_seq_cons]
  chain_rfl

abbrev while1Ops0 : List (HloOp τ sig (Elt F)) :=
  [ nullary main_while1b_c_29 (constantI S_ 32 128#32),
    binary main_while1b_c_29 main_v34_8 main_while1b_v53 (subi : T(S_, .i32) → T(S_, .i32) → T(S_, .i32)),
    nullary main_while1b_c_30 (constantI S_ 32 1#32),
    binary main_while1b_v53 main_while1b_c_30 main_while1b_v54 (subi : T(S_, .i32) → T(S_, .i32) → T(S_, .i32)) ]
theorem while1Ops0_sub : Subs (F := F) while1Ops0 :=
  ⟨nullary_bufs_sub .., binary_bufs_sub .., nullary_bufs_sub .., binary_bufs_sub ..⟩
abbrev while1Ops0_1 : List (HloOp τ sig (Elt F)) := call0 (.of main_while1b_call10_c) (.of main_while1b_call10_c_0) (.of main_while1b_call10_c_1) (.of main_v34_0) (.of main_while1b_v54) (.of main_while1b_call10_v0) (.of main_while1b_v55)
theorem while1Ops0_1_sub : Subs (F := F) while1Ops0_1 := call0_sub ..
abbrev while1Ops0_2 : List (HloOp τ sig (Elt F)) :=
  [ TRef.nullary (.of main_while1b_call11_c : R S_ .i32) (constantI S_ 32 0#32),
    TRef.nullary (.of main_while1b_call11_c_0 : R S_ .i32) (constantI S_ 32 0#32),
    TRef.nullary (.of main_while1b_call11_c_1 : R S_ .i32) (constantI S_ 32 0#32),
    TRef.unaryIndexed (.of main_v34_1 : R S128x8x128x128 .f32) ![(.of main_while1b_v54 : R S_ .i32), (.of main_while1b_call11_c : R S_ .i32), (.of main_while1b_call11_c_0 : R S_ .i32), (.of main_while1b_call11_c_1 : R S_ .i32)] (.of main_while1b_call11_v0 : R S1x8x128x128 .f32) (fun x i => Host.dynamicSlice S1x8x128x128 x (fun k => (i k (Shape.Idx.first h_S_)).toInt) sliceFits_S128x8x128x128_S1x8x128x128),
    TRef.reshape (.of main_while1b_call11_v0 : R S1x8x128x128 .f32) (.of main_while1b_v56 : R S8x128x128 .f32) (rfl : (.f32 : EltTy) = .f32) shapeCasts_S1x8x128x128_S8x128x128 ]
theorem while1Ops0_2_sub : Subs (F := F) while1Ops0_2 :=
  ⟨nullary_bufs_sub .., nullary_bufs_sub .., nullary_bufs_sub .., unaryIndexed_bufs_sub .., reshape_bufs_sub ..⟩
abbrev while1Ops0_3 : List (HloOp τ sig (Elt F)) := call0 (.of main_while1b_call12_c) (.of main_while1b_call12_c_0) (.of main_while1b_call12_c_1) (.of main_v34_2) (.of main_while1b_v54) (.of main_while1b_call12_v0) (.of main_while1b_v57)
theorem while1Ops0_3_sub : Subs (F := F) while1Ops0_3 := call0_sub ..
abbrev while1Ops0_4 : List (HloOp τ sig (Elt F)) := call0 (.of main_while1b_call13_c) (.of main_while1b_call13_c_0) (.of main_while1b_call13_c_1) (.of main_v34_3) (.of main_while1b_v54) (.of main_while1b_call13_v0) (.of main_while1b_v58)
theorem while1Ops0_4_sub : Subs (F := F) while1Ops0_4 := call0_sub ..
abbrev while1Ops0_5 : List (HloOp τ sig (Elt F)) := call0 (.of main_while1b_call14_c) (.of main_while1b_call14_c_0) (.of main_while1b_call14_c_1) (.of main_v34_4) (.of main_while1b_v54) (.of main_while1b_call14_v0) (.of main_while1b_v59)
theorem while1Ops0_5_sub : Subs (F := F) while1Ops0_5 := call0_sub ..
abbrev while1Ops0_6 : List (HloOp τ sig (Elt F)) := call1 (.of main_while1b_call15_c) (.of main_while1b_call15_c_0) (.of main_while1b_call15_c_1) (.of main_v34_5) (.of main_while1b_v54) (.of main_while1b_call15_v0) (.of main_while1b_v60)
theorem while1Ops0_6_sub : Subs (F := F) while1Ops0_6 := call1_sub ..
abbrev while1Ops0_7 : List (HloOp τ sig (Elt F)) :=
  [ TRef.nullary (.of main_while1b_call16_c : R S_ .i32) (constantI S_ 32 0#32),
    TRef.nullary (.of main_while1b_call16_c_0 : R S_ .i32) (constantI S_ 32 0#32),
    TRef.nullary (.of main_while1b_call16_c_1 : R S_ .i32) (constantI S_ 32 0#32),
    TRef.unaryIndexed (.of main_v34_6 : R S128x8x1x1 .f32) ![(.of main_while1b_v54 : R S_ .i32), (.of main_while1b_call16_c : R S_ .i32), (.of main_while1b_call16_c_0 : R S_ .i32), (.of main_while1b_call16_c_1 : R S_ .i32)] (.of main_while1b_call16_v0 : R S1x8x1x1 .f32) (fun x i => Host.dynamicSlice S1x8x1x1 x (fun k => (i k (Shape.Idx.first h_S_)).toInt) sliceFits_S128x8x1x1_S1x8x1x1),
    TRef.reshape (.of main_while1b_call16_v0 : R S1x8x1x1 .f32) (.of main_while1b_v61 : R S8x1x1 .f32) (rfl : (.f32 : EltTy) = .f32) shapeCasts_S1x8x1x1_S8x1x1 ]
theorem while1Ops0_7_sub : Subs (F := F) while1Ops0_7 :=
  ⟨nullary_bufs_sub .., nullary_bufs_sub .., nullary_bufs_sub .., unaryIndexed_bufs_sub .., reshape_bufs_sub ..⟩
abbrev while1Ops0_8 : List (HloOp τ sig (Elt F)) := call0 (.of main_while1b_call17_c) (.of main_while1b_call17_c_0) (.of main_while1b_call17_c_1) (.of main_v34_7) (.of main_while1b_v54) (.of main_while1b_call17_v0) (.of main_while1b_v62)
theorem while1Ops0_8_sub : Subs (F := F) while1Ops0_8 := call0_sub ..
abbrev while1Ops0_9 : List (HloOp τ sig (Elt F)) :=
  [ binary main_v34_9 main_while1b_v62 main_while1b_v63 ((fun l r => Host.dotGeneral dot_S8x128x128_S8x64x128_S8x128x64_1_2_2_1_0_0 none l r) : T(S8x128x128, .f32) → T(S8x64x128, .f32) → T(S8x128x64, .f32)),
    unary main_while1b_v63 main_while1b_v64 ((transpose S8x64x128 [0, 2, 1] · transposes_S8x128x64_S8x64x128_0_2_1) : T(S8x128x64, .f32) → T(S8x64x128, .f32)),
    binary main_v34_9 main_while1b_v59 main_while1b_v65 ((fun l r => Host.dotGeneral dot_S8x128x128_S8x64x128_S8x128x64_2_2_1_1_0_0 none l r) : T(S8x128x128, .f32) → T(S8x64x128, .f32) → T(S8x128x64, .f32)),
    unary main_while1b_v65 main_while1b_v66 ((transpose S8x64x128 [0, 2, 1] · transposes_S8x128x64_S8x64x128_0_2_1) : T(S8x128x64, .f32) → T(S8x64x128, .f32)),
    binary main_while1b_v56 main_v34_9 main_while1b_v67 (mulf : T(S8x128x128, .f32) → T(S8x128x128, .f32) → T(S8x128x128, .f32)),
    nullary main_while1b_cst_31 (constant S_ .f32 0x00000000#32),
    binary main_while1b_v67 main_while1b_cst_31 main_while1b_v68 ((fun x v => Host.reduceAdd x v reducesTo_S8x128x128_S8_d1_2 h_S_) : T(S8x128x128, .f32) → T(S_, .f32) → T(S8, .f32)),
    StableHlo.reshape main_while1b_v68 main_while1b_v69 (rfl : (.f32 : EltTy) = .f32) shapeCasts_S8_S8x1x1,
    unary main_while1b_v61 main_while1b_v70 (broadcastInDim S8x128x128 ![0, 1, 2] bcast_S8x1x1_S8x128x128_0_1_2 : T(S8x1x1, .f32) → T(S8x128x128, .f32)),
    binary main_v34_9 main_while1b_v70 main_while1b_v71 (mulf : T(S8x128x128, .f32) → T(S8x128x128, .f32) → T(S8x128x128, .f32)),
    nullary main_while1b_cst_32 (constant S_ .f32 0x00000000#32),
    binary main_while1b_v69 main_while1b_cst_32 main_while1b_v72 ((fun x v => Host.reduceAdd x v reducesTo_S8x1x1_S8_d1_2 h_S_) : T(S8x1x1, .f32) → T(S_, .f32) → T(S8, .f32)),
    binary main_while1b_v55 main_while1b_v60 main_while1b_v73 ((fun l r => Host.dotGeneral dot_S8x64x128_S8x64x64_S8x128x64_1_1_2_2_0_0 none l r) : T(S8x64x128, .f32) → T(S8x64x64, .f32) → T(S8x128x64, .f32)),
    unary main_while1b_v73 main_while1b_v74 ((transpose S8x64x128 [0, 2, 1] · transposes_S8x128x64_S8x64x128_0_2_1) : T(S8x128x64, .f32) → T(S8x64x128, .f32)),
    binary main_while1b_v64 main_while1b_v74 main_while1b_v75 (addf : T(S8x64x128, .f32) → T(S8x64x128, .f32) → T(S8x64x128, .f32)),
    binary main_while1b_v55 main_while1b_v59 main_while1b_v76 ((fun l r => Host.dotGeneral dot_S8x64x128_S8x64x128_S8x64x64_2_2_1_1_0_0 none l r) : T(S8x64x128, .f32) → T(S8x64x128, .f32) → T(S8x64x64, .f32)),
    binary main_while1b_v55 main_while1b_v58 main_while1b_v77 ((fun l r => Host.dotGeneral dot_S8x64x128_S8x64x128_S8x128x128_1_1_2_2_0_0 none l r) : T(S8x64x128, .f32) → T(S8x64x128, .f32) → T(S8x128x128, .f32)),
    unary main_while1b_v77 main_while1b_v78 ((transpose S8x128x128 [0, 2, 1] · transposes_S8x128x128_S8x128x128_0_2_1) : T(S8x128x128, .f32) → T(S8x128x128, .f32)),
    binary main_while1b_v71 main_while1b_v78 main_while1b_v79 (addf : T(S8x128x128, .f32) → T(S8x128x128, .f32) → T(S8x128x128, .f32)),
    binary main_while1b_v55 main_while1b_v56 main_while1b_v80 ((fun l r => Host.dotGeneral dot_S8x64x128_S8x128x128_S8x64x128_2_2_1_1_0_0 none l r) : T(S8x64x128, .f32) → T(S8x128x128, .f32) → T(S8x64x128, .f32)),
    unary main_while1b_v75 main_while1b_v81 (Host.negf : T(S8x64x128, .f32) → T(S8x64x128, .f32)),
    binary main_while1b_v81 main_while1b_v57 main_while1b_v82 ((fun l r => Host.dotGeneral dot_S8x64x128_S8x64x128_S8x128x128_1_1_2_2_0_0 none l r) : T(S8x64x128, .f32) → T(S8x64x128, .f32) → T(S8x128x128, .f32)),
    unary main_while1b_v82 main_while1b_v83 ((transpose S8x128x128 [0, 2, 1] · transposes_S8x128x128_S8x128x128_0_2_1) : T(S8x128x128, .f32) → T(S8x128x128, .f32)),
    binary main_while1b_v79 main_while1b_v83 main_while1b_v84 (addf : T(S8x128x128, .f32) → T(S8x128x128, .f32) → T(S8x128x128, .f32)),
    binary main_while1b_v81 main_while1b_v56 main_while1b_v85 ((fun l r => Host.dotGeneral dot_S8x64x128_S8x128x128_S8x64x128_2_2_1_1_0_0 none l r) : T(S8x64x128, .f32) → T(S8x128x128, .f32) → T(S8x64x128, .f32)) ]
theorem while1Ops0_9_sub : Subs (F := F) while1Ops0_9 :=
  ⟨binary_bufs_sub .., unary_bufs_sub .., binary_bufs_sub .., unary_bufs_sub .., binary_bufs_sub .., nullary_bufs_sub .., binary_bufs_sub .., reshape_bufs_sub .., unary_bufs_sub .., binary_bufs_sub .., nullary_bufs_sub .., binary_bufs_sub .., binary_bufs_sub .., unary_bufs_sub .., binary_bufs_sub .., binary_bufs_sub .., binary_bufs_sub .., unary_bufs_sub .., binary_bufs_sub .., binary_bufs_sub .., unary_bufs_sub .., binary_bufs_sub .., unary_bufs_sub .., binary_bufs_sub .., binary_bufs_sub ..⟩
abbrev while1Ops0_10 : List (HloOp τ sig (Elt F)) := call2 (.of main_while1b_v80) (.of main_while1b_call18_v0) (.of main_while1b_call18_c) (.of main_while1b_call18_c_0) (.of main_while1b_call18_c_1) (.of main_v34_10) (.of main_while1b_v54) (.of main_while1b_v86)
theorem while1Ops0_10_sub : Subs (F := F) while1Ops0_10 := call2_sub ..
abbrev while1Ops0_11 : List (HloOp τ sig (Elt F)) := call2 (.of main_while1b_v66) (.of main_while1b_call19_v0) (.of main_while1b_call19_c) (.of main_while1b_call19_c_0) (.of main_while1b_call19_c_1) (.of main_v34_11) (.of main_while1b_v54) (.of main_while1b_v87)
theorem while1Ops0_11_sub : Subs (F := F) while1Ops0_11 := call2_sub ..
abbrev while1Ops0_12 : List (HloOp τ sig (Elt F)) := call2 (.of main_while1b_v75) (.of main_while1b_call20_v0) (.of main_while1b_call20_c) (.of main_while1b_call20_c_0) (.of main_while1b_call20_c_1) (.of main_v34_12) (.of main_while1b_v54) (.of main_while1b_v88)
theorem while1Ops0_12_sub : Subs (F := F) while1Ops0_12 := call2_sub ..
abbrev while1Ops0_13 : List (HloOp τ sig (Elt F)) := call2 (.of main_while1b_v85) (.of main_while1b_call21_v0) (.of main_while1b_call21_c) (.of main_while1b_call21_c_0) (.of main_while1b_call21_c_1) (.of main_v34_13) (.of main_while1b_v54) (.of main_while1b_v89)
theorem while1Ops0_13_sub : Subs (F := F) while1Ops0_13 := call2_sub ..
abbrev while1Ops0_14 : List (HloOp τ sig (Elt F)) :=
  [ TRef.unary (.of main_while1b_v76 : R S8x64x64 .f32) (.of main_while1b_call22_v0 : R S1x8x64x64 .f32) (broadcastInDim S1x8x64x64 ![1, 2, 3] bcast_S8x64x64_S1x8x64x64_1_2_3),
    TRef.nullary (.of main_while1b_call22_c : R S_ .i32) (constantI S_ 32 0#32),
    TRef.nullary (.of main_while1b_call22_c_0 : R S_ .i32) (constantI S_ 32 0#32),
    TRef.nullary (.of main_while1b_call22_c_1 : R S_ .i32) (constantI S_ 32 0#32),
    TRef.binaryIndexed (.of main_v34_14 : R S128x8x64x64 .f32) (.of main_while1b_call22_v0 : R S1x8x64x64 .f32) ![(.of main_while1b_v54 : R S_ .i32), (.of main_while1b_call22_c : R S_ .i32), (.of main_while1b_call22_c_0 : R S_ .i32), (.of main_while1b_call22_c_1 : R S_ .i32)] (.of main_while1b_v90 : R S128x8x64x64 .f32) (fun x u i => Host.dynamicUpdateSlice x u (fun k => (i k (Shape.Idx.first h_S_)).toInt) updateFits_S128x8x64x64_S1x8x64x64) ]
theorem while1Ops0_14_sub : Subs (F := F) while1Ops0_14 :=
  ⟨unary_bufs_sub .., nullary_bufs_sub .., nullary_bufs_sub .., nullary_bufs_sub .., binaryIndexed_bufs_sub ..⟩
abbrev while1Ops0_15 : List (HloOp τ sig (Elt F)) :=
  [ TRef.unary (.of main_while1b_v72 : R S8 .f32) (.of main_while1b_call23_v0 : R S1x8 .f32) (broadcastInDim S1x8 ![1] bcast_S8_S1x8_1),
    TRef.nullary (.of main_while1b_call23_c : R S_ .i32) (constantI S_ 32 0#32),
    TRef.binaryIndexed (.of main_v34_15 : R S128x8 .f32) (.of main_while1b_call23_v0 : R S1x8 .f32) ![(.of main_while1b_v54 : R S_ .i32), (.of main_while1b_call23_c : R S_ .i32)] (.of main_while1b_v91 : R S128x8 .f32) (fun x u i => Host.dynamicUpdateSlice x u (fun k => (i k (Shape.Idx.first h_S_)).toInt) updateFits_S128x8_S1x8) ]
theorem while1Ops0_15_sub : Subs (F := F) while1Ops0_15 :=
  ⟨unary_bufs_sub .., nullary_bufs_sub .., binaryIndexed_bufs_sub ..⟩
abbrev while1Ops0_16 : List (HloOp τ sig (Elt F)) :=
  [ nullary main_while1b_c_33 (constantI S_ 32 1#32),
    binary main_v34_8 main_while1b_c_33 main_while1b_v92 (addi : T(S_, .i32) → T(S_, .i32) → T(S_, .i32)),
    unary main_while1b_v92 main_v34_8 id,
    unary main_while1b_v84 main_v34_9 id,
    unary main_while1b_v86 main_v34_10 id,
    unary main_while1b_v87 main_v34_11 id,
    unary main_while1b_v88 main_v34_12 id,
    unary main_while1b_v89 main_v34_13 id,
    unary main_while1b_v90 main_v34_14 id,
    unary main_while1b_v91 main_v34_15 id ]
theorem while1Ops0_16_sub : Subs (F := F) while1Ops0_16 :=
  ⟨nullary_bufs_sub .., binary_bufs_sub .., unary_bufs_sub .., unary_bufs_sub .., unary_bufs_sub .., unary_bufs_sub .., unary_bufs_sub .., unary_bufs_sub .., unary_bufs_sub .., unary_bufs_sub ..⟩
/-- `main` is the chain of its items. -/
theorem while1_body_chain : main_while1_body (F := F) = (Pipeline.chain
  [ seq while1Ops0,
    seq while1Ops0_1,
    seq while1Ops0_2,
    seq while1Ops0_3,
    seq while1Ops0_4,
    seq while1Ops0_5,
    seq while1Ops0_6,
    seq while1Ops0_7,
    seq while1Ops0_8,
    seq while1Ops0_9,
    seq while1Ops0_10,
    seq while1Ops0_11,
    seq while1Ops0_12,
    seq while1Ops0_13,
    seq while1Ops0_14,
    seq while1Ops0_15,
    seq while1Ops0_16 ] : HP (F := F)) := by
  rewrite [chain_seq_cons, Pipeline.chain_cons, Pipeline.chain_cons, Pipeline.chain_cons, Pipeline.chain_cons, Pipeline.chain_cons, Pipeline.chain_cons, Pipeline.chain_cons, Pipeline.chain_cons, chain_seq_cons, Pipeline.chain_cons, Pipeline.chain_cons, Pipeline.chain_cons, Pipeline.chain_cons, Pipeline.chain_cons, Pipeline.chain_cons, chain_seq_cons]
  chain_rfl

theorem hostOps0_fresh : Fresh (F := F) hostOps0 :=
  forall_fresh_of_map rfl
abbrev hostOps0_W : List (Ref sig .tc) := [main_v0, main_v1, main_v2, main_v3, main_v4, main_v5, main_v6, main_v7, main_v8, main_v9, main_v10, main_v11, main_v12, main_v13, main_v14, main_cst, main_v15, main_cst_0, main_v16, main_cst_1, main_v17, main_cst_2, main_v18, main_cst_3, main_v19, main_c, main_v20_0, main_v20_1, main_v20_2, main_v20_3, main_v20_4, main_v20_5, main_v20_6, main_v20_7, main_v20_8, main_v20_9, main_v20_10, main_v20_11]
theorem hostOps0_writes : Writes (F := F) hostOps0 hostOps0_W :=
  forall_writes_sub_of_map rfl
theorem hostOps0_1_fresh : Fresh (F := F) hostOps0_1 :=
  forall_fresh_of_map rfl
abbrev hostOps0_1_W : List (Ref sig .tc) := [main_v21, main_v22, main_v23, main_cst_4, main_v24, main_v25, main_v26, main_cst_5, main_v27, main_cst_6, main_v28, main_cst_7, main_v29, main_cst_8, main_v30, main_cst_9, main_v31, main_cst_10, main_v32, main_cst_11, main_v33, main_c_12, main_v34_0, main_v34_1, main_v34_2, main_v34_3, main_v34_4, main_v34_5, main_v34_6, main_v34_7, main_v34_8, main_v34_9, main_v34_10, main_v34_11, main_v34_12, main_v34_13, main_v34_14, main_v34_15]
theorem hostOps0_1_writes : Writes (F := F) hostOps0_1 hostOps0_1_W :=
  forall_writes_sub_of_map rfl
theorem hostOps0_2_fresh : Fresh (F := F) hostOps0_2 :=
  forall_fresh_of_map rfl
abbrev hostOps0_2_W : List (Ref sig .tc) := [main_v35, main_v36, main_v37, main_v38, main_v39, main_v40, main_v41, main_v42, main_v43, main_v44, main_v45, main_v46, main_v47, main_v48, main_v49, main_v50, main_c_13]
theorem hostOps0_2_writes : Writes (F := F) hostOps0_2 hostOps0_2_W :=
  forall_writes_sub_of_map rfl
theorem hostOps0_3_fresh : Fresh (F := F) hostOps0_3 :=
  forall_fresh_of_map rfl
abbrev hostOps0_3_W : List (Ref sig .tc) := [main_call24_v0, main_v51]
theorem hostOps0_3_writes : Writes (F := F) hostOps0_3 hostOps0_3_W :=
  forall_writes_sub_of_map rfl
theorem hostOps0_4_fresh : Fresh (F := F) hostOps0_4 :=
  forall_fresh_of_map rfl
abbrev hostOps0_4_W : List (Ref sig .tc) := [main_v52]
theorem hostOps0_4_writes : Writes (F := F) hostOps0_4 hostOps0_4_W :=
  forall_writes_sub_of_map rfl
theorem while0Ops0_fresh : Fresh (F := F) while0Ops0 :=
  forall_fresh_of_map rfl
abbrev while0Ops0_W : List (Ref sig .tc) := [main_while0b_call0_c, main_while0b_call0_c_0, main_while0b_call0_c_1, main_while0b_call0_v0, main_while0b_v53]
theorem while0Ops0_writes : Writes (F := F) while0Ops0 while0Ops0_W :=
  forall_writes_sub_of_map rfl
theorem while0Ops0_1_fresh : Fresh (F := F) while0Ops0_1 :=
  forall_fresh_of_map rfl
abbrev while0Ops0_1_W : List (Ref sig .tc) := [main_while0b_call1_c, main_while0b_call1_c_0, main_while0b_call1_c_1, main_while0b_call1_v0, main_while0b_v54]
theorem while0Ops0_1_writes : Writes (F := F) while0Ops0_1 while0Ops0_1_W :=
  forall_writes_sub_of_map rfl
theorem while0Ops0_2_fresh : Fresh (F := F) while0Ops0_2 :=
  forall_fresh_of_map rfl
abbrev while0Ops0_2_W : List (Ref sig .tc) := [main_while0b_call2_c, main_while0b_call2_c_0, main_while0b_call2_c_1, main_while0b_call2_v0, main_while0b_v55]
theorem while0Ops0_2_writes : Writes (F := F) while0Ops0_2 while0Ops0_2_W :=
  forall_writes_sub_of_map rfl
theorem while0Ops0_3_fresh : Fresh (F := F) while0Ops0_3 :=
  forall_fresh_of_map rfl
abbrev while0Ops0_3_W : List (Ref sig .tc) := [main_while0b_call3_c, main_while0b_call3_c_0, main_while0b_call3_c_1, main_while0b_call3_v0, main_while0b_v56]
theorem while0Ops0_3_writes : Writes (F := F) while0Ops0_3 while0Ops0_3_W :=
  forall_writes_sub_of_map rfl
theorem while0Ops0_4_fresh : Fresh (F := F) while0Ops0_4 :=
  forall_fresh_of_map rfl
abbrev while0Ops0_4_W : List (Ref sig .tc) := [main_while0b_call4_c, main_while0b_call4_c_0, main_while0b_call4_c_1, main_while0b_call4_v0, main_while0b_v57]
theorem while0Ops0_4_writes : Writes (F := F) while0Ops0_4 while0Ops0_4_W :=
  forall_writes_sub_of_map rfl
theorem while0Ops0_5_fresh : Fresh (F := F) while0Ops0_5 :=
  forall_fresh_of_map rfl
abbrev while0Ops0_5_W : List (Ref sig .tc) := [main_while0b_call5_c, main_while0b_call5_v0, main_while0b_v58]
theorem while0Ops0_5_writes : Writes (F := F) while0Ops0_5 while0Ops0_5_W :=
  forall_writes_sub_of_map rfl
theorem while0Ops0_6_fresh : Fresh (F := F) while0Ops0_6 :=
  forall_fresh_of_map rfl
abbrev while0Ops0_6_W : List (Ref sig .tc) := [main_while0b_v59, main_while0b_v60, main_while0b_v61, main_while0b_v62, main_while0b_v63, main_while0b_v64, main_while0b_v65, main_while0b_v66, main_while0b_v67, main_while0b_v68]
theorem while0Ops0_6_writes : Writes (F := F) while0Ops0_6 while0Ops0_6_W :=
  forall_writes_sub_of_map rfl
theorem while0Ops0_7_fresh : Fresh (F := F) while0Ops0_7 :=
  forall_fresh_of_map rfl
abbrev while0Ops0_7_W : List (Ref sig .tc) := [main_while0b_call6_v0, main_while0b_call6_c, main_while0b_call6_c_0, main_while0b_call6_c_1, main_while0b_v69]
theorem while0Ops0_7_writes : Writes (F := F) while0Ops0_7 while0Ops0_7_W :=
  forall_writes_sub_of_map rfl
theorem while0Ops0_8_fresh : Fresh (F := F) while0Ops0_8 :=
  forall_fresh_of_map rfl
abbrev while0Ops0_8_W : List (Ref sig .tc) := [main_while0b_call7_v0, main_while0b_call7_c, main_while0b_call7_c_0, main_while0b_call7_c_1, main_while0b_v70]
theorem while0Ops0_8_writes : Writes (F := F) while0Ops0_8 while0Ops0_8_W :=
  forall_writes_sub_of_map rfl
theorem while0Ops0_9_fresh : Fresh (F := F) while0Ops0_9 :=
  forall_fresh_of_map rfl
abbrev while0Ops0_9_W : List (Ref sig .tc) := [main_while0b_call8_v0, main_while0b_call8_c, main_while0b_call8_c_0, main_while0b_call8_c_1, main_while0b_v71]
theorem while0Ops0_9_writes : Writes (F := F) while0Ops0_9 while0Ops0_9_W :=
  forall_writes_sub_of_map rfl
theorem while0Ops0_10_fresh : Fresh (F := F) while0Ops0_10 :=
  forall_fresh_of_map rfl
abbrev while0Ops0_10_W : List (Ref sig .tc) := [main_while0b_call9_v0, main_while0b_call9_c, main_while0b_call9_c_0, main_while0b_call9_c_1, main_while0b_v72]
theorem while0Ops0_10_writes : Writes (F := F) while0Ops0_10 while0Ops0_10_W :=
  forall_writes_sub_of_map rfl
theorem while0Ops0_11_fresh : Fresh (F := F) while0Ops0_11 :=
  forall_fresh_of_map rfl
abbrev while0Ops0_11_W : List (Ref sig .tc) := [main_while0b_c_25, main_while0b_v73, main_v20_6, main_v20_7, main_v20_8, main_v20_9, main_v20_10, main_v20_11]
theorem while0Ops0_11_writes : Writes (F := F) while0Ops0_11 while0Ops0_11_W :=
  forall_writes_sub_of_map rfl
theorem while1Ops0_fresh : Fresh (F := F) while1Ops0 :=
  forall_fresh_of_map rfl
abbrev while1Ops0_W : List (Ref sig .tc) := [main_while1b_c_29, main_while1b_v53, main_while1b_c_30, main_while1b_v54]
theorem while1Ops0_writes : Writes (F := F) while1Ops0 while1Ops0_W :=
  forall_writes_sub_of_map rfl
theorem while1Ops0_1_fresh : Fresh (F := F) while1Ops0_1 :=
  forall_fresh_of_map rfl
abbrev while1Ops0_1_W : List (Ref sig .tc) := [main_while1b_call10_c, main_while1b_call10_c_0, main_while1b_call10_c_1, main_while1b_call10_v0, main_while1b_v55]
theorem while1Ops0_1_writes : Writes (F := F) while1Ops0_1 while1Ops0_1_W :=
  forall_writes_sub_of_map rfl
theorem while1Ops0_2_fresh : Fresh (F := F) while1Ops0_2 :=
  forall_fresh_of_map rfl
abbrev while1Ops0_2_W : List (Ref sig .tc) := [main_while1b_call11_c, main_while1b_call11_c_0, main_while1b_call11_c_1, main_while1b_call11_v0, main_while1b_v56]
theorem while1Ops0_2_writes : Writes (F := F) while1Ops0_2 while1Ops0_2_W :=
  forall_writes_sub_of_map rfl
theorem while1Ops0_3_fresh : Fresh (F := F) while1Ops0_3 :=
  forall_fresh_of_map rfl
abbrev while1Ops0_3_W : List (Ref sig .tc) := [main_while1b_call12_c, main_while1b_call12_c_0, main_while1b_call12_c_1, main_while1b_call12_v0, main_while1b_v57]
theorem while1Ops0_3_writes : Writes (F := F) while1Ops0_3 while1Ops0_3_W :=
  forall_writes_sub_of_map rfl
theorem while1Ops0_4_fresh : Fresh (F := F) while1Ops0_4 :=
  forall_fresh_of_map rfl
abbrev while1Ops0_4_W : List (Ref sig .tc) := [main_while1b_call13_c, main_while1b_call13_c_0, main_while1b_call13_c_1, main_while1b_call13_v0, main_while1b_v58]
theorem while1Ops0_4_writes : Writes (F := F) while1Ops0_4 while1Ops0_4_W :=
  forall_writes_sub_of_map rfl
theorem while1Ops0_5_fresh : Fresh (F := F) while1Ops0_5 :=
  forall_fresh_of_map rfl
abbrev while1Ops0_5_W : List (Ref sig .tc) := [main_while1b_call14_c, main_while1b_call14_c_0, main_while1b_call14_c_1, main_while1b_call14_v0, main_while1b_v59]
theorem while1Ops0_5_writes : Writes (F := F) while1Ops0_5 while1Ops0_5_W :=
  forall_writes_sub_of_map rfl
theorem while1Ops0_6_fresh : Fresh (F := F) while1Ops0_6 :=
  forall_fresh_of_map rfl
abbrev while1Ops0_6_W : List (Ref sig .tc) := [main_while1b_call15_c, main_while1b_call15_c_0, main_while1b_call15_c_1, main_while1b_call15_v0, main_while1b_v60]
theorem while1Ops0_6_writes : Writes (F := F) while1Ops0_6 while1Ops0_6_W :=
  forall_writes_sub_of_map rfl
theorem while1Ops0_7_fresh : Fresh (F := F) while1Ops0_7 :=
  forall_fresh_of_map rfl
abbrev while1Ops0_7_W : List (Ref sig .tc) := [main_while1b_call16_c, main_while1b_call16_c_0, main_while1b_call16_c_1, main_while1b_call16_v0, main_while1b_v61]
theorem while1Ops0_7_writes : Writes (F := F) while1Ops0_7 while1Ops0_7_W :=
  forall_writes_sub_of_map rfl
theorem while1Ops0_8_fresh : Fresh (F := F) while1Ops0_8 :=
  forall_fresh_of_map rfl
abbrev while1Ops0_8_W : List (Ref sig .tc) := [main_while1b_call17_c, main_while1b_call17_c_0, main_while1b_call17_c_1, main_while1b_call17_v0, main_while1b_v62]
theorem while1Ops0_8_writes : Writes (F := F) while1Ops0_8 while1Ops0_8_W :=
  forall_writes_sub_of_map rfl
theorem while1Ops0_9_fresh : Fresh (F := F) while1Ops0_9 :=
  forall_fresh_of_map rfl
abbrev while1Ops0_9_W : List (Ref sig .tc) := [main_while1b_v63, main_while1b_v64, main_while1b_v65, main_while1b_v66, main_while1b_v67, main_while1b_cst_31, main_while1b_v68, main_while1b_v69, main_while1b_v70, main_while1b_v71, main_while1b_cst_32, main_while1b_v72, main_while1b_v73, main_while1b_v74, main_while1b_v75, main_while1b_v76, main_while1b_v77, main_while1b_v78, main_while1b_v79, main_while1b_v80, main_while1b_v81, main_while1b_v82, main_while1b_v83, main_while1b_v84, main_while1b_v85]
theorem while1Ops0_9_writes : Writes (F := F) while1Ops0_9 while1Ops0_9_W :=
  forall_writes_sub_of_map rfl
theorem while1Ops0_10_fresh : Fresh (F := F) while1Ops0_10 :=
  forall_fresh_of_map rfl
abbrev while1Ops0_10_W : List (Ref sig .tc) := [main_while1b_call18_v0, main_while1b_call18_c, main_while1b_call18_c_0, main_while1b_call18_c_1, main_while1b_v86]
theorem while1Ops0_10_writes : Writes (F := F) while1Ops0_10 while1Ops0_10_W :=
  forall_writes_sub_of_map rfl
theorem while1Ops0_11_fresh : Fresh (F := F) while1Ops0_11 :=
  forall_fresh_of_map rfl
abbrev while1Ops0_11_W : List (Ref sig .tc) := [main_while1b_call19_v0, main_while1b_call19_c, main_while1b_call19_c_0, main_while1b_call19_c_1, main_while1b_v87]
theorem while1Ops0_11_writes : Writes (F := F) while1Ops0_11 while1Ops0_11_W :=
  forall_writes_sub_of_map rfl
theorem while1Ops0_12_fresh : Fresh (F := F) while1Ops0_12 :=
  forall_fresh_of_map rfl
abbrev while1Ops0_12_W : List (Ref sig .tc) := [main_while1b_call20_v0, main_while1b_call20_c, main_while1b_call20_c_0, main_while1b_call20_c_1, main_while1b_v88]
theorem while1Ops0_12_writes : Writes (F := F) while1Ops0_12 while1Ops0_12_W :=
  forall_writes_sub_of_map rfl
theorem while1Ops0_13_fresh : Fresh (F := F) while1Ops0_13 :=
  forall_fresh_of_map rfl
abbrev while1Ops0_13_W : List (Ref sig .tc) := [main_while1b_call21_v0, main_while1b_call21_c, main_while1b_call21_c_0, main_while1b_call21_c_1, main_while1b_v89]
theorem while1Ops0_13_writes : Writes (F := F) while1Ops0_13 while1Ops0_13_W :=
  forall_writes_sub_of_map rfl
theorem while1Ops0_14_fresh : Fresh (F := F) while1Ops0_14 :=
  forall_fresh_of_map rfl
abbrev while1Ops0_14_W : List (Ref sig .tc) := [main_while1b_call22_v0, main_while1b_call22_c, main_while1b_call22_c_0, main_while1b_call22_c_1, main_while1b_v90]
theorem while1Ops0_14_writes : Writes (F := F) while1Ops0_14 while1Ops0_14_W :=
  forall_writes_sub_of_map rfl
theorem while1Ops0_15_fresh : Fresh (F := F) while1Ops0_15 :=
  forall_fresh_of_map rfl
abbrev while1Ops0_15_W : List (Ref sig .tc) := [main_while1b_call23_v0, main_while1b_call23_c, main_while1b_v91]
theorem while1Ops0_15_writes : Writes (F := F) while1Ops0_15 while1Ops0_15_W :=
  forall_writes_sub_of_map rfl
theorem while1Ops0_16_fresh : Fresh (F := F) while1Ops0_16 :=
  forall_fresh_of_map rfl
abbrev while1Ops0_16_W : List (Ref sig .tc) := [main_while1b_c_33, main_while1b_v92, main_v34_8, main_v34_9, main_v34_10, main_v34_11, main_v34_12, main_v34_13, main_v34_14, main_v34_15]
theorem while1Ops0_16_writes : Writes (F := F) while1Ops0_16 while1Ops0_16_W :=
  forall_writes_sub_of_map rfl

/-- Loop 0's condition: the bound, and the counter compared with it. -/
abbrev cond0Ops : List (HloOp τ sig (Elt F)) :=
  [ nullary main_while0c_c_25 (constantI S_ 32 128#32),
    binary main_v20_6 main_while0c_c_25 main_while0c_v53 (cmpi .slt) ]
abbrev cond0Ops_W : List (Ref sig .tc) := [main_while0c_c_25, main_while0c_v53]
theorem cond0Ops_writes : Writes (F := F) cond0Ops cond0Ops_W :=
  forall_writes_sub_of_map rfl

/-- Loop 1's condition: the bound, and the counter compared with it. -/
abbrev cond1Ops : List (HloOp τ sig (Elt F)) :=
  [ nullary main_while1c_c_29 (constantI S_ 32 128#32),
    binary main_v34_8 main_while1c_c_29 main_while1c_v53 (cmpi .slt) ]
abbrev cond1Ops_W : List (Ref sig .tc) := [main_while1c_c_29, main_while1c_v53]
theorem cond1Ops_writes : Writes (F := F) cond1Ops cond1Ops_W :=
  forall_writes_sub_of_map rfl

/-! The stretches. -/
theorem cons {ops : List (HloOp τ sig (Elt F))} {is : List (List (HloOp τ sig (Elt F)))} (hs : Subs ops) (hf : Fresh ops) (h : Plain is) : Plain (ops :: is) :=
  .cons hs (hf := List.forall_iff_forall_mem.mp hf) h
abbrev preI : List (List (HloOp τ sig (Elt F))) := [hostOps0]
theorem preI_plain : Plain (preI (F := F)) := cons hostOps0_sub hostOps0_fresh (.nil)
abbrev body0I : List (List (HloOp τ sig (Elt F))) := [while0Ops0, while0Ops0_1, while0Ops0_2, while0Ops0_3, while0Ops0_4, while0Ops0_5, while0Ops0_6, while0Ops0_7, while0Ops0_8, while0Ops0_9, while0Ops0_10, while0Ops0_11]
theorem body0I_plain : Plain (body0I (F := F)) := cons while0Ops0_sub while0Ops0_fresh (cons while0Ops0_1_sub while0Ops0_1_fresh (cons while0Ops0_2_sub while0Ops0_2_fresh (cons while0Ops0_3_sub while0Ops0_3_fresh (cons while0Ops0_4_sub while0Ops0_4_fresh (cons while0Ops0_5_sub while0Ops0_5_fresh (cons while0Ops0_6_sub while0Ops0_6_fresh (cons while0Ops0_7_sub while0Ops0_7_fresh (cons while0Ops0_8_sub while0Ops0_8_fresh (cons while0Ops0_9_sub while0Ops0_9_fresh (cons while0Ops0_10_sub while0Ops0_10_fresh (cons while0Ops0_11_sub while0Ops0_11_fresh (.nil))))))))))))
abbrev midI : List (List (HloOp τ sig (Elt F))) := [hostOps0_1]
theorem midI_plain : Plain (midI (F := F)) := cons hostOps0_1_sub hostOps0_1_fresh (.nil)
abbrev body1I : List (List (HloOp τ sig (Elt F))) := [while1Ops0, while1Ops0_1, while1Ops0_2, while1Ops0_3, while1Ops0_4, while1Ops0_5, while1Ops0_6, while1Ops0_7, while1Ops0_8, while1Ops0_9, while1Ops0_10, while1Ops0_11, while1Ops0_12, while1Ops0_13, while1Ops0_14, while1Ops0_15, while1Ops0_16]
theorem body1I_plain : Plain (body1I (F := F)) := cons while1Ops0_sub while1Ops0_fresh (cons while1Ops0_1_sub while1Ops0_1_fresh (cons while1Ops0_2_sub while1Ops0_2_fresh (cons while1Ops0_3_sub while1Ops0_3_fresh (cons while1Ops0_4_sub while1Ops0_4_fresh (cons while1Ops0_5_sub while1Ops0_5_fresh (cons while1Ops0_6_sub while1Ops0_6_fresh (cons while1Ops0_7_sub while1Ops0_7_fresh (cons while1Ops0_8_sub while1Ops0_8_fresh (cons while1Ops0_9_sub while1Ops0_9_fresh (cons while1Ops0_10_sub while1Ops0_10_fresh (cons while1Ops0_11_sub while1Ops0_11_fresh (cons while1Ops0_12_sub while1Ops0_12_fresh (cons while1Ops0_13_sub while1Ops0_13_fresh (cons while1Ops0_14_sub while1Ops0_14_fresh (cons while1Ops0_15_sub while1Ops0_15_fresh (cons while1Ops0_16_sub while1Ops0_16_fresh (.nil)))))))))))))))))
abbrev postI : List (List (HloOp τ sig (Elt F))) := [hostOps0_2, hostOps0_3, hostOps0_4]
theorem postI_plain : Plain (postI (F := F)) := cons hostOps0_2_sub hostOps0_2_fresh (cons hostOps0_3_sub hostOps0_3_fresh (cons hostOps0_4_sub hostOps0_4_fresh (.nil)))

variable (m : (ℓ : Loc nD τ sig) → Buf (Elt F) ℓ) (ρ : Dev nD → PrngReg)

/-- The buffers where the first loop is entered. -/
def E0 (c : Dev nD) : Valuation τ sig (Elt F) := entryContents preI m c
/-- The buffers before the first loop's `k`-th condition. -/
def X0 (k : ℕ) (c : Dev nD) : Valuation τ sig (Elt F) := atTrip cond0Ops body0I (E0 m) k c
/-- The buffers where the second loop is entered. -/
def E1 (c : Dev nD) : Valuation τ sig (Elt F) := afterL midI (after cond0Ops (X0 m 128 c))
/-- The buffers before the second loop's `k`-th condition. -/
def X1 (k : ℕ) (c : Dev nD) : Valuation τ sig (Elt F) := atTrip cond1Ops body1I (E1 m) k c
/-- The buffers at the end. -/
def Z (c : Dev nD) : Valuation τ sig (Elt F) := afterL postI (after cond1Ops (X1 m 128 c))

theorem ctr0_entry (c : Dev nD) : E0 m c (Proc.devRef .tc main_v20_6) = fun _ => (0#32 : BitVec 32) := by
  simp only [E0, entryContents, afterL_cons, afterL_nil]
  after_reads_simp
  rfl
theorem ctr1_entry (c : Dev nD) : E1 m c (Proc.devRef .tc main_v34_8) = fun _ => (0#32 : BitVec 32) := by
  simp only [E1, afterL_cons, afterL_nil]
  after_reads_simp
  rfl

theorem ctr0_cond (V : Valuation τ sig (Elt F)) : after cond0Ops V (Proc.devRef .tc main_v20_6) = V (Proc.devRef .tc main_v20_6) :=
  after_of_writes_sub cond0Ops V cond0Ops_writes (by decide +kernel)
set_option maxRecDepth 100000 in
theorem ctr0_step (V : Valuation τ sig (Elt F)) :
    after while0Ops0_11 V (Proc.devRef .tc main_v20_6) = addi (V (Proc.devRef .tc main_v20_6)) (constantI S_ 32 1#32) := by
  after_results
  rfl
/-- Loop 0's counter before its `k`-th condition. -/
theorem X0_ctr (c : Dev nD) : ∀ k, X0 m k c (Proc.devRef .tc main_v20_6) = fun _ => Scf.iv 0#32 1#32 k
  | 0 => by rw [show X0 m 0 c = E0 m c from rfl, ctr0_entry, Scf.iv_zero]
  | k + 1 => by
    rw [show X0 m (k + 1) c = afterL body0I (after cond0Ops (X0 m k c)) from rfl]
    simp only [afterL_cons, afterL_nil]
    rw [ctr0_step, after_of_writes_sub while0Ops0_10 _ while0Ops0_10_writes (by decide +kernel), after_of_writes_sub while0Ops0_9 _ while0Ops0_9_writes (by decide +kernel), after_of_writes_sub while0Ops0_8 _ while0Ops0_8_writes (by decide +kernel), after_of_writes_sub while0Ops0_7 _ while0Ops0_7_writes (by decide +kernel), after_of_writes_sub while0Ops0_6 _ while0Ops0_6_writes (by decide +kernel), after_of_writes_sub while0Ops0_5 _ while0Ops0_5_writes (by decide +kernel), after_of_writes_sub while0Ops0_4 _ while0Ops0_4_writes (by decide +kernel), after_of_writes_sub while0Ops0_3 _ while0Ops0_3_writes (by decide +kernel), after_of_writes_sub while0Ops0_2 _ while0Ops0_2_writes (by decide +kernel), after_of_writes_sub while0Ops0_1 _ while0Ops0_1_writes (by decide +kernel), after_of_writes_sub while0Ops0 _ while0Ops0_writes (by decide +kernel), ctr0_cond, X0_ctr c k, Scf.iv_succ]
    rfl

set_option backward.isDefEq.respectTransparency.types false in
/-- Loop 0 runs 128 trips. -/
theorem cond0_spec : CondSpec (pcfgs (F := F)) defs₀ loops (main_while0_cond (F := F)) cond0Ops body0I (E0 m) 128 := by
  intro k hk c bd
  have hctr : atTrip cond0Ops body0I (E0 m) k c (Proc.devRef .tc main_v20_6) = _ := X0_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip cond0Ops body0I (E0 m) k c) main_v20_6 HostLoop.idx0)
        (HloOp.result _ (atTrip cond0Ops body0I (E0 m) k c) main_while0c_c_25 HostLoop.idx0) = 1#1) (k < 128)
    rw [nullary_result_ne _ _ _ _ (by decide), nullary_result, hctr]
    exact Scf.cmpi_slt_iv_ub_iff (lb := 0#32) (ub := 128#32) (st := 1#32) (by decide) (show k ≤ Scf.trips 0#32 128#32 1#32 from hk)
  isplitl [Hb]; · iexact Hb
  rw [after_cons, after_cons, after_nil]; iexact Hh

theorem ctr1_cond (V : Valuation τ sig (Elt F)) : after cond1Ops V (Proc.devRef .tc main_v34_8) = V (Proc.devRef .tc main_v34_8) :=
  after_of_writes_sub cond1Ops V cond1Ops_writes (by decide +kernel)
set_option maxRecDepth 100000 in
theorem ctr1_step (V : Valuation τ sig (Elt F)) :
    after while1Ops0_16 V (Proc.devRef .tc main_v34_8) = addi (V (Proc.devRef .tc main_v34_8)) (constantI S_ 32 1#32) := by
  after_results
  rfl
/-- Loop 1's counter before its `k`-th condition. -/
theorem X1_ctr (c : Dev nD) : ∀ k, X1 m k c (Proc.devRef .tc main_v34_8) = fun _ => Scf.iv 0#32 1#32 k
  | 0 => by rw [show X1 m 0 c = E1 m c from rfl, ctr1_entry, Scf.iv_zero]
  | k + 1 => by
    rw [show X1 m (k + 1) c = afterL body1I (after cond1Ops (X1 m k c)) from rfl]
    simp only [afterL_cons, afterL_nil]
    rw [ctr1_step, after_of_writes_sub while1Ops0_15 _ while1Ops0_15_writes (by decide +kernel), after_of_writes_sub while1Ops0_14 _ while1Ops0_14_writes (by decide +kernel), after_of_writes_sub while1Ops0_13 _ while1Ops0_13_writes (by decide +kernel), after_of_writes_sub while1Ops0_12 _ while1Ops0_12_writes (by decide +kernel), after_of_writes_sub while1Ops0_11 _ while1Ops0_11_writes (by decide +kernel), after_of_writes_sub while1Ops0_10 _ while1Ops0_10_writes (by decide +kernel), after_of_writes_sub while1Ops0_9 _ while1Ops0_9_writes (by decide +kernel), after_of_writes_sub while1Ops0_8 _ while1Ops0_8_writes (by decide +kernel), after_of_writes_sub while1Ops0_7 _ while1Ops0_7_writes (by decide +kernel), after_of_writes_sub while1Ops0_6 _ while1Ops0_6_writes (by decide +kernel), after_of_writes_sub while1Ops0_5 _ while1Ops0_5_writes (by decide +kernel), after_of_writes_sub while1Ops0_4 _ while1Ops0_4_writes (by decide +kernel), after_of_writes_sub while1Ops0_3 _ while1Ops0_3_writes (by decide +kernel), after_of_writes_sub while1Ops0_2 _ while1Ops0_2_writes (by decide +kernel), after_of_writes_sub while1Ops0_1 _ while1Ops0_1_writes (by decide +kernel), after_of_writes_sub while1Ops0 _ while1Ops0_writes (by decide +kernel), ctr1_cond, X1_ctr c k, Scf.iv_succ]
    rfl

set_option backward.isDefEq.respectTransparency.types false in
/-- Loop 1 runs 128 trips. -/
theorem cond1_spec : CondSpec (pcfgs (F := F)) defs₀ loops (main_while1_cond (F := F)) cond1Ops body1I (E1 m) 128 := by
  intro k hk c bd
  have hctr : atTrip cond1Ops body1I (E1 m) k c (Proc.devRef .tc main_v34_8) = _ := X1_ctr m c k
  unfold main_while1_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip cond1Ops body1I (E1 m) k c) main_v34_8 HostLoop.idx0)
        (HloOp.result _ (atTrip cond1Ops body1I (E1 m) k c) main_while1c_c_29 HostLoop.idx0) = 1#1) (k < 128)
    rw [nullary_result_ne _ _ _ _ (by decide), nullary_result, hctr]
    exact Scf.cmpi_slt_iv_ub_iff (lb := 0#32) (ub := 128#32) (st := 1#32) (by decide) (show k ≤ Scf.trips 0#32 128#32 1#32 from hk)
  isplitl [Hb]; · iexact Hb
  rw [after_cons, after_cons, after_nil]; iexact Hh

local notation "𝕄" => MT nD τ sig Unit (Elt F) ℕ (Option PUnit) ℕ

abbrev noAdm : (p : Fin 0) → (pcfgs (F := F) p).Adm := fun p => p.elim0
abbrev noTk : Fin 0 → Ticket (Ix := Unit) (Name := ℕ) (U := Option PUnit) (Lvl := ℕ) (nD := nD) (τ := τ) (pcfgs (F := F)) noAdm := fun j => j.elim0
abbrev noL : GSem nD τ sig → Finset Unit := fun _ => ∅
abbrev noLv : GSem nD τ sig → Unit → ℕ := fun _ _ => 0
/-- What a core keeps beside its buffers: it owes nothing. -/
abbrev Owed (c : Dev nD) : sProp 𝕄 := iprop(∃ W, owes (c : Thread nD τ) (0 : CellTallies nD τ sig Unit) W)

theorem loopCond {cond : Prog (TpuEff nD τ sig (Elt F) (HostLoop.Sig (Pipeline.Sig Λ₀ (Fin 0) fun p => (pcfgs (F := F) p).Adm) 2) .tc) (Elt F .i1)}
    {condOps : List (HloOp τ sig (Elt F))} {bodyI : List (List (HloOp τ sig (Elt F)))} {W : Dev nD → Valuation τ sig (Elt F)} {n : ℕ}
    (hc : CondSpec (pcfgs (F := F)) defs₀ loops cond condOps bodyI W n) :
    LoopCond (pcfgs (F := F)) defs₀ Variants.none loops Owed cond condOps bodyI W n := fun k hk c bd => by
  iintro ⟨Hb, Hh, HO⟩
  iapply (wp_wand_r frame _ Set.univ)
  isplitl [Hb Hh]
  · iapply (hc k hk c bd)
    isplitl [Hb] <;> iassumption
  iintro %v ⟨%hv, Hb, Hh⟩
  isplitr; · ipureintro; exact hv
  isplitl [Hb]; · iexact Hb
  isplitl [Hh] <;> iassumption

abbrev SegT : Type 1 := CSeg (pcfgs (F := F)) noAdm defs₀ Variants.none noL noLv loops noTk

def loop0 : SegT (F := F) :=
  loopSeg (pcfgs (F := F)) noAdm defs₀ Variants.none noL noLv loops noTk 0 main_while0_cond main_while0_body rfl cond0Ops body0I body0I_plain
    (by rw [while0_body_chain]; rfl) 128 (E0 m) Owed (loopCond (cond0_spec m))
def loop1 : SegT (F := F) :=
  loopSeg (pcfgs (F := F)) noAdm defs₀ Variants.none noL noLv loops noTk 1 main_while1_cond main_while1_body rfl cond1Ops body1I body1I_plain
    (by rw [while1_body_chain]; rfl) 128 (E1 m) Owed (loopCond (cond1_spec m))

/-- @main's items after the first loop, and all of them. -/
def tailSegs : List (SegT (F := F)) :=
  segsOf _ _ _ _ _ _ _ _ Owed midI midI_plain (fun c => after cond0Ops (X0 m 128 c))
    ++ loop1 m :: segsOf _ _ _ _ _ _ _ _ Owed postI postI_plain (fun c => after cond1Ops (X1 m 128 c))
def runSegs : List (SegT (F := F)) :=
  segsOf _ _ _ _ _ _ _ _ Owed preI preI_plain (launchContents m) ++ loop0 m :: tailSegs m

theorem runSegs_prog : (runSegs m).map CSeg.prog
    = (preI.map fun ops => (seq ops : Prog _ PUnit)) ++ HostLoop.enter 0 :: ((midI.map fun ops => (seq ops : Prog _ PUnit))
      ++ HostLoop.enter 1 :: postI.map fun ops => (seq ops : Prog _ PUnit)) := by
  unfold runSegs tailSegs
  rw [List.map_append, List.map_cons, List.map_append, List.map_cons, segsOf_prog, segsOf_prog, segsOf_prog]
  rfl

theorem runSegs_chains : CSeg.Chains (fun c => iprop(held (c : Thread nD τ) (ucRefs τ sig) (launchContents m c) ∗ Owed c)) (runSegs m)
    (fun c => iprop(iprop(held (c : Thread nD τ) (ucRefs τ sig) (Z m c)) ∗ ∃ W, owes (c : Thread nD τ) (0 : CellTallies nD τ sig Unit) W)) := by
  unfold runSegs tailSegs
  exact CSeg.Chains.append (segsOf_chains _ _ _ _ _ _ _ _ Owed preI preI_plain _)
    ⟨fun _ => .rfl, CSeg.Chains.append (segsOf_chains _ _ _ _ _ _ _ _ Owed midI midI_plain _)
      ⟨fun _ => .rfl, segsOf_chains _ _ _ _ _ _ _ _ Owed postI postI_plain _⟩⟩

theorem sems_scoped : ∀ sm : SemLoc sig, sm.isScoped .tc = true := by decide

set_option maxRecDepth 100000 in
/-- Every weakly fair execution terminates, every buffer ends at what `Z` says, and every counter is at zero. -/
theorem run_main : θ_run (defs (F := F)) (onTc (τ := τ) (main (F := F))) ⟨m, fun _ => 0, ρ⟩
    (fun r => (∀ (c : Dev nD) (b : Ref sig .tc), (Proc.devRef .tc b : DevRef τ sig).isScoped = false →
      r.2.mem ((c.tc : Thread nD τ).loc b) = Z m c (Proc.devRef .tc b)) ∧ r.2.sem = fun _ => 0) :=
  Pipeline.θ_run_regions_loop_kit_sems (Ix := Unit) (Name := ℕ) (U := Option PUnit) (Lvl := ℕ) (J := Fin 0) (P := Fin 0) (Val := Elt F)
    (pcfgs (F := F)) noAdm (fun k => k.1.elim0) defs₀ Variants.none noL noLv loops noTk m ρ main (runSegs m)
    (fun c Q => by
      rw [main_chain c]
      show wp _ _ _ (Pipeline.chain ((runSegs m).map CSeg.prog)) Q ⊢ _
      rw [runSegs_prog]
      exact .rfl)
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Owed c))
    (Tₙ := fun c => iprop(held (c : Thread nD τ) (ucRefs τ sig) (Z m c)))
    (hch := runSegs_chains m)
    (hinit := by
      refine Pipeline.initEach noL noLv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = Z m c b)
    (hfin := fun c s' => by
      unfold held
      iintro ⟨Hh, HSI⟩
      ihave Hr := (pointsTo_read_all (ucRefs τ sig) (fun b => ((c : Dev nD), b)) (fun b => Z m c b) s') $$ [Hh HSI]
      · isplitl [Hh] <;> iassumption
      icases Hr with ⟨%h, HSI⟩
      imodintro
      isplitr; · ipureintro; exact h
      iexact HSI)
    (hQ := fun _ h hz => ⟨fun c b hb => h c _ (devRef_mem_ucRefs b hb), funext fun g => hz g (.inr (sems_scoped g.2))⟩)

end Cert.ReferenceIdeal.Scan
-- ==== Proof.Scan.RefFrame.lean ====
/- What every program leaves at its arguments: the contents it was launched on. -/
module

public import proofs.«01_k».proof.Defs
public import proofs.«01_k».proof.Proof.Scan.RefRun

@[expose] public section

noncomputable section

namespace Cert.ReferenceIdeal.Scan

open Idealize.ShloMosaic Idealize.ShloMosaic.TcCoe Idealize.ShloMosaic.StableHlo
open Idealize.SL Idealize.SL.Sem
open Cert.ReferenceIdeal Cert.ReferenceIdeal.Gen

variable {F : FTy → Type} [FloatOps F]
variable (m : (ℓ : Loc nD τ sig) → Buf (Elt F) ℓ)

/-- The arguments. -/
abbrev argRefs : List (Ref sig .tc) := [main_arg0, main_arg1, main_arg2, main_arg3, main_arg4, main_arg5, main_arg6]

theorem arg_hostOps0 (V : Valuation τ sig (Elt F)) (r : Ref sig .tc) (h : r ∈ argRefs) : after hostOps0 V (Proc.devRef .tc r) = V (Proc.devRef .tc r) :=
  after_of_writes_sub hostOps0 V hostOps0_writes ((by decide +kernel : ∀ r ∈ argRefs, r ∉ hostOps0_W) r h)
theorem arg_cond0Ops (V : Valuation τ sig (Elt F)) (r : Ref sig .tc) (h : r ∈ argRefs) : after cond0Ops V (Proc.devRef .tc r) = V (Proc.devRef .tc r) :=
  after_of_writes_sub cond0Ops V cond0Ops_writes ((by decide +kernel : ∀ r ∈ argRefs, r ∉ cond0Ops_W) r h)
theorem arg_while0Ops0 (V : Valuation τ sig (Elt F)) (r : Ref sig .tc) (h : r ∈ argRefs) : after while0Ops0 V (Proc.devRef .tc r) = V (Proc.devRef .tc r) :=
  after_of_writes_sub while0Ops0 V while0Ops0_writes ((by decide +kernel : ∀ r ∈ argRefs, r ∉ while0Ops0_W) r h)
theorem arg_while0Ops0_1 (V : Valuation τ sig (Elt F)) (r : Ref sig .tc) (h : r ∈ argRefs) : after while0Ops0_1 V (Proc.devRef .tc r) = V (Proc.devRef .tc r) :=
  after_of_writes_sub while0Ops0_1 V while0Ops0_1_writes ((by decide +kernel : ∀ r ∈ argRefs, r ∉ while0Ops0_1_W) r h)
theorem arg_while0Ops0_2 (V : Valuation τ sig (Elt F)) (r : Ref sig .tc) (h : r ∈ argRefs) : after while0Ops0_2 V (Proc.devRef .tc r) = V (Proc.devRef .tc r) :=
  after_of_writes_sub while0Ops0_2 V while0Ops0_2_writes ((by decide +kernel : ∀ r ∈ argRefs, r ∉ while0Ops0_2_W) r h)
theorem arg_while0Ops0_3 (V : Valuation τ sig (Elt F)) (r : Ref sig .tc) (h : r ∈ argRefs) : after while0Ops0_3 V (Proc.devRef .tc r) = V (Proc.devRef .tc r) :=
  after_of_writes_sub while0Ops0_3 V while0Ops0_3_writes ((by decide +kernel : ∀ r ∈ argRefs, r ∉ while0Ops0_3_W) r h)
theorem arg_while0Ops0_4 (V : Valuation τ sig (Elt F)) (r : Ref sig .tc) (h : r ∈ argRefs) : after while0Ops0_4 V (Proc.devRef .tc r) = V (Proc.devRef .tc r) :=
  after_of_writes_sub while0Ops0_4 V while0Ops0_4_writes ((by decide +kernel : ∀ r ∈ argRefs, r ∉ while0Ops0_4_W) r h)
theorem arg_while0Ops0_5 (V : Valuation τ sig (Elt F)) (r : Ref sig .tc) (h : r ∈ argRefs) : after while0Ops0_5 V (Proc.devRef .tc r) = V (Proc.devRef .tc r) :=
  after_of_writes_sub while0Ops0_5 V while0Ops0_5_writes ((by decide +kernel : ∀ r ∈ argRefs, r ∉ while0Ops0_5_W) r h)
theorem arg_while0Ops0_6 (V : Valuation τ sig (Elt F)) (r : Ref sig .tc) (h : r ∈ argRefs) : after while0Ops0_6 V (Proc.devRef .tc r) = V (Proc.devRef .tc r) :=
  after_of_writes_sub while0Ops0_6 V while0Ops0_6_writes ((by decide +kernel : ∀ r ∈ argRefs, r ∉ while0Ops0_6_W) r h)
theorem arg_while0Ops0_7 (V : Valuation τ sig (Elt F)) (r : Ref sig .tc) (h : r ∈ argRefs) : after while0Ops0_7 V (Proc.devRef .tc r) = V (Proc.devRef .tc r) :=
  after_of_writes_sub while0Ops0_7 V while0Ops0_7_writes ((by decide +kernel : ∀ r ∈ argRefs, r ∉ while0Ops0_7_W) r h)
theorem arg_while0Ops0_8 (V : Valuation τ sig (Elt F)) (r : Ref sig .tc) (h : r ∈ argRefs) : after while0Ops0_8 V (Proc.devRef .tc r) = V (Proc.devRef .tc r) :=
  after_of_writes_sub while0Ops0_8 V while0Ops0_8_writes ((by decide +kernel : ∀ r ∈ argRefs, r ∉ while0Ops0_8_W) r h)
theorem arg_while0Ops0_9 (V : Valuation τ sig (Elt F)) (r : Ref sig .tc) (h : r ∈ argRefs) : after while0Ops0_9 V (Proc.devRef .tc r) = V (Proc.devRef .tc r) :=
  after_of_writes_sub while0Ops0_9 V while0Ops0_9_writes ((by decide +kernel : ∀ r ∈ argRefs, r ∉ while0Ops0_9_W) r h)
theorem arg_while0Ops0_10 (V : Valuation τ sig (Elt F)) (r : Ref sig .tc) (h : r ∈ argRefs) : after while0Ops0_10 V (Proc.devRef .tc r) = V (Proc.devRef .tc r) :=
  after_of_writes_sub while0Ops0_10 V while0Ops0_10_writes ((by decide +kernel : ∀ r ∈ argRefs, r ∉ while0Ops0_10_W) r h)
theorem arg_while0Ops0_11 (V : Valuation τ sig (Elt F)) (r : Ref sig .tc) (h : r ∈ argRefs) : after while0Ops0_11 V (Proc.devRef .tc r) = V (Proc.devRef .tc r) :=
  after_of_writes_sub while0Ops0_11 V while0Ops0_11_writes ((by decide +kernel : ∀ r ∈ argRefs, r ∉ while0Ops0_11_W) r h)
theorem arg_hostOps0_1 (V : Valuation τ sig (Elt F)) (r : Ref sig .tc) (h : r ∈ argRefs) : after hostOps0_1 V (Proc.devRef .tc r) = V (Proc.devRef .tc r) :=
  after_of_writes_sub hostOps0_1 V hostOps0_1_writes ((by decide +kernel : ∀ r ∈ argRefs, r ∉ hostOps0_1_W) r h)
theorem arg_cond1Ops (V : Valuation τ sig (Elt F)) (r : Ref sig .tc) (h : r ∈ argRefs) : after cond1Ops V (Proc.devRef .tc r) = V (Proc.devRef .tc r) :=
  after_of_writes_sub cond1Ops V cond1Ops_writes ((by decide +kernel : ∀ r ∈ argRefs, r ∉ cond1Ops_W) r h)
theorem arg_while1Ops0 (V : Valuation τ sig (Elt F)) (r : Ref sig .tc) (h : r ∈ argRefs) : after while1Ops0 V (Proc.devRef .tc r) = V (Proc.devRef .tc r) :=
  after_of_writes_sub while1Ops0 V while1Ops0_writes ((by decide +kernel : ∀ r ∈ argRefs, r ∉ while1Ops0_W) r h)
theorem arg_while1Ops0_1 (V : Valuation τ sig (Elt F)) (r : Ref sig .tc) (h : r ∈ argRefs) : after while1Ops0_1 V (Proc.devRef .tc r) = V (Proc.devRef .tc r) :=
  after_of_writes_sub while1Ops0_1 V while1Ops0_1_writes ((by decide +kernel : ∀ r ∈ argRefs, r ∉ while1Ops0_1_W) r h)
theorem arg_while1Ops0_2 (V : Valuation τ sig (Elt F)) (r : Ref sig .tc) (h : r ∈ argRefs) : after while1Ops0_2 V (Proc.devRef .tc r) = V (Proc.devRef .tc r) :=
  after_of_writes_sub while1Ops0_2 V while1Ops0_2_writes ((by decide +kernel : ∀ r ∈ argRefs, r ∉ while1Ops0_2_W) r h)
theorem arg_while1Ops0_3 (V : Valuation τ sig (Elt F)) (r : Ref sig .tc) (h : r ∈ argRefs) : after while1Ops0_3 V (Proc.devRef .tc r) = V (Proc.devRef .tc r) :=
  after_of_writes_sub while1Ops0_3 V while1Ops0_3_writes ((by decide +kernel : ∀ r ∈ argRefs, r ∉ while1Ops0_3_W) r h)
theorem arg_while1Ops0_4 (V : Valuation τ sig (Elt F)) (r : Ref sig .tc) (h : r ∈ argRefs) : after while1Ops0_4 V (Proc.devRef .tc r) = V (Proc.devRef .tc r) :=
  after_of_writes_sub while1Ops0_4 V while1Ops0_4_writes ((by decide +kernel : ∀ r ∈ argRefs, r ∉ while1Ops0_4_W) r h)
theorem arg_while1Ops0_5 (V : Valuation τ sig (Elt F)) (r : Ref sig .tc) (h : r ∈ argRefs) : after while1Ops0_5 V (Proc.devRef .tc r) = V (Proc.devRef .tc r) :=
  after_of_writes_sub while1Ops0_5 V while1Ops0_5_writes ((by decide +kernel : ∀ r ∈ argRefs, r ∉ while1Ops0_5_W) r h)
theorem arg_while1Ops0_6 (V : Valuation τ sig (Elt F)) (r : Ref sig .tc) (h : r ∈ argRefs) : after while1Ops0_6 V (Proc.devRef .tc r) = V (Proc.devRef .tc r) :=
  after_of_writes_sub while1Ops0_6 V while1Ops0_6_writes ((by decide +kernel : ∀ r ∈ argRefs, r ∉ while1Ops0_6_W) r h)
theorem arg_while1Ops0_7 (V : Valuation τ sig (Elt F)) (r : Ref sig .tc) (h : r ∈ argRefs) : after while1Ops0_7 V (Proc.devRef .tc r) = V (Proc.devRef .tc r) :=
  after_of_writes_sub while1Ops0_7 V while1Ops0_7_writes ((by decide +kernel : ∀ r ∈ argRefs, r ∉ while1Ops0_7_W) r h)
theorem arg_while1Ops0_8 (V : Valuation τ sig (Elt F)) (r : Ref sig .tc) (h : r ∈ argRefs) : after while1Ops0_8 V (Proc.devRef .tc r) = V (Proc.devRef .tc r) :=
  after_of_writes_sub while1Ops0_8 V while1Ops0_8_writes ((by decide +kernel : ∀ r ∈ argRefs, r ∉ while1Ops0_8_W) r h)
theorem arg_while1Ops0_9 (V : Valuation τ sig (Elt F)) (r : Ref sig .tc) (h : r ∈ argRefs) : after while1Ops0_9 V (Proc.devRef .tc r) = V (Proc.devRef .tc r) :=
  after_of_writes_sub while1Ops0_9 V while1Ops0_9_writes ((by decide +kernel : ∀ r ∈ argRefs, r ∉ while1Ops0_9_W) r h)
theorem arg_while1Ops0_10 (V : Valuation τ sig (Elt F)) (r : Ref sig .tc) (h : r ∈ argRefs) : after while1Ops0_10 V (Proc.devRef .tc r) = V (Proc.devRef .tc r) :=
  after_of_writes_sub while1Ops0_10 V while1Ops0_10_writes ((by decide +kernel : ∀ r ∈ argRefs, r ∉ while1Ops0_10_W) r h)
theorem arg_while1Ops0_11 (V : Valuation τ sig (Elt F)) (r : Ref sig .tc) (h : r ∈ argRefs) : after while1Ops0_11 V (Proc.devRef .tc r) = V (Proc.devRef .tc r) :=
  after_of_writes_sub while1Ops0_11 V while1Ops0_11_writes ((by decide +kernel : ∀ r ∈ argRefs, r ∉ while1Ops0_11_W) r h)
theorem arg_while1Ops0_12 (V : Valuation τ sig (Elt F)) (r : Ref sig .tc) (h : r ∈ argRefs) : after while1Ops0_12 V (Proc.devRef .tc r) = V (Proc.devRef .tc r) :=
  after_of_writes_sub while1Ops0_12 V while1Ops0_12_writes ((by decide +kernel : ∀ r ∈ argRefs, r ∉ while1Ops0_12_W) r h)
theorem arg_while1Ops0_13 (V : Valuation τ sig (Elt F)) (r : Ref sig .tc) (h : r ∈ argRefs) : after while1Ops0_13 V (Proc.devRef .tc r) = V (Proc.devRef .tc r) :=
  after_of_writes_sub while1Ops0_13 V while1Ops0_13_writes ((by decide +kernel : ∀ r ∈ argRefs, r ∉ while1Ops0_13_W) r h)
theorem arg_while1Ops0_14 (V : Valuation τ sig (Elt F)) (r : Ref sig .tc) (h : r ∈ argRefs) : after while1Ops0_14 V (Proc.devRef .tc r) = V (Proc.devRef .tc r) :=
  after_of_writes_sub while1Ops0_14 V while1Ops0_14_writes ((by decide +kernel : ∀ r ∈ argRefs, r ∉ while1Ops0_14_W) r h)
theorem arg_while1Ops0_15 (V : Valuation τ sig (Elt F)) (r : Ref sig .tc) (h : r ∈ argRefs) : after while1Ops0_15 V (Proc.devRef .tc r) = V (Proc.devRef .tc r) :=
  after_of_writes_sub while1Ops0_15 V while1Ops0_15_writes ((by decide +kernel : ∀ r ∈ argRefs, r ∉ while1Ops0_15_W) r h)
theorem arg_while1Ops0_16 (V : Valuation τ sig (Elt F)) (r : Ref sig .tc) (h : r ∈ argRefs) : after while1Ops0_16 V (Proc.devRef .tc r) = V (Proc.devRef .tc r) :=
  after_of_writes_sub while1Ops0_16 V while1Ops0_16_writes ((by decide +kernel : ∀ r ∈ argRefs, r ∉ while1Ops0_16_W) r h)
theorem arg_hostOps0_2 (V : Valuation τ sig (Elt F)) (r : Ref sig .tc) (h : r ∈ argRefs) : after hostOps0_2 V (Proc.devRef .tc r) = V (Proc.devRef .tc r) :=
  after_of_writes_sub hostOps0_2 V hostOps0_2_writes ((by decide +kernel : ∀ r ∈ argRefs, r ∉ hostOps0_2_W) r h)
theorem arg_hostOps0_3 (V : Valuation τ sig (Elt F)) (r : Ref sig .tc) (h : r ∈ argRefs) : after hostOps0_3 V (Proc.devRef .tc r) = V (Proc.devRef .tc r) :=
  after_of_writes_sub hostOps0_3 V hostOps0_3_writes ((by decide +kernel : ∀ r ∈ argRefs, r ∉ hostOps0_3_W) r h)
theorem arg_hostOps0_4 (V : Valuation τ sig (Elt F)) (r : Ref sig .tc) (h : r ∈ argRefs) : after hostOps0_4 V (Proc.devRef .tc r) = V (Proc.devRef .tc r) :=
  after_of_writes_sub hostOps0_4 V hostOps0_4_writes ((by decide +kernel : ∀ r ∈ argRefs, r ∉ hostOps0_4_W) r h)

theorem E0_arg (c : Dev nD) (r : Ref sig .tc) (h : r ∈ argRefs) : E0 m c (Proc.devRef .tc r) = m ((c : Thread nD τ).loc r) := by
  simp only [E0, entryContents, afterL_cons, afterL_nil]
  rw [arg_hostOps0 _ r h]
theorem X0_arg (c : Dev nD) (r : Ref sig .tc) (h : r ∈ argRefs) : ∀ k, X0 m k c (Proc.devRef .tc r) = m ((c : Thread nD τ).loc r)
  | 0 => E0_arg m c r h
  | k + 1 => by
    rw [show X0 m (k + 1) c = afterL body0I (after cond0Ops (X0 m k c)) from rfl]
    simp only [afterL_cons, afterL_nil]
    rw [arg_while0Ops0_11 _ r h, arg_while0Ops0_10 _ r h, arg_while0Ops0_9 _ r h, arg_while0Ops0_8 _ r h, arg_while0Ops0_7 _ r h, arg_while0Ops0_6 _ r h, arg_while0Ops0_5 _ r h, arg_while0Ops0_4 _ r h, arg_while0Ops0_3 _ r h, arg_while0Ops0_2 _ r h, arg_while0Ops0_1 _ r h, arg_while0Ops0 _ r h, arg_cond0Ops _ r h, X0_arg c r h k]
theorem E1_arg (c : Dev nD) (r : Ref sig .tc) (h : r ∈ argRefs) : E1 m c (Proc.devRef .tc r) = m ((c : Thread nD τ).loc r) := by
  simp only [E1, afterL_cons, afterL_nil]
  rw [arg_hostOps0_1 _ r h, arg_cond0Ops _ r h, X0_arg m c r h]
theorem X1_arg (c : Dev nD) (r : Ref sig .tc) (h : r ∈ argRefs) : ∀ k, X1 m k c (Proc.devRef .tc r) = m ((c : Thread nD τ).loc r)
  | 0 => E1_arg m c r h
  | k + 1 => by
    rw [show X1 m (k + 1) c = afterL body1I (after cond1Ops (X1 m k c)) from rfl]
    simp only [afterL_cons, afterL_nil]
    rw [arg_while1Ops0_16 _ r h, arg_while1Ops0_15 _ r h, arg_while1Ops0_14 _ r h, arg_while1Ops0_13 _ r h, arg_while1Ops0_12 _ r h, arg_while1Ops0_11 _ r h, arg_while1Ops0_10 _ r h, arg_while1Ops0_9 _ r h, arg_while1Ops0_8 _ r h, arg_while1Ops0_7 _ r h, arg_while1Ops0_6 _ r h, arg_while1Ops0_5 _ r h, arg_while1Ops0_4 _ r h, arg_while1Ops0_3 _ r h, arg_while1Ops0_2 _ r h, arg_while1Ops0_1 _ r h, arg_while1Ops0 _ r h, arg_cond1Ops _ r h, X1_arg c r h k]
theorem Z_arg (c : Dev nD) (r : Ref sig .tc) (h : r ∈ argRefs) : Z m c (Proc.devRef .tc r) = m ((c : Thread nD τ).loc r) := by
  simp only [Z, afterL_cons, afterL_nil]
  rw [arg_hostOps0_4 _ r h, arg_hostOps0_3 _ r h, arg_hostOps0_2 _ r h, arg_cond1Ops _ r h, X1_arg m c r h]

/-- The run, read at the arguments. -/
theorem frame_main (ρ : Dev nD → PrngReg) :
    θ_run (defs (F := F)) (onTc (τ := τ) (main (F := F))) ⟨m, fun _ => 0, ρ⟩ (fun r =>
      (∀ c : Dev nD, ∀ b ∈ argRefs, r.2.mem ((c : Thread nD τ).loc b) = m ((c : Thread nD τ).loc b)) ∧ r.2.sem = fun _ => 0) :=
  (θ_run defs _ _).mono (fun _ h => ⟨fun c b hb => (h.1 c b ((by decide : ∀ r ∈ argRefs, (Proc.devRef .tc r : DevRef τ sig).isScoped = false) b hb)).trans (Z_arg m c b hb), h.2⟩) (run_main m ρ)

end Cert.ReferenceIdeal.Scan

end
-- ==== Proof.Scan.Frames.lean ====
/- What every program leaves at its arguments: the contents it was launched on. -/
module

public import proofs.«01_k».proof.Defs
public import proofs.«01_k».proof.Proof.Scan.Run
public import proofs.«01_k».proof.Proof.Scan.RefFrame
public import proofs.«01_k».proof.Proof.Gen.Kernel

@[expose] public section

noncomputable section

namespace Cert.KernelIdeal.Scan

open Idealize.ShloMosaic Idealize.ShloMosaic.TcCoe
open Idealize.SL Idealize.SL.Sem
open Cert.KernelIdeal Cert.KernelIdeal.Gen

variable {F : FTy → Type} [FloatOps F]
variable (m : (ℓ : Loc nD τ sig) → Buf (Elt F) ℓ)

/-- The arguments. -/
abbrev argRefs : List (Ref sig .tc) := [main_arg0, main_arg1, main_arg2, main_arg3, main_arg4, main_arg5, main_arg6]

theorem inj0 : Function.Injective (Pipeline.arrRef spec0) := by decide
theorem inj1 : Function.Injective (Pipeline.arrRef spec1) := by decide

theorem W2_in (c : Dev nD) (r : Ref sig .tc) (h : ∀ w, Pipeline.arrRef spec0 w = r → (cfg0.win w).isOut = false) :
    W2 m c (Proc.devRef .tc r) = V1 m c (Proc.devRef .tc r) :=
  Pipeline.afterRegion_keeps (d0 m c) (V1 m c) inj0 (fun w => Fwd.A_eq _ c w) r h
theorem W3_in (c : Dev nD) (r : Ref sig .tc) (h : ∀ w, Pipeline.arrRef spec1 w = r → (cfg1.win w).isOut = false) :
    W3 m c (Proc.devRef .tc r) = W2 m c (Proc.devRef .tc r) :=
  Pipeline.afterRegion_keeps (d1 m c) (W2 m c) inj1 (fun w => Bwd.A_eq _ c w) r h

/-- No item writes an argument. -/
theorem W3_arg (c : Dev nD) (r : Ref sig .tc) (h : r ∈ argRefs) : W3 m c (Proc.devRef .tc r) = m ((c : Thread nD τ).loc r) :=
  (W3_in m c r ((by decide : ∀ r ∈ argRefs, ∀ w, Pipeline.arrRef spec1 w = r → (cfg1.win w).isOut = false) r h)).trans <|
    (W2_in m c r ((by decide : ∀ r ∈ argRefs, ∀ w, Pipeline.arrRef spec0 w = r → (cfg0.win w).isOut = false) r h)).trans <|
      (V1_of m c r ((by decide : ∀ r ∈ argRefs, r ∉ hostOps0_W) r h)).trans rfl

theorem arg_uc : ∀ r ∈ argRefs, (Proc.devRef .tc r : DevRef τ sig) ∈ Pipeline.ucRefs τ sig := fun r h =>
  Finset.mem_filter.mpr ⟨StableHlo.devRef_mem_tcRefs _, (by decide : ∀ r ∈ argRefs, ¬(Proc.devRef .tc r : DevRef τ sig).isScoped = true) r h⟩

/-- The run, read at the arguments. -/
theorem frame_main (ρ : Dev nD → PrngReg) :
    θ_run defs (onTc (τ := τ) (main (F := F))) ⟨m, fun _ => 0, ρ⟩ (fun r =>
      (∀ c : Dev nD, ∀ b ∈ argRefs, r.2.mem ((c : Thread nD τ).loc b) = m ((c : Thread nD τ).loc b)) ∧ r.2.sem = fun _ => 0) :=
  (θ_run defs _ _).mono (fun _ h => ⟨fun c b hb => (h.1 c _ (arg_uc b hb)).trans (W3_arg m c b hb), h.2⟩) (run_main m ρ)

end Cert.KernelIdeal.Scan

namespace Cert

open Idealize.ShloMosaic Idealize.SL.Sem

/-- The frame at any float values: the run ends, the seven arguments keep their contents, every counter is at zero. -/
def FrameAt (F : FTy → Type) [FloatOps F] : Prop :=
  ∀ (m : (ℓ : Loc Cert.KernelIdeal.nD Cert.KernelIdeal.τ Cert.KernelIdeal.sig) → Buf (Elt F) ℓ) (g : Dev Cert.KernelIdeal.nD → PrngReg), True →
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

/-- The run, its seven arguments out of the list. -/
theorem frameAt (F : FTy → Type) [FloatOps F] : FrameAt F := fun m g _ =>
  (θ_run Cert.KernelIdeal.defs _ _).mono (fun _ h => ⟨fun c => ⟨h.1 c _ (by decide), h.1 c _ (by decide), h.1 c _ (by decide), h.1 c _ (by decide), h.1 c _ (by decide), h.1 c _ (by decide), h.1 c _ (by decide)⟩, h.2⟩)
    (Cert.KernelIdeal.Scan.frame_main m g)

/-- The two programs have one text, so the frame of the one at the floats of the claim is the frame of the other. -/
theorem frameAt_bits : FrameAt Bits = Cert.quiescent_Kernel := by sl_kernel_rfl
theorem frame_kernel : Cert.quiescent_Kernel := Eq.mp frameAt_bits (frameAt Bits)
theorem frame_kernel_ideal : Cert.quiescent_KernelIdeal := fun m g _ => frameAt Ideal m g trivial
theorem frame_reference_ideal : Cert.quiescent_ReferenceIdeal := fun m g _ =>
  (θ_run Cert.ReferenceIdeal.defs _ _).mono (fun _ h => ⟨fun c => ⟨h.1 c _ (by decide), h.1 c _ (by decide), h.1 c _ (by decide), h.1 c _ (by decide), h.1 c _ (by decide), h.1 c _ (by decide), h.1 c _ (by decide)⟩, h.2⟩)
    (Cert.ReferenceIdeal.Scan.frame_main (F := Ideal) m g)

end Cert

end
-- ==== Proof.Scan.Model.lean ====
/- The scan in numbers: the recursion over the chunks forwards, the recursion of the gradients backwards, and the two ways of
   signing a sum, equal where nothing is infinite. -/
module

public import Idealize.ShloMosaic.PureOps.Ideal

@[expose] public section

noncomputable section

namespace Cert.Scan

/-- One matrix for each head. -/
abbrev M (a b : ℕ) : Type := Fin 8 → Fin a → Fin b → EReal

/-- The chunks of the seven arguments. -/
structure Chunks where
  u : ℕ → M 64 128
  w : ℕ → M 64 128
  qd : ℕ → M 64 128
  kd : ℕ → M 64 128
  a : ℕ → M 64 64
  g : ℕ → Fin 8 → EReal
  do' : ℕ → M 64 128

/-! ## One chunk forwards -/

/-- The values a chunk adds, the state's part taken off. -/
def vnew (S : M 128 128) (w u : M 64 128) : M 64 128 := fun h i v => u h i v - ∑ k : Fin 128, w h i k * S h k v
/-- The chunk's output: what the state answers and what the chunk's own values answer. -/
def outp (S : M 128 128) (w qd u : M 64 128) (a : M 64 64) : M 64 128 := fun h i v =>
  (∑ k : Fin 128, qd h i k * S h k v) + ∑ j : Fin 64, a h i j * vnew S w u h j v
/-- The state after the chunk. -/
def next (S : M 128 128) (w u kd : M 64 128) (g : Fin 8 → EReal) : M 128 128 := fun h k v =>
  S h k v * g h + ∑ c : Fin 64, kd h c k * vnew S w u h c v

/-! ## One chunk backwards -/

/-- The gradient of the chunk's values, from the output's and from the gradient of the state after it. -/
def dval (dS : M 128 128) (kd do' : M 64 128) (a : M 64 64) : M 64 128 := fun h i v =>
  (∑ j : Fin 64, a h j i * do' h j v) + ∑ k : Fin 128, kd h i k * dS h k v
/-- The gradient of the state before the chunk. -/
def back (dS : M 128 128) (w qd kd do' : M 64 128) (a : M 64 64) (g : Fin 8 → EReal) : M 128 128 := fun h k v =>
  dS h k v * g h + (∑ c : Fin 64, qd h c k * do' h c v) - ∑ c : Fin 64, w h c k * dval dS kd do' a h c v
def dqry (S : M 128 128) (do' : M 64 128) : M 64 128 := fun h i k => ∑ v : Fin 128, do' h i v * S h k v
def dkey (dS S : M 128 128) (w u : M 64 128) : M 64 128 := fun h i k => ∑ v : Fin 128, vnew S w u h i v * dS h k v
def datt (S : M 128 128) (w u do' : M 64 128) : M 64 64 := fun h i j => ∑ v : Fin 128, do' h i v * vnew S w u h j v
def dwgt (dS S : M 128 128) (kd do' : M 64 128) (a : M 64 64) : M 64 128 := fun h i k =>
  0 - ∑ v : Fin 128, dval dS kd do' a h i v * S h k v
def dgain (dS S : M 128 128) : Fin 8 → EReal := fun h => ∑ k : Fin 128, ∑ v : Fin 128, dS h k v * S h k v

/-! ## All chunks -/

/-- The state before chunk `n`. -/
def st (D : Chunks) : ℕ → M 128 128
  | 0 => fun _ _ _ => 0
  | n + 1 => next (st D n) (D.w n) (D.u n) (D.kd n) (D.g n)
/-- The gradient of the state after chunk `127 - j`. -/
def dst (D : Chunks) : ℕ → M 128 128
  | 0 => fun _ _ _ => 0
  | j + 1 => back (dst D j) (D.w (127 - j)) (D.qd (127 - j)) (D.kd (127 - j)) (D.do' (127 - j)) (D.a (127 - j)) (D.g (127 - j))

/-- The output of chunk `n`. -/
def outc (D : Chunks) (n : ℕ) : M 64 128 := outp (st D n) (D.w n) (D.qd n) (D.u n) (D.a n)

/-- The gradient of the state after chunk `n`. -/
def gS (D : Chunks) (n : ℕ) : M 128 128 := dst D (127 - n)
def duc (D : Chunks) (n : ℕ) : M 64 128 := dval (gS D n) (D.kd n) (D.do' n) (D.a n)
def dwc (D : Chunks) (n : ℕ) : M 64 128 := dwgt (gS D n) (st D n) (D.kd n) (D.do' n) (D.a n)
def dqc (D : Chunks) (n : ℕ) : M 64 128 := dqry (st D n) (D.do' n)
def dkc (D : Chunks) (n : ℕ) : M 64 128 := dkey (gS D n) (st D n) (D.w n) (D.u n)
def dac (D : Chunks) (n : ℕ) : M 64 64 := datt (st D n) (D.w n) (D.u n) (D.do' n)
def dgc (D : Chunks) (n : ℕ) : Fin 8 → EReal := dgain (gS D n) (st D n)

/-- The gradient of the decays, in the first of 128 lanes. -/
def dgl (D : Chunks) (n : ℕ) (h : Fin 8) (l : Fin 128) : EReal := if l = 0 then dgc D n h else 0

/-! ## Finite numbers -/

/-- A number that is not infinite. -/
def Fn (x : EReal) : Prop := ∃ r : ℝ, x = (r : EReal)

theorem Fn.zero : Fn 0 := ⟨0, rfl⟩
theorem Fn.add {x y : EReal} (hx : Fn x) (hy : Fn y) : Fn (x + y) := by
  obtain ⟨a, rfl⟩ := hx; obtain ⟨b, rfl⟩ := hy; exact ⟨a + b, (EReal.coe_add a b).symm⟩
theorem Fn.mul {x y : EReal} (hx : Fn x) (hy : Fn y) : Fn (x * y) := by
  obtain ⟨a, rfl⟩ := hx; obtain ⟨b, rfl⟩ := hy; exact ⟨a * b, (EReal.coe_mul a b).symm⟩
theorem Fn.neg {x : EReal} (hx : Fn x) : Fn (-x) := by
  obtain ⟨a, rfl⟩ := hx; exact ⟨-a, (EReal.coe_neg a).symm⟩
theorem Fn.sub {x y : EReal} (hx : Fn x) (hy : Fn y) : Fn (x - y) := by
  rw [sub_eq_add_neg]; exact hx.add hy.neg
theorem Fn.sum {n : ℕ} {f : Fin n → EReal} (h : ∀ i, Fn (f i)) : Fn (∑ i, f i) := by
  classical
  refine Finset.sum_induction f Fn (fun _ _ => Fn.add) Fn.zero fun i _ => h i

theorem neg_add_fn {x y : EReal} (hx : Fn x) (hy : Fn y) : -(x + y) = -x + -y := by
  obtain ⟨a, rfl⟩ := hx; obtain ⟨b, rfl⟩ := hy
  rw [← EReal.coe_add, ← EReal.coe_neg, ← EReal.coe_neg, ← EReal.coe_neg, ← EReal.coe_add, neg_add]

/-- The negation goes into a sum of finite terms. -/
theorem neg_sum_fn {n : ℕ} {f : Fin n → EReal} (h : ∀ i, Fn (f i)) : -(∑ i, f i) = ∑ i, -f i := by
  induction n with
  | zero => simp
  | succ n ih =>
    rw [Fin.sum_univ_succ, Fin.sum_univ_succ, neg_add_fn (h 0) (Fn.sum fun i => h _), ih fun i => h _]

/-- Every number of a matrix is finite. -/
def FnM {a b : ℕ} (X : M a b) : Prop := ∀ h i j, Fn (X h i j)

structure Chunks.Finite (D : Chunks) : Prop where
  u : ∀ n, FnM (D.u n)
  w : ∀ n, FnM (D.w n)
  qd : ∀ n, FnM (D.qd n)
  kd : ∀ n, FnM (D.kd n)
  a : ∀ n, FnM (D.a n)
  g : ∀ n h, Fn (D.g n h)
  do' : ∀ n, FnM (D.do' n)

theorem vnew_fn {S : M 128 128} {w u : M 64 128} (hS : FnM S) (hw : FnM w) (hu : FnM u) : FnM (vnew S w u) := fun h i v =>
  (hu h i v).sub (Fn.sum fun k => (hw h i k).mul (hS h k v))
theorem dval_fn {dS : M 128 128} {kd do' : M 64 128} {a : M 64 64} (hS : FnM dS) (hk : FnM kd) (hd : FnM do') (ha : FnM a) :
    FnM (dval dS kd do' a) := fun h i v =>
  (Fn.sum fun j => (ha h j i).mul (hd h j v)).add (Fn.sum fun k => (hk h i k).mul (hS h k v))

theorem st_fn {D : Chunks} (hD : D.Finite) : ∀ n, FnM (st D n)
  | 0 => fun _ _ _ => Fn.zero
  | n + 1 => fun h k v => ((st_fn hD n h k v).mul (hD.g n h)).add
      (Fn.sum fun c => (hD.kd n h c k).mul (vnew_fn (st_fn hD n) (hD.w n) (hD.u n) h c v))
theorem dst_fn {D : Chunks} (hD : D.Finite) : ∀ j, FnM (dst D j)
  | 0 => fun _ _ _ => Fn.zero
  | j + 1 => fun h k v => (((dst_fn hD j h k v).mul (hD.g _ h)).add (Fn.sum fun c => (hD.qd _ h c k).mul (hD.do' _ h c v))).sub
      (Fn.sum fun c => (hD.w _ h c k).mul (dval_fn (dst_fn hD j) (hD.kd _) (hD.do' _) (hD.a _) h c v))

/-! ## The reference's spelling: the negated values inside the products -/

/-- The gradient of the values as the reference sums it. -/
def dvalR (dS : M 128 128) (kd do' : M 64 128) (a : M 64 64) : M 64 128 := fun h i v =>
  (∑ k : Fin 128, dS h k v * kd h i k) + ∑ j : Fin 64, do' h j v * a h j i
theorem dvalR_eq (dS : M 128 128) (kd do' : M 64 128) (a : M 64 64) : dvalR dS kd do' a = dval dS kd do' a := by
  funext h i v
  unfold dvalR dval
  rw [add_comm]
  simp only [mul_comm]

/-- The gradient of the state before the chunk as the reference sums it. -/
def backR (dS : M 128 128) (w qd kd do' : M 64 128) (a : M 64 64) (g : Fin 8 → EReal) : M 128 128 := fun h k v =>
  (dS h k v * g h + ∑ c : Fin 64, do' h c v * qd h c k) + ∑ c : Fin 64, -dvalR dS kd do' a h c v * w h c k
theorem backR_eq {dS : M 128 128} {w qd kd do' : M 64 128} {a : M 64 64} (g : Fin 8 → EReal) (hS : FnM dS) (hw : FnM w)
    (hk : FnM kd) (hd : FnM do') (ha : FnM a) : backR dS w qd kd do' a g = back dS w qd kd do' a g := by
  funext h k v
  unfold backR back
  rw [dvalR_eq, sub_eq_add_neg, neg_sum_fn fun c => (hw h c k).mul (dval_fn hS hk hd ha h c v)]
  congr 1
  · congr 1
    exact Finset.sum_congr rfl fun c _ => mul_comm _ _
  · exact Finset.sum_congr rfl fun c _ => by rw [EReal.neg_mul, mul_comm]

def dwgtR (dS S : M 128 128) (kd do' : M 64 128) (a : M 64 64) : M 64 128 := fun h i k =>
  ∑ v : Fin 128, -dvalR dS kd do' a h i v * S h k v
theorem dwgtR_eq {dS S : M 128 128} {kd do' : M 64 128} {a : M 64 64} (hS : FnM S) (hdS : FnM dS) (hk : FnM kd) (hd : FnM do')
    (ha : FnM a) : dwgtR dS S kd do' a = dwgt dS S kd do' a := by
  funext h i k
  unfold dwgtR dwgt
  rw [dvalR_eq, zero_sub, neg_sum_fn fun v => (dval_fn hdS hk hd ha h i v).mul (hS h k v)]
  exact Finset.sum_congr rfl fun v _ => EReal.neg_mul _ _

end Cert.Scan

end
-- ==== Proof.Scan.FwdVal.lean ====
/- What one point of the forward scan leaves, in numbers: eight chunks of the recursion. -/
module

public import proofs.«01_k».proof.Proof.Scan.FwdDat
public import proofs.«01_k».proof.Proof.Scan.Model
public import Idealize.ShloMosaic.Lib.Pipeline.ValueKit
public import Idealize.ShloMosaic.Lib.Pointwise

@[expose] public section

set_option maxRecDepth 16384

noncomputable section

namespace Cert.KernelIdeal.Scan.Fwd

open Idealize.ShloMosaic Idealize.ShloMosaic.TcCoe
open Idealize.ShloMosaic.Pipeline (Dat Cfg Window)
open Cert.KernelIdeal Cert.KernelIdeal.Gen

/-- The values a chunk adds. -/
def vnP (S : Vec Ideal S8x128x128 .f32) (W Q : Vec Ideal S8x64x128 .bf16) (U : Vec Ideal S8x64x128 .f32) : FVec Ideal S8x64x128 .bf16 :=
  k0_pay8 S W Q U
/-- A chunk's output. -/
def outP (S : Vec Ideal S8x128x128 .f32) (W Q : Vec Ideal S8x64x128 .bf16) (U : Vec Ideal S8x64x128 .f32) (A : Vec Ideal S8x64x64 .bf16) :
    FVec Ideal S8x64x128 .f32 := k0_pay9 S W Q U A
/-- The state after a chunk. -/
def nextP (S : Vec Ideal S8x128x128 .f32) (W Q : Vec Ideal S8x64x128 .bf16) (U : Vec Ideal S8x64x128 .f32) (G : Vec Ideal S8x1x1x128 .f32)
    (K : Vec Ideal S8x64x128 .bf16) : FVec Ideal S8x128x128 .f32 := k0_pay11 (k0_pay8 S W Q U) (k0_pay10 S G) K
/-- The state as it is saved. -/
def savP (S : Vec Ideal S8x128x128 .f32) : FVec Ideal S1x8x128x128 .bf16 := k0_pay6 S

def rowsf0 (x : Vec Ideal S8x512x128 .f32) : Vec Ideal S8x64x128 .f32 := View.ld x (Rect.unit ![0, 0, 0] ![8, 64, 128] inb_S8x512x128_S8x64x128_0_0_0)
def rowsh0 (x : Vec Ideal S8x512x128 .bf16) : Vec Ideal S8x64x128 .bf16 := View.ld x (Rect.unit ![0, 0, 0] ![8, 64, 128] inb_S8x512x128_S8x64x128_0_0_0)
def att0 (x : Vec Ideal S8x512x64 .bf16) : Vec Ideal S8x64x64 .bf16 := View.ld x (Rect.unit ![0, 0, 0] ![8, 64, 64] inb_S8x512x64_S8x64x64_0_0_0)
def gain0 (x : Vec Ideal S8x8x1x128 .f32) : Vec Ideal S8x1x1x128 .f32 := View.ld x (Rect.unit ![0, 0, 0, 0] ![8, 1, 1, 128] inb_S8x8x1x128_S8x1x1x128_0_0_0_0)
def rowsf1 (x : Vec Ideal S8x512x128 .f32) : Vec Ideal S8x64x128 .f32 := View.ld x (Rect.unit ![0, 64, 0] ![8, 64, 128] inb_S8x512x128_S8x64x128_0_64_0)
def rowsh1 (x : Vec Ideal S8x512x128 .bf16) : Vec Ideal S8x64x128 .bf16 := View.ld x (Rect.unit ![0, 64, 0] ![8, 64, 128] inb_S8x512x128_S8x64x128_0_64_0)
def att1 (x : Vec Ideal S8x512x64 .bf16) : Vec Ideal S8x64x64 .bf16 := View.ld x (Rect.unit ![0, 64, 0] ![8, 64, 64] inb_S8x512x64_S8x64x64_0_64_0)
def gain1 (x : Vec Ideal S8x8x1x128 .f32) : Vec Ideal S8x1x1x128 .f32 := View.ld x (Rect.unit ![0, 1, 0, 0] ![8, 1, 1, 128] inb_S8x8x1x128_S8x1x1x128_0_1_0_0)
def rowsf2 (x : Vec Ideal S8x512x128 .f32) : Vec Ideal S8x64x128 .f32 := View.ld x (Rect.unit ![0, 128, 0] ![8, 64, 128] inb_S8x512x128_S8x64x128_0_128_0)
def rowsh2 (x : Vec Ideal S8x512x128 .bf16) : Vec Ideal S8x64x128 .bf16 := View.ld x (Rect.unit ![0, 128, 0] ![8, 64, 128] inb_S8x512x128_S8x64x128_0_128_0)
def att2 (x : Vec Ideal S8x512x64 .bf16) : Vec Ideal S8x64x64 .bf16 := View.ld x (Rect.unit ![0, 128, 0] ![8, 64, 64] inb_S8x512x64_S8x64x64_0_128_0)
def gain2 (x : Vec Ideal S8x8x1x128 .f32) : Vec Ideal S8x1x1x128 .f32 := View.ld x (Rect.unit ![0, 2, 0, 0] ![8, 1, 1, 128] inb_S8x8x1x128_S8x1x1x128_0_2_0_0)
def rowsf3 (x : Vec Ideal S8x512x128 .f32) : Vec Ideal S8x64x128 .f32 := View.ld x (Rect.unit ![0, 192, 0] ![8, 64, 128] inb_S8x512x128_S8x64x128_0_192_0)
def rowsh3 (x : Vec Ideal S8x512x128 .bf16) : Vec Ideal S8x64x128 .bf16 := View.ld x (Rect.unit ![0, 192, 0] ![8, 64, 128] inb_S8x512x128_S8x64x128_0_192_0)
def att3 (x : Vec Ideal S8x512x64 .bf16) : Vec Ideal S8x64x64 .bf16 := View.ld x (Rect.unit ![0, 192, 0] ![8, 64, 64] inb_S8x512x64_S8x64x64_0_192_0)
def gain3 (x : Vec Ideal S8x8x1x128 .f32) : Vec Ideal S8x1x1x128 .f32 := View.ld x (Rect.unit ![0, 3, 0, 0] ![8, 1, 1, 128] inb_S8x8x1x128_S8x1x1x128_0_3_0_0)
def rowsf4 (x : Vec Ideal S8x512x128 .f32) : Vec Ideal S8x64x128 .f32 := View.ld x (Rect.unit ![0, 256, 0] ![8, 64, 128] inb_S8x512x128_S8x64x128_0_256_0)
def rowsh4 (x : Vec Ideal S8x512x128 .bf16) : Vec Ideal S8x64x128 .bf16 := View.ld x (Rect.unit ![0, 256, 0] ![8, 64, 128] inb_S8x512x128_S8x64x128_0_256_0)
def att4 (x : Vec Ideal S8x512x64 .bf16) : Vec Ideal S8x64x64 .bf16 := View.ld x (Rect.unit ![0, 256, 0] ![8, 64, 64] inb_S8x512x64_S8x64x64_0_256_0)
def gain4 (x : Vec Ideal S8x8x1x128 .f32) : Vec Ideal S8x1x1x128 .f32 := View.ld x (Rect.unit ![0, 4, 0, 0] ![8, 1, 1, 128] inb_S8x8x1x128_S8x1x1x128_0_4_0_0)
def rowsf5 (x : Vec Ideal S8x512x128 .f32) : Vec Ideal S8x64x128 .f32 := View.ld x (Rect.unit ![0, 320, 0] ![8, 64, 128] inb_S8x512x128_S8x64x128_0_320_0)
def rowsh5 (x : Vec Ideal S8x512x128 .bf16) : Vec Ideal S8x64x128 .bf16 := View.ld x (Rect.unit ![0, 320, 0] ![8, 64, 128] inb_S8x512x128_S8x64x128_0_320_0)
def att5 (x : Vec Ideal S8x512x64 .bf16) : Vec Ideal S8x64x64 .bf16 := View.ld x (Rect.unit ![0, 320, 0] ![8, 64, 64] inb_S8x512x64_S8x64x64_0_320_0)
def gain5 (x : Vec Ideal S8x8x1x128 .f32) : Vec Ideal S8x1x1x128 .f32 := View.ld x (Rect.unit ![0, 5, 0, 0] ![8, 1, 1, 128] inb_S8x8x1x128_S8x1x1x128_0_5_0_0)
def rowsf6 (x : Vec Ideal S8x512x128 .f32) : Vec Ideal S8x64x128 .f32 := View.ld x (Rect.unit ![0, 384, 0] ![8, 64, 128] inb_S8x512x128_S8x64x128_0_384_0)
def rowsh6 (x : Vec Ideal S8x512x128 .bf16) : Vec Ideal S8x64x128 .bf16 := View.ld x (Rect.unit ![0, 384, 0] ![8, 64, 128] inb_S8x512x128_S8x64x128_0_384_0)
def att6 (x : Vec Ideal S8x512x64 .bf16) : Vec Ideal S8x64x64 .bf16 := View.ld x (Rect.unit ![0, 384, 0] ![8, 64, 64] inb_S8x512x64_S8x64x64_0_384_0)
def gain6 (x : Vec Ideal S8x8x1x128 .f32) : Vec Ideal S8x1x1x128 .f32 := View.ld x (Rect.unit ![0, 6, 0, 0] ![8, 1, 1, 128] inb_S8x8x1x128_S8x1x1x128_0_6_0_0)
def rowsf7 (x : Vec Ideal S8x512x128 .f32) : Vec Ideal S8x64x128 .f32 := View.ld x (Rect.unit ![0, 448, 0] ![8, 64, 128] inb_S8x512x128_S8x64x128_0_448_0)
def rowsh7 (x : Vec Ideal S8x512x128 .bf16) : Vec Ideal S8x64x128 .bf16 := View.ld x (Rect.unit ![0, 448, 0] ![8, 64, 128] inb_S8x512x128_S8x64x128_0_448_0)
def att7 (x : Vec Ideal S8x512x64 .bf16) : Vec Ideal S8x64x64 .bf16 := View.ld x (Rect.unit ![0, 448, 0] ![8, 64, 64] inb_S8x512x64_S8x64x64_0_448_0)
def gain7 (x : Vec Ideal S8x8x1x128 .f32) : Vec Ideal S8x1x1x128 .f32 := View.ld x (Rect.unit ![0, 7, 0, 0] ![8, 1, 1, 128] inb_S8x8x1x128_S8x1x1x128_0_7_0_0)

/-! ## The states between the chunks of a point -/

section
variable (x0 : Vec Ideal S8x512x128 .f32) (x1 : Vec Ideal S8x512x128 .bf16) (x2 : Vec Ideal S8x512x128 .bf16) (x3 : Vec Ideal S8x512x128 .bf16) (x4 : Vec Ideal S8x512x64 .bf16) (x5 : Vec Ideal S8x8x1x128 .f32)
def state0 (S : Vec Ideal S8x128x128 .f32) : Vec Ideal S8x128x128 .f32 := S
def state1 (S : Vec Ideal S8x128x128 .f32) : Vec Ideal S8x128x128 .f32 := nextP (state0 S) (rowsh0 x1) (rowsh0 x2) (rowsf0 x0) (gain0 x5) (rowsh0 x3)
def state2 (S : Vec Ideal S8x128x128 .f32) : Vec Ideal S8x128x128 .f32 := nextP (state1 x0 x1 x2 x3 x5 S) (rowsh1 x1) (rowsh1 x2) (rowsf1 x0) (gain1 x5) (rowsh1 x3)
def state3 (S : Vec Ideal S8x128x128 .f32) : Vec Ideal S8x128x128 .f32 := nextP (state2 x0 x1 x2 x3 x5 S) (rowsh2 x1) (rowsh2 x2) (rowsf2 x0) (gain2 x5) (rowsh2 x3)
def state4 (S : Vec Ideal S8x128x128 .f32) : Vec Ideal S8x128x128 .f32 := nextP (state3 x0 x1 x2 x3 x5 S) (rowsh3 x1) (rowsh3 x2) (rowsf3 x0) (gain3 x5) (rowsh3 x3)
def state5 (S : Vec Ideal S8x128x128 .f32) : Vec Ideal S8x128x128 .f32 := nextP (state4 x0 x1 x2 x3 x5 S) (rowsh4 x1) (rowsh4 x2) (rowsf4 x0) (gain4 x5) (rowsh4 x3)
def state6 (S : Vec Ideal S8x128x128 .f32) : Vec Ideal S8x128x128 .f32 := nextP (state5 x0 x1 x2 x3 x5 S) (rowsh5 x1) (rowsh5 x2) (rowsf5 x0) (gain5 x5) (rowsh5 x3)
def state7 (S : Vec Ideal S8x128x128 .f32) : Vec Ideal S8x128x128 .f32 := nextP (state6 x0 x1 x2 x3 x5 S) (rowsh6 x1) (rowsh6 x2) (rowsf6 x0) (gain6 x5) (rowsh6 x3)
def state8 (S : Vec Ideal S8x128x128 .f32) : Vec Ideal S8x128x128 .f32 := nextP (state7 x0 x1 x2 x3 x5 S) (rowsh7 x1) (rowsh7 x2) (rowsf7 x0) (gain7 x5) (rowsh7 x3)
end

theorem out6_A (c : Dev nD) (i : grid0.Coords) (arg1 : Memref sig .tc .vmem S8x512x128 .f32) (harg1 : arg1.IsWhole) (arg2 : Memref sig .tc .vmem S8x512x128 .bf16) (harg2 : arg2.IsWhole) (arg3 : Memref sig .tc .vmem S8x512x128 .bf16) (harg3 : arg3.IsWhole) (arg4 : Memref sig .tc .vmem S8x512x128 .bf16) (harg4 : arg4.IsWhole) (arg5 : Memref sig .tc .vmem S8x512x64 .bf16) (harg5 : arg5.IsWhole) (arg6 : Memref sig .tc .vmem S8x8x1x128 .f32) (harg6 : arg6.IsWhole) (arg7 : Memref sig .tc .vmem S8x512x128 .f32) (harg7 : arg7.IsWhole) (arg8 : Memref sig .tc .vmem S8x8x128x128 .bf16) (harg8 : arg8.IsWhole) (arg9 : Memref sig .tc .vmem S8x128x128 .f32) (harg9 : arg9.IsWhole) (hc0 : cond0_0 i)
    (x0 : Vec Ideal S8x512x128 .f32) (x1 : Vec Ideal S8x512x128 .bf16) (x2 : Vec Ideal S8x512x128 .bf16) (x3 : Vec Ideal S8x512x128 .bf16) (x4 : Vec Ideal S8x512x64 .bf16) (x5 : Vec Ideal S8x8x1x128 .f32) :
    out0_A_6 c i arg1 harg1 arg2 harg2 arg3 harg3 arg4 harg4 arg5 harg5 arg6 harg6 arg7 harg7 arg8 harg8 arg9 harg9 hc0 x0 x1 x2 x3 x4 x5 = View.canon [⟨Rect.unit ![0, 448, 0] ![8, 64, 128] inb_S8x512x128_S8x64x128_0_448_0, outP (state7 x0 x1 x2 x3 x5 (k0_pay4 (F := Ideal))) (rowsh7 x1) (rowsh7 x2) (rowsf7 x0) (att7 x4)⟩, ⟨Rect.unit ![0, 384, 0] ![8, 64, 128] inb_S8x512x128_S8x64x128_0_384_0, outP (state6 x0 x1 x2 x3 x5 (k0_pay4 (F := Ideal))) (rowsh6 x1) (rowsh6 x2) (rowsf6 x0) (att6 x4)⟩, ⟨Rect.unit ![0, 320, 0] ![8, 64, 128] inb_S8x512x128_S8x64x128_0_320_0, outP (state5 x0 x1 x2 x3 x5 (k0_pay4 (F := Ideal))) (rowsh5 x1) (rowsh5 x2) (rowsf5 x0) (att5 x4)⟩, ⟨Rect.unit ![0, 256, 0] ![8, 64, 128] inb_S8x512x128_S8x64x128_0_256_0, outP (state4 x0 x1 x2 x3 x5 (k0_pay4 (F := Ideal))) (rowsh4 x1) (rowsh4 x2) (rowsf4 x0) (att4 x4)⟩, ⟨Rect.unit ![0, 192, 0] ![8, 64, 128] inb_S8x512x128_S8x64x128_0_192_0, outP (state3 x0 x1 x2 x3 x5 (k0_pay4 (F := Ideal))) (rowsh3 x1) (rowsh3 x2) (rowsf3 x0) (att3 x4)⟩, ⟨Rect.unit ![0, 128, 0] ![8, 64, 128] inb_S8x512x128_S8x64x128_0_128_0, outP (state2 x0 x1 x2 x3 x5 (k0_pay4 (F := Ideal))) (rowsh2 x1) (rowsh2 x2) (rowsf2 x0) (att2 x4)⟩, ⟨Rect.unit ![0, 64, 0] ![8, 64, 128] inb_S8x512x128_S8x64x128_0_64_0, outP (state1 x0 x1 x2 x3 x5 (k0_pay4 (F := Ideal))) (rowsh1 x1) (rowsh1 x2) (rowsf1 x0) (att1 x4)⟩, ⟨Rect.unit ![0, 0, 0] ![8, 64, 128] inb_S8x512x128_S8x64x128_0_0_0, outP (state0 (k0_pay4 (F := Ideal))) (rowsh0 x1) (rowsh0 x2) (rowsf0 x0) (att0 x4)⟩] := by
  frame_out; sl_kernel_rfl
theorem out7_A (c : Dev nD) (i : grid0.Coords) (arg1 : Memref sig .tc .vmem S8x512x128 .f32) (harg1 : arg1.IsWhole) (arg2 : Memref sig .tc .vmem S8x512x128 .bf16) (harg2 : arg2.IsWhole) (arg3 : Memref sig .tc .vmem S8x512x128 .bf16) (harg3 : arg3.IsWhole) (arg4 : Memref sig .tc .vmem S8x512x128 .bf16) (harg4 : arg4.IsWhole) (arg5 : Memref sig .tc .vmem S8x512x64 .bf16) (harg5 : arg5.IsWhole) (arg6 : Memref sig .tc .vmem S8x8x1x128 .f32) (harg6 : arg6.IsWhole) (arg7 : Memref sig .tc .vmem S8x512x128 .f32) (harg7 : arg7.IsWhole) (arg8 : Memref sig .tc .vmem S8x8x128x128 .bf16) (harg8 : arg8.IsWhole) (arg9 : Memref sig .tc .vmem S8x128x128 .f32) (harg9 : arg9.IsWhole) (hc0 : cond0_0 i)
    (x0 : Vec Ideal S8x512x128 .f32) (x1 : Vec Ideal S8x512x128 .bf16) (x2 : Vec Ideal S8x512x128 .bf16) (x3 : Vec Ideal S8x512x128 .bf16) (x4 : Vec Ideal S8x512x64 .bf16) (x5 : Vec Ideal S8x8x1x128 .f32) :
    out0_A_7 c i arg1 harg1 arg2 harg2 arg3 harg3 arg4 harg4 arg5 harg5 arg6 harg6 arg7 harg7 arg8 harg8 arg9 harg9 hc0 x0 x1 x2 x3 x4 x5 = View.canon [⟨Rect.unit ![7, 0, 0, 0] ![1, 8, 128, 128] inb_S8x8x128x128_S1x8x128x128_7_0_0_0, savP (state7 x0 x1 x2 x3 x5 (k0_pay4 (F := Ideal)))⟩, ⟨Rect.unit ![6, 0, 0, 0] ![1, 8, 128, 128] inb_S8x8x128x128_S1x8x128x128_6_0_0_0, savP (state6 x0 x1 x2 x3 x5 (k0_pay4 (F := Ideal)))⟩, ⟨Rect.unit ![5, 0, 0, 0] ![1, 8, 128, 128] inb_S8x8x128x128_S1x8x128x128_5_0_0_0, savP (state5 x0 x1 x2 x3 x5 (k0_pay4 (F := Ideal)))⟩, ⟨Rect.unit ![4, 0, 0, 0] ![1, 8, 128, 128] inb_S8x8x128x128_S1x8x128x128_4_0_0_0, savP (state4 x0 x1 x2 x3 x5 (k0_pay4 (F := Ideal)))⟩, ⟨Rect.unit ![3, 0, 0, 0] ![1, 8, 128, 128] inb_S8x8x128x128_S1x8x128x128_3_0_0_0, savP (state3 x0 x1 x2 x3 x5 (k0_pay4 (F := Ideal)))⟩, ⟨Rect.unit ![2, 0, 0, 0] ![1, 8, 128, 128] inb_S8x8x128x128_S1x8x128x128_2_0_0_0, savP (state2 x0 x1 x2 x3 x5 (k0_pay4 (F := Ideal)))⟩, ⟨Rect.unit ![1, 0, 0, 0] ![1, 8, 128, 128] inb_S8x8x128x128_S1x8x128x128_1_0_0_0, savP (state1 x0 x1 x2 x3 x5 (k0_pay4 (F := Ideal)))⟩, ⟨Rect.unit ![0, 0, 0, 0] ![1, 8, 128, 128] inb_S8x8x128x128_S1x8x128x128_0_0_0_0, savP (state0 (k0_pay4 (F := Ideal)))⟩] := by
  frame_out; sl_kernel_rfl
theorem sout_A (c : Dev nD) (i : grid0.Coords) (arg1 : Memref sig .tc .vmem S8x512x128 .f32) (harg1 : arg1.IsWhole) (arg2 : Memref sig .tc .vmem S8x512x128 .bf16) (harg2 : arg2.IsWhole) (arg3 : Memref sig .tc .vmem S8x512x128 .bf16) (harg3 : arg3.IsWhole) (arg4 : Memref sig .tc .vmem S8x512x128 .bf16) (harg4 : arg4.IsWhole) (arg5 : Memref sig .tc .vmem S8x512x64 .bf16) (harg5 : arg5.IsWhole) (arg6 : Memref sig .tc .vmem S8x8x1x128 .f32) (harg6 : arg6.IsWhole) (arg7 : Memref sig .tc .vmem S8x512x128 .f32) (harg7 : arg7.IsWhole) (arg8 : Memref sig .tc .vmem S8x8x128x128 .bf16) (harg8 : arg8.IsWhole) (arg9 : Memref sig .tc .vmem S8x128x128 .f32) (harg9 : arg9.IsWhole) (hc0 : cond0_0 i)
    (x0 : Vec Ideal S8x512x128 .f32) (x1 : Vec Ideal S8x512x128 .bf16) (x2 : Vec Ideal S8x512x128 .bf16) (x3 : Vec Ideal S8x512x128 .bf16) (x4 : Vec Ideal S8x512x64 .bf16) (x5 : Vec Ideal S8x8x1x128 .f32) :
    sout0_A_0 c i arg1 harg1 arg2 harg2 arg3 harg3 arg4 harg4 arg5 harg5 arg6 harg6 arg7 harg7 arg8 harg8 arg9 harg9 hc0 x0 x1 x2 x3 x4 x5 = shapeCast S8x128x128 (state8 x0 x1 x2 x3 x5 (k0_pay4 (F := Ideal))) shapeCasts_S8x128x128_S8x128x128 := by
  frame_out; sl_kernel_rfl

theorem out6_B (c : Dev nD) (i : grid0.Coords) (arg1 : Memref sig .tc .vmem S8x512x128 .f32) (harg1 : arg1.IsWhole) (arg2 : Memref sig .tc .vmem S8x512x128 .bf16) (harg2 : arg2.IsWhole) (arg3 : Memref sig .tc .vmem S8x512x128 .bf16) (harg3 : arg3.IsWhole) (arg4 : Memref sig .tc .vmem S8x512x128 .bf16) (harg4 : arg4.IsWhole) (arg5 : Memref sig .tc .vmem S8x512x64 .bf16) (harg5 : arg5.IsWhole) (arg6 : Memref sig .tc .vmem S8x8x1x128 .f32) (harg6 : arg6.IsWhole) (arg7 : Memref sig .tc .vmem S8x512x128 .f32) (harg7 : arg7.IsWhole) (arg8 : Memref sig .tc .vmem S8x8x128x128 .bf16) (harg8 : arg8.IsWhole) (arg9 : Memref sig .tc .vmem S8x128x128 .f32) (harg9 : arg9.IsWhole) (hc0 : ¬cond0_0 i)
    (x0 : Vec Ideal S8x512x128 .f32) (x1 : Vec Ideal S8x512x128 .bf16) (x2 : Vec Ideal S8x512x128 .bf16) (x3 : Vec Ideal S8x512x128 .bf16) (x4 : Vec Ideal S8x512x64 .bf16) (x5 : Vec Ideal S8x8x1x128 .f32) (xs0 : Vec Ideal S8x128x128 .f32) :
    out0_B_6 c i arg1 harg1 arg2 harg2 arg3 harg3 arg4 harg4 arg5 harg5 arg6 harg6 arg7 harg7 arg8 harg8 arg9 harg9 hc0 x0 x1 x2 x3 x4 x5 xs0 = View.canon [⟨Rect.unit ![0, 448, 0] ![8, 64, 128] inb_S8x512x128_S8x64x128_0_448_0, outP (state7 x0 x1 x2 x3 x5 xs0) (rowsh7 x1) (rowsh7 x2) (rowsf7 x0) (att7 x4)⟩, ⟨Rect.unit ![0, 384, 0] ![8, 64, 128] inb_S8x512x128_S8x64x128_0_384_0, outP (state6 x0 x1 x2 x3 x5 xs0) (rowsh6 x1) (rowsh6 x2) (rowsf6 x0) (att6 x4)⟩, ⟨Rect.unit ![0, 320, 0] ![8, 64, 128] inb_S8x512x128_S8x64x128_0_320_0, outP (state5 x0 x1 x2 x3 x5 xs0) (rowsh5 x1) (rowsh5 x2) (rowsf5 x0) (att5 x4)⟩, ⟨Rect.unit ![0, 256, 0] ![8, 64, 128] inb_S8x512x128_S8x64x128_0_256_0, outP (state4 x0 x1 x2 x3 x5 xs0) (rowsh4 x1) (rowsh4 x2) (rowsf4 x0) (att4 x4)⟩, ⟨Rect.unit ![0, 192, 0] ![8, 64, 128] inb_S8x512x128_S8x64x128_0_192_0, outP (state3 x0 x1 x2 x3 x5 xs0) (rowsh3 x1) (rowsh3 x2) (rowsf3 x0) (att3 x4)⟩, ⟨Rect.unit ![0, 128, 0] ![8, 64, 128] inb_S8x512x128_S8x64x128_0_128_0, outP (state2 x0 x1 x2 x3 x5 xs0) (rowsh2 x1) (rowsh2 x2) (rowsf2 x0) (att2 x4)⟩, ⟨Rect.unit ![0, 64, 0] ![8, 64, 128] inb_S8x512x128_S8x64x128_0_64_0, outP (state1 x0 x1 x2 x3 x5 xs0) (rowsh1 x1) (rowsh1 x2) (rowsf1 x0) (att1 x4)⟩, ⟨Rect.unit ![0, 0, 0] ![8, 64, 128] inb_S8x512x128_S8x64x128_0_0_0, outP (state0 xs0) (rowsh0 x1) (rowsh0 x2) (rowsf0 x0) (att0 x4)⟩] := by
  frame_out; sl_kernel_rfl
theorem out7_B (c : Dev nD) (i : grid0.Coords) (arg1 : Memref sig .tc .vmem S8x512x128 .f32) (harg1 : arg1.IsWhole) (arg2 : Memref sig .tc .vmem S8x512x128 .bf16) (harg2 : arg2.IsWhole) (arg3 : Memref sig .tc .vmem S8x512x128 .bf16) (harg3 : arg3.IsWhole) (arg4 : Memref sig .tc .vmem S8x512x128 .bf16) (harg4 : arg4.IsWhole) (arg5 : Memref sig .tc .vmem S8x512x64 .bf16) (harg5 : arg5.IsWhole) (arg6 : Memref sig .tc .vmem S8x8x1x128 .f32) (harg6 : arg6.IsWhole) (arg7 : Memref sig .tc .vmem S8x512x128 .f32) (harg7 : arg7.IsWhole) (arg8 : Memref sig .tc .vmem S8x8x128x128 .bf16) (harg8 : arg8.IsWhole) (arg9 : Memref sig .tc .vmem S8x128x128 .f32) (harg9 : arg9.IsWhole) (hc0 : ¬cond0_0 i)
    (x0 : Vec Ideal S8x512x128 .f32) (x1 : Vec Ideal S8x512x128 .bf16) (x2 : Vec Ideal S8x512x128 .bf16) (x3 : Vec Ideal S8x512x128 .bf16) (x4 : Vec Ideal S8x512x64 .bf16) (x5 : Vec Ideal S8x8x1x128 .f32) (xs0 : Vec Ideal S8x128x128 .f32) :
    out0_B_7 c i arg1 harg1 arg2 harg2 arg3 harg3 arg4 harg4 arg5 harg5 arg6 harg6 arg7 harg7 arg8 harg8 arg9 harg9 hc0 x0 x1 x2 x3 x4 x5 xs0 = View.canon [⟨Rect.unit ![7, 0, 0, 0] ![1, 8, 128, 128] inb_S8x8x128x128_S1x8x128x128_7_0_0_0, savP (state7 x0 x1 x2 x3 x5 xs0)⟩, ⟨Rect.unit ![6, 0, 0, 0] ![1, 8, 128, 128] inb_S8x8x128x128_S1x8x128x128_6_0_0_0, savP (state6 x0 x1 x2 x3 x5 xs0)⟩, ⟨Rect.unit ![5, 0, 0, 0] ![1, 8, 128, 128] inb_S8x8x128x128_S1x8x128x128_5_0_0_0, savP (state5 x0 x1 x2 x3 x5 xs0)⟩, ⟨Rect.unit ![4, 0, 0, 0] ![1, 8, 128, 128] inb_S8x8x128x128_S1x8x128x128_4_0_0_0, savP (state4 x0 x1 x2 x3 x5 xs0)⟩, ⟨Rect.unit ![3, 0, 0, 0] ![1, 8, 128, 128] inb_S8x8x128x128_S1x8x128x128_3_0_0_0, savP (state3 x0 x1 x2 x3 x5 xs0)⟩, ⟨Rect.unit ![2, 0, 0, 0] ![1, 8, 128, 128] inb_S8x8x128x128_S1x8x128x128_2_0_0_0, savP (state2 x0 x1 x2 x3 x5 xs0)⟩, ⟨Rect.unit ![1, 0, 0, 0] ![1, 8, 128, 128] inb_S8x8x128x128_S1x8x128x128_1_0_0_0, savP (state1 x0 x1 x2 x3 x5 xs0)⟩, ⟨Rect.unit ![0, 0, 0, 0] ![1, 8, 128, 128] inb_S8x8x128x128_S1x8x128x128_0_0_0_0, savP (state0 xs0)⟩] := by
  frame_out; sl_kernel_rfl
theorem sout_B (c : Dev nD) (i : grid0.Coords) (arg1 : Memref sig .tc .vmem S8x512x128 .f32) (harg1 : arg1.IsWhole) (arg2 : Memref sig .tc .vmem S8x512x128 .bf16) (harg2 : arg2.IsWhole) (arg3 : Memref sig .tc .vmem S8x512x128 .bf16) (harg3 : arg3.IsWhole) (arg4 : Memref sig .tc .vmem S8x512x128 .bf16) (harg4 : arg4.IsWhole) (arg5 : Memref sig .tc .vmem S8x512x64 .bf16) (harg5 : arg5.IsWhole) (arg6 : Memref sig .tc .vmem S8x8x1x128 .f32) (harg6 : arg6.IsWhole) (arg7 : Memref sig .tc .vmem S8x512x128 .f32) (harg7 : arg7.IsWhole) (arg8 : Memref sig .tc .vmem S8x8x128x128 .bf16) (harg8 : arg8.IsWhole) (arg9 : Memref sig .tc .vmem S8x128x128 .f32) (harg9 : arg9.IsWhole) (hc0 : ¬cond0_0 i)
    (x0 : Vec Ideal S8x512x128 .f32) (x1 : Vec Ideal S8x512x128 .bf16) (x2 : Vec Ideal S8x512x128 .bf16) (x3 : Vec Ideal S8x512x128 .bf16) (x4 : Vec Ideal S8x512x64 .bf16) (x5 : Vec Ideal S8x8x1x128 .f32) (xs0 : Vec Ideal S8x128x128 .f32) :
    sout0_B_0 c i arg1 harg1 arg2 harg2 arg3 harg3 arg4 harg4 arg5 harg5 arg6 harg6 arg7 harg7 arg8 harg8 arg9 harg9 hc0 x0 x1 x2 x3 x4 x5 xs0 = shapeCast S8x128x128 (state8 x0 x1 x2 x3 x5 xs0) shapeCasts_S8x128x128_S8x128x128 := by
  frame_out; sl_kernel_rfl

end Cert.KernelIdeal.Scan.Fwd
end
-- ==== Proof.Scan.BwdVal.lean ====
/- What one point of the backward scan leaves: eight chunks of the recursion of the gradients, the last chunk first. -/
module

public import proofs.«01_k».proof.Proof.Scan.BwdDat
public import proofs.«01_k».proof.Proof.Scan.FwdVal

@[expose] public section

set_option maxRecDepth 16384

noncomputable section

namespace Cert.KernelIdeal.Scan.Bwd

open Idealize.ShloMosaic Idealize.ShloMosaic.TcCoe
open Idealize.ShloMosaic.Pipeline (Dat Cfg Window)
open Cert.KernelIdeal Cert.KernelIdeal.Gen
open Fwd (rowsf0 rowsh0 att0 gain0 rowsf1 rowsh1 att1 gain1 rowsf2 rowsh2 att2 gain2 rowsf3 rowsh3 att3 gain3 rowsf4 rowsh4 att4 gain4 rowsf5 rowsh5 att5 gain5 rowsf6 rowsh6 att6 gain6 rowsf7 rowsh7 att7 gain7)

/-- The gradient of a chunk's values. -/
def dvP (X : Vec Ideal S8x128x128 .f32) (K B : Vec Ideal S8x64x128 .bf16) (A : Vec Ideal S8x64x64 .bf16) : FVec Ideal S8x64x128 .bf16 :=
  k1_pay10 K A B (k1_pay6 X)
/-- The gradient of the state before a chunk. -/
def backP (X : Vec Ideal S8x128x128 .f32) (W Q K B : Vec Ideal S8x64x128 .bf16) (A : Vec Ideal S8x64x64 .bf16) (G : Vec Ideal S8x1x1x128 .f32) :
    FVec Ideal S8x128x128 .f32 := k1_pay14 X W Q B (dvP X K B A) G
def dwP (X : Vec Ideal S8x128x128 .f32) (S : Vec Ideal S1x8x128x128 .bf16) (K B : Vec Ideal S8x64x128 .bf16) (A : Vec Ideal S8x64x64 .bf16) :
    FVec Ideal S8x64x128 .bf16 := k1_pay13 (k1_pay4 S) K A B (k1_pay6 X)
def dqP (S : Vec Ideal S1x8x128x128 .bf16) (B : Vec Ideal S8x64x128 .bf16) : FVec Ideal S8x64x128 .bf16 := k1_pay7 S B
def dkP (X : Vec Ideal S8x128x128 .f32) (S : Vec Ideal S1x8x128x128 .bf16) (W : Vec Ideal S8x64x128 .bf16) (U : Vec Ideal S8x64x128 .f32) :
    FVec Ideal S8x64x128 .bf16 := k1_pay11 (k1_pay5 S W U) (k1_pay6 X)
def daP (S : Vec Ideal S1x8x128x128 .bf16) (W B : Vec Ideal S8x64x128 .bf16) (U : Vec Ideal S8x64x128 .f32) : FVec Ideal S8x64x64 .bf16 :=
  k1_pay9 (k1_pay8 S W B U)
def dgP (X : Vec Ideal S8x128x128 .f32) (S : Vec Ideal S1x8x128x128 .bf16) : FVec Ideal S8x1x1x128 .f32 := k1_pay12 k1_pay3 X (k1_pay4 S)

def sav0 (x : Vec Ideal S8x8x128x128 .bf16) : Vec Ideal S1x8x128x128 .bf16 := View.ld x (Rect.unit ![0, 0, 0, 0] ![1, 8, 128, 128] inb_S8x8x128x128_S1x8x128x128_0_0_0_0)
def sav1 (x : Vec Ideal S8x8x128x128 .bf16) : Vec Ideal S1x8x128x128 .bf16 := View.ld x (Rect.unit ![1, 0, 0, 0] ![1, 8, 128, 128] inb_S8x8x128x128_S1x8x128x128_1_0_0_0)
def sav2 (x : Vec Ideal S8x8x128x128 .bf16) : Vec Ideal S1x8x128x128 .bf16 := View.ld x (Rect.unit ![2, 0, 0, 0] ![1, 8, 128, 128] inb_S8x8x128x128_S1x8x128x128_2_0_0_0)
def sav3 (x : Vec Ideal S8x8x128x128 .bf16) : Vec Ideal S1x8x128x128 .bf16 := View.ld x (Rect.unit ![3, 0, 0, 0] ![1, 8, 128, 128] inb_S8x8x128x128_S1x8x128x128_3_0_0_0)
def sav4 (x : Vec Ideal S8x8x128x128 .bf16) : Vec Ideal S1x8x128x128 .bf16 := View.ld x (Rect.unit ![4, 0, 0, 0] ![1, 8, 128, 128] inb_S8x8x128x128_S1x8x128x128_4_0_0_0)
def sav5 (x : Vec Ideal S8x8x128x128 .bf16) : Vec Ideal S1x8x128x128 .bf16 := View.ld x (Rect.unit ![5, 0, 0, 0] ![1, 8, 128, 128] inb_S8x8x128x128_S1x8x128x128_5_0_0_0)
def sav6 (x : Vec Ideal S8x8x128x128 .bf16) : Vec Ideal S1x8x128x128 .bf16 := View.ld x (Rect.unit ![6, 0, 0, 0] ![1, 8, 128, 128] inb_S8x8x128x128_S1x8x128x128_6_0_0_0)
def sav7 (x : Vec Ideal S8x8x128x128 .bf16) : Vec Ideal S1x8x128x128 .bf16 := View.ld x (Rect.unit ![7, 0, 0, 0] ![1, 8, 128, 128] inb_S8x8x128x128_S1x8x128x128_7_0_0_0)

/-! ## The gradients of the states between the chunks of a point -/

section
variable (x1 x2 x3 : Vec Ideal S8x512x128 .bf16) (x4 : Vec Ideal S8x512x64 .bf16) (x5 : Vec Ideal S8x8x1x128 .f32) (x7 : Vec Ideal S8x512x128 .bf16)
def grad0 (S : Vec Ideal S8x128x128 .f32) : Vec Ideal S8x128x128 .f32 := S
def grad1 (S : Vec Ideal S8x128x128 .f32) : Vec Ideal S8x128x128 .f32 := backP (grad0 S) (rowsh7 x1) (rowsh7 x2) (rowsh7 x3) (rowsh7 x7) (att7 x4) (gain7 x5)
def grad2 (S : Vec Ideal S8x128x128 .f32) : Vec Ideal S8x128x128 .f32 := backP (grad1 x1 x2 x3 x4 x5 x7 S) (rowsh6 x1) (rowsh6 x2) (rowsh6 x3) (rowsh6 x7) (att6 x4) (gain6 x5)
def grad3 (S : Vec Ideal S8x128x128 .f32) : Vec Ideal S8x128x128 .f32 := backP (grad2 x1 x2 x3 x4 x5 x7 S) (rowsh5 x1) (rowsh5 x2) (rowsh5 x3) (rowsh5 x7) (att5 x4) (gain5 x5)
def grad4 (S : Vec Ideal S8x128x128 .f32) : Vec Ideal S8x128x128 .f32 := backP (grad3 x1 x2 x3 x4 x5 x7 S) (rowsh4 x1) (rowsh4 x2) (rowsh4 x3) (rowsh4 x7) (att4 x4) (gain4 x5)
def grad5 (S : Vec Ideal S8x128x128 .f32) : Vec Ideal S8x128x128 .f32 := backP (grad4 x1 x2 x3 x4 x5 x7 S) (rowsh3 x1) (rowsh3 x2) (rowsh3 x3) (rowsh3 x7) (att3 x4) (gain3 x5)
def grad6 (S : Vec Ideal S8x128x128 .f32) : Vec Ideal S8x128x128 .f32 := backP (grad5 x1 x2 x3 x4 x5 x7 S) (rowsh2 x1) (rowsh2 x2) (rowsh2 x3) (rowsh2 x7) (att2 x4) (gain2 x5)
def grad7 (S : Vec Ideal S8x128x128 .f32) : Vec Ideal S8x128x128 .f32 := backP (grad6 x1 x2 x3 x4 x5 x7 S) (rowsh1 x1) (rowsh1 x2) (rowsh1 x3) (rowsh1 x7) (att1 x4) (gain1 x5)
def grad8 (S : Vec Ideal S8x128x128 .f32) : Vec Ideal S8x128x128 .f32 := backP (grad7 x1 x2 x3 x4 x5 x7 S) (rowsh0 x1) (rowsh0 x2) (rowsh0 x3) (rowsh0 x7) (att0 x4) (gain0 x5)
end

/-- The eight stretches of rows, tile after tile. -/
abbrev tiles (p0 p1 p2 p3 p4 p5 p6 p7 : Vec Ideal S8x64x128 .bf16) : List (View.Piece (Elt Ideal) S8x512x128 .bf16) :=
  [⟨Rect.unit ![0, 0, 0] ![8, 64, 128] inb_S8x512x128_S8x64x128_0_0_0, p0⟩, ⟨Rect.unit ![0, 64, 0] ![8, 64, 128] inb_S8x512x128_S8x64x128_0_64_0, p1⟩, ⟨Rect.unit ![0, 128, 0] ![8, 64, 128] inb_S8x512x128_S8x64x128_0_128_0, p2⟩, ⟨Rect.unit ![0, 192, 0] ![8, 64, 128] inb_S8x512x128_S8x64x128_0_192_0, p3⟩, ⟨Rect.unit ![0, 256, 0] ![8, 64, 128] inb_S8x512x128_S8x64x128_0_256_0, p4⟩, ⟨Rect.unit ![0, 320, 0] ![8, 64, 128] inb_S8x512x128_S8x64x128_0_320_0, p5⟩, ⟨Rect.unit ![0, 384, 0] ![8, 64, 128] inb_S8x512x128_S8x64x128_0_384_0, p6⟩, ⟨Rect.unit ![0, 448, 0] ![8, 64, 128] inb_S8x512x128_S8x64x128_0_448_0, p7⟩]

section
variable (c : Dev nD) (i : grid1.Coords) (arg1 : Memref sig .tc .vmem S8x512x128 .f32) (harg1 : arg1.IsWhole) (arg2 : Memref sig .tc .vmem S8x512x128 .bf16) (harg2 : arg2.IsWhole) (arg3 : Memref sig .tc .vmem S8x512x128 .bf16) (harg3 : arg3.IsWhole) (arg4 : Memref sig .tc .vmem S8x512x128 .bf16) (harg4 : arg4.IsWhole) (arg5 : Memref sig .tc .vmem S8x512x64 .bf16) (harg5 : arg5.IsWhole) (arg6 : Memref sig .tc .vmem S8x8x1x128 .f32) (harg6 : arg6.IsWhole) (arg7 : Memref sig .tc .vmem S8x8x128x128 .bf16) (harg7 : arg7.IsWhole) (arg8 : Memref sig .tc .vmem S8x512x128 .bf16) (harg8 : arg8.IsWhole) (arg9 : Memref sig .tc .vmem S8x512x128 .bf16) (harg9 : arg9.IsWhole) (arg10 : Memref sig .tc .vmem S8x512x128 .bf16) (harg10 : arg10.IsWhole) (arg11 : Memref sig .tc .vmem S8x512x128 .bf16) (harg11 : arg11.IsWhole) (arg12 : Memref sig .tc .vmem S8x512x128 .bf16) (harg12 : arg12.IsWhole) (arg13 : Memref sig .tc .vmem S8x512x64 .bf16) (harg13 : arg13.IsWhole) (arg14 : Memref sig .tc .vmem S8x8x1x128 .f32) (harg14 : arg14.IsWhole) (arg15 : Memref sig .tc .vmem S8x128x128 .f32) (harg15 : arg15.IsWhole) (hc0 : cond0_0 i)
    (x0 : Vec Ideal S8x512x128 .f32) (x1 : Vec Ideal S8x512x128 .bf16) (x2 : Vec Ideal S8x512x128 .bf16) (x3 : Vec Ideal S8x512x128 .bf16) (x4 : Vec Ideal S8x512x64 .bf16) (x5 : Vec Ideal S8x8x1x128 .f32) (x6 : Vec Ideal S8x8x128x128 .bf16) (x7 : Vec Ideal S8x512x128 .bf16)

theorem out8_A :
    out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = View.canon (tiles (dvP (grad7 x1 x2 x3 x4 x5 x7 (k1_pay2 (F := Ideal))) (rowsh0 x3) (rowsh0 x7) (att0 x4)) (dvP (grad6 x1 x2 x3 x4 x5 x7 (k1_pay2 (F := Ideal))) (rowsh1 x3) (rowsh1 x7) (att1 x4)) (dvP (grad5 x1 x2 x3 x4 x5 x7 (k1_pay2 (F := Ideal))) (rowsh2 x3) (rowsh2 x7) (att2 x4)) (dvP (grad4 x1 x2 x3 x4 x5 x7 (k1_pay2 (F := Ideal))) (rowsh3 x3) (rowsh3 x7) (att3 x4)) (dvP (grad3 x1 x2 x3 x4 x5 x7 (k1_pay2 (F := Ideal))) (rowsh4 x3) (rowsh4 x7) (att4 x4)) (dvP (grad2 x1 x2 x3 x4 x5 x7 (k1_pay2 (F := Ideal))) (rowsh5 x3) (rowsh5 x7) (att5 x4)) (dvP (grad1 x1 x2 x3 x4 x5 x7 (k1_pay2 (F := Ideal))) (rowsh6 x3) (rowsh6 x7) (att6 x4)) (dvP (grad0 (k1_pay2 (F := Ideal))) (rowsh7 x3) (rowsh7 x7) (att7 x4))) := by
  frame_out; sl_kernel_rfl
theorem out9_A :
    out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = View.canon (tiles (dwP (grad7 x1 x2 x3 x4 x5 x7 (k1_pay2 (F := Ideal))) (sav0 x6) (rowsh0 x3) (rowsh0 x7) (att0 x4)) (dwP (grad6 x1 x2 x3 x4 x5 x7 (k1_pay2 (F := Ideal))) (sav1 x6) (rowsh1 x3) (rowsh1 x7) (att1 x4)) (dwP (grad5 x1 x2 x3 x4 x5 x7 (k1_pay2 (F := Ideal))) (sav2 x6) (rowsh2 x3) (rowsh2 x7) (att2 x4)) (dwP (grad4 x1 x2 x3 x4 x5 x7 (k1_pay2 (F := Ideal))) (sav3 x6) (rowsh3 x3) (rowsh3 x7) (att3 x4)) (dwP (grad3 x1 x2 x3 x4 x5 x7 (k1_pay2 (F := Ideal))) (sav4 x6) (rowsh4 x3) (rowsh4 x7) (att4 x4)) (dwP (grad2 x1 x2 x3 x4 x5 x7 (k1_pay2 (F := Ideal))) (sav5 x6) (rowsh5 x3) (rowsh5 x7) (att5 x4)) (dwP (grad1 x1 x2 x3 x4 x5 x7 (k1_pay2 (F := Ideal))) (sav6 x6) (rowsh6 x3) (rowsh6 x7) (att6 x4)) (dwP (grad0 (k1_pay2 (F := Ideal))) (sav7 x6) (rowsh7 x3) (rowsh7 x7) (att7 x4))) := by
  frame_out; sl_kernel_rfl
theorem out10_A :
    out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = View.canon (tiles (dqP (sav0 x6) (rowsh0 x7)) (dqP (sav1 x6) (rowsh1 x7)) (dqP (sav2 x6) (rowsh2 x7)) (dqP (sav3 x6) (rowsh3 x7)) (dqP (sav4 x6) (rowsh4 x7)) (dqP (sav5 x6) (rowsh5 x7)) (dqP (sav6 x6) (rowsh6 x7)) (dqP (sav7 x6) (rowsh7 x7))) := by
  frame_out; sl_kernel_rfl
theorem out11_A :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = View.canon (tiles (dkP (grad7 x1 x2 x3 x4 x5 x7 (k1_pay2 (F := Ideal))) (sav0 x6) (rowsh0 x1) (rowsf0 x0)) (dkP (grad6 x1 x2 x3 x4 x5 x7 (k1_pay2 (F := Ideal))) (sav1 x6) (rowsh1 x1) (rowsf1 x0)) (dkP (grad5 x1 x2 x3 x4 x5 x7 (k1_pay2 (F := Ideal))) (sav2 x6) (rowsh2 x1) (rowsf2 x0)) (dkP (grad4 x1 x2 x3 x4 x5 x7 (k1_pay2 (F := Ideal))) (sav3 x6) (rowsh3 x1) (rowsf3 x0)) (dkP (grad3 x1 x2 x3 x4 x5 x7 (k1_pay2 (F := Ideal))) (sav4 x6) (rowsh4 x1) (rowsf4 x0)) (dkP (grad2 x1 x2 x3 x4 x5 x7 (k1_pay2 (F := Ideal))) (sav5 x6) (rowsh5 x1) (rowsf5 x0)) (dkP (grad1 x1 x2 x3 x4 x5 x7 (k1_pay2 (F := Ideal))) (sav6 x6) (rowsh6 x1) (rowsf6 x0)) (dkP (grad0 (k1_pay2 (F := Ideal))) (sav7 x6) (rowsh7 x1) (rowsf7 x0))) := by
  frame_out; sl_kernel_rfl
theorem out12_A :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = View.canon [⟨Rect.unit ![0, 0, 0] ![8, 64, 64] inb_S8x512x64_S8x64x64_0_0_0, daP (sav0 x6) (rowsh0 x1) (rowsh0 x7) (rowsf0 x0)⟩, ⟨Rect.unit ![0, 64, 0] ![8, 64, 64] inb_S8x512x64_S8x64x64_0_64_0, daP (sav1 x6) (rowsh1 x1) (rowsh1 x7) (rowsf1 x0)⟩, ⟨Rect.unit ![0, 128, 0] ![8, 64, 64] inb_S8x512x64_S8x64x64_0_128_0, daP (sav2 x6) (rowsh2 x1) (rowsh2 x7) (rowsf2 x0)⟩, ⟨Rect.unit ![0, 192, 0] ![8, 64, 64] inb_S8x512x64_S8x64x64_0_192_0, daP (sav3 x6) (rowsh3 x1) (rowsh3 x7) (rowsf3 x0)⟩, ⟨Rect.unit ![0, 256, 0] ![8, 64, 64] inb_S8x512x64_S8x64x64_0_256_0, daP (sav4 x6) (rowsh4 x1) (rowsh4 x7) (rowsf4 x0)⟩, ⟨Rect.unit ![0, 320, 0] ![8, 64, 64] inb_S8x512x64_S8x64x64_0_320_0, daP (sav5 x6) (rowsh5 x1) (rowsh5 x7) (rowsf5 x0)⟩, ⟨Rect.unit ![0, 384, 0] ![8, 64, 64] inb_S8x512x64_S8x64x64_0_384_0, daP (sav6 x6) (rowsh6 x1) (rowsh6 x7) (rowsf6 x0)⟩, ⟨Rect.unit ![0, 448, 0] ![8, 64, 64] inb_S8x512x64_S8x64x64_0_448_0, daP (sav7 x6) (rowsh7 x1) (rowsh7 x7) (rowsf7 x0)⟩] := by
  frame_out; sl_kernel_rfl
theorem out13_A :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = View.canon [⟨Rect.unit ![0, 0, 0, 0] ![8, 1, 1, 128] inb_S8x8x1x128_S8x1x1x128_0_0_0_0, dgP (grad7 x1 x2 x3 x4 x5 x7 (k1_pay2 (F := Ideal))) (sav0 x6)⟩, ⟨Rect.unit ![0, 1, 0, 0] ![8, 1, 1, 128] inb_S8x8x1x128_S8x1x1x128_0_1_0_0, dgP (grad6 x1 x2 x3 x4 x5 x7 (k1_pay2 (F := Ideal))) (sav1 x6)⟩, ⟨Rect.unit ![0, 2, 0, 0] ![8, 1, 1, 128] inb_S8x8x1x128_S8x1x1x128_0_2_0_0, dgP (grad5 x1 x2 x3 x4 x5 x7 (k1_pay2 (F := Ideal))) (sav2 x6)⟩, ⟨Rect.unit ![0, 3, 0, 0] ![8, 1, 1, 128] inb_S8x8x1x128_S8x1x1x128_0_3_0_0, dgP (grad4 x1 x2 x3 x4 x5 x7 (k1_pay2 (F := Ideal))) (sav3 x6)⟩, ⟨Rect.unit ![0, 4, 0, 0] ![8, 1, 1, 128] inb_S8x8x1x128_S8x1x1x128_0_4_0_0, dgP (grad3 x1 x2 x3 x4 x5 x7 (k1_pay2 (F := Ideal))) (sav4 x6)⟩, ⟨Rect.unit ![0, 5, 0, 0] ![8, 1, 1, 128] inb_S8x8x1x128_S8x1x1x128_0_5_0_0, dgP (grad2 x1 x2 x3 x4 x5 x7 (k1_pay2 (F := Ideal))) (sav5 x6)⟩, ⟨Rect.unit ![0, 6, 0, 0] ![8, 1, 1, 128] inb_S8x8x1x128_S8x1x1x128_0_6_0_0, dgP (grad1 x1 x2 x3 x4 x5 x7 (k1_pay2 (F := Ideal))) (sav6 x6)⟩, ⟨Rect.unit ![0, 7, 0, 0] ![8, 1, 1, 128] inb_S8x8x1x128_S8x1x1x128_0_7_0_0, dgP (grad0 (k1_pay2 (F := Ideal))) (sav7 x6)⟩] := by
  frame_out; sl_kernel_rfl
theorem sout_A :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = shapeCast S8x128x128 (grad8 x1 x2 x3 x4 x5 x7 (k1_pay2 (F := Ideal))) shapeCasts_S8x128x128_S8x128x128 := by
  frame_out; sl_kernel_rfl

end
section
variable (c : Dev nD) (i : grid1.Coords) (arg1 : Memref sig .tc .vmem S8x512x128 .f32) (harg1 : arg1.IsWhole) (arg2 : Memref sig .tc .vmem S8x512x128 .bf16) (harg2 : arg2.IsWhole) (arg3 : Memref sig .tc .vmem S8x512x128 .bf16) (harg3 : arg3.IsWhole) (arg4 : Memref sig .tc .vmem S8x512x128 .bf16) (harg4 : arg4.IsWhole) (arg5 : Memref sig .tc .vmem S8x512x64 .bf16) (harg5 : arg5.IsWhole) (arg6 : Memref sig .tc .vmem S8x8x1x128 .f32) (harg6 : arg6.IsWhole) (arg7 : Memref sig .tc .vmem S8x8x128x128 .bf16) (harg7 : arg7.IsWhole) (arg8 : Memref sig .tc .vmem S8x512x128 .bf16) (harg8 : arg8.IsWhole) (arg9 : Memref sig .tc .vmem S8x512x128 .bf16) (harg9 : arg9.IsWhole) (arg10 : Memref sig .tc .vmem S8x512x128 .bf16) (harg10 : arg10.IsWhole) (arg11 : Memref sig .tc .vmem S8x512x128 .bf16) (harg11 : arg11.IsWhole) (arg12 : Memref sig .tc .vmem S8x512x128 .bf16) (harg12 : arg12.IsWhole) (arg13 : Memref sig .tc .vmem S8x512x64 .bf16) (harg13 : arg13.IsWhole) (arg14 : Memref sig .tc .vmem S8x8x1x128 .f32) (harg14 : arg14.IsWhole) (arg15 : Memref sig .tc .vmem S8x128x128 .f32) (harg15 : arg15.IsWhole) (hc0 : ¬cond0_0 i)
    (x0 : Vec Ideal S8x512x128 .f32) (x1 : Vec Ideal S8x512x128 .bf16) (x2 : Vec Ideal S8x512x128 .bf16) (x3 : Vec Ideal S8x512x128 .bf16) (x4 : Vec Ideal S8x512x64 .bf16) (x5 : Vec Ideal S8x8x1x128 .f32) (x6 : Vec Ideal S8x8x128x128 .bf16) (x7 : Vec Ideal S8x512x128 .bf16) (xs0 : Vec Ideal S8x128x128 .f32)

theorem out8_B :
    out0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 = View.canon (tiles (dvP (grad7 x1 x2 x3 x4 x5 x7 xs0) (rowsh0 x3) (rowsh0 x7) (att0 x4)) (dvP (grad6 x1 x2 x3 x4 x5 x7 xs0) (rowsh1 x3) (rowsh1 x7) (att1 x4)) (dvP (grad5 x1 x2 x3 x4 x5 x7 xs0) (rowsh2 x3) (rowsh2 x7) (att2 x4)) (dvP (grad4 x1 x2 x3 x4 x5 x7 xs0) (rowsh3 x3) (rowsh3 x7) (att3 x4)) (dvP (grad3 x1 x2 x3 x4 x5 x7 xs0) (rowsh4 x3) (rowsh4 x7) (att4 x4)) (dvP (grad2 x1 x2 x3 x4 x5 x7 xs0) (rowsh5 x3) (rowsh5 x7) (att5 x4)) (dvP (grad1 x1 x2 x3 x4 x5 x7 xs0) (rowsh6 x3) (rowsh6 x7) (att6 x4)) (dvP (grad0 xs0) (rowsh7 x3) (rowsh7 x7) (att7 x4))) := by
  frame_out; sl_kernel_rfl
theorem out9_B :
    out0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 = View.canon (tiles (dwP (grad7 x1 x2 x3 x4 x5 x7 xs0) (sav0 x6) (rowsh0 x3) (rowsh0 x7) (att0 x4)) (dwP (grad6 x1 x2 x3 x4 x5 x7 xs0) (sav1 x6) (rowsh1 x3) (rowsh1 x7) (att1 x4)) (dwP (grad5 x1 x2 x3 x4 x5 x7 xs0) (sav2 x6) (rowsh2 x3) (rowsh2 x7) (att2 x4)) (dwP (grad4 x1 x2 x3 x4 x5 x7 xs0) (sav3 x6) (rowsh3 x3) (rowsh3 x7) (att3 x4)) (dwP (grad3 x1 x2 x3 x4 x5 x7 xs0) (sav4 x6) (rowsh4 x3) (rowsh4 x7) (att4 x4)) (dwP (grad2 x1 x2 x3 x4 x5 x7 xs0) (sav5 x6) (rowsh5 x3) (rowsh5 x7) (att5 x4)) (dwP (grad1 x1 x2 x3 x4 x5 x7 xs0) (sav6 x6) (rowsh6 x3) (rowsh6 x7) (att6 x4)) (dwP (grad0 xs0) (sav7 x6) (rowsh7 x3) (rowsh7 x7) (att7 x4))) := by
  frame_out; sl_kernel_rfl
theorem out10_B :
    out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 = View.canon (tiles (dqP (sav0 x6) (rowsh0 x7)) (dqP (sav1 x6) (rowsh1 x7)) (dqP (sav2 x6) (rowsh2 x7)) (dqP (sav3 x6) (rowsh3 x7)) (dqP (sav4 x6) (rowsh4 x7)) (dqP (sav5 x6) (rowsh5 x7)) (dqP (sav6 x6) (rowsh6 x7)) (dqP (sav7 x6) (rowsh7 x7))) := by
  frame_out; sl_kernel_rfl
theorem out11_B :
    out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 = View.canon (tiles (dkP (grad7 x1 x2 x3 x4 x5 x7 xs0) (sav0 x6) (rowsh0 x1) (rowsf0 x0)) (dkP (grad6 x1 x2 x3 x4 x5 x7 xs0) (sav1 x6) (rowsh1 x1) (rowsf1 x0)) (dkP (grad5 x1 x2 x3 x4 x5 x7 xs0) (sav2 x6) (rowsh2 x1) (rowsf2 x0)) (dkP (grad4 x1 x2 x3 x4 x5 x7 xs0) (sav3 x6) (rowsh3 x1) (rowsf3 x0)) (dkP (grad3 x1 x2 x3 x4 x5 x7 xs0) (sav4 x6) (rowsh4 x1) (rowsf4 x0)) (dkP (grad2 x1 x2 x3 x4 x5 x7 xs0) (sav5 x6) (rowsh5 x1) (rowsf5 x0)) (dkP (grad1 x1 x2 x3 x4 x5 x7 xs0) (sav6 x6) (rowsh6 x1) (rowsf6 x0)) (dkP (grad0 xs0) (sav7 x6) (rowsh7 x1) (rowsf7 x0))) := by
  frame_out; sl_kernel_rfl
theorem out12_B :
    out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 = View.canon [⟨Rect.unit ![0, 0, 0] ![8, 64, 64] inb_S8x512x64_S8x64x64_0_0_0, daP (sav0 x6) (rowsh0 x1) (rowsh0 x7) (rowsf0 x0)⟩, ⟨Rect.unit ![0, 64, 0] ![8, 64, 64] inb_S8x512x64_S8x64x64_0_64_0, daP (sav1 x6) (rowsh1 x1) (rowsh1 x7) (rowsf1 x0)⟩, ⟨Rect.unit ![0, 128, 0] ![8, 64, 64] inb_S8x512x64_S8x64x64_0_128_0, daP (sav2 x6) (rowsh2 x1) (rowsh2 x7) (rowsf2 x0)⟩, ⟨Rect.unit ![0, 192, 0] ![8, 64, 64] inb_S8x512x64_S8x64x64_0_192_0, daP (sav3 x6) (rowsh3 x1) (rowsh3 x7) (rowsf3 x0)⟩, ⟨Rect.unit ![0, 256, 0] ![8, 64, 64] inb_S8x512x64_S8x64x64_0_256_0, daP (sav4 x6) (rowsh4 x1) (rowsh4 x7) (rowsf4 x0)⟩, ⟨Rect.unit ![0, 320, 0] ![8, 64, 64] inb_S8x512x64_S8x64x64_0_320_0, daP (sav5 x6) (rowsh5 x1) (rowsh5 x7) (rowsf5 x0)⟩, ⟨Rect.unit ![0, 384, 0] ![8, 64, 64] inb_S8x512x64_S8x64x64_0_384_0, daP (sav6 x6) (rowsh6 x1) (rowsh6 x7) (rowsf6 x0)⟩, ⟨Rect.unit ![0, 448, 0] ![8, 64, 64] inb_S8x512x64_S8x64x64_0_448_0, daP (sav7 x6) (rowsh7 x1) (rowsh7 x7) (rowsf7 x0)⟩] := by
  frame_out; sl_kernel_rfl
theorem out13_B :
    out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 = View.canon [⟨Rect.unit ![0, 0, 0, 0] ![8, 1, 1, 128] inb_S8x8x1x128_S8x1x1x128_0_0_0_0, dgP (grad7 x1 x2 x3 x4 x5 x7 xs0) (sav0 x6)⟩, ⟨Rect.unit ![0, 1, 0, 0] ![8, 1, 1, 128] inb_S8x8x1x128_S8x1x1x128_0_1_0_0, dgP (grad6 x1 x2 x3 x4 x5 x7 xs0) (sav1 x6)⟩, ⟨Rect.unit ![0, 2, 0, 0] ![8, 1, 1, 128] inb_S8x8x1x128_S8x1x1x128_0_2_0_0, dgP (grad5 x1 x2 x3 x4 x5 x7 xs0) (sav2 x6)⟩, ⟨Rect.unit ![0, 3, 0, 0] ![8, 1, 1, 128] inb_S8x8x1x128_S8x1x1x128_0_3_0_0, dgP (grad4 x1 x2 x3 x4 x5 x7 xs0) (sav3 x6)⟩, ⟨Rect.unit ![0, 4, 0, 0] ![8, 1, 1, 128] inb_S8x8x1x128_S8x1x1x128_0_4_0_0, dgP (grad3 x1 x2 x3 x4 x5 x7 xs0) (sav4 x6)⟩, ⟨Rect.unit ![0, 5, 0, 0] ![8, 1, 1, 128] inb_S8x8x1x128_S8x1x1x128_0_5_0_0, dgP (grad2 x1 x2 x3 x4 x5 x7 xs0) (sav5 x6)⟩, ⟨Rect.unit ![0, 6, 0, 0] ![8, 1, 1, 128] inb_S8x8x1x128_S8x1x1x128_0_6_0_0, dgP (grad1 x1 x2 x3 x4 x5 x7 xs0) (sav6 x6)⟩, ⟨Rect.unit ![0, 7, 0, 0] ![8, 1, 1, 128] inb_S8x8x1x128_S8x1x1x128_0_7_0_0, dgP (grad0 xs0) (sav7 x6)⟩] := by
  frame_out; sl_kernel_rfl
theorem sout_B :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 = shapeCast S8x128x128 (grad8 x1 x2 x3 x4 x5 x7 xs0) shapeCasts_S8x128x128_S8x128x128 := by
  frame_out; sl_kernel_rfl

end

end Cert.KernelIdeal.Scan.Bwd
end
-- ==== Proof.Scan.FwdNum.lean ====
/- One chunk, and one point, of the forward scan at an index. -/
module

public import proofs.«01_k».proof.Proof.Scan.FwdVal

@[expose] public section

set_option maxRecDepth 16384

noncomputable section

namespace Cert.KernelIdeal.Scan

open Idealize.ShloMosaic Idealize.ShloMosaic.TcCoe Idealize.ShloMosaic.Pointwise
open Cert.KernelIdeal Cert.KernelIdeal.Gen Cert.Scan

/-- A block of three axes as matrices, one for each head. -/
def fn {a b : ℕ} (x : (⟨3, ![8, a, b]⟩ : Shape).Idx → EReal) : M a b := fun h i k => x (ix3 h i k)

theorem fn_at {a b : ℕ} {X : (⟨3, ![8, a, b]⟩ : Shape).Idx → EReal} {P : M a b} (h : fn X = P) (x : (⟨3, ![8, a, b]⟩ : Shape).Idx) :
    X x = P (x 0) (x 1) (x 2) := by
  rw [← h]; exact congrArg X (eq_ix3 x)

/-- The `r`-th row of the blocks that hold eight chunks is a row of one chunk. -/
theorem row_eq {m : ℕ} (P : ℕ → M 64 m) (n0 c : ℕ) (y0 x0 : Fin 8) (y1 : Fin 512) (x1 : Fin 64) (y2 x2 : Fin m) (h0 : y0.val = 0 + x0.val)
    (h1 : y1.val = 64 * c + x1.val) (h2 : y2.val = 0 + x2.val) :
    P (n0 + c) x0 x1 x2 = P (n0 + y1.val / 64) y0 ⟨y1.val % 64, Nat.mod_lt _ (by decide)⟩ y2 := by
  obtain rfl : y0 = x0 := Fin.ext (by omega)
  obtain rfl : y2 = x2 := Fin.ext (by omega)
  obtain rfl : y1.val / 64 = c := by omega
  obtain rfl : x1 = ⟨y1.val % 64, Nat.mod_lt _ (by decide)⟩ := Fin.ext (by show x1.val = y1.val % 64; omega)
  rfl

namespace Fwd

theorem vnP_apply (S : Vec Ideal S8x128x128 .f32) (W Q : Vec Ideal S8x64x128 .bf16) (U : Vec Ideal S8x64x128 .f32) (h : Fin 8)
    (i : Fin 64) (v : Fin 128) : k0_pay8 S W Q U (ix3 h i v) = vnew (fn S) (fn W) (fn U) h i v := by
  unfold vnew fn
  pointwise [k0_pay8, k0_pay7, k0_pay5]

theorem outP_apply (S : Vec Ideal S8x128x128 .f32) (W Q : Vec Ideal S8x64x128 .bf16) (U : Vec Ideal S8x64x128 .f32) (A : Vec Ideal S8x64x64 .bf16) (h : Fin 8)
    (i : Fin 64) (v : Fin 128) : outP S W Q U A (ix3 h i v) = outp (fn S) (fn W) (fn Q) (fn U) (fn A) h i v := by
  have e := fun j => vnP_apply S W Q U h j v
  unfold outP outp
  pointwise [k0_pay9, k0_pay7, k0_pay5]
  exact congrArg₂ (· + ·) rfl (Finset.sum_congr rfl fun j _ => congrArg (A (ix3 h i j) * ·) (e j))

theorem nextP_apply (S : Vec Ideal S8x128x128 .f32) (W Q : Vec Ideal S8x64x128 .bf16) (U : Vec Ideal S8x64x128 .f32) (G : Vec Ideal S8x1x1x128 .f32)
    (K : Vec Ideal S8x64x128 .bf16) (g : Fin 8 → EReal) (hg : ∀ h v, G (ix4 h 0 0 v) = g h) (h : Fin 8) (k v : Fin 128) :
    nextP S W Q U G K (ix3 h k v) = next (fn S) (fn W) (fn U) (fn K) g h k v := by
  have e := fun j => vnP_apply S W Q U h j v
  unfold nextP next
  pointwise [k0_pay10, k0_pay11]
  exact congrArg₂ (· + ·) (congrArg (S (ix3 h k v) * ·) (hg h v)) (Finset.sum_congr rfl fun j _ => congrArg (K (ix3 h j k) * ·) (e j))

theorem savP_apply (S : Vec Ideal S8x128x128 .f32) (h : Fin 8) (k v : Fin 128) : savP S (ix4 0 h k v) = fn S h k v := by
  unfold savP fn
  pointwise [k0_pay6, k0_pay5]

theorem sav_piece {D : Chunks} (S : Vec Ideal S8x128x128 .f32) (n : ℕ) (hS : fn S = st D n) (x : S1x8x128x128.Idx) (m : ℕ) (y1 : Fin 8) (y2 y3 : Fin 128)
    (h0 : m = n) (h1 : y1.val = 0 + (x 1).val) (h2 : y2.val = 0 + (x 2).val) (h3 : y3.val = 0 + (x 3).val) : savP S x = st D m y1 y2 y3 := by
  obtain rfl := h0
  obtain rfl : y1 = x 1 := Fin.ext (by omega)
  obtain rfl : y2 = x 2 := Fin.ext (by omega)
  obtain rfl : y3 = x 3 := Fin.ext (by omega)
  have e : x = ix4 0 (x 1) (x 2) (x 3) := (eq_ix4 x).trans (congrArg (fun z => ix4 z (x 1) (x 2) (x 3)) (Subsingleton.elim _ _))
  rw [← hS]
  exact (congrArg (savP S) e).trans (savP_apply S _ _ _)

/-- The six input blocks of a point hold the eight chunks from `n0` on. -/
structure In (D : Chunks) (n0 : ℕ) (x0 : Vec Ideal S8x512x128 .f32) (x1 x2 x3 : Vec Ideal S8x512x128 .bf16) (x4 : Vec Ideal S8x512x64 .bf16)
    (x5 : Vec Ideal S8x8x1x128 .f32) : Prop where
  u : ∀ h r k, x0 (ix3 h r k) = D.u (n0 + r.val / 64) h ⟨r.val % 64, Nat.mod_lt _ (by decide)⟩ k
  w : ∀ h r k, x1 (ix3 h r k) = D.w (n0 + r.val / 64) h ⟨r.val % 64, Nat.mod_lt _ (by decide)⟩ k
  qd : ∀ h r k, x2 (ix3 h r k) = D.qd (n0 + r.val / 64) h ⟨r.val % 64, Nat.mod_lt _ (by decide)⟩ k
  kd : ∀ h r k, x3 (ix3 h r k) = D.kd (n0 + r.val / 64) h ⟨r.val % 64, Nat.mod_lt _ (by decide)⟩ k
  a : ∀ h r k, x4 (ix3 h r k) = D.a (n0 + r.val / 64) h ⟨r.val % 64, Nat.mod_lt _ (by decide)⟩ k
  g : ∀ (h : Fin 8) (c : Fin 8) v, x5 (ix4 h c 0 v) = D.g (n0 + c.val) h

theorem rowsf0_eq (x : Vec Ideal S8x512x128 .f32) (P : ℕ → M 64 128) (n0 : ℕ)
    (hx : ∀ h r k, x (ix3 h r k) = P (n0 + r.val / 64) h ⟨r.val % 64, Nat.mod_lt _ (by decide)⟩ k) : fn (rowsf0 x) = P (n0 + 0) := by
  funext h i k
  refine (View.ld_unit_apply_of (Val := Elt Ideal) (e := .f32) x _ _ _ (ix3 h i k) (ix3 h (⟨0 + i.val, by omega⟩ : Fin 512) k) ?_).trans ((hx _ _ _).trans
    (row_eq P n0 0 h h ⟨0 + i.val, by omega⟩ i k k (Nat.zero_add _).symm rfl (Nat.zero_add _).symm).symm)
  intro a; fin_cases a <;> simp
theorem rowsh0_eq (x : Vec Ideal S8x512x128 .bf16) (P : ℕ → M 64 128) (n0 : ℕ)
    (hx : ∀ h r k, x (ix3 h r k) = P (n0 + r.val / 64) h ⟨r.val % 64, Nat.mod_lt _ (by decide)⟩ k) : fn (rowsh0 x) = P (n0 + 0) := by
  funext h i k
  refine (View.ld_unit_apply_of (Val := Elt Ideal) (e := .bf16) x _ _ _ (ix3 h i k) (ix3 h (⟨0 + i.val, by omega⟩ : Fin 512) k) ?_).trans ((hx _ _ _).trans
    (row_eq P n0 0 h h ⟨0 + i.val, by omega⟩ i k k (Nat.zero_add _).symm rfl (Nat.zero_add _).symm).symm)
  intro a; fin_cases a <;> simp
theorem att0_eq (x : Vec Ideal S8x512x64 .bf16) (P : ℕ → M 64 64) (n0 : ℕ)
    (hx : ∀ h r k, x (ix3 h r k) = P (n0 + r.val / 64) h ⟨r.val % 64, Nat.mod_lt _ (by decide)⟩ k) : fn (att0 x) = P (n0 + 0) := by
  funext h i k
  refine (View.ld_unit_apply_of (Val := Elt Ideal) (e := .bf16) x _ _ _ (ix3 h i k) (ix3 h (⟨0 + i.val, by omega⟩ : Fin 512) k) ?_).trans ((hx _ _ _).trans
    (row_eq P n0 0 h h ⟨0 + i.val, by omega⟩ i k k (Nat.zero_add _).symm rfl (Nat.zero_add _).symm).symm)
  intro a; fin_cases a <;> simp
theorem gain0_eq (x : Vec Ideal S8x8x1x128 .f32) (g : Fin 8 → EReal) (hx : ∀ (h : Fin 8) v, x (ix4 h (0 : Fin 8) 0 v) = g h) (h : Fin 8) (v : Fin 128) :
    gain0 x (ix4 h 0 0 v) = g h := by
  refine (View.ld_unit_apply_of (Val := Elt Ideal) (e := .f32) x _ _ _ (ix4 h 0 0 v) (ix4 h (0 : Fin 8) 0 v) ?_).trans (hx h v)
  intro a; fin_cases a <;> simp
theorem rowsf1_eq (x : Vec Ideal S8x512x128 .f32) (P : ℕ → M 64 128) (n0 : ℕ)
    (hx : ∀ h r k, x (ix3 h r k) = P (n0 + r.val / 64) h ⟨r.val % 64, Nat.mod_lt _ (by decide)⟩ k) : fn (rowsf1 x) = P (n0 + 1) := by
  funext h i k
  refine (View.ld_unit_apply_of (Val := Elt Ideal) (e := .f32) x _ _ _ (ix3 h i k) (ix3 h (⟨64 + i.val, by omega⟩ : Fin 512) k) ?_).trans ((hx _ _ _).trans
    (row_eq P n0 1 h h ⟨64 + i.val, by omega⟩ i k k (Nat.zero_add _).symm rfl (Nat.zero_add _).symm).symm)
  intro a; fin_cases a <;> simp
theorem rowsh1_eq (x : Vec Ideal S8x512x128 .bf16) (P : ℕ → M 64 128) (n0 : ℕ)
    (hx : ∀ h r k, x (ix3 h r k) = P (n0 + r.val / 64) h ⟨r.val % 64, Nat.mod_lt _ (by decide)⟩ k) : fn (rowsh1 x) = P (n0 + 1) := by
  funext h i k
  refine (View.ld_unit_apply_of (Val := Elt Ideal) (e := .bf16) x _ _ _ (ix3 h i k) (ix3 h (⟨64 + i.val, by omega⟩ : Fin 512) k) ?_).trans ((hx _ _ _).trans
    (row_eq P n0 1 h h ⟨64 + i.val, by omega⟩ i k k (Nat.zero_add _).symm rfl (Nat.zero_add _).symm).symm)
  intro a; fin_cases a <;> simp
theorem att1_eq (x : Vec Ideal S8x512x64 .bf16) (P : ℕ → M 64 64) (n0 : ℕ)
    (hx : ∀ h r k, x (ix3 h r k) = P (n0 + r.val / 64) h ⟨r.val % 64, Nat.mod_lt _ (by decide)⟩ k) : fn (att1 x) = P (n0 + 1) := by
  funext h i k
  refine (View.ld_unit_apply_of (Val := Elt Ideal) (e := .bf16) x _ _ _ (ix3 h i k) (ix3 h (⟨64 + i.val, by omega⟩ : Fin 512) k) ?_).trans ((hx _ _ _).trans
    (row_eq P n0 1 h h ⟨64 + i.val, by omega⟩ i k k (Nat.zero_add _).symm rfl (Nat.zero_add _).symm).symm)
  intro a; fin_cases a <;> simp
theorem gain1_eq (x : Vec Ideal S8x8x1x128 .f32) (g : Fin 8 → EReal) (hx : ∀ (h : Fin 8) v, x (ix4 h (1 : Fin 8) 0 v) = g h) (h : Fin 8) (v : Fin 128) :
    gain1 x (ix4 h 0 0 v) = g h := by
  refine (View.ld_unit_apply_of (Val := Elt Ideal) (e := .f32) x _ _ _ (ix4 h 0 0 v) (ix4 h (1 : Fin 8) 0 v) ?_).trans (hx h v)
  intro a; fin_cases a <;> simp
theorem rowsf2_eq (x : Vec Ideal S8x512x128 .f32) (P : ℕ → M 64 128) (n0 : ℕ)
    (hx : ∀ h r k, x (ix3 h r k) = P (n0 + r.val / 64) h ⟨r.val % 64, Nat.mod_lt _ (by decide)⟩ k) : fn (rowsf2 x) = P (n0 + 2) := by
  funext h i k
  refine (View.ld_unit_apply_of (Val := Elt Ideal) (e := .f32) x _ _ _ (ix3 h i k) (ix3 h (⟨128 + i.val, by omega⟩ : Fin 512) k) ?_).trans ((hx _ _ _).trans
    (row_eq P n0 2 h h ⟨128 + i.val, by omega⟩ i k k (Nat.zero_add _).symm rfl (Nat.zero_add _).symm).symm)
  intro a; fin_cases a <;> simp
theorem rowsh2_eq (x : Vec Ideal S8x512x128 .bf16) (P : ℕ → M 64 128) (n0 : ℕ)
    (hx : ∀ h r k, x (ix3 h r k) = P (n0 + r.val / 64) h ⟨r.val % 64, Nat.mod_lt _ (by decide)⟩ k) : fn (rowsh2 x) = P (n0 + 2) := by
  funext h i k
  refine (View.ld_unit_apply_of (Val := Elt Ideal) (e := .bf16) x _ _ _ (ix3 h i k) (ix3 h (⟨128 + i.val, by omega⟩ : Fin 512) k) ?_).trans ((hx _ _ _).trans
    (row_eq P n0 2 h h ⟨128 + i.val, by omega⟩ i k k (Nat.zero_add _).symm rfl (Nat.zero_add _).symm).symm)
  intro a; fin_cases a <;> simp
theorem att2_eq (x : Vec Ideal S8x512x64 .bf16) (P : ℕ → M 64 64) (n0 : ℕ)
    (hx : ∀ h r k, x (ix3 h r k) = P (n0 + r.val / 64) h ⟨r.val % 64, Nat.mod_lt _ (by decide)⟩ k) : fn (att2 x) = P (n0 + 2) := by
  funext h i k
  refine (View.ld_unit_apply_of (Val := Elt Ideal) (e := .bf16) x _ _ _ (ix3 h i k) (ix3 h (⟨128 + i.val, by omega⟩ : Fin 512) k) ?_).trans ((hx _ _ _).trans
    (row_eq P n0 2 h h ⟨128 + i.val, by omega⟩ i k k (Nat.zero_add _).symm rfl (Nat.zero_add _).symm).symm)
  intro a; fin_cases a <;> simp
theorem gain2_eq (x : Vec Ideal S8x8x1x128 .f32) (g : Fin 8 → EReal) (hx : ∀ (h : Fin 8) v, x (ix4 h (2 : Fin 8) 0 v) = g h) (h : Fin 8) (v : Fin 128) :
    gain2 x (ix4 h 0 0 v) = g h := by
  refine (View.ld_unit_apply_of (Val := Elt Ideal) (e := .f32) x _ _ _ (ix4 h 0 0 v) (ix4 h (2 : Fin 8) 0 v) ?_).trans (hx h v)
  intro a; fin_cases a <;> simp
theorem rowsf3_eq (x : Vec Ideal S8x512x128 .f32) (P : ℕ → M 64 128) (n0 : ℕ)
    (hx : ∀ h r k, x (ix3 h r k) = P (n0 + r.val / 64) h ⟨r.val % 64, Nat.mod_lt _ (by decide)⟩ k) : fn (rowsf3 x) = P (n0 + 3) := by
  funext h i k
  refine (View.ld_unit_apply_of (Val := Elt Ideal) (e := .f32) x _ _ _ (ix3 h i k) (ix3 h (⟨192 + i.val, by omega⟩ : Fin 512) k) ?_).trans ((hx _ _ _).trans
    (row_eq P n0 3 h h ⟨192 + i.val, by omega⟩ i k k (Nat.zero_add _).symm rfl (Nat.zero_add _).symm).symm)
  intro a; fin_cases a <;> simp
theorem rowsh3_eq (x : Vec Ideal S8x512x128 .bf16) (P : ℕ → M 64 128) (n0 : ℕ)
    (hx : ∀ h r k, x (ix3 h r k) = P (n0 + r.val / 64) h ⟨r.val % 64, Nat.mod_lt _ (by decide)⟩ k) : fn (rowsh3 x) = P (n0 + 3) := by
  funext h i k
  refine (View.ld_unit_apply_of (Val := Elt Ideal) (e := .bf16) x _ _ _ (ix3 h i k) (ix3 h (⟨192 + i.val, by omega⟩ : Fin 512) k) ?_).trans ((hx _ _ _).trans
    (row_eq P n0 3 h h ⟨192 + i.val, by omega⟩ i k k (Nat.zero_add _).symm rfl (Nat.zero_add _).symm).symm)
  intro a; fin_cases a <;> simp
theorem att3_eq (x : Vec Ideal S8x512x64 .bf16) (P : ℕ → M 64 64) (n0 : ℕ)
    (hx : ∀ h r k, x (ix3 h r k) = P (n0 + r.val / 64) h ⟨r.val % 64, Nat.mod_lt _ (by decide)⟩ k) : fn (att3 x) = P (n0 + 3) := by
  funext h i k
  refine (View.ld_unit_apply_of (Val := Elt Ideal) (e := .bf16) x _ _ _ (ix3 h i k) (ix3 h (⟨192 + i.val, by omega⟩ : Fin 512) k) ?_).trans ((hx _ _ _).trans
    (row_eq P n0 3 h h ⟨192 + i.val, by omega⟩ i k k (Nat.zero_add _).symm rfl (Nat.zero_add _).symm).symm)
  intro a; fin_cases a <;> simp
theorem gain3_eq (x : Vec Ideal S8x8x1x128 .f32) (g : Fin 8 → EReal) (hx : ∀ (h : Fin 8) v, x (ix4 h (3 : Fin 8) 0 v) = g h) (h : Fin 8) (v : Fin 128) :
    gain3 x (ix4 h 0 0 v) = g h := by
  refine (View.ld_unit_apply_of (Val := Elt Ideal) (e := .f32) x _ _ _ (ix4 h 0 0 v) (ix4 h (3 : Fin 8) 0 v) ?_).trans (hx h v)
  intro a; fin_cases a <;> simp
theorem rowsf4_eq (x : Vec Ideal S8x512x128 .f32) (P : ℕ → M 64 128) (n0 : ℕ)
    (hx : ∀ h r k, x (ix3 h r k) = P (n0 + r.val / 64) h ⟨r.val % 64, Nat.mod_lt _ (by decide)⟩ k) : fn (rowsf4 x) = P (n0 + 4) := by
  funext h i k
  refine (View.ld_unit_apply_of (Val := Elt Ideal) (e := .f32) x _ _ _ (ix3 h i k) (ix3 h (⟨256 + i.val, by omega⟩ : Fin 512) k) ?_).trans ((hx _ _ _).trans
    (row_eq P n0 4 h h ⟨256 + i.val, by omega⟩ i k k (Nat.zero_add _).symm rfl (Nat.zero_add _).symm).symm)
  intro a; fin_cases a <;> simp
theorem rowsh4_eq (x : Vec Ideal S8x512x128 .bf16) (P : ℕ → M 64 128) (n0 : ℕ)
    (hx : ∀ h r k, x (ix3 h r k) = P (n0 + r.val / 64) h ⟨r.val % 64, Nat.mod_lt _ (by decide)⟩ k) : fn (rowsh4 x) = P (n0 + 4) := by
  funext h i k
  refine (View.ld_unit_apply_of (Val := Elt Ideal) (e := .bf16) x _ _ _ (ix3 h i k) (ix3 h (⟨256 + i.val, by omega⟩ : Fin 512) k) ?_).trans ((hx _ _ _).trans
    (row_eq P n0 4 h h ⟨256 + i.val, by omega⟩ i k k (Nat.zero_add _).symm rfl (Nat.zero_add _).symm).symm)
  intro a; fin_cases a <;> simp
theorem att4_eq (x : Vec Ideal S8x512x64 .bf16) (P : ℕ → M 64 64) (n0 : ℕ)
    (hx : ∀ h r k, x (ix3 h r k) = P (n0 + r.val / 64) h ⟨r.val % 64, Nat.mod_lt _ (by decide)⟩ k) : fn (att4 x) = P (n0 + 4) := by
  funext h i k
  refine (View.ld_unit_apply_of (Val := Elt Ideal) (e := .bf16) x _ _ _ (ix3 h i k) (ix3 h (⟨256 + i.val, by omega⟩ : Fin 512) k) ?_).trans ((hx _ _ _).trans
    (row_eq P n0 4 h h ⟨256 + i.val, by omega⟩ i k k (Nat.zero_add _).symm rfl (Nat.zero_add _).symm).symm)
  intro a; fin_cases a <;> simp
theorem gain4_eq (x : Vec Ideal S8x8x1x128 .f32) (g : Fin 8 → EReal) (hx : ∀ (h : Fin 8) v, x (ix4 h (4 : Fin 8) 0 v) = g h) (h : Fin 8) (v : Fin 128) :
    gain4 x (ix4 h 0 0 v) = g h := by
  refine (View.ld_unit_apply_of (Val := Elt Ideal) (e := .f32) x _ _ _ (ix4 h 0 0 v) (ix4 h (4 : Fin 8) 0 v) ?_).trans (hx h v)
  intro a; fin_cases a <;> simp
theorem rowsf5_eq (x : Vec Ideal S8x512x128 .f32) (P : ℕ → M 64 128) (n0 : ℕ)
    (hx : ∀ h r k, x (ix3 h r k) = P (n0 + r.val / 64) h ⟨r.val % 64, Nat.mod_lt _ (by decide)⟩ k) : fn (rowsf5 x) = P (n0 + 5) := by
  funext h i k
  refine (View.ld_unit_apply_of (Val := Elt Ideal) (e := .f32) x _ _ _ (ix3 h i k) (ix3 h (⟨320 + i.val, by omega⟩ : Fin 512) k) ?_).trans ((hx _ _ _).trans
    (row_eq P n0 5 h h ⟨320 + i.val, by omega⟩ i k k (Nat.zero_add _).symm rfl (Nat.zero_add _).symm).symm)
  intro a; fin_cases a <;> simp
theorem rowsh5_eq (x : Vec Ideal S8x512x128 .bf16) (P : ℕ → M 64 128) (n0 : ℕ)
    (hx : ∀ h r k, x (ix3 h r k) = P (n0 + r.val / 64) h ⟨r.val % 64, Nat.mod_lt _ (by decide)⟩ k) : fn (rowsh5 x) = P (n0 + 5) := by
  funext h i k
  refine (View.ld_unit_apply_of (Val := Elt Ideal) (e := .bf16) x _ _ _ (ix3 h i k) (ix3 h (⟨320 + i.val, by omega⟩ : Fin 512) k) ?_).trans ((hx _ _ _).trans
    (row_eq P n0 5 h h ⟨320 + i.val, by omega⟩ i k k (Nat.zero_add _).symm rfl (Nat.zero_add _).symm).symm)
  intro a; fin_cases a <;> simp
theorem att5_eq (x : Vec Ideal S8x512x64 .bf16) (P : ℕ → M 64 64) (n0 : ℕ)
    (hx : ∀ h r k, x (ix3 h r k) = P (n0 + r.val / 64) h ⟨r.val % 64, Nat.mod_lt _ (by decide)⟩ k) : fn (att5 x) = P (n0 + 5) := by
  funext h i k
  refine (View.ld_unit_apply_of (Val := Elt Ideal) (e := .bf16) x _ _ _ (ix3 h i k) (ix3 h (⟨320 + i.val, by omega⟩ : Fin 512) k) ?_).trans ((hx _ _ _).trans
    (row_eq P n0 5 h h ⟨320 + i.val, by omega⟩ i k k (Nat.zero_add _).symm rfl (Nat.zero_add _).symm).symm)
  intro a; fin_cases a <;> simp
theorem gain5_eq (x : Vec Ideal S8x8x1x128 .f32) (g : Fin 8 → EReal) (hx : ∀ (h : Fin 8) v, x (ix4 h (5 : Fin 8) 0 v) = g h) (h : Fin 8) (v : Fin 128) :
    gain5 x (ix4 h 0 0 v) = g h := by
  refine (View.ld_unit_apply_of (Val := Elt Ideal) (e := .f32) x _ _ _ (ix4 h 0 0 v) (ix4 h (5 : Fin 8) 0 v) ?_).trans (hx h v)
  intro a; fin_cases a <;> simp
theorem rowsf6_eq (x : Vec Ideal S8x512x128 .f32) (P : ℕ → M 64 128) (n0 : ℕ)
    (hx : ∀ h r k, x (ix3 h r k) = P (n0 + r.val / 64) h ⟨r.val % 64, Nat.mod_lt _ (by decide)⟩ k) : fn (rowsf6 x) = P (n0 + 6) := by
  funext h i k
  refine (View.ld_unit_apply_of (Val := Elt Ideal) (e := .f32) x _ _ _ (ix3 h i k) (ix3 h (⟨384 + i.val, by omega⟩ : Fin 512) k) ?_).trans ((hx _ _ _).trans
    (row_eq P n0 6 h h ⟨384 + i.val, by omega⟩ i k k (Nat.zero_add _).symm rfl (Nat.zero_add _).symm).symm)
  intro a; fin_cases a <;> simp
theorem rowsh6_eq (x : Vec Ideal S8x512x128 .bf16) (P : ℕ → M 64 128) (n0 : ℕ)
    (hx : ∀ h r k, x (ix3 h r k) = P (n0 + r.val / 64) h ⟨r.val % 64, Nat.mod_lt _ (by decide)⟩ k) : fn (rowsh6 x) = P (n0 + 6) := by
  funext h i k
  refine (View.ld_unit_apply_of (Val := Elt Ideal) (e := .bf16) x _ _ _ (ix3 h i k) (ix3 h (⟨384 + i.val, by omega⟩ : Fin 512) k) ?_).trans ((hx _ _ _).trans
    (row_eq P n0 6 h h ⟨384 + i.val, by omega⟩ i k k (Nat.zero_add _).symm rfl (Nat.zero_add _).symm).symm)
  intro a; fin_cases a <;> simp
theorem att6_eq (x : Vec Ideal S8x512x64 .bf16) (P : ℕ → M 64 64) (n0 : ℕ)
    (hx : ∀ h r k, x (ix3 h r k) = P (n0 + r.val / 64) h ⟨r.val % 64, Nat.mod_lt _ (by decide)⟩ k) : fn (att6 x) = P (n0 + 6) := by
  funext h i k
  refine (View.ld_unit_apply_of (Val := Elt Ideal) (e := .bf16) x _ _ _ (ix3 h i k) (ix3 h (⟨384 + i.val, by omega⟩ : Fin 512) k) ?_).trans ((hx _ _ _).trans
    (row_eq P n0 6 h h ⟨384 + i.val, by omega⟩ i k k (Nat.zero_add _).symm rfl (Nat.zero_add _).symm).symm)
  intro a; fin_cases a <;> simp
theorem gain6_eq (x : Vec Ideal S8x8x1x128 .f32) (g : Fin 8 → EReal) (hx : ∀ (h : Fin 8) v, x (ix4 h (6 : Fin 8) 0 v) = g h) (h : Fin 8) (v : Fin 128) :
    gain6 x (ix4 h 0 0 v) = g h := by
  refine (View.ld_unit_apply_of (Val := Elt Ideal) (e := .f32) x _ _ _ (ix4 h 0 0 v) (ix4 h (6 : Fin 8) 0 v) ?_).trans (hx h v)
  intro a; fin_cases a <;> simp
theorem rowsf7_eq (x : Vec Ideal S8x512x128 .f32) (P : ℕ → M 64 128) (n0 : ℕ)
    (hx : ∀ h r k, x (ix3 h r k) = P (n0 + r.val / 64) h ⟨r.val % 64, Nat.mod_lt _ (by decide)⟩ k) : fn (rowsf7 x) = P (n0 + 7) := by
  funext h i k
  refine (View.ld_unit_apply_of (Val := Elt Ideal) (e := .f32) x _ _ _ (ix3 h i k) (ix3 h (⟨448 + i.val, by omega⟩ : Fin 512) k) ?_).trans ((hx _ _ _).trans
    (row_eq P n0 7 h h ⟨448 + i.val, by omega⟩ i k k (Nat.zero_add _).symm rfl (Nat.zero_add _).symm).symm)
  intro a; fin_cases a <;> simp
theorem rowsh7_eq (x : Vec Ideal S8x512x128 .bf16) (P : ℕ → M 64 128) (n0 : ℕ)
    (hx : ∀ h r k, x (ix3 h r k) = P (n0 + r.val / 64) h ⟨r.val % 64, Nat.mod_lt _ (by decide)⟩ k) : fn (rowsh7 x) = P (n0 + 7) := by
  funext h i k
  refine (View.ld_unit_apply_of (Val := Elt Ideal) (e := .bf16) x _ _ _ (ix3 h i k) (ix3 h (⟨448 + i.val, by omega⟩ : Fin 512) k) ?_).trans ((hx _ _ _).trans
    (row_eq P n0 7 h h ⟨448 + i.val, by omega⟩ i k k (Nat.zero_add _).symm rfl (Nat.zero_add _).symm).symm)
  intro a; fin_cases a <;> simp
theorem att7_eq (x : Vec Ideal S8x512x64 .bf16) (P : ℕ → M 64 64) (n0 : ℕ)
    (hx : ∀ h r k, x (ix3 h r k) = P (n0 + r.val / 64) h ⟨r.val % 64, Nat.mod_lt _ (by decide)⟩ k) : fn (att7 x) = P (n0 + 7) := by
  funext h i k
  refine (View.ld_unit_apply_of (Val := Elt Ideal) (e := .bf16) x _ _ _ (ix3 h i k) (ix3 h (⟨448 + i.val, by omega⟩ : Fin 512) k) ?_).trans ((hx _ _ _).trans
    (row_eq P n0 7 h h ⟨448 + i.val, by omega⟩ i k k (Nat.zero_add _).symm rfl (Nat.zero_add _).symm).symm)
  intro a; fin_cases a <;> simp
theorem gain7_eq (x : Vec Ideal S8x8x1x128 .f32) (g : Fin 8 → EReal) (hx : ∀ (h : Fin 8) v, x (ix4 h (7 : Fin 8) 0 v) = g h) (h : Fin 8) (v : Fin 128) :
    gain7 x (ix4 h 0 0 v) = g h := by
  refine (View.ld_unit_apply_of (Val := Elt Ideal) (e := .f32) x _ _ _ (ix4 h 0 0 v) (ix4 h (7 : Fin 8) 0 v) ?_).trans (hx h v)
  intro a; fin_cases a <;> simp

section
variable {D : Chunks} {n0 : ℕ} {x0 : Vec Ideal S8x512x128 .f32} {x1 x2 x3 : Vec Ideal S8x512x128 .bf16} {x4 : Vec Ideal S8x512x64 .bf16}
  {x5 : Vec Ideal S8x8x1x128 .f32} (I : In D n0 x0 x1 x2 x3 x4 x5) {S : Vec Ideal S8x128x128 .f32} (hS : fn S = st D n0)
include I hS

theorem fn_state0 : fn (state0 S) = st D (n0 + 0) := hS
theorem fn_state1 : fn (state1 x0 x1 x2 x3 x5 S) = st D (n0 + 1) := by
  funext h k v
  refine (nextP_apply _ _ _ _ _ _ (D.g (n0 + 0)) (gain0_eq x5 _ fun h v => I.g h 0 v) h k v).trans ?_
  rw [fn_state0 I hS, rowsh0_eq x1 D.w n0 I.w, rowsf0_eq x0 D.u n0 I.u, rowsh0_eq x3 D.kd n0 I.kd]
  rfl
theorem fn_state2 : fn (state2 x0 x1 x2 x3 x5 S) = st D (n0 + 2) := by
  funext h k v
  refine (nextP_apply _ _ _ _ _ _ (D.g (n0 + 1)) (gain1_eq x5 _ fun h v => I.g h 1 v) h k v).trans ?_
  rw [fn_state1 I hS, rowsh1_eq x1 D.w n0 I.w, rowsf1_eq x0 D.u n0 I.u, rowsh1_eq x3 D.kd n0 I.kd]
  rfl
theorem fn_state3 : fn (state3 x0 x1 x2 x3 x5 S) = st D (n0 + 3) := by
  funext h k v
  refine (nextP_apply _ _ _ _ _ _ (D.g (n0 + 2)) (gain2_eq x5 _ fun h v => I.g h 2 v) h k v).trans ?_
  rw [fn_state2 I hS, rowsh2_eq x1 D.w n0 I.w, rowsf2_eq x0 D.u n0 I.u, rowsh2_eq x3 D.kd n0 I.kd]
  rfl
theorem fn_state4 : fn (state4 x0 x1 x2 x3 x5 S) = st D (n0 + 4) := by
  funext h k v
  refine (nextP_apply _ _ _ _ _ _ (D.g (n0 + 3)) (gain3_eq x5 _ fun h v => I.g h 3 v) h k v).trans ?_
  rw [fn_state3 I hS, rowsh3_eq x1 D.w n0 I.w, rowsf3_eq x0 D.u n0 I.u, rowsh3_eq x3 D.kd n0 I.kd]
  rfl
theorem fn_state5 : fn (state5 x0 x1 x2 x3 x5 S) = st D (n0 + 5) := by
  funext h k v
  refine (nextP_apply _ _ _ _ _ _ (D.g (n0 + 4)) (gain4_eq x5 _ fun h v => I.g h 4 v) h k v).trans ?_
  rw [fn_state4 I hS, rowsh4_eq x1 D.w n0 I.w, rowsf4_eq x0 D.u n0 I.u, rowsh4_eq x3 D.kd n0 I.kd]
  rfl
theorem fn_state6 : fn (state6 x0 x1 x2 x3 x5 S) = st D (n0 + 6) := by
  funext h k v
  refine (nextP_apply _ _ _ _ _ _ (D.g (n0 + 5)) (gain5_eq x5 _ fun h v => I.g h 5 v) h k v).trans ?_
  rw [fn_state5 I hS, rowsh5_eq x1 D.w n0 I.w, rowsf5_eq x0 D.u n0 I.u, rowsh5_eq x3 D.kd n0 I.kd]
  rfl
theorem fn_state7 : fn (state7 x0 x1 x2 x3 x5 S) = st D (n0 + 7) := by
  funext h k v
  refine (nextP_apply _ _ _ _ _ _ (D.g (n0 + 6)) (gain6_eq x5 _ fun h v => I.g h 6 v) h k v).trans ?_
  rw [fn_state6 I hS, rowsh6_eq x1 D.w n0 I.w, rowsf6_eq x0 D.u n0 I.u, rowsh6_eq x3 D.kd n0 I.kd]
  rfl
theorem fn_state8 : fn (state8 x0 x1 x2 x3 x5 S) = st D (n0 + 8) := by
  funext h k v
  refine (nextP_apply _ _ _ _ _ _ (D.g (n0 + 7)) (gain7_eq x5 _ fun h v => I.g h 7 v) h k v).trans ?_
  rw [fn_state7 I hS, rowsh7_eq x1 D.w n0 I.w, rowsf7_eq x0 D.u n0 I.u, rowsh7_eq x3 D.kd n0 I.kd]
  rfl
theorem out_piece0 : fn (outP (state0 S) (rowsh0 x1) (rowsh0 x2) (rowsf0 x0) (att0 x4)) = outc D (n0 + 0) := by
  funext h i v
  refine (outP_apply _ _ _ _ _ h i v).trans ?_
  rw [fn_state0 I hS, rowsh0_eq x1 D.w n0 I.w, rowsh0_eq x2 D.qd n0 I.qd, rowsf0_eq x0 D.u n0 I.u, att0_eq x4 D.a n0 I.a]
  rfl
theorem out_piece1 : fn (outP (state1 x0 x1 x2 x3 x5 S) (rowsh1 x1) (rowsh1 x2) (rowsf1 x0) (att1 x4)) = outc D (n0 + 1) := by
  funext h i v
  refine (outP_apply _ _ _ _ _ h i v).trans ?_
  rw [fn_state1 I hS, rowsh1_eq x1 D.w n0 I.w, rowsh1_eq x2 D.qd n0 I.qd, rowsf1_eq x0 D.u n0 I.u, att1_eq x4 D.a n0 I.a]
  rfl
theorem out_piece2 : fn (outP (state2 x0 x1 x2 x3 x5 S) (rowsh2 x1) (rowsh2 x2) (rowsf2 x0) (att2 x4)) = outc D (n0 + 2) := by
  funext h i v
  refine (outP_apply _ _ _ _ _ h i v).trans ?_
  rw [fn_state2 I hS, rowsh2_eq x1 D.w n0 I.w, rowsh2_eq x2 D.qd n0 I.qd, rowsf2_eq x0 D.u n0 I.u, att2_eq x4 D.a n0 I.a]
  rfl
theorem out_piece3 : fn (outP (state3 x0 x1 x2 x3 x5 S) (rowsh3 x1) (rowsh3 x2) (rowsf3 x0) (att3 x4)) = outc D (n0 + 3) := by
  funext h i v
  refine (outP_apply _ _ _ _ _ h i v).trans ?_
  rw [fn_state3 I hS, rowsh3_eq x1 D.w n0 I.w, rowsh3_eq x2 D.qd n0 I.qd, rowsf3_eq x0 D.u n0 I.u, att3_eq x4 D.a n0 I.a]
  rfl
theorem out_piece4 : fn (outP (state4 x0 x1 x2 x3 x5 S) (rowsh4 x1) (rowsh4 x2) (rowsf4 x0) (att4 x4)) = outc D (n0 + 4) := by
  funext h i v
  refine (outP_apply _ _ _ _ _ h i v).trans ?_
  rw [fn_state4 I hS, rowsh4_eq x1 D.w n0 I.w, rowsh4_eq x2 D.qd n0 I.qd, rowsf4_eq x0 D.u n0 I.u, att4_eq x4 D.a n0 I.a]
  rfl
theorem out_piece5 : fn (outP (state5 x0 x1 x2 x3 x5 S) (rowsh5 x1) (rowsh5 x2) (rowsf5 x0) (att5 x4)) = outc D (n0 + 5) := by
  funext h i v
  refine (outP_apply _ _ _ _ _ h i v).trans ?_
  rw [fn_state5 I hS, rowsh5_eq x1 D.w n0 I.w, rowsh5_eq x2 D.qd n0 I.qd, rowsf5_eq x0 D.u n0 I.u, att5_eq x4 D.a n0 I.a]
  rfl
theorem out_piece6 : fn (outP (state6 x0 x1 x2 x3 x5 S) (rowsh6 x1) (rowsh6 x2) (rowsf6 x0) (att6 x4)) = outc D (n0 + 6) := by
  funext h i v
  refine (outP_apply _ _ _ _ _ h i v).trans ?_
  rw [fn_state6 I hS, rowsh6_eq x1 D.w n0 I.w, rowsh6_eq x2 D.qd n0 I.qd, rowsf6_eq x0 D.u n0 I.u, att6_eq x4 D.a n0 I.a]
  rfl
theorem out_piece7 : fn (outP (state7 x0 x1 x2 x3 x5 S) (rowsh7 x1) (rowsh7 x2) (rowsf7 x0) (att7 x4)) = outc D (n0 + 7) := by
  funext h i v
  refine (outP_apply _ _ _ _ _ h i v).trans ?_
  rw [fn_state7 I hS, rowsh7_eq x1 D.w n0 I.w, rowsh7_eq x2 D.qd n0 I.qd, rowsf7_eq x0 D.u n0 I.u, att7_eq x4 D.a n0 I.a]
  rfl

theorem canon6 (y : S8x512x128.Idx) (X : Vec Ideal S8x512x128 .f32) (hX : X = View.canon [⟨Rect.unit ![0, 448, 0] ![8, 64, 128] inb_S8x512x128_S8x64x128_0_448_0, outP (state7 x0 x1 x2 x3 x5 S) (rowsh7 x1) (rowsh7 x2) (rowsf7 x0) (att7 x4)⟩, ⟨Rect.unit ![0, 384, 0] ![8, 64, 128] inb_S8x512x128_S8x64x128_0_384_0, outP (state6 x0 x1 x2 x3 x5 S) (rowsh6 x1) (rowsh6 x2) (rowsf6 x0) (att6 x4)⟩, ⟨Rect.unit ![0, 320, 0] ![8, 64, 128] inb_S8x512x128_S8x64x128_0_320_0, outP (state5 x0 x1 x2 x3 x5 S) (rowsh5 x1) (rowsh5 x2) (rowsf5 x0) (att5 x4)⟩, ⟨Rect.unit ![0, 256, 0] ![8, 64, 128] inb_S8x512x128_S8x64x128_0_256_0, outP (state4 x0 x1 x2 x3 x5 S) (rowsh4 x1) (rowsh4 x2) (rowsf4 x0) (att4 x4)⟩, ⟨Rect.unit ![0, 192, 0] ![8, 64, 128] inb_S8x512x128_S8x64x128_0_192_0, outP (state3 x0 x1 x2 x3 x5 S) (rowsh3 x1) (rowsh3 x2) (rowsf3 x0) (att3 x4)⟩, ⟨Rect.unit ![0, 128, 0] ![8, 64, 128] inb_S8x512x128_S8x64x128_0_128_0, outP (state2 x0 x1 x2 x3 x5 S) (rowsh2 x1) (rowsh2 x2) (rowsf2 x0) (att2 x4)⟩, ⟨Rect.unit ![0, 64, 0] ![8, 64, 128] inb_S8x512x128_S8x64x128_0_64_0, outP (state1 x0 x1 x2 x3 x5 S) (rowsh1 x1) (rowsh1 x2) (rowsf1 x0) (att1 x4)⟩, ⟨Rect.unit ![0, 0, 0] ![8, 64, 128] inb_S8x512x128_S8x64x128_0_0_0, outP (state0 S) (rowsh0 x1) (rowsh0 x2) (rowsf0 x0) (att0 x4)⟩]) :
    X y = outc D (n0 + (y 1).val / 64) (y 0) ⟨(y 1).val % 64, Nat.mod_lt _ (by decide)⟩ (y 2) := by
  rw [hX]
  canon_tiles x h
  · exact (fn_at (out_piece7 I hS) x).trans (row_eq (outc D) n0 7 (y 0) (x 0) (y 1) (x 1) (y 2) (x 2) (by omega) (by omega) (by omega))
  · exact (fn_at (out_piece6 I hS) x).trans (row_eq (outc D) n0 6 (y 0) (x 0) (y 1) (x 1) (y 2) (x 2) (by omega) (by omega) (by omega))
  · exact (fn_at (out_piece5 I hS) x).trans (row_eq (outc D) n0 5 (y 0) (x 0) (y 1) (x 1) (y 2) (x 2) (by omega) (by omega) (by omega))
  · exact (fn_at (out_piece4 I hS) x).trans (row_eq (outc D) n0 4 (y 0) (x 0) (y 1) (x 1) (y 2) (x 2) (by omega) (by omega) (by omega))
  · exact (fn_at (out_piece3 I hS) x).trans (row_eq (outc D) n0 3 (y 0) (x 0) (y 1) (x 1) (y 2) (x 2) (by omega) (by omega) (by omega))
  · exact (fn_at (out_piece2 I hS) x).trans (row_eq (outc D) n0 2 (y 0) (x 0) (y 1) (x 1) (y 2) (x 2) (by omega) (by omega) (by omega))
  · exact (fn_at (out_piece1 I hS) x).trans (row_eq (outc D) n0 1 (y 0) (x 0) (y 1) (x 1) (y 2) (x 2) (by omega) (by omega) (by omega))
  · exact (fn_at (out_piece0 I hS) x).trans (row_eq (outc D) n0 0 (y 0) (x 0) (y 1) (x 1) (y 2) (x 2) (by omega) (by omega) (by omega))

theorem canon7 (y : S8x8x128x128.Idx) (X : Vec Ideal S8x8x128x128 .bf16) (hX : X = View.canon [⟨Rect.unit ![7, 0, 0, 0] ![1, 8, 128, 128] inb_S8x8x128x128_S1x8x128x128_7_0_0_0, savP (state7 x0 x1 x2 x3 x5 S)⟩, ⟨Rect.unit ![6, 0, 0, 0] ![1, 8, 128, 128] inb_S8x8x128x128_S1x8x128x128_6_0_0_0, savP (state6 x0 x1 x2 x3 x5 S)⟩, ⟨Rect.unit ![5, 0, 0, 0] ![1, 8, 128, 128] inb_S8x8x128x128_S1x8x128x128_5_0_0_0, savP (state5 x0 x1 x2 x3 x5 S)⟩, ⟨Rect.unit ![4, 0, 0, 0] ![1, 8, 128, 128] inb_S8x8x128x128_S1x8x128x128_4_0_0_0, savP (state4 x0 x1 x2 x3 x5 S)⟩, ⟨Rect.unit ![3, 0, 0, 0] ![1, 8, 128, 128] inb_S8x8x128x128_S1x8x128x128_3_0_0_0, savP (state3 x0 x1 x2 x3 x5 S)⟩, ⟨Rect.unit ![2, 0, 0, 0] ![1, 8, 128, 128] inb_S8x8x128x128_S1x8x128x128_2_0_0_0, savP (state2 x0 x1 x2 x3 x5 S)⟩, ⟨Rect.unit ![1, 0, 0, 0] ![1, 8, 128, 128] inb_S8x8x128x128_S1x8x128x128_1_0_0_0, savP (state1 x0 x1 x2 x3 x5 S)⟩, ⟨Rect.unit ![0, 0, 0, 0] ![1, 8, 128, 128] inb_S8x8x128x128_S1x8x128x128_0_0_0_0, savP (state0 S)⟩]) :
    X y = st D (n0 + (y 0).val) (y 1) (y 2) (y 3) := by
  rw [hX]
  canon_tiles x h
  · exact sav_piece _ (n0 + 7) (fn_state7 I hS) x _ _ _ _ (by omega) (by omega) (by omega) (by omega)
  · exact sav_piece _ (n0 + 6) (fn_state6 I hS) x _ _ _ _ (by omega) (by omega) (by omega) (by omega)
  · exact sav_piece _ (n0 + 5) (fn_state5 I hS) x _ _ _ _ (by omega) (by omega) (by omega) (by omega)
  · exact sav_piece _ (n0 + 4) (fn_state4 I hS) x _ _ _ _ (by omega) (by omega) (by omega) (by omega)
  · exact sav_piece _ (n0 + 3) (fn_state3 I hS) x _ _ _ _ (by omega) (by omega) (by omega) (by omega)
  · exact sav_piece _ (n0 + 2) (fn_state2 I hS) x _ _ _ _ (by omega) (by omega) (by omega) (by omega)
  · exact sav_piece _ (n0 + 1) (fn_state1 I hS) x _ _ _ _ (by omega) (by omega) (by omega) (by omega)
  · exact sav_piece _ (n0 + 0) (fn_state0 I hS) x _ _ _ _ (by omega) (by omega) (by omega) (by omega)
end

end Fwd
end Cert.KernelIdeal.Scan
end
-- ==== Proof.Scan.BwdNum.lean ====
/- One chunk, and one point, of the backward scan at an index. -/
module

public import proofs.«01_k».proof.Proof.Scan.BwdVal
public import proofs.«01_k».proof.Proof.Scan.FwdNum

@[expose] public section

set_option maxRecDepth 16384

noncomputable section

namespace Cert.KernelIdeal.Scan.Bwd

open Idealize.ShloMosaic Idealize.ShloMosaic.TcCoe Idealize.ShloMosaic.Pointwise
open Cert.KernelIdeal Cert.KernelIdeal.Gen Cert.Scan
open Fwd (rowsf0 rowsf0_eq rowsh0 rowsh0_eq att0 att0_eq gain0 gain0_eq rowsf1 rowsf1_eq rowsh1 rowsh1_eq att1 att1_eq gain1 gain1_eq rowsf2 rowsf2_eq rowsh2 rowsh2_eq att2 att2_eq gain2 gain2_eq rowsf3 rowsf3_eq rowsh3 rowsh3_eq att3 att3_eq gain3 gain3_eq rowsf4 rowsf4_eq rowsh4 rowsh4_eq att4 att4_eq gain4 gain4_eq rowsf5 rowsf5_eq rowsh5 rowsh5_eq att5 att5_eq gain5 gain5_eq rowsf6 rowsf6_eq rowsh6 rowsh6_eq att6 att6_eq gain6 gain6_eq rowsf7 rowsf7_eq rowsh7 rowsh7_eq att7 att7_eq gain7 gain7_eq)

theorem dg_at (Z : Vec Ideal S8x1x1x128 .f32) (x : S8x1x1x128.Idx) : Z x = Z (ix4 (x 0) 0 0 (x 3)) :=
  congrArg Z ((eq_ix4 x).trans (congrArg₂ (fun a b => ix4 (x 0) a b (x 3)) (Subsingleton.elim (α := Fin 1) _ _) (Subsingleton.elim (α := Fin 1) _ _)))
theorem dec_lane : ∀ l : Fin 128, (IntOp.cmpi CmpIPredicate.eq (BitVec.ofNat 32 l.val) 0#32) = if l = 0 then 1#1 else 0#1 := by decide +kernel
theorem sel_lane (l : Fin 128) (a b : EReal) : Scalar.select (IntOp.cmpi CmpIPredicate.eq (BitVec.ofNat 32 l.val) 0#32) a b = if l = 0 then a else b := by
  rw [dec_lane]
  by_cases h : l = 0
  · rw [if_pos h, if_pos h]; rfl
  · rw [if_neg h, if_neg h]; rfl

/-- The states that are read back, as matrices. -/
def fs (S : Vec Ideal S1x8x128x128 .bf16) : M 128 128 := fun h k v => S (ix4 0 h k v)

section
variable (X : Vec Ideal S8x128x128 .f32) (S : Vec Ideal S1x8x128x128 .bf16) (W Q K B : Vec Ideal S8x64x128 .bf16) (U : Vec Ideal S8x64x128 .f32)
  (A : Vec Ideal S8x64x64 .bf16)

theorem sv_apply (h : Fin 8) (k v : Fin 128) : k1_pay4 S (ix3 h k v) = fs S h k v := by
  unfold fs
  pointwise [k1_pay4]

theorem vn_apply (h : Fin 8) (i : Fin 64) (v : Fin 128) : k1_pay5 S W U (ix3 h i v) = vnew (fs S) (fn W) (fn U) h i v := by
  have e := sv_apply S
  unfold vnew fn
  pointwise [k1_pay5]
  exact congrArg (U (ix3 h i v) - ·) (Finset.sum_congr rfl fun k _ => congrArg (W (ix3 h i k) * ·) (e h k v))

theorem dvP_apply (h : Fin 8) (i : Fin 64) (v : Fin 128) : dvP X K B A (ix3 h i v) = dval (fn X) (fn K) (fn B) (fn A) h i v := by
  unfold dvP dval fn
  pointwise [k1_pay10, k1_pay6]

theorem backP_apply (G : Vec Ideal S8x1x1x128 .f32) (g : Fin 8 → EReal) (hg : ∀ h v, G (ix4 h 0 0 v) = g h) (h : Fin 8) (k v : Fin 128) :
    backP X W Q K B A G (ix3 h k v) = back (fn X) (fn W) (fn Q) (fn K) (fn B) (fn A) g h k v := by
  have e := dvP_apply X K B A
  unfold backP back
  pointwise [k1_pay14]
  exact congrArg₂ (· - ·) (congrArg (· + _) (congrArg (X (ix3 h k v) * ·) (hg h v))) (Finset.sum_congr rfl fun c _ => congrArg (W (ix3 h c k) * ·) (e h c v))

theorem dwP_apply (h : Fin 8) (i : Fin 64) (k : Fin 128) : dwP X S K B A (ix3 h i k) = dwgt (fn X) (fs S) (fn K) (fn B) (fn A) h i k := by
  have e := dvP_apply X K B A
  have e' := sv_apply S
  unfold dwP dwgt
  pointwise [k1_pay13]
  exact congrArg (0 - ·) (Finset.sum_congr rfl fun v _ => congrArg₂ (· * ·) (e h i v) (e' h k v))

theorem dqP_apply (h : Fin 8) (i : Fin 64) (k : Fin 128) : dqP S B (ix3 h i k) = dqry (fs S) (fn B) h i k := by
  have e := sv_apply S
  unfold dqP dqry fn
  pointwise [k1_pay7]
  exact Finset.sum_congr rfl fun v _ => congrArg (B (ix3 h i v) * ·) (e h k v)

theorem dkP_apply (h : Fin 8) (i : Fin 64) (k : Fin 128) : dkP X S W U (ix3 h i k) = dkey (fn X) (fs S) (fn W) (fn U) h i k := by
  have e := vn_apply S W U
  unfold dkP dkey
  pointwise [k1_pay11, k1_pay6]
  exact Finset.sum_congr rfl fun v _ => congrArg (· * X (ix3 h k v)) (e h i v)

theorem daP_apply (h : Fin 8) (i j : Fin 64) : daP S W B U (ix3 h i j) = datt (fs S) (fn W) (fn U) (fn B) h i j := by
  have e := vn_apply S W U
  unfold daP datt
  pointwise [k1_pay9, k1_pay8]
  exact Finset.sum_congr rfl fun v _ => congrArg (B (ix3 h i v) * ·) (e h j v)

theorem dgP_apply (h : Fin 8) (l : Fin 128) : dgP X S (ix4 h 0 0 l) = if l = 0 then dgain (fn X) (fs S) h else 0 := by
  unfold dgP dgain
  pointwise [k1_pay12, k1_pay3]
  have e := sv_apply S
  have e1 : (∑ x : Fin 128, ∑ x_1 : Fin 128, X (ix3 h x x_1) * k1_pay4 S (ix3 h x x_1)) = ∑ k, ∑ v, fn X h k v * fs S h k v :=
    Finset.sum_congr rfl fun k _ => Finset.sum_congr rfl fun v _ => congrArg (X (ix3 h k v) * ·) (e h k v)
  refine (congrArg (fun z => Scalar.select (IntOp.cmpi CmpIPredicate.eq (BitVec.ofNat 32 l.val) 0#32) z (0 : EReal)) e1).trans ?_
  exact sel_lane l _ _
end

/-- The eight input blocks of a point hold the eight chunks from `n0` on. -/
structure In (D : Chunks) (n0 : ℕ) (x0 : Vec Ideal S8x512x128 .f32) (x1 x2 x3 : Vec Ideal S8x512x128 .bf16) (x4 : Vec Ideal S8x512x64 .bf16)
    (x5 : Vec Ideal S8x8x1x128 .f32) (x6 : Vec Ideal S8x8x128x128 .bf16) (x7 : Vec Ideal S8x512x128 .bf16) : Prop where
  u : ∀ h r k, x0 (ix3 h r k) = D.u (n0 + r.val / 64) h ⟨r.val % 64, Nat.mod_lt _ (by decide)⟩ k
  w : ∀ h r k, x1 (ix3 h r k) = D.w (n0 + r.val / 64) h ⟨r.val % 64, Nat.mod_lt _ (by decide)⟩ k
  qd : ∀ h r k, x2 (ix3 h r k) = D.qd (n0 + r.val / 64) h ⟨r.val % 64, Nat.mod_lt _ (by decide)⟩ k
  kd : ∀ h r k, x3 (ix3 h r k) = D.kd (n0 + r.val / 64) h ⟨r.val % 64, Nat.mod_lt _ (by decide)⟩ k
  a : ∀ h r k, x4 (ix3 h r k) = D.a (n0 + r.val / 64) h ⟨r.val % 64, Nat.mod_lt _ (by decide)⟩ k
  g : ∀ (h : Fin 8) (c : Fin 8) v, x5 (ix4 h c 0 v) = D.g (n0 + c.val) h
  s : ∀ (c h : Fin 8) k v, x6 (ix4 c h k v) = st D (n0 + c.val) h k v
  do' : ∀ h r k, x7 (ix3 h r k) = D.do' (n0 + r.val / 64) h ⟨r.val % 64, Nat.mod_lt _ (by decide)⟩ k

theorem sav0_eq (x : Vec Ideal S8x8x128x128 .bf16) (P : M 128 128) (hx : ∀ h k v, x (ix4 (0 : Fin 8) h k v) = P h k v) : fs (sav0 x) = P := by
  funext h k v
  refine (View.ld_unit_apply_of (Val := Elt Ideal) (e := .bf16) x _ _ _ (ix4 0 h k v) (ix4 (0 : Fin 8) h k v) ?_).trans (hx h k v)
  intro a; fin_cases a <;> simp
theorem sav1_eq (x : Vec Ideal S8x8x128x128 .bf16) (P : M 128 128) (hx : ∀ h k v, x (ix4 (1 : Fin 8) h k v) = P h k v) : fs (sav1 x) = P := by
  funext h k v
  refine (View.ld_unit_apply_of (Val := Elt Ideal) (e := .bf16) x _ _ _ (ix4 0 h k v) (ix4 (1 : Fin 8) h k v) ?_).trans (hx h k v)
  intro a; fin_cases a <;> simp
theorem sav2_eq (x : Vec Ideal S8x8x128x128 .bf16) (P : M 128 128) (hx : ∀ h k v, x (ix4 (2 : Fin 8) h k v) = P h k v) : fs (sav2 x) = P := by
  funext h k v
  refine (View.ld_unit_apply_of (Val := Elt Ideal) (e := .bf16) x _ _ _ (ix4 0 h k v) (ix4 (2 : Fin 8) h k v) ?_).trans (hx h k v)
  intro a; fin_cases a <;> simp
theorem sav3_eq (x : Vec Ideal S8x8x128x128 .bf16) (P : M 128 128) (hx : ∀ h k v, x (ix4 (3 : Fin 8) h k v) = P h k v) : fs (sav3 x) = P := by
  funext h k v
  refine (View.ld_unit_apply_of (Val := Elt Ideal) (e := .bf16) x _ _ _ (ix4 0 h k v) (ix4 (3 : Fin 8) h k v) ?_).trans (hx h k v)
  intro a; fin_cases a <;> simp
theorem sav4_eq (x : Vec Ideal S8x8x128x128 .bf16) (P : M 128 128) (hx : ∀ h k v, x (ix4 (4 : Fin 8) h k v) = P h k v) : fs (sav4 x) = P := by
  funext h k v
  refine (View.ld_unit_apply_of (Val := Elt Ideal) (e := .bf16) x _ _ _ (ix4 0 h k v) (ix4 (4 : Fin 8) h k v) ?_).trans (hx h k v)
  intro a; fin_cases a <;> simp
theorem sav5_eq (x : Vec Ideal S8x8x128x128 .bf16) (P : M 128 128) (hx : ∀ h k v, x (ix4 (5 : Fin 8) h k v) = P h k v) : fs (sav5 x) = P := by
  funext h k v
  refine (View.ld_unit_apply_of (Val := Elt Ideal) (e := .bf16) x _ _ _ (ix4 0 h k v) (ix4 (5 : Fin 8) h k v) ?_).trans (hx h k v)
  intro a; fin_cases a <;> simp
theorem sav6_eq (x : Vec Ideal S8x8x128x128 .bf16) (P : M 128 128) (hx : ∀ h k v, x (ix4 (6 : Fin 8) h k v) = P h k v) : fs (sav6 x) = P := by
  funext h k v
  refine (View.ld_unit_apply_of (Val := Elt Ideal) (e := .bf16) x _ _ _ (ix4 0 h k v) (ix4 (6 : Fin 8) h k v) ?_).trans (hx h k v)
  intro a; fin_cases a <;> simp
theorem sav7_eq (x : Vec Ideal S8x8x128x128 .bf16) (P : M 128 128) (hx : ∀ h k v, x (ix4 (7 : Fin 8) h k v) = P h k v) : fs (sav7 x) = P := by
  funext h k v
  refine (View.ld_unit_apply_of (Val := Elt Ideal) (e := .bf16) x _ _ _ (ix4 0 h k v) (ix4 (7 : Fin 8) h k v) ?_).trans (hx h k v)
  intro a; fin_cases a <;> simp

theorem gain_row (P : ℕ → Fin 8 → EReal) (n0 c : ℕ) (z : Fin 8 → Fin 128 → EReal) (hz : ∀ h l, z h l = if l = 0 then P (n0 + c) h else 0) (y0 x0 : Fin 8)
    (m : ℕ) (y3 x3 : Fin 128) (h0 : y0.val = 0 + x0.val) (h1 : m = c) (h3 : y3.val = 0 + x3.val) :
    z x0 x3 = (if y3 = 0 then P (n0 + m) y0 else 0) := by
  obtain rfl : y0 = x0 := Fin.ext (by omega)
  obtain rfl : y3 = x3 := Fin.ext (by omega)
  rw [h1]; exact hz _ _

section
variable {D : Chunks} {n0 j0 : ℕ} {x0 : Vec Ideal S8x512x128 .f32} {x1 x2 x3 : Vec Ideal S8x512x128 .bf16} {x4 : Vec Ideal S8x512x64 .bf16}
  {x5 : Vec Ideal S8x8x1x128 .f32} {x6 : Vec Ideal S8x8x128x128 .bf16} {x7 : Vec Ideal S8x512x128 .bf16}
  (I : In D n0 x0 x1 x2 x3 x4 x5 x6 x7) (hn : n0 + 7 + j0 = 127) {S : Vec Ideal S8x128x128 .f32} (hS : fn S = dst D j0)
include I hn hS

theorem fn_grad0 : fn (grad0 S) = dst D (j0 + 0) := hS
theorem fn_grad1 : fn (grad1 x1 x2 x3 x4 x5 x7 S) = dst D (j0 + 1) := by
  have e : 127 - (j0 + 0) = n0 + 7 := by omega
  funext h k v
  refine (backP_apply _ _ _ _ _ _ _ (D.g (n0 + 7)) (gain7_eq x5 _ fun h v => I.g h 7 v) h k v).trans ?_
  rw [fn_grad0 I hn hS, rowsh7_eq x1 D.w n0 I.w, rowsh7_eq x2 D.qd n0 I.qd, rowsh7_eq x3 D.kd n0 I.kd, rowsh7_eq x7 D.do' n0 I.do', att7_eq x4 D.a n0 I.a, ← e]
  rfl
theorem fn_gs7 : fn (grad0 S) = gS D (n0 + 7) := by
  have e : 127 - (n0 + 7) = j0 + 0 := by omega
  unfold gS
  rw [fn_grad0 I hn hS, e]
theorem fn_grad2 : fn (grad2 x1 x2 x3 x4 x5 x7 S) = dst D (j0 + 2) := by
  have e : 127 - (j0 + 1) = n0 + 6 := by omega
  funext h k v
  refine (backP_apply _ _ _ _ _ _ _ (D.g (n0 + 6)) (gain6_eq x5 _ fun h v => I.g h 6 v) h k v).trans ?_
  rw [fn_grad1 I hn hS, rowsh6_eq x1 D.w n0 I.w, rowsh6_eq x2 D.qd n0 I.qd, rowsh6_eq x3 D.kd n0 I.kd, rowsh6_eq x7 D.do' n0 I.do', att6_eq x4 D.a n0 I.a, ← e]
  rfl
theorem fn_gs6 : fn (grad1 x1 x2 x3 x4 x5 x7 S) = gS D (n0 + 6) := by
  have e : 127 - (n0 + 6) = j0 + 1 := by omega
  unfold gS
  rw [fn_grad1 I hn hS, e]
theorem fn_grad3 : fn (grad3 x1 x2 x3 x4 x5 x7 S) = dst D (j0 + 3) := by
  have e : 127 - (j0 + 2) = n0 + 5 := by omega
  funext h k v
  refine (backP_apply _ _ _ _ _ _ _ (D.g (n0 + 5)) (gain5_eq x5 _ fun h v => I.g h 5 v) h k v).trans ?_
  rw [fn_grad2 I hn hS, rowsh5_eq x1 D.w n0 I.w, rowsh5_eq x2 D.qd n0 I.qd, rowsh5_eq x3 D.kd n0 I.kd, rowsh5_eq x7 D.do' n0 I.do', att5_eq x4 D.a n0 I.a, ← e]
  rfl
theorem fn_gs5 : fn (grad2 x1 x2 x3 x4 x5 x7 S) = gS D (n0 + 5) := by
  have e : 127 - (n0 + 5) = j0 + 2 := by omega
  unfold gS
  rw [fn_grad2 I hn hS, e]
theorem fn_grad4 : fn (grad4 x1 x2 x3 x4 x5 x7 S) = dst D (j0 + 4) := by
  have e : 127 - (j0 + 3) = n0 + 4 := by omega
  funext h k v
  refine (backP_apply _ _ _ _ _ _ _ (D.g (n0 + 4)) (gain4_eq x5 _ fun h v => I.g h 4 v) h k v).trans ?_
  rw [fn_grad3 I hn hS, rowsh4_eq x1 D.w n0 I.w, rowsh4_eq x2 D.qd n0 I.qd, rowsh4_eq x3 D.kd n0 I.kd, rowsh4_eq x7 D.do' n0 I.do', att4_eq x4 D.a n0 I.a, ← e]
  rfl
theorem fn_gs4 : fn (grad3 x1 x2 x3 x4 x5 x7 S) = gS D (n0 + 4) := by
  have e : 127 - (n0 + 4) = j0 + 3 := by omega
  unfold gS
  rw [fn_grad3 I hn hS, e]
theorem fn_grad5 : fn (grad5 x1 x2 x3 x4 x5 x7 S) = dst D (j0 + 5) := by
  have e : 127 - (j0 + 4) = n0 + 3 := by omega
  funext h k v
  refine (backP_apply _ _ _ _ _ _ _ (D.g (n0 + 3)) (gain3_eq x5 _ fun h v => I.g h 3 v) h k v).trans ?_
  rw [fn_grad4 I hn hS, rowsh3_eq x1 D.w n0 I.w, rowsh3_eq x2 D.qd n0 I.qd, rowsh3_eq x3 D.kd n0 I.kd, rowsh3_eq x7 D.do' n0 I.do', att3_eq x4 D.a n0 I.a, ← e]
  rfl
theorem fn_gs3 : fn (grad4 x1 x2 x3 x4 x5 x7 S) = gS D (n0 + 3) := by
  have e : 127 - (n0 + 3) = j0 + 4 := by omega
  unfold gS
  rw [fn_grad4 I hn hS, e]
theorem fn_grad6 : fn (grad6 x1 x2 x3 x4 x5 x7 S) = dst D (j0 + 6) := by
  have e : 127 - (j0 + 5) = n0 + 2 := by omega
  funext h k v
  refine (backP_apply _ _ _ _ _ _ _ (D.g (n0 + 2)) (gain2_eq x5 _ fun h v => I.g h 2 v) h k v).trans ?_
  rw [fn_grad5 I hn hS, rowsh2_eq x1 D.w n0 I.w, rowsh2_eq x2 D.qd n0 I.qd, rowsh2_eq x3 D.kd n0 I.kd, rowsh2_eq x7 D.do' n0 I.do', att2_eq x4 D.a n0 I.a, ← e]
  rfl
theorem fn_gs2 : fn (grad5 x1 x2 x3 x4 x5 x7 S) = gS D (n0 + 2) := by
  have e : 127 - (n0 + 2) = j0 + 5 := by omega
  unfold gS
  rw [fn_grad5 I hn hS, e]
theorem fn_grad7 : fn (grad7 x1 x2 x3 x4 x5 x7 S) = dst D (j0 + 7) := by
  have e : 127 - (j0 + 6) = n0 + 1 := by omega
  funext h k v
  refine (backP_apply _ _ _ _ _ _ _ (D.g (n0 + 1)) (gain1_eq x5 _ fun h v => I.g h 1 v) h k v).trans ?_
  rw [fn_grad6 I hn hS, rowsh1_eq x1 D.w n0 I.w, rowsh1_eq x2 D.qd n0 I.qd, rowsh1_eq x3 D.kd n0 I.kd, rowsh1_eq x7 D.do' n0 I.do', att1_eq x4 D.a n0 I.a, ← e]
  rfl
theorem fn_gs1 : fn (grad6 x1 x2 x3 x4 x5 x7 S) = gS D (n0 + 1) := by
  have e : 127 - (n0 + 1) = j0 + 6 := by omega
  unfold gS
  rw [fn_grad6 I hn hS, e]
theorem fn_grad8 : fn (grad8 x1 x2 x3 x4 x5 x7 S) = dst D (j0 + 8) := by
  have e : 127 - (j0 + 7) = n0 + 0 := by omega
  funext h k v
  refine (backP_apply _ _ _ _ _ _ _ (D.g (n0 + 0)) (gain0_eq x5 _ fun h v => I.g h 0 v) h k v).trans ?_
  rw [fn_grad7 I hn hS, rowsh0_eq x1 D.w n0 I.w, rowsh0_eq x2 D.qd n0 I.qd, rowsh0_eq x3 D.kd n0 I.kd, rowsh0_eq x7 D.do' n0 I.do', att0_eq x4 D.a n0 I.a, ← e]
  rfl
theorem fn_gs0 : fn (grad7 x1 x2 x3 x4 x5 x7 S) = gS D (n0 + 0) := by
  have e : 127 - (n0 + 0) = j0 + 7 := by omega
  unfold gS
  rw [fn_grad7 I hn hS, e]
theorem du_piece0 : fn (dvP (grad7 x1 x2 x3 x4 x5 x7 S) (rowsh0 x3) (rowsh0 x7) (att0 x4)) = duc D (n0 + 0) := by
  funext h i v
  refine (dvP_apply _ _ _ _ h i v).trans ?_
  rw [fn_gs0 I hn hS, rowsh0_eq x3 D.kd n0 I.kd, rowsh0_eq x7 D.do' n0 I.do', att0_eq x4 D.a n0 I.a]
  rfl
theorem dw_piece0 : fn (dwP (grad7 x1 x2 x3 x4 x5 x7 S) (sav0 x6) (rowsh0 x3) (rowsh0 x7) (att0 x4)) = dwc D (n0 + 0) := by
  funext h i v
  refine (dwP_apply _ _ _ _ _ h i v).trans ?_
  rw [fn_gs0 I hn hS, sav0_eq x6 _ (fun h k v => I.s 0 h k v), rowsh0_eq x3 D.kd n0 I.kd, rowsh0_eq x7 D.do' n0 I.do', att0_eq x4 D.a n0 I.a]
  rfl
theorem dq_piece0 : fn (dqP (sav0 x6) (rowsh0 x7)) = dqc D (n0 + 0) := by
  funext h i v
  refine (dqP_apply _ _ h i v).trans ?_
  rw [sav0_eq x6 _ (fun h k v => I.s 0 h k v), rowsh0_eq x7 D.do' n0 I.do']
  rfl
theorem dk_piece0 : fn (dkP (grad7 x1 x2 x3 x4 x5 x7 S) (sav0 x6) (rowsh0 x1) (rowsf0 x0)) = dkc D (n0 + 0) := by
  funext h i v
  refine (dkP_apply _ _ _ _ h i v).trans ?_
  rw [fn_gs0 I hn hS, sav0_eq x6 _ (fun h k v => I.s 0 h k v), rowsh0_eq x1 D.w n0 I.w, rowsf0_eq x0 D.u n0 I.u]
  rfl
theorem da_piece0 : fn (daP (sav0 x6) (rowsh0 x1) (rowsh0 x7) (rowsf0 x0)) = dac D (n0 + 0) := by
  funext h i v
  refine (daP_apply _ _ _ _ h i v).trans ?_
  rw [sav0_eq x6 _ (fun h k v => I.s 0 h k v), rowsh0_eq x1 D.w n0 I.w, rowsh0_eq x7 D.do' n0 I.do', rowsf0_eq x0 D.u n0 I.u]
  rfl
theorem dg_piece0 (h : Fin 8) (l : Fin 128) : (dgP (grad7 x1 x2 x3 x4 x5 x7 S) (sav0 x6)) (ix4 h 0 0 l) = if l = 0 then dgc D (n0 + 0) h else 0 := by
  refine (dgP_apply _ _ h l).trans ?_
  rw [fn_gs0 I hn hS, sav0_eq x6 _ (fun h k v => I.s 0 h k v)]
  rfl
theorem du_piece1 : fn (dvP (grad6 x1 x2 x3 x4 x5 x7 S) (rowsh1 x3) (rowsh1 x7) (att1 x4)) = duc D (n0 + 1) := by
  funext h i v
  refine (dvP_apply _ _ _ _ h i v).trans ?_
  rw [fn_gs1 I hn hS, rowsh1_eq x3 D.kd n0 I.kd, rowsh1_eq x7 D.do' n0 I.do', att1_eq x4 D.a n0 I.a]
  rfl
theorem dw_piece1 : fn (dwP (grad6 x1 x2 x3 x4 x5 x7 S) (sav1 x6) (rowsh1 x3) (rowsh1 x7) (att1 x4)) = dwc D (n0 + 1) := by
  funext h i v
  refine (dwP_apply _ _ _ _ _ h i v).trans ?_
  rw [fn_gs1 I hn hS, sav1_eq x6 _ (fun h k v => I.s 1 h k v), rowsh1_eq x3 D.kd n0 I.kd, rowsh1_eq x7 D.do' n0 I.do', att1_eq x4 D.a n0 I.a]
  rfl
theorem dq_piece1 : fn (dqP (sav1 x6) (rowsh1 x7)) = dqc D (n0 + 1) := by
  funext h i v
  refine (dqP_apply _ _ h i v).trans ?_
  rw [sav1_eq x6 _ (fun h k v => I.s 1 h k v), rowsh1_eq x7 D.do' n0 I.do']
  rfl
theorem dk_piece1 : fn (dkP (grad6 x1 x2 x3 x4 x5 x7 S) (sav1 x6) (rowsh1 x1) (rowsf1 x0)) = dkc D (n0 + 1) := by
  funext h i v
  refine (dkP_apply _ _ _ _ h i v).trans ?_
  rw [fn_gs1 I hn hS, sav1_eq x6 _ (fun h k v => I.s 1 h k v), rowsh1_eq x1 D.w n0 I.w, rowsf1_eq x0 D.u n0 I.u]
  rfl
theorem da_piece1 : fn (daP (sav1 x6) (rowsh1 x1) (rowsh1 x7) (rowsf1 x0)) = dac D (n0 + 1) := by
  funext h i v
  refine (daP_apply _ _ _ _ h i v).trans ?_
  rw [sav1_eq x6 _ (fun h k v => I.s 1 h k v), rowsh1_eq x1 D.w n0 I.w, rowsh1_eq x7 D.do' n0 I.do', rowsf1_eq x0 D.u n0 I.u]
  rfl
theorem dg_piece1 (h : Fin 8) (l : Fin 128) : (dgP (grad6 x1 x2 x3 x4 x5 x7 S) (sav1 x6)) (ix4 h 0 0 l) = if l = 0 then dgc D (n0 + 1) h else 0 := by
  refine (dgP_apply _ _ h l).trans ?_
  rw [fn_gs1 I hn hS, sav1_eq x6 _ (fun h k v => I.s 1 h k v)]
  rfl
theorem du_piece2 : fn (dvP (grad5 x1 x2 x3 x4 x5 x7 S) (rowsh2 x3) (rowsh2 x7) (att2 x4)) = duc D (n0 + 2) := by
  funext h i v
  refine (dvP_apply _ _ _ _ h i v).trans ?_
  rw [fn_gs2 I hn hS, rowsh2_eq x3 D.kd n0 I.kd, rowsh2_eq x7 D.do' n0 I.do', att2_eq x4 D.a n0 I.a]
  rfl
theorem dw_piece2 : fn (dwP (grad5 x1 x2 x3 x4 x5 x7 S) (sav2 x6) (rowsh2 x3) (rowsh2 x7) (att2 x4)) = dwc D (n0 + 2) := by
  funext h i v
  refine (dwP_apply _ _ _ _ _ h i v).trans ?_
  rw [fn_gs2 I hn hS, sav2_eq x6 _ (fun h k v => I.s 2 h k v), rowsh2_eq x3 D.kd n0 I.kd, rowsh2_eq x7 D.do' n0 I.do', att2_eq x4 D.a n0 I.a]
  rfl
theorem dq_piece2 : fn (dqP (sav2 x6) (rowsh2 x7)) = dqc D (n0 + 2) := by
  funext h i v
  refine (dqP_apply _ _ h i v).trans ?_
  rw [sav2_eq x6 _ (fun h k v => I.s 2 h k v), rowsh2_eq x7 D.do' n0 I.do']
  rfl
theorem dk_piece2 : fn (dkP (grad5 x1 x2 x3 x4 x5 x7 S) (sav2 x6) (rowsh2 x1) (rowsf2 x0)) = dkc D (n0 + 2) := by
  funext h i v
  refine (dkP_apply _ _ _ _ h i v).trans ?_
  rw [fn_gs2 I hn hS, sav2_eq x6 _ (fun h k v => I.s 2 h k v), rowsh2_eq x1 D.w n0 I.w, rowsf2_eq x0 D.u n0 I.u]
  rfl
theorem da_piece2 : fn (daP (sav2 x6) (rowsh2 x1) (rowsh2 x7) (rowsf2 x0)) = dac D (n0 + 2) := by
  funext h i v
  refine (daP_apply _ _ _ _ h i v).trans ?_
  rw [sav2_eq x6 _ (fun h k v => I.s 2 h k v), rowsh2_eq x1 D.w n0 I.w, rowsh2_eq x7 D.do' n0 I.do', rowsf2_eq x0 D.u n0 I.u]
  rfl
theorem dg_piece2 (h : Fin 8) (l : Fin 128) : (dgP (grad5 x1 x2 x3 x4 x5 x7 S) (sav2 x6)) (ix4 h 0 0 l) = if l = 0 then dgc D (n0 + 2) h else 0 := by
  refine (dgP_apply _ _ h l).trans ?_
  rw [fn_gs2 I hn hS, sav2_eq x6 _ (fun h k v => I.s 2 h k v)]
  rfl
theorem du_piece3 : fn (dvP (grad4 x1 x2 x3 x4 x5 x7 S) (rowsh3 x3) (rowsh3 x7) (att3 x4)) = duc D (n0 + 3) := by
  funext h i v
  refine (dvP_apply _ _ _ _ h i v).trans ?_
  rw [fn_gs3 I hn hS, rowsh3_eq x3 D.kd n0 I.kd, rowsh3_eq x7 D.do' n0 I.do', att3_eq x4 D.a n0 I.a]
  rfl
theorem dw_piece3 : fn (dwP (grad4 x1 x2 x3 x4 x5 x7 S) (sav3 x6) (rowsh3 x3) (rowsh3 x7) (att3 x4)) = dwc D (n0 + 3) := by
  funext h i v
  refine (dwP_apply _ _ _ _ _ h i v).trans ?_
  rw [fn_gs3 I hn hS, sav3_eq x6 _ (fun h k v => I.s 3 h k v), rowsh3_eq x3 D.kd n0 I.kd, rowsh3_eq x7 D.do' n0 I.do', att3_eq x4 D.a n0 I.a]
  rfl
theorem dq_piece3 : fn (dqP (sav3 x6) (rowsh3 x7)) = dqc D (n0 + 3) := by
  funext h i v
  refine (dqP_apply _ _ h i v).trans ?_
  rw [sav3_eq x6 _ (fun h k v => I.s 3 h k v), rowsh3_eq x7 D.do' n0 I.do']
  rfl
theorem dk_piece3 : fn (dkP (grad4 x1 x2 x3 x4 x5 x7 S) (sav3 x6) (rowsh3 x1) (rowsf3 x0)) = dkc D (n0 + 3) := by
  funext h i v
  refine (dkP_apply _ _ _ _ h i v).trans ?_
  rw [fn_gs3 I hn hS, sav3_eq x6 _ (fun h k v => I.s 3 h k v), rowsh3_eq x1 D.w n0 I.w, rowsf3_eq x0 D.u n0 I.u]
  rfl
theorem da_piece3 : fn (daP (sav3 x6) (rowsh3 x1) (rowsh3 x7) (rowsf3 x0)) = dac D (n0 + 3) := by
  funext h i v
  refine (daP_apply _ _ _ _ h i v).trans ?_
  rw [sav3_eq x6 _ (fun h k v => I.s 3 h k v), rowsh3_eq x1 D.w n0 I.w, rowsh3_eq x7 D.do' n0 I.do', rowsf3_eq x0 D.u n0 I.u]
  rfl
theorem dg_piece3 (h : Fin 8) (l : Fin 128) : (dgP (grad4 x1 x2 x3 x4 x5 x7 S) (sav3 x6)) (ix4 h 0 0 l) = if l = 0 then dgc D (n0 + 3) h else 0 := by
  refine (dgP_apply _ _ h l).trans ?_
  rw [fn_gs3 I hn hS, sav3_eq x6 _ (fun h k v => I.s 3 h k v)]
  rfl
theorem du_piece4 : fn (dvP (grad3 x1 x2 x3 x4 x5 x7 S) (rowsh4 x3) (rowsh4 x7) (att4 x4)) = duc D (n0 + 4) := by
  funext h i v
  refine (dvP_apply _ _ _ _ h i v).trans ?_
  rw [fn_gs4 I hn hS, rowsh4_eq x3 D.kd n0 I.kd, rowsh4_eq x7 D.do' n0 I.do', att4_eq x4 D.a n0 I.a]
  rfl
theorem dw_piece4 : fn (dwP (grad3 x1 x2 x3 x4 x5 x7 S) (sav4 x6) (rowsh4 x3) (rowsh4 x7) (att4 x4)) = dwc D (n0 + 4) := by
  funext h i v
  refine (dwP_apply _ _ _ _ _ h i v).trans ?_
  rw [fn_gs4 I hn hS, sav4_eq x6 _ (fun h k v => I.s 4 h k v), rowsh4_eq x3 D.kd n0 I.kd, rowsh4_eq x7 D.do' n0 I.do', att4_eq x4 D.a n0 I.a]
  rfl
theorem dq_piece4 : fn (dqP (sav4 x6) (rowsh4 x7)) = dqc D (n0 + 4) := by
  funext h i v
  refine (dqP_apply _ _ h i v).trans ?_
  rw [sav4_eq x6 _ (fun h k v => I.s 4 h k v), rowsh4_eq x7 D.do' n0 I.do']
  rfl
theorem dk_piece4 : fn (dkP (grad3 x1 x2 x3 x4 x5 x7 S) (sav4 x6) (rowsh4 x1) (rowsf4 x0)) = dkc D (n0 + 4) := by
  funext h i v
  refine (dkP_apply _ _ _ _ h i v).trans ?_
  rw [fn_gs4 I hn hS, sav4_eq x6 _ (fun h k v => I.s 4 h k v), rowsh4_eq x1 D.w n0 I.w, rowsf4_eq x0 D.u n0 I.u]
  rfl
theorem da_piece4 : fn (daP (sav4 x6) (rowsh4 x1) (rowsh4 x7) (rowsf4 x0)) = dac D (n0 + 4) := by
  funext h i v
  refine (daP_apply _ _ _ _ h i v).trans ?_
  rw [sav4_eq x6 _ (fun h k v => I.s 4 h k v), rowsh4_eq x1 D.w n0 I.w, rowsh4_eq x7 D.do' n0 I.do', rowsf4_eq x0 D.u n0 I.u]
  rfl
theorem dg_piece4 (h : Fin 8) (l : Fin 128) : (dgP (grad3 x1 x2 x3 x4 x5 x7 S) (sav4 x6)) (ix4 h 0 0 l) = if l = 0 then dgc D (n0 + 4) h else 0 := by
  refine (dgP_apply _ _ h l).trans ?_
  rw [fn_gs4 I hn hS, sav4_eq x6 _ (fun h k v => I.s 4 h k v)]
  rfl
theorem du_piece5 : fn (dvP (grad2 x1 x2 x3 x4 x5 x7 S) (rowsh5 x3) (rowsh5 x7) (att5 x4)) = duc D (n0 + 5) := by
  funext h i v
  refine (dvP_apply _ _ _ _ h i v).trans ?_
  rw [fn_gs5 I hn hS, rowsh5_eq x3 D.kd n0 I.kd, rowsh5_eq x7 D.do' n0 I.do', att5_eq x4 D.a n0 I.a]
  rfl
theorem dw_piece5 : fn (dwP (grad2 x1 x2 x3 x4 x5 x7 S) (sav5 x6) (rowsh5 x3) (rowsh5 x7) (att5 x4)) = dwc D (n0 + 5) := by
  funext h i v
  refine (dwP_apply _ _ _ _ _ h i v).trans ?_
  rw [fn_gs5 I hn hS, sav5_eq x6 _ (fun h k v => I.s 5 h k v), rowsh5_eq x3 D.kd n0 I.kd, rowsh5_eq x7 D.do' n0 I.do', att5_eq x4 D.a n0 I.a]
  rfl
theorem dq_piece5 : fn (dqP (sav5 x6) (rowsh5 x7)) = dqc D (n0 + 5) := by
  funext h i v
  refine (dqP_apply _ _ h i v).trans ?_
  rw [sav5_eq x6 _ (fun h k v => I.s 5 h k v), rowsh5_eq x7 D.do' n0 I.do']
  rfl
theorem dk_piece5 : fn (dkP (grad2 x1 x2 x3 x4 x5 x7 S) (sav5 x6) (rowsh5 x1) (rowsf5 x0)) = dkc D (n0 + 5) := by
  funext h i v
  refine (dkP_apply _ _ _ _ h i v).trans ?_
  rw [fn_gs5 I hn hS, sav5_eq x6 _ (fun h k v => I.s 5 h k v), rowsh5_eq x1 D.w n0 I.w, rowsf5_eq x0 D.u n0 I.u]
  rfl
theorem da_piece5 : fn (daP (sav5 x6) (rowsh5 x1) (rowsh5 x7) (rowsf5 x0)) = dac D (n0 + 5) := by
  funext h i v
  refine (daP_apply _ _ _ _ h i v).trans ?_
  rw [sav5_eq x6 _ (fun h k v => I.s 5 h k v), rowsh5_eq x1 D.w n0 I.w, rowsh5_eq x7 D.do' n0 I.do', rowsf5_eq x0 D.u n0 I.u]
  rfl
theorem dg_piece5 (h : Fin 8) (l : Fin 128) : (dgP (grad2 x1 x2 x3 x4 x5 x7 S) (sav5 x6)) (ix4 h 0 0 l) = if l = 0 then dgc D (n0 + 5) h else 0 := by
  refine (dgP_apply _ _ h l).trans ?_
  rw [fn_gs5 I hn hS, sav5_eq x6 _ (fun h k v => I.s 5 h k v)]
  rfl
theorem du_piece6 : fn (dvP (grad1 x1 x2 x3 x4 x5 x7 S) (rowsh6 x3) (rowsh6 x7) (att6 x4)) = duc D (n0 + 6) := by
  funext h i v
  refine (dvP_apply _ _ _ _ h i v).trans ?_
  rw [fn_gs6 I hn hS, rowsh6_eq x3 D.kd n0 I.kd, rowsh6_eq x7 D.do' n0 I.do', att6_eq x4 D.a n0 I.a]
  rfl
theorem dw_piece6 : fn (dwP (grad1 x1 x2 x3 x4 x5 x7 S) (sav6 x6) (rowsh6 x3) (rowsh6 x7) (att6 x4)) = dwc D (n0 + 6) := by
  funext h i v
  refine (dwP_apply _ _ _ _ _ h i v).trans ?_
  rw [fn_gs6 I hn hS, sav6_eq x6 _ (fun h k v => I.s 6 h k v), rowsh6_eq x3 D.kd n0 I.kd, rowsh6_eq x7 D.do' n0 I.do', att6_eq x4 D.a n0 I.a]
  rfl
theorem dq_piece6 : fn (dqP (sav6 x6) (rowsh6 x7)) = dqc D (n0 + 6) := by
  funext h i v
  refine (dqP_apply _ _ h i v).trans ?_
  rw [sav6_eq x6 _ (fun h k v => I.s 6 h k v), rowsh6_eq x7 D.do' n0 I.do']
  rfl
theorem dk_piece6 : fn (dkP (grad1 x1 x2 x3 x4 x5 x7 S) (sav6 x6) (rowsh6 x1) (rowsf6 x0)) = dkc D (n0 + 6) := by
  funext h i v
  refine (dkP_apply _ _ _ _ h i v).trans ?_
  rw [fn_gs6 I hn hS, sav6_eq x6 _ (fun h k v => I.s 6 h k v), rowsh6_eq x1 D.w n0 I.w, rowsf6_eq x0 D.u n0 I.u]
  rfl
theorem da_piece6 : fn (daP (sav6 x6) (rowsh6 x1) (rowsh6 x7) (rowsf6 x0)) = dac D (n0 + 6) := by
  funext h i v
  refine (daP_apply _ _ _ _ h i v).trans ?_
  rw [sav6_eq x6 _ (fun h k v => I.s 6 h k v), rowsh6_eq x1 D.w n0 I.w, rowsh6_eq x7 D.do' n0 I.do', rowsf6_eq x0 D.u n0 I.u]
  rfl
theorem dg_piece6 (h : Fin 8) (l : Fin 128) : (dgP (grad1 x1 x2 x3 x4 x5 x7 S) (sav6 x6)) (ix4 h 0 0 l) = if l = 0 then dgc D (n0 + 6) h else 0 := by
  refine (dgP_apply _ _ h l).trans ?_
  rw [fn_gs6 I hn hS, sav6_eq x6 _ (fun h k v => I.s 6 h k v)]
  rfl
theorem du_piece7 : fn (dvP (grad0 S) (rowsh7 x3) (rowsh7 x7) (att7 x4)) = duc D (n0 + 7) := by
  funext h i v
  refine (dvP_apply _ _ _ _ h i v).trans ?_
  rw [fn_gs7 I hn hS, rowsh7_eq x3 D.kd n0 I.kd, rowsh7_eq x7 D.do' n0 I.do', att7_eq x4 D.a n0 I.a]
  rfl
theorem dw_piece7 : fn (dwP (grad0 S) (sav7 x6) (rowsh7 x3) (rowsh7 x7) (att7 x4)) = dwc D (n0 + 7) := by
  funext h i v
  refine (dwP_apply _ _ _ _ _ h i v).trans ?_
  rw [fn_gs7 I hn hS, sav7_eq x6 _ (fun h k v => I.s 7 h k v), rowsh7_eq x3 D.kd n0 I.kd, rowsh7_eq x7 D.do' n0 I.do', att7_eq x4 D.a n0 I.a]
  rfl
theorem dq_piece7 : fn (dqP (sav7 x6) (rowsh7 x7)) = dqc D (n0 + 7) := by
  funext h i v
  refine (dqP_apply _ _ h i v).trans ?_
  rw [sav7_eq x6 _ (fun h k v => I.s 7 h k v), rowsh7_eq x7 D.do' n0 I.do']
  rfl
theorem dk_piece7 : fn (dkP (grad0 S) (sav7 x6) (rowsh7 x1) (rowsf7 x0)) = dkc D (n0 + 7) := by
  funext h i v
  refine (dkP_apply _ _ _ _ h i v).trans ?_
  rw [fn_gs7 I hn hS, sav7_eq x6 _ (fun h k v => I.s 7 h k v), rowsh7_eq x1 D.w n0 I.w, rowsf7_eq x0 D.u n0 I.u]
  rfl
theorem da_piece7 : fn (daP (sav7 x6) (rowsh7 x1) (rowsh7 x7) (rowsf7 x0)) = dac D (n0 + 7) := by
  funext h i v
  refine (daP_apply _ _ _ _ h i v).trans ?_
  rw [sav7_eq x6 _ (fun h k v => I.s 7 h k v), rowsh7_eq x1 D.w n0 I.w, rowsh7_eq x7 D.do' n0 I.do', rowsf7_eq x0 D.u n0 I.u]
  rfl
theorem dg_piece7 (h : Fin 8) (l : Fin 128) : (dgP (grad0 S) (sav7 x6)) (ix4 h 0 0 l) = if l = 0 then dgc D (n0 + 7) h else 0 := by
  refine (dgP_apply _ _ h l).trans ?_
  rw [fn_gs7 I hn hS, sav7_eq x6 _ (fun h k v => I.s 7 h k v)]
  rfl

theorem canon8 (y : S8x512x128.Idx) (Z : Vec Ideal S8x512x128 .bf16) (hZ : Z = View.canon (tiles (dvP (grad7 x1 x2 x3 x4 x5 x7 S) (rowsh0 x3) (rowsh0 x7) (att0 x4)) (dvP (grad6 x1 x2 x3 x4 x5 x7 S) (rowsh1 x3) (rowsh1 x7) (att1 x4)) (dvP (grad5 x1 x2 x3 x4 x5 x7 S) (rowsh2 x3) (rowsh2 x7) (att2 x4)) (dvP (grad4 x1 x2 x3 x4 x5 x7 S) (rowsh3 x3) (rowsh3 x7) (att3 x4)) (dvP (grad3 x1 x2 x3 x4 x5 x7 S) (rowsh4 x3) (rowsh4 x7) (att4 x4)) (dvP (grad2 x1 x2 x3 x4 x5 x7 S) (rowsh5 x3) (rowsh5 x7) (att5 x4)) (dvP (grad1 x1 x2 x3 x4 x5 x7 S) (rowsh6 x3) (rowsh6 x7) (att6 x4)) (dvP (grad0 S) (rowsh7 x3) (rowsh7 x7) (att7 x4)))) :
    Z y = duc D (n0 + (y 1).val / 64) (y 0) ⟨(y 1).val % 64, Nat.mod_lt _ (by decide)⟩ (y 2) := by
  rw [hZ]
  unfold tiles
  canon_tiles x h
  · exact (fn_at (du_piece0 I hn hS) x).trans (row_eq (duc D) n0 0 (y 0) (x 0) (y 1) (x 1) (y 2) (x 2) (by omega) (by omega) (by omega))
  · exact (fn_at (du_piece1 I hn hS) x).trans (row_eq (duc D) n0 1 (y 0) (x 0) (y 1) (x 1) (y 2) (x 2) (by omega) (by omega) (by omega))
  · exact (fn_at (du_piece2 I hn hS) x).trans (row_eq (duc D) n0 2 (y 0) (x 0) (y 1) (x 1) (y 2) (x 2) (by omega) (by omega) (by omega))
  · exact (fn_at (du_piece3 I hn hS) x).trans (row_eq (duc D) n0 3 (y 0) (x 0) (y 1) (x 1) (y 2) (x 2) (by omega) (by omega) (by omega))
  · exact (fn_at (du_piece4 I hn hS) x).trans (row_eq (duc D) n0 4 (y 0) (x 0) (y 1) (x 1) (y 2) (x 2) (by omega) (by omega) (by omega))
  · exact (fn_at (du_piece5 I hn hS) x).trans (row_eq (duc D) n0 5 (y 0) (x 0) (y 1) (x 1) (y 2) (x 2) (by omega) (by omega) (by omega))
  · exact (fn_at (du_piece6 I hn hS) x).trans (row_eq (duc D) n0 6 (y 0) (x 0) (y 1) (x 1) (y 2) (x 2) (by omega) (by omega) (by omega))
  · exact (fn_at (du_piece7 I hn hS) x).trans (row_eq (duc D) n0 7 (y 0) (x 0) (y 1) (x 1) (y 2) (x 2) (by omega) (by omega) (by omega))

theorem canon9 (y : S8x512x128.Idx) (Z : Vec Ideal S8x512x128 .bf16) (hZ : Z = View.canon (tiles (dwP (grad7 x1 x2 x3 x4 x5 x7 S) (sav0 x6) (rowsh0 x3) (rowsh0 x7) (att0 x4)) (dwP (grad6 x1 x2 x3 x4 x5 x7 S) (sav1 x6) (rowsh1 x3) (rowsh1 x7) (att1 x4)) (dwP (grad5 x1 x2 x3 x4 x5 x7 S) (sav2 x6) (rowsh2 x3) (rowsh2 x7) (att2 x4)) (dwP (grad4 x1 x2 x3 x4 x5 x7 S) (sav3 x6) (rowsh3 x3) (rowsh3 x7) (att3 x4)) (dwP (grad3 x1 x2 x3 x4 x5 x7 S) (sav4 x6) (rowsh4 x3) (rowsh4 x7) (att4 x4)) (dwP (grad2 x1 x2 x3 x4 x5 x7 S) (sav5 x6) (rowsh5 x3) (rowsh5 x7) (att5 x4)) (dwP (grad1 x1 x2 x3 x4 x5 x7 S) (sav6 x6) (rowsh6 x3) (rowsh6 x7) (att6 x4)) (dwP (grad0 S) (sav7 x6) (rowsh7 x3) (rowsh7 x7) (att7 x4)))) :
    Z y = dwc D (n0 + (y 1).val / 64) (y 0) ⟨(y 1).val % 64, Nat.mod_lt _ (by decide)⟩ (y 2) := by
  rw [hZ]
  unfold tiles
  canon_tiles x h
  · exact (fn_at (dw_piece0 I hn hS) x).trans (row_eq (dwc D) n0 0 (y 0) (x 0) (y 1) (x 1) (y 2) (x 2) (by omega) (by omega) (by omega))
  · exact (fn_at (dw_piece1 I hn hS) x).trans (row_eq (dwc D) n0 1 (y 0) (x 0) (y 1) (x 1) (y 2) (x 2) (by omega) (by omega) (by omega))
  · exact (fn_at (dw_piece2 I hn hS) x).trans (row_eq (dwc D) n0 2 (y 0) (x 0) (y 1) (x 1) (y 2) (x 2) (by omega) (by omega) (by omega))
  · exact (fn_at (dw_piece3 I hn hS) x).trans (row_eq (dwc D) n0 3 (y 0) (x 0) (y 1) (x 1) (y 2) (x 2) (by omega) (by omega) (by omega))
  · exact (fn_at (dw_piece4 I hn hS) x).trans (row_eq (dwc D) n0 4 (y 0) (x 0) (y 1) (x 1) (y 2) (x 2) (by omega) (by omega) (by omega))
  · exact (fn_at (dw_piece5 I hn hS) x).trans (row_eq (dwc D) n0 5 (y 0) (x 0) (y 1) (x 1) (y 2) (x 2) (by omega) (by omega) (by omega))
  · exact (fn_at (dw_piece6 I hn hS) x).trans (row_eq (dwc D) n0 6 (y 0) (x 0) (y 1) (x 1) (y 2) (x 2) (by omega) (by omega) (by omega))
  · exact (fn_at (dw_piece7 I hn hS) x).trans (row_eq (dwc D) n0 7 (y 0) (x 0) (y 1) (x 1) (y 2) (x 2) (by omega) (by omega) (by omega))

theorem canon10 (y : S8x512x128.Idx) (Z : Vec Ideal S8x512x128 .bf16) (hZ : Z = View.canon (tiles (dqP (sav0 x6) (rowsh0 x7)) (dqP (sav1 x6) (rowsh1 x7)) (dqP (sav2 x6) (rowsh2 x7)) (dqP (sav3 x6) (rowsh3 x7)) (dqP (sav4 x6) (rowsh4 x7)) (dqP (sav5 x6) (rowsh5 x7)) (dqP (sav6 x6) (rowsh6 x7)) (dqP (sav7 x6) (rowsh7 x7)))) :
    Z y = dqc D (n0 + (y 1).val / 64) (y 0) ⟨(y 1).val % 64, Nat.mod_lt _ (by decide)⟩ (y 2) := by
  rw [hZ]
  unfold tiles
  canon_tiles x h
  · exact (fn_at (dq_piece0 I hn hS) x).trans (row_eq (dqc D) n0 0 (y 0) (x 0) (y 1) (x 1) (y 2) (x 2) (by omega) (by omega) (by omega))
  · exact (fn_at (dq_piece1 I hn hS) x).trans (row_eq (dqc D) n0 1 (y 0) (x 0) (y 1) (x 1) (y 2) (x 2) (by omega) (by omega) (by omega))
  · exact (fn_at (dq_piece2 I hn hS) x).trans (row_eq (dqc D) n0 2 (y 0) (x 0) (y 1) (x 1) (y 2) (x 2) (by omega) (by omega) (by omega))
  · exact (fn_at (dq_piece3 I hn hS) x).trans (row_eq (dqc D) n0 3 (y 0) (x 0) (y 1) (x 1) (y 2) (x 2) (by omega) (by omega) (by omega))
  · exact (fn_at (dq_piece4 I hn hS) x).trans (row_eq (dqc D) n0 4 (y 0) (x 0) (y 1) (x 1) (y 2) (x 2) (by omega) (by omega) (by omega))
  · exact (fn_at (dq_piece5 I hn hS) x).trans (row_eq (dqc D) n0 5 (y 0) (x 0) (y 1) (x 1) (y 2) (x 2) (by omega) (by omega) (by omega))
  · exact (fn_at (dq_piece6 I hn hS) x).trans (row_eq (dqc D) n0 6 (y 0) (x 0) (y 1) (x 1) (y 2) (x 2) (by omega) (by omega) (by omega))
  · exact (fn_at (dq_piece7 I hn hS) x).trans (row_eq (dqc D) n0 7 (y 0) (x 0) (y 1) (x 1) (y 2) (x 2) (by omega) (by omega) (by omega))

theorem canon11 (y : S8x512x128.Idx) (Z : Vec Ideal S8x512x128 .bf16) (hZ : Z = View.canon (tiles (dkP (grad7 x1 x2 x3 x4 x5 x7 S) (sav0 x6) (rowsh0 x1) (rowsf0 x0)) (dkP (grad6 x1 x2 x3 x4 x5 x7 S) (sav1 x6) (rowsh1 x1) (rowsf1 x0)) (dkP (grad5 x1 x2 x3 x4 x5 x7 S) (sav2 x6) (rowsh2 x1) (rowsf2 x0)) (dkP (grad4 x1 x2 x3 x4 x5 x7 S) (sav3 x6) (rowsh3 x1) (rowsf3 x0)) (dkP (grad3 x1 x2 x3 x4 x5 x7 S) (sav4 x6) (rowsh4 x1) (rowsf4 x0)) (dkP (grad2 x1 x2 x3 x4 x5 x7 S) (sav5 x6) (rowsh5 x1) (rowsf5 x0)) (dkP (grad1 x1 x2 x3 x4 x5 x7 S) (sav6 x6) (rowsh6 x1) (rowsf6 x0)) (dkP (grad0 S) (sav7 x6) (rowsh7 x1) (rowsf7 x0)))) :
    Z y = dkc D (n0 + (y 1).val / 64) (y 0) ⟨(y 1).val % 64, Nat.mod_lt _ (by decide)⟩ (y 2) := by
  rw [hZ]
  unfold tiles
  canon_tiles x h
  · exact (fn_at (dk_piece0 I hn hS) x).trans (row_eq (dkc D) n0 0 (y 0) (x 0) (y 1) (x 1) (y 2) (x 2) (by omega) (by omega) (by omega))
  · exact (fn_at (dk_piece1 I hn hS) x).trans (row_eq (dkc D) n0 1 (y 0) (x 0) (y 1) (x 1) (y 2) (x 2) (by omega) (by omega) (by omega))
  · exact (fn_at (dk_piece2 I hn hS) x).trans (row_eq (dkc D) n0 2 (y 0) (x 0) (y 1) (x 1) (y 2) (x 2) (by omega) (by omega) (by omega))
  · exact (fn_at (dk_piece3 I hn hS) x).trans (row_eq (dkc D) n0 3 (y 0) (x 0) (y 1) (x 1) (y 2) (x 2) (by omega) (by omega) (by omega))
  · exact (fn_at (dk_piece4 I hn hS) x).trans (row_eq (dkc D) n0 4 (y 0) (x 0) (y 1) (x 1) (y 2) (x 2) (by omega) (by omega) (by omega))
  · exact (fn_at (dk_piece5 I hn hS) x).trans (row_eq (dkc D) n0 5 (y 0) (x 0) (y 1) (x 1) (y 2) (x 2) (by omega) (by omega) (by omega))
  · exact (fn_at (dk_piece6 I hn hS) x).trans (row_eq (dkc D) n0 6 (y 0) (x 0) (y 1) (x 1) (y 2) (x 2) (by omega) (by omega) (by omega))
  · exact (fn_at (dk_piece7 I hn hS) x).trans (row_eq (dkc D) n0 7 (y 0) (x 0) (y 1) (x 1) (y 2) (x 2) (by omega) (by omega) (by omega))

theorem canon12 (y : S8x512x64.Idx) (Z : Vec Ideal S8x512x64 .bf16) (hZ : Z = View.canon [⟨Rect.unit ![0, 0, 0] ![8, 64, 64] inb_S8x512x64_S8x64x64_0_0_0, daP (sav0 x6) (rowsh0 x1) (rowsh0 x7) (rowsf0 x0)⟩, ⟨Rect.unit ![0, 64, 0] ![8, 64, 64] inb_S8x512x64_S8x64x64_0_64_0, daP (sav1 x6) (rowsh1 x1) (rowsh1 x7) (rowsf1 x0)⟩, ⟨Rect.unit ![0, 128, 0] ![8, 64, 64] inb_S8x512x64_S8x64x64_0_128_0, daP (sav2 x6) (rowsh2 x1) (rowsh2 x7) (rowsf2 x0)⟩, ⟨Rect.unit ![0, 192, 0] ![8, 64, 64] inb_S8x512x64_S8x64x64_0_192_0, daP (sav3 x6) (rowsh3 x1) (rowsh3 x7) (rowsf3 x0)⟩, ⟨Rect.unit ![0, 256, 0] ![8, 64, 64] inb_S8x512x64_S8x64x64_0_256_0, daP (sav4 x6) (rowsh4 x1) (rowsh4 x7) (rowsf4 x0)⟩, ⟨Rect.unit ![0, 320, 0] ![8, 64, 64] inb_S8x512x64_S8x64x64_0_320_0, daP (sav5 x6) (rowsh5 x1) (rowsh5 x7) (rowsf5 x0)⟩, ⟨Rect.unit ![0, 384, 0] ![8, 64, 64] inb_S8x512x64_S8x64x64_0_384_0, daP (sav6 x6) (rowsh6 x1) (rowsh6 x7) (rowsf6 x0)⟩, ⟨Rect.unit ![0, 448, 0] ![8, 64, 64] inb_S8x512x64_S8x64x64_0_448_0, daP (sav7 x6) (rowsh7 x1) (rowsh7 x7) (rowsf7 x0)⟩]) :
    Z y = dac D (n0 + (y 1).val / 64) (y 0) ⟨(y 1).val % 64, Nat.mod_lt _ (by decide)⟩ (y 2) := by
  rw [hZ]
  canon_tiles x h
  · exact (fn_at (da_piece0 I hn hS) x).trans (row_eq (dac D) n0 0 (y 0) (x 0) (y 1) (x 1) (y 2) (x 2) (by omega) (by omega) (by omega))
  · exact (fn_at (da_piece1 I hn hS) x).trans (row_eq (dac D) n0 1 (y 0) (x 0) (y 1) (x 1) (y 2) (x 2) (by omega) (by omega) (by omega))
  · exact (fn_at (da_piece2 I hn hS) x).trans (row_eq (dac D) n0 2 (y 0) (x 0) (y 1) (x 1) (y 2) (x 2) (by omega) (by omega) (by omega))
  · exact (fn_at (da_piece3 I hn hS) x).trans (row_eq (dac D) n0 3 (y 0) (x 0) (y 1) (x 1) (y 2) (x 2) (by omega) (by omega) (by omega))
  · exact (fn_at (da_piece4 I hn hS) x).trans (row_eq (dac D) n0 4 (y 0) (x 0) (y 1) (x 1) (y 2) (x 2) (by omega) (by omega) (by omega))
  · exact (fn_at (da_piece5 I hn hS) x).trans (row_eq (dac D) n0 5 (y 0) (x 0) (y 1) (x 1) (y 2) (x 2) (by omega) (by omega) (by omega))
  · exact (fn_at (da_piece6 I hn hS) x).trans (row_eq (dac D) n0 6 (y 0) (x 0) (y 1) (x 1) (y 2) (x 2) (by omega) (by omega) (by omega))
  · exact (fn_at (da_piece7 I hn hS) x).trans (row_eq (dac D) n0 7 (y 0) (x 0) (y 1) (x 1) (y 2) (x 2) (by omega) (by omega) (by omega))

theorem canon13 (y : S8x8x1x128.Idx) (Z : Vec Ideal S8x8x1x128 .f32) (hZ : Z = View.canon [⟨Rect.unit ![0, 0, 0, 0] ![8, 1, 1, 128] inb_S8x8x1x128_S8x1x1x128_0_0_0_0, dgP (grad7 x1 x2 x3 x4 x5 x7 S) (sav0 x6)⟩, ⟨Rect.unit ![0, 1, 0, 0] ![8, 1, 1, 128] inb_S8x8x1x128_S8x1x1x128_0_1_0_0, dgP (grad6 x1 x2 x3 x4 x5 x7 S) (sav1 x6)⟩, ⟨Rect.unit ![0, 2, 0, 0] ![8, 1, 1, 128] inb_S8x8x1x128_S8x1x1x128_0_2_0_0, dgP (grad5 x1 x2 x3 x4 x5 x7 S) (sav2 x6)⟩, ⟨Rect.unit ![0, 3, 0, 0] ![8, 1, 1, 128] inb_S8x8x1x128_S8x1x1x128_0_3_0_0, dgP (grad4 x1 x2 x3 x4 x5 x7 S) (sav3 x6)⟩, ⟨Rect.unit ![0, 4, 0, 0] ![8, 1, 1, 128] inb_S8x8x1x128_S8x1x1x128_0_4_0_0, dgP (grad3 x1 x2 x3 x4 x5 x7 S) (sav4 x6)⟩, ⟨Rect.unit ![0, 5, 0, 0] ![8, 1, 1, 128] inb_S8x8x1x128_S8x1x1x128_0_5_0_0, dgP (grad2 x1 x2 x3 x4 x5 x7 S) (sav5 x6)⟩, ⟨Rect.unit ![0, 6, 0, 0] ![8, 1, 1, 128] inb_S8x8x1x128_S8x1x1x128_0_6_0_0, dgP (grad1 x1 x2 x3 x4 x5 x7 S) (sav6 x6)⟩, ⟨Rect.unit ![0, 7, 0, 0] ![8, 1, 1, 128] inb_S8x8x1x128_S8x1x1x128_0_7_0_0, dgP (grad0 S) (sav7 x6)⟩]) :
    Z y = dgl D (n0 + (y 1).val) (y 0) (y 3) := by
  rw [hZ]
  canon_tiles x h
  · exact (dg_at _ x).trans (gain_row (dgc D) n0 0 (fun h l => (dgP (grad7 x1 x2 x3 x4 x5 x7 S) (sav0 x6)) (ix4 h 0 0 l)) (dg_piece0 I hn hS) (y 0) (x 0) (y 1).val (y 3) (x 3) (by omega) (by omega) (by omega))
  · exact (dg_at _ x).trans (gain_row (dgc D) n0 1 (fun h l => (dgP (grad6 x1 x2 x3 x4 x5 x7 S) (sav1 x6)) (ix4 h 0 0 l)) (dg_piece1 I hn hS) (y 0) (x 0) (y 1).val (y 3) (x 3) (by omega) (by omega) (by omega))
  · exact (dg_at _ x).trans (gain_row (dgc D) n0 2 (fun h l => (dgP (grad5 x1 x2 x3 x4 x5 x7 S) (sav2 x6)) (ix4 h 0 0 l)) (dg_piece2 I hn hS) (y 0) (x 0) (y 1).val (y 3) (x 3) (by omega) (by omega) (by omega))
  · exact (dg_at _ x).trans (gain_row (dgc D) n0 3 (fun h l => (dgP (grad4 x1 x2 x3 x4 x5 x7 S) (sav3 x6)) (ix4 h 0 0 l)) (dg_piece3 I hn hS) (y 0) (x 0) (y 1).val (y 3) (x 3) (by omega) (by omega) (by omega))
  · exact (dg_at _ x).trans (gain_row (dgc D) n0 4 (fun h l => (dgP (grad3 x1 x2 x3 x4 x5 x7 S) (sav4 x6)) (ix4 h 0 0 l)) (dg_piece4 I hn hS) (y 0) (x 0) (y 1).val (y 3) (x 3) (by omega) (by omega) (by omega))
  · exact (dg_at _ x).trans (gain_row (dgc D) n0 5 (fun h l => (dgP (grad2 x1 x2 x3 x4 x5 x7 S) (sav5 x6)) (ix4 h 0 0 l)) (dg_piece5 I hn hS) (y 0) (x 0) (y 1).val (y 3) (x 3) (by omega) (by omega) (by omega))
  · exact (dg_at _ x).trans (gain_row (dgc D) n0 6 (fun h l => (dgP (grad1 x1 x2 x3 x4 x5 x7 S) (sav6 x6)) (ix4 h 0 0 l)) (dg_piece6 I hn hS) (y 0) (x 0) (y 1).val (y 3) (x 3) (by omega) (by omega) (by omega))
  · exact (dg_at _ x).trans (gain_row (dgc D) n0 7 (fun h l => (dgP (grad0 S) (sav7 x6)) (ix4 h 0 0 l)) (dg_piece7 I hn hS) (y 0) (x 0) (y 1).val (y 3) (x 3) (by omega) (by omega) (by omega))
end

end Cert.KernelIdeal.Scan.Bwd
end
-- ==== Proof.Scan.FwdArr.lean ====
/- The two arrays the forward scan writes: the output, and the state before every chunk. -/
module

public import proofs.«01_k».proof.Proof.Scan.FwdNum

@[expose] public section

set_option maxRecDepth 16384

noncomputable section

namespace Cert.KernelIdeal.Scan.Fwd

open Idealize.ShloMosaic Idealize.ShloMosaic.TcCoe Idealize.ShloMosaic.Pointwise
open Idealize.ShloMosaic.Pipeline (Dat Cfg Window)
open Cert.KernelIdeal Cert.KernelIdeal.Gen Cert.Scan

variable (V : (c : Dev nD) → (b : Ref sig .tc) → Buf (Elt Ideal) ((c : Thread nD τ).loc b))

/-- The six arrays the region reads hold the chunks. -/
structure Whole (D : Chunks) (c : Dev nD) : Prop where
  u : ∀ h (r : Fin 8192) k, (V c (Pipeline.arrRef spec0 0) : Vec Ideal S8x8192x128 .f32) (ix3 h r k) = D.u (r.val / 64) h ⟨r.val % 64, Nat.mod_lt _ (by decide)⟩ k
  w : ∀ h (r : Fin 8192) k, (V c (Pipeline.arrRef spec0 1) : Vec Ideal S8x8192x128 .bf16) (ix3 h r k) = D.w (r.val / 64) h ⟨r.val % 64, Nat.mod_lt _ (by decide)⟩ k
  qd : ∀ h (r : Fin 8192) k, (V c (Pipeline.arrRef spec0 2) : Vec Ideal S8x8192x128 .bf16) (ix3 h r k) = D.qd (r.val / 64) h ⟨r.val % 64, Nat.mod_lt _ (by decide)⟩ k
  kd : ∀ h (r : Fin 8192) k, (V c (Pipeline.arrRef spec0 3) : Vec Ideal S8x8192x128 .bf16) (ix3 h r k) = D.kd (r.val / 64) h ⟨r.val % 64, Nat.mod_lt _ (by decide)⟩ k
  a : ∀ h (r : Fin 8192) k, (V c (Pipeline.arrRef spec0 4) : Vec Ideal S8x8192x64 .bf16) (ix3 h r k) = D.a (r.val / 64) h ⟨r.val % 64, Nat.mod_lt _ (by decide)⟩ k
  g : ∀ (h : Fin 8) (n : Fin 128) v, (V c (Pipeline.arrRef spec0 5) : Vec Ideal S8x128x1x128 .f32) (ix4 h n 0 v) = D.g n.val h

theorem idx : ∀ t : Fin cfg0.N, win0_0.index t = ![0, t.val, 0] ∧ win0_1.index t = ![0, t.val, 0] ∧ win0_2.index t = ![0, t.val, 0]
    ∧ win0_3.index t = ![0, t.val, 0] ∧ win0_4.index t = ![0, t.val, 0] ∧ win0_5.index t = ![0, t.val, 0, 0]
    ∧ win0_6.index t = ![0, t.val, 0] ∧ win0_7.index t = ![t.val, 0, 0, 0] :=
  (by decide +kernel : ∀ t : Fin grid0.N, _)

theorem lt_N (t : Fin cfg0.N) : t.val < 16 := t.isLt

theorem in_u (c : Dev nD) (t : Fin cfg0.N) (h : Fin 8) (r : Fin 512) (k : Fin 128) :
    (iblk V c 0 t : Vec Ideal S8x512x128 .f32) (ix3 h r k) = (V c (Pipeline.arrRef spec0 0) : Vec Ideal S8x8192x128 .f32) (ix3 h (⟨512 * t.val + r.val, by have := lt_N t; omega⟩ : Fin 8192) k) := by
  blk_ext [iblk, idx t]
theorem in_w (c : Dev nD) (t : Fin cfg0.N) (h : Fin 8) (r : Fin 512) (k : Fin 128) :
    (iblk V c 1 t : Vec Ideal S8x512x128 .bf16) (ix3 h r k) = (V c (Pipeline.arrRef spec0 1) : Vec Ideal S8x8192x128 .bf16) (ix3 h (⟨512 * t.val + r.val, by have := lt_N t; omega⟩ : Fin 8192) k) := by
  blk_ext [iblk, idx t]
theorem in_qd (c : Dev nD) (t : Fin cfg0.N) (h : Fin 8) (r : Fin 512) (k : Fin 128) :
    (iblk V c 2 t : Vec Ideal S8x512x128 .bf16) (ix3 h r k) = (V c (Pipeline.arrRef spec0 2) : Vec Ideal S8x8192x128 .bf16) (ix3 h (⟨512 * t.val + r.val, by have := lt_N t; omega⟩ : Fin 8192) k) := by
  blk_ext [iblk, idx t]
theorem in_kd (c : Dev nD) (t : Fin cfg0.N) (h : Fin 8) (r : Fin 512) (k : Fin 128) :
    (iblk V c 3 t : Vec Ideal S8x512x128 .bf16) (ix3 h r k) = (V c (Pipeline.arrRef spec0 3) : Vec Ideal S8x8192x128 .bf16) (ix3 h (⟨512 * t.val + r.val, by have := lt_N t; omega⟩ : Fin 8192) k) := by
  blk_ext [iblk, idx t]
theorem in_a (c : Dev nD) (t : Fin cfg0.N) (h : Fin 8) (r : Fin 512) (k : Fin 64) :
    (iblk V c 4 t : Vec Ideal S8x512x64 .bf16) (ix3 h r k) = (V c (Pipeline.arrRef spec0 4) : Vec Ideal S8x8192x64 .bf16) (ix3 h (⟨512 * t.val + r.val, by have := lt_N t; omega⟩ : Fin 8192) k) := by
  blk_ext [iblk, idx t]
theorem in_g (c : Dev nD) (t : Fin cfg0.N) (h n : Fin 8) (v : Fin 128) :
    (iblk V c 5 t : Vec Ideal S8x8x1x128 .f32) (ix4 h n 0 v) = (V c (Pipeline.arrRef spec0 5) : Vec Ideal S8x128x1x128 .f32) (ix4 h (⟨8 * t.val + n.val, by have := lt_N t; omega⟩ : Fin 128) 0 v) := by
  blk_ext [iblk, idx t]

/-- The row of a point's block is a row of the array. -/
theorem row_shift {m : ℕ} (P : ℕ → M 64 m) (h : Fin 8) (k : Fin m) (t r : ℕ) :
    P ((512 * t + r) / 64) h ⟨(512 * t + r) % 64, Nat.mod_lt _ (by decide)⟩ k = P (8 * t + r / 64) h ⟨r % 64, Nat.mod_lt _ (by decide)⟩ k := by
  have e1 : (512 * t + r) / 64 = 8 * t + r / 64 := by omega
  have e2 : (512 * t + r) % 64 = r % 64 := by omega
  simp only [e1, e2]

theorem at_eq {a m : ℕ} (P : ℕ → M a m) {n n' : ℕ} {h h' : Fin 8} {i i' : Fin a} {k k' : Fin m} (hn : n = n') (hh : h.val = h'.val)
    (hi : i.val = i'.val) (hk : k.val = k'.val) : P n h i k = P n' h' i' k' := by
  obtain rfl := hn; obtain rfl := Fin.ext hh; obtain rfl := Fin.ext hi; obtain rfl := Fin.ext hk; rfl

variable {D : Chunks} {c : Dev nD} (H : Whole V D c)
include H

theorem in_t (t : Fin cfg0.N) : In D (8 * t.val) (iblk V c 0 t) (iblk V c 1 t) (iblk V c 2 t) (iblk V c 3 t) (iblk V c 4 t) (iblk V c 5 t) where
  u h r k := (in_u V c t h r k).trans ((H.u h _ k).trans (row_shift D.u h k t.val r.val))
  w h r k := (in_w V c t h r k).trans ((H.w h _ k).trans (row_shift D.w h k t.val r.val))
  qd h r k := (in_qd V c t h r k).trans ((H.qd h _ k).trans (row_shift D.qd h k t.val r.val))
  kd h r k := (in_kd V c t h r k).trans ((H.kd h _ k).trans (row_shift D.kd h k t.val r.val))
  a h r k := (in_a V c t h r k).trans ((H.a h _ k).trans (row_shift D.a h k t.val r.val))
  g h n v := (in_g V c t h n v).trans (H.g h _ v)

theorem zero_state : fn (k0_pay4 (F := Ideal)) = st D 0 := by
  funext h k v
  show (k0_pay4 (F := Ideal)) (ix3 h k v) = 0
  pointwise [k0_pay4]

theorem cast_state (X : Vec Ideal S8x128x128 .f32) : shapeCast S8x128x128 X shapeCasts_S8x128x128_S8x128x128 = X := shapeCast_self _ _

/-- The state that a point leaves. -/
theorem state_after : ∀ (n : ℕ) (hn : n < cfg0.N), fn (outsAt0 V c n hn).2.2 = st D (8 * (n + 1))
  | 0, hn => by
    rw [outsAt0_A V c ⟨0, hn⟩ rfl]
    dsimp only [tupA]
    rw [sout_A, cast_state V H]
    exact fn_state8 (in_t V H ⟨0, hn⟩) (zero_state V H)
  | n + 1, hn => by
    have h0 : ¬ (n + 1) % 16 = 0 := by have : n + 1 < 16 := hn; omega
    rw [outsAt0_B V c ⟨n + 1, hn⟩ h0]
    dsimp only [tupB]
    rw [sout_B, cast_state V H]
    exact fn_state8 (in_t V H ⟨n + 1, hn⟩) (state_after n (Nat.lt_of_succ_lt hn))

theorem o_at (t : Fin cfg0.N) (y : S8x512x128.Idx) : (outsAt0 V c t.val t.isLt).1 y
    = outc D (8 * t.val + (y 1).val / 64) (y 0) ⟨(y 1).val % 64, Nat.mod_lt _ (by decide)⟩ (y 2) := by
  by_cases h0 : t.val % 16 = 0
  · rw [outsAt0_A V c t h0]
    have ht : t.val = 0 := by have := lt_N t; omega
    dsimp only [tupA]
    rw [out6_A]
    exact canon6 (in_t V H t) (by rw [ht]; exact zero_state V H) y _ rfl
  · rw [outsAt0_B V c t h0]
    dsimp only [tupB]
    rw [out6_B]
    refine canon6 (in_t V H t) ?_ y _ rfl
    have e : 8 * t.val = 8 * (t.val - 1 + 1) := by omega
    rw [e]
    exact state_after V H (t.val - 1) _

theorem sin_at (t : Fin cfg0.N) (y : S8x8x128x128.Idx) : (outsAt0 V c t.val t.isLt).2.1 y
    = st D (8 * t.val + (y 0).val) (y 1) (y 2) (y 3) := by
  by_cases h0 : t.val % 16 = 0
  · rw [outsAt0_A V c t h0]
    have ht : t.val = 0 := by have := lt_N t; omega
    dsimp only [tupA]
    rw [out7_A]
    exact canon7 (in_t V H t) (by rw [ht]; exact zero_state V H) y _ rfl
  · rw [outsAt0_B V c t h0]
    dsimp only [tupB]
    rw [out7_B]
    refine canon7 (in_t V H t) ?_ y _ rfl
    have e : 8 * t.val = 8 * (t.val - 1 + 1) := by omega
    rw [e]
    exact state_after V H (t.val - 1) _

/-- The output array. -/
theorem final_o : ((dat V c).arrAt 6 cfg0.N : Vec Ideal S8x8192x128 .f32)
    = fun j => outc D ((j 1).val / 64) (j 0) ⟨(j 1).val % 64, Nat.mod_lt _ (by decide)⟩ (j 2) := by
  refine (dat V c).arrAt_eq_of_covers 6 _ (by decide +kernel) fun t _ y => ?_
  blk_simp
  rw [after0_6]
  refine (o_at V H t y).trans ?_
  have e : win0_6.index t 1 = t.val := by rw [(idx t).2.2.2.2.2.2.1]; rfl
  have e' : win0_6.index t 0 = 0 := by rw [(idx t).2.2.2.2.2.2.1]; rfl
  have e'' : win0_6.index t 2 = 0 := by rw [(idx t).2.2.2.2.2.2.1]; rfl
  refine at_eq (outc D) ?_ ?_ ?_ ?_
  all_goals (try dsimp only)
  all_goals (try blk_simp)
  all_goals (try rw [e])
  all_goals (try rw [e'])
  all_goals (try rw [e''])
  all_goals omega

/-- The saved states. -/
theorem final_sin : ((dat V c).arrAt 7 cfg0.N : Vec Ideal S128x8x128x128 .bf16) = fun j => st D (j 0).val (j 1) (j 2) (j 3) := by
  refine (dat V c).arrAt_eq_of_covers 7 _ (by decide +kernel) fun t _ y => ?_
  blk_simp
  rw [after0_7]
  refine (sin_at V H t y).trans ?_
  have e : win0_7.index t 0 = t.val := by rw [(idx t).2.2.2.2.2.2.2]; rfl
  have e1 : win0_7.index t 1 = 0 := by rw [(idx t).2.2.2.2.2.2.2]; rfl
  have e2 : win0_7.index t 2 = 0 := by rw [(idx t).2.2.2.2.2.2.2]; rfl
  have e3 : win0_7.index t 3 = 0 := by rw [(idx t).2.2.2.2.2.2.2]; rfl
  refine at_eq (st D) ?_ ?_ ?_ ?_
  all_goals (try blk_simp)
  all_goals (try rw [e])
  all_goals (try rw [e1])
  all_goals (try rw [e2])
  all_goals (try rw [e3])
  all_goals omega

end Cert.KernelIdeal.Scan.Fwd
end
-- ==== Proof.Scan.BwdArr.lean ====
/- The six arrays the backward scan writes. -/
module

public import proofs.«01_k».proof.Proof.Scan.BwdNum
public import proofs.«01_k».proof.Proof.Scan.FwdArr

@[expose] public section

set_option maxRecDepth 16384

noncomputable section

namespace Cert.KernelIdeal.Scan.Bwd

open Idealize.ShloMosaic Idealize.ShloMosaic.TcCoe Idealize.ShloMosaic.Pointwise
open Idealize.ShloMosaic.Pipeline (Dat Cfg Window)
open Cert.KernelIdeal Cert.KernelIdeal.Gen Cert.Scan
open Fwd (row_shift at_eq)

variable (V : (c : Dev nD) → (b : Ref sig .tc) → Buf (Elt Ideal) ((c : Thread nD τ).loc b))

/-- The eight arrays the region reads hold the chunks and the states before them. -/
structure Whole (D : Chunks) (c : Dev nD) : Prop where
  u : ∀ h (r : Fin 8192) k, (V c (Pipeline.arrRef spec1 0) : Vec Ideal S8x8192x128 .f32) (ix3 h r k) = D.u (r.val / 64) h ⟨r.val % 64, Nat.mod_lt _ (by decide)⟩ k
  w : ∀ h (r : Fin 8192) k, (V c (Pipeline.arrRef spec1 1) : Vec Ideal S8x8192x128 .bf16) (ix3 h r k) = D.w (r.val / 64) h ⟨r.val % 64, Nat.mod_lt _ (by decide)⟩ k
  qd : ∀ h (r : Fin 8192) k, (V c (Pipeline.arrRef spec1 2) : Vec Ideal S8x8192x128 .bf16) (ix3 h r k) = D.qd (r.val / 64) h ⟨r.val % 64, Nat.mod_lt _ (by decide)⟩ k
  kd : ∀ h (r : Fin 8192) k, (V c (Pipeline.arrRef spec1 3) : Vec Ideal S8x8192x128 .bf16) (ix3 h r k) = D.kd (r.val / 64) h ⟨r.val % 64, Nat.mod_lt _ (by decide)⟩ k
  a : ∀ h (r : Fin 8192) k, (V c (Pipeline.arrRef spec1 4) : Vec Ideal S8x8192x64 .bf16) (ix3 h r k) = D.a (r.val / 64) h ⟨r.val % 64, Nat.mod_lt _ (by decide)⟩ k
  do' : ∀ h (r : Fin 8192) k, (V c (Pipeline.arrRef spec1 7) : Vec Ideal S8x8192x128 .bf16) (ix3 h r k) = D.do' (r.val / 64) h ⟨r.val % 64, Nat.mod_lt _ (by decide)⟩ k
  g : ∀ (h : Fin 8) (n : Fin 128) v, (V c (Pipeline.arrRef spec1 5) : Vec Ideal S8x128x1x128 .f32) (ix4 h n 0 v) = D.g n.val h
  s : ∀ (n : Fin 128) (h : Fin 8) k v, (V c (Pipeline.arrRef spec1 6) : Vec Ideal S128x8x128x128 .bf16) (ix4 n h k v) = st D n.val h k v

theorem idx : ∀ t : Fin cfg1.N, win1_0.index t = ![0, 15 - t.val, 0] ∧ win1_1.index t = ![0, 15 - t.val, 0] ∧ win1_2.index t = ![0, 15 - t.val, 0] ∧ win1_3.index t = ![0, 15 - t.val, 0] ∧ win1_4.index t = ![0, 15 - t.val, 0] ∧ win1_5.index t = ![0, 15 - t.val, 0, 0] ∧ win1_6.index t = ![15 - t.val, 0, 0, 0] ∧ win1_7.index t = ![0, 15 - t.val, 0] ∧ win1_8.index t = ![0, 15 - t.val, 0] ∧ win1_9.index t = ![0, 15 - t.val, 0] ∧ win1_10.index t = ![0, 15 - t.val, 0] ∧ win1_11.index t = ![0, 15 - t.val, 0] ∧ win1_12.index t = ![0, 15 - t.val, 0] ∧ win1_13.index t = ![0, 15 - t.val, 0, 0] :=
  (by decide +kernel : ∀ t : Fin grid1.N, _)

theorem lt_N (t : Fin cfg1.N) : t.val < 16 := t.isLt

theorem in_u (c : Dev nD) (t : Fin cfg1.N) (h : Fin 8) (r : Fin 512) (k : Fin 128) :
    (iblk V c 0 t : Vec Ideal S8x512x128 .f32) (ix3 h r k) = (V c (Pipeline.arrRef spec1 0) : Vec Ideal S8x8192x128 .f32) (ix3 h (⟨512 * (15 - t.val) + r.val, by have := lt_N t; omega⟩ : Fin 8192) k) := by
  blk_ext [iblk, (idx t).1]
theorem in_w (c : Dev nD) (t : Fin cfg1.N) (h : Fin 8) (r : Fin 512) (k : Fin 128) :
    (iblk V c 1 t : Vec Ideal S8x512x128 .bf16) (ix3 h r k) = (V c (Pipeline.arrRef spec1 1) : Vec Ideal S8x8192x128 .bf16) (ix3 h (⟨512 * (15 - t.val) + r.val, by have := lt_N t; omega⟩ : Fin 8192) k) := by
  blk_ext [iblk, (idx t).2.1]
theorem in_qd (c : Dev nD) (t : Fin cfg1.N) (h : Fin 8) (r : Fin 512) (k : Fin 128) :
    (iblk V c 2 t : Vec Ideal S8x512x128 .bf16) (ix3 h r k) = (V c (Pipeline.arrRef spec1 2) : Vec Ideal S8x8192x128 .bf16) (ix3 h (⟨512 * (15 - t.val) + r.val, by have := lt_N t; omega⟩ : Fin 8192) k) := by
  blk_ext [iblk, (idx t).2.2.1]
theorem in_kd (c : Dev nD) (t : Fin cfg1.N) (h : Fin 8) (r : Fin 512) (k : Fin 128) :
    (iblk V c 3 t : Vec Ideal S8x512x128 .bf16) (ix3 h r k) = (V c (Pipeline.arrRef spec1 3) : Vec Ideal S8x8192x128 .bf16) (ix3 h (⟨512 * (15 - t.val) + r.val, by have := lt_N t; omega⟩ : Fin 8192) k) := by
  blk_ext [iblk, (idx t).2.2.2.1]
theorem in_a (c : Dev nD) (t : Fin cfg1.N) (h : Fin 8) (r : Fin 512) (k : Fin 64) :
    (iblk V c 4 t : Vec Ideal S8x512x64 .bf16) (ix3 h r k) = (V c (Pipeline.arrRef spec1 4) : Vec Ideal S8x8192x64 .bf16) (ix3 h (⟨512 * (15 - t.val) + r.val, by have := lt_N t; omega⟩ : Fin 8192) k) := by
  blk_ext [iblk, (idx t).2.2.2.2.1]
theorem in_do' (c : Dev nD) (t : Fin cfg1.N) (h : Fin 8) (r : Fin 512) (k : Fin 128) :
    (iblk V c 7 t : Vec Ideal S8x512x128 .bf16) (ix3 h r k) = (V c (Pipeline.arrRef spec1 7) : Vec Ideal S8x8192x128 .bf16) (ix3 h (⟨512 * (15 - t.val) + r.val, by have := lt_N t; omega⟩ : Fin 8192) k) := by
  blk_ext [iblk, (idx t).2.2.2.2.2.2.2.1]
theorem in_g (c : Dev nD) (t : Fin cfg1.N) (h n : Fin 8) (v : Fin 128) :
    (iblk V c 5 t : Vec Ideal S8x8x1x128 .f32) (ix4 h n 0 v) = (V c (Pipeline.arrRef spec1 5) : Vec Ideal S8x128x1x128 .f32) (ix4 h (⟨8 * (15 - t.val) + n.val, by have := lt_N t; omega⟩ : Fin 128) 0 v) := by
  blk_ext [iblk, (idx t).2.2.2.2.2.1]
theorem in_s (c : Dev nD) (t : Fin cfg1.N) (n h : Fin 8) (k v : Fin 128) :
    (iblk V c 6 t : Vec Ideal S8x8x128x128 .bf16) (ix4 n h k v) = (V c (Pipeline.arrRef spec1 6) : Vec Ideal S128x8x128x128 .bf16) (ix4 (⟨8 * (15 - t.val) + n.val, by have := lt_N t; omega⟩ : Fin 128) h k v) := by
  blk_ext [iblk, (idx t).2.2.2.2.2.2.1]

theorem dgl_eq (D : Chunks) {n n' : ℕ} {h h' : Fin 8} {l l' : Fin 128} (hn : n = n') (hh : h.val = h'.val) (hl : l.val = l'.val) :
    dgl D n h l = dgl D n' h' l' := by
  obtain rfl := hn; obtain rfl := Fin.ext hh; obtain rfl := Fin.ext hl; rfl

variable {D : Chunks} {c : Dev nD} (H : Whole V D c)
include H

theorem in_t (t : Fin cfg1.N) : In D (8 * (15 - t.val)) (iblk V c 0 t) (iblk V c 1 t) (iblk V c 2 t) (iblk V c 3 t) (iblk V c 4 t) (iblk V c 5 t)
    (iblk V c 6 t) (iblk V c 7 t) where
  u h r k := (in_u V c t h r k).trans ((H.u h _ k).trans (row_shift D.u h k (15 - t.val) r.val))
  w h r k := (in_w V c t h r k).trans ((H.w h _ k).trans (row_shift D.w h k (15 - t.val) r.val))
  qd h r k := (in_qd V c t h r k).trans ((H.qd h _ k).trans (row_shift D.qd h k (15 - t.val) r.val))
  kd h r k := (in_kd V c t h r k).trans ((H.kd h _ k).trans (row_shift D.kd h k (15 - t.val) r.val))
  a h r k := (in_a V c t h r k).trans ((H.a h _ k).trans (row_shift D.a h k (15 - t.val) r.val))
  do' h r k := (in_do' V c t h r k).trans ((H.do' h _ k).trans (row_shift D.do' h k (15 - t.val) r.val))
  g h n v := (in_g V c t h n v).trans (H.g h _ v)
  s n h k v := (in_s V c t n h k v).trans (H.s _ h k v)

theorem zero_grad : fn (k1_pay2 (F := Ideal)) = dst D 0 := by
  funext h k v
  show (k1_pay2 (F := Ideal)) (ix3 h k v) = 0
  pointwise [k1_pay2]

theorem cast_grad (X : Vec Ideal S8x128x128 .f32) : shapeCast S8x128x128 X shapeCasts_S8x128x128_S8x128x128 = X := shapeCast_self _ _

/-- The gradient that a point leaves. -/
theorem grad_after : ∀ (n : ℕ) (hn : n < cfg1.N), fn (outsAt0 V c n hn).2.2.2.2.2.2 = dst D (8 * (n + 1))
  | 0, hn => by
    rw [outsAt0_A V c ⟨0, hn⟩ rfl]
    dsimp only [tupA]
    rw [sout_A, cast_grad V H]
    exact fn_grad8 (in_t V H ⟨0, hn⟩) rfl (zero_grad V H)
  | n + 1, hn => by
    have hl : n + 1 < 16 := hn
    have h0 : ¬ (n + 1) % 16 = 0 := by omega
    rw [outsAt0_B V c ⟨n + 1, hn⟩ h0]
    dsimp only [tupB]
    rw [sout_B, cast_grad V H]
    exact fn_grad8 (in_t V H ⟨n + 1, hn⟩) (j0 := 8 * (n + 1)) (by show 8 * (15 - (n + 1)) + 7 + 8 * (n + 1) = 127; omega) (grad_after n (Nat.lt_of_succ_lt hn))

theorem before_point (t : Fin cfg1.N) (h0 : ¬ t.val % 16 = 0) (hl : t.val - 1 < cfg1.N) :
    fn (outsAt0 V c (t.val - 1) hl).2.2.2.2.2.2 = dst D (8 * t.val) := by
  have e : 8 * t.val = 8 * (t.val - 1 + 1) := by omega
  rw [e]
  exact grad_after V H (t.val - 1) hl

theorem du_at (t : Fin cfg1.N) (y : S8x512x128.Idx) : (outsAt0 V c t.val t.isLt).1 y
    = duc D (8 * (15 - t.val) + (y 1).val / 64) (y 0) ⟨(y 1).val % 64, Nat.mod_lt _ (by decide)⟩ (y 2) := by
  have hl := lt_N t
  by_cases h0 : t.val % 16 = 0
  · rw [outsAt0_A V c t h0]
    dsimp only [tupA]
    rw [out8_A]
    exact canon8 (in_t V H t) (j0 := 0) (by omega) (zero_grad V H) y _ rfl
  · rw [outsAt0_B V c t h0]
    dsimp only [tupB]
    rw [out8_B]
    exact canon8 (in_t V H t) (j0 := 8 * t.val) (by omega) (before_point V H t h0 (by have : cfg1.N = 16 := rfl; omega)) y _ rfl

theorem final_du : ((dat V c).arrAt 8 cfg1.N : Vec Ideal S8x8192x128 .bf16)
    = fun j => duc D ((j 1).val / 64) (j 0) ⟨(j 1).val % 64, Nat.mod_lt _ (by decide)⟩ (j 2) := by
  refine (dat V c).arrAt_eq_of_covers 8 _ (by decide +kernel) fun t _ y => ?_
  blk_simp
  rw [after0_8]
  refine (du_at V H t y).trans ?_
  have hl := lt_N t
  have e : win1_8.index t 1 = 15 - t.val := by rw [(idx t).2.2.2.2.2.2.2.2.1]; rfl
  have e0 : win1_8.index t 0 = 0 := by rw [(idx t).2.2.2.2.2.2.2.2.1]; rfl
  have e2 : win1_8.index t 2 = 0 := by rw [(idx t).2.2.2.2.2.2.2.2.1]; rfl
  refine at_eq (duc D) ?_ ?_ ?_ ?_
  all_goals (try dsimp only)
  all_goals (try blk_simp)
  all_goals (try rw [e])
  all_goals (try rw [e0])
  all_goals (try rw [e2])
  all_goals omega

theorem dw_at (t : Fin cfg1.N) (y : S8x512x128.Idx) : (outsAt0 V c t.val t.isLt).2.1 y
    = dwc D (8 * (15 - t.val) + (y 1).val / 64) (y 0) ⟨(y 1).val % 64, Nat.mod_lt _ (by decide)⟩ (y 2) := by
  have hl := lt_N t
  by_cases h0 : t.val % 16 = 0
  · rw [outsAt0_A V c t h0]
    dsimp only [tupA]
    rw [out9_A]
    exact canon9 (in_t V H t) (j0 := 0) (by omega) (zero_grad V H) y _ rfl
  · rw [outsAt0_B V c t h0]
    dsimp only [tupB]
    rw [out9_B]
    exact canon9 (in_t V H t) (j0 := 8 * t.val) (by omega) (before_point V H t h0 (by have : cfg1.N = 16 := rfl; omega)) y _ rfl

theorem final_dw : ((dat V c).arrAt 9 cfg1.N : Vec Ideal S8x8192x128 .bf16)
    = fun j => dwc D ((j 1).val / 64) (j 0) ⟨(j 1).val % 64, Nat.mod_lt _ (by decide)⟩ (j 2) := by
  refine (dat V c).arrAt_eq_of_covers 9 _ (by decide +kernel) fun t _ y => ?_
  blk_simp
  rw [after0_9]
  refine (dw_at V H t y).trans ?_
  have hl := lt_N t
  have e : win1_9.index t 1 = 15 - t.val := by rw [(idx t).2.2.2.2.2.2.2.2.2.1]; rfl
  have e0 : win1_9.index t 0 = 0 := by rw [(idx t).2.2.2.2.2.2.2.2.2.1]; rfl
  have e2 : win1_9.index t 2 = 0 := by rw [(idx t).2.2.2.2.2.2.2.2.2.1]; rfl
  refine at_eq (dwc D) ?_ ?_ ?_ ?_
  all_goals (try dsimp only)
  all_goals (try blk_simp)
  all_goals (try rw [e])
  all_goals (try rw [e0])
  all_goals (try rw [e2])
  all_goals omega

theorem dq_at (t : Fin cfg1.N) (y : S8x512x128.Idx) : (outsAt0 V c t.val t.isLt).2.2.1 y
    = dqc D (8 * (15 - t.val) + (y 1).val / 64) (y 0) ⟨(y 1).val % 64, Nat.mod_lt _ (by decide)⟩ (y 2) := by
  have hl := lt_N t
  by_cases h0 : t.val % 16 = 0
  · rw [outsAt0_A V c t h0]
    dsimp only [tupA]
    rw [out10_A]
    exact canon10 (in_t V H t) (j0 := 0) (by omega) (zero_grad V H) y _ rfl
  · rw [outsAt0_B V c t h0]
    dsimp only [tupB]
    rw [out10_B]
    exact canon10 (in_t V H t) (j0 := 8 * t.val) (by omega) (before_point V H t h0 (by have : cfg1.N = 16 := rfl; omega)) y _ rfl

theorem final_dq : ((dat V c).arrAt 10 cfg1.N : Vec Ideal S8x8192x128 .bf16)
    = fun j => dqc D ((j 1).val / 64) (j 0) ⟨(j 1).val % 64, Nat.mod_lt _ (by decide)⟩ (j 2) := by
  refine (dat V c).arrAt_eq_of_covers 10 _ (by decide +kernel) fun t _ y => ?_
  blk_simp
  rw [after0_10]
  refine (dq_at V H t y).trans ?_
  have hl := lt_N t
  have e : win1_10.index t 1 = 15 - t.val := by rw [(idx t).2.2.2.2.2.2.2.2.2.2.1]; rfl
  have e0 : win1_10.index t 0 = 0 := by rw [(idx t).2.2.2.2.2.2.2.2.2.2.1]; rfl
  have e2 : win1_10.index t 2 = 0 := by rw [(idx t).2.2.2.2.2.2.2.2.2.2.1]; rfl
  refine at_eq (dqc D) ?_ ?_ ?_ ?_
  all_goals (try dsimp only)
  all_goals (try blk_simp)
  all_goals (try rw [e])
  all_goals (try rw [e0])
  all_goals (try rw [e2])
  all_goals omega

theorem dk_at (t : Fin cfg1.N) (y : S8x512x128.Idx) : (outsAt0 V c t.val t.isLt).2.2.2.1 y
    = dkc D (8 * (15 - t.val) + (y 1).val / 64) (y 0) ⟨(y 1).val % 64, Nat.mod_lt _ (by decide)⟩ (y 2) := by
  have hl := lt_N t
  by_cases h0 : t.val % 16 = 0
  · rw [outsAt0_A V c t h0]
    dsimp only [tupA]
    rw [out11_A]
    exact canon11 (in_t V H t) (j0 := 0) (by omega) (zero_grad V H) y _ rfl
  · rw [outsAt0_B V c t h0]
    dsimp only [tupB]
    rw [out11_B]
    exact canon11 (in_t V H t) (j0 := 8 * t.val) (by omega) (before_point V H t h0 (by have : cfg1.N = 16 := rfl; omega)) y _ rfl

theorem final_dk : ((dat V c).arrAt 11 cfg1.N : Vec Ideal S8x8192x128 .bf16)
    = fun j => dkc D ((j 1).val / 64) (j 0) ⟨(j 1).val % 64, Nat.mod_lt _ (by decide)⟩ (j 2) := by
  refine (dat V c).arrAt_eq_of_covers 11 _ (by decide +kernel) fun t _ y => ?_
  blk_simp
  rw [after0_11]
  refine (dk_at V H t y).trans ?_
  have hl := lt_N t
  have e : win1_11.index t 1 = 15 - t.val := by rw [(idx t).2.2.2.2.2.2.2.2.2.2.2.1]; rfl
  have e0 : win1_11.index t 0 = 0 := by rw [(idx t).2.2.2.2.2.2.2.2.2.2.2.1]; rfl
  have e2 : win1_11.index t 2 = 0 := by rw [(idx t).2.2.2.2.2.2.2.2.2.2.2.1]; rfl
  refine at_eq (dkc D) ?_ ?_ ?_ ?_
  all_goals (try dsimp only)
  all_goals (try blk_simp)
  all_goals (try rw [e])
  all_goals (try rw [e0])
  all_goals (try rw [e2])
  all_goals omega

theorem da_at (t : Fin cfg1.N) (y : S8x512x64.Idx) : (outsAt0 V c t.val t.isLt).2.2.2.2.1 y
    = dac D (8 * (15 - t.val) + (y 1).val / 64) (y 0) ⟨(y 1).val % 64, Nat.mod_lt _ (by decide)⟩ (y 2) := by
  have hl := lt_N t
  by_cases h0 : t.val % 16 = 0
  · rw [outsAt0_A V c t h0]
    dsimp only [tupA]
    rw [out12_A]
    exact canon12 (in_t V H t) (j0 := 0) (by omega) (zero_grad V H) y _ rfl
  · rw [outsAt0_B V c t h0]
    dsimp only [tupB]
    rw [out12_B]
    exact canon12 (in_t V H t) (j0 := 8 * t.val) (by omega) (before_point V H t h0 (by have : cfg1.N = 16 := rfl; omega)) y _ rfl

theorem final_da : ((dat V c).arrAt 12 cfg1.N : Vec Ideal S8x8192x64 .bf16)
    = fun j => dac D ((j 1).val / 64) (j 0) ⟨(j 1).val % 64, Nat.mod_lt _ (by decide)⟩ (j 2) := by
  refine (dat V c).arrAt_eq_of_covers 12 _ (by decide +kernel) fun t _ y => ?_
  blk_simp
  rw [after0_12]
  refine (da_at V H t y).trans ?_
  have hl := lt_N t
  have e : win1_12.index t 1 = 15 - t.val := by rw [(idx t).2.2.2.2.2.2.2.2.2.2.2.2.1]; rfl
  have e0 : win1_12.index t 0 = 0 := by rw [(idx t).2.2.2.2.2.2.2.2.2.2.2.2.1]; rfl
  have e2 : win1_12.index t 2 = 0 := by rw [(idx t).2.2.2.2.2.2.2.2.2.2.2.2.1]; rfl
  refine at_eq (dac D) ?_ ?_ ?_ ?_
  all_goals (try dsimp only)
  all_goals (try blk_simp)
  all_goals (try rw [e])
  all_goals (try rw [e0])
  all_goals (try rw [e2])
  all_goals omega

theorem dgs_at (t : Fin cfg1.N) (y : S8x8x1x128.Idx) : (outsAt0 V c t.val t.isLt).2.2.2.2.2.1 y
    = dgl D (8 * (15 - t.val) + (y 1).val) (y 0) (y 3) := by
  have hl := lt_N t
  by_cases h0 : t.val % 16 = 0
  · rw [outsAt0_A V c t h0]
    dsimp only [tupA]
    rw [out13_A]
    exact canon13 (in_t V H t) (j0 := 0) (by omega) (zero_grad V H) y _ rfl
  · rw [outsAt0_B V c t h0]
    dsimp only [tupB]
    rw [out13_B]
    exact canon13 (in_t V H t) (j0 := 8 * t.val) (by omega) (before_point V H t h0 (by have : cfg1.N = 16 := rfl; omega)) y _ rfl

theorem final_dgs : ((dat V c).arrAt 13 cfg1.N : Vec Ideal S8x128x1x128 .f32)
    = fun j => dgl D (j 1).val (j 0) (j 3) := by
  refine (dat V c).arrAt_eq_of_covers 13 _ (by decide +kernel) fun t _ y => ?_
  blk_simp
  rw [after0_13]
  refine (dgs_at V H t y).trans ?_
  have hl := lt_N t
  have e : win1_13.index t 1 = 15 - t.val := by rw [(idx t).2.2.2.2.2.2.2.2.2.2.2.2.2]; rfl
  have e0 : win1_13.index t 0 = 0 := by rw [(idx t).2.2.2.2.2.2.2.2.2.2.2.2.2]; rfl
  have e2 : win1_13.index t 2 = 0 := by rw [(idx t).2.2.2.2.2.2.2.2.2.2.2.2.2]; rfl
  have e3 : win1_13.index t 3 = 0 := by rw [(idx t).2.2.2.2.2.2.2.2.2.2.2.2.2]; rfl
  refine dgl_eq D ?_ ?_ ?_
  all_goals (try blk_simp)
  all_goals (try rw [e])
  all_goals (try rw [e0])
  all_goals (try rw [e3])
  all_goals omega

end Cert.KernelIdeal.Scan.Bwd
end
-- ==== Proof.Scan.RefIdx.lean ====
/- The reference program's loops: the chunk a stretch of host operations takes out of a stack, and the one it puts into a stack. -/
module

public import proofs.«01_k».proof.Proof.Scan.RefRun
public import proofs.«01_k».proof.Proof.Scan.Model
public import Idealize.ShloMosaic.Lib.WordCmp
public import Idealize.ShloMosaic.Lib.Pointwise

@[expose] public section

set_option maxRecDepth 100000

noncomputable section

namespace Cert.ReferenceIdeal.Scan

open Idealize.ShloMosaic Idealize.ShloMosaic.TcCoe Idealize.ShloMosaic.Pointwise Idealize.ShloMosaic.StableHlo
open Cert.ReferenceIdeal Cert.ReferenceIdeal.Gen Cert.Scan

theorem take_64 (x : Vec Ideal S128x8x64x128 .f32) (s : Fin 4 → Int) (n : Fin 128) (h0 : s 0 = n.val) (h1 : s 1 = 0) (h2 : s 2 = 0) (h3 : s 3 = 0) (h : Fin 8) (r : Fin 64) (k : Fin 128) :
    (shapeCast S8x64x128 (Host.dynamicSlice S1x8x64x128 x s sliceFits_S128x8x64x128_S1x8x64x128 : Vec Ideal S1x8x64x128 .f32) shapeCasts_S1x8x64x128_S8x64x128 : Vec Ideal S8x64x128 .f32) (ix3 h r k)
      = x (ix4 n h r k) := by
  have c0 := Host.clampedStart_of_le (s := S128x8x64x128) (t := S1x8x64x128) rfl s 0 n.val h0 (by show n.val + 1 ≤ 128; omega)
  have c1 := Host.clampedStart_of_le (s := S128x8x64x128) (t := S1x8x64x128) rfl s 1 0 h1 (by decide)
  have c2 := Host.clampedStart_of_le (s := S128x8x64x128) (t := S1x8x64x128) rfl s 2 0 h2 (by decide)
  have c3 := Host.clampedStart_of_le (s := S128x8x64x128) (t := S1x8x64x128) rfl s 3 0 h3 (by decide)
  pointwise []
  simp [c0, c1, c2, c3]
theorem put_64 (x : Vec Ideal S128x8x64x128 .f32) (u : Vec Ideal S8x64x128 .f32) (s : Fin 4 → Int) (n : Fin 128) (h0 : s 0 = n.val) (h1 : s 1 = 0) (h2 : s 2 = 0) (h3 : s 3 = 0) (m : Fin 128) (h : Fin 8) (r : Fin 64) (k : Fin 128) :
    (Host.dynamicUpdateSlice x (broadcastInDim S1x8x64x128 ![1, 2, 3] bcast_S8x64x128_S1x8x64x128_1_2_3 u) s updateFits_S128x8x64x128_S1x8x64x128 : Vec Ideal S128x8x64x128 .f32) (ix4 m h r k)
      = if m = n then u (ix3 h r k) else x (ix4 m h r k) := by
  have c0 := Host.clampedStart_of_le (s := S128x8x64x128) (t := S1x8x64x128) rfl s 0 n.val h0 (by show n.val + 1 ≤ 128; omega)
  have c1 := Host.clampedStart_of_le (s := S128x8x64x128) (t := S1x8x64x128) rfl s 1 0 h1 (by decide)
  have c2 := Host.clampedStart_of_le (s := S128x8x64x128) (t := S1x8x64x128) rfl s 2 0 h2 (by decide)
  have c3 := Host.clampedStart_of_le (s := S128x8x64x128) (t := S1x8x64x128) rfl s 3 0 h3 (by decide)
  pointwise []
  simp only [c0, c1, c2, c3]
  by_cases e : m = n
  · rw [if_pos e, dif_pos]
    · simp
    · subst e
      omega
  · rw [if_neg e, dif_neg]
    intro hh
    exact e (Fin.ext (by omega))

theorem take_a (x : Vec Ideal S128x8x64x64 .f32) (s : Fin 4 → Int) (n : Fin 128) (h0 : s 0 = n.val) (h1 : s 1 = 0) (h2 : s 2 = 0) (h3 : s 3 = 0) (h : Fin 8) (r : Fin 64) (k : Fin 64) :
    (shapeCast S8x64x64 (Host.dynamicSlice S1x8x64x64 x s sliceFits_S128x8x64x64_S1x8x64x64 : Vec Ideal S1x8x64x64 .f32) shapeCasts_S1x8x64x64_S8x64x64 : Vec Ideal S8x64x64 .f32) (ix3 h r k)
      = x (ix4 n h r k) := by
  have c0 := Host.clampedStart_of_le (s := S128x8x64x64) (t := S1x8x64x64) rfl s 0 n.val h0 (by show n.val + 1 ≤ 128; omega)
  have c1 := Host.clampedStart_of_le (s := S128x8x64x64) (t := S1x8x64x64) rfl s 1 0 h1 (by decide)
  have c2 := Host.clampedStart_of_le (s := S128x8x64x64) (t := S1x8x64x64) rfl s 2 0 h2 (by decide)
  have c3 := Host.clampedStart_of_le (s := S128x8x64x64) (t := S1x8x64x64) rfl s 3 0 h3 (by decide)
  pointwise []
  simp [c0, c1, c2, c3]
theorem put_a (x : Vec Ideal S128x8x64x64 .f32) (u : Vec Ideal S8x64x64 .f32) (s : Fin 4 → Int) (n : Fin 128) (h0 : s 0 = n.val) (h1 : s 1 = 0) (h2 : s 2 = 0) (h3 : s 3 = 0) (m : Fin 128) (h : Fin 8) (r : Fin 64) (k : Fin 64) :
    (Host.dynamicUpdateSlice x (broadcastInDim S1x8x64x64 ![1, 2, 3] bcast_S8x64x64_S1x8x64x64_1_2_3 u) s updateFits_S128x8x64x64_S1x8x64x64 : Vec Ideal S128x8x64x64 .f32) (ix4 m h r k)
      = if m = n then u (ix3 h r k) else x (ix4 m h r k) := by
  have c0 := Host.clampedStart_of_le (s := S128x8x64x64) (t := S1x8x64x64) rfl s 0 n.val h0 (by show n.val + 1 ≤ 128; omega)
  have c1 := Host.clampedStart_of_le (s := S128x8x64x64) (t := S1x8x64x64) rfl s 1 0 h1 (by decide)
  have c2 := Host.clampedStart_of_le (s := S128x8x64x64) (t := S1x8x64x64) rfl s 2 0 h2 (by decide)
  have c3 := Host.clampedStart_of_le (s := S128x8x64x64) (t := S1x8x64x64) rfl s 3 0 h3 (by decide)
  pointwise []
  simp only [c0, c1, c2, c3]
  by_cases e : m = n
  · rw [if_pos e, dif_pos]
    · simp
    · subst e
      omega
  · rw [if_neg e, dif_neg]
    intro hh
    exact e (Fin.ext (by omega))

theorem take_s (x : Vec Ideal S128x8x128x128 .f32) (s : Fin 4 → Int) (n : Fin 128) (h0 : s 0 = n.val) (h1 : s 1 = 0) (h2 : s 2 = 0) (h3 : s 3 = 0) (h : Fin 8) (r : Fin 128) (k : Fin 128) :
    (shapeCast S8x128x128 (Host.dynamicSlice S1x8x128x128 x s sliceFits_S128x8x128x128_S1x8x128x128 : Vec Ideal S1x8x128x128 .f32) shapeCasts_S1x8x128x128_S8x128x128 : Vec Ideal S8x128x128 .f32) (ix3 h r k)
      = x (ix4 n h r k) := by
  have c0 := Host.clampedStart_of_le (s := S128x8x128x128) (t := S1x8x128x128) rfl s 0 n.val h0 (by show n.val + 1 ≤ 128; omega)
  have c1 := Host.clampedStart_of_le (s := S128x8x128x128) (t := S1x8x128x128) rfl s 1 0 h1 (by decide)
  have c2 := Host.clampedStart_of_le (s := S128x8x128x128) (t := S1x8x128x128) rfl s 2 0 h2 (by decide)
  have c3 := Host.clampedStart_of_le (s := S128x8x128x128) (t := S1x8x128x128) rfl s 3 0 h3 (by decide)
  pointwise []
  simp [c0, c1, c2, c3]
theorem put_s (x : Vec Ideal S128x8x128x128 .f32) (u : Vec Ideal S8x128x128 .f32) (s : Fin 4 → Int) (n : Fin 128) (h0 : s 0 = n.val) (h1 : s 1 = 0) (h2 : s 2 = 0) (h3 : s 3 = 0) (m : Fin 128) (h : Fin 8) (r : Fin 128) (k : Fin 128) :
    (Host.dynamicUpdateSlice x (broadcastInDim S1x8x128x128 ![1, 2, 3] bcast_S8x128x128_S1x8x128x128_1_2_3 u) s updateFits_S128x8x128x128_S1x8x128x128 : Vec Ideal S128x8x128x128 .f32) (ix4 m h r k)
      = if m = n then u (ix3 h r k) else x (ix4 m h r k) := by
  have c0 := Host.clampedStart_of_le (s := S128x8x128x128) (t := S1x8x128x128) rfl s 0 n.val h0 (by show n.val + 1 ≤ 128; omega)
  have c1 := Host.clampedStart_of_le (s := S128x8x128x128) (t := S1x8x128x128) rfl s 1 0 h1 (by decide)
  have c2 := Host.clampedStart_of_le (s := S128x8x128x128) (t := S1x8x128x128) rfl s 2 0 h2 (by decide)
  have c3 := Host.clampedStart_of_le (s := S128x8x128x128) (t := S1x8x128x128) rfl s 3 0 h3 (by decide)
  pointwise []
  simp only [c0, c1, c2, c3]
  by_cases e : m = n
  · rw [if_pos e, dif_pos]
    · simp
    · subst e
      omega
  · rw [if_neg e, dif_neg]
    intro hh
    exact e (Fin.ext (by omega))

theorem take_g (x : Vec Ideal S128x8x1x1 .f32) (s : Fin 4 → Int) (n : Fin 128) (h0 : s 0 = n.val) (h1 : s 1 = 0) (h2 : s 2 = 0) (h3 : s 3 = 0) (h : Fin 8) (r : Fin 1) (k : Fin 1) :
    (shapeCast S8x1x1 (Host.dynamicSlice S1x8x1x1 x s sliceFits_S128x8x1x1_S1x8x1x1 : Vec Ideal S1x8x1x1 .f32) shapeCasts_S1x8x1x1_S8x1x1 : Vec Ideal S8x1x1 .f32) (ix3 h r k)
      = x (ix4 n h r k) := by
  obtain rfl := Subsingleton.elim r 0
  obtain rfl := Subsingleton.elim k 0
  have c0 := Host.clampedStart_of_le (s := S128x8x1x1) (t := S1x8x1x1) rfl s 0 n.val h0 (by show n.val + 1 ≤ 128; omega)
  have c1 := Host.clampedStart_of_le (s := S128x8x1x1) (t := S1x8x1x1) rfl s 1 0 h1 (by decide)
  have c2 := Host.clampedStart_of_le (s := S128x8x1x1) (t := S1x8x1x1) rfl s 2 0 h2 (by decide)
  have c3 := Host.clampedStart_of_le (s := S128x8x1x1) (t := S1x8x1x1) rfl s 3 0 h3 (by decide)
  pointwise []
  simp [c0, c1, c2, c3]
theorem put_g (x : Vec Ideal S128x8x1x1 .f32) (u : Vec Ideal S8x1x1 .f32) (s : Fin 4 → Int) (n : Fin 128) (h0 : s 0 = n.val) (h1 : s 1 = 0) (h2 : s 2 = 0) (h3 : s 3 = 0) (m : Fin 128) (h : Fin 8) (r : Fin 1) (k : Fin 1) :
    (Host.dynamicUpdateSlice x (broadcastInDim S1x8x1x1 ![1, 2, 3] bcast_S8x1x1_S1x8x1x1_1_2_3 u) s updateFits_S128x8x1x1_S1x8x1x1 : Vec Ideal S128x8x1x1 .f32) (ix4 m h r k)
      = if m = n then u (ix3 h r k) else x (ix4 m h r k) := by
  obtain rfl := Subsingleton.elim r 0
  obtain rfl := Subsingleton.elim k 0
  have c0 := Host.clampedStart_of_le (s := S128x8x1x1) (t := S1x8x1x1) rfl s 0 n.val h0 (by show n.val + 1 ≤ 128; omega)
  have c1 := Host.clampedStart_of_le (s := S128x8x1x1) (t := S1x8x1x1) rfl s 1 0 h1 (by decide)
  have c2 := Host.clampedStart_of_le (s := S128x8x1x1) (t := S1x8x1x1) rfl s 2 0 h2 (by decide)
  have c3 := Host.clampedStart_of_le (s := S128x8x1x1) (t := S1x8x1x1) rfl s 3 0 h3 (by decide)
  pointwise []
  simp only [c0, c1, c2, c3]
  by_cases e : m = n
  · rw [if_pos e, dif_pos]
    · simp
    · subst e
      omega
  · rw [if_neg e, dif_neg]
    intro hh
    exact e (Fin.ext (by omega))

theorem take_v (x : Vec Ideal S128x8 .f32) (s : Fin 2 → Int) (n : Fin 128) (h0 : s 0 = n.val) (h1 : s 1 = 0) (h : Fin 8) :
    (shapeCast S8 (Host.dynamicSlice S1x8 x s sliceFits_S128x8_S1x8 : Vec Ideal S1x8 .f32) shapeCasts_S1x8_S8 : Vec Ideal S8 .f32) (ix1 h)
      = x (ix2 n h) := by
  have c0 := Host.clampedStart_of_le (s := S128x8) (t := S1x8) rfl s 0 n.val h0 (by show n.val + 1 ≤ 128; omega)
  have c1 := Host.clampedStart_of_le (s := S128x8) (t := S1x8) rfl s 1 0 h1 (by decide)
  pointwise []
  simp [c0, c1]
theorem put_v (x : Vec Ideal S128x8 .f32) (u : Vec Ideal S8 .f32) (s : Fin 2 → Int) (n : Fin 128) (h0 : s 0 = n.val) (h1 : s 1 = 0) (m : Fin 128) (h : Fin 8) :
    (Host.dynamicUpdateSlice x (broadcastInDim S1x8 ![1] bcast_S8_S1x8_1 u) s updateFits_S128x8_S1x8 : Vec Ideal S128x8 .f32) (ix2 m h)
      = if m = n then u (ix1 h) else x (ix2 m h) := by
  have c0 := Host.clampedStart_of_le (s := S128x8) (t := S1x8) rfl s 0 n.val h0 (by show n.val + 1 ≤ 128; omega)
  have c1 := Host.clampedStart_of_le (s := S128x8) (t := S1x8) rfl s 1 0 h1 (by decide)
  pointwise []
  simp only [c0, c1]
  by_cases e : m = n
  · rw [if_pos e, dif_pos]
    · simp
    · subst e
      omega
  · rw [if_neg e, dif_neg]
    intro hh
    exact e (Fin.ext (by omega))

variable (V : Valuation τ sig (Elt Ideal)) (n : Fin 128)

theorem take0_0 (hc : V (Proc.devRef .tc main_v20_6) = fun _ => BitVec.ofNat 32 n.val) (h : Fin 8) (r : Fin 64) (k : Fin 128) :
    (after while0Ops0 V (Proc.devRef .tc main_while0b_v53) : Vec Ideal S8x64x128 .f32) (ix3 h r k) = (V (Proc.devRef .tc main_v20_0) : Vec Ideal S128x8x64x128 .f32) (ix4 n h r k) := by
  after_results
  refine take_64 _ _ n ?_ ?_ ?_ ?_ h r k
  · exact (congrArg BitVec.toInt (congrFun hc _)).trans (WordCmp.toInt_ofNat_of_lt (by omega))
  · rfl
  · rfl
  · rfl
theorem take0_1 (hc : V (Proc.devRef .tc main_v20_6) = fun _ => BitVec.ofNat 32 n.val) (h : Fin 8) (r : Fin 64) (k : Fin 128) :
    (after while0Ops0_1 V (Proc.devRef .tc main_while0b_v54) : Vec Ideal S8x64x128 .f32) (ix3 h r k) = (V (Proc.devRef .tc main_v20_1) : Vec Ideal S128x8x64x128 .f32) (ix4 n h r k) := by
  after_results
  refine take_64 _ _ n ?_ ?_ ?_ ?_ h r k
  · exact (congrArg BitVec.toInt (congrFun hc _)).trans (WordCmp.toInt_ofNat_of_lt (by omega))
  · rfl
  · rfl
  · rfl
theorem take0_2 (hc : V (Proc.devRef .tc main_v20_6) = fun _ => BitVec.ofNat 32 n.val) (h : Fin 8) (r : Fin 64) (k : Fin 128) :
    (after while0Ops0_2 V (Proc.devRef .tc main_while0b_v55) : Vec Ideal S8x64x128 .f32) (ix3 h r k) = (V (Proc.devRef .tc main_v20_2) : Vec Ideal S128x8x64x128 .f32) (ix4 n h r k) := by
  after_results
  refine take_64 _ _ n ?_ ?_ ?_ ?_ h r k
  · exact (congrArg BitVec.toInt (congrFun hc _)).trans (WordCmp.toInt_ofNat_of_lt (by omega))
  · rfl
  · rfl
  · rfl
theorem take0_3 (hc : V (Proc.devRef .tc main_v20_6) = fun _ => BitVec.ofNat 32 n.val) (h : Fin 8) (r : Fin 64) (k : Fin 128) :
    (after while0Ops0_3 V (Proc.devRef .tc main_while0b_v56) : Vec Ideal S8x64x128 .f32) (ix3 h r k) = (V (Proc.devRef .tc main_v20_3) : Vec Ideal S128x8x64x128 .f32) (ix4 n h r k) := by
  after_results
  refine take_64 _ _ n ?_ ?_ ?_ ?_ h r k
  · exact (congrArg BitVec.toInt (congrFun hc _)).trans (WordCmp.toInt_ofNat_of_lt (by omega))
  · rfl
  · rfl
  · rfl
theorem take0_4 (hc : V (Proc.devRef .tc main_v20_6) = fun _ => BitVec.ofNat 32 n.val) (h : Fin 8) (r : Fin 64) (k : Fin 64) :
    (after while0Ops0_4 V (Proc.devRef .tc main_while0b_v57) : Vec Ideal S8x64x64 .f32) (ix3 h r k) = (V (Proc.devRef .tc main_v20_4) : Vec Ideal S128x8x64x64 .f32) (ix4 n h r k) := by
  after_results
  refine take_a _ _ n ?_ ?_ ?_ ?_ h r k
  · exact (congrArg BitVec.toInt (congrFun hc _)).trans (WordCmp.toInt_ofNat_of_lt (by omega))
  · rfl
  · rfl
  · rfl
theorem take0_5 (hc : V (Proc.devRef .tc main_v20_6) = fun _ => BitVec.ofNat 32 n.val) (h : Fin 8) :
    (after while0Ops0_5 V (Proc.devRef .tc main_while0b_v58) : Vec Ideal S8 .f32) (ix1 h) = (V (Proc.devRef .tc main_v20_5) : Vec Ideal S128x8 .f32) (ix2 n h) := by
  after_results
  refine take_v _ _ n ?_ ?_ h
  · exact (congrArg BitVec.toInt (congrFun hc _)).trans (WordCmp.toInt_ofNat_of_lt (by omega))
  · rfl
theorem take1_1 (hc : V (Proc.devRef .tc main_while1b_v54) = fun _ => BitVec.ofNat 32 n.val) (h : Fin 8) (r : Fin 64) (k : Fin 128) :
    (after while1Ops0_1 V (Proc.devRef .tc main_while1b_v55) : Vec Ideal S8x64x128 .f32) (ix3 h r k) = (V (Proc.devRef .tc main_v34_0) : Vec Ideal S128x8x64x128 .f32) (ix4 n h r k) := by
  after_results
  refine take_64 _ _ n ?_ ?_ ?_ ?_ h r k
  · exact (congrArg BitVec.toInt (congrFun hc _)).trans (WordCmp.toInt_ofNat_of_lt (by omega))
  · rfl
  · rfl
  · rfl
theorem take1_2 (hc : V (Proc.devRef .tc main_while1b_v54) = fun _ => BitVec.ofNat 32 n.val) (h : Fin 8) (r : Fin 128) (k : Fin 128) :
    (after while1Ops0_2 V (Proc.devRef .tc main_while1b_v56) : Vec Ideal S8x128x128 .f32) (ix3 h r k) = (V (Proc.devRef .tc main_v34_1) : Vec Ideal S128x8x128x128 .f32) (ix4 n h r k) := by
  after_results
  refine take_s _ _ n ?_ ?_ ?_ ?_ h r k
  · exact (congrArg BitVec.toInt (congrFun hc _)).trans (WordCmp.toInt_ofNat_of_lt (by omega))
  · rfl
  · rfl
  · rfl
theorem take1_3 (hc : V (Proc.devRef .tc main_while1b_v54) = fun _ => BitVec.ofNat 32 n.val) (h : Fin 8) (r : Fin 64) (k : Fin 128) :
    (after while1Ops0_3 V (Proc.devRef .tc main_while1b_v57) : Vec Ideal S8x64x128 .f32) (ix3 h r k) = (V (Proc.devRef .tc main_v34_2) : Vec Ideal S128x8x64x128 .f32) (ix4 n h r k) := by
  after_results
  refine take_64 _ _ n ?_ ?_ ?_ ?_ h r k
  · exact (congrArg BitVec.toInt (congrFun hc _)).trans (WordCmp.toInt_ofNat_of_lt (by omega))
  · rfl
  · rfl
  · rfl
theorem take1_4 (hc : V (Proc.devRef .tc main_while1b_v54) = fun _ => BitVec.ofNat 32 n.val) (h : Fin 8) (r : Fin 64) (k : Fin 128) :
    (after while1Ops0_4 V (Proc.devRef .tc main_while1b_v58) : Vec Ideal S8x64x128 .f32) (ix3 h r k) = (V (Proc.devRef .tc main_v34_3) : Vec Ideal S128x8x64x128 .f32) (ix4 n h r k) := by
  after_results
  refine take_64 _ _ n ?_ ?_ ?_ ?_ h r k
  · exact (congrArg BitVec.toInt (congrFun hc _)).trans (WordCmp.toInt_ofNat_of_lt (by omega))
  · rfl
  · rfl
  · rfl
theorem take1_5 (hc : V (Proc.devRef .tc main_while1b_v54) = fun _ => BitVec.ofNat 32 n.val) (h : Fin 8) (r : Fin 64) (k : Fin 128) :
    (after while1Ops0_5 V (Proc.devRef .tc main_while1b_v59) : Vec Ideal S8x64x128 .f32) (ix3 h r k) = (V (Proc.devRef .tc main_v34_4) : Vec Ideal S128x8x64x128 .f32) (ix4 n h r k) := by
  after_results
  refine take_64 _ _ n ?_ ?_ ?_ ?_ h r k
  · exact (congrArg BitVec.toInt (congrFun hc _)).trans (WordCmp.toInt_ofNat_of_lt (by omega))
  · rfl
  · rfl
  · rfl
theorem take1_6 (hc : V (Proc.devRef .tc main_while1b_v54) = fun _ => BitVec.ofNat 32 n.val) (h : Fin 8) (r : Fin 64) (k : Fin 64) :
    (after while1Ops0_6 V (Proc.devRef .tc main_while1b_v60) : Vec Ideal S8x64x64 .f32) (ix3 h r k) = (V (Proc.devRef .tc main_v34_5) : Vec Ideal S128x8x64x64 .f32) (ix4 n h r k) := by
  after_results
  refine take_a _ _ n ?_ ?_ ?_ ?_ h r k
  · exact (congrArg BitVec.toInt (congrFun hc _)).trans (WordCmp.toInt_ofNat_of_lt (by omega))
  · rfl
  · rfl
  · rfl
theorem take1_7 (hc : V (Proc.devRef .tc main_while1b_v54) = fun _ => BitVec.ofNat 32 n.val) (h : Fin 8) (r : Fin 1) (k : Fin 1) :
    (after while1Ops0_7 V (Proc.devRef .tc main_while1b_v61) : Vec Ideal S8x1x1 .f32) (ix3 h r k) = (V (Proc.devRef .tc main_v34_6) : Vec Ideal S128x8x1x1 .f32) (ix4 n h r k) := by
  after_results
  refine take_g _ _ n ?_ ?_ ?_ ?_ h r k
  · exact (congrArg BitVec.toInt (congrFun hc _)).trans (WordCmp.toInt_ofNat_of_lt (by omega))
  · rfl
  · rfl
  · rfl
theorem take1_8 (hc : V (Proc.devRef .tc main_while1b_v54) = fun _ => BitVec.ofNat 32 n.val) (h : Fin 8) (r : Fin 64) (k : Fin 128) :
    (after while1Ops0_8 V (Proc.devRef .tc main_while1b_v62) : Vec Ideal S8x64x128 .f32) (ix3 h r k) = (V (Proc.devRef .tc main_v34_7) : Vec Ideal S128x8x64x128 .f32) (ix4 n h r k) := by
  after_results
  refine take_64 _ _ n ?_ ?_ ?_ ?_ h r k
  · exact (congrArg BitVec.toInt (congrFun hc _)).trans (WordCmp.toInt_ofNat_of_lt (by omega))
  · rfl
  · rfl
  · rfl
theorem put0_7 (hc : V (Proc.devRef .tc main_v20_6) = fun _ => BitVec.ofNat 32 n.val) (m : Fin 128) (h : Fin 8) (r : Fin 64) (k : Fin 128) :
    (after while0Ops0_7 V (Proc.devRef .tc main_while0b_v69) : Vec Ideal S128x8x64x128 .f32) (ix4 m h r k)
      = if m = n then (V (Proc.devRef .tc main_while0b_v63) : Vec Ideal S8x64x128 .f32) (ix3 h r k) else (V (Proc.devRef .tc main_v20_8) : Vec Ideal S128x8x64x128 .f32) (ix4 m h r k) := by
  after_results
  refine put_64 _ _ _ n ?_ ?_ ?_ ?_ m h r k
  · exact (congrArg BitVec.toInt (congrFun hc _)).trans (WordCmp.toInt_ofNat_of_lt (by omega))
  · rfl
  · rfl
  · rfl
theorem put0_8 (hc : V (Proc.devRef .tc main_v20_6) = fun _ => BitVec.ofNat 32 n.val) (m : Fin 128) (h : Fin 8) (r : Fin 128) (k : Fin 128) :
    (after while0Ops0_8 V (Proc.devRef .tc main_while0b_v70) : Vec Ideal S128x8x128x128 .f32) (ix4 m h r k)
      = if m = n then (V (Proc.devRef .tc main_v20_7) : Vec Ideal S8x128x128 .f32) (ix3 h r k) else (V (Proc.devRef .tc main_v20_9) : Vec Ideal S128x8x128x128 .f32) (ix4 m h r k) := by
  after_results
  refine put_s _ _ _ n ?_ ?_ ?_ ?_ m h r k
  · exact (congrArg BitVec.toInt (congrFun hc _)).trans (WordCmp.toInt_ofNat_of_lt (by omega))
  · rfl
  · rfl
  · rfl
theorem put0_9 (hc : V (Proc.devRef .tc main_v20_6) = fun _ => BitVec.ofNat 32 n.val) (m : Fin 128) (h : Fin 8) (r : Fin 64) (k : Fin 128) :
    (after while0Ops0_9 V (Proc.devRef .tc main_while0b_v71) : Vec Ideal S128x8x64x128 .f32) (ix4 m h r k)
      = if m = n then (V (Proc.devRef .tc main_while0b_v60) : Vec Ideal S8x64x128 .f32) (ix3 h r k) else (V (Proc.devRef .tc main_v20_10) : Vec Ideal S128x8x64x128 .f32) (ix4 m h r k) := by
  after_results
  refine put_64 _ _ _ n ?_ ?_ ?_ ?_ m h r k
  · exact (congrArg BitVec.toInt (congrFun hc _)).trans (WordCmp.toInt_ofNat_of_lt (by omega))
  · rfl
  · rfl
  · rfl
theorem put0_10 (hc : V (Proc.devRef .tc main_v20_6) = fun _ => BitVec.ofNat 32 n.val) (m : Fin 128) (h : Fin 8) (r : Fin 1) (k : Fin 1) :
    (after while0Ops0_10 V (Proc.devRef .tc main_while0b_v72) : Vec Ideal S128x8x1x1 .f32) (ix4 m h r k)
      = if m = n then (V (Proc.devRef .tc main_while0b_v64) : Vec Ideal S8x1x1 .f32) (ix3 h r k) else (V (Proc.devRef .tc main_v20_11) : Vec Ideal S128x8x1x1 .f32) (ix4 m h r k) := by
  after_results
  refine put_g _ _ _ n ?_ ?_ ?_ ?_ m h r k
  · exact (congrArg BitVec.toInt (congrFun hc _)).trans (WordCmp.toInt_ofNat_of_lt (by omega))
  · rfl
  · rfl
  · rfl
theorem put1_10 (hc : V (Proc.devRef .tc main_while1b_v54) = fun _ => BitVec.ofNat 32 n.val) (m : Fin 128) (h : Fin 8) (r : Fin 64) (k : Fin 128) :
    (after while1Ops0_10 V (Proc.devRef .tc main_while1b_v86) : Vec Ideal S128x8x64x128 .f32) (ix4 m h r k)
      = if m = n then (V (Proc.devRef .tc main_while1b_v80) : Vec Ideal S8x64x128 .f32) (ix3 h r k) else (V (Proc.devRef .tc main_v34_10) : Vec Ideal S128x8x64x128 .f32) (ix4 m h r k) := by
  after_results
  refine put_64 _ _ _ n ?_ ?_ ?_ ?_ m h r k
  · exact (congrArg BitVec.toInt (congrFun hc _)).trans (WordCmp.toInt_ofNat_of_lt (by omega))
  · rfl
  · rfl
  · rfl
theorem put1_11 (hc : V (Proc.devRef .tc main_while1b_v54) = fun _ => BitVec.ofNat 32 n.val) (m : Fin 128) (h : Fin 8) (r : Fin 64) (k : Fin 128) :
    (after while1Ops0_11 V (Proc.devRef .tc main_while1b_v87) : Vec Ideal S128x8x64x128 .f32) (ix4 m h r k)
      = if m = n then (V (Proc.devRef .tc main_while1b_v66) : Vec Ideal S8x64x128 .f32) (ix3 h r k) else (V (Proc.devRef .tc main_v34_11) : Vec Ideal S128x8x64x128 .f32) (ix4 m h r k) := by
  after_results
  refine put_64 _ _ _ n ?_ ?_ ?_ ?_ m h r k
  · exact (congrArg BitVec.toInt (congrFun hc _)).trans (WordCmp.toInt_ofNat_of_lt (by omega))
  · rfl
  · rfl
  · rfl
theorem put1_12 (hc : V (Proc.devRef .tc main_while1b_v54) = fun _ => BitVec.ofNat 32 n.val) (m : Fin 128) (h : Fin 8) (r : Fin 64) (k : Fin 128) :
    (after while1Ops0_12 V (Proc.devRef .tc main_while1b_v88) : Vec Ideal S128x8x64x128 .f32) (ix4 m h r k)
      = if m = n then (V (Proc.devRef .tc main_while1b_v75) : Vec Ideal S8x64x128 .f32) (ix3 h r k) else (V (Proc.devRef .tc main_v34_12) : Vec Ideal S128x8x64x128 .f32) (ix4 m h r k) := by
  after_results
  refine put_64 _ _ _ n ?_ ?_ ?_ ?_ m h r k
  · exact (congrArg BitVec.toInt (congrFun hc _)).trans (WordCmp.toInt_ofNat_of_lt (by omega))
  · rfl
  · rfl
  · rfl
theorem put1_13 (hc : V (Proc.devRef .tc main_while1b_v54) = fun _ => BitVec.ofNat 32 n.val) (m : Fin 128) (h : Fin 8) (r : Fin 64) (k : Fin 128) :
    (after while1Ops0_13 V (Proc.devRef .tc main_while1b_v89) : Vec Ideal S128x8x64x128 .f32) (ix4 m h r k)
      = if m = n then (V (Proc.devRef .tc main_while1b_v85) : Vec Ideal S8x64x128 .f32) (ix3 h r k) else (V (Proc.devRef .tc main_v34_13) : Vec Ideal S128x8x64x128 .f32) (ix4 m h r k) := by
  after_results
  refine put_64 _ _ _ n ?_ ?_ ?_ ?_ m h r k
  · exact (congrArg BitVec.toInt (congrFun hc _)).trans (WordCmp.toInt_ofNat_of_lt (by omega))
  · rfl
  · rfl
  · rfl
theorem put1_14 (hc : V (Proc.devRef .tc main_while1b_v54) = fun _ => BitVec.ofNat 32 n.val) (m : Fin 128) (h : Fin 8) (r : Fin 64) (k : Fin 64) :
    (after while1Ops0_14 V (Proc.devRef .tc main_while1b_v90) : Vec Ideal S128x8x64x64 .f32) (ix4 m h r k)
      = if m = n then (V (Proc.devRef .tc main_while1b_v76) : Vec Ideal S8x64x64 .f32) (ix3 h r k) else (V (Proc.devRef .tc main_v34_14) : Vec Ideal S128x8x64x64 .f32) (ix4 m h r k) := by
  after_results
  refine put_a _ _ _ n ?_ ?_ ?_ ?_ m h r k
  · exact (congrArg BitVec.toInt (congrFun hc _)).trans (WordCmp.toInt_ofNat_of_lt (by omega))
  · rfl
  · rfl
  · rfl
theorem put1_15 (hc : V (Proc.devRef .tc main_while1b_v54) = fun _ => BitVec.ofNat 32 n.val) (m : Fin 128) (h : Fin 8) :
    (after while1Ops0_15 V (Proc.devRef .tc main_while1b_v91) : Vec Ideal S128x8 .f32) (ix2 m h)
      = if m = n then (V (Proc.devRef .tc main_while1b_v72) : Vec Ideal S8 .f32) (ix1 h) else (V (Proc.devRef .tc main_v34_15) : Vec Ideal S128x8 .f32) (ix2 m h) := by
  after_results
  refine put_v _ _ _ n ?_ ?_ m h
  · exact (congrArg BitVec.toInt (congrFun hc _)).trans (WordCmp.toInt_ofNat_of_lt (by omega))
  · rfl

end Cert.ReferenceIdeal.Scan

end
-- ==== Proof.Scan.RefKeep.lean ====
/- What a stretch of the loops' host operations keeps. -/
module

public import proofs.«01_k».proof.Proof.Scan.RefRun
public import proofs.«01_k».proof.Proof.Scan.Model
public import Idealize.ShloMosaic.Lib.Pointwise

@[expose] public section

set_option maxRecDepth 100000

noncomputable section

namespace Cert.ReferenceIdeal.Scan

open Idealize.ShloMosaic Idealize.ShloMosaic.TcCoe Idealize.ShloMosaic.Pointwise Idealize.ShloMosaic.StableHlo
open Cert.ReferenceIdeal Cert.ReferenceIdeal.Gen Cert.Scan

variable (V : Valuation τ sig (Elt Ideal))

abbrev KC0 : List (Ref sig .tc) := [main_v20_0, main_v20_1, main_v20_2, main_v20_3, main_v20_4, main_v20_5, main_v20_6, main_v20_7, main_v20_8, main_v20_9, main_v20_10, main_v20_11, main_v2, main_v5, main_v10, main_v13]
abbrev K0_0 : List (Ref sig .tc) := KC0 ++ [main_while0b_v54, main_while0b_v55, main_while0b_v56, main_while0b_v57, main_while0b_v58]
theorem keep0_0 (r : Ref sig .tc) (h : r ∈ K0_0) : after while0Ops0 V (Proc.devRef .tc r) = V (Proc.devRef .tc r) :=
  after_of_writes_sub while0Ops0 V while0Ops0_writes ((by decide +kernel : ∀ r ∈ K0_0, r ∉ while0Ops0_W) r h)
abbrev K0_1 : List (Ref sig .tc) := KC0 ++ [main_while0b_v53, main_while0b_v55, main_while0b_v56, main_while0b_v57, main_while0b_v58]
theorem keep0_1 (r : Ref sig .tc) (h : r ∈ K0_1) : after while0Ops0_1 V (Proc.devRef .tc r) = V (Proc.devRef .tc r) :=
  after_of_writes_sub while0Ops0_1 V while0Ops0_1_writes ((by decide +kernel : ∀ r ∈ K0_1, r ∉ while0Ops0_1_W) r h)
abbrev K0_2 : List (Ref sig .tc) := KC0 ++ [main_while0b_v53, main_while0b_v54, main_while0b_v56, main_while0b_v57, main_while0b_v58]
theorem keep0_2 (r : Ref sig .tc) (h : r ∈ K0_2) : after while0Ops0_2 V (Proc.devRef .tc r) = V (Proc.devRef .tc r) :=
  after_of_writes_sub while0Ops0_2 V while0Ops0_2_writes ((by decide +kernel : ∀ r ∈ K0_2, r ∉ while0Ops0_2_W) r h)
abbrev K0_3 : List (Ref sig .tc) := KC0 ++ [main_while0b_v53, main_while0b_v54, main_while0b_v55, main_while0b_v57, main_while0b_v58]
theorem keep0_3 (r : Ref sig .tc) (h : r ∈ K0_3) : after while0Ops0_3 V (Proc.devRef .tc r) = V (Proc.devRef .tc r) :=
  after_of_writes_sub while0Ops0_3 V while0Ops0_3_writes ((by decide +kernel : ∀ r ∈ K0_3, r ∉ while0Ops0_3_W) r h)
abbrev K0_4 : List (Ref sig .tc) := KC0 ++ [main_while0b_v53, main_while0b_v54, main_while0b_v55, main_while0b_v56, main_while0b_v58]
theorem keep0_4 (r : Ref sig .tc) (h : r ∈ K0_4) : after while0Ops0_4 V (Proc.devRef .tc r) = V (Proc.devRef .tc r) :=
  after_of_writes_sub while0Ops0_4 V while0Ops0_4_writes ((by decide +kernel : ∀ r ∈ K0_4, r ∉ while0Ops0_4_W) r h)
abbrev K0_5 : List (Ref sig .tc) := KC0 ++ [main_while0b_v53, main_while0b_v54, main_while0b_v55, main_while0b_v56, main_while0b_v57]
theorem keep0_5 (r : Ref sig .tc) (h : r ∈ K0_5) : after while0Ops0_5 V (Proc.devRef .tc r) = V (Proc.devRef .tc r) :=
  after_of_writes_sub while0Ops0_5 V while0Ops0_5_writes ((by decide +kernel : ∀ r ∈ K0_5, r ∉ while0Ops0_5_W) r h)
abbrev K0_6 : List (Ref sig .tc) := KC0 ++ [main_while0b_v53, main_while0b_v54, main_while0b_v55, main_while0b_v56, main_while0b_v57, main_while0b_v58, main_while0b_v69, main_while0b_v70, main_while0b_v71, main_while0b_v72]
theorem keep0_6 (r : Ref sig .tc) (h : r ∈ K0_6) : after while0Ops0_6 V (Proc.devRef .tc r) = V (Proc.devRef .tc r) :=
  after_of_writes_sub while0Ops0_6 V while0Ops0_6_writes ((by decide +kernel : ∀ r ∈ K0_6, r ∉ while0Ops0_6_W) r h)
abbrev K0_7 : List (Ref sig .tc) := KC0 ++ [main_while0b_v53, main_while0b_v54, main_while0b_v55, main_while0b_v56, main_while0b_v57, main_while0b_v58, main_while0b_v60, main_while0b_v63, main_while0b_v64, main_while0b_v68, main_while0b_v70, main_while0b_v71, main_while0b_v72]
theorem keep0_7 (r : Ref sig .tc) (h : r ∈ K0_7) : after while0Ops0_7 V (Proc.devRef .tc r) = V (Proc.devRef .tc r) :=
  after_of_writes_sub while0Ops0_7 V while0Ops0_7_writes ((by decide +kernel : ∀ r ∈ K0_7, r ∉ while0Ops0_7_W) r h)
abbrev K0_8 : List (Ref sig .tc) := KC0 ++ [main_while0b_v53, main_while0b_v54, main_while0b_v55, main_while0b_v56, main_while0b_v57, main_while0b_v58, main_while0b_v60, main_while0b_v63, main_while0b_v64, main_while0b_v68, main_while0b_v69, main_while0b_v71, main_while0b_v72]
theorem keep0_8 (r : Ref sig .tc) (h : r ∈ K0_8) : after while0Ops0_8 V (Proc.devRef .tc r) = V (Proc.devRef .tc r) :=
  after_of_writes_sub while0Ops0_8 V while0Ops0_8_writes ((by decide +kernel : ∀ r ∈ K0_8, r ∉ while0Ops0_8_W) r h)
abbrev K0_9 : List (Ref sig .tc) := KC0 ++ [main_while0b_v53, main_while0b_v54, main_while0b_v55, main_while0b_v56, main_while0b_v57, main_while0b_v58, main_while0b_v60, main_while0b_v63, main_while0b_v64, main_while0b_v68, main_while0b_v69, main_while0b_v70, main_while0b_v72]
theorem keep0_9 (r : Ref sig .tc) (h : r ∈ K0_9) : after while0Ops0_9 V (Proc.devRef .tc r) = V (Proc.devRef .tc r) :=
  after_of_writes_sub while0Ops0_9 V while0Ops0_9_writes ((by decide +kernel : ∀ r ∈ K0_9, r ∉ while0Ops0_9_W) r h)
abbrev K0_10 : List (Ref sig .tc) := KC0 ++ [main_while0b_v53, main_while0b_v54, main_while0b_v55, main_while0b_v56, main_while0b_v57, main_while0b_v58, main_while0b_v60, main_while0b_v63, main_while0b_v64, main_while0b_v68, main_while0b_v69, main_while0b_v70, main_while0b_v71]
theorem keep0_10 (r : Ref sig .tc) (h : r ∈ K0_10) : after while0Ops0_10 V (Proc.devRef .tc r) = V (Proc.devRef .tc r) :=
  after_of_writes_sub while0Ops0_10 V while0Ops0_10_writes ((by decide +kernel : ∀ r ∈ K0_10, r ∉ while0Ops0_10_W) r h)
abbrev K0_11 : List (Ref sig .tc) := [main_v20_0, main_v20_1, main_v20_2, main_v20_3, main_v20_4, main_v20_5, main_v2, main_v5, main_v10, main_v13, main_while0b_v53, main_while0b_v54, main_while0b_v55, main_while0b_v56, main_while0b_v57, main_while0b_v58, main_while0b_v60, main_while0b_v63, main_while0b_v64, main_while0b_v68, main_while0b_v69, main_while0b_v70, main_while0b_v71, main_while0b_v72]
theorem keep0_11 (r : Ref sig .tc) (h : r ∈ K0_11) : after while0Ops0_11 V (Proc.devRef .tc r) = V (Proc.devRef .tc r) :=
  after_of_writes_sub while0Ops0_11 V while0Ops0_11_writes ((by decide +kernel : ∀ r ∈ K0_11, r ∉ while0Ops0_11_W) r h)
abbrev KC1 : List (Ref sig .tc) := [main_v34_0, main_v34_1, main_v34_2, main_v34_3, main_v34_4, main_v34_5, main_v34_6, main_v34_7, main_v34_8, main_v34_9, main_v34_10, main_v34_11, main_v34_12, main_v34_13, main_v34_14, main_v34_15, main_v22]
abbrev K1_0 : List (Ref sig .tc) := KC1 ++ [main_while1b_v55, main_while1b_v56, main_while1b_v57, main_while1b_v58, main_while1b_v59, main_while1b_v60, main_while1b_v61, main_while1b_v62]
theorem keep1_0 (r : Ref sig .tc) (h : r ∈ K1_0) : after while1Ops0 V (Proc.devRef .tc r) = V (Proc.devRef .tc r) :=
  after_of_writes_sub while1Ops0 V while1Ops0_writes ((by decide +kernel : ∀ r ∈ K1_0, r ∉ while1Ops0_W) r h)
abbrev K1_1 : List (Ref sig .tc) := KC1 ++ [main_while1b_v54, main_while1b_v56, main_while1b_v57, main_while1b_v58, main_while1b_v59, main_while1b_v60, main_while1b_v61, main_while1b_v62]
theorem keep1_1 (r : Ref sig .tc) (h : r ∈ K1_1) : after while1Ops0_1 V (Proc.devRef .tc r) = V (Proc.devRef .tc r) :=
  after_of_writes_sub while1Ops0_1 V while1Ops0_1_writes ((by decide +kernel : ∀ r ∈ K1_1, r ∉ while1Ops0_1_W) r h)
abbrev K1_2 : List (Ref sig .tc) := KC1 ++ [main_while1b_v54, main_while1b_v55, main_while1b_v57, main_while1b_v58, main_while1b_v59, main_while1b_v60, main_while1b_v61, main_while1b_v62]
theorem keep1_2 (r : Ref sig .tc) (h : r ∈ K1_2) : after while1Ops0_2 V (Proc.devRef .tc r) = V (Proc.devRef .tc r) :=
  after_of_writes_sub while1Ops0_2 V while1Ops0_2_writes ((by decide +kernel : ∀ r ∈ K1_2, r ∉ while1Ops0_2_W) r h)
abbrev K1_3 : List (Ref sig .tc) := KC1 ++ [main_while1b_v54, main_while1b_v55, main_while1b_v56, main_while1b_v58, main_while1b_v59, main_while1b_v60, main_while1b_v61, main_while1b_v62]
theorem keep1_3 (r : Ref sig .tc) (h : r ∈ K1_3) : after while1Ops0_3 V (Proc.devRef .tc r) = V (Proc.devRef .tc r) :=
  after_of_writes_sub while1Ops0_3 V while1Ops0_3_writes ((by decide +kernel : ∀ r ∈ K1_3, r ∉ while1Ops0_3_W) r h)
abbrev K1_4 : List (Ref sig .tc) := KC1 ++ [main_while1b_v54, main_while1b_v55, main_while1b_v56, main_while1b_v57, main_while1b_v59, main_while1b_v60, main_while1b_v61, main_while1b_v62]
theorem keep1_4 (r : Ref sig .tc) (h : r ∈ K1_4) : after while1Ops0_4 V (Proc.devRef .tc r) = V (Proc.devRef .tc r) :=
  after_of_writes_sub while1Ops0_4 V while1Ops0_4_writes ((by decide +kernel : ∀ r ∈ K1_4, r ∉ while1Ops0_4_W) r h)
abbrev K1_5 : List (Ref sig .tc) := KC1 ++ [main_while1b_v54, main_while1b_v55, main_while1b_v56, main_while1b_v57, main_while1b_v58, main_while1b_v60, main_while1b_v61, main_while1b_v62]
theorem keep1_5 (r : Ref sig .tc) (h : r ∈ K1_5) : after while1Ops0_5 V (Proc.devRef .tc r) = V (Proc.devRef .tc r) :=
  after_of_writes_sub while1Ops0_5 V while1Ops0_5_writes ((by decide +kernel : ∀ r ∈ K1_5, r ∉ while1Ops0_5_W) r h)
abbrev K1_6 : List (Ref sig .tc) := KC1 ++ [main_while1b_v54, main_while1b_v55, main_while1b_v56, main_while1b_v57, main_while1b_v58, main_while1b_v59, main_while1b_v61, main_while1b_v62]
theorem keep1_6 (r : Ref sig .tc) (h : r ∈ K1_6) : after while1Ops0_6 V (Proc.devRef .tc r) = V (Proc.devRef .tc r) :=
  after_of_writes_sub while1Ops0_6 V while1Ops0_6_writes ((by decide +kernel : ∀ r ∈ K1_6, r ∉ while1Ops0_6_W) r h)
abbrev K1_7 : List (Ref sig .tc) := KC1 ++ [main_while1b_v54, main_while1b_v55, main_while1b_v56, main_while1b_v57, main_while1b_v58, main_while1b_v59, main_while1b_v60, main_while1b_v62]
theorem keep1_7 (r : Ref sig .tc) (h : r ∈ K1_7) : after while1Ops0_7 V (Proc.devRef .tc r) = V (Proc.devRef .tc r) :=
  after_of_writes_sub while1Ops0_7 V while1Ops0_7_writes ((by decide +kernel : ∀ r ∈ K1_7, r ∉ while1Ops0_7_W) r h)
abbrev K1_8 : List (Ref sig .tc) := KC1 ++ [main_while1b_v54, main_while1b_v55, main_while1b_v56, main_while1b_v57, main_while1b_v58, main_while1b_v59, main_while1b_v60, main_while1b_v61]
theorem keep1_8 (r : Ref sig .tc) (h : r ∈ K1_8) : after while1Ops0_8 V (Proc.devRef .tc r) = V (Proc.devRef .tc r) :=
  after_of_writes_sub while1Ops0_8 V while1Ops0_8_writes ((by decide +kernel : ∀ r ∈ K1_8, r ∉ while1Ops0_8_W) r h)
abbrev K1_9 : List (Ref sig .tc) := KC1 ++ [main_while1b_v54, main_while1b_v55, main_while1b_v86, main_while1b_v87, main_while1b_v88, main_while1b_v89, main_while1b_v90, main_while1b_v91]
theorem keep1_9 (r : Ref sig .tc) (h : r ∈ K1_9) : after while1Ops0_9 V (Proc.devRef .tc r) = V (Proc.devRef .tc r) :=
  after_of_writes_sub while1Ops0_9 V while1Ops0_9_writes ((by decide +kernel : ∀ r ∈ K1_9, r ∉ while1Ops0_9_W) r h)
abbrev K1_10 : List (Ref sig .tc) := KC1 ++ [main_while1b_v54, main_while1b_v55, main_while1b_v66, main_while1b_v72, main_while1b_v75, main_while1b_v76, main_while1b_v80, main_while1b_v84, main_while1b_v85, main_while1b_v87, main_while1b_v88, main_while1b_v89, main_while1b_v90, main_while1b_v91]
theorem keep1_10 (r : Ref sig .tc) (h : r ∈ K1_10) : after while1Ops0_10 V (Proc.devRef .tc r) = V (Proc.devRef .tc r) :=
  after_of_writes_sub while1Ops0_10 V while1Ops0_10_writes ((by decide +kernel : ∀ r ∈ K1_10, r ∉ while1Ops0_10_W) r h)
abbrev K1_11 : List (Ref sig .tc) := KC1 ++ [main_while1b_v54, main_while1b_v55, main_while1b_v66, main_while1b_v72, main_while1b_v75, main_while1b_v76, main_while1b_v80, main_while1b_v84, main_while1b_v85, main_while1b_v86, main_while1b_v88, main_while1b_v89, main_while1b_v90, main_while1b_v91]
theorem keep1_11 (r : Ref sig .tc) (h : r ∈ K1_11) : after while1Ops0_11 V (Proc.devRef .tc r) = V (Proc.devRef .tc r) :=
  after_of_writes_sub while1Ops0_11 V while1Ops0_11_writes ((by decide +kernel : ∀ r ∈ K1_11, r ∉ while1Ops0_11_W) r h)
abbrev K1_12 : List (Ref sig .tc) := KC1 ++ [main_while1b_v54, main_while1b_v55, main_while1b_v66, main_while1b_v72, main_while1b_v75, main_while1b_v76, main_while1b_v80, main_while1b_v84, main_while1b_v85, main_while1b_v86, main_while1b_v87, main_while1b_v89, main_while1b_v90, main_while1b_v91]
theorem keep1_12 (r : Ref sig .tc) (h : r ∈ K1_12) : after while1Ops0_12 V (Proc.devRef .tc r) = V (Proc.devRef .tc r) :=
  after_of_writes_sub while1Ops0_12 V while1Ops0_12_writes ((by decide +kernel : ∀ r ∈ K1_12, r ∉ while1Ops0_12_W) r h)
abbrev K1_13 : List (Ref sig .tc) := KC1 ++ [main_while1b_v54, main_while1b_v55, main_while1b_v66, main_while1b_v72, main_while1b_v75, main_while1b_v76, main_while1b_v80, main_while1b_v84, main_while1b_v85, main_while1b_v86, main_while1b_v87, main_while1b_v88, main_while1b_v90, main_while1b_v91]
theorem keep1_13 (r : Ref sig .tc) (h : r ∈ K1_13) : after while1Ops0_13 V (Proc.devRef .tc r) = V (Proc.devRef .tc r) :=
  after_of_writes_sub while1Ops0_13 V while1Ops0_13_writes ((by decide +kernel : ∀ r ∈ K1_13, r ∉ while1Ops0_13_W) r h)
abbrev K1_14 : List (Ref sig .tc) := KC1 ++ [main_while1b_v54, main_while1b_v55, main_while1b_v66, main_while1b_v72, main_while1b_v75, main_while1b_v76, main_while1b_v80, main_while1b_v84, main_while1b_v85, main_while1b_v86, main_while1b_v87, main_while1b_v88, main_while1b_v89, main_while1b_v91]
theorem keep1_14 (r : Ref sig .tc) (h : r ∈ K1_14) : after while1Ops0_14 V (Proc.devRef .tc r) = V (Proc.devRef .tc r) :=
  after_of_writes_sub while1Ops0_14 V while1Ops0_14_writes ((by decide +kernel : ∀ r ∈ K1_14, r ∉ while1Ops0_14_W) r h)
abbrev K1_15 : List (Ref sig .tc) := KC1 ++ [main_while1b_v54, main_while1b_v55, main_while1b_v66, main_while1b_v72, main_while1b_v75, main_while1b_v76, main_while1b_v80, main_while1b_v84, main_while1b_v85, main_while1b_v86, main_while1b_v87, main_while1b_v88, main_while1b_v89, main_while1b_v90]
theorem keep1_15 (r : Ref sig .tc) (h : r ∈ K1_15) : after while1Ops0_15 V (Proc.devRef .tc r) = V (Proc.devRef .tc r) :=
  after_of_writes_sub while1Ops0_15 V while1Ops0_15_writes ((by decide +kernel : ∀ r ∈ K1_15, r ∉ while1Ops0_15_W) r h)
abbrev K1_16 : List (Ref sig .tc) := [main_v34_0, main_v34_1, main_v34_2, main_v34_3, main_v34_4, main_v34_5, main_v34_6, main_v34_7, main_v22]
theorem keep1_16 (r : Ref sig .tc) (h : r ∈ K1_16) : after while1Ops0_16 V (Proc.devRef .tc r) = V (Proc.devRef .tc r) :=
  after_of_writes_sub while1Ops0_16 V while1Ops0_16_writes ((by decide +kernel : ∀ r ∈ K1_16, r ∉ while1Ops0_16_W) r h)
theorem keepC0 (r : Ref sig .tc) (h : r ∈ KC0) : after cond0Ops V (Proc.devRef .tc r) = V (Proc.devRef .tc r) :=
  after_of_writes_sub cond0Ops V cond0Ops_writes ((by decide +kernel : ∀ r ∈ KC0, r ∉ cond0Ops_W) r h)
theorem keepC1 (r : Ref sig .tc) (h : r ∈ KC1) : after cond1Ops V (Proc.devRef .tc r) = V (Proc.devRef .tc r) :=
  after_of_writes_sub cond1Ops V cond1Ops_writes ((by decide +kernel : ∀ r ∈ KC1, r ∉ cond1Ops_W) r h)

end Cert.ReferenceIdeal.Scan

end
-- ==== Proof.Scan.RefStep.lean ====
/- The reference program's loops: what one chunk computes, forwards and backwards. -/
module

public import proofs.«01_k».proof.Proof.Scan.RefRun
public import proofs.«01_k».proof.Proof.Scan.Model
public import Idealize.ShloMosaic.Lib.Pointwise

@[expose] public section

set_option maxRecDepth 100000

noncomputable section

namespace Cert.ReferenceIdeal.Scan

open Idealize.ShloMosaic Idealize.ShloMosaic.TcCoe Idealize.ShloMosaic.Pointwise Idealize.ShloMosaic.StableHlo
open Cert.ReferenceIdeal Cert.ReferenceIdeal.Gen Cert.Scan

variable (V : Valuation τ sig (Elt Ideal))

/-- The buffers hold one chunk and the state. -/
structure See0 (S : M 128 128) (w : M 64 128) (u : M 64 128) (qd : M 64 128) (kd : M 64 128) (a : M 64 64) (g : Fin 8 → EReal) : Prop where
  S : ∀ h i j, (V (Proc.devRef .tc main_v20_7) : Vec Ideal S8x128x128 .f32) (ix3 h i j) = S h i j
  w : ∀ h i j, (V (Proc.devRef .tc main_while0b_v56) : Vec Ideal S8x64x128 .f32) (ix3 h i j) = w h i j
  u : ∀ h i j, (V (Proc.devRef .tc main_while0b_v55) : Vec Ideal S8x64x128 .f32) (ix3 h i j) = u h i j
  qd : ∀ h i j, (V (Proc.devRef .tc main_while0b_v53) : Vec Ideal S8x64x128 .f32) (ix3 h i j) = qd h i j
  kd : ∀ h i j, (V (Proc.devRef .tc main_while0b_v54) : Vec Ideal S8x64x128 .f32) (ix3 h i j) = kd h i j
  a : ∀ h i j, (V (Proc.devRef .tc main_while0b_v57) : Vec Ideal S8x64x64 .f32) (ix3 h i j) = a h i j
  g : ∀ h, (V (Proc.devRef .tc main_while0b_v58) : Vec Ideal S8 .f32) (ix1 h) = g h

variable {V} {S dS : M 128 128} {w u qd kd do' vn : M 64 128} {a : M 64 64} {g : Fin 8 → EReal}

theorem vn0 (I : See0 V S w u qd kd a g) (h : Fin 8) (i : Fin 64) (j : Fin 128) :
    (after while0Ops0_6 V (Proc.devRef .tc main_while0b_v60) : Vec Ideal S8x64x128 .f32) (ix3 h i j) = vnew S w u h i j := by
  after_results
  pointwise []
  simp only [I.S, I.w, I.u, I.qd, I.kd, I.a, I.g]
  try rfl
theorem out0 (I : See0 V S w u qd kd a g) (h : Fin 8) (i : Fin 64) (j : Fin 128) :
    (after while0Ops0_6 V (Proc.devRef .tc main_while0b_v63) : Vec Ideal S8x64x128 .f32) (ix3 h i j) = outp S w qd u a h i j := by
  after_results
  pointwise []
  simp only [I.S, I.w, I.u, I.qd, I.kd, I.a, I.g]
  try rfl
theorem next0 (I : See0 V S w u qd kd a g) (h : Fin 8) (i : Fin 128) (j : Fin 128) :
    (after while0Ops0_6 V (Proc.devRef .tc main_while0b_v68) : Vec Ideal S8x128x128 .f32) (ix3 h i j) = next S w u kd g h i j := by
  after_results
  pointwise []
  simp only [I.S, I.w, I.u, I.qd, I.kd, I.a, I.g]
  try rfl
theorem gain0 (I : See0 V S w u qd kd a g) (h : Fin 8) (i j : Fin 1) :
    (after while0Ops0_6 V (Proc.devRef .tc main_while0b_v64) : Vec Ideal S8x1x1 .f32) (ix3 h i j) = g h := by
  after_results
  pointwise []
  simp only [I.S, I.w, I.u, I.qd, I.kd, I.a, I.g]
  try rfl

variable (V)
/-- The buffers hold one chunk and the state. -/
structure See1 (dS : M 128 128) (do' : M 64 128) (S : M 128 128) (w : M 64 128) (qd : M 64 128) (vn : M 64 128) (a : M 64 64) (kd : M 64 128) (g : Fin 8 → EReal) : Prop where
  dS : ∀ h i j, (V (Proc.devRef .tc main_v34_9) : Vec Ideal S8x128x128 .f32) (ix3 h i j) = dS h i j
  do' : ∀ h i j, (V (Proc.devRef .tc main_while1b_v55) : Vec Ideal S8x64x128 .f32) (ix3 h i j) = do' h i j
  S : ∀ h i j, (V (Proc.devRef .tc main_while1b_v56) : Vec Ideal S8x128x128 .f32) (ix3 h i j) = S h i j
  w : ∀ h i j, (V (Proc.devRef .tc main_while1b_v57) : Vec Ideal S8x64x128 .f32) (ix3 h i j) = w h i j
  qd : ∀ h i j, (V (Proc.devRef .tc main_while1b_v58) : Vec Ideal S8x64x128 .f32) (ix3 h i j) = qd h i j
  vn : ∀ h i j, (V (Proc.devRef .tc main_while1b_v59) : Vec Ideal S8x64x128 .f32) (ix3 h i j) = vn h i j
  a : ∀ h i j, (V (Proc.devRef .tc main_while1b_v60) : Vec Ideal S8x64x64 .f32) (ix3 h i j) = a h i j
  g : ∀ h, (V (Proc.devRef .tc main_while1b_v61) : Vec Ideal S8x1x1 .f32) (ix3 h 0 0) = g h
  kd : ∀ h i j, (V (Proc.devRef .tc main_while1b_v62) : Vec Ideal S8x64x128 .f32) (ix3 h i j) = kd h i j

variable {V}

theorem du1 (I : See1 V dS do' S w qd vn a kd g) (h : Fin 8) (i : Fin 64) (j : Fin 128) :
    (after while1Ops0_9 V (Proc.devRef .tc main_while1b_v75) : Vec Ideal S8x64x128 .f32) (ix3 h i j) = dvalR dS kd do' a h i j := by
  after_results
  pointwise []
  simp only [I.dS, I.do', I.S, I.w, I.qd, I.vn, I.a, I.g, I.kd]
  try rfl
theorem dk1 (I : See1 V dS do' S w qd vn a kd g) (h : Fin 8) (i : Fin 64) (j : Fin 128) :
    (after while1Ops0_9 V (Proc.devRef .tc main_while1b_v66) : Vec Ideal S8x64x128 .f32) (ix3 h i j) = ∑ v : Fin 128, dS h j v * vn h i v := by
  after_results
  pointwise []
  simp only [I.dS, I.do', I.S, I.w, I.qd, I.vn, I.a, I.g, I.kd]
  try rfl
theorem da1 (I : See1 V dS do' S w qd vn a kd g) (h : Fin 8) (i : Fin 64) (j : Fin 64) :
    (after while1Ops0_9 V (Proc.devRef .tc main_while1b_v76) : Vec Ideal S8x64x64 .f32) (ix3 h i j) = ∑ v : Fin 128, do' h i v * vn h j v := by
  after_results
  pointwise []
  simp only [I.dS, I.do', I.S, I.w, I.qd, I.vn, I.a, I.g, I.kd]
  try rfl
theorem dq1 (I : See1 V dS do' S w qd vn a kd g) (h : Fin 8) (i : Fin 64) (j : Fin 128) :
    (after while1Ops0_9 V (Proc.devRef .tc main_while1b_v80) : Vec Ideal S8x64x128 .f32) (ix3 h i j) = dqry S do' h i j := by
  after_results
  pointwise []
  simp only [I.dS, I.do', I.S, I.w, I.qd, I.vn, I.a, I.g, I.kd]
  try rfl
theorem dw1 (I : See1 V dS do' S w qd vn a kd g) (h : Fin 8) (i : Fin 64) (j : Fin 128) :
    (after while1Ops0_9 V (Proc.devRef .tc main_while1b_v85) : Vec Ideal S8x64x128 .f32) (ix3 h i j) = dwgtR dS S kd do' a h i j := by
  after_results
  pointwise []
  simp only [I.dS, I.do', I.S, I.w, I.qd, I.vn, I.a, I.g, I.kd]
  try rfl
theorem back1 (I : See1 V dS do' S w qd vn a kd g) (h : Fin 8) (i : Fin 128) (j : Fin 128) :
    (after while1Ops0_9 V (Proc.devRef .tc main_while1b_v84) : Vec Ideal S8x128x128 .f32) (ix3 h i j) = backR dS w qd kd do' a g h i j := by
  after_results
  pointwise []
  simp only [I.dS, I.do', I.S, I.w, I.qd, I.vn, I.a, I.g, I.kd]
  try rfl
theorem dg1 (I : See1 V dS do' S w qd vn a kd g) (h : Fin 8) :
    (after while1Ops0_9 V (Proc.devRef .tc main_while1b_v72) : Vec Ideal S8 .f32) (ix1 h) = dgain dS S h := by
  after_results
  pointwise []
  simp only [I.dS, I.do', I.S, I.w, I.qd, I.vn, I.a, I.g, I.kd]
  show (∑ x : Fin 1, ∑ y : Fin 1, ∑ k : Fin 128, ∑ v : Fin 128, (S h k v * dS h k v : EReal)) = ∑ k : Fin 128, ∑ v : Fin 128, (dS h k v * S h k v : EReal)
  refine (Fin.sum_univ_one _).trans ((Fin.sum_univ_one _).trans ?_)
  exact Finset.sum_congr rfl fun k _ => Finset.sum_congr rfl fun v _ => EReal.mul_comm _ _

end Cert.ReferenceIdeal.Scan

end
-- ==== Proof.Scan.RefLoop.lean ====
/- The reference program's loops: what every buffer holds after a number of chunks. -/
module

public import proofs.«01_k».proof.Proof.Scan.RefIdx
public import proofs.«01_k».proof.Proof.Scan.RefKeep
public import proofs.«01_k».proof.Proof.Scan.RefStep

@[expose] public section

set_option maxRecDepth 100000

noncomputable section

namespace Cert.ReferenceIdeal.Scan

open Idealize.ShloMosaic Idealize.ShloMosaic.TcCoe Idealize.ShloMosaic.Pointwise Idealize.ShloMosaic.StableHlo
open Cert.ReferenceIdeal Cert.ReferenceIdeal.Gen Cert.Scan

theorem mm {α : Type} {l : List α} {a : α} (i : ℕ) (h : l[i]? = some a) : a ∈ l := List.mem_of_getElem? h

theorem lt127 (k : ℕ) : 127 - k < 128 := by omega

variable (V : Valuation τ sig (Elt Ideal))

/-! The buffers after each stretch of loop 0's body. -/
def A0_0 : Valuation τ sig (Elt Ideal) := after while0Ops0 (after cond0Ops V)
theorem kp0_0 (r : Ref sig .tc) (h : r ∈ K0_0) : A0_0 V (Proc.devRef .tc r) = (after cond0Ops V) (Proc.devRef .tc r) := keep0_0 _ r h
theorem kq0_0 (r : Ref sig .tc) (h : r ∈ KC0) : A0_0 V (Proc.devRef .tc r) = V (Proc.devRef .tc r) := (kp0_0 V r (List.mem_append_left _ h)).trans (keepC0 V r h)
def A0_1 : Valuation τ sig (Elt Ideal) := after while0Ops0_1 (A0_0 V)
theorem kp0_1 (r : Ref sig .tc) (h : r ∈ K0_1) : A0_1 V (Proc.devRef .tc r) = (A0_0 V) (Proc.devRef .tc r) := keep0_1 _ r h
theorem kq0_1 (r : Ref sig .tc) (h : r ∈ KC0) : A0_1 V (Proc.devRef .tc r) = V (Proc.devRef .tc r) := (kp0_1 V r (List.mem_append_left _ h)).trans (kq0_0 V r h)
def A0_2 : Valuation τ sig (Elt Ideal) := after while0Ops0_2 (A0_1 V)
theorem kp0_2 (r : Ref sig .tc) (h : r ∈ K0_2) : A0_2 V (Proc.devRef .tc r) = (A0_1 V) (Proc.devRef .tc r) := keep0_2 _ r h
theorem kq0_2 (r : Ref sig .tc) (h : r ∈ KC0) : A0_2 V (Proc.devRef .tc r) = V (Proc.devRef .tc r) := (kp0_2 V r (List.mem_append_left _ h)).trans (kq0_1 V r h)
def A0_3 : Valuation τ sig (Elt Ideal) := after while0Ops0_3 (A0_2 V)
theorem kp0_3 (r : Ref sig .tc) (h : r ∈ K0_3) : A0_3 V (Proc.devRef .tc r) = (A0_2 V) (Proc.devRef .tc r) := keep0_3 _ r h
theorem kq0_3 (r : Ref sig .tc) (h : r ∈ KC0) : A0_3 V (Proc.devRef .tc r) = V (Proc.devRef .tc r) := (kp0_3 V r (List.mem_append_left _ h)).trans (kq0_2 V r h)
def A0_4 : Valuation τ sig (Elt Ideal) := after while0Ops0_4 (A0_3 V)
theorem kp0_4 (r : Ref sig .tc) (h : r ∈ K0_4) : A0_4 V (Proc.devRef .tc r) = (A0_3 V) (Proc.devRef .tc r) := keep0_4 _ r h
theorem kq0_4 (r : Ref sig .tc) (h : r ∈ KC0) : A0_4 V (Proc.devRef .tc r) = V (Proc.devRef .tc r) := (kp0_4 V r (List.mem_append_left _ h)).trans (kq0_3 V r h)
def A0_5 : Valuation τ sig (Elt Ideal) := after while0Ops0_5 (A0_4 V)
theorem kp0_5 (r : Ref sig .tc) (h : r ∈ K0_5) : A0_5 V (Proc.devRef .tc r) = (A0_4 V) (Proc.devRef .tc r) := keep0_5 _ r h
theorem kq0_5 (r : Ref sig .tc) (h : r ∈ KC0) : A0_5 V (Proc.devRef .tc r) = V (Proc.devRef .tc r) := (kp0_5 V r (List.mem_append_left _ h)).trans (kq0_4 V r h)
def A0_6 : Valuation τ sig (Elt Ideal) := after while0Ops0_6 (A0_5 V)
theorem kp0_6 (r : Ref sig .tc) (h : r ∈ K0_6) : A0_6 V (Proc.devRef .tc r) = (A0_5 V) (Proc.devRef .tc r) := keep0_6 _ r h
theorem kq0_6 (r : Ref sig .tc) (h : r ∈ KC0) : A0_6 V (Proc.devRef .tc r) = V (Proc.devRef .tc r) := (kp0_6 V r (List.mem_append_left _ h)).trans (kq0_5 V r h)
def A0_7 : Valuation τ sig (Elt Ideal) := after while0Ops0_7 (A0_6 V)
theorem kp0_7 (r : Ref sig .tc) (h : r ∈ K0_7) : A0_7 V (Proc.devRef .tc r) = (A0_6 V) (Proc.devRef .tc r) := keep0_7 _ r h
theorem kq0_7 (r : Ref sig .tc) (h : r ∈ KC0) : A0_7 V (Proc.devRef .tc r) = V (Proc.devRef .tc r) := (kp0_7 V r (List.mem_append_left _ h)).trans (kq0_6 V r h)
def A0_8 : Valuation τ sig (Elt Ideal) := after while0Ops0_8 (A0_7 V)
theorem kp0_8 (r : Ref sig .tc) (h : r ∈ K0_8) : A0_8 V (Proc.devRef .tc r) = (A0_7 V) (Proc.devRef .tc r) := keep0_8 _ r h
theorem kq0_8 (r : Ref sig .tc) (h : r ∈ KC0) : A0_8 V (Proc.devRef .tc r) = V (Proc.devRef .tc r) := (kp0_8 V r (List.mem_append_left _ h)).trans (kq0_7 V r h)
def A0_9 : Valuation τ sig (Elt Ideal) := after while0Ops0_9 (A0_8 V)
theorem kp0_9 (r : Ref sig .tc) (h : r ∈ K0_9) : A0_9 V (Proc.devRef .tc r) = (A0_8 V) (Proc.devRef .tc r) := keep0_9 _ r h
theorem kq0_9 (r : Ref sig .tc) (h : r ∈ KC0) : A0_9 V (Proc.devRef .tc r) = V (Proc.devRef .tc r) := (kp0_9 V r (List.mem_append_left _ h)).trans (kq0_8 V r h)
def A0_10 : Valuation τ sig (Elt Ideal) := after while0Ops0_10 (A0_9 V)
theorem kp0_10 (r : Ref sig .tc) (h : r ∈ K0_10) : A0_10 V (Proc.devRef .tc r) = (A0_9 V) (Proc.devRef .tc r) := keep0_10 _ r h
theorem kq0_10 (r : Ref sig .tc) (h : r ∈ KC0) : A0_10 V (Proc.devRef .tc r) = V (Proc.devRef .tc r) := (kp0_10 V r (List.mem_append_left _ h)).trans (kq0_9 V r h)
def A0_11 : Valuation τ sig (Elt Ideal) := after while0Ops0_11 (A0_10 V)
theorem kp0_11 (r : Ref sig .tc) (h : r ∈ K0_11) : A0_11 V (Proc.devRef .tc r) = (A0_10 V) (Proc.devRef .tc r) := keep0_11 _ r h
theorem body0_eq : afterL body0I (after cond0Ops V) = A0_11 V := rfl

/-! The buffers after each stretch of loop 1's body. -/
def A1_0 : Valuation τ sig (Elt Ideal) := after while1Ops0 (after cond1Ops V)
theorem kp1_0 (r : Ref sig .tc) (h : r ∈ K1_0) : A1_0 V (Proc.devRef .tc r) = (after cond1Ops V) (Proc.devRef .tc r) := keep1_0 _ r h
theorem kq1_0 (r : Ref sig .tc) (h : r ∈ KC1) : A1_0 V (Proc.devRef .tc r) = V (Proc.devRef .tc r) := (kp1_0 V r (List.mem_append_left _ h)).trans (keepC1 V r h)
def A1_1 : Valuation τ sig (Elt Ideal) := after while1Ops0_1 (A1_0 V)
theorem kp1_1 (r : Ref sig .tc) (h : r ∈ K1_1) : A1_1 V (Proc.devRef .tc r) = (A1_0 V) (Proc.devRef .tc r) := keep1_1 _ r h
theorem kq1_1 (r : Ref sig .tc) (h : r ∈ KC1) : A1_1 V (Proc.devRef .tc r) = V (Proc.devRef .tc r) := (kp1_1 V r (List.mem_append_left _ h)).trans (kq1_0 V r h)
def A1_2 : Valuation τ sig (Elt Ideal) := after while1Ops0_2 (A1_1 V)
theorem kp1_2 (r : Ref sig .tc) (h : r ∈ K1_2) : A1_2 V (Proc.devRef .tc r) = (A1_1 V) (Proc.devRef .tc r) := keep1_2 _ r h
theorem kq1_2 (r : Ref sig .tc) (h : r ∈ KC1) : A1_2 V (Proc.devRef .tc r) = V (Proc.devRef .tc r) := (kp1_2 V r (List.mem_append_left _ h)).trans (kq1_1 V r h)
def A1_3 : Valuation τ sig (Elt Ideal) := after while1Ops0_3 (A1_2 V)
theorem kp1_3 (r : Ref sig .tc) (h : r ∈ K1_3) : A1_3 V (Proc.devRef .tc r) = (A1_2 V) (Proc.devRef .tc r) := keep1_3 _ r h
theorem kq1_3 (r : Ref sig .tc) (h : r ∈ KC1) : A1_3 V (Proc.devRef .tc r) = V (Proc.devRef .tc r) := (kp1_3 V r (List.mem_append_left _ h)).trans (kq1_2 V r h)
def A1_4 : Valuation τ sig (Elt Ideal) := after while1Ops0_4 (A1_3 V)
theorem kp1_4 (r : Ref sig .tc) (h : r ∈ K1_4) : A1_4 V (Proc.devRef .tc r) = (A1_3 V) (Proc.devRef .tc r) := keep1_4 _ r h
theorem kq1_4 (r : Ref sig .tc) (h : r ∈ KC1) : A1_4 V (Proc.devRef .tc r) = V (Proc.devRef .tc r) := (kp1_4 V r (List.mem_append_left _ h)).trans (kq1_3 V r h)
def A1_5 : Valuation τ sig (Elt Ideal) := after while1Ops0_5 (A1_4 V)
theorem kp1_5 (r : Ref sig .tc) (h : r ∈ K1_5) : A1_5 V (Proc.devRef .tc r) = (A1_4 V) (Proc.devRef .tc r) := keep1_5 _ r h
theorem kq1_5 (r : Ref sig .tc) (h : r ∈ KC1) : A1_5 V (Proc.devRef .tc r) = V (Proc.devRef .tc r) := (kp1_5 V r (List.mem_append_left _ h)).trans (kq1_4 V r h)
def A1_6 : Valuation τ sig (Elt Ideal) := after while1Ops0_6 (A1_5 V)
theorem kp1_6 (r : Ref sig .tc) (h : r ∈ K1_6) : A1_6 V (Proc.devRef .tc r) = (A1_5 V) (Proc.devRef .tc r) := keep1_6 _ r h
theorem kq1_6 (r : Ref sig .tc) (h : r ∈ KC1) : A1_6 V (Proc.devRef .tc r) = V (Proc.devRef .tc r) := (kp1_6 V r (List.mem_append_left _ h)).trans (kq1_5 V r h)
def A1_7 : Valuation τ sig (Elt Ideal) := after while1Ops0_7 (A1_6 V)
theorem kp1_7 (r : Ref sig .tc) (h : r ∈ K1_7) : A1_7 V (Proc.devRef .tc r) = (A1_6 V) (Proc.devRef .tc r) := keep1_7 _ r h
theorem kq1_7 (r : Ref sig .tc) (h : r ∈ KC1) : A1_7 V (Proc.devRef .tc r) = V (Proc.devRef .tc r) := (kp1_7 V r (List.mem_append_left _ h)).trans (kq1_6 V r h)
def A1_8 : Valuation τ sig (Elt Ideal) := after while1Ops0_8 (A1_7 V)
theorem kp1_8 (r : Ref sig .tc) (h : r ∈ K1_8) : A1_8 V (Proc.devRef .tc r) = (A1_7 V) (Proc.devRef .tc r) := keep1_8 _ r h
theorem kq1_8 (r : Ref sig .tc) (h : r ∈ KC1) : A1_8 V (Proc.devRef .tc r) = V (Proc.devRef .tc r) := (kp1_8 V r (List.mem_append_left _ h)).trans (kq1_7 V r h)
def A1_9 : Valuation τ sig (Elt Ideal) := after while1Ops0_9 (A1_8 V)
theorem kp1_9 (r : Ref sig .tc) (h : r ∈ K1_9) : A1_9 V (Proc.devRef .tc r) = (A1_8 V) (Proc.devRef .tc r) := keep1_9 _ r h
theorem kq1_9 (r : Ref sig .tc) (h : r ∈ KC1) : A1_9 V (Proc.devRef .tc r) = V (Proc.devRef .tc r) := (kp1_9 V r (List.mem_append_left _ h)).trans (kq1_8 V r h)
def A1_10 : Valuation τ sig (Elt Ideal) := after while1Ops0_10 (A1_9 V)
theorem kp1_10 (r : Ref sig .tc) (h : r ∈ K1_10) : A1_10 V (Proc.devRef .tc r) = (A1_9 V) (Proc.devRef .tc r) := keep1_10 _ r h
theorem kq1_10 (r : Ref sig .tc) (h : r ∈ KC1) : A1_10 V (Proc.devRef .tc r) = V (Proc.devRef .tc r) := (kp1_10 V r (List.mem_append_left _ h)).trans (kq1_9 V r h)
def A1_11 : Valuation τ sig (Elt Ideal) := after while1Ops0_11 (A1_10 V)
theorem kp1_11 (r : Ref sig .tc) (h : r ∈ K1_11) : A1_11 V (Proc.devRef .tc r) = (A1_10 V) (Proc.devRef .tc r) := keep1_11 _ r h
theorem kq1_11 (r : Ref sig .tc) (h : r ∈ KC1) : A1_11 V (Proc.devRef .tc r) = V (Proc.devRef .tc r) := (kp1_11 V r (List.mem_append_left _ h)).trans (kq1_10 V r h)
def A1_12 : Valuation τ sig (Elt Ideal) := after while1Ops0_12 (A1_11 V)
theorem kp1_12 (r : Ref sig .tc) (h : r ∈ K1_12) : A1_12 V (Proc.devRef .tc r) = (A1_11 V) (Proc.devRef .tc r) := keep1_12 _ r h
theorem kq1_12 (r : Ref sig .tc) (h : r ∈ KC1) : A1_12 V (Proc.devRef .tc r) = V (Proc.devRef .tc r) := (kp1_12 V r (List.mem_append_left _ h)).trans (kq1_11 V r h)
def A1_13 : Valuation τ sig (Elt Ideal) := after while1Ops0_13 (A1_12 V)
theorem kp1_13 (r : Ref sig .tc) (h : r ∈ K1_13) : A1_13 V (Proc.devRef .tc r) = (A1_12 V) (Proc.devRef .tc r) := keep1_13 _ r h
theorem kq1_13 (r : Ref sig .tc) (h : r ∈ KC1) : A1_13 V (Proc.devRef .tc r) = V (Proc.devRef .tc r) := (kp1_13 V r (List.mem_append_left _ h)).trans (kq1_12 V r h)
def A1_14 : Valuation τ sig (Elt Ideal) := after while1Ops0_14 (A1_13 V)
theorem kp1_14 (r : Ref sig .tc) (h : r ∈ K1_14) : A1_14 V (Proc.devRef .tc r) = (A1_13 V) (Proc.devRef .tc r) := keep1_14 _ r h
theorem kq1_14 (r : Ref sig .tc) (h : r ∈ KC1) : A1_14 V (Proc.devRef .tc r) = V (Proc.devRef .tc r) := (kp1_14 V r (List.mem_append_left _ h)).trans (kq1_13 V r h)
def A1_15 : Valuation τ sig (Elt Ideal) := after while1Ops0_15 (A1_14 V)
theorem kp1_15 (r : Ref sig .tc) (h : r ∈ K1_15) : A1_15 V (Proc.devRef .tc r) = (A1_14 V) (Proc.devRef .tc r) := keep1_15 _ r h
theorem kq1_15 (r : Ref sig .tc) (h : r ∈ KC1) : A1_15 V (Proc.devRef .tc r) = V (Proc.devRef .tc r) := (kp1_15 V r (List.mem_append_left _ h)).trans (kq1_14 V r h)
def A1_16 : Valuation τ sig (Elt Ideal) := after while1Ops0_16 (A1_15 V)
theorem kp1_16 (r : Ref sig .tc) (h : r ∈ K1_16) : A1_16 V (Proc.devRef .tc r) = (A1_15 V) (Proc.devRef .tc r) := keep1_16 _ r h
theorem body1_eq : afterL body1I (after cond1Ops V) = A1_16 V := rfl

/-- What the buffers hold before loop 0's chunk number `k`. -/
structure Inv0 (D : Chunks) (k : ℕ) (V : Valuation τ sig (Elt Ideal)) : Prop where
  qd : ∀ (n : Fin 128) (h : Fin 8) (i : Fin 64) (j : Fin 128), (V (Proc.devRef .tc main_v20_0) : Vec Ideal S128x8x64x128 .f32) (ix4 n h i j) = D.qd n.val h i j
  kd : ∀ (n : Fin 128) (h : Fin 8) (i : Fin 64) (j : Fin 128), (V (Proc.devRef .tc main_v20_1) : Vec Ideal S128x8x64x128 .f32) (ix4 n h i j) = D.kd n.val h i j
  u : ∀ (n : Fin 128) (h : Fin 8) (i : Fin 64) (j : Fin 128), (V (Proc.devRef .tc main_v20_2) : Vec Ideal S128x8x64x128 .f32) (ix4 n h i j) = D.u n.val h i j
  w : ∀ (n : Fin 128) (h : Fin 8) (i : Fin 64) (j : Fin 128), (V (Proc.devRef .tc main_v20_3) : Vec Ideal S128x8x64x128 .f32) (ix4 n h i j) = D.w n.val h i j
  a : ∀ (n : Fin 128) (h : Fin 8) (i : Fin 64) (j : Fin 64), (V (Proc.devRef .tc main_v20_4) : Vec Ideal S128x8x64x64 .f32) (ix4 n h i j) = D.a n.val h i j
  g : ∀ (n : Fin 128) (h : Fin 8), (V (Proc.devRef .tc main_v20_5) : Vec Ideal S128x8 .f32) (ix2 n h) = D.g n.val h
  qd' : ∀ (n : Fin 128) (h : Fin 8) (i : Fin 64) (j : Fin 128), (V (Proc.devRef .tc main_v2) : Vec Ideal S128x8x64x128 .f32) (ix4 n h i j) = D.qd n.val h i j
  kd' : ∀ (n : Fin 128) (h : Fin 8) (i : Fin 64) (j : Fin 128), (V (Proc.devRef .tc main_v5) : Vec Ideal S128x8x64x128 .f32) (ix4 n h i j) = D.kd n.val h i j
  w' : ∀ (n : Fin 128) (h : Fin 8) (i : Fin 64) (j : Fin 128), (V (Proc.devRef .tc main_v10) : Vec Ideal S128x8x64x128 .f32) (ix4 n h i j) = D.w n.val h i j
  a' : ∀ (n : Fin 128) (h : Fin 8) (i : Fin 64) (j : Fin 64), (V (Proc.devRef .tc main_v13) : Vec Ideal S128x8x64x64 .f32) (ix4 n h i j) = D.a n.val h i j
  ctr : V (Proc.devRef .tc main_v20_6) = fun _ => BitVec.ofNat 32 k
  cur : ∀ (h : Fin 8) (i j : Fin 128), (V (Proc.devRef .tc main_v20_7) : Vec Ideal S8x128x128 .f32) (ix3 h i j) = st D k h i j
  oo : ∀ (n : Fin 128), n.val < k → ∀ (h : Fin 8) (i : Fin 64) (j : Fin 128), (V (Proc.devRef .tc main_v20_8) : Vec Ideal S128x8x64x128 .f32) (ix4 n h i j) = outc D n.val h i j
  svo : ∀ (n : Fin 128), n.val < k → ∀ (h : Fin 8) (i : Fin 128) (j : Fin 128), (V (Proc.devRef .tc main_v20_9) : Vec Ideal S128x8x128x128 .f32) (ix4 n h i j) = st D n.val h i j
  vno : ∀ (n : Fin 128), n.val < k → ∀ (h : Fin 8) (i : Fin 64) (j : Fin 128), (V (Proc.devRef .tc main_v20_10) : Vec Ideal S128x8x64x128 .f32) (ix4 n h i j) = vnew (st D n.val) (D.w n.val) (D.u n.val) h i j
  ggo : ∀ (n : Fin 128), n.val < k → ∀ (h : Fin 8), (V (Proc.devRef .tc main_v20_11) : Vec Ideal S128x8x1x1 .f32) (ix4 n h 0 0) = D.g n.val h

theorem cp0_0 : A0_11 V (Proc.devRef .tc main_v20_7) = A0_10 V (Proc.devRef .tc main_while0b_v68) := by
  show after while0Ops0_11 (A0_10 V) _ = _
  generalize A0_10 V = W
  after_results
  rfl
theorem cp0_1 : A0_11 V (Proc.devRef .tc main_v20_8) = A0_10 V (Proc.devRef .tc main_while0b_v69) := by
  show after while0Ops0_11 (A0_10 V) _ = _
  generalize A0_10 V = W
  after_results
  rfl
theorem cp0_2 : A0_11 V (Proc.devRef .tc main_v20_9) = A0_10 V (Proc.devRef .tc main_while0b_v70) := by
  show after while0Ops0_11 (A0_10 V) _ = _
  generalize A0_10 V = W
  after_results
  rfl
theorem cp0_3 : A0_11 V (Proc.devRef .tc main_v20_10) = A0_10 V (Proc.devRef .tc main_while0b_v71) := by
  show after while0Ops0_11 (A0_10 V) _ = _
  generalize A0_10 V = W
  after_results
  rfl
theorem cp0_4 : A0_11 V (Proc.devRef .tc main_v20_11) = A0_10 V (Proc.devRef .tc main_while0b_v72) := by
  show after while0Ops0_11 (A0_10 V) _ = _
  generalize A0_10 V = W
  after_results
  rfl

section
variable {V} {D : Chunks} {k : ℕ} (hk : k < 128) (I : Inv0 D k V)
include hk I

theorem ct0_0 : (after cond0Ops V) (Proc.devRef .tc main_v20_6) = fun _ => BitVec.ofNat 32 (⟨k, hk⟩ : Fin 128).val := by
  rw [keepC0 _ main_v20_6 (mm 6 rfl)]; exact I.ctr
theorem ct0_1 : (A0_0 V) (Proc.devRef .tc main_v20_6) = fun _ => BitVec.ofNat 32 (⟨k, hk⟩ : Fin 128).val := by
  rw [kq0_0 _ main_v20_6 (mm 6 rfl)]; exact I.ctr
theorem ct0_2 : (A0_1 V) (Proc.devRef .tc main_v20_6) = fun _ => BitVec.ofNat 32 (⟨k, hk⟩ : Fin 128).val := by
  rw [kq0_1 _ main_v20_6 (mm 6 rfl)]; exact I.ctr
theorem ct0_3 : (A0_2 V) (Proc.devRef .tc main_v20_6) = fun _ => BitVec.ofNat 32 (⟨k, hk⟩ : Fin 128).val := by
  rw [kq0_2 _ main_v20_6 (mm 6 rfl)]; exact I.ctr
theorem ct0_4 : (A0_3 V) (Proc.devRef .tc main_v20_6) = fun _ => BitVec.ofNat 32 (⟨k, hk⟩ : Fin 128).val := by
  rw [kq0_3 _ main_v20_6 (mm 6 rfl)]; exact I.ctr
theorem ct0_5 : (A0_4 V) (Proc.devRef .tc main_v20_6) = fun _ => BitVec.ofNat 32 (⟨k, hk⟩ : Fin 128).val := by
  rw [kq0_4 _ main_v20_6 (mm 6 rfl)]; exact I.ctr
theorem ct0_6 : (A0_5 V) (Proc.devRef .tc main_v20_6) = fun _ => BitVec.ofNat 32 (⟨k, hk⟩ : Fin 128).val := by
  rw [kq0_5 _ main_v20_6 (mm 6 rfl)]; exact I.ctr
theorem ct0_7 : (A0_6 V) (Proc.devRef .tc main_v20_6) = fun _ => BitVec.ofNat 32 (⟨k, hk⟩ : Fin 128).val := by
  rw [kq0_6 _ main_v20_6 (mm 6 rfl)]; exact I.ctr
theorem ct0_8 : (A0_7 V) (Proc.devRef .tc main_v20_6) = fun _ => BitVec.ofNat 32 (⟨k, hk⟩ : Fin 128).val := by
  rw [kq0_7 _ main_v20_6 (mm 6 rfl)]; exact I.ctr
theorem ct0_9 : (A0_8 V) (Proc.devRef .tc main_v20_6) = fun _ => BitVec.ofNat 32 (⟨k, hk⟩ : Fin 128).val := by
  rw [kq0_8 _ main_v20_6 (mm 6 rfl)]; exact I.ctr
theorem ct0_10 : (A0_9 V) (Proc.devRef .tc main_v20_6) = fun _ => BitVec.ofNat 32 (⟨k, hk⟩ : Fin 128).val := by
  rw [kq0_9 _ main_v20_6 (mm 6 rfl)]; exact I.ctr
theorem see0 : See0 (A0_5 V) (st D k) (D.w k) (D.u k) (D.qd k) (D.kd k) (D.a k) (D.g k) where
  S h i j := by rw [kq0_5 _ main_v20_7 (mm 7 rfl)]; exact I.cur h i j
  qd h i j := by
    rw [kp0_5 _ _ (mm 16 rfl), kp0_4 _ _ (mm 16 rfl), kp0_3 _ _ (mm 16 rfl), kp0_2 _ _ (mm 16 rfl), kp0_1 _ _ (mm 16 rfl)]; refine (take0_0 _ _ (ct0_0 hk I) h i j).trans ?_
    rw [keepC0 _ main_v20_0 (mm 0 rfl)]; exact I.qd ⟨k, hk⟩ h i j
  kd h i j := by
    rw [kp0_5 _ _ (mm 17 rfl), kp0_4 _ _ (mm 17 rfl), kp0_3 _ _ (mm 17 rfl), kp0_2 _ _ (mm 17 rfl)]; refine (take0_1 _ _ (ct0_1 hk I) h i j).trans ?_
    rw [kq0_0 _ main_v20_1 (mm 1 rfl)]; exact I.kd ⟨k, hk⟩ h i j
  u h i j := by
    rw [kp0_5 _ _ (mm 18 rfl), kp0_4 _ _ (mm 18 rfl), kp0_3 _ _ (mm 18 rfl)]; refine (take0_2 _ _ (ct0_2 hk I) h i j).trans ?_
    rw [kq0_1 _ main_v20_2 (mm 2 rfl)]; exact I.u ⟨k, hk⟩ h i j
  w h i j := by
    rw [kp0_5 _ _ (mm 19 rfl), kp0_4 _ _ (mm 19 rfl)]; refine (take0_3 _ _ (ct0_3 hk I) h i j).trans ?_
    rw [kq0_2 _ main_v20_3 (mm 3 rfl)]; exact I.w ⟨k, hk⟩ h i j
  a h i j := by
    rw [kp0_5 _ _ (mm 20 rfl)]; refine (take0_4 _ _ (ct0_4 hk I) h i j).trans ?_
    rw [kq0_3 _ main_v20_4 (mm 4 rfl)]; exact I.a ⟨k, hk⟩ h i j
  g h := by
    refine (take0_5 _ _ (ct0_5 hk I) h).trans ?_
    rw [kq0_4 _ main_v20_5 (mm 5 rfl)]; exact I.g ⟨k, hk⟩ h

theorem new0_o (n : Fin 128) (hn : n.val < (k + 1)) (h : Fin 8) (i : Fin 64) (j : Fin 128) : ((A0_11 V) (Proc.devRef .tc main_v20_8) : Vec Ideal S128x8x64x128 .f32) (ix4 n h i j) = outc D n.val h i j := by
  rw [cp0_1]
  rw [kp0_10 _ _ (mm 26 rfl), kp0_9 _ _ (mm 26 rfl), kp0_8 _ _ (mm 26 rfl)];
  refine (put0_7 _ _ (ct0_7 hk I) n h i j).trans ?_
  by_cases e : n = ⟨k, hk⟩
  · rw [if_pos e]
    subst e
    refine (out0 (see0 hk I) h i j).trans ?_
    rfl
  · rw [if_neg e]
    have hl : n.val < k := by
      have : n.val ≠ (⟨k, hk⟩ : Fin 128).val := fun x => e (Fin.ext x)
      have : n.val ≠ k := this
      omega
    rw [kq0_6 _ main_v20_8 (mm 8 rfl)]; exact I.oo n hl h i j
theorem new0_sv (n : Fin 128) (hn : n.val < (k + 1)) (h : Fin 8) (i : Fin 128) (j : Fin 128) : ((A0_11 V) (Proc.devRef .tc main_v20_9) : Vec Ideal S128x8x128x128 .f32) (ix4 n h i j) = st D n.val h i j := by
  rw [cp0_2]
  rw [kp0_10 _ _ (mm 27 rfl), kp0_9 _ _ (mm 27 rfl)];
  refine (put0_8 _ _ (ct0_8 hk I) n h i j).trans ?_
  by_cases e : n = ⟨k, hk⟩
  · rw [if_pos e]
    subst e
    rw [kq0_7 _ main_v20_7 (mm 7 rfl)]; exact I.cur h i j
  · rw [if_neg e]
    have hl : n.val < k := by
      have : n.val ≠ (⟨k, hk⟩ : Fin 128).val := fun x => e (Fin.ext x)
      have : n.val ≠ k := this
      omega
    rw [kq0_7 _ main_v20_9 (mm 9 rfl)]; exact I.svo n hl h i j
theorem new0_vn (n : Fin 128) (hn : n.val < (k + 1)) (h : Fin 8) (i : Fin 64) (j : Fin 128) : ((A0_11 V) (Proc.devRef .tc main_v20_10) : Vec Ideal S128x8x64x128 .f32) (ix4 n h i j) = vnew (st D n.val) (D.w n.val) (D.u n.val) h i j := by
  rw [cp0_3]
  rw [kp0_10 _ _ (mm 28 rfl)];
  refine (put0_9 _ _ (ct0_9 hk I) n h i j).trans ?_
  by_cases e : n = ⟨k, hk⟩
  · rw [if_pos e]
    subst e
    rw [kp0_8 _ _ (mm 22 rfl), kp0_7 _ _ (mm 22 rfl)]; refine (vn0 (see0 hk I) h i j).trans ?_
    rfl
  · rw [if_neg e]
    have hl : n.val < k := by
      have : n.val ≠ (⟨k, hk⟩ : Fin 128).val := fun x => e (Fin.ext x)
      have : n.val ≠ k := this
      omega
    rw [kq0_8 _ main_v20_10 (mm 10 rfl)]; exact I.vno n hl h i j
theorem new0_gg (n : Fin 128) (hn : n.val < (k + 1)) (h : Fin 8) : ((A0_11 V) (Proc.devRef .tc main_v20_11) : Vec Ideal S128x8x1x1 .f32) (ix4 n h 0 0) = D.g n.val h := by
  rw [cp0_4]

  refine (put0_10 _ _ (ct0_10 hk I) n h 0 0).trans ?_
  by_cases e : n = ⟨k, hk⟩
  · rw [if_pos e]
    subst e
    rw [kp0_9 _ _ (mm 24 rfl), kp0_8 _ _ (mm 24 rfl), kp0_7 _ _ (mm 24 rfl)]; refine (gain0 (see0 hk I) h 0 0).trans ?_
    rfl
  · rw [if_neg e]
    have hl : n.val < k := by
      have : n.val ≠ (⟨k, hk⟩ : Fin 128).val := fun x => e (Fin.ext x)
      have : n.val ≠ k := this
      omega
    rw [kq0_9 _ main_v20_11 (mm 11 rfl)]; exact I.ggo n hl h

theorem inv0_step : Inv0 D (k + 1) (afterL body0I (after cond0Ops V)) := by
  rw [body0_eq]
  exact {
    qd := fun n h i j => by rw [kp0_11 _ _ (mm 0 rfl), kq0_10 _ main_v20_0 (mm 0 rfl)]; exact I.qd n h i j
    kd := fun n h i j => by rw [kp0_11 _ _ (mm 1 rfl), kq0_10 _ main_v20_1 (mm 1 rfl)]; exact I.kd n h i j
    u := fun n h i j => by rw [kp0_11 _ _ (mm 2 rfl), kq0_10 _ main_v20_2 (mm 2 rfl)]; exact I.u n h i j
    w := fun n h i j => by rw [kp0_11 _ _ (mm 3 rfl), kq0_10 _ main_v20_3 (mm 3 rfl)]; exact I.w n h i j
    a := fun n h i j => by rw [kp0_11 _ _ (mm 4 rfl), kq0_10 _ main_v20_4 (mm 4 rfl)]; exact I.a n h i j
    g := fun n h => by rw [kp0_11 _ _ (mm 5 rfl), kq0_10 _ main_v20_5 (mm 5 rfl)]; exact I.g n h
    qd' := fun n h i j => by rw [kp0_11 _ _ (mm 6 rfl), kq0_10 _ main_v2 (mm 12 rfl)]; exact I.qd' n h i j
    kd' := fun n h i j => by rw [kp0_11 _ _ (mm 7 rfl), kq0_10 _ main_v5 (mm 13 rfl)]; exact I.kd' n h i j
    w' := fun n h i j => by rw [kp0_11 _ _ (mm 8 rfl), kq0_10 _ main_v10 (mm 14 rfl)]; exact I.w' n h i j
    a' := fun n h i j => by rw [kp0_11 _ _ (mm 9 rfl), kq0_10 _ main_v13 (mm 15 rfl)]; exact I.a' n h i j
    ctr := by
      show after while0Ops0_11 (A0_10 V) _ = _
      rw [ctr0_step]
      rw [kq0_10 _ main_v20_6 (mm 6 rfl)]; rw [I.ctr]
      funext _
      exact ((by decide +kernel : ∀ k : Fin 128, BitVec.ofNat 32 k.val + 1#32 = BitVec.ofNat 32 (k.val + 1)) ⟨k, hk⟩)
    cur := fun h i j => by
      rw [cp0_0]; rw [kp0_10 _ _ (mm 25 rfl), kp0_9 _ _ (mm 25 rfl), kp0_8 _ _ (mm 25 rfl), kp0_7 _ _ (mm 25 rfl)]; exact next0 (see0 hk I) h i j
    oo := fun n hn => new0_o hk I n hn
    svo := fun n hn => new0_sv hk I n hn
    vno := fun n hn => new0_vn hk I n hn
    ggo := fun n hn => new0_gg hk I n hn }

end
/-- What the buffers hold before loop 1's chunk number `k`. -/
structure Inv1 (D : Chunks) (k : ℕ) (V : Valuation τ sig (Elt Ideal)) : Prop where
  do' : ∀ (n : Fin 128) (h : Fin 8) (i : Fin 64) (j : Fin 128), (V (Proc.devRef .tc main_v34_0) : Vec Ideal S128x8x64x128 .f32) (ix4 n h i j) = D.do' n.val h i j
  S : ∀ (n : Fin 128) (h : Fin 8) (i : Fin 128) (j : Fin 128), (V (Proc.devRef .tc main_v34_1) : Vec Ideal S128x8x128x128 .f32) (ix4 n h i j) = st D n.val h i j
  w : ∀ (n : Fin 128) (h : Fin 8) (i : Fin 64) (j : Fin 128), (V (Proc.devRef .tc main_v34_2) : Vec Ideal S128x8x64x128 .f32) (ix4 n h i j) = D.w n.val h i j
  qd : ∀ (n : Fin 128) (h : Fin 8) (i : Fin 64) (j : Fin 128), (V (Proc.devRef .tc main_v34_3) : Vec Ideal S128x8x64x128 .f32) (ix4 n h i j) = D.qd n.val h i j
  vn : ∀ (n : Fin 128) (h : Fin 8) (i : Fin 64) (j : Fin 128), (V (Proc.devRef .tc main_v34_4) : Vec Ideal S128x8x64x128 .f32) (ix4 n h i j) = vnew (st D n.val) (D.w n.val) (D.u n.val) h i j
  a : ∀ (n : Fin 128) (h : Fin 8) (i : Fin 64) (j : Fin 64), (V (Proc.devRef .tc main_v34_5) : Vec Ideal S128x8x64x64 .f32) (ix4 n h i j) = D.a n.val h i j
  g : ∀ (n : Fin 128) (h : Fin 8), (V (Proc.devRef .tc main_v34_6) : Vec Ideal S128x8x1x1 .f32) (ix4 n h 0 0) = D.g n.val h
  kd : ∀ (n : Fin 128) (h : Fin 8) (i : Fin 64) (j : Fin 128), (V (Proc.devRef .tc main_v34_7) : Vec Ideal S128x8x64x128 .f32) (ix4 n h i j) = D.kd n.val h i j
  ctr : V (Proc.devRef .tc main_v34_8) = fun _ => BitVec.ofNat 32 k
  cur : ∀ (h : Fin 8) (i j : Fin 128), (V (Proc.devRef .tc main_v34_9) : Vec Ideal S8x128x128 .f32) (ix3 h i j) = dst D k h i j
  dqo : ∀ (n : Fin 128), 128 ≤ n.val + k → ∀ (h : Fin 8) (i : Fin 64) (j : Fin 128), (V (Proc.devRef .tc main_v34_10) : Vec Ideal S128x8x64x128 .f32) (ix4 n h i j) = dqc D n.val h i j
  dko : ∀ (n : Fin 128), 128 ≤ n.val + k → ∀ (h : Fin 8) (i : Fin 64) (j : Fin 128), (V (Proc.devRef .tc main_v34_11) : Vec Ideal S128x8x64x128 .f32) (ix4 n h i j) = dkc D n.val h i j
  duo : ∀ (n : Fin 128), 128 ≤ n.val + k → ∀ (h : Fin 8) (i : Fin 64) (j : Fin 128), (V (Proc.devRef .tc main_v34_12) : Vec Ideal S128x8x64x128 .f32) (ix4 n h i j) = duc D n.val h i j
  dwo : ∀ (n : Fin 128), 128 ≤ n.val + k → ∀ (h : Fin 8) (i : Fin 64) (j : Fin 128), (V (Proc.devRef .tc main_v34_13) : Vec Ideal S128x8x64x128 .f32) (ix4 n h i j) = dwc D n.val h i j
  dao : ∀ (n : Fin 128), 128 ≤ n.val + k → ∀ (h : Fin 8) (i : Fin 64) (j : Fin 64), (V (Proc.devRef .tc main_v34_14) : Vec Ideal S128x8x64x64 .f32) (ix4 n h i j) = dac D n.val h i j
  dgo : ∀ (n : Fin 128), 128 ≤ n.val + k → ∀ (h : Fin 8), (V (Proc.devRef .tc main_v34_15) : Vec Ideal S128x8 .f32) (ix2 n h) = dgc D n.val h

theorem cp1_0 : A1_16 V (Proc.devRef .tc main_v34_9) = A1_15 V (Proc.devRef .tc main_while1b_v84) := by
  show after while1Ops0_16 (A1_15 V) _ = _
  generalize A1_15 V = W
  after_results
  rfl
theorem cp1_1 : A1_16 V (Proc.devRef .tc main_v34_10) = A1_15 V (Proc.devRef .tc main_while1b_v86) := by
  show after while1Ops0_16 (A1_15 V) _ = _
  generalize A1_15 V = W
  after_results
  rfl
theorem cp1_2 : A1_16 V (Proc.devRef .tc main_v34_11) = A1_15 V (Proc.devRef .tc main_while1b_v87) := by
  show after while1Ops0_16 (A1_15 V) _ = _
  generalize A1_15 V = W
  after_results
  rfl
theorem cp1_3 : A1_16 V (Proc.devRef .tc main_v34_12) = A1_15 V (Proc.devRef .tc main_while1b_v88) := by
  show after while1Ops0_16 (A1_15 V) _ = _
  generalize A1_15 V = W
  after_results
  rfl
theorem cp1_4 : A1_16 V (Proc.devRef .tc main_v34_13) = A1_15 V (Proc.devRef .tc main_while1b_v89) := by
  show after while1Ops0_16 (A1_15 V) _ = _
  generalize A1_15 V = W
  after_results
  rfl
theorem cp1_5 : A1_16 V (Proc.devRef .tc main_v34_14) = A1_15 V (Proc.devRef .tc main_while1b_v90) := by
  show after while1Ops0_16 (A1_15 V) _ = _
  generalize A1_15 V = W
  after_results
  rfl
theorem cp1_6 : A1_16 V (Proc.devRef .tc main_v34_15) = A1_15 V (Proc.devRef .tc main_while1b_v91) := by
  show after while1Ops0_16 (A1_15 V) _ = _
  generalize A1_15 V = W
  after_results
  rfl

section
variable {V} {D : Chunks} {k : ℕ} (hk : k < 128) (I : Inv1 D k V)
include hk I

theorem ct1_1 : A1_0 V (Proc.devRef .tc main_while1b_v54) = fun _ => BitVec.ofNat 32 (⟨127 - k, lt127 k⟩ : Fin 128).val := by
  have e : A1_0 V (Proc.devRef .tc main_while1b_v54) = subi (subi (constantI S_ 32 128#32) (after cond1Ops V (Proc.devRef .tc main_v34_8))) (constantI S_ 32 1#32) := by
    show after while1Ops0 (after cond1Ops V) _ = _
    generalize after cond1Ops V = W
    after_results
  rw [e, keepC1 _ main_v34_8 (mm 8 rfl), I.ctr]
  funext _
  have hh := (by decide +kernel : ∀ k : Fin 128, (128#32 - BitVec.ofNat 32 k.val) - 1#32 = BitVec.ofNat 32 (127 - k.val)) ⟨k, hk⟩
  exact hh
theorem ct1_2 : (A1_1 V) (Proc.devRef .tc main_while1b_v54) = fun _ => BitVec.ofNat 32 (⟨127 - k, lt127 k⟩ : Fin 128).val := by
  rw [kp1_1 _ _ (mm 17 rfl)]; exact ct1_1 hk I
theorem ct1_3 : (A1_2 V) (Proc.devRef .tc main_while1b_v54) = fun _ => BitVec.ofNat 32 (⟨127 - k, lt127 k⟩ : Fin 128).val := by
  rw [kp1_2 _ _ (mm 17 rfl)]; exact ct1_2 hk I
theorem ct1_4 : (A1_3 V) (Proc.devRef .tc main_while1b_v54) = fun _ => BitVec.ofNat 32 (⟨127 - k, lt127 k⟩ : Fin 128).val := by
  rw [kp1_3 _ _ (mm 17 rfl)]; exact ct1_3 hk I
theorem ct1_5 : (A1_4 V) (Proc.devRef .tc main_while1b_v54) = fun _ => BitVec.ofNat 32 (⟨127 - k, lt127 k⟩ : Fin 128).val := by
  rw [kp1_4 _ _ (mm 17 rfl)]; exact ct1_4 hk I
theorem ct1_6 : (A1_5 V) (Proc.devRef .tc main_while1b_v54) = fun _ => BitVec.ofNat 32 (⟨127 - k, lt127 k⟩ : Fin 128).val := by
  rw [kp1_5 _ _ (mm 17 rfl)]; exact ct1_5 hk I
theorem ct1_7 : (A1_6 V) (Proc.devRef .tc main_while1b_v54) = fun _ => BitVec.ofNat 32 (⟨127 - k, lt127 k⟩ : Fin 128).val := by
  rw [kp1_6 _ _ (mm 17 rfl)]; exact ct1_6 hk I
theorem ct1_8 : (A1_7 V) (Proc.devRef .tc main_while1b_v54) = fun _ => BitVec.ofNat 32 (⟨127 - k, lt127 k⟩ : Fin 128).val := by
  rw [kp1_7 _ _ (mm 17 rfl)]; exact ct1_7 hk I
theorem ct1_9 : (A1_8 V) (Proc.devRef .tc main_while1b_v54) = fun _ => BitVec.ofNat 32 (⟨127 - k, lt127 k⟩ : Fin 128).val := by
  rw [kp1_8 _ _ (mm 17 rfl)]; exact ct1_8 hk I
theorem ct1_10 : (A1_9 V) (Proc.devRef .tc main_while1b_v54) = fun _ => BitVec.ofNat 32 (⟨127 - k, lt127 k⟩ : Fin 128).val := by
  rw [kp1_9 _ _ (mm 17 rfl)]; exact ct1_9 hk I
theorem ct1_11 : (A1_10 V) (Proc.devRef .tc main_while1b_v54) = fun _ => BitVec.ofNat 32 (⟨127 - k, lt127 k⟩ : Fin 128).val := by
  rw [kp1_10 _ _ (mm 17 rfl)]; exact ct1_10 hk I
theorem ct1_12 : (A1_11 V) (Proc.devRef .tc main_while1b_v54) = fun _ => BitVec.ofNat 32 (⟨127 - k, lt127 k⟩ : Fin 128).val := by
  rw [kp1_11 _ _ (mm 17 rfl)]; exact ct1_11 hk I
theorem ct1_13 : (A1_12 V) (Proc.devRef .tc main_while1b_v54) = fun _ => BitVec.ofNat 32 (⟨127 - k, lt127 k⟩ : Fin 128).val := by
  rw [kp1_12 _ _ (mm 17 rfl)]; exact ct1_12 hk I
theorem ct1_14 : (A1_13 V) (Proc.devRef .tc main_while1b_v54) = fun _ => BitVec.ofNat 32 (⟨127 - k, lt127 k⟩ : Fin 128).val := by
  rw [kp1_13 _ _ (mm 17 rfl)]; exact ct1_13 hk I
theorem ct1_15 : (A1_14 V) (Proc.devRef .tc main_while1b_v54) = fun _ => BitVec.ofNat 32 (⟨127 - k, lt127 k⟩ : Fin 128).val := by
  rw [kp1_14 _ _ (mm 17 rfl)]; exact ct1_14 hk I
theorem see1 : See1 (A1_8 V) (dst D k) (D.do' (127 - k)) (st D (127 - k)) (D.w (127 - k)) (D.qd (127 - k)) (vnew (st D (127 - k)) (D.w (127 - k)) (D.u (127 - k))) (D.a (127 - k)) (D.kd (127 - k)) (D.g (127 - k)) where
  dS h i j := by rw [kq1_8 _ main_v34_9 (mm 9 rfl)]; exact I.cur h i j
  do' h i j := by
    rw [kp1_8 _ _ (mm 18 rfl), kp1_7 _ _ (mm 18 rfl), kp1_6 _ _ (mm 18 rfl), kp1_5 _ _ (mm 18 rfl), kp1_4 _ _ (mm 18 rfl), kp1_3 _ _ (mm 18 rfl), kp1_2 _ _ (mm 18 rfl)]; refine (take1_1 _ _ (ct1_1 hk I) h i j).trans ?_
    rw [kq1_0 _ main_v34_0 (mm 0 rfl)]; exact I.do' ⟨127 - k, lt127 k⟩ h i j
  S h i j := by
    rw [kp1_8 _ _ (mm 19 rfl), kp1_7 _ _ (mm 19 rfl), kp1_6 _ _ (mm 19 rfl), kp1_5 _ _ (mm 19 rfl), kp1_4 _ _ (mm 19 rfl), kp1_3 _ _ (mm 19 rfl)]; refine (take1_2 _ _ (ct1_2 hk I) h i j).trans ?_
    rw [kq1_1 _ main_v34_1 (mm 1 rfl)]; exact I.S ⟨127 - k, lt127 k⟩ h i j
  w h i j := by
    rw [kp1_8 _ _ (mm 20 rfl), kp1_7 _ _ (mm 20 rfl), kp1_6 _ _ (mm 20 rfl), kp1_5 _ _ (mm 20 rfl), kp1_4 _ _ (mm 20 rfl)]; refine (take1_3 _ _ (ct1_3 hk I) h i j).trans ?_
    rw [kq1_2 _ main_v34_2 (mm 2 rfl)]; exact I.w ⟨127 - k, lt127 k⟩ h i j
  qd h i j := by
    rw [kp1_8 _ _ (mm 21 rfl), kp1_7 _ _ (mm 21 rfl), kp1_6 _ _ (mm 21 rfl), kp1_5 _ _ (mm 21 rfl)]; refine (take1_4 _ _ (ct1_4 hk I) h i j).trans ?_
    rw [kq1_3 _ main_v34_3 (mm 3 rfl)]; exact I.qd ⟨127 - k, lt127 k⟩ h i j
  vn h i j := by
    rw [kp1_8 _ _ (mm 22 rfl), kp1_7 _ _ (mm 22 rfl), kp1_6 _ _ (mm 22 rfl)]; refine (take1_5 _ _ (ct1_5 hk I) h i j).trans ?_
    rw [kq1_4 _ main_v34_4 (mm 4 rfl)]; exact I.vn ⟨127 - k, lt127 k⟩ h i j
  a h i j := by
    rw [kp1_8 _ _ (mm 23 rfl), kp1_7 _ _ (mm 23 rfl)]; refine (take1_6 _ _ (ct1_6 hk I) h i j).trans ?_
    rw [kq1_5 _ main_v34_5 (mm 5 rfl)]; exact I.a ⟨127 - k, lt127 k⟩ h i j
  g h := by
    rw [kp1_8 _ _ (mm 24 rfl)]; refine (take1_7 _ _ (ct1_7 hk I) h 0 0).trans ?_
    rw [kq1_6 _ main_v34_6 (mm 6 rfl)]; exact I.g ⟨127 - k, lt127 k⟩ h
  kd h i j := by
    refine (take1_8 _ _ (ct1_8 hk I) h i j).trans ?_
    rw [kq1_7 _ main_v34_7 (mm 7 rfl)]; exact I.kd ⟨127 - k, lt127 k⟩ h i j

theorem new1_dq (n : Fin 128) (hn : 128 ≤ n.val + (k + 1)) (h : Fin 8) (i : Fin 64) (j : Fin 128) : ((A1_16 V) (Proc.devRef .tc main_v34_10) : Vec Ideal S128x8x64x128 .f32) (ix4 n h i j) = dqc D n.val h i j := by
  rw [cp1_1]
  rw [kp1_15 _ _ (mm 26 rfl), kp1_14 _ _ (mm 26 rfl), kp1_13 _ _ (mm 26 rfl), kp1_12 _ _ (mm 26 rfl), kp1_11 _ _ (mm 26 rfl)];
  refine (put1_10 _ _ (ct1_10 hk I) n h i j).trans ?_
  by_cases e : n = ⟨127 - k, lt127 k⟩
  · rw [if_pos e]
    subst e
    refine (dq1 (see1 hk I) h i j).trans ?_
    rfl
  · rw [if_neg e]
    have hl : 128 ≤ n.val + k := by
      have : n.val ≠ (⟨127 - k, lt127 k⟩ : Fin 128).val := fun x => e (Fin.ext x)
      have : n.val ≠ 127 - k := this
      omega
    rw [kq1_9 _ main_v34_10 (mm 10 rfl)]; exact I.dqo n hl h i j
theorem new1_dk (n : Fin 128) (hn : 128 ≤ n.val + (k + 1)) (h : Fin 8) (i : Fin 64) (j : Fin 128) : ((A1_16 V) (Proc.devRef .tc main_v34_11) : Vec Ideal S128x8x64x128 .f32) (ix4 n h i j) = dkc D n.val h i j := by
  rw [cp1_2]
  rw [kp1_15 _ _ (mm 27 rfl), kp1_14 _ _ (mm 27 rfl), kp1_13 _ _ (mm 27 rfl), kp1_12 _ _ (mm 27 rfl)];
  refine (put1_11 _ _ (ct1_11 hk I) n h i j).trans ?_
  by_cases e : n = ⟨127 - k, lt127 k⟩
  · rw [if_pos e]
    subst e
    rw [kp1_10 _ _ (mm 19 rfl)]; refine (dk1 (see1 hk I) h i j).trans ?_
    have e : 127 - (127 - k) = k := by omega
    show _ = dkey (dst D (127 - (127 - k))) _ _ _ h i j
    rw [e]
    exact Finset.sum_congr rfl fun v _ => mul_comm _ _
  · rw [if_neg e]
    have hl : 128 ≤ n.val + k := by
      have : n.val ≠ (⟨127 - k, lt127 k⟩ : Fin 128).val := fun x => e (Fin.ext x)
      have : n.val ≠ 127 - k := this
      omega
    rw [kq1_10 _ main_v34_11 (mm 11 rfl)]; exact I.dko n hl h i j
theorem new1_du (n : Fin 128) (hn : 128 ≤ n.val + (k + 1)) (h : Fin 8) (i : Fin 64) (j : Fin 128) : ((A1_16 V) (Proc.devRef .tc main_v34_12) : Vec Ideal S128x8x64x128 .f32) (ix4 n h i j) = duc D n.val h i j := by
  rw [cp1_3]
  rw [kp1_15 _ _ (mm 28 rfl), kp1_14 _ _ (mm 28 rfl), kp1_13 _ _ (mm 28 rfl)];
  refine (put1_12 _ _ (ct1_12 hk I) n h i j).trans ?_
  by_cases e : n = ⟨127 - k, lt127 k⟩
  · rw [if_pos e]
    subst e
    rw [kp1_11 _ _ (mm 21 rfl), kp1_10 _ _ (mm 21 rfl)]; refine (du1 (see1 hk I) h i j).trans ?_
    have e : 127 - (127 - k) = k := by omega
    show _ = dval (dst D (127 - (127 - k))) _ _ _ h i j
    rw [e, dvalR_eq]
  · rw [if_neg e]
    have hl : 128 ≤ n.val + k := by
      have : n.val ≠ (⟨127 - k, lt127 k⟩ : Fin 128).val := fun x => e (Fin.ext x)
      have : n.val ≠ 127 - k := this
      omega
    rw [kq1_11 _ main_v34_12 (mm 12 rfl)]; exact I.duo n hl h i j
theorem new1_dw (hD : D.Finite) (n : Fin 128) (hn : 128 ≤ n.val + (k + 1)) (h : Fin 8) (i : Fin 64) (j : Fin 128) : ((A1_16 V) (Proc.devRef .tc main_v34_13) : Vec Ideal S128x8x64x128 .f32) (ix4 n h i j) = dwc D n.val h i j := by
  rw [cp1_4]
  rw [kp1_15 _ _ (mm 29 rfl), kp1_14 _ _ (mm 29 rfl)];
  refine (put1_13 _ _ (ct1_13 hk I) n h i j).trans ?_
  by_cases e : n = ⟨127 - k, lt127 k⟩
  · rw [if_pos e]
    subst e
    rw [kp1_12 _ _ (mm 25 rfl), kp1_11 _ _ (mm 25 rfl), kp1_10 _ _ (mm 25 rfl)]; refine (dw1 (see1 hk I) h i j).trans ?_
    have e : 127 - (127 - k) = k := by omega
    show _ = dwgt (dst D (127 - (127 - k))) _ _ _ _ h i j
    rw [e, dwgtR_eq (st_fn hD _) (dst_fn hD _) (hD.kd _) (hD.do' _) (hD.a _)]
  · rw [if_neg e]
    have hl : 128 ≤ n.val + k := by
      have : n.val ≠ (⟨127 - k, lt127 k⟩ : Fin 128).val := fun x => e (Fin.ext x)
      have : n.val ≠ 127 - k := this
      omega
    rw [kq1_12 _ main_v34_13 (mm 13 rfl)]; exact I.dwo n hl h i j
theorem new1_da (n : Fin 128) (hn : 128 ≤ n.val + (k + 1)) (h : Fin 8) (i : Fin 64) (j : Fin 64) : ((A1_16 V) (Proc.devRef .tc main_v34_14) : Vec Ideal S128x8x64x64 .f32) (ix4 n h i j) = dac D n.val h i j := by
  rw [cp1_5]
  rw [kp1_15 _ _ (mm 30 rfl)];
  refine (put1_14 _ _ (ct1_14 hk I) n h i j).trans ?_
  by_cases e : n = ⟨127 - k, lt127 k⟩
  · rw [if_pos e]
    subst e
    rw [kp1_13 _ _ (mm 22 rfl), kp1_12 _ _ (mm 22 rfl), kp1_11 _ _ (mm 22 rfl), kp1_10 _ _ (mm 22 rfl)]; refine (da1 (see1 hk I) h i j).trans ?_
    rfl
  · rw [if_neg e]
    have hl : 128 ≤ n.val + k := by
      have : n.val ≠ (⟨127 - k, lt127 k⟩ : Fin 128).val := fun x => e (Fin.ext x)
      have : n.val ≠ 127 - k := this
      omega
    rw [kq1_13 _ main_v34_14 (mm 14 rfl)]; exact I.dao n hl h i j
theorem new1_dg (n : Fin 128) (hn : 128 ≤ n.val + (k + 1)) (h : Fin 8) : ((A1_16 V) (Proc.devRef .tc main_v34_15) : Vec Ideal S128x8 .f32) (ix2 n h) = dgc D n.val h := by
  rw [cp1_6]

  refine (put1_15 _ _ (ct1_15 hk I) n h).trans ?_
  by_cases e : n = ⟨127 - k, lt127 k⟩
  · rw [if_pos e]
    subst e
    rw [kp1_14 _ _ (mm 20 rfl), kp1_13 _ _ (mm 20 rfl), kp1_12 _ _ (mm 20 rfl), kp1_11 _ _ (mm 20 rfl), kp1_10 _ _ (mm 20 rfl)]; refine (dg1 (see1 hk I) h).trans ?_
    have e : 127 - (127 - k) = k := by omega
    show _ = dgain (dst D (127 - (127 - k))) _ h
    rw [e]
  · rw [if_neg e]
    have hl : 128 ≤ n.val + k := by
      have : n.val ≠ (⟨127 - k, lt127 k⟩ : Fin 128).val := fun x => e (Fin.ext x)
      have : n.val ≠ 127 - k := this
      omega
    rw [kq1_14 _ main_v34_15 (mm 15 rfl)]; exact I.dgo n hl h

theorem inv1_step (hD : D.Finite) : Inv1 D (k + 1) (afterL body1I (after cond1Ops V)) := by
  rw [body1_eq]
  exact {
    do' := fun n h i j => by rw [kp1_16 _ _ (mm 0 rfl), kq1_15 _ main_v34_0 (mm 0 rfl)]; exact I.do' n h i j
    S := fun n h i j => by rw [kp1_16 _ _ (mm 1 rfl), kq1_15 _ main_v34_1 (mm 1 rfl)]; exact I.S n h i j
    w := fun n h i j => by rw [kp1_16 _ _ (mm 2 rfl), kq1_15 _ main_v34_2 (mm 2 rfl)]; exact I.w n h i j
    qd := fun n h i j => by rw [kp1_16 _ _ (mm 3 rfl), kq1_15 _ main_v34_3 (mm 3 rfl)]; exact I.qd n h i j
    vn := fun n h i j => by rw [kp1_16 _ _ (mm 4 rfl), kq1_15 _ main_v34_4 (mm 4 rfl)]; exact I.vn n h i j
    a := fun n h i j => by rw [kp1_16 _ _ (mm 5 rfl), kq1_15 _ main_v34_5 (mm 5 rfl)]; exact I.a n h i j
    g := fun n h => by rw [kp1_16 _ _ (mm 6 rfl), kq1_15 _ main_v34_6 (mm 6 rfl)]; exact I.g n h
    kd := fun n h i j => by rw [kp1_16 _ _ (mm 7 rfl), kq1_15 _ main_v34_7 (mm 7 rfl)]; exact I.kd n h i j
    ctr := by
      show after while1Ops0_16 (A1_15 V) _ = _
      rw [ctr1_step]
      rw [kq1_15 _ main_v34_8 (mm 8 rfl)]; rw [I.ctr]
      funext _
      exact ((by decide +kernel : ∀ k : Fin 128, BitVec.ofNat 32 k.val + 1#32 = BitVec.ofNat 32 (k.val + 1)) ⟨k, hk⟩)
    cur := fun h i j => by
      rw [cp1_0]; rw [kp1_15 _ _ (mm 24 rfl), kp1_14 _ _ (mm 24 rfl), kp1_13 _ _ (mm 24 rfl), kp1_12 _ _ (mm 24 rfl), kp1_11 _ _ (mm 24 rfl), kp1_10 _ _ (mm 24 rfl)]; refine (back1 (see1 hk I) h i j).trans ?_
      rw [backR_eq _ (dst_fn hD _) (hD.w _) (hD.kd _) (hD.do' _) (hD.a _)]
      rfl
    dqo := fun n hn => new1_dq hk I n hn
    dko := fun n hn => new1_dk hk I n hn
    duo := fun n hn => new1_du hk I n hn
    dwo := fun n hn => new1_dw hk I hD n hn
    dao := fun n hn => new1_da hk I n hn
    dgo := fun n hn => new1_dg hk I n hn }

end

end Cert.ReferenceIdeal.Scan

end
-- ==== Proof.Scan.Args.lean ====
/- The chunks of the argument arrays. -/
module

public import proofs.«01_k».proof.Proof.Scan.Model
public import Idealize.ShloMosaic.Lib.Pointwise

@[expose] public section

noncomputable section

namespace Cert.Scan

open Idealize.ShloMosaic Idealize.ShloMosaic.Pointwise

/-- Row `i` of chunk `n`. -/
def row (n : ℕ) (i : Fin 64) : Fin 8192 := ⟨(64 * n + i.val) % 8192, Nat.mod_lt _ (by decide)⟩

theorem row_val {n : ℕ} (hn : n < 128) (i : Fin 64) : (row n i).val = 64 * n + i.val := by
  show (64 * n + i.val) % 8192 = _
  omega
theorem row_self (r : Fin 8192) : row (r.val / 64) ⟨r.val % 64, Nat.mod_lt _ (by decide)⟩ = r := by
  apply Fin.ext
  rw [row_val (by omega)]
  show 64 * (r.val / 64) + r.val % 64 = r.val
  omega

abbrev Arr (m : ℕ) : Type := (⟨3, ![8, 8192, m]⟩ : Shape).Idx → EReal

/-- The chunks of the seven arrays, 64 rows each. -/
def chunksOf (u w qd kd : Arr 128) (a : Arr 64) (g : (⟨2, ![8, 128]⟩ : Shape).Idx → EReal) (do' : Arr 128) : Chunks where
  u n h i k := u (ix3 h (row n i) k)
  w n h i k := w (ix3 h (row n i) k)
  qd n h i k := qd (ix3 h (row n i) k)
  kd n h i k := kd (ix3 h (row n i) k)
  a n h i k := a (ix3 h (row n i) k)
  g n h := g (ix2 h ⟨n % 128, Nat.mod_lt _ (by decide)⟩)
  do' n h i k := do' (ix3 h (row n i) k)

theorem chunksOf_finite {u w qd kd : Arr 128} {a : Arr 64} {g : (⟨2, ![8, 128]⟩ : Shape).Idx → EReal} {do' : Arr 128}
    (hu : ∀ x, Fn (u x)) (hw : ∀ x, Fn (w x)) (hq : ∀ x, Fn (qd x)) (hk : ∀ x, Fn (kd x)) (ha : ∀ x, Fn (a x)) (hg : ∀ x, Fn (g x)) (hd : ∀ x, Fn (do' x)) :
    (chunksOf u w qd kd a g do').Finite :=
  ⟨fun _ _ _ _ => hu _, fun _ _ _ _ => hw _, fun _ _ _ _ => hq _, fun _ _ _ _ => hk _, fun _ _ _ _ => ha _, fun _ _ => hg _, fun _ _ _ _ => hd _⟩

end Cert.Scan

end
-- ==== Proof.Scan.RefEnd.lean ====
/- What the reference program's results hold. -/
module

public import proofs.«01_k».proof.Proof.Scan.RefLoop
public import proofs.«01_k».proof.Proof.Scan.RefFrame
public import proofs.«01_k».proof.Proof.Scan.Args

@[expose] public section

set_option maxRecDepth 100000

noncomputable section

namespace Cert.ReferenceIdeal.Scan

open Idealize.ShloMosaic Idealize.ShloMosaic.TcCoe Idealize.ShloMosaic.Pointwise Idealize.ShloMosaic.StableHlo
open Cert.ReferenceIdeal Cert.ReferenceIdeal.Gen Cert.Scan

variable (m : (ℓ : Loc nD τ sig) → Buf (Elt Ideal) ℓ) (c : Dev nD)

/-- The chunks of the arguments. -/
def D : Chunks := chunksOf (m ((c : Thread nD τ).loc main_arg0)) (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg6))

theorem chunk_row {k : ℕ} (x : Arr k) (n : Fin 128) (h : Fin 8) (i : Fin 64) (j : Fin k) (r : Fin 8192) (hr : r.val = 64 * n.val + i.val) :
    x (ix3 h r j) = x (ix3 h (row n.val i) j) := by
  have e : r = row n.val i := Fin.ext (hr.trans (row_val n.isLt i).symm)
  rw [e]

section
variable (V : Valuation τ sig (Elt Ideal))

theorem pre_v20_0 (n : Fin 128) (h : Fin 8) (i : Fin 64) (j : Fin 128) : (after hostOps0 V (Proc.devRef .tc main_v20_0) : Vec Ideal S128x8x64x128 .f32) (ix4 n h i j) = (V (Proc.devRef .tc main_arg2) : Vec Ideal S8x8192x128 .bf16) (ix3 h (row n.val i) j) := by
  after_reads_simp
  try dsimp only [id]
  pointwise []
  exact chunk_row _ n h i j _ (by dsimp only; omega)
theorem pre_v2 (n : Fin 128) (h : Fin 8) (i : Fin 64) (j : Fin 128) : (after hostOps0 V (Proc.devRef .tc main_v2) : Vec Ideal S128x8x64x128 .f32) (ix4 n h i j) = (V (Proc.devRef .tc main_arg2) : Vec Ideal S8x8192x128 .bf16) (ix3 h (row n.val i) j) := by
  after_reads_simp
  try dsimp only [id]
  pointwise []
  exact chunk_row _ n h i j _ (by dsimp only; omega)
theorem pre_v20_1 (n : Fin 128) (h : Fin 8) (i : Fin 64) (j : Fin 128) : (after hostOps0 V (Proc.devRef .tc main_v20_1) : Vec Ideal S128x8x64x128 .f32) (ix4 n h i j) = (V (Proc.devRef .tc main_arg3) : Vec Ideal S8x8192x128 .bf16) (ix3 h (row n.val i) j) := by
  after_reads_simp
  try dsimp only [id]
  pointwise []
  exact chunk_row _ n h i j _ (by dsimp only; omega)
theorem pre_v5 (n : Fin 128) (h : Fin 8) (i : Fin 64) (j : Fin 128) : (after hostOps0 V (Proc.devRef .tc main_v5) : Vec Ideal S128x8x64x128 .f32) (ix4 n h i j) = (V (Proc.devRef .tc main_arg3) : Vec Ideal S8x8192x128 .bf16) (ix3 h (row n.val i) j) := by
  after_reads_simp
  try dsimp only [id]
  pointwise []
  exact chunk_row _ n h i j _ (by dsimp only; omega)
theorem pre_v20_2 (n : Fin 128) (h : Fin 8) (i : Fin 64) (j : Fin 128) : (after hostOps0 V (Proc.devRef .tc main_v20_2) : Vec Ideal S128x8x64x128 .f32) (ix4 n h i j) = (V (Proc.devRef .tc main_arg0) : Vec Ideal S8x8192x128 .f32) (ix3 h (row n.val i) j) := by
  after_reads_simp
  try dsimp only [id]
  pointwise []
  exact chunk_row _ n h i j _ (by dsimp only; omega)
theorem pre_v20_3 (n : Fin 128) (h : Fin 8) (i : Fin 64) (j : Fin 128) : (after hostOps0 V (Proc.devRef .tc main_v20_3) : Vec Ideal S128x8x64x128 .f32) (ix4 n h i j) = (V (Proc.devRef .tc main_arg1) : Vec Ideal S8x8192x128 .bf16) (ix3 h (row n.val i) j) := by
  after_reads_simp
  try dsimp only [id]
  pointwise []
  exact chunk_row _ n h i j _ (by dsimp only; omega)
theorem pre_v10 (n : Fin 128) (h : Fin 8) (i : Fin 64) (j : Fin 128) : (after hostOps0 V (Proc.devRef .tc main_v10) : Vec Ideal S128x8x64x128 .f32) (ix4 n h i j) = (V (Proc.devRef .tc main_arg1) : Vec Ideal S8x8192x128 .bf16) (ix3 h (row n.val i) j) := by
  after_reads_simp
  try dsimp only [id]
  pointwise []
  exact chunk_row _ n h i j _ (by dsimp only; omega)
theorem pre_v20_4 (n : Fin 128) (h : Fin 8) (i : Fin 64) (j : Fin 64) : (after hostOps0 V (Proc.devRef .tc main_v20_4) : Vec Ideal S128x8x64x64 .f32) (ix4 n h i j) = (V (Proc.devRef .tc main_arg4) : Vec Ideal S8x8192x64 .bf16) (ix3 h (row n.val i) j) := by
  after_reads_simp
  try dsimp only [id]
  pointwise []
  exact chunk_row _ n h i j _ (by dsimp only; omega)
theorem pre_v13 (n : Fin 128) (h : Fin 8) (i : Fin 64) (j : Fin 64) : (after hostOps0 V (Proc.devRef .tc main_v13) : Vec Ideal S128x8x64x64 .f32) (ix4 n h i j) = (V (Proc.devRef .tc main_arg4) : Vec Ideal S8x8192x64 .bf16) (ix3 h (row n.val i) j) := by
  after_reads_simp
  try dsimp only [id]
  pointwise []
  exact chunk_row _ n h i j _ (by dsimp only; omega)
theorem pre_v20_5 (n : Fin 128) (h : Fin 8) : (after hostOps0 V (Proc.devRef .tc main_v20_5) : Vec Ideal S128x8 .f32) (ix2 n h) = (V (Proc.devRef .tc main_arg5) : Vec Ideal S8x128 .f32) (ix2 h n) := by
  after_reads_simp
  try dsimp only [id]
  pointwise []
theorem pre_v20_7 (h : Fin 8) (i j : Fin 128) : (after hostOps0 V (Proc.devRef .tc main_v20_7) : Vec Ideal S8x128x128 .f32) (ix3 h i j) = (0 : EReal) := by
  after_reads_simp
  try dsimp only [id]
  pointwise []
theorem mid_v34_0 (n : Fin 128) (h : Fin 8) (i : Fin 64) (j : Fin 128) : (after hostOps0_1 V (Proc.devRef .tc main_v34_0) : Vec Ideal S128x8x64x128 .f32) (ix4 n h i j) = (V (Proc.devRef .tc main_arg6) : Vec Ideal S8x8192x128 .bf16) (ix3 h (row n.val i) j) := by
  after_reads_simp
  try dsimp only [id]
  pointwise []
  exact chunk_row _ n h i j _ (by dsimp only; omega)
theorem mid_v34_9 (h : Fin 8) (i j : Fin 128) : (after hostOps0_1 V (Proc.devRef .tc main_v34_9) : Vec Ideal S8x128x128 .f32) (ix3 h i j) = (0 : EReal) := by
  after_reads_simp
  try dsimp only [id]
  pointwise []
theorem mid_v34_1 : after hostOps0_1 V (Proc.devRef .tc main_v34_1) = V (Proc.devRef .tc main_v20_9) := by
  after_reads_simp
  rfl
theorem mid_v34_2 : after hostOps0_1 V (Proc.devRef .tc main_v34_2) = V (Proc.devRef .tc main_v10) := by
  after_reads_simp
  rfl
theorem mid_v34_3 : after hostOps0_1 V (Proc.devRef .tc main_v34_3) = V (Proc.devRef .tc main_v2) := by
  after_reads_simp
  rfl
theorem mid_v34_4 : after hostOps0_1 V (Proc.devRef .tc main_v34_4) = V (Proc.devRef .tc main_v20_10) := by
  after_reads_simp
  rfl
theorem mid_v34_5 : after hostOps0_1 V (Proc.devRef .tc main_v34_5) = V (Proc.devRef .tc main_v13) := by
  after_reads_simp
  rfl
theorem mid_v34_6 : after hostOps0_1 V (Proc.devRef .tc main_v34_6) = V (Proc.devRef .tc main_v20_11) := by
  after_reads_simp
  rfl
theorem mid_v34_7 : after hostOps0_1 V (Proc.devRef .tc main_v34_7) = V (Proc.devRef .tc main_v5) := by
  after_reads_simp
  rfl
theorem mid_v22 (h : Fin 8) (r : Fin 8192) (j : Fin 128) : (after hostOps0_1 V (Proc.devRef .tc main_v22) : Vec Ideal S8x8192x128 .f32) (ix3 h r j) = (V (Proc.devRef .tc main_v20_8) : Vec Ideal S128x8x64x128 .f32) (ix4 (⟨r.val / 64, by omega⟩ : Fin 128) h (⟨r.val % 64, Nat.mod_lt _ (by decide)⟩ : Fin 64) j) := by
  after_reads_simp
  try dsimp only [id]
  pointwise []
theorem post_v38 (h : Fin 8) (r : Fin 8192) (j : Fin 64) : (after hostOps0_2 V (Proc.devRef .tc main_v38) : Vec Ideal S8x8192x64 .bf16) (ix3 h r j) = (V (Proc.devRef .tc main_v34_14) : Vec Ideal S128x8x64x64 .f32) (ix4 (⟨r.val / 64, by omega⟩ : Fin 128) h (⟨r.val % 64, Nat.mod_lt _ (by decide)⟩ : Fin 64) j) := by
  after_reads_simp
  try dsimp only [id]
  pointwise []
theorem post_v41 (h : Fin 8) (r : Fin 8192) (j : Fin 128) : (after hostOps0_2 V (Proc.devRef .tc main_v41) : Vec Ideal S8x8192x128 .bf16) (ix3 h r j) = (V (Proc.devRef .tc main_v34_13) : Vec Ideal S128x8x64x128 .f32) (ix4 (⟨r.val / 64, by omega⟩ : Fin 128) h (⟨r.val % 64, Nat.mod_lt _ (by decide)⟩ : Fin 64) j) := by
  after_reads_simp
  try dsimp only [id]
  pointwise []
theorem post_v43 (h : Fin 8) (r : Fin 8192) (j : Fin 128) : (after hostOps0_2 V (Proc.devRef .tc main_v43) : Vec Ideal S8x8192x128 .f32) (ix3 h r j) = (V (Proc.devRef .tc main_v34_12) : Vec Ideal S128x8x64x128 .f32) (ix4 (⟨r.val / 64, by omega⟩ : Fin 128) h (⟨r.val % 64, Nat.mod_lt _ (by decide)⟩ : Fin 64) j) := by
  after_reads_simp
  try dsimp only [id]
  pointwise []
theorem post_v46 (h : Fin 8) (r : Fin 8192) (j : Fin 128) : (after hostOps0_2 V (Proc.devRef .tc main_v46) : Vec Ideal S8x8192x128 .bf16) (ix3 h r j) = (V (Proc.devRef .tc main_v34_11) : Vec Ideal S128x8x64x128 .f32) (ix4 (⟨r.val / 64, by omega⟩ : Fin 128) h (⟨r.val % 64, Nat.mod_lt _ (by decide)⟩ : Fin 64) j) := by
  after_reads_simp
  try dsimp only [id]
  pointwise []
theorem post_v49 (h : Fin 8) (r : Fin 8192) (j : Fin 128) : (after hostOps0_2 V (Proc.devRef .tc main_v49) : Vec Ideal S8x8192x128 .bf16) (ix3 h r j) = (V (Proc.devRef .tc main_v34_10) : Vec Ideal S128x8x64x128 .f32) (ix4 (⟨r.val / 64, by omega⟩ : Fin 128) h (⟨r.val % 64, Nat.mod_lt _ (by decide)⟩ : Fin 64) j) := by
  after_reads_simp
  try dsimp only [id]
  pointwise []
theorem post_v50 (h : Fin 8) (n : Fin 128) : (after hostOps0_2 V (Proc.devRef .tc main_v50) : Vec Ideal S8x128x1x1 .f32) (ix4 h n 0 0) = (V (Proc.devRef .tc main_v34_15) : Vec Ideal S128x8 .f32) (ix2 n h) := by
  after_reads_simp
  try dsimp only [id]
  pointwise []
theorem pad_at (x : Vec Ideal S8x128x1x1 .f32) (h : Fin 8) (n l : Fin 128) :
    (pad S8x128x1x128 ![0, 0, 0, 0] ![0, 0, 0, 127] ![0, 0, 0, 0] x (sitofp (F := Ideal) .f32 (constantI S_ 32 0#32) : Vec Ideal S_ .f32)
      pads_S8x128x1x1_S8x128x1x128_000_000_000_01270 h_S_ : Vec Ideal S8x128x1x128 .f32) (ix4 h n 0 l) = if l = 0 then x (ix4 h n 0 0) else (0 : EReal) := by
  pointwise []
  by_cases e : l = 0
  · subst e
    rw [dif_pos (by decide), if_pos rfl]
    rfl
  · rw [dif_neg (by have : l.val ≠ 0 := fun q => e (Fin.ext q); omega), if_neg e]
    show (((((0#32 : BitVec 32).toInt : ℤ) : ℝ)) : EReal) = 0
    simp
theorem post_c13 : after hostOps0_2 V (Proc.devRef .tc main_c_13) = constantI S_ 32 0#32 := by
  after_reads_simp
theorem post_v51 (hc : V (Proc.devRef .tc main_c_13) = constantI S_ 32 0#32) (h : Fin 8) (n l : Fin 128) : (after hostOps0_3 V (Proc.devRef .tc main_v51) : Vec Ideal S8x128x1x128 .f32) (ix4 h n 0 l)
    = if l = 0 then (V (Proc.devRef .tc main_v50) : Vec Ideal S8x128x1x1 .f32) (ix4 h n 0 0) else (0 : EReal) := by
  after_results
  exact (congrFun (congrArg (fun z : Vec Ideal S_ .i32 => (pad S8x128x1x128 ![0, 0, 0, 0] ![0, 0, 0, 127] ![0, 0, 0, 0] (V (Proc.devRef .tc main_v50) : Vec Ideal S8x128x1x1 .f32)
    (sitofp (F := Ideal) .f32 z : Vec Ideal S_ .f32) pads_S8x128x1x1_S8x128x1x128_000_000_000_01270 h_S_ : Vec Ideal S8x128x1x128 .f32)) hc) _).trans (pad_at _ h n l)
theorem post_v52 : after hostOps0_4 V (Proc.devRef .tc main_v52) = V (Proc.devRef .tc main_v43) := by
  after_reads_simp
  rfl

end

/-! ## The loops from the arguments -/

theorem inv0_entry : Inv0 (D m c) 0 (E0 m c) where
  qd n h i j := pre_v20_0 (launchContents m c) n h i j
  kd n h i j := pre_v20_1 (launchContents m c) n h i j
  u n h i j := pre_v20_2 (launchContents m c) n h i j
  w n h i j := pre_v20_3 (launchContents m c) n h i j
  a n h i j := pre_v20_4 (launchContents m c) n h i j
  g n h := (pre_v20_5 (launchContents m c) n h).trans (by
    have e : n = (⟨n.val % 128, Nat.mod_lt _ (by decide)⟩ : Fin 128) := Fin.ext (Nat.mod_eq_of_lt n.isLt).symm
    exact congrArg (fun n => (m ((c : Thread nD τ).loc main_arg5) : Vec Ideal S8x128 .f32) (ix2 h n)) e)
  qd' n h i j := pre_v2 (launchContents m c) n h i j
  kd' n h i j := pre_v5 (launchContents m c) n h i j
  w' n h i j := pre_v10 (launchContents m c) n h i j
  a' n h i j := pre_v13 (launchContents m c) n h i j
  ctr := ctr0_entry m c
  cur h i j := pre_v20_7 (launchContents m c) h i j
  oo n hn := absurd hn (Nat.not_lt_zero _)
  svo n hn := absurd hn (Nat.not_lt_zero _)
  vno n hn := absurd hn (Nat.not_lt_zero _)
  ggo n hn := absurd hn (Nat.not_lt_zero _)

theorem inv0_all : ∀ k, k ≤ 128 → Inv0 (D m c) k (X0 m k c)
  | 0, _ => inv0_entry m c
  | k + 1, h => inv0_step (by omega) (inv0_all k (by omega))

theorem inv1_entry : Inv1 (D m c) 0 (E1 m c) := by
  have I := inv0_all m c 128 (le_refl _)
  exact {
    do' := fun n h i j => (mid_v34_0 (after cond0Ops (X0 m 128 c)) n h i j).trans (by rw [arg_cond0Ops _ main_arg6 (by decide), X0_arg m c main_arg6 (by decide)]; rfl)
    S := fun n h i j => (congrFun ((mid_v34_1 _).trans (keepC0 _ main_v20_9 (mm 9 rfl))) _).trans (I.svo n n.isLt h i j)
    w := fun n h i j => (congrFun ((mid_v34_2 _).trans (keepC0 _ main_v10 (mm 14 rfl))) _).trans (I.w' n h i j)
    qd := fun n h i j => (congrFun ((mid_v34_3 _).trans (keepC0 _ main_v2 (mm 12 rfl))) _).trans (I.qd' n h i j)
    vn := fun n h i j => (congrFun ((mid_v34_4 _).trans (keepC0 _ main_v20_10 (mm 10 rfl))) _).trans (I.vno n n.isLt h i j)
    a := fun n h i j => (congrFun ((mid_v34_5 _).trans (keepC0 _ main_v13 (mm 15 rfl))) _).trans (I.a' n h i j)
    g := fun n h => (congrFun ((mid_v34_6 _).trans (keepC0 _ main_v20_11 (mm 11 rfl))) _).trans (I.ggo n n.isLt h)
    kd := fun n h i j => (congrFun ((mid_v34_7 _).trans (keepC0 _ main_v5 (mm 13 rfl))) _).trans (I.kd' n h i j)
    ctr := ctr1_entry m c
    cur := fun h i j => mid_v34_9 _ h i j
    dqo := fun n hn => by omega
    dko := fun n hn => by omega
    duo := fun n hn => by omega
    dwo := fun n hn => by omega
    dao := fun n hn => by omega
    dgo := fun n hn => by omega }

theorem E1_v22 (h : Fin 8) (r : Fin 8192) (j : Fin 128) : (E1 m c (Proc.devRef .tc main_v22) : Vec Ideal S8x8192x128 .f32) (ix3 h r j)
    = outc (D m c) (r.val / 64) h ⟨r.val % 64, Nat.mod_lt _ (by decide)⟩ j := by
  refine (mid_v22 (after cond0Ops (X0 m 128 c)) h r j).trans ?_
  rw [keepC0 _ main_v20_8 (mm 8 rfl)]
  exact (inv0_all m c 128 (le_refl _)).oo ⟨r.val / 64, by omega⟩ (by dsimp only; omega) h _ j

theorem body1_v22 (V : Valuation τ sig (Elt Ideal)) : A1_16 V (Proc.devRef .tc main_v22) = V (Proc.devRef .tc main_v22) := by
  rw [kp1_16 _ _ (mm 8 rfl), kq1_15 _ main_v22 (mm 16 rfl)]

theorem X1_v22 : ∀ k, X1 m k c (Proc.devRef .tc main_v22) = E1 m c (Proc.devRef .tc main_v22)
  | 0 => rfl
  | k + 1 => (congrFun (body1_eq (X1 m k c)) _).trans ((body1_v22 (X1 m k c)).trans (X1_v22 k))

variable {m c} (hD : (D m c).Finite)

include hD in
theorem inv1_all : ∀ k, k ≤ 128 → Inv1 (D m c) k (X1 m k c)
  | 0, _ => inv1_entry m c
  | k + 1, h => inv1_step (by omega) (inv1_all k (by omega)) hD

theorem keep3 (V : Valuation τ sig (Elt Ideal)) (r : Ref sig .tc) (h : r ∈ [main_v22, main_v38, main_v41, main_v43, main_v46, main_v49]) :
    after hostOps0_3 V (Proc.devRef .tc r) = V (Proc.devRef .tc r) :=
  after_of_writes_sub hostOps0_3 V hostOps0_3_writes ((by decide +kernel : ∀ r ∈ [main_v22, main_v38, main_v41, main_v43, main_v46, main_v49], r ∉ hostOps0_3_W) r h)
theorem keep4 (V : Valuation τ sig (Elt Ideal)) (r : Ref sig .tc) (h : r ∈ [main_v22, main_v38, main_v41, main_v46, main_v49, main_v51]) :
    after hostOps0_4 V (Proc.devRef .tc r) = V (Proc.devRef .tc r) :=
  after_of_writes_sub hostOps0_4 V hostOps0_4_writes ((by decide +kernel : ∀ r ∈ [main_v22, main_v38, main_v41, main_v46, main_v49, main_v51], r ∉ hostOps0_4_W) r h)

theorem end_o_at (h : Fin 8) (r : Fin 8192) (j : Fin 128) : (Z m c (Proc.devRef .tc main_v22) : Vec Ideal S8x8192x128 .f32) (ix3 h r j)
    = outc (D m c) (r.val / 64) h ⟨r.val % 64, Nat.mod_lt _ (by decide)⟩ j := by
  show (after hostOps0_4 (after hostOps0_3 (after hostOps0_2 (after cond1Ops (X1 m 128 c)))) (Proc.devRef .tc main_v22) : Vec Ideal S8x8192x128 .f32) (ix3 h r j) = _
  rw [keep4 _ main_v22 (by decide), keep3 _ main_v22 (by decide), after_of_writes_sub hostOps0_2 _ hostOps0_2_writes (by decide +kernel : main_v22 ∉ hostOps0_2_W),
    keepC1 _ main_v22 (mm 16 rfl), X1_v22]
  exact E1_v22 m c h r j
theorem end_o : (Z m c (Proc.devRef .tc main_v22) : Vec Ideal S8x8192x128 .f32)
    = fun y => outc (D m c) ((y 1).val / 64) (y 0) ⟨(y 1).val % 64, Nat.mod_lt _ (by decide)⟩ (y 2) := by
  funext y
  rw [eq_ix3 y]
  exact end_o_at (y 0) (y 1) (y 2)

include hD

theorem end_du_at (h : Fin 8) (r : Fin 8192) (j : Fin 128) : (Z m c (Proc.devRef .tc main_v52) : Vec Ideal S8x8192x128 .bf16) (ix3 h r j)
    = duc (D m c) (r.val / 64) h ⟨r.val % 64, Nat.mod_lt _ (by decide)⟩ j := by
  show (after hostOps0_4 (after hostOps0_3 (after hostOps0_2 (after cond1Ops (X1 m 128 c)))) (Proc.devRef .tc main_v52) : Vec Ideal S8x8192x128 .bf16) (ix3 h r j) = _
  rw [post_v52, keep3 _ main_v43 (by decide)]
  refine (post_v43 (after cond1Ops (X1 m 128 c)) h r j).trans ?_
  rw [keepC1 _ main_v34_12 (mm 12 rfl)]
  exact (inv1_all hD 128 (le_refl _)).duo ⟨r.val / 64, by omega⟩ (by dsimp only; omega) h _ j
theorem end_du : (Z m c (Proc.devRef .tc main_v52) : Vec Ideal S8x8192x128 .bf16)
    = fun y => duc (D m c) ((y 1).val / 64) (y 0) ⟨(y 1).val % 64, Nat.mod_lt _ (by decide)⟩ (y 2) := by
  funext y
  rw [eq_ix3 y]
  exact end_du_at hD (y 0) (y 1) (y 2)

theorem end_dw_at (h : Fin 8) (r : Fin 8192) (j : Fin 128) : (Z m c (Proc.devRef .tc main_v41) : Vec Ideal S8x8192x128 .bf16) (ix3 h r j)
    = dwc (D m c) (r.val / 64) h ⟨r.val % 64, Nat.mod_lt _ (by decide)⟩ j := by
  show (after hostOps0_4 (after hostOps0_3 (after hostOps0_2 (after cond1Ops (X1 m 128 c)))) (Proc.devRef .tc main_v41) : Vec Ideal S8x8192x128 .bf16) (ix3 h r j) = _
  rw [keep4 _ main_v41 (by decide), keep3 _ main_v41 (by decide)]
  refine (post_v41 (after cond1Ops (X1 m 128 c)) h r j).trans ?_
  rw [keepC1 _ main_v34_13 (mm 13 rfl)]
  exact (inv1_all hD 128 (le_refl _)).dwo ⟨r.val / 64, by omega⟩ (by dsimp only; omega) h _ j
theorem end_dw : (Z m c (Proc.devRef .tc main_v41) : Vec Ideal S8x8192x128 .bf16)
    = fun y => dwc (D m c) ((y 1).val / 64) (y 0) ⟨(y 1).val % 64, Nat.mod_lt _ (by decide)⟩ (y 2) := by
  funext y
  rw [eq_ix3 y]
  exact end_dw_at hD (y 0) (y 1) (y 2)

theorem end_dq_at (h : Fin 8) (r : Fin 8192) (j : Fin 128) : (Z m c (Proc.devRef .tc main_v49) : Vec Ideal S8x8192x128 .bf16) (ix3 h r j)
    = dqc (D m c) (r.val / 64) h ⟨r.val % 64, Nat.mod_lt _ (by decide)⟩ j := by
  show (after hostOps0_4 (after hostOps0_3 (after hostOps0_2 (after cond1Ops (X1 m 128 c)))) (Proc.devRef .tc main_v49) : Vec Ideal S8x8192x128 .bf16) (ix3 h r j) = _
  rw [keep4 _ main_v49 (by decide), keep3 _ main_v49 (by decide)]
  refine (post_v49 (after cond1Ops (X1 m 128 c)) h r j).trans ?_
  rw [keepC1 _ main_v34_10 (mm 10 rfl)]
  exact (inv1_all hD 128 (le_refl _)).dqo ⟨r.val / 64, by omega⟩ (by dsimp only; omega) h _ j
theorem end_dq : (Z m c (Proc.devRef .tc main_v49) : Vec Ideal S8x8192x128 .bf16)
    = fun y => dqc (D m c) ((y 1).val / 64) (y 0) ⟨(y 1).val % 64, Nat.mod_lt _ (by decide)⟩ (y 2) := by
  funext y
  rw [eq_ix3 y]
  exact end_dq_at hD (y 0) (y 1) (y 2)

theorem end_dk_at (h : Fin 8) (r : Fin 8192) (j : Fin 128) : (Z m c (Proc.devRef .tc main_v46) : Vec Ideal S8x8192x128 .bf16) (ix3 h r j)
    = dkc (D m c) (r.val / 64) h ⟨r.val % 64, Nat.mod_lt _ (by decide)⟩ j := by
  show (after hostOps0_4 (after hostOps0_3 (after hostOps0_2 (after cond1Ops (X1 m 128 c)))) (Proc.devRef .tc main_v46) : Vec Ideal S8x8192x128 .bf16) (ix3 h r j) = _
  rw [keep4 _ main_v46 (by decide), keep3 _ main_v46 (by decide)]
  refine (post_v46 (after cond1Ops (X1 m 128 c)) h r j).trans ?_
  rw [keepC1 _ main_v34_11 (mm 11 rfl)]
  exact (inv1_all hD 128 (le_refl _)).dko ⟨r.val / 64, by omega⟩ (by dsimp only; omega) h _ j
theorem end_dk : (Z m c (Proc.devRef .tc main_v46) : Vec Ideal S8x8192x128 .bf16)
    = fun y => dkc (D m c) ((y 1).val / 64) (y 0) ⟨(y 1).val % 64, Nat.mod_lt _ (by decide)⟩ (y 2) := by
  funext y
  rw [eq_ix3 y]
  exact end_dk_at hD (y 0) (y 1) (y 2)

theorem end_da_at (h : Fin 8) (r : Fin 8192) (j : Fin 64) : (Z m c (Proc.devRef .tc main_v38) : Vec Ideal S8x8192x64 .bf16) (ix3 h r j)
    = dac (D m c) (r.val / 64) h ⟨r.val % 64, Nat.mod_lt _ (by decide)⟩ j := by
  show (after hostOps0_4 (after hostOps0_3 (after hostOps0_2 (after cond1Ops (X1 m 128 c)))) (Proc.devRef .tc main_v38) : Vec Ideal S8x8192x64 .bf16) (ix3 h r j) = _
  rw [keep4 _ main_v38 (by decide), keep3 _ main_v38 (by decide)]
  refine (post_v38 (after cond1Ops (X1 m 128 c)) h r j).trans ?_
  rw [keepC1 _ main_v34_14 (mm 14 rfl)]
  exact (inv1_all hD 128 (le_refl _)).dao ⟨r.val / 64, by omega⟩ (by dsimp only; omega) h _ j
theorem end_da : (Z m c (Proc.devRef .tc main_v38) : Vec Ideal S8x8192x64 .bf16)
    = fun y => dac (D m c) ((y 1).val / 64) (y 0) ⟨(y 1).val % 64, Nat.mod_lt _ (by decide)⟩ (y 2) := by
  funext y
  rw [eq_ix3 y]
  exact end_da_at hD (y 0) (y 1) (y 2)

theorem end_dg_at (h : Fin 8) (n l : Fin 128) : (Z m c (Proc.devRef .tc main_v51) : Vec Ideal S8x128x1x128 .f32) (ix4 h n 0 l) = dgl (D m c) n.val h l := by
  show (after hostOps0_4 (after hostOps0_3 (after hostOps0_2 (after cond1Ops (X1 m 128 c)))) (Proc.devRef .tc main_v51) : Vec Ideal S8x128x1x128 .f32) (ix4 h n 0 l) = _
  rw [keep4 _ main_v51 (by decide)]
  refine (post_v51 _ (post_c13 _) h n l).trans ?_
  show _ = if l = 0 then dgc (D m c) n.val h else (0 : EReal)
  refine if_congr Iff.rfl ?_ rfl
  refine (post_v50 (after cond1Ops (X1 m 128 c)) h n).trans ?_
  rw [keepC1 _ main_v34_15 (mm 15 rfl)]
  exact (inv1_all hD 128 (le_refl _)).dgo n (by omega) h

theorem end_dg : (Z m c (Proc.devRef .tc main_v51) : Vec Ideal S8x128x1x128 .f32) = fun y => dgl (D m c) (y 1).val (y 0) (y 3) := by
  funext y
  have e2 : y 2 = (0 : Fin 1) := Subsingleton.elim (α := Fin 1) _ _
  rw [eq_ix4 y, e2]
  exact end_dg_at hD (y 0) (y 1) (y 3)

end Cert.ReferenceIdeal.Scan

end
-- ==== Proof.Scan.Values.lean ====
/- What the kernel's results hold, and that the reference's hold the same. -/
module

public import proofs.«01_k».proof.Proof.Scan.Frames
public import proofs.«01_k».proof.Proof.Scan.BwdArr
public import proofs.«01_k».proof.Proof.Scan.RefEnd
public import proofs.«01_k».proof.Proof.Gen.Pre_finite
public import Idealize.ShloMosaic.Lib.ReduceAll

@[expose] public section

set_option maxRecDepth 16384

noncomputable section

namespace Cert.KernelIdeal.Scan

open Idealize.ShloMosaic Idealize.ShloMosaic.TcCoe Idealize.ShloMosaic.Pointwise Idealize.ShloMosaic.StableHlo
open Cert.KernelIdeal Cert.KernelIdeal.Gen Cert.Scan

variable (m : (ℓ : Loc nD τ sig) → Buf (Elt Ideal) ℓ) (c : Dev nD)

/-- The chunks of the arguments. -/
def D : Chunks := chunksOf (m ((c : Thread nD τ).loc main_arg0)) (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg6))

theorem V1_arg (r : Ref sig .tc) (h : r ∈ argRefs) : V1 m c (Proc.devRef .tc r) = m ((c : Thread nD τ).loc r) :=
  (V1_of m c r ((by decide : ∀ r ∈ argRefs, r ∉ hostOps0_W) r h)).trans rfl

theorem W2_arg (r : Ref sig .tc) (h : r ∈ argRefs) : W2 m c (Proc.devRef .tc r) = m ((c : Thread nD τ).loc r) :=
  (W2_in m c r ((by decide : ∀ r ∈ argRefs, ∀ w, Pipeline.arrRef spec0 w = r → (cfg0.win w).isOut = false) r h)).trans (V1_arg m c r h)

theorem row_of {k : ℕ} (x : Arr k) (h : Fin 8) (r : Fin 8192) (j : Fin k) :
    x (ix3 h r j) = x (ix3 h (row (r.val / 64) ⟨r.val % 64, Nat.mod_lt _ (by decide)⟩) j) := by
  rw [row_self]

/-- The gain of a chunk, on every lane. -/
theorem gain_at (h : Fin 8) (n v : Fin 128) : (V1 m c (Proc.devRef .tc main_v1) : Vec Ideal S8x128x1x128 .f32) (ix4 h n 0 v) = (D m c).g n.val h := by
  have e : (⟨n.val % 128, Nat.mod_lt _ (by decide)⟩ : Fin 128) = n := Fin.ext (Nat.mod_eq_of_lt n.isLt)
  show _ = (m ((c : Thread nD τ).loc main_arg5) : Vec Ideal S8x128 .f32) (ix2 h ⟨n.val % 128, Nat.mod_lt _ (by decide)⟩)
  rw [e]
  show (after hostOps0 (V0 m c) (Proc.devRef .tc main_v1) : Vec Ideal S8x128x1x128 .f32) (ix4 h n 0 v) = _
  after_results
  try dsimp only [id]
  pointwise []

theorem whole0 : Fwd.Whole (fun c b => V1 m c (Proc.devRef .tc b)) (D m c) c where
  u h r k := (congrFun (V1_arg m c main_arg0 (by decide)) _).trans (row_of _ h r k)
  w h r k := (congrFun (V1_arg m c main_arg1 (by decide)) _).trans (row_of _ h r k)
  qd h r k := (congrFun (V1_arg m c main_arg2 (by decide)) _).trans (row_of _ h r k)
  kd h r k := (congrFun (V1_arg m c main_arg3 (by decide)) _).trans (row_of _ h r k)
  a h r k := (congrFun (V1_arg m c main_arg4 (by decide)) _).trans (row_of _ h r k)
  g h n v := gain_at m c h n v

theorem whole1 : Bwd.Whole (fun c b => W2 m c (Proc.devRef .tc b)) (D m c) c where
  u h r k := (congrFun (W2_arg m c main_arg0 (by decide)) _).trans (row_of _ h r k)
  w h r k := (congrFun (W2_arg m c main_arg1 (by decide)) _).trans (row_of _ h r k)
  qd h r k := (congrFun (W2_arg m c main_arg2 (by decide)) _).trans (row_of _ h r k)
  kd h r k := (congrFun (W2_arg m c main_arg3 (by decide)) _).trans (row_of _ h r k)
  a h r k := (congrFun (W2_arg m c main_arg4 (by decide)) _).trans (row_of _ h r k)
  do' h r k := (congrFun (W2_arg m c main_arg6 (by decide)) _).trans (row_of _ h r k)
  g h n v := (congrFun (W2_in m c main_v1 (by decide)) _).trans (gain_at m c h n v)
  s n h k v := (congrFun ((Pipeline.afterRegion_arr (d0 m c) (V1 m c) inj0 7).trans (Fwd.final_sin _ (whole0 m c))) (ix4 n h k v))

theorem res_o : (W3 m c (Proc.devRef .tc main_v2_0) : Vec Ideal S8x8192x128 .f32)
    = fun y => outc (D m c) ((y 1).val / 64) (y 0) ⟨(y 1).val % 64, Nat.mod_lt _ (by decide)⟩ (y 2) :=
  (W3_in m c main_v2_0 (by decide)).trans ((Pipeline.afterRegion_arr (d0 m c) (V1 m c) inj0 6).trans (Fwd.final_o _ (whole0 m c)))
theorem res_du : (W3 m c (Proc.devRef .tc main_v3_0) : Vec Ideal S8x8192x128 .bf16)
    = fun y => duc (D m c) ((y 1).val / 64) (y 0) ⟨(y 1).val % 64, Nat.mod_lt _ (by decide)⟩ (y 2) :=
  (Pipeline.afterRegion_arr (d1 m c) (W2 m c) inj1 8).trans (Bwd.final_du _ (whole1 m c))
theorem res_dw : (W3 m c (Proc.devRef .tc main_v3_1) : Vec Ideal S8x8192x128 .bf16)
    = fun y => dwc (D m c) ((y 1).val / 64) (y 0) ⟨(y 1).val % 64, Nat.mod_lt _ (by decide)⟩ (y 2) :=
  (Pipeline.afterRegion_arr (d1 m c) (W2 m c) inj1 9).trans (Bwd.final_dw _ (whole1 m c))
theorem res_dq : (W3 m c (Proc.devRef .tc main_v3_2) : Vec Ideal S8x8192x128 .bf16)
    = fun y => dqc (D m c) ((y 1).val / 64) (y 0) ⟨(y 1).val % 64, Nat.mod_lt _ (by decide)⟩ (y 2) :=
  (Pipeline.afterRegion_arr (d1 m c) (W2 m c) inj1 10).trans (Bwd.final_dq _ (whole1 m c))
theorem res_dk : (W3 m c (Proc.devRef .tc main_v3_3) : Vec Ideal S8x8192x128 .bf16)
    = fun y => dkc (D m c) ((y 1).val / 64) (y 0) ⟨(y 1).val % 64, Nat.mod_lt _ (by decide)⟩ (y 2) :=
  (Pipeline.afterRegion_arr (d1 m c) (W2 m c) inj1 11).trans (Bwd.final_dk _ (whole1 m c))
theorem res_da : (W3 m c (Proc.devRef .tc main_v3_4) : Vec Ideal S8x8192x64 .bf16)
    = fun y => dac (D m c) ((y 1).val / 64) (y 0) ⟨(y 1).val % 64, Nat.mod_lt _ (by decide)⟩ (y 2) :=
  (Pipeline.afterRegion_arr (d1 m c) (W2 m c) inj1 12).trans (Bwd.final_da _ (whole1 m c))
theorem res_dg : (W3 m c (Proc.devRef .tc main_v3_5) : Vec Ideal S8x128x1x128 .f32) = fun y => dgl (D m c) (y 1).val (y 0) (y 3) :=
  (Pipeline.afterRegion_arr (d1 m c) (W2 m c) inj1 13).trans (Bwd.final_dgs _ (whole1 m c))

abbrev resRefs : List (Ref sig .tc) := [main_v2_0, main_v3_0, main_v3_1, main_v3_2, main_v3_3, main_v3_4, main_v3_5]
theorem res_uc : ∀ r ∈ resRefs, (Proc.devRef .tc r : DevRef τ sig) ∈ Pipeline.ucRefs τ sig := fun r h =>
  Finset.mem_filter.mpr ⟨StableHlo.devRef_mem_tcRefs _, (by decide : ∀ r ∈ resRefs, ¬(Proc.devRef .tc r : DevRef τ sig).isScoped = true) r h⟩

end Cert.KernelIdeal.Scan

namespace Cert

open Idealize.ShloMosaic Idealize.ShloMosaic.TcCoe Idealize.SL.Sem Cert.Scan

/-- A value whose absolute value is below infinity is a real number. -/
theorem fn_of (x : EReal) (h : Ideal.cmp .olt (max x (-x)) (Ideal.ofBits .f32 0x7F800000#32) = 1#1) : Fn x := by
  have htop : Ideal.ofBits .f32 0x7F800000#32 = ⊤ := by simp [Ideal.ofBits, Ideal.ieee]
  rw [htop] at h
  induction x with
  | bot => simp [Ideal.cmp] at h
  | top => simp [Ideal.cmp] at h
  | coe r => exact ⟨r, rfl⟩

instance : Subsingleton Pre_finite.S_.Idx := ⟨fun _ _ => funext fun a => a.elim0⟩

/-- The precondition, read: every argument is finite everywhere. -/
theorem finite_args (x0 : FVec Ideal Pre_finite.S8x8192x128 .f32) (x1 x2 x3 : FVec Ideal Pre_finite.S8x8192x128 .bf16) (x4 : FVec Ideal Pre_finite.S8x8192x64 .bf16)
    (x5 : FVec Ideal Pre_finite.S8x128 .f32) (x6 : FVec Ideal Pre_finite.S8x8192x128 .bf16) (h : Pre_finite.fn (F := Ideal) x0 x1 x2 x3 x4 x5 x6 = fun _ => 1#1) :
    (chunksOf x0 x1 x2 x3 x4 x5 x6).Finite := by
  have e := congrFun h (fun a => a.elim0)
  dsimp only [Pre_finite.fn, Pre_finite.fn_part1, Pre_finite.fn_part2, andi] at e
  obtain ⟨e, e6⟩ := IntOp.andi_eq_one.mp e
  obtain ⟨e, e5⟩ := IntOp.andi_eq_one.mp e
  obtain ⟨e, e4⟩ := IntOp.andi_eq_one.mp e
  obtain ⟨e, e3⟩ := IntOp.andi_eq_one.mp e
  obtain ⟨e, e2⟩ := IntOp.andi_eq_one.mp e
  obtain ⟨e0, e1⟩ := IntOp.andi_eq_one.mp e
  exact chunksOf_finite (fun i => fn_of _ (Host.reduce_andi_all _ _ _ _ _ e0 i)) (fun i => fn_of _ (Host.reduce_andi_all _ _ _ _ _ e1 i))
    (fun i => fn_of _ (Host.reduce_andi_all _ _ _ _ _ e2 i)) (fun i => fn_of _ (Host.reduce_andi_all _ _ _ _ _ e3 i))
    (fun i => fn_of _ (Host.reduce_andi_all _ _ _ _ _ e4 i)) (fun i => fn_of _ (Host.reduce_andi_all _ _ _ _ _ e5 i))
    (fun i => fn_of _ (Host.reduce_andi_all _ _ _ _ _ e6 i))

/-- From finite arguments the kernel and the reference end with the same seven arrays. -/
theorem algebraic : Cert.algebraic_KernelIdeal_ReferenceIdeal_pre_finite := fun m g m' g' hpre hargs => by
  have hD : ∀ c, ReferenceIdeal.Scan.D m' c = KernelIdeal.Scan.D m c := fun c => by
    obtain ⟨h0, h1, h2, h3, h4, h5, h6⟩ := hargs c
    unfold ReferenceIdeal.Scan.D KernelIdeal.Scan.D
    rw [h0, h1, h2, h3, h4, h5, h6]
  have hF : ∀ c, (ReferenceIdeal.Scan.D m' c).Finite := fun c => by
    rw [hD c]
    exact finite_args _ _ _ _ _ _ _ (hpre c)
  have key : ∀ c, ReferenceIdeal.Scan.Z m' c (Proc.devRef .tc ReferenceIdeal.main_v22) = KernelIdeal.Scan.W3 m c (Proc.devRef .tc KernelIdeal.main_v2_0)
      ∧ ReferenceIdeal.Scan.Z m' c (Proc.devRef .tc ReferenceIdeal.main_v52) = KernelIdeal.Scan.W3 m c (Proc.devRef .tc KernelIdeal.main_v3_0)
      ∧ ReferenceIdeal.Scan.Z m' c (Proc.devRef .tc ReferenceIdeal.main_v41) = KernelIdeal.Scan.W3 m c (Proc.devRef .tc KernelIdeal.main_v3_1)
      ∧ ReferenceIdeal.Scan.Z m' c (Proc.devRef .tc ReferenceIdeal.main_v49) = KernelIdeal.Scan.W3 m c (Proc.devRef .tc KernelIdeal.main_v3_2)
      ∧ ReferenceIdeal.Scan.Z m' c (Proc.devRef .tc ReferenceIdeal.main_v46) = KernelIdeal.Scan.W3 m c (Proc.devRef .tc KernelIdeal.main_v3_3)
      ∧ ReferenceIdeal.Scan.Z m' c (Proc.devRef .tc ReferenceIdeal.main_v38) = KernelIdeal.Scan.W3 m c (Proc.devRef .tc KernelIdeal.main_v3_4)
      ∧ ReferenceIdeal.Scan.Z m' c (Proc.devRef .tc ReferenceIdeal.main_v51) = KernelIdeal.Scan.W3 m c (Proc.devRef .tc KernelIdeal.main_v3_5) := fun c => by
    refine ⟨(ReferenceIdeal.Scan.end_o).trans (Eq.trans ?_ (KernelIdeal.Scan.res_o m c).symm), (ReferenceIdeal.Scan.end_du (hF c)).trans (Eq.trans ?_ (KernelIdeal.Scan.res_du m c).symm), (ReferenceIdeal.Scan.end_dw (hF c)).trans (Eq.trans ?_ (KernelIdeal.Scan.res_dw m c).symm), (ReferenceIdeal.Scan.end_dq (hF c)).trans (Eq.trans ?_ (KernelIdeal.Scan.res_dq m c).symm), (ReferenceIdeal.Scan.end_dk (hF c)).trans (Eq.trans ?_ (KernelIdeal.Scan.res_dk m c).symm), (ReferenceIdeal.Scan.end_da (hF c)).trans (Eq.trans ?_ (KernelIdeal.Scan.res_da m c).symm), (ReferenceIdeal.Scan.end_dg (hF c)).trans (Eq.trans ?_ (KernelIdeal.Scan.res_dg m c).symm)⟩ <;> (rw [hD c]; try rfl)
  refine ⟨fun c => KernelIdeal.Scan.W3 m c (Proc.devRef .tc KernelIdeal.main_v2_0), fun c => KernelIdeal.Scan.W3 m c (Proc.devRef .tc KernelIdeal.main_v3_0), fun c => KernelIdeal.Scan.W3 m c (Proc.devRef .tc KernelIdeal.main_v3_1), fun c => KernelIdeal.Scan.W3 m c (Proc.devRef .tc KernelIdeal.main_v3_2), fun c => KernelIdeal.Scan.W3 m c (Proc.devRef .tc KernelIdeal.main_v3_3), fun c => KernelIdeal.Scan.W3 m c (Proc.devRef .tc KernelIdeal.main_v3_4), fun c => KernelIdeal.Scan.W3 m c (Proc.devRef .tc KernelIdeal.main_v3_5), ?_, ?_⟩
  · exact (θ_run KernelIdeal.defs _ _).mono (fun _ h c => ⟨h.1 c _ (KernelIdeal.Scan.res_uc KernelIdeal.main_v2_0 (by decide)), h.1 c _ (KernelIdeal.Scan.res_uc KernelIdeal.main_v3_0 (by decide)), h.1 c _ (KernelIdeal.Scan.res_uc KernelIdeal.main_v3_1 (by decide)), h.1 c _ (KernelIdeal.Scan.res_uc KernelIdeal.main_v3_2 (by decide)), h.1 c _ (KernelIdeal.Scan.res_uc KernelIdeal.main_v3_3 (by decide)), h.1 c _ (KernelIdeal.Scan.res_uc KernelIdeal.main_v3_4 (by decide)), h.1 c _ (KernelIdeal.Scan.res_uc KernelIdeal.main_v3_5 (by decide)), (h.1 c _ (KernelIdeal.Scan.arg_uc KernelIdeal.main_arg0 (by decide))).trans (KernelIdeal.Scan.W3_arg m c KernelIdeal.main_arg0 (by decide)), (h.1 c _ (KernelIdeal.Scan.arg_uc KernelIdeal.main_arg1 (by decide))).trans (KernelIdeal.Scan.W3_arg m c KernelIdeal.main_arg1 (by decide)), (h.1 c _ (KernelIdeal.Scan.arg_uc KernelIdeal.main_arg2 (by decide))).trans (KernelIdeal.Scan.W3_arg m c KernelIdeal.main_arg2 (by decide)), (h.1 c _ (KernelIdeal.Scan.arg_uc KernelIdeal.main_arg3 (by decide))).trans (KernelIdeal.Scan.W3_arg m c KernelIdeal.main_arg3 (by decide)), (h.1 c _ (KernelIdeal.Scan.arg_uc KernelIdeal.main_arg4 (by decide))).trans (KernelIdeal.Scan.W3_arg m c KernelIdeal.main_arg4 (by decide)), (h.1 c _ (KernelIdeal.Scan.arg_uc KernelIdeal.main_arg5 (by decide))).trans (KernelIdeal.Scan.W3_arg m c KernelIdeal.main_arg5 (by decide)), (h.1 c _ (KernelIdeal.Scan.arg_uc KernelIdeal.main_arg6 (by decide))).trans (KernelIdeal.Scan.W3_arg m c KernelIdeal.main_arg6 (by decide))⟩) (KernelIdeal.Scan.run_main m g)
  · exact (θ_run ReferenceIdeal.defs _ _).mono (fun _ h c => ⟨(h.1 c ReferenceIdeal.main_v22 (by decide)).trans (key c).1, (h.1 c ReferenceIdeal.main_v52 (by decide)).trans (key c).2.1, (h.1 c ReferenceIdeal.main_v41 (by decide)).trans (key c).2.2.1, (h.1 c ReferenceIdeal.main_v49 (by decide)).trans (key c).2.2.2.1, (h.1 c ReferenceIdeal.main_v46 (by decide)).trans (key c).2.2.2.2.1, (h.1 c ReferenceIdeal.main_v38 (by decide)).trans (key c).2.2.2.2.2.1, (h.1 c ReferenceIdeal.main_v51 (by decide)).trans (key c).2.2.2.2.2.2, (h.1 c ReferenceIdeal.main_arg0 (by decide)).trans (ReferenceIdeal.Scan.Z_arg m' c ReferenceIdeal.main_arg0 (by decide)), (h.1 c ReferenceIdeal.main_arg1 (by decide)).trans (ReferenceIdeal.Scan.Z_arg m' c ReferenceIdeal.main_arg1 (by decide)), (h.1 c ReferenceIdeal.main_arg2 (by decide)).trans (ReferenceIdeal.Scan.Z_arg m' c ReferenceIdeal.main_arg2 (by decide)), (h.1 c ReferenceIdeal.main_arg3 (by decide)).trans (ReferenceIdeal.Scan.Z_arg m' c ReferenceIdeal.main_arg3 (by decide)), (h.1 c ReferenceIdeal.main_arg4 (by decide)).trans (ReferenceIdeal.Scan.Z_arg m' c ReferenceIdeal.main_arg4 (by decide)), (h.1 c ReferenceIdeal.main_arg5 (by decide)).trans (ReferenceIdeal.Scan.Z_arg m' c ReferenceIdeal.main_arg5 (by decide)), (h.1 c ReferenceIdeal.main_arg6 (by decide)).trans (ReferenceIdeal.Scan.Z_arg m' c ReferenceIdeal.main_arg6 (by decide))⟩) (ReferenceIdeal.Scan.run_main m' g')

theorem frame_kernel_ideal_finite : Cert.quiescent_KernelIdeal_pre_finite := fun m g _ => frameAt Ideal m g trivial
theorem frame_reference_ideal_finite : Cert.quiescent_ReferenceIdeal_pre_finite := fun m g _ => frame_reference_ideal m g trivial

end Cert

end
-- ==== Proof.Ffn.Fwd.lean ====
/- The feed-forward call: what its three arrays hold after the run. -/
module

public import proofs.«01_k».proof.Proof.Gen.Kernel2Ideal.Value
public import Idealize.ShloMosaic.Lib.Pipeline.ValueKit
public import Idealize.ShloMosaic.Lib.Pointwise

@[expose] public section

set_option maxRecDepth 16384

noncomputable section

namespace Cert.Kernel2Ideal.Ffn

open Idealize.ShloMosaic Idealize.ShloMosaic.TcCoe Idealize.ShloMosaic.Pointwise
open Idealize.ShloMosaic.Pipeline (Dat Cfg Window)
open Cert.Kernel2Ideal Cert.Kernel2Ideal.Gen

variable (m : (ℓ : Loc nD τ sig) → Buf (Elt Ideal) ℓ)

/-- A row normalised and weighted. -/
def rn (x nw : Fin 1024 → EReal) (d : Fin 1024) : EReal :=
  x d * Ideal.rsqrt (Ideal.div (∑ e, x e * x e) (Ideal.ofBits FTy.f32 1149239296#32) + Ideal.ofBits FTy.f32 897988541#32) * nw d

/-- The gated product of one hidden position. -/
def act (g u : EReal) : EReal := g * Ideal.div 1 (1 + Ideal.exp (0 - g)) * u

theorem xn_pay (x0 : Vec Ideal S512x1024 .f32) (x1 : Vec Ideal S1x1024 .f32) (r : Fin 512) (d : Fin 1024) :
    k0_pay2 x0 x1 (ix2 r d) = rn (fun e => x0 (ix2 r e)) (fun e => x1 (ix2 0 e)) d := by
  pointwise [k0_pay2, rn]

theorem gu_pay (xn : Vec Ideal S512x1024 .bf16) (w : Vec Ideal S1x1024x704 .bf16) (z : Fin 1) (r : Fin 512) (f : Fin 704) :
    k0_pay5 xn w (ix3 z r f) = ∑ x, xn (ix2 r x) * w (ix3 0 x f) := by
  pointwise [k0_pay5]

theorem first_pay (g u : Vec Ideal S1x512x704 .bf16) (w : Vec Ideal S1x704x1024 .bf16) (r : Fin 512) (d : Fin 1024) :
    k0_pay11 g u w (ix2 r d) = ∑ x, act (g (ix3 0 r x)) (u (ix3 0 r x)) * w (ix3 0 x d) := by
  pointwise [k0_pay11, act]

theorem mid_pay (a : FVec Ideal S512x1024 .f32) (g u g' u' : Vec Ideal S1x512x704 .bf16) (w w' : Vec Ideal S1x704x1024 .bf16) (r : Fin 512) (d : Fin 1024) :
    k0_pay12 a g u w g' u' w' (ix2 r d) = a (ix2 r d) + ∑ x, act (g (ix3 0 r x)) (u (ix3 0 r x)) * w (ix3 0 x d)
      + ∑ x, act (g' (ix3 0 r x)) (u' (ix3 0 r x)) * w' (ix3 0 x d) := by
  pointwise [k0_pay12, act]

theorem last_pay (v0 : Vec Ideal S512x1024 .f32) (a : FVec Ideal S512x1024 .f32) (g u : Vec Ideal S1x512x704 .bf16) (w : Vec Ideal S1x704x1024 .bf16) (r : Fin 512) (d : Fin 1024) :
    k0_pay1 v0 a g u w (ix2 r d) = v0 (ix2 r d) + Ideal.ofBits FTy.f32 1056964608#32 * (a (ix2 r d) + ∑ x, act (g (ix3 0 r x)) (u (ix3 0 r x)) * w (ix3 0 x d)) := by
  pointwise [k0_pay1, act]

/-- The eight stores of the saved hidden, the last first. -/
def guL (x0 : Vec Ideal S512x1024 .f32) (x1 : Vec Ideal S1x1024 .f32) (x2 : Vec Ideal S8x1024x704 .bf16) : List (View.Piece (Elt Ideal) S8x512x704 .bf16) :=
  [⟨Rect.unit ![7, 0, 0] ![1, 512, 704] inb_S8x512x704_S1x512x704_7_0_0, k0_pay10 (k0_pay2 x0 x1) (View.ld x2 (Rect.unit ![7, 0, 0] ![1, 1024, 704] inb_S8x1024x704_S1x1024x704_7_0_0))⟩,
   ⟨Rect.unit ![6, 0, 0] ![1, 512, 704] inb_S8x512x704_S1x512x704_6_0_0, k0_pay9 (k0_pay2 x0 x1) (View.ld x2 (Rect.unit ![6, 0, 0] ![1, 1024, 704] inb_S8x1024x704_S1x1024x704_6_0_0))⟩,
   ⟨Rect.unit ![5, 0, 0] ![1, 512, 704] inb_S8x512x704_S1x512x704_5_0_0, k0_pay8 (k0_pay2 x0 x1) (View.ld x2 (Rect.unit ![5, 0, 0] ![1, 1024, 704] inb_S8x1024x704_S1x1024x704_5_0_0))⟩,
   ⟨Rect.unit ![4, 0, 0] ![1, 512, 704] inb_S8x512x704_S1x512x704_4_0_0, k0_pay7 (k0_pay2 x0 x1) (View.ld x2 (Rect.unit ![4, 0, 0] ![1, 1024, 704] inb_S8x1024x704_S1x1024x704_4_0_0))⟩,
   ⟨Rect.unit ![3, 0, 0] ![1, 512, 704] inb_S8x512x704_S1x512x704_3_0_0, k0_pay6 (k0_pay2 x0 x1) (View.ld x2 (Rect.unit ![3, 0, 0] ![1, 1024, 704] inb_S8x1024x704_S1x1024x704_3_0_0))⟩,
   ⟨Rect.unit ![2, 0, 0] ![1, 512, 704] inb_S8x512x704_S1x512x704_2_0_0, k0_pay5 (k0_pay2 x0 x1) (View.ld x2 (Rect.unit ![2, 0, 0] ![1, 1024, 704] inb_S8x1024x704_S1x1024x704_2_0_0))⟩,
   ⟨Rect.unit ![1, 0, 0] ![1, 512, 704] inb_S8x512x704_S1x512x704_1_0_0, k0_pay4 x0 x1 (View.ld x2 (Rect.unit ![1, 0, 0] ![1, 1024, 704] inb_S8x1024x704_S1x1024x704_1_0_0))⟩,
   ⟨Rect.unit ![0, 0, 0] ![1, 512, 704] inb_S8x512x704_S1x512x704_0_0_0, k0_pay3 x0 x1 (View.ld x2 (Rect.unit ![0, 0, 0] ![1, 1024, 704] inb_S8x1024x704_S1x1024x704_0_0_0))⟩]

/-- One entry of the block's hidden. -/
def guB (x0 : Vec Ideal S512x1024 .f32) (x1 : Vec Ideal S1x1024 .f32) (x2 : Vec Ideal S8x1024x704 .bf16) (j : Fin 8) (r : Fin 512) (f : Fin 704) : EReal :=
  ∑ d, k0_pay2 x0 x1 (ix2 r d) * x2 (ix3 j d f)

theorem piece (x0 : Vec Ideal S512x1024 .f32) (x1 : Vec Ideal S1x1024 .f32) (x2 : Vec Ideal S8x1024x704 .bf16) (k : ℕ)
    (inb : ∀ a, (![k, 0, 0] : Fin 3 → ℕ) a + (![1, 1024, 704] : Fin 3 → ℕ) a ≤ S8x1024x704.size a) (x : S1x512x704.Idx) (y : S8x512x704.Idx)
    (h0 : (y 0).val = k + (x 0).val) (h1 : (y 1).val = (x 1).val) (h2 : (y 2).val = (x 2).val) :
    k0_pay5 (k0_pay2 x0 x1) (View.ld x2 (Rect.unit ![k, 0, 0] ![1, 1024, 704] inb)) x = guB x0 x1 x2 (y 0) (y 1) (y 2) := by
  refine (congrArg _ (eq_ix3 x)).trans ((gu_pay _ _ _ _ _).trans ?_)
  unfold guB
  refine Finset.sum_congr rfl fun d _ => ?_
  have hx : (x 0).val < 1 := (x 0).isLt
  rw [show x 1 = y 1 from Fin.ext h1.symm, View.ld_unit_apply_of x2 _ _ inb (ix3 0 d (x 2)) (ix3 (y 0) d (y 2)) (by
    intro a
    fin_cases a
    · show (y 0).val = k + 0; omega
    · show d.val = 0 + d.val; omega
    · show (y 2).val = 0 + (x 2).val; omega)]

theorem gu_canon (x0 : Vec Ideal S512x1024 .f32) (x1 : Vec Ideal S1x1024 .f32) (x2 : Vec Ideal S8x1024x704 .bf16) (y : S8x512x704.Idx) :
    View.canon (guL x0 x1 x2) y = guB x0 x1 x2 (y 0) (y 1) (y 2) := by
  unfold guL
  canon_tiles x h
  all_goals exact piece x0 x1 x2 _ _ x y (by omega) h1 h2

/-- A load of one block of the hidden just stored. -/
theorem gu_load {κ : Kind} {sp : Space} (v : View sig κ sp S8x512x704 .bf16) (x0 : Vec Ideal S512x1024 .f32) (x1 : Vec Ideal S1x1024 .f32) (x2 : Vec Ideal S8x1024x704 .bf16)
    (k : ℕ) (hk : k < 8) (inb : ∀ a, (![k, 0, 0] : Fin 3 → ℕ) a + (![1, 512, 704] : Fin 3 → ℕ) a ≤ S8x512x704.size a) (y : S1x512x704.Idx) :
    v.readCov (guL x0 x1 x2) (Rect.unit (s := S8x512x704) ![k, 0, 0] ![1, 512, 704] inb).toLoadRect y = guB x0 x1 x2 ⟨k, hk⟩ (y 1) (y 2) := by
  rw [View.readCov_eq_canon']
  refine (gu_canon x0 x1 x2 _).trans ?_
  have e := Rect.idx_unit_val (s := S8x512x704) ![k, 0, 0] ![1, 512, 704] inb y
  have hy : (y 0).val < 1 := (y 0).isLt
  congr 1
  · exact Fin.ext ((e 0).trans (by show k + (y 0).val = k; omega))
  · exact Fin.ext ((e 1).trans (by show 0 + (y 1).val = (y 1).val; omega))
  · exact Fin.ext ((e 2).trans (by show 0 + (y 2).val = (y 2).val; omega))

theorem wd_load (x3 : Vec Ideal S4x704x1024 .bf16) (k : ℕ) (hk : k < 4) (inb : ∀ a, (![k, 0, 0] : Fin 3 → ℕ) a + (![1, 704, 1024] : Fin 3 → ℕ) a ≤ S4x704x1024.size a)
    (y : S1x704x1024.Idx) : View.ld x3 (Rect.unit (s := S4x704x1024) ![k, 0, 0] ![1, 704, 1024] inb) y = x3 (ix3 ⟨k, hk⟩ (y 1) (y 2)) := by
  have hy : (y 0).val < 1 := (y 0).isLt
  refine View.ld_unit_apply_of x3 _ _ inb y (ix3 ⟨k, hk⟩ (y 1) (y 2)) fun a => ?_
  fin_cases a
  · show k = k + (y 0).val; omega
  · show (y 1).val = 0 + (y 1).val; omega
  · show (y 2).val = 0 + (y 2).val; omega

/-- The three results as functions of the arguments. -/
def XN (X : Vec Ideal S8192x1024 .f32) (NW : Vec Ideal S1x1024 .f32) : Vec Ideal S8192x1024 .bf16 := fun i =>
  rn (fun e => X (ix2 (i 0) e)) (fun e => NW (ix2 0 e)) (i 1)
def GU (X : Vec Ideal S8192x1024 .f32) (NW : Vec Ideal S1x1024 .f32) (WG : Vec Ideal S8x1024x704 .bf16) : Vec Ideal S8x8192x704 .bf16 := fun i =>
  ∑ d, XN X NW (ix2 (i 1) d) * WG (ix3 (i 0) d (i 2))
def OUT (X : Vec Ideal S8192x1024 .f32) (NW : Vec Ideal S1x1024 .f32) (WG : Vec Ideal S8x1024x704 .bf16) (WD : Vec Ideal S4x704x1024 .bf16) : Vec Ideal S8192x1024 .f32 := fun i =>
  X i + Ideal.ofBits FTy.f32 1056964608#32 * ∑ j : Fin 4, ∑ f : Fin 704,
    act (GU X NW WG (ix3 ⟨j.val, by omega⟩ (i 0) f)) (GU X NW WG (ix3 ⟨j.val + 4, by omega⟩ (i 0) f)) * WD (ix3 j f (i 1))

theorem idx : ∀ t : Fin cfg0.N, win0_0.index t = ![t.val, 0] ∧ win0_1.index t = ![0, 0] ∧ win0_2.index t = ![0, 0, 0] ∧ win0_3.index t = ![0, 0, 0]
    ∧ win0_4.index t = ![t.val, 0] ∧ win0_5.index t = ![t.val, 0] ∧ win0_6.index t = ![0, t.val, 0] := (by decide +kernel : ∀ t : Fin grid0.N, _)

abbrev aX (c : Dev nD) : Vec Ideal S8192x1024 .f32 := m ((c : Thread nD τ).loc main_arg0)
abbrev aN (c : Dev nD) : Vec Ideal S1x1024 .f32 := m ((c : Thread nD τ).loc main_arg1)
abbrev aG (c : Dev nD) : Vec Ideal S8x1024x704 .bf16 := m ((c : Thread nD τ).loc main_arg2)
abbrev aD (c : Dev nD) : Vec Ideal S4x704x1024 .bf16 := m ((c : Thread nD τ).loc main_arg3)

theorem row_lt (t : Fin cfg0.N) (r : Fin 512) : t.val * 512 + r.val < 8192 := by have : t.val < 16 := t.isLt; omega
def row (t : Fin cfg0.N) (r : Fin 512) : Fin 8192 := ⟨t.val * 512 + r.val, row_lt t r⟩

theorem rd0 (c : Dev nD) (t : Fin cfg0.N) (r : Fin 512) (d : Fin 1024) : iblk m c 0 t (ix2 r d) = aX m c (ix2 (row t r) d) := by
  unfold row; blk_ext [iblk, V, idx t]
theorem rd1 (c : Dev nD) (t : Fin cfg0.N) (d : Fin 1024) : iblk m c 1 t (ix2 0 d) = aN m c (ix2 0 d) := by
  blk_ext [iblk, V, idx t]
theorem rd2 (c : Dev nD) (t : Fin cfg0.N) (j : Fin 8) (d : Fin 1024) (f : Fin 704) : iblk m c 2 t (ix3 j d f) = aG m c (ix3 j d f) := by
  blk_ext [iblk, V, idx t]
theorem rd3 (c : Dev nD) (t : Fin cfg0.N) (j : Fin 4) (f : Fin 704) (d : Fin 1024) : iblk m c 3 t (ix3 j f d) = aD m c (ix3 j f d) := by
  blk_ext [iblk, V, idx t]

theorem xn_blk (c : Dev nD) (t : Fin cfg0.N) (r : Fin 512) (d : Fin 1024) :
    k0_pay2 (iblk m c 0 t) (iblk m c 1 t) (ix2 r d) = XN (aX m c) (aN m c) (ix2 (row t r) d) := by
  rw [xn_pay]
  simp only [rd0, rd1, XN, ix2_0, ix2_1]

theorem gu_blk (c : Dev nD) (t : Fin cfg0.N) (j : Fin 8) (r : Fin 512) (f : Fin 704) :
    guB (iblk m c 0 t) (iblk m c 1 t) (iblk m c 2 t) j r f = GU (aX m c) (aN m c) (aG m c) (ix3 j (row t r) f) := by
  unfold guB GU
  refine Finset.sum_congr rfl fun d _ => ?_
  rw [xn_blk, rd2]; rfl

theorem emb4 (t : Fin cfg0.N) (r : Fin 512) (d : Fin 1024) : ((View.whole main_v0_0).slice (win0_4.rect t)).emb (ix2 r d) = ix2 (row t r) d := by
  unfold row; blk_ext [idx t]
theorem emb5 (t : Fin cfg0.N) (r : Fin 512) (d : Fin 1024) : ((View.whole main_v0_1).slice (win0_5.rect t)).emb (ix2 r d) = ix2 (row t r) d := by
  unfold row; blk_ext [idx t]
theorem emb6 (t : Fin cfg0.N) (j : Fin 8) (r : Fin 512) (f : Fin 704) : ((View.whole main_v0_2).slice (win0_6.rect t)).emb (ix3 j r f) = ix3 j (row t r) f := by
  unfold row; blk_ext [idx t]

theorem final5 (c : Dev nD) : (dats m 0 c).arrAt 5 cfg0.N = XN (aX m c) (aN m c) := by
  refine (dats m 0 c).arrAt_eq_of_covers 5 _ (by decide +kernel) fun t _ y => ?_
  obtain ⟨r, d, rfl⟩ : ∃ r d, y = ix2 r d := ⟨_, _, eq_ix2 y⟩
  blk_simp
  rw [after0_5]
  unfold outsAt0
  frame_out
  exact (xn_blk m c t _ _).trans (congrArg _ (emb5 t _ _).symm)

theorem final6 (c : Dev nD) : (dats m 0 c).arrAt 6 cfg0.N = GU (aX m c) (aN m c) (aG m c) := by
  refine (dats m 0 c).arrAt_eq_of_covers 6 _ (by decide +kernel) fun t _ y => ?_
  obtain ⟨j, r, f, rfl⟩ : ∃ j r f, y = ix3 j r f := ⟨_, _, _, eq_ix3 y⟩
  blk_simp
  rw [after0_6]
  unfold outsAt0
  frame_out
  refine (gu_canon (iblk m c 0 t) (iblk m c 1 t) (iblk m c 2 t) _).trans ?_
  refine (gu_blk m c t _ _ _).trans (congrArg _ ?_)
  exact (emb6 t _ _ _).symm

/-- The four blocks of the second product, one after the other onto the residual. -/
theorem out_val (x0 : Vec Ideal S512x1024 .f32) (g0 g1 g2 g3 g4 g5 g6 g7 : Vec Ideal S1x512x704 .bf16) (w0 w1 w2 w3 : Vec Ideal S1x704x1024 .bf16)
    (G : Fin 8 → Fin 512 → Fin 704 → EReal) (W : Vec Ideal S4x704x1024 .bf16)
    (h0 : ∀ y, g0 y = G 0 (y 1) (y 2)) (h1 : ∀ y, g1 y = G 1 (y 1) (y 2)) (h2 : ∀ y, g2 y = G 2 (y 1) (y 2)) (h3 : ∀ y, g3 y = G 3 (y 1) (y 2))
    (h4 : ∀ y, g4 y = G 4 (y 1) (y 2)) (h5 : ∀ y, g5 y = G 5 (y 1) (y 2)) (h6 : ∀ y, g6 y = G 6 (y 1) (y 2)) (h7 : ∀ y, g7 y = G 7 (y 1) (y 2))
    (k0 : ∀ y, w0 y = W (ix3 0 (y 1) (y 2))) (k1 : ∀ y, w1 y = W (ix3 1 (y 1) (y 2))) (k2 : ∀ y, w2 y = W (ix3 2 (y 1) (y 2))) (k3 : ∀ y, w3 y = W (ix3 3 (y 1) (y 2)))
    (r : Fin 512) (d : Fin 1024) :
    k0_pay1 x0 (k0_pay12 (k0_pay11 g0 g4 w0) g1 g5 w1 g2 g6 w2) g3 g7 w3 (ix2 r d)
    = x0 (ix2 r d) + Ideal.ofBits FTy.f32 1056964608#32 * ∑ j : Fin 4, ∑ f : Fin 704,
        act (G ⟨j.val, by omega⟩ r f) (G ⟨j.val + 4, by omega⟩ r f) * W (ix3 j f d) := by
  rw [last_pay, mid_pay, first_pay, Fin.sum_univ_four]
  simp only [h0, h1, h2, h3, h4, h5, h6, h7, k0, k1, k2, k3]
  rfl

theorem final4 (c : Dev nD) : (dats m 0 c).arrAt 4 cfg0.N = OUT (aX m c) (aN m c) (aG m c) (aD m c) := by
  refine (dats m 0 c).arrAt_eq_of_covers 4 _ (by decide +kernel) fun t _ y => ?_
  obtain ⟨r, d, rfl⟩ : ∃ r d, y = ix2 r d := ⟨_, _, eq_ix2 y⟩
  blk_simp
  rw [after0_4]
  unfold outsAt0
  frame_out
  refine (out_val (iblk m c 0 t) _ _ _ _ _ _ _ _ _ _ _ _ (guB (iblk m c 0 t) (iblk m c 1 t) (iblk m c 2 t)) (iblk m c 3 t)
    (gu_load _ _ _ _ 0 (by decide) _) (gu_load _ _ _ _ 1 (by decide) _) (gu_load _ _ _ _ 2 (by decide) _) (gu_load _ _ _ _ 3 (by decide) _)
    (gu_load _ _ _ _ 4 (by decide) _) (gu_load _ _ _ _ 5 (by decide) _) (gu_load _ _ _ _ 6 (by decide) _) (gu_load _ _ _ _ 7 (by decide) _)
    (wd_load _ 0 (by decide) _) (wd_load _ 1 (by decide) _) (wd_load _ 2 (by decide) _) (wd_load _ 3 (by decide) _) _ _).trans ?_
  refine Eq.trans ?_ (congrArg _ (emb4 t _ _).symm)
  simp only [rd0, rd3, gu_blk, OUT, ix2_0, ix2_1]

end Cert.Kernel2Ideal.Ffn
end
-- ==== Proof.Ffn.FwdRef.lean ====
/- The feed-forward lines of the reference, read as the functions of the kernel's side. -/
module

public import proofs.«01_k».proof.Proof.Ffn.Fwd
public import proofs.«01_k».proof.Defs
public import proofs.«01_k».proof.Proof.Gen.Kernel2
public import proofs.«01_k».proof.Proof.Gen.Reference2Ideal.Run

@[expose] public section

set_option maxRecDepth 16384

noncomputable section

namespace Cert.Reference2Ideal.Ffn

open Idealize.ShloMosaic Idealize.ShloMosaic.TcCoe Idealize.ShloMosaic.Pointwise
open Cert.Reference2Ideal Cert.Reference2Ideal.Gen
open Cert.Kernel2Ideal.Ffn (rn act XN GU OUT)

variable (X : Vec Ideal S8192x1024 .f32) (NW : Vec Ideal S1x1024 .f32) (WG : Vec Ideal S8x1024x704 .bf16) (WD : Vec Ideal S4x704x1024 .bf16)

/-- The normalised rows as the reference spells them. -/
abbrev hT : FVec Ideal S8192x1024 .f32 := mulf (mulf X (broadcastInDim S8192x1024 ![0, 1] bcast_S8192x1_S8192x1024_0_1 (Host.rsqrt (addf (Host.divf (broadcastInDim S8192x1 ![0] bcast_S8192_S8192x1_0 (Host.reduceAdd (mulf X X) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))))) (broadcastInDim S8192x1024 ![0, 1] bcast_S1x1024_S8192x1024_0_1 NW)

theorem h_at (r : Fin 8192) (d : Fin 1024) : hT X NW (ix2 r d) = XN X NW (ix2 r d) := by
  pointwise [hT, XN, rn]

/-- The first product over the joined columns. -/
def guT (h : FVec Ideal S8192x1024 .f32) : FVec Ideal S8192x5632 .f32 := Host.dotGeneral (F := Ideal) dot_S8192x1024_S1024x5632_S8192x5632_1_0_0_1_n_n none h
  (shapeCast _ (transpose S1024x8x704 [1, 0, 2] (extf .f32 WG bitsLt_bf16_f32) transposes_S8x1024x704_S1024x8x704_1_0_2) shapeCasts_S1024x8x704_S1024x5632)

theorem gu_at (h : FVec Ideal S8192x1024 .f32) (r : Fin 8192) (j : Fin 8) (f : Fin 704) (hl : j.val * 704 + f.val < 5632) :
    guT WG h (ix2 r ⟨j.val * 704 + f.val, hl⟩) = ∑ d, h (ix2 r d) * WG (ix3 j d f) := by
  pointwise [guT]

theorem sv_at (g : FVec Ideal S8192x5632 .f32) (r : Fin 8192) (j : Fin 8) (f : Fin 704) :
    truncf .bf16 (transpose S8x8192x704 [1, 0, 2] (shapeCast _ g shapeCasts_S8192x5632_S8192x8x704) transposes_S8192x8x704_S8x8192x704_1_0_2) bitsLt_bf16_f32 (ix3 j r f)
      = g (ix2 r ⟨j.val * 704 + f.val, by omega⟩) := by
  pointwise

/-- The gated product, the second matrix and the residual. -/
def outT (g : FVec Ideal S8192x5632 .f32) : FVec Ideal S8192x1024 .f32 :=
    addf X (mulf (broadcastInDim S8192x1024 ![] bcast_S_S8192x1024 (constant (F := Ideal) S_ .f32 0x3F000000#32)) (Host.dotGeneral dot_S8192x2816_S2816x1024_S8192x1024_1_0_0_1_n_n none (mulf (mulf (extractStridedSlice S8192x2816 ![0, 0] g slices_S8192x5632_S8192x2816_0_0) (Host.divf (broadcastInDim S8192x2816 ![] bcast_S_S8192x2816 (constant (F := Ideal) S_ .f32 0x3F800000#32)) (addf (broadcastInDim S8192x2816 ![] bcast_S_S8192x2816 (constant (F := Ideal) S_ .f32 0x3F800000#32)) (Host.exp (Host.negf (extractStridedSlice S8192x2816 ![0, 0] g slices_S8192x5632_S8192x2816_0_0)))))) (extractStridedSlice S8192x2816 ![0, 2816] g slices_S8192x5632_S8192x2816_0_2816)) (shapeCast _ (extf .f32 WD bitsLt_bf16_f32) shapeCasts_S4x704x1024_S2816x1024)))

theorem out_at (g : FVec Ideal S8192x5632 .f32) (r : Fin 8192) (d : Fin 1024) :
    outT X WD g (ix2 r d) = X (ix2 r d) + Ideal.ofBits FTy.f32 1056964608#32 * ∑ j : Fin 4, ∑ f : Fin 704,
      act (g (ix2 r ⟨j.val * 704 + f.val, by omega⟩)) (g (ix2 r ⟨(j.val + 4) * 704 + f.val, by omega⟩)) * WD (ix3 j f d) := by
  pointwise [outT, act]
  congr 2
  refine (Fin.sum_mul_add_congr (S := 4) (n := 704) fun j f hl => ?_).symm
  have e1 : (j.val * 704 + f.val) / 704 = j.val := by omega
  have e2 : (j.val * 704 + f.val) % 704 = f.val := by omega
  have e3 : 2816 + (j.val * 704 + f.val) = (j.val + 4) * 704 + f.val := by omega
  simp only [e1, e2, e3, zero_sub]

theorem gu_eq (r : Fin 8192) (j : Fin 8) (f : Fin 704) (hl : j.val * 704 + f.val < 5632) :
    guT WG (hT X NW) (ix2 r ⟨j.val * 704 + f.val, hl⟩) = GU X NW WG (ix3 j r f) := by
  rw [gu_at]
  exact Finset.sum_congr rfl fun d _ => congrArg (· * _) (h_at X NW r d)

theorem ref5 : truncf .bf16 (hT X NW) bitsLt_bf16_f32 = XN X NW := funext fun i => by
  rw [eq_ix2 i]; exact h_at X NW _ _

theorem ref6 : truncf .bf16 (transpose S8x8192x704 [1, 0, 2] (shapeCast _ (guT WG (hT X NW)) shapeCasts_S8192x5632_S8192x8x704) transposes_S8192x8x704_S8x8192x704_1_0_2) bitsLt_bf16_f32 = GU X NW WG :=
  funext fun i => by
    rw [eq_ix3 i]; exact (sv_at _ _ _ _).trans (gu_eq X NW WG _ _ _ _)

theorem ref4 : outT X WD (guT WG (hT X NW)) = OUT X NW WG WD := funext fun i => by
  obtain ⟨r, d, rfl⟩ : ∃ r d, i = ix2 r d := ⟨_, _, eq_ix2 i⟩
  rw [out_at]
  refine congrArg (X (ix2 r d) + _ * ·) (Finset.sum_congr rfl fun j _ => Finset.sum_congr rfl fun f _ => congrArg (· * _) (congrArg₂ act ?_ ?_))
  · exact gu_eq X NW WG r ⟨j.val, by omega⟩ f _
  · exact gu_eq X NW WG r ⟨j.val + 4, by omega⟩ f _

end Cert.Reference2Ideal.Ffn

namespace Cert

open Idealize.ShloMosaic Idealize.ShloMosaic.TcCoe Idealize.SL.Sem

/-- The forward feed-forward call and its reference, from equal arguments, end with equal results. -/
theorem algebraic2 : Cert.algebraic_Kernel2Ideal_Reference2Ideal := by
  intro m g m' g' _ hag
  refine ⟨fun c => Kernel2Ideal.Ffn.OUT (Kernel2Ideal.Ffn.aX m c) (Kernel2Ideal.Ffn.aN m c) (Kernel2Ideal.Ffn.aG m c) (Kernel2Ideal.Ffn.aD m c),
    fun c => Kernel2Ideal.Ffn.XN (Kernel2Ideal.Ffn.aX m c) (Kernel2Ideal.Ffn.aN m c),
    fun c => Kernel2Ideal.Ffn.GU (Kernel2Ideal.Ffn.aX m c) (Kernel2Ideal.Ffn.aN m c) (Kernel2Ideal.Ffn.aG m c),
    (θ_run _ _ _).mono (fun _ h c => ?_) (Cert.Kernel2Ideal.Value.run_blocks m g),
    (θ_run _ _ _).mono (fun _ h c => ?_) (Cert.Reference2Ideal.Value.run m' g')⟩
  · obtain ⟨h4, h5, h6, hk⟩ := h c
    exact ⟨h4.trans (Kernel2Ideal.Ffn.final4 m c), h5.trans (Kernel2Ideal.Ffn.final5 m c), h6.trans (Kernel2Ideal.Ffn.final6 m c), hk⟩
  · obtain ⟨h4, h5, h6, hk⟩ := h c
    obtain ⟨e0, e1, e2, e3⟩ := hag c
    simp only [Kernel2Ideal.Ffn.aX, Kernel2Ideal.Ffn.aN, Kernel2Ideal.Ffn.aG, Kernel2Ideal.Ffn.aD, ← e0, ← e1, ← e2, ← e3]
    exact ⟨h4.trans (Reference2Ideal.Ffn.ref4 _ _ _ _), h5.trans (Reference2Ideal.Ffn.ref5 _ _), h6.trans (Reference2Ideal.Ffn.ref6 _ _ _), hk⟩

theorem frame_kernel2_ideal : Cert.quiescent_Kernel2Ideal := fun m g _ => Cert.Kernel2Ideal.Gen.frame (F := Ideal) m g
theorem frame_kernel2 : Cert.quiescent_Kernel2 := by
  have h := fun m g (_ : True) => Cert.Kernel2Ideal.Gen.frame (F := Bits) m g
  exact Eq.mp (by sl_kernel_rfl) h
theorem frame_reference2 : Cert.quiescent_Reference2Ideal := by
  intro m g _
  hlo_run
  · intro c; simp
  · exact funext fun g => by
      obtain ⟨_, s⟩ := g
      cases s with
      | reg s => exact s.elim0
      | dma s => exact s.elim0

end Cert
end
-- ==== Proof.Ffn.Row.lean ====
/- One row of the gradient through the root mean square, in the kernel's order and in the reference's. -/
module

public import Idealize.ShloMosaic.Lib.IdealHost
public import Idealize.ShloMosaic.Lib.Pointwise

@[expose] public section

noncomputable section

namespace Cert.Row

open Idealize.ShloMosaic

theorem c1024 : Ideal.ofBits .f32 0x44800000#32 = ((1024 : ℝ) : EReal) := by
  simp [Ideal.ofBits, Ideal.ieee, -EReal.coe_mul]; norm_num
theorem cHalf : Ideal.ofBits .f32 0xBF000000#32 = ((-(1 / 2) : ℝ) : EReal) := by
  simp [Ideal.ofBits, Ideal.ieee, -EReal.coe_mul, -EReal.coe_neg]; norm_num
theorem cEps : ∃ e : ℝ, 0 < e ∧ Ideal.ofBits .f32 0x358637BD#32 = (e : EReal) := by
  refine ⟨8796093 / 2 ^ 43, by positivity, ?_⟩
  simp [Ideal.ofBits, Ideal.ieee, -EReal.coe_mul]; norm_num

theorem twice (u : EReal) : u + u = u * ((2 : ℝ) : EReal) := by
  induction u with
  | bot => rw [EReal.bot_mul_coe_of_pos (by norm_num)]; rfl
  | top => rw [EReal.top_mul_coe_of_pos (by norm_num)]; rfl
  | coe x => rw [← EReal.coe_add, ← EReal.coe_mul]; congr 1; ring

/-- A factor that is neither negative nor infinite comes out of a sum. -/
theorem sum_out {n : ℕ} (f : Fin n → EReal) {r : EReal} (h0 : 0 ≤ r) (h1 : r ≠ ⊤) : ∑ e, f e * r = (∑ e, f e) * r := by
  classical
  have h : ∀ s : Finset (Fin n), ∑ e ∈ s, f e * r = (∑ e ∈ s, f e) * r := fun s => by
    induction s using Finset.induction_on with
    | empty => simp
    | insert a s ha ih => rw [Finset.sum_insert ha, Finset.sum_insert ha, ih, EReal.right_distrib_of_nonneg_of_ne_top h0 h1]
  exact h _

theorem sq_nonneg' (x : EReal) : 0 ≤ x * x := by
  rcases le_total 0 x with h | h
  · exact mul_nonneg h h
  · simpa using EReal.mul_nonneg_iff.mpr (Or.inr ⟨h, h⟩)

/-- The mean of the squares, and what is under the root. -/
def ms (x : Fin 1024 → EReal) : EReal := Ideal.div (∑ e, x e * x e) (Ideal.ofBits .f32 0x44800000#32) + Ideal.ofBits .f32 0x358637BD#32

/-- Under the root is either infinity, or a positive number, and then the row has no infinity. -/
theorem ms_cases (x : Fin 1024 → EReal) : ms x = ⊤ ∨ ∃ s : ℝ, 0 < s ∧ ms x = (s : EReal) ∧ ∀ d, ∃ y : ℝ, x d = (y : EReal) := by
  obtain ⟨e, he, hE⟩ := cEps
  unfold ms
  rw [hE, c1024, Ideal.div_coe (by norm_num)]
  have hS : 0 ≤ ∑ e, x e * x e := Finset.sum_nonneg fun e _ => sq_nonneg' (x e)
  have hd : ∀ d, x d * x d ≤ ∑ e, x e * x e := fun d => Finset.single_le_sum (f := fun e => x e * x e) (fun e _ => sq_nonneg' (x e)) (Finset.mem_univ d)
  generalize (∑ e, x e * x e) = S at hS hd
  induction S with
  | bot => exact absurd hS (by simp)
  | top => left; rw [EReal.top_mul_coe_of_pos (by norm_num)]; rfl
  | coe S =>
    right
    have hS' : (0 : ℝ) ≤ S := by exact_mod_cast hS
    refine ⟨S * (1 / 1024) + e, by positivity, by push_cast; rfl, fun d => ?_⟩
    have h := hd d
    generalize x d = y at h
    induction y with
    | bot => exact absurd h (by simp)
    | top => exact absurd h (by simp)
    | coe y => exact ⟨y, rfl⟩

/-- The kernel's order. -/
def rowK (D : EReal) (x a : Fin 1024 → EReal) (d : Fin 1024) : EReal :=
  D + Ideal.rsqrt (ms x) * (a d - x d * Ideal.rsqrt (ms x) * Ideal.div (∑ e, a e * (x e * Ideal.rsqrt (ms x))) (Ideal.ofBits .f32 0x44800000#32))

/-- The reference's order. -/
def quo (x a : Fin 1024 → EReal) : EReal :=
  Ideal.div ((∑ e, x e * a e) * (Ideal.ofBits .f32 0xBF000000#32 * Ideal.div (Ideal.rsqrt (ms x)) (ms x))) (Ideal.ofBits .f32 0x44800000#32)
def rowR (D : EReal) (x a : Fin 1024 → EReal) (d : Fin 1024) : EReal :=
  D + a d * Ideal.rsqrt (ms x) + x d * quo x a + quo x a * x d

theorem row_eq (D : EReal) (x a : Fin 1024 → EReal) (d : Fin 1024) : rowR D x a d = rowK D x a d := by
  unfold rowR rowK quo
  rw [c1024, cHalf, Ideal.div_coe (by norm_num), Ideal.div_coe (by norm_num)]
  rcases ms_cases x with h | ⟨s, hs, h, hx⟩
  · have hr : Ideal.rsqrt ⊤ = 0 := rfl
    have hq : Ideal.div 0 ⊤ = 0 := by simp [Ideal.div]
    rw [h, hr, hq]; simp
  · have hr : Ideal.rsqrt (s : EReal) = (((Real.sqrt s)⁻¹ : ℝ) : EReal) := by
      show (if s < 0 then ⊥ else if s = 0 then ⊤ else (((Real.sqrt s)⁻¹ : ℝ) : EReal)) = _
      rw [if_neg (by linarith), if_neg (by linarith)]
    have hp : 0 < (Real.sqrt s)⁻¹ := inv_pos.mpr (Real.sqrt_pos.mpr hs)
    have h2 : 1 / s = (Real.sqrt s)⁻¹ * (Real.sqrt s)⁻¹ := by rw [← mul_inv, Real.mul_self_sqrt hs.le, one_div]
    obtain ⟨y, hy⟩ := hx d
    rw [h, hr, hy, Ideal.div_coe hs.ne', h2]
    generalize (Real.sqrt s)⁻¹ = r at hp
    have h0 : (0 : EReal) ≤ (r : EReal) := by exact_mod_cast hp.le
    rw [show (∑ e, a e * (x e * (r : EReal))) = (∑ e, x e * a e) * r from
      (Finset.sum_congr rfl fun e _ => by rw [← mul_assoc, mul_comm (a e)]).trans (sum_out _ h0 (EReal.coe_ne_top r))]
    generalize (∑ e, x e * a e) = S
    generalize a d = A
    rw [sub_eq_add_neg, EReal.left_distrib_of_nonneg_of_ne_top h0 (EReal.coe_ne_top r), add_assoc, add_assoc]
    congr 1
    rw [mul_comm (r : EReal) A]
    congr 1
    have e1 : (y : EReal) * (S * (((-(1 / 2) : ℝ) : EReal) * ((r : EReal) * ((r * r : ℝ) : EReal))) * ((1 / 1024 : ℝ) : EReal))
        = S * ((-(1 / 2) * (y * r * r * r) * (1 / 1024) : ℝ) : EReal) := by
      push_cast; ac_rfl
    have e2 : (r : EReal) * -((y : EReal) * r * (S * r * ((1 / 1024 : ℝ) : EReal))) = S * ((-(y * r * r * r * (1 / 1024)) : ℝ) : EReal) := by
      rw [EReal.coe_neg, mul_neg, mul_neg]; push_cast; congr 1; ac_rfl
    rw [mul_comm _ (y : EReal), e1, e2, twice, mul_assoc, ← EReal.coe_mul]
    congr 2; ring

end Cert.Row
end
-- ==== Proof.Ffn.Bwd.lean ====
/- The feed-forward call's gradient of its input: what its two arrays hold after the run. -/
module

public import proofs.«01_k».proof.Proof.Gen.Kernel5Ideal.Value
public import proofs.«01_k».proof.Proof.Ffn.Row
public import Idealize.ShloMosaic.Lib.Pipeline.ValueKit

@[expose] public section

set_option maxRecDepth 16384

noncomputable section

namespace Cert.Kernel5Ideal.Ffn

open Idealize.ShloMosaic Idealize.ShloMosaic.TcCoe Idealize.ShloMosaic.Pointwise
open Idealize.ShloMosaic.Pipeline (Dat Cfg Window)
open Cert.Kernel5Ideal Cert.Kernel5Ideal.Gen Cert.Row

variable (m : (ℓ : Loc nD τ sig) → Buf (Elt Ideal) ℓ)

theorem four_pay (g0 g1 g2 g3 : Vec Ideal S1x512x704 .bf16) (w0 w1 w2 w3 : Vec Ideal S1x1024x704 .bf16) (r : Fin 512) (d : Fin 1024) :
    k0_pay6 g0 w0 g1 w1 g2 w2 g3 w3 (ix2 r d) = ∑ f, g0 (ix3 0 r f) * w0 (ix3 0 d f) + ∑ f, g1 (ix3 0 r f) * w1 (ix3 0 d f)
      + ∑ f, g2 (ix3 0 r f) * w2 (ix3 0 d f) + ∑ f, g3 (ix3 0 r f) * w3 (ix3 0 d f) := by
  pointwise [k0_pay6]
theorem more_pay (a : FVec Ideal S512x1024 .f32) (g0 g1 g2 g3 : Vec Ideal S1x512x704 .bf16) (w0 w1 w2 w3 : Vec Ideal S1x1024x704 .bf16) (r : Fin 512) (d : Fin 1024) :
    k0_pay8 a (k0_pay7 g0) w0 g1 w1 g2 w2 g3 w3 (ix2 r d) = a (ix2 r d) + ∑ f, g0 (ix3 0 r f) * w0 (ix3 0 d f) + ∑ f, g1 (ix3 0 r f) * w1 (ix3 0 d f)
      + ∑ f, g2 (ix3 0 r f) * w2 (ix3 0 d f) + ∑ f, g3 (ix3 0 r f) * w3 (ix3 0 d f) := by
  pointwise [k0_pay8, k0_pay7]

theorem dx_pay (h : FVec Ideal S512x1024 .f32) (x o : Vec Ideal S512x1024 .f32) (nw : Vec Ideal S1x1024 .f32) (r : Fin 512) (d : Fin 1024) :
    k0_pay3 h x nw (k0_pay9 x) o (ix2 r d) = rowK (o (ix2 r d)) (fun e => x (ix2 r e)) (fun e => h (ix2 r e) * nw (ix2 0 e)) d := by
  pointwise [k0_pay3, k0_pay2, k0_pay1, k0_pay9, rowK, ms]

theorem dn_zero (d : Fin 1024) : k0_pay4 (F := Ideal) (ix2 0 d) = 0 := by
  pointwise [k0_pay4]

theorem dn_pay (h : FVec Ideal S512x1024 .f32) (x : Vec Ideal S512x1024 .f32) (acc : Vec Ideal S1x1024 .f32) (d : Fin 1024) :
    k0_pay5 h x (k0_pay9 x) acc (ix2 0 d) = acc (ix2 0 d) + ∑ r, h (ix2 r d) * (x (ix2 r d) * Ideal.rsqrt (ms fun e => x (ix2 r e))) := by
  pointwise [k0_pay5, k0_pay2, k0_pay1, k0_pay9, ms]

/-- One block's share of the product over the eight column blocks. -/
def dhB (g : Vec Ideal S8x512x704 .bf16) (w : Vec Ideal S8x1024x704 .bf16) (r : Fin 512) (d : Fin 1024) : EReal :=
  ∑ j : Fin 8, ∑ f : Fin 704, g (ix3 j r f) * w (ix3 j d f)

theorem g_load (x : Vec Ideal S8x512x704 .bf16) (k : ℕ) (hk : k < 8) (inb : ∀ a, (![k, 0, 0] : Fin 3 → ℕ) a + (![1, 512, 704] : Fin 3 → ℕ) a ≤ S8x512x704.size a)
    (r : Fin 512) (f : Fin 704) : View.ld x (Rect.unit (s := S8x512x704) ![k, 0, 0] ![1, 512, 704] inb) (ix3 0 r f) = x (ix3 ⟨k, hk⟩ r f) := by
  refine View.ld_unit_apply_of x _ _ inb (ix3 0 r f) (ix3 ⟨k, hk⟩ r f) fun a => ?_
  fin_cases a
  · rfl
  · show r.val = 0 + r.val; omega
  · show f.val = 0 + f.val; omega
theorem w_load (x : Vec Ideal S8x1024x704 .bf16) (k : ℕ) (hk : k < 8) (inb : ∀ a, (![k, 0, 0] : Fin 3 → ℕ) a + (![1, 1024, 704] : Fin 3 → ℕ) a ≤ S8x1024x704.size a)
    (r : Fin 1024) (f : Fin 704) : View.ld x (Rect.unit (s := S8x1024x704) ![k, 0, 0] ![1, 1024, 704] inb) (ix3 0 r f) = x (ix3 ⟨k, hk⟩ r f) := by
  refine View.ld_unit_apply_of x _ _ inb (ix3 0 r f) (ix3 ⟨k, hk⟩ r f) fun a => ?_
  fin_cases a
  · rfl
  · show r.val = 0 + r.val; omega
  · show f.val = 0 + f.val; omega

/-- The product as the body builds it. -/
def dhV (g : Vec Ideal S8x512x704 .bf16) (w : Vec Ideal S8x1024x704 .bf16) : FVec Ideal S512x1024 .f32 :=
  k0_pay8 (k0_pay6 (View.ld g (Rect.unit ![0, 0, 0] ![1, 512, 704] inb_S8x512x704_S1x512x704_0_0_0)) (View.ld w (Rect.unit ![0, 0, 0] ![1, 1024, 704] inb_S8x1024x704_S1x1024x704_0_0_0))
      (View.ld g (Rect.unit ![1, 0, 0] ![1, 512, 704] inb_S8x512x704_S1x512x704_1_0_0)) (View.ld w (Rect.unit ![1, 0, 0] ![1, 1024, 704] inb_S8x1024x704_S1x1024x704_1_0_0))
      (View.ld g (Rect.unit ![2, 0, 0] ![1, 512, 704] inb_S8x512x704_S1x512x704_2_0_0)) (View.ld w (Rect.unit ![2, 0, 0] ![1, 1024, 704] inb_S8x1024x704_S1x1024x704_2_0_0))
      (View.ld g (Rect.unit ![3, 0, 0] ![1, 512, 704] inb_S8x512x704_S1x512x704_3_0_0)) (View.ld w (Rect.unit ![3, 0, 0] ![1, 1024, 704] inb_S8x1024x704_S1x1024x704_3_0_0)))
    (k0_pay7 (View.ld g (Rect.unit ![4, 0, 0] ![1, 512, 704] inb_S8x512x704_S1x512x704_4_0_0))) (View.ld w (Rect.unit ![4, 0, 0] ![1, 1024, 704] inb_S8x1024x704_S1x1024x704_4_0_0))
    (View.ld g (Rect.unit ![5, 0, 0] ![1, 512, 704] inb_S8x512x704_S1x512x704_5_0_0)) (View.ld w (Rect.unit ![5, 0, 0] ![1, 1024, 704] inb_S8x1024x704_S1x1024x704_5_0_0))
    (View.ld g (Rect.unit ![6, 0, 0] ![1, 512, 704] inb_S8x512x704_S1x512x704_6_0_0)) (View.ld w (Rect.unit ![6, 0, 0] ![1, 1024, 704] inb_S8x1024x704_S1x1024x704_6_0_0))
    (View.ld g (Rect.unit ![7, 0, 0] ![1, 512, 704] inb_S8x512x704_S1x512x704_7_0_0)) (View.ld w (Rect.unit ![7, 0, 0] ![1, 1024, 704] inb_S8x1024x704_S1x1024x704_7_0_0))

theorem dhV_at (g : Vec Ideal S8x512x704 .bf16) (w : Vec Ideal S8x1024x704 .bf16) (r : Fin 512) (d : Fin 1024) : dhV g w (ix2 r d) = dhB g w r d := by
  unfold dhV dhB
  rw [more_pay, four_pay, Fin.sum_univ_eight]
  simp only [g_load g 0 (by decide), g_load g 1 (by decide), g_load g 2 (by decide), g_load g 3 (by decide), g_load g 4 (by decide), g_load g 5 (by decide),
    g_load g 6 (by decide), g_load g 7 (by decide), w_load w 0 (by decide), w_load w 1 (by decide), w_load w 2 (by decide), w_load w 3 (by decide),
    w_load w 4 (by decide), w_load w 5 (by decide), w_load w 6 (by decide), w_load w 7 (by decide)]
  rfl

/-- The product and the two results as functions of the arguments. -/
def DH (WG : Vec Ideal S8x1024x704 .bf16) (DG : Vec Ideal S8x8192x704 .bf16) (r : Fin 8192) (d : Fin 1024) : EReal :=
  ∑ j : Fin 8, ∑ f : Fin 704, DG (ix3 j r f) * WG (ix3 j d f)
def DX (X : Vec Ideal S8192x1024 .f32) (NW : Vec Ideal S1x1024 .f32) (WG : Vec Ideal S8x1024x704 .bf16) (DG : Vec Ideal S8x8192x704 .bf16) (DO : Vec Ideal S8192x1024 .f32) :
    Vec Ideal S8192x1024 .f32 := fun i =>
  rowK (DO i) (fun e => X (ix2 (i 0) e)) (fun e => DH WG DG (i 0) e * NW (ix2 0 e)) (i 1)
def DN (X : Vec Ideal S8192x1024 .f32) (WG : Vec Ideal S8x1024x704 .bf16) (DG : Vec Ideal S8x8192x704 .bf16) : Vec Ideal S1x1024 .f32 := fun i =>
  ∑ r : Fin 8192, DH WG DG r (i 1) * (X (ix2 r (i 1)) * Ideal.rsqrt (ms fun e => X (ix2 r e)))

theorem idx : ∀ t : Fin cfg0.N, win0_0.index t = ![0, t.val, 0] ∧ win0_1.index t = ![0, 0, 0] ∧ win0_2.index t = ![t.val, 0] ∧ win0_3.index t = ![t.val, 0]
    ∧ win0_4.index t = ![0, 0] ∧ win0_5.index t = ![t.val, 0] ∧ win0_6.index t = ![0, 0] := (by decide +kernel : ∀ t : Fin grid0.N, _)

abbrev aX (c : Dev nD) : Vec Ideal S8192x1024 .f32 := m ((c : Thread nD τ).loc main_arg0)
abbrev aN (c : Dev nD) : Vec Ideal S1x1024 .f32 := m ((c : Thread nD τ).loc main_arg1)
abbrev aG (c : Dev nD) : Vec Ideal S8x1024x704 .bf16 := m ((c : Thread nD τ).loc main_arg2)
abbrev aH (c : Dev nD) : Vec Ideal S8x8192x704 .bf16 := m ((c : Thread nD τ).loc main_arg3)
abbrev aO (c : Dev nD) : Vec Ideal S8192x1024 .f32 := m ((c : Thread nD τ).loc main_arg4)

theorem row_lt (t : Fin cfg0.N) (r : Fin 512) : t.val * 512 + r.val < 8192 := by have : t.val < 16 := t.isLt; omega
def row (t : Fin cfg0.N) (r : Fin 512) : Fin 8192 := ⟨t.val * 512 + r.val, row_lt t r⟩

theorem rd0 (c : Dev nD) (t : Fin cfg0.N) (j : Fin 8) (r : Fin 512) (f : Fin 704) : iblk m c 0 t (ix3 j r f) = aH m c (ix3 j (row t r) f) := by
  unfold row; blk_ext [iblk, V, idx t]
theorem rd1 (c : Dev nD) (t : Fin cfg0.N) (j : Fin 8) (d : Fin 1024) (f : Fin 704) : iblk m c 1 t (ix3 j d f) = aG m c (ix3 j d f) := by
  blk_ext [iblk, V, idx t]
theorem rd2 (c : Dev nD) (t : Fin cfg0.N) (r : Fin 512) (d : Fin 1024) : iblk m c 2 t (ix2 r d) = aX m c (ix2 (row t r) d) := by
  unfold row; blk_ext [iblk, V, idx t]
theorem rd3 (c : Dev nD) (t : Fin cfg0.N) (r : Fin 512) (d : Fin 1024) : iblk m c 3 t (ix2 r d) = aO m c (ix2 (row t r) d) := by
  unfold row; blk_ext [iblk, V, idx t]
theorem rd4 (c : Dev nD) (t : Fin cfg0.N) (d : Fin 1024) : iblk m c 4 t (ix2 0 d) = aN m c (ix2 0 d) := by
  blk_ext [iblk, V, idx t]

theorem dh_blk (c : Dev nD) (t : Fin cfg0.N) (r : Fin 512) (d : Fin 1024) :
    dhV (iblk m c 0 t) (iblk m c 1 t) (ix2 r d) = DH (aG m c) (aH m c) (row t r) d := by
  rw [dhV_at]
  simp only [dhB, DH, rd0, rd1]

theorem emb5 (t : Fin cfg0.N) (r : Fin 512) (d : Fin 1024) : ((View.whole main_v0_0).slice (win0_5.rect t)).emb (ix2 r d) = ix2 (row t r) d := by
  unfold row; blk_ext [idx t]

theorem dx_blk (c : Dev nD) (t : Fin cfg0.N) (r : Fin 512) (d : Fin 1024) :
    k0_pay3 (dhV (iblk m c 0 t) (iblk m c 1 t)) (iblk m c 2 t) (iblk m c 4 t) (k0_pay9 (iblk m c 2 t)) (iblk m c 3 t) (ix2 r d)
      = DX (aX m c) (aN m c) (aG m c) (aH m c) (aO m c) (ix2 (row t r) d) := by
  rw [dx_pay]
  simp only [dh_blk, rd2, rd3, rd4, DX, ix2_0, ix2_1]

theorem final5 (c : Dev nD) : (dats m 0 c).arrAt 5 cfg0.N = DX (aX m c) (aN m c) (aG m c) (aH m c) (aO m c) := by
  refine (dats m 0 c).arrAt_eq_of_covers 5 _ (by decide +kernel) fun t _ y => ?_
  obtain ⟨r, d, rfl⟩ : ∃ r d, y = ix2 r d := ⟨_, _, eq_ix2 y⟩
  blk_simp
  rw [after0_5]
  refine Eq.trans ?_ (congrArg _ (emb5 t _ _).symm)
  by_cases h0 : t.val % 16 = 0
  · rw [outsAt0_A m c t h0]
    frame_out
    exact dx_blk m c t r d
  · rw [outsAt0_B m c t h0]
    frame_out
    exact dx_blk m c t r d

/-- What one point adds to the gradient of the norm's weight. -/
def part (c : Dev nD) (t : Fin cfg0.N) (i : S1x1024.Idx) : EReal :=
  ∑ r : Fin 512, DH (aG m c) (aH m c) (row t r) (i 1) * (aX m c (ix2 (row t r) (i 1)) * Ideal.rsqrt (ms fun e => aX m c (ix2 (row t r) e)))

theorem dn_blk (c : Dev nD) (t : Fin cfg0.N) (acc : Vec Ideal S1x1024 .f32) (d : Fin 1024) :
    k0_pay5 (dhV (iblk m c 0 t) (iblk m c 1 t)) (iblk m c 2 t) (k0_pay9 (iblk m c 2 t)) acc (ix2 0 d) = acc (ix2 0 d) + part m c t (ix2 0 d) := by
  rw [dn_pay]
  simp only [dh_blk, rd2, part, ix2_0, ix2_1]

theorem sum6 (c : Dev nD) (i : S1x1024.Idx) : (outsAt0 m c t0_15.val t0_15.isLt).2 i = 0 + ∑ t : Fin cfg0.N, part m c t i :=
  Pipeline.eq_sum_fin_of_reset_step_apply_last (fun n h => (outsAt0 m c n h).2) 16 (fun _ => 0) (part m c)
    (fun t h j => by
      obtain ⟨z, d, rfl⟩ : ∃ z d, j = ix2 z d := ⟨_, _, eq_ix2 j⟩
      obtain rfl : z = 0 := Subsingleton.elim _ _
      rw [outsAt0_A m c t h]
      frame_out
      refine (dn_blk m c t _ d).trans ?_
      congr 1
      exact dn_zero d)
    (fun t h j => by
      obtain ⟨z, d, rfl⟩ : ∃ z d, j = ix2 z d := ⟨_, _, eq_ix2 j⟩
      obtain rfl : z = 0 := Subsingleton.elim _ _
      rw [outsAt0_B m c t h]
      frame_out
      exact dn_blk m c t _ d)
    (le_of_eq N_0) t0_15 rfl i

theorem final6 (c : Dev nD) : (dats m 0 c).arrAt 6 cfg0.N = DN (aX m c) (aG m c) (aH m c) := by
  refine (dats m 0 c).arrAt_eq_of_after_last 6 t0_15 (by decide +kernel) _ fun j => ?_
  obtain ⟨z, d, rfl⟩ : ∃ z d, j = ix2 z d := ⟨_, _, eq_ix2 j⟩
  obtain rfl : z = 0 := Subsingleton.elim _ _
  blk_simp
  rw [after0_6]
  refine (sum6 m c _).trans ((zero_add _).trans ?_)
  exact Fin.sum_mul_add_congr (S := 16) (n := 512) (L := 8192) (F := fun s k => _) (f := fun l => _) fun t r hl => rfl

end Cert.Kernel5Ideal.Ffn
end
-- ==== Proof.Ffn.BwdRef.lean ====
/- The gradient of the feed-forward call's input as the reference spells it, read as the functions of the kernel's side. -/
module

public import proofs.«01_k».proof.Proof.Ffn.Bwd
public import proofs.«01_k».proof.Defs
public import proofs.«01_k».proof.Proof.Gen.Kernel5
public import proofs.«01_k».proof.Proof.Gen.Reference5Ideal.Run

@[expose] public section

set_option maxRecDepth 16384

noncomputable section

namespace Cert.Reference5Ideal.Ffn

open Idealize.ShloMosaic Idealize.ShloMosaic.TcCoe Idealize.ShloMosaic.Pointwise
open Cert.Reference5Ideal Cert.Reference5Ideal.Gen Cert.Row
open Cert.Kernel5Ideal.Ffn (DH DX DN)

variable (X : Vec Ideal S8192x1024 .f32) (NW : Vec Ideal S1x1024 .f32) (WG : Vec Ideal S8x1024x704 .bf16) (DG : Vec Ideal S8x8192x704 .bf16) (DO : Vec Ideal S8192x1024 .f32)
variable (h : FVec Ideal S8192x1024 .f32)

/-- The product over the joined columns. -/
def dhT : FVec Ideal S8192x1024 .f32 := Host.dotGeneral (F := Ideal) dot_S8192x5632_S1024x5632_S8192x1024_1_1_0_0_n_n none (shapeCast _ (transpose S8192x8x704 [1, 0, 2] (extf .f32 DG bitsLt_bf16_f32) transposes_S8x8192x704_S8192x8x704_1_0_2) shapeCasts_S8192x8x704_S8192x5632) (shapeCast _ (transpose S1024x8x704 [1, 0, 2] (extf .f32 WG bitsLt_bf16_f32) transposes_S8x1024x704_S1024x8x704_1_0_2) shapeCasts_S1024x8x704_S1024x5632)

theorem dh_at (r : Fin 8192) (d : Fin 1024) : dhT WG DG (ix2 r d) = DH WG DG r d := by
  unfold DH
  pointwise [dhT]
  refine (Fin.sum_mul_add_congr (S := 8) (n := 704) fun j f hl => ?_).symm
  have e1 : (j.val * 704 + f.val) / 704 = j.val := by omega
  have e2 : (j.val * 704 + f.val) % 704 = f.val := by omega
  simp only [e1, e2]

/-- What is under the root, row by row. -/
def msT : FVec Ideal S8192x1 .f32 := addf (Host.divf (broadcastInDim S8192x1 ![0] bcast_S8192_S8192x1_0 (Host.reduceAdd (mulf X X) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32))

theorem ms_at (r : Fin 8192) : msT X (ix2 r 0) = ms fun e => X (ix2 r e) := by
  pointwise [msT, ms]

/-- The mean that the root's gradient takes, row by row. -/
def quT : FVec Ideal S8192 .f32 :=
  Host.reduceAdd (Host.divf (mulf (shapeCast _ (Host.reduceAdd (mulf X (mulf h (broadcastInDim S8192x1024 ![0, 1] bcast_S1x1024_S8192x1024_0_1 NW))) (constant (F := Ideal) S_ .f32 0x00000000#32) reducesTo_S8192x1024_S8192_d1 h_S_) shapeCasts_S8192_S8192x1) (mulf (broadcastInDim S8192x1 ![] bcast_S_S8192x1 (constant (F := Ideal) S_ .f32 0xBF000000#32)) (Host.divf (Host.rsqrt (msT X)) (msT X)))) (broadcastInDim S8192x1 ![] bcast_S_S8192x1 (constant (F := Ideal) S_ .f32 0x44800000#32))) (constant (F := Ideal) S_ .f32 0x00000000#32) reducesTo_S8192x1_S8192_d1 h_S_

def dxT : FVec Ideal S8192x1024 .f32 :=
  addf (addf (addf DO (mulf (mulf h (broadcastInDim S8192x1024 ![0, 1] bcast_S1x1024_S8192x1024_0_1 NW)) (broadcastInDim S8192x1024 ![0, 1] bcast_S8192x1_S8192x1024_0_1 (Host.rsqrt (msT X))))) (mulf X (broadcastInDim S8192x1024 ![0] bcast_S8192_S8192x1024_0 (quT X NW h)))) (mulf (broadcastInDim S8192x1024 ![0] bcast_S8192_S8192x1024_0 (quT X NW h)) X)

theorem dx_at (r : Fin 8192) (d : Fin 1024) :
    dxT X NW DO h (ix2 r d) = rowR (DO (ix2 r d)) (fun e => X (ix2 r e)) (fun e => h (ix2 r e) * NW (ix2 0 e)) d := by
  pointwise [dxT, quT, rowR, quo, ms_at]
  simp only [Fin.sum_univ_one, ms_at]

def dnT : FVec Ideal S1x1024 .f32 :=
  shapeCast _ (Host.reduceAdd (mulf (mulf X (broadcastInDim S8192x1024 ![0, 1] bcast_S8192x1_S8192x1024_0_1 (Host.rsqrt (msT X)))) h) (constant (F := Ideal) S_ .f32 0x00000000#32) reducesTo_S8192x1024_S1024_d0 h_S_) shapeCasts_S1024_S1x1024

theorem dn_at (d : Fin 1024) : dnT X h (ix2 0 d) = ∑ r : Fin 8192, X (ix2 r d) * Ideal.rsqrt (ms fun e => X (ix2 r e)) * h (ix2 r d) := by
  pointwise [dnT, ms_at]

theorem dx_eq : dxT X NW DO (dhT WG DG) = DX X NW WG DG DO := funext fun i => by
  obtain ⟨r, d, rfl⟩ : ∃ r d, i = ix2 r d := ⟨_, _, eq_ix2 i⟩
  rw [dx_at, row_eq]
  simp only [dh_at, DX, ix2_0, ix2_1]

theorem dn_eq : dnT X (dhT WG DG) = DN X WG DG := funext fun i => by
  obtain ⟨z, d, rfl⟩ : ∃ z d, i = ix2 z d := ⟨_, _, eq_ix2 i⟩
  obtain rfl : z = 0 := Subsingleton.elim _ _
  rw [dn_at]
  exact Finset.sum_congr rfl fun r _ => by rw [dh_at, mul_comm]; rfl

end Cert.Reference5Ideal.Ffn

namespace Cert

open Idealize.ShloMosaic Idealize.ShloMosaic.TcCoe Idealize.SL.Sem

/-- The call that takes the gradient back to the block's input, and its reference, from equal arguments, end with equal results. -/
theorem algebraic5 : Cert.algebraic_Kernel5Ideal_Reference5Ideal := by
  intro m g m' g' _ hag
  refine ⟨fun c => Kernel5Ideal.Ffn.DX (Kernel5Ideal.Ffn.aX m c) (Kernel5Ideal.Ffn.aN m c) (Kernel5Ideal.Ffn.aG m c) (Kernel5Ideal.Ffn.aH m c) (Kernel5Ideal.Ffn.aO m c),
    fun c => Kernel5Ideal.Ffn.DN (Kernel5Ideal.Ffn.aX m c) (Kernel5Ideal.Ffn.aG m c) (Kernel5Ideal.Ffn.aH m c),
    (θ_run _ _ _).mono (fun _ h c => ?_) (Cert.Kernel5Ideal.Value.run_blocks m g),
    (θ_run _ _ _).mono (fun _ h c => ?_) (Cert.Reference5Ideal.Value.run m' g')⟩
  · obtain ⟨h5, h6, hk⟩ := h c
    exact ⟨h5.trans (Kernel5Ideal.Ffn.final5 m c), h6.trans (Kernel5Ideal.Ffn.final6 m c), hk⟩
  · obtain ⟨h5, h6, hk⟩ := h c
    obtain ⟨e0, e1, e2, e3, e4⟩ := hag c
    simp only [Kernel5Ideal.Ffn.aX, Kernel5Ideal.Ffn.aN, Kernel5Ideal.Ffn.aG, Kernel5Ideal.Ffn.aH, Kernel5Ideal.Ffn.aO, ← e0, ← e1, ← e2, ← e3, ← e4]
    exact ⟨h5.trans (Reference5Ideal.Ffn.dx_eq _ _ _ _ _), h6.trans (Reference5Ideal.Ffn.dn_eq _ _ _), hk⟩

theorem frame_kernel5_ideal : Cert.quiescent_Kernel5Ideal := fun m g _ => Cert.Kernel5Ideal.Gen.frame (F := Ideal) m g
theorem frame_kernel5 : Cert.quiescent_Kernel5 := by
  have h := fun m g (_ : True) => Cert.Kernel5Ideal.Gen.frame (F := Bits) m g
  exact Eq.mp (by sl_kernel_rfl) h
theorem frame_reference5 : Cert.quiescent_Reference5Ideal := by
  intro m g _
  hlo_run
  · intro c; simp
  · exact funext fun g => by
      obtain ⟨_, s⟩ := g
      cases s with
      | reg s => exact s.elim0
      | dma s => exact s.elim0

end Cert
end
-- ==== Proof.Mm.K6.lean ====
/- The feed-forward's first product, saved in eight column blocks. -/
module

public import proofs.«01_k».proof.Defs
public import proofs.«01_k».proof.Proof.Gen.Kernel6
public import proofs.«01_k».proof.Proof.Gen.Kernel6Ideal.Value
public import proofs.«01_k».proof.Proof.Gen.Reference6Ideal.Run
public import Idealize.ShloMosaic.Lib.Pipeline.ValueKit
public import Idealize.ShloMosaic.Lib.Pointwise
public import proofs.«01_k».proof.Proof.Ffn.FwdRef

@[expose] public section

set_option maxRecDepth 16384

noncomputable section

namespace Cert.Kernel6Ideal.Mm

open Idealize.ShloMosaic Idealize.ShloMosaic.TcCoe Idealize.ShloMosaic.Pointwise
open Idealize.ShloMosaic.Pipeline (Dat Cfg Window)
open Cert.Kernel6Ideal Cert.Kernel6Ideal.Gen

variable (m : (ℓ : Loc nD τ sig) → Buf (Elt Ideal) ℓ)

theorem pay (a : Vec Ideal S1024x1024 .bf16) (w : Vec Ideal S1x1024x704 .bf16) (z : Fin 1) (r : Fin 1024) (f : Fin 704) :
    k0_pay2 a w (ix3 z r f) = ∑ e, a (ix2 r e) * w (ix3 0 e f) := by
  pointwise [k0_pay2]

theorem a_load (x : Vec Ideal S1024x1024 .bf16) (r e : Fin 1024) : View.ld x r0_0 (ix2 r e) = x (ix2 r e) := by
  refine View.ld_unit_apply_of x _ _ _ (ix2 r e) (ix2 r e) fun a => ?_
  fin_cases a
  · show r.val = 0 + r.val; omega
  · show e.val = 0 + e.val; omega

theorem piece (x0 : Vec Ideal S1024x1024 .bf16) (x1 : Vec Ideal S8x1024x704 .bf16) (k : ℕ)
    (inb : ∀ a, (![k, 0, 0] : Fin 3 → ℕ) a + S1x1024x704.size a ≤ S8x1024x704.size a) (x : S1x1024x704.Idx) (y : S8x1024x704.Idx)
    (h0 : (y 0).val = k + (x 0).val) (h1 : (y 1).val = (x 1).val) (h2 : (y 2).val = (x 2).val) :
    k0_pay2 (View.ld x0 r0_0) (View.ld x1 (Rect.unit ![k, 0, 0] S1x1024x704.size inb)) x = ∑ e, x0 (ix2 (y 1) e) * x1 (ix3 (y 0) e (y 2)) := by
  refine (congrArg _ (eq_ix3 x)).trans ((pay _ _ _ _ _).trans ?_)
  refine Finset.sum_congr rfl fun e _ => ?_
  have hx : (x 0).val < 1 := (x 0).isLt
  rw [show x 1 = y 1 from Fin.ext h1.symm, View.ld_unit_apply_of x1 _ _ inb (ix3 0 e (x 2)) (ix3 (y 0) e (y 2)) (by
    intro a
    fin_cases a
    · show (y 0).val = k + 0; omega
    · show e.val = 0 + e.val; omega
    · show (y 2).val = 0 + (x 2).val; omega)]
  exact congrArg (fun a : EReal => a * _) (a_load x0 (y 1) e)

theorem out_at (x0 : Vec Ideal S1024x1024 .bf16) (x1 : Vec Ideal S8x1024x704 .bf16) (y : S8x1024x704.Idx) :
    out0_2 x0 x1 y = ∑ e, x0 (ix2 (y 1) e) * x1 (ix3 (y 0) e (y 2)) := by
  canon_tiles x h
  all_goals exact piece x0 x1 _ _ x y (by omega) h1 h2

/-- The result as a function of the arguments. -/
def OUT (X : Vec Ideal S8192x1024 .bf16) (W : Vec Ideal S8x1024x704 .bf16) : Vec Ideal S8x8192x704 .bf16 := fun i =>
  ∑ e, X (ix2 (i 1) e) * W (ix3 (i 0) e (i 2))

theorem idx : ∀ t : Fin cfg0.N, win0_0.index t = ![t.val, 0] ∧ win0_1.index t = ![0, 0, 0] ∧ win0_2.index t = ![0, t.val, 0] := (by decide +kernel : ∀ t : Fin grid0.N, _)

abbrev aX (c : Dev nD) : Vec Ideal S8192x1024 .bf16 := m ((c : Thread nD τ).loc main_arg0)
abbrev aW (c : Dev nD) : Vec Ideal S8x1024x704 .bf16 := m ((c : Thread nD τ).loc main_arg1)

theorem row_lt (t : Fin cfg0.N) (r : Fin 1024) : t.val * 1024 + r.val < 8192 := by have : t.val < 8 := t.isLt; omega
def row (t : Fin cfg0.N) (r : Fin 1024) : Fin 8192 := ⟨t.val * 1024 + r.val, row_lt t r⟩

theorem rd0 (c : Dev nD) (t : Fin cfg0.N) (r : Fin 1024) (e : Fin 1024) : iblk m c 0 t (ix2 r e) = aX m c (ix2 (row t r) e) := by
  unfold row; blk_ext [iblk, V, idx t]
theorem rd1 (c : Dev nD) (t : Fin cfg0.N) (j : Fin 8) (e : Fin 1024) (f : Fin 704) : iblk m c 1 t (ix3 j e f) = aW m c (ix3 j e f) := by
  blk_ext [iblk, V, idx t]
theorem emb (t : Fin cfg0.N) (j : Fin 8) (r : Fin 1024) (f : Fin 704) : ((View.whole main_v0).slice (win0_2.rect t)).emb (ix3 j r f) = ix3 j (row t r) f := by
  unfold row; blk_ext [idx t]

theorem final (c : Dev nD) : (dats m 0 c).arrAt 2 cfg0.N = OUT (aX m c) (aW m c) := by
  refine (dats m 0 c).arrAt_eq_of_covers 2 _ (by decide +kernel) fun t _ y => ?_
  obtain ⟨j, r, f, rfl⟩ : ∃ j r f, y = ix3 j r f := ⟨_, _, _, eq_ix3 y⟩
  blk_simp
  rw [after0_2]
  refine (out_at _ _ _).trans ?_
  refine Eq.trans ?_ (congrArg _ (emb t _ _ _).symm)
  exact Finset.sum_congr rfl fun e _ => congrArg₂ (fun a b : EReal => a * b) (rd0 m c t r e) (rd1 m c t j e f)

end Cert.Kernel6Ideal.Mm

namespace Cert.Reference6Ideal.Mm

open Idealize.ShloMosaic Idealize.ShloMosaic.TcCoe Idealize.ShloMosaic.Pointwise
open Cert.Reference6Ideal Cert.Reference6Ideal.Gen
open Cert.Reference2Ideal.Ffn (guT sv_at gu_at)
open Cert.Kernel6Ideal.Mm (OUT)

theorem ref (X : Vec Ideal S8192x1024 .bf16) (W : Vec Ideal S8x1024x704 .bf16) :
    truncf .bf16 (transpose S8x8192x704 [1, 0, 2] (shapeCast _ (guT W (extf .f32 X bitsLt_bf16_f32)) shapeCasts_S8192x5632_S8192x8x704) transposes_S8192x8x704_S8x8192x704_1_0_2) bitsLt_bf16_f32 = OUT X W :=
  funext fun i => by
    rw [eq_ix3 i]; exact (sv_at _ _ _ _).trans (gu_at _ _ _ _ _ _)

end Cert.Reference6Ideal.Mm

namespace Cert

open Idealize.ShloMosaic Idealize.ShloMosaic.TcCoe Idealize.SL.Sem

/-- The call and its reference, from equal arguments, end with equal results. -/
theorem algebraic6 : Cert.algebraic_Kernel6Ideal_Reference6Ideal := by
  intro m g m' g' _ hag
  refine ⟨fun c => Kernel6Ideal.Mm.OUT (Kernel6Ideal.Mm.aX m c) (Kernel6Ideal.Mm.aW m c),
    (θ_run _ _ _).mono (fun _ h c => ?_) (Cert.Kernel6Ideal.Value.run_blocks m g),
    (θ_run _ _ _).mono (fun _ h c => ?_) (Cert.Reference6Ideal.Value.run m' g')⟩
  · obtain ⟨h0, hk⟩ := h c
    exact ⟨h0.trans (Kernel6Ideal.Mm.final m c), hk⟩
  · obtain ⟨h0, hk⟩ := h c
    obtain ⟨e0, e1⟩ := hag c
    simp only [Kernel6Ideal.Mm.aX, Kernel6Ideal.Mm.aW, ← e0, ← e1]
    exact ⟨h0.trans (Reference6Ideal.Mm.ref _ _), hk⟩

theorem frame_kernel6_ideal : Cert.quiescent_Kernel6Ideal := fun m g _ => Cert.Kernel6Ideal.Gen.frame (F := Ideal) m g
theorem frame_kernel6 : Cert.quiescent_Kernel6 := by
  have h := fun m g (_ : True) => Cert.Kernel6Ideal.Gen.frame (F := Bits) m g
  exact Eq.mp (by sl_kernel_rfl) h
theorem frame_reference6 : Cert.quiescent_Reference6Ideal := by
  intro m g _
  hlo_run
  · intro c; simp
  · exact funext fun g => by
      obtain ⟨_, s⟩ := g
      cases s with
      | reg s => exact s.elim0
      | dma s => exact s.elim0

end Cert
end
-- ==== Proof.Mm.K7.lean ====
/- The feed-forward's gated second product, from the saved first product. -/
module

public import proofs.«01_k».proof.Defs
public import proofs.«01_k».proof.Proof.Gen.Kernel7
public import proofs.«01_k».proof.Proof.Gen.Kernel7Ideal.Value
public import proofs.«01_k».proof.Proof.Gen.Reference7Ideal.Run
public import Idealize.ShloMosaic.Lib.Pipeline.ValueKit
public import Idealize.ShloMosaic.Lib.Pointwise
public import proofs.«01_k».proof.Proof.Ffn.FwdRef

@[expose] public section

set_option maxRecDepth 16384

noncomputable section

namespace Cert.Kernel7Ideal.Mm

open Idealize.ShloMosaic Idealize.ShloMosaic.TcCoe Idealize.ShloMosaic.Pointwise
open Idealize.ShloMosaic.Pipeline (Dat Cfg Window)
open Cert.Kernel7Ideal Cert.Kernel7Ideal.Gen
open Cert.Kernel2Ideal.Ffn (act)

variable (m : (ℓ : Loc nD τ sig) → Buf (Elt Ideal) ℓ)

theorem first_pay (g u : Vec Ideal S1x512x704 .bf16) (w : Vec Ideal S1x704x1024 .bf16) (r : Fin 512) (d : Fin 1024) :
    k0_pay2 g u w (ix2 r d) = ∑ x, act (g (ix3 0 r x)) (u (ix3 0 r x)) * w (ix3 0 x d) := by
  pointwise [k0_pay2, act]
theorem mid_pay (a : FVec Ideal S512x1024 .f32) (g u g' u' : Vec Ideal S1x512x704 .bf16) (w w' : Vec Ideal S1x704x1024 .bf16) (r : Fin 512) (d : Fin 1024) :
    k0_pay5 a (k0_pay3 g u) (k0_pay4 w) g' u' w' (ix2 r d) = a (ix2 r d) + ∑ x, act (g (ix3 0 r x)) (u (ix3 0 r x)) * w (ix3 0 x d)
      + ∑ x, act (g' (ix3 0 r x)) (u' (ix3 0 r x)) * w' (ix3 0 x d) := by
  pointwise [k0_pay5, k0_pay3, k0_pay4, act]
theorem last_pay (v0 : Vec Ideal S512x1024 .f32) (a : FVec Ideal S512x1024 .f32) (g u : Vec Ideal S1x512x704 .bf16) (w : Vec Ideal S1x704x1024 .bf16) (r : Fin 512) (d : Fin 1024) :
    k0_pay1 a (k0_pay6 g u) (k0_pay7 w) v0 (ix2 r d) = v0 (ix2 r d) + Ideal.ofBits FTy.f32 1056964608#32 * (a (ix2 r d) + ∑ x, act (g (ix3 0 r x)) (u (ix3 0 r x)) * w (ix3 0 x d)) := by
  pointwise [k0_pay1, k0_pay6, k0_pay7, act]

theorem g_load (x : Vec Ideal S8x512x704 .bf16) (k : ℕ) (hk : k < 8) (inb : ∀ a, (![k, 0, 0] : Fin 3 → ℕ) a + S1x512x704.size a ≤ S8x512x704.size a)
    (r : Fin 512) (f : Fin 704) : View.ld x (Rect.unit (s := S8x512x704) ![k, 0, 0] S1x512x704.size inb) (ix3 0 r f) = x (ix3 ⟨k, hk⟩ r f) := by
  refine View.ld_unit_apply_of x _ _ inb (ix3 0 r f) (ix3 ⟨k, hk⟩ r f) fun a => ?_
  fin_cases a
  · rfl
  · show r.val = 0 + r.val; omega
  · show f.val = 0 + f.val; omega
theorem w_load (x : Vec Ideal S4x704x1024 .bf16) (k : ℕ) (hk : k < 4) (inb : ∀ a, (![k, 0, 0] : Fin 3 → ℕ) a + S1x704x1024.size a ≤ S4x704x1024.size a)
    (f : Fin 704) (d : Fin 1024) : View.ld x (Rect.unit (s := S4x704x1024) ![k, 0, 0] S1x704x1024.size inb) (ix3 0 f d) = x (ix3 ⟨k, hk⟩ f d) := by
  refine View.ld_unit_apply_of x _ _ inb (ix3 0 f d) (ix3 ⟨k, hk⟩ f d) fun a => ?_
  fin_cases a
  · rfl
  · show f.val = 0 + f.val; omega
  · show d.val = 0 + d.val; omega
theorem x_load (x : Vec Ideal S512x1024 .f32) (r : Fin 512) (d : Fin 1024) : View.ld x r0_12 (ix2 r d) = x (ix2 r d) := by
  refine View.ld_unit_apply_of x _ _ _ (ix2 r d) (ix2 r d) fun a => ?_
  fin_cases a
  · show r.val = 0 + r.val; omega
  · show d.val = 0 + d.val; omega

/-- The four blocks of the product, one after the other onto the residual. -/
theorem out_val (x0 : Vec Ideal S512x1024 .f32) (g0 g1 g2 g3 g4 g5 g6 g7 : Vec Ideal S1x512x704 .bf16) (w0 w1 w2 w3 : Vec Ideal S1x704x1024 .bf16)
    (G : Vec Ideal S8x512x704 .bf16) (W : Vec Ideal S4x704x1024 .bf16) (X : Vec Ideal S512x1024 .f32)
    (h0 : ∀ r f, g0 (ix3 0 r f) = G (ix3 0 r f)) (h1 : ∀ r f, g1 (ix3 0 r f) = G (ix3 1 r f)) (h2 : ∀ r f, g2 (ix3 0 r f) = G (ix3 2 r f)) (h3 : ∀ r f, g3 (ix3 0 r f) = G (ix3 3 r f)) (h4 : ∀ r f, g4 (ix3 0 r f) = G (ix3 4 r f)) (h5 : ∀ r f, g5 (ix3 0 r f) = G (ix3 5 r f)) (h6 : ∀ r f, g6 (ix3 0 r f) = G (ix3 6 r f)) (h7 : ∀ r f, g7 (ix3 0 r f) = G (ix3 7 r f))
    (k0 : ∀ f d, w0 (ix3 0 f d) = W (ix3 0 f d)) (k1 : ∀ f d, w1 (ix3 0 f d) = W (ix3 1 f d)) (k2 : ∀ f d, w2 (ix3 0 f d) = W (ix3 2 f d)) (k3 : ∀ f d, w3 (ix3 0 f d) = W (ix3 3 f d)) (hX : ∀ r d, x0 (ix2 r d) = X (ix2 r d))
    (r : Fin 512) (d : Fin 1024) :
    k0_pay1 (k0_pay5 (k0_pay2 g0 g4 w0) (k0_pay3 g1 g5) (k0_pay4 w1) g2 g6 w2) (k0_pay6 g3 g7) (k0_pay7 w3) x0 (ix2 r d)
    = X (ix2 r d) + Ideal.ofBits FTy.f32 1056964608#32 * ∑ j : Fin 4, ∑ f : Fin 704,
        act (G (ix3 ⟨j.val, by omega⟩ r f)) (G (ix3 ⟨j.val + 4, by omega⟩ r f)) * W (ix3 j f d) := by
  rw [last_pay, mid_pay, first_pay, Fin.sum_univ_four]
  simp only [h0, h1, h2, h3, h4, h5, h6, h7, k0, k1, k2, k3, hX]
  rfl

/-- The result as a function of the arguments. -/
def OUT (G : Vec Ideal S8x8192x704 .bf16) (W : Vec Ideal S4x704x1024 .bf16) (X : Vec Ideal S8192x1024 .f32) : Vec Ideal S8192x1024 .f32 := fun i =>
  X i + Ideal.ofBits FTy.f32 1056964608#32 * ∑ j : Fin 4, ∑ f : Fin 704,
    act (G (ix3 ⟨j.val, by omega⟩ (i 0) f)) (G (ix3 ⟨j.val + 4, by omega⟩ (i 0) f)) * W (ix3 j f (i 1))

theorem idx : ∀ t : Fin cfg0.N, win0_0.index t = ![0, t.val, 0] ∧ win0_1.index t = ![0, 0, 0] ∧ win0_2.index t = ![t.val, 0] ∧ win0_3.index t = ![t.val, 0] := (by decide +kernel : ∀ t : Fin grid0.N, _)

abbrev aG (c : Dev nD) : Vec Ideal S8x8192x704 .bf16 := m ((c : Thread nD τ).loc main_arg0)
abbrev aW (c : Dev nD) : Vec Ideal S4x704x1024 .bf16 := m ((c : Thread nD τ).loc main_arg1)
abbrev aX (c : Dev nD) : Vec Ideal S8192x1024 .f32 := m ((c : Thread nD τ).loc main_arg2)

theorem row_lt (t : Fin cfg0.N) (r : Fin 512) : t.val * 512 + r.val < 8192 := by have : t.val < 16 := t.isLt; omega
def row (t : Fin cfg0.N) (r : Fin 512) : Fin 8192 := ⟨t.val * 512 + r.val, row_lt t r⟩

theorem rd0 (c : Dev nD) (t : Fin cfg0.N) (j : Fin 8) (r : Fin 512) (f : Fin 704) : iblk m c 0 t (ix3 j r f) = aG m c (ix3 j (row t r) f) := by
  unfold row; blk_ext [iblk, V, idx t]
theorem rd1 (c : Dev nD) (t : Fin cfg0.N) (j : Fin 4) (f : Fin 704) (d : Fin 1024) : iblk m c 1 t (ix3 j f d) = aW m c (ix3 j f d) := by
  blk_ext [iblk, V, idx t]
theorem rd2 (c : Dev nD) (t : Fin cfg0.N) (r : Fin 512) (d : Fin 1024) : iblk m c 2 t (ix2 r d) = aX m c (ix2 (row t r) d) := by
  unfold row; blk_ext [iblk, V, idx t]
theorem emb (t : Fin cfg0.N) (r : Fin 512) (d : Fin 1024) : ((View.whole main_v0).slice (win0_3.rect t)).emb (ix2 r d) = ix2 (row t r) d := by
  unfold row; blk_ext [idx t]

theorem blk_at (x0 : Vec Ideal S8x512x704 .bf16) (x1 : Vec Ideal S4x704x1024 .bf16) (x2 : Vec Ideal S512x1024 .f32) (r : Fin 512) (d : Fin 1024) :
    out0_3 x0 x1 x2 (ix2 r d) = x2 (ix2 r d) + Ideal.ofBits FTy.f32 1056964608#32 * ∑ j : Fin 4, ∑ f : Fin 704,
        act (x0 (ix3 ⟨j.val, by omega⟩ r f)) (x0 (ix3 ⟨j.val + 4, by omega⟩ r f)) * x1 (ix3 j f d) := by
  canon_tiles x h
  obtain rfl : x = ix2 r d := by rw [eq_ix2 x]; exact congrArg₂ ix2 (Fin.ext h0.symm) (Fin.ext h1.symm)
  exact out_val _ _ _ _ _ _ _ _ _ _ _ _ _ x0 x1 x2
    (g_load x0 0 (by decide) _) (g_load x0 1 (by decide) _) (g_load x0 2 (by decide) _) (g_load x0 3 (by decide) _)
    (g_load x0 4 (by decide) _) (g_load x0 5 (by decide) _) (g_load x0 6 (by decide) _) (g_load x0 7 (by decide) _)
    (w_load x1 0 (by decide) _) (w_load x1 1 (by decide) _) (w_load x1 2 (by decide) _) (w_load x1 3 (by decide) _) (x_load x2) r d

theorem final (c : Dev nD) : (dats m 0 c).arrAt 3 cfg0.N = OUT (aG m c) (aW m c) (aX m c) := by
  refine (dats m 0 c).arrAt_eq_of_covers 3 _ (by decide +kernel) fun t _ y => ?_
  obtain ⟨r, d, rfl⟩ : ∃ r d, y = ix2 r d := ⟨_, _, eq_ix2 y⟩
  blk_simp
  rw [after0_3]
  refine (blk_at _ _ _ r d).trans ?_
  refine Eq.trans ?_ (congrArg _ (emb t _ _).symm)
  simp only [rd0, rd1, rd2, OUT, ix2_0, ix2_1]

end Cert.Kernel7Ideal.Mm

namespace Cert.Reference7Ideal.Mm

open Idealize.ShloMosaic Idealize.ShloMosaic.TcCoe Idealize.ShloMosaic.Pointwise
open Cert.Reference7Ideal Cert.Reference7Ideal.Gen
open Cert.Kernel2Ideal.Ffn (act)
open Cert.Reference2Ideal.Ffn (outT out_at)
open Cert.Kernel7Ideal.Mm (OUT)

/-- The saved product with its columns joined. -/
def gT (G : Vec Ideal S8x8192x704 .bf16) : FVec Ideal S8192x5632 .f32 :=
  shapeCast _ (transpose S8192x8x704 [1, 0, 2] (extf .f32 G bitsLt_bf16_f32) transposes_S8x8192x704_S8192x8x704_1_0_2) shapeCasts_S8192x8x704_S8192x5632

theorem g_at (G : Vec Ideal S8x8192x704 .bf16) (r : Fin 8192) (j : Fin 8) (f : Fin 704) (hl : j.val * 704 + f.val < 5632) :
    gT G (ix2 r ⟨j.val * 704 + f.val, hl⟩) = G (ix3 j r f) := by
  pointwise [gT]

theorem ref (G : Vec Ideal S8x8192x704 .bf16) (W : Vec Ideal S4x704x1024 .bf16) (X : Vec Ideal S8192x1024 .f32) : outT X W (gT G) = OUT G W X := funext fun i => by
  obtain ⟨r, d, rfl⟩ : ∃ r d, i = ix2 r d := ⟨_, _, eq_ix2 i⟩
  refine (out_at X W (gT G) r d).trans ?_
  refine congrArg (X (ix2 r d) + _ * ·) (Finset.sum_congr rfl fun j _ => Finset.sum_congr rfl fun f _ => congrArg (· * _) (congrArg₂ act ?_ ?_))
  · exact g_at G r ⟨j.val, by omega⟩ f _
  · exact g_at G r ⟨j.val + 4, by omega⟩ f _

end Cert.Reference7Ideal.Mm

namespace Cert

open Idealize.ShloMosaic Idealize.ShloMosaic.TcCoe Idealize.SL.Sem

/-- The call and its reference, from equal arguments, end with equal results. -/
theorem algebraic7 : Cert.algebraic_Kernel7Ideal_Reference7Ideal := by
  intro m g m' g' _ hag
  refine ⟨fun c => Kernel7Ideal.Mm.OUT (Kernel7Ideal.Mm.aG m c) (Kernel7Ideal.Mm.aW m c) (Kernel7Ideal.Mm.aX m c),
    (θ_run _ _ _).mono (fun _ h c => ?_) (Cert.Kernel7Ideal.Value.run_blocks m g),
    (θ_run _ _ _).mono (fun _ h c => ?_) (Cert.Reference7Ideal.Value.run m' g')⟩
  · obtain ⟨h0, hk⟩ := h c
    exact ⟨h0.trans (Kernel7Ideal.Mm.final m c), hk⟩
  · obtain ⟨h0, hk⟩ := h c
    obtain ⟨e0, e1, e2⟩ := hag c
    simp only [Kernel7Ideal.Mm.aG, Kernel7Ideal.Mm.aW, Kernel7Ideal.Mm.aX, ← e0, ← e1, ← e2]
    exact ⟨h0.trans (Reference7Ideal.Mm.ref _ _ _), hk⟩

theorem frame_kernel7_ideal : Cert.quiescent_Kernel7Ideal := fun m g _ => Cert.Kernel7Ideal.Gen.frame (F := Ideal) m g
theorem frame_kernel7 : Cert.quiescent_Kernel7 := by
  have h := fun m g (_ : True) => Cert.Kernel7Ideal.Gen.frame (F := Bits) m g
  exact Eq.mp (by sl_kernel_rfl) h
theorem frame_reference7 : Cert.quiescent_Reference7Ideal := by
  intro m g _
  hlo_run
  · intro c; simp
  · exact funext fun g => by
      obtain ⟨_, s⟩ := g
      cases s with
      | reg s => exact s.elim0
      | dma s => exact s.elim0

end Cert
end
-- ==== Proof.Mm.K8.lean ====
/- The gradient of what enters mixer A, taken back through its first product and its norm. -/
module

public import proofs.«01_k».proof.Defs
public import proofs.«01_k».proof.Proof.Gen.Kernel8
public import proofs.«01_k».proof.Proof.Gen.Kernel8Ideal.Value
public import proofs.«01_k».proof.Proof.Gen.Reference8Ideal.Run
public import Idealize.ShloMosaic.Lib.Pipeline.ValueKit
public import Idealize.ShloMosaic.Lib.Pointwise
public import proofs.«01_k».proof.Proof.Ffn.BwdRef

@[expose] public section

set_option maxRecDepth 16384

noncomputable section

namespace Cert.Kernel8Ideal.Mm

open Idealize.ShloMosaic Idealize.ShloMosaic.TcCoe Idealize.ShloMosaic.Pointwise
open Idealize.ShloMosaic.Pipeline (Dat Cfg Window)
open Cert.Kernel8Ideal Cert.Kernel8Ideal.Gen Cert.Row

variable (m : (ℓ : Loc nD τ sig) → Buf (Elt Ideal) ℓ)

theorem dx_pay (a : Vec Ideal S512x4224 .bf16) (w : Vec Ideal S1024x4224 .bf16) (x o : Vec Ideal S512x1024 .f32) (nw : Vec Ideal S1x1024 .f32) (r : Fin 512) (d : Fin 1024) :
    k0_pay6 x nw a w o (ix2 r d) = rowK (o (ix2 r d)) (fun e => x (ix2 r e)) (fun e => (∑ f, a (ix2 r f) * w (ix2 e f)) * nw (ix2 0 e)) d := by
  pointwise [k0_pay6, k0_pay2, k0_pay3, k0_pay4, rowK, ms]
theorem dn_zero (d : Fin 1024) : k0_pay7 (F := Ideal) (ix2 0 d) = 0 := by
  pointwise [k0_pay7]
theorem dn_pay (a : Vec Ideal S512x4224 .bf16) (w : Vec Ideal S1024x4224 .bf16) (x : Vec Ideal S512x1024 .f32) (acc : Vec Ideal S1x1024 .f32) (d : Fin 1024) :
    k0_pay1 (k0_pay5 x a w) acc (ix2 0 d) = acc (ix2 0 d) + ∑ r, (∑ f, a (ix2 r f) * w (ix2 d f)) * (x (ix2 r d) * Ideal.rsqrt (ms fun e => x (ix2 r e))) := by
  pointwise [k0_pay1, k0_pay5, k0_pay2, k0_pay3, k0_pay4, ms]

/-- The product and the two results as functions of the arguments. -/
def DH (W : Vec Ideal S1024x4224 .bf16) (D : Vec Ideal S8192x4224 .bf16) (r : Fin 8192) (d : Fin 1024) : EReal :=
  ∑ f : Fin 4224, D (ix2 r f) * W (ix2 d f)
def DX (X : Vec Ideal S8192x1024 .f32) (NW : Vec Ideal S1x1024 .f32) (W : Vec Ideal S1024x4224 .bf16) (D : Vec Ideal S8192x4224 .bf16) (DO : Vec Ideal S8192x1024 .f32) :
    Vec Ideal S8192x1024 .f32 := fun i =>
  rowK (DO i) (fun e => X (ix2 (i 0) e)) (fun e => DH W D (i 0) e * NW (ix2 0 e)) (i 1)
def DN (X : Vec Ideal S8192x1024 .f32) (W : Vec Ideal S1024x4224 .bf16) (D : Vec Ideal S8192x4224 .bf16) : Vec Ideal S1x1024 .f32 := fun i =>
  ∑ r : Fin 8192, DH W D r (i 1) * (X (ix2 r (i 1)) * Ideal.rsqrt (ms fun e => X (ix2 r e)))

theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![0, 0] := (by decide +kernel : ∀ t : Fin grid0.N, _)

abbrev aX (c : Dev nD) : Vec Ideal S8192x1024 .f32 := m ((c : Thread nD τ).loc main_arg0)
abbrev aN (c : Dev nD) : Vec Ideal S1x1024 .f32 := m ((c : Thread nD τ).loc main_arg1)
abbrev aW (c : Dev nD) : Vec Ideal S1024x4224 .bf16 := m ((c : Thread nD τ).loc main_arg2)
abbrev aD (c : Dev nD) : Vec Ideal S8192x4224 .bf16 := m ((c : Thread nD τ).loc main_arg3)
abbrev aO (c : Dev nD) : Vec Ideal S8192x1024 .f32 := m ((c : Thread nD τ).loc main_arg4)

theorem row_lt (t : Fin cfg0.N) (r : Fin 512) : t.val * 512 + r.val < 8192 := by have : t.val < 16 := t.isLt; omega
def row (t : Fin cfg0.N) (r : Fin 512) : Fin 8192 := ⟨t.val * 512 + r.val, row_lt t r⟩

theorem rd0 (c : Dev nD) (t : Fin cfg0.N) (r : Fin 512) (f : Fin 4224) : iblk m c 0 t (ix2 r f) = aD m c (ix2 (row t r) f) := by
  unfold row; blk_ext [iblk, V, idx t]
theorem rd1 (c : Dev nD) (t : Fin cfg0.N) (d : Fin 1024) (f : Fin 4224) : iblk m c 1 t (ix2 d f) = aW m c (ix2 d f) := by
  blk_ext [iblk, V, idx t]
theorem rd2 (c : Dev nD) (t : Fin cfg0.N) (r : Fin 512) (d : Fin 1024) : iblk m c 2 t (ix2 r d) = aX m c (ix2 (row t r) d) := by
  unfold row; blk_ext [iblk, V, idx t]
theorem rd3 (c : Dev nD) (t : Fin cfg0.N) (d : Fin 1024) : iblk m c 3 t (ix2 0 d) = aN m c (ix2 0 d) := by
  blk_ext [iblk, V, idx t]
theorem rd4 (c : Dev nD) (t : Fin cfg0.N) (r : Fin 512) (d : Fin 1024) : iblk m c 4 t (ix2 r d) = aO m c (ix2 (row t r) d) := by
  unfold row; blk_ext [iblk, V, idx t]

theorem emb5 (t : Fin cfg0.N) (r : Fin 512) (d : Fin 1024) : ((View.whole main_v0_0).slice (win0_5.rect t)).emb (ix2 r d) = ix2 (row t r) d := by
  unfold row; blk_ext [idx t]

theorem dx_blk (c : Dev nD) (t : Fin cfg0.N) (r : Fin 512) (d : Fin 1024) :
    k0_pay6 (iblk m c 2 t) (iblk m c 3 t) (iblk m c 0 t) (iblk m c 1 t) (iblk m c 4 t) (ix2 r d)
      = DX (aX m c) (aN m c) (aW m c) (aD m c) (aO m c) (ix2 (row t r) d) := by
  rw [dx_pay]
  simp only [rd0, rd1, rd2, rd3, rd4, DX, DH, ix2_0, ix2_1]

theorem final5 (c : Dev nD) : (dats m 0 c).arrAt 5 cfg0.N = DX (aX m c) (aN m c) (aW m c) (aD m c) (aO m c) := by
  refine (dats m 0 c).arrAt_eq_of_covers 5 _ (by decide +kernel) fun t _ y => ?_
  obtain ⟨r, d, rfl⟩ : ∃ r d, y = ix2 r d := ⟨_, _, eq_ix2 y⟩
  blk_simp
  rw [after0_5]
  refine Eq.trans ?_ (congrArg _ (emb5 t _ _).symm)
  by_cases h0 : t.val % 16 = 0
  · rw [outsAt0_A m c t h0]
    frame_out
    exact dx_blk m c t r d
  · rw [outsAt0_B m c t h0]
    frame_out
    exact dx_blk m c t r d

/-- What one point adds to the gradient of the norm's weight. -/
def part (c : Dev nD) (t : Fin cfg0.N) (i : S1x1024.Idx) : EReal :=
  ∑ r : Fin 512, DH (aW m c) (aD m c) (row t r) (i 1) * (aX m c (ix2 (row t r) (i 1)) * Ideal.rsqrt (ms fun e => aX m c (ix2 (row t r) e)))

theorem dn_blk (c : Dev nD) (t : Fin cfg0.N) (acc : Vec Ideal S1x1024 .f32) (d : Fin 1024) :
    k0_pay1 (k0_pay5 (iblk m c 2 t) (iblk m c 0 t) (iblk m c 1 t)) acc (ix2 0 d) = acc (ix2 0 d) + part m c t (ix2 0 d) := by
  rw [dn_pay]
  simp only [rd0, rd1, rd2, part, DH, ix2_0, ix2_1]

theorem sum6 (c : Dev nD) (i : S1x1024.Idx) : (outsAt0 m c t0_15.val t0_15.isLt).2 i = 0 + ∑ t : Fin cfg0.N, part m c t i :=
  Pipeline.eq_sum_fin_of_reset_step_apply_last (fun n h => (outsAt0 m c n h).2) 16 (fun _ => 0) (part m c)
    (fun t h j => by
      obtain ⟨z, d, rfl⟩ : ∃ z d, j = ix2 z d := ⟨_, _, eq_ix2 j⟩
      obtain rfl : z = 0 := Subsingleton.elim _ _
      rw [outsAt0_A m c t h]
      frame_out
      refine (dn_blk m c t _ d).trans ?_
      congr 1
      exact dn_zero d)
    (fun t h j => by
      obtain ⟨z, d, rfl⟩ : ∃ z d, j = ix2 z d := ⟨_, _, eq_ix2 j⟩
      obtain rfl : z = 0 := Subsingleton.elim _ _
      rw [outsAt0_B m c t h]
      frame_out
      exact dn_blk m c t _ d)
    (le_of_eq N_0) t0_15 rfl i

theorem final6 (c : Dev nD) : (dats m 0 c).arrAt 6 cfg0.N = DN (aX m c) (aW m c) (aD m c) := by
  refine (dats m 0 c).arrAt_eq_of_after_last 6 t0_15 (by decide +kernel) _ fun j => ?_
  obtain ⟨z, d, rfl⟩ : ∃ z d, j = ix2 z d := ⟨_, _, eq_ix2 j⟩
  obtain rfl : z = 0 := Subsingleton.elim _ _
  blk_simp
  rw [after0_6]
  refine (sum6 m c _).trans ((zero_add _).trans ?_)
  exact Fin.sum_mul_add_congr (S := 16) (n := 512) (L := 8192) (F := fun s k => _) (f := fun l => _) fun t r hl => rfl

end Cert.Kernel8Ideal.Mm

namespace Cert.Reference8Ideal.Mm

open Idealize.ShloMosaic Idealize.ShloMosaic.TcCoe Idealize.ShloMosaic.Pointwise
open Cert.Reference8Ideal Cert.Reference8Ideal.Gen
open Cert.Row
open Cert.Reference5Ideal.Ffn (dxT dnT dx_at dn_at)
open Cert.Kernel8Ideal.Mm (DH DX DN)

variable (X : Vec Ideal S8192x1024 .f32) (NW : Vec Ideal S1x1024 .f32) (W : Vec Ideal S1024x4224 .bf16) (D : Vec Ideal S8192x4224 .bf16) (DO : Vec Ideal S8192x1024 .f32)

def dhT : FVec Ideal S8192x1024 .f32 :=
  Host.dotGeneral (F := Ideal) (φ₁ := .f32) (φ₂ := .f32) dot_S8192x4224_S1024x4224_S8192x1024_1_1_0_0_n_n none (extf .f32 D bitsLt_bf16_f32) (extf .f32 W bitsLt_bf16_f32)

theorem dh_at (r : Fin 8192) (d : Fin 1024) : dhT W D (ix2 r d) = DH W D r d := by
  pointwise [dhT, DH]

theorem dx_eq : dxT X NW DO (dhT W D) = DX X NW W D DO := funext fun i => by
  obtain ⟨r, d, rfl⟩ : ∃ r d, i = ix2 r d := ⟨_, _, eq_ix2 i⟩
  refine (dx_at X NW DO (dhT W D) r d).trans ?_
  rw [row_eq]
  simp only [dh_at, DX, ix2_0, ix2_1]

theorem dn_eq : dnT X (dhT W D) = DN X W D := funext fun i => by
  obtain ⟨z, d, rfl⟩ : ∃ z d, i = ix2 z d := ⟨_, _, eq_ix2 i⟩
  obtain rfl : z = 0 := Subsingleton.elim _ _
  refine (dn_at X (dhT W D) d).trans ?_
  exact Finset.sum_congr rfl fun r _ => by rw [dh_at, mul_comm]; rfl

end Cert.Reference8Ideal.Mm

namespace Cert

open Idealize.ShloMosaic Idealize.ShloMosaic.TcCoe Idealize.SL.Sem

/-- The call and its reference, from equal arguments, end with equal results. -/
theorem algebraic8 : Cert.algebraic_Kernel8Ideal_Reference8Ideal := by
  intro m g m' g' _ hag
  refine ⟨fun c => Kernel8Ideal.Mm.DX (Kernel8Ideal.Mm.aX m c) (Kernel8Ideal.Mm.aN m c) (Kernel8Ideal.Mm.aW m c) (Kernel8Ideal.Mm.aD m c) (Kernel8Ideal.Mm.aO m c),
    fun c => Kernel8Ideal.Mm.DN (Kernel8Ideal.Mm.aX m c) (Kernel8Ideal.Mm.aW m c) (Kernel8Ideal.Mm.aD m c),
    (θ_run _ _ _).mono (fun _ h c => ?_) (Cert.Kernel8Ideal.Value.run_blocks m g),
    (θ_run _ _ _).mono (fun _ h c => ?_) (Cert.Reference8Ideal.Value.run m' g')⟩
  · obtain ⟨h0, h1, hk⟩ := h c
    exact ⟨h0.trans (Kernel8Ideal.Mm.final5 m c), h1.trans (Kernel8Ideal.Mm.final6 m c), hk⟩
  · obtain ⟨h0, h1, hk⟩ := h c
    obtain ⟨e0, e1, e2, e3, e4⟩ := hag c
    simp only [Kernel8Ideal.Mm.aX, Kernel8Ideal.Mm.aN, Kernel8Ideal.Mm.aW, Kernel8Ideal.Mm.aD, Kernel8Ideal.Mm.aO, ← e0, ← e1, ← e2, ← e3, ← e4]
    exact ⟨h0.trans (Reference8Ideal.Mm.dx_eq _ _ _ _ _), h1.trans (Reference8Ideal.Mm.dn_eq _ _ _), hk⟩

theorem frame_kernel8_ideal : Cert.quiescent_Kernel8Ideal := fun m g _ => Cert.Kernel8Ideal.Gen.frame (F := Ideal) m g
theorem frame_kernel8 : Cert.quiescent_Kernel8 := by
  have h := fun m g (_ : True) => Cert.Kernel8Ideal.Gen.frame (F := Bits) m g
  exact Eq.mp (by sl_kernel_rfl) h
theorem frame_reference8 : Cert.quiescent_Reference8Ideal := by
  intro m g _
  hlo_run
  · intro c; simp
  · exact funext fun g => by
      obtain ⟨_, s⟩ := g
      cases s with
      | reg s => exact s.elim0
      | dma s => exact s.elim0

end Cert
end
-- ==== Proof.Mm.K9.lean ====
/- The gradient of what enters the attention, taken back through its first product and its norm. -/
module

public import proofs.«01_k».proof.Defs
public import proofs.«01_k».proof.Proof.Gen.Kernel9
public import proofs.«01_k».proof.Proof.Gen.Kernel9Ideal.Value
public import proofs.«01_k».proof.Proof.Gen.Reference9Ideal.Run
public import Idealize.ShloMosaic.Lib.Pipeline.ValueKit
public import Idealize.ShloMosaic.Lib.Pointwise
public import proofs.«01_k».proof.Proof.Ffn.BwdRef

@[expose] public section

set_option maxRecDepth 16384

noncomputable section

namespace Cert.Kernel9Ideal.Mm

open Idealize.ShloMosaic Idealize.ShloMosaic.TcCoe Idealize.ShloMosaic.Pointwise
open Idealize.ShloMosaic.Pipeline (Dat Cfg Window)
open Cert.Kernel9Ideal Cert.Kernel9Ideal.Gen Cert.Row

variable (m : (ℓ : Loc nD τ sig) → Buf (Elt Ideal) ℓ)

theorem dx_pay (a : Vec Ideal S512x1536 .bf16) (w : Vec Ideal S1024x1536 .bf16) (x o : Vec Ideal S512x1024 .f32) (nw : Vec Ideal S1x1024 .f32) (r : Fin 512) (d : Fin 1024) :
    k0_pay6 x nw a w o (ix2 r d) = rowK (o (ix2 r d)) (fun e => x (ix2 r e)) (fun e => (∑ f, a (ix2 r f) * w (ix2 e f)) * nw (ix2 0 e)) d := by
  pointwise [k0_pay6, k0_pay2, k0_pay3, k0_pay4, rowK, ms]
theorem dn_zero (d : Fin 1024) : k0_pay7 (F := Ideal) (ix2 0 d) = 0 := by
  pointwise [k0_pay7]
theorem dn_pay (a : Vec Ideal S512x1536 .bf16) (w : Vec Ideal S1024x1536 .bf16) (x : Vec Ideal S512x1024 .f32) (acc : Vec Ideal S1x1024 .f32) (d : Fin 1024) :
    k0_pay1 (k0_pay5 x a w) acc (ix2 0 d) = acc (ix2 0 d) + ∑ r, (∑ f, a (ix2 r f) * w (ix2 d f)) * (x (ix2 r d) * Ideal.rsqrt (ms fun e => x (ix2 r e))) := by
  pointwise [k0_pay1, k0_pay5, k0_pay2, k0_pay3, k0_pay4, ms]

/-- The product and the two results as functions of the arguments. -/
def DH (W : Vec Ideal S1024x1536 .bf16) (D : Vec Ideal S8192x1536 .bf16) (r : Fin 8192) (d : Fin 1024) : EReal :=
  ∑ f : Fin 1536, D (ix2 r f) * W (ix2 d f)
def DX (X : Vec Ideal S8192x1024 .f32) (NW : Vec Ideal S1x1024 .f32) (W : Vec Ideal S1024x1536 .bf16) (D : Vec Ideal S8192x1536 .bf16) (DO : Vec Ideal S8192x1024 .f32) :
    Vec Ideal S8192x1024 .f32 := fun i =>
  rowK (DO i) (fun e => X (ix2 (i 0) e)) (fun e => DH W D (i 0) e * NW (ix2 0 e)) (i 1)
def DN (X : Vec Ideal S8192x1024 .f32) (W : Vec Ideal S1024x1536 .bf16) (D : Vec Ideal S8192x1536 .bf16) : Vec Ideal S1x1024 .f32 := fun i =>
  ∑ r : Fin 8192, DH W D r (i 1) * (X (ix2 r (i 1)) * Ideal.rsqrt (ms fun e => X (ix2 r e)))

theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![0, 0] := (by decide +kernel : ∀ t : Fin grid0.N, _)

abbrev aX (c : Dev nD) : Vec Ideal S8192x1024 .f32 := m ((c : Thread nD τ).loc main_arg0)
abbrev aN (c : Dev nD) : Vec Ideal S1x1024 .f32 := m ((c : Thread nD τ).loc main_arg1)
abbrev aW (c : Dev nD) : Vec Ideal S1024x1536 .bf16 := m ((c : Thread nD τ).loc main_arg2)
abbrev aD (c : Dev nD) : Vec Ideal S8192x1536 .bf16 := m ((c : Thread nD τ).loc main_arg3)
abbrev aO (c : Dev nD) : Vec Ideal S8192x1024 .f32 := m ((c : Thread nD τ).loc main_arg4)

theorem row_lt (t : Fin cfg0.N) (r : Fin 512) : t.val * 512 + r.val < 8192 := by have : t.val < 16 := t.isLt; omega
def row (t : Fin cfg0.N) (r : Fin 512) : Fin 8192 := ⟨t.val * 512 + r.val, row_lt t r⟩

theorem rd0 (c : Dev nD) (t : Fin cfg0.N) (r : Fin 512) (f : Fin 1536) : iblk m c 0 t (ix2 r f) = aD m c (ix2 (row t r) f) := by
  unfold row; blk_ext [iblk, V, idx t]
theorem rd1 (c : Dev nD) (t : Fin cfg0.N) (d : Fin 1024) (f : Fin 1536) : iblk m c 1 t (ix2 d f) = aW m c (ix2 d f) := by
  blk_ext [iblk, V, idx t]
theorem rd2 (c : Dev nD) (t : Fin cfg0.N) (r : Fin 512) (d : Fin 1024) : iblk m c 2 t (ix2 r d) = aX m c (ix2 (row t r) d) := by
  unfold row; blk_ext [iblk, V, idx t]
theorem rd3 (c : Dev nD) (t : Fin cfg0.N) (d : Fin 1024) : iblk m c 3 t (ix2 0 d) = aN m c (ix2 0 d) := by
  blk_ext [iblk, V, idx t]
theorem rd4 (c : Dev nD) (t : Fin cfg0.N) (r : Fin 512) (d : Fin 1024) : iblk m c 4 t (ix2 r d) = aO m c (ix2 (row t r) d) := by
  unfold row; blk_ext [iblk, V, idx t]

theorem emb5 (t : Fin cfg0.N) (r : Fin 512) (d : Fin 1024) : ((View.whole main_v0_0).slice (win0_5.rect t)).emb (ix2 r d) = ix2 (row t r) d := by
  unfold row; blk_ext [idx t]

theorem dx_blk (c : Dev nD) (t : Fin cfg0.N) (r : Fin 512) (d : Fin 1024) :
    k0_pay6 (iblk m c 2 t) (iblk m c 3 t) (iblk m c 0 t) (iblk m c 1 t) (iblk m c 4 t) (ix2 r d)
      = DX (aX m c) (aN m c) (aW m c) (aD m c) (aO m c) (ix2 (row t r) d) := by
  rw [dx_pay]
  simp only [rd0, rd1, rd2, rd3, rd4, DX, DH, ix2_0, ix2_1]

theorem final5 (c : Dev nD) : (dats m 0 c).arrAt 5 cfg0.N = DX (aX m c) (aN m c) (aW m c) (aD m c) (aO m c) := by
  refine (dats m 0 c).arrAt_eq_of_covers 5 _ (by decide +kernel) fun t _ y => ?_
  obtain ⟨r, d, rfl⟩ : ∃ r d, y = ix2 r d := ⟨_, _, eq_ix2 y⟩
  blk_simp
  rw [after0_5]
  refine Eq.trans ?_ (congrArg _ (emb5 t _ _).symm)
  by_cases h0 : t.val % 16 = 0
  · rw [outsAt0_A m c t h0]
    frame_out
    exact dx_blk m c t r d
  · rw [outsAt0_B m c t h0]
    frame_out
    exact dx_blk m c t r d

/-- What one point adds to the gradient of the norm's weight. -/
def part (c : Dev nD) (t : Fin cfg0.N) (i : S1x1024.Idx) : EReal :=
  ∑ r : Fin 512, DH (aW m c) (aD m c) (row t r) (i 1) * (aX m c (ix2 (row t r) (i 1)) * Ideal.rsqrt (ms fun e => aX m c (ix2 (row t r) e)))

theorem dn_blk (c : Dev nD) (t : Fin cfg0.N) (acc : Vec Ideal S1x1024 .f32) (d : Fin 1024) :
    k0_pay1 (k0_pay5 (iblk m c 2 t) (iblk m c 0 t) (iblk m c 1 t)) acc (ix2 0 d) = acc (ix2 0 d) + part m c t (ix2 0 d) := by
  rw [dn_pay]
  simp only [rd0, rd1, rd2, part, DH, ix2_0, ix2_1]

theorem sum6 (c : Dev nD) (i : S1x1024.Idx) : (outsAt0 m c t0_15.val t0_15.isLt).2 i = 0 + ∑ t : Fin cfg0.N, part m c t i :=
  Pipeline.eq_sum_fin_of_reset_step_apply_last (fun n h => (outsAt0 m c n h).2) 16 (fun _ => 0) (part m c)
    (fun t h j => by
      obtain ⟨z, d, rfl⟩ : ∃ z d, j = ix2 z d := ⟨_, _, eq_ix2 j⟩
      obtain rfl : z = 0 := Subsingleton.elim _ _
      rw [outsAt0_A m c t h]
      frame_out
      refine (dn_blk m c t _ d).trans ?_
      congr 1
      exact dn_zero d)
    (fun t h j => by
      obtain ⟨z, d, rfl⟩ : ∃ z d, j = ix2 z d := ⟨_, _, eq_ix2 j⟩
      obtain rfl : z = 0 := Subsingleton.elim _ _
      rw [outsAt0_B m c t h]
      frame_out
      exact dn_blk m c t _ d)
    (le_of_eq N_0) t0_15 rfl i

theorem final6 (c : Dev nD) : (dats m 0 c).arrAt 6 cfg0.N = DN (aX m c) (aW m c) (aD m c) := by
  refine (dats m 0 c).arrAt_eq_of_after_last 6 t0_15 (by decide +kernel) _ fun j => ?_
  obtain ⟨z, d, rfl⟩ : ∃ z d, j = ix2 z d := ⟨_, _, eq_ix2 j⟩
  obtain rfl : z = 0 := Subsingleton.elim _ _
  blk_simp
  rw [after0_6]
  refine (sum6 m c _).trans ((zero_add _).trans ?_)
  exact Fin.sum_mul_add_congr (S := 16) (n := 512) (L := 8192) (F := fun s k => _) (f := fun l => _) fun t r hl => rfl

end Cert.Kernel9Ideal.Mm

namespace Cert.Reference9Ideal.Mm

open Idealize.ShloMosaic Idealize.ShloMosaic.TcCoe Idealize.ShloMosaic.Pointwise
open Cert.Reference9Ideal Cert.Reference9Ideal.Gen
open Cert.Row
open Cert.Reference5Ideal.Ffn (dxT dnT dx_at dn_at)
open Cert.Kernel9Ideal.Mm (DH DX DN)

variable (X : Vec Ideal S8192x1024 .f32) (NW : Vec Ideal S1x1024 .f32) (W : Vec Ideal S1024x1536 .bf16) (D : Vec Ideal S8192x1536 .bf16) (DO : Vec Ideal S8192x1024 .f32)

def dhT : FVec Ideal S8192x1024 .f32 :=
  Host.dotGeneral (F := Ideal) (φ₁ := .f32) (φ₂ := .f32) dot_S8192x1536_S1024x1536_S8192x1024_1_1_0_0_n_n none (extf .f32 D bitsLt_bf16_f32) (extf .f32 W bitsLt_bf16_f32)

theorem dh_at (r : Fin 8192) (d : Fin 1024) : dhT W D (ix2 r d) = DH W D r d := by
  pointwise [dhT, DH]

theorem dx_eq : dxT X NW DO (dhT W D) = DX X NW W D DO := funext fun i => by
  obtain ⟨r, d, rfl⟩ : ∃ r d, i = ix2 r d := ⟨_, _, eq_ix2 i⟩
  refine (dx_at X NW DO (dhT W D) r d).trans ?_
  rw [row_eq]
  simp only [dh_at, DX, ix2_0, ix2_1]

theorem dn_eq : dnT X (dhT W D) = DN X W D := funext fun i => by
  obtain ⟨z, d, rfl⟩ : ∃ z d, i = ix2 z d := ⟨_, _, eq_ix2 i⟩
  obtain rfl : z = 0 := Subsingleton.elim _ _
  refine (dn_at X (dhT W D) d).trans ?_
  exact Finset.sum_congr rfl fun r _ => by rw [dh_at, mul_comm]; rfl

end Cert.Reference9Ideal.Mm

namespace Cert

open Idealize.ShloMosaic Idealize.ShloMosaic.TcCoe Idealize.SL.Sem

/-- The call and its reference, from equal arguments, end with equal results. -/
theorem algebraic9 : Cert.algebraic_Kernel9Ideal_Reference9Ideal := by
  intro m g m' g' _ hag
  refine ⟨fun c => Kernel9Ideal.Mm.DX (Kernel9Ideal.Mm.aX m c) (Kernel9Ideal.Mm.aN m c) (Kernel9Ideal.Mm.aW m c) (Kernel9Ideal.Mm.aD m c) (Kernel9Ideal.Mm.aO m c),
    fun c => Kernel9Ideal.Mm.DN (Kernel9Ideal.Mm.aX m c) (Kernel9Ideal.Mm.aW m c) (Kernel9Ideal.Mm.aD m c),
    (θ_run _ _ _).mono (fun _ h c => ?_) (Cert.Kernel9Ideal.Value.run_blocks m g),
    (θ_run _ _ _).mono (fun _ h c => ?_) (Cert.Reference9Ideal.Value.run m' g')⟩
  · obtain ⟨h0, h1, hk⟩ := h c
    exact ⟨h0.trans (Kernel9Ideal.Mm.final5 m c), h1.trans (Kernel9Ideal.Mm.final6 m c), hk⟩
  · obtain ⟨h0, h1, hk⟩ := h c
    obtain ⟨e0, e1, e2, e3, e4⟩ := hag c
    simp only [Kernel9Ideal.Mm.aX, Kernel9Ideal.Mm.aN, Kernel9Ideal.Mm.aW, Kernel9Ideal.Mm.aD, Kernel9Ideal.Mm.aO, ← e0, ← e1, ← e2, ← e3, ← e4]
    exact ⟨h0.trans (Reference9Ideal.Mm.dx_eq _ _ _ _ _), h1.trans (Reference9Ideal.Mm.dn_eq _ _ _), hk⟩

theorem frame_kernel9_ideal : Cert.quiescent_Kernel9Ideal := fun m g _ => Cert.Kernel9Ideal.Gen.frame (F := Ideal) m g
theorem frame_kernel9 : Cert.quiescent_Kernel9 := by
  have h := fun m g (_ : True) => Cert.Kernel9Ideal.Gen.frame (F := Bits) m g
  exact Eq.mp (by sl_kernel_rfl) h
theorem frame_reference9 : Cert.quiescent_Reference9Ideal := by
  intro m g _
  hlo_run
  · intro c; simp
  · exact funext fun g => by
      obtain ⟨_, s⟩ := g
      cases s with
      | reg s => exact s.elim0
      | dma s => exact s.elim0

end Cert
end
-- ==== Proof.Mm.K10.lean ====
/- The weight gradient of mixer A's first product. -/
module

public import proofs.«01_k».proof.Defs
public import proofs.«01_k».proof.Proof.Gen.Kernel10
public import proofs.«01_k».proof.Proof.Gen.Kernel10Ideal.Value
public import proofs.«01_k».proof.Proof.Gen.Reference10Ideal.Run
public import Idealize.ShloMosaic.Lib.Pipeline.ValueKit
public import Idealize.ShloMosaic.Lib.Pointwise

@[expose] public section

set_option maxRecDepth 16384

noncomputable section

namespace Cert.Kernel10Ideal.Mm

open Idealize.ShloMosaic Idealize.ShloMosaic.TcCoe Idealize.ShloMosaic.Pointwise
open Idealize.ShloMosaic.Pipeline (Dat Cfg Window)
open Cert.Kernel10Ideal Cert.Kernel10Ideal.Gen Cert.Kernel10Ideal.Value

variable (m : (ℓ : Loc nD τ sig) → Buf (Elt Ideal) ℓ)

theorem pay_zero (e : Fin 1024) (d : Fin 1408) : k0_pay1 (F := Ideal) (ix2 e d) = 0 := by
  pointwise [k0_pay1]
theorem pay_add (acc : Vec Ideal S1024x1408 .f32) (a : Vec Ideal S1024x1024 .bf16) (b : Vec Ideal S1024x1408 .bf16) (e : Fin 1024) (d : Fin 1408) :
    k0_pay2 acc a b (ix2 e d) = acc (ix2 e d) + ∑ r, a (ix2 r e) * b (ix2 r d) := by
  pointwise [k0_pay2]

/-- The result as a function of the arguments. -/
def OUT (H : Vec Ideal S8192x1024 .bf16) (D : Vec Ideal S8192x4224 .bf16) : Vec Ideal S1024x4224 .f32 := fun i =>
  ∑ r : Fin 8192, H (ix2 r (i 0)) * D (ix2 r (i 1))

theorem idx : ∀ t : Fin cfg0.N, win0_0.index t = ![t.val % 8, 0] ∧ win0_1.index t = ![t.val % 8, t.val / 8] ∧ win0_2.index t = ![0, t.val / 8] := (by decide +kernel : ∀ t : Fin grid0.N, _)

abbrev aH (c : Dev nD) : Vec Ideal S8192x1024 .bf16 := m ((c : Thread nD τ).loc main_arg0)
abbrev aD (c : Dev nD) : Vec Ideal S8192x4224 .bf16 := m ((c : Thread nD τ).loc main_arg1)

def row (t : Fin cfg0.N) (r : Fin 1024) : Fin 8192 := ⟨t.val % 8 * 1024 + r.val, by omega⟩
theorem col_lt (t : Fin cfg0.N) (d : Fin 1408) : t.val / 8 * 1408 + d.val < 4224 := by have : t.val < 24 := t.isLt; omega
def col (t : Fin cfg0.N) (d : Fin 1408) : Fin 4224 := ⟨t.val / 8 * 1408 + d.val, col_lt t d⟩

theorem rd0 (c : Dev nD) (t : Fin cfg0.N) (r : Fin 1024) (e : Fin 1024) : iblk m c 0 t (ix2 r e) = aH m c (ix2 (row t r) e) := by
  unfold row; blk_ext [iblk, V, idx t]
theorem rd1 (c : Dev nD) (t : Fin cfg0.N) (r : Fin 1024) (d : Fin 1408) : iblk m c 1 t (ix2 r d) = aD m c (ix2 (row t r) (col t d)) := by
  unfold row col; blk_ext [iblk, V, idx t]
theorem emb (t : Fin cfg0.N) (e : Fin 1024) (d : Fin 1408) : ((View.whole main_v0).slice (win0_2.rect t)).emb (ix2 e d) = ix2 e (col t d) := by
  unfold col; blk_ext [idx t]

/-- What one point adds to its column tile. -/
def part (c : Dev nD) (p : ℕ) (i : S1024x1408.Idx) : EReal :=
  if h : p < cfg0.N then ∑ r : Fin 1024, aH m c (ix2 (row ⟨p, h⟩ r) (i 0)) * aD m c (ix2 (row ⟨p, h⟩ r) (col ⟨p, h⟩ (i 1))) else 0

theorem step_at (c : Dev nD) (p : ℕ) (h : p < cfg0.N) (acc : Vec Ideal S1024x1408 .f32) (i : S1024x1408.Idx) :
    k0_pay2 acc (iblk m c 0 ⟨p, h⟩) (iblk m c 1 ⟨p, h⟩) i = acc i + part m c p i := by
  obtain ⟨e, d, rfl⟩ : ∃ e d, i = ix2 e d := ⟨_, _, eq_ix2 i⟩
  rw [pay_add]
  simp only [rd0, rd1, part, dif_pos h, ix2_0, ix2_1]

theorem acc_at (c : Dev nD) (t : Fin cfg0.N) (hm : t.val % 8 = 7) (e : Fin 1024) (d : Fin 1408) :
    outsAt0 m c t.val t.isLt (ix2 e d) = OUT (aH m c) (aD m c) (ix2 e (col t d)) := by
  have hN : t.val < 24 := t.isLt
  rw [outsAt_2_eq]
  refine (Pipeline.accAt_add_apply (ι := S1024x1408.Idx) (β := EReal) (reset2 m c) (step2 m c) (fun _ => 0) (part m c) (8 * (t.val / 8)) 7
    (fun h i => (step_at m c _ h _ i).trans (congrArg (· + _) ?_)) (fun p h acc i _ _ => step_at m c p h acc i) _ (by omega) _ _).trans ?_
  · obtain ⟨e, d, rfl⟩ : ∃ e d, i = ix2 e d := ⟨_, _, eq_ix2 i⟩
    exact pay_zero e d
  · rw [hm, zero_add, Finset.sum_range]
    refine (Finset.sum_congr rfl fun s _ => ?_).trans (Fin.sum_mul_add_congr (S := 8) (n := 1024) (L := 8192)
      (F := fun s r => aH m c (ix2 ⟨s.val * 1024 + r.val, by omega⟩ e) * aD m c (ix2 ⟨s.val * 1024 + r.val, by omega⟩ (col t d))) fun s r hl => rfl)
    have hs : s.val < 8 := s.isLt
    have h : 8 * (t.val / 8) + s.val < cfg0.N := by show _ < 24; omega
    have e1 : (8 * (t.val / 8) + s.val) % 8 = s.val := by omega
    have e2 : (8 * (t.val / 8) + s.val) / 8 = t.val / 8 := by omega
    simp only [part, dif_pos h, row, col, e1, e2, ix2_0, ix2_1]

theorem final (c : Dev nD) : (dats m 0 c).arrAt 2 cfg0.N = OUT (aH m c) (aD m c) := by
  refine (dats m 0 c).arrAt_eq_of_covers 2 _ (by decide +kernel) fun t hf y => ?_
  obtain ⟨e, d, rfl⟩ : ∃ e d, y = ix2 e d := ⟨_, _, eq_ix2 y⟩
  blk_simp
  rw [after0_2]
  exact (acc_at m c t ((flush0_2 t).mp hf) e d).trans (congrArg _ (emb t _ _).symm)

end Cert.Kernel10Ideal.Mm

namespace Cert.Reference10Ideal.Mm

open Idealize.ShloMosaic Idealize.ShloMosaic.TcCoe Idealize.ShloMosaic.Pointwise
open Cert.Reference10Ideal Cert.Reference10Ideal.Gen
open Cert.Kernel10Ideal.Mm (OUT)

theorem ref (H : Vec Ideal S8192x1024 .bf16) (D : Vec Ideal S8192x4224 .bf16) :
    transpose S1024x4224 [1, 0] (Host.dotGeneral (F := Ideal) (φ₁ := .f32) (φ₂ := .f32) dot_S8192x4224_S8192x1024_S4224x1024_0_0_1_1_n_n none (extf .f32 D bitsLt_bf16_f32) (extf .f32 H bitsLt_bf16_f32)) transposes_S4224x1024_S1024x4224_1_0 = OUT H D := funext fun i => by
  obtain ⟨e, d, rfl⟩ : ∃ e d, i = ix2 e d := ⟨_, _, eq_ix2 i⟩
  pointwise [OUT]
  exact Finset.sum_congr rfl fun r _ => mul_comm _ _

end Cert.Reference10Ideal.Mm

namespace Cert

open Idealize.ShloMosaic Idealize.ShloMosaic.TcCoe Idealize.SL.Sem

/-- The call and its reference, from equal arguments, end with equal results. -/
theorem algebraic10 : Cert.algebraic_Kernel10Ideal_Reference10Ideal := by
  intro m g m' g' _ hag
  refine ⟨fun c => Kernel10Ideal.Mm.OUT (Kernel10Ideal.Mm.aH m c) (Kernel10Ideal.Mm.aD m c),
    (θ_run _ _ _).mono (fun _ h c => ?_) (Cert.Kernel10Ideal.Value.run_blocks m g),
    (θ_run _ _ _).mono (fun _ h c => ?_) (Cert.Reference10Ideal.Value.run m' g')⟩
  · obtain ⟨h0, hk⟩ := h c
    exact ⟨h0.trans (Kernel10Ideal.Mm.final m c), hk⟩
  · obtain ⟨h0, hk⟩ := h c
    obtain ⟨e0, e1⟩ := hag c
    simp only [Kernel10Ideal.Mm.aH, Kernel10Ideal.Mm.aD, ← e0, ← e1]
    exact ⟨h0.trans (Reference10Ideal.Mm.ref _ _), hk⟩

theorem frame_kernel10_ideal : Cert.quiescent_Kernel10Ideal := fun m g _ => Cert.Kernel10Ideal.Gen.frame (F := Ideal) m g
theorem frame_kernel10 : Cert.quiescent_Kernel10 := by
  have h := fun m g (_ : True) => Cert.Kernel10Ideal.Gen.frame (F := Bits) m g
  exact Eq.mp (by sl_kernel_rfl) h
theorem frame_reference10 : Cert.quiescent_Reference10Ideal := by
  intro m g _
  hlo_run
  · intro c; simp
  · exact funext fun g => by
      obtain ⟨_, s⟩ := g
      cases s with
      | reg s => exact s.elim0
      | dma s => exact s.elim0

end Cert
end
-- ==== Proof.Mm.K11.lean ====
/- The weight gradient of the attention's first product. -/
module

public import proofs.«01_k».proof.Defs
public import proofs.«01_k».proof.Proof.Gen.Kernel11
public import proofs.«01_k».proof.Proof.Gen.Kernel11Ideal.Value
public import proofs.«01_k».proof.Proof.Gen.Reference11Ideal.Run
public import Idealize.ShloMosaic.Lib.Pipeline.ValueKit
public import Idealize.ShloMosaic.Lib.Pointwise

@[expose] public section

set_option maxRecDepth 16384

noncomputable section

namespace Cert.Kernel11Ideal.Mm

open Idealize.ShloMosaic Idealize.ShloMosaic.TcCoe Idealize.ShloMosaic.Pointwise
open Idealize.ShloMosaic.Pipeline (Dat Cfg Window)
open Cert.Kernel11Ideal Cert.Kernel11Ideal.Gen Cert.Kernel11Ideal.Value

variable (m : (ℓ : Loc nD τ sig) → Buf (Elt Ideal) ℓ)

theorem pay_zero (e : Fin 1024) (d : Fin 1536) : k0_pay1 (F := Ideal) (ix2 e d) = 0 := by
  pointwise [k0_pay1]
theorem pay_add (acc : Vec Ideal S1024x1536 .f32) (a : Vec Ideal S1024x1024 .bf16) (b : Vec Ideal S1024x1536 .bf16) (e : Fin 1024) (d : Fin 1536) :
    k0_pay2 acc a b (ix2 e d) = acc (ix2 e d) + ∑ r, a (ix2 r e) * b (ix2 r d) := by
  pointwise [k0_pay2]

/-- The result as a function of the arguments. -/
def OUT (H : Vec Ideal S8192x1024 .bf16) (D : Vec Ideal S8192x1536 .bf16) : Vec Ideal S1024x1536 .f32 := fun i =>
  ∑ r : Fin 8192, H (ix2 r (i 0)) * D (ix2 r (i 1))

theorem idx : ∀ t : Fin cfg0.N, win0_0.index t = ![t.val % 8, 0] ∧ win0_1.index t = ![t.val % 8, t.val / 8] ∧ win0_2.index t = ![0, t.val / 8] := (by decide +kernel : ∀ t : Fin grid0.N, _)

abbrev aH (c : Dev nD) : Vec Ideal S8192x1024 .bf16 := m ((c : Thread nD τ).loc main_arg0)
abbrev aD (c : Dev nD) : Vec Ideal S8192x1536 .bf16 := m ((c : Thread nD τ).loc main_arg1)

def row (t : Fin cfg0.N) (r : Fin 1024) : Fin 8192 := ⟨t.val % 8 * 1024 + r.val, by omega⟩
theorem col_lt (t : Fin cfg0.N) (d : Fin 1536) : t.val / 8 * 1536 + d.val < 1536 := by have : t.val < 8 := t.isLt; omega
def col (t : Fin cfg0.N) (d : Fin 1536) : Fin 1536 := ⟨t.val / 8 * 1536 + d.val, col_lt t d⟩

theorem rd0 (c : Dev nD) (t : Fin cfg0.N) (r : Fin 1024) (e : Fin 1024) : iblk m c 0 t (ix2 r e) = aH m c (ix2 (row t r) e) := by
  unfold row; blk_ext [iblk, V, idx t]
theorem rd1 (c : Dev nD) (t : Fin cfg0.N) (r : Fin 1024) (d : Fin 1536) : iblk m c 1 t (ix2 r d) = aD m c (ix2 (row t r) (col t d)) := by
  unfold row col; blk_ext [iblk, V, idx t]
theorem emb (t : Fin cfg0.N) (e : Fin 1024) (d : Fin 1536) : ((View.whole main_v0).slice (win0_2.rect t)).emb (ix2 e d) = ix2 e (col t d) := by
  unfold col; blk_ext [idx t]

/-- What one point adds to its column tile. -/
def part (c : Dev nD) (p : ℕ) (i : S1024x1536.Idx) : EReal :=
  if h : p < cfg0.N then ∑ r : Fin 1024, aH m c (ix2 (row ⟨p, h⟩ r) (i 0)) * aD m c (ix2 (row ⟨p, h⟩ r) (col ⟨p, h⟩ (i 1))) else 0

theorem step_at (c : Dev nD) (p : ℕ) (h : p < cfg0.N) (acc : Vec Ideal S1024x1536 .f32) (i : S1024x1536.Idx) :
    k0_pay2 acc (iblk m c 0 ⟨p, h⟩) (iblk m c 1 ⟨p, h⟩) i = acc i + part m c p i := by
  obtain ⟨e, d, rfl⟩ : ∃ e d, i = ix2 e d := ⟨_, _, eq_ix2 i⟩
  rw [pay_add]
  simp only [rd0, rd1, part, dif_pos h, ix2_0, ix2_1]

theorem acc_at (c : Dev nD) (t : Fin cfg0.N) (hm : t.val % 8 = 7) (e : Fin 1024) (d : Fin 1536) :
    outsAt0 m c t.val t.isLt (ix2 e d) = OUT (aH m c) (aD m c) (ix2 e (col t d)) := by
  have hN : t.val < 8 := t.isLt
  rw [outsAt_2_eq]
  refine (Pipeline.accAt_add_apply (ι := S1024x1536.Idx) (β := EReal) (reset2 m c) (step2 m c) (fun _ => 0) (part m c) (8 * (t.val / 8)) 7
    (fun h i => (step_at m c _ h _ i).trans (congrArg (· + _) ?_)) (fun p h acc i _ _ => step_at m c p h acc i) _ (by omega) _ _).trans ?_
  · obtain ⟨e, d, rfl⟩ : ∃ e d, i = ix2 e d := ⟨_, _, eq_ix2 i⟩
    exact pay_zero e d
  · rw [hm, zero_add, Finset.sum_range]
    refine (Finset.sum_congr rfl fun s _ => ?_).trans (Fin.sum_mul_add_congr (S := 8) (n := 1024) (L := 8192)
      (F := fun s r => aH m c (ix2 ⟨s.val * 1024 + r.val, by omega⟩ e) * aD m c (ix2 ⟨s.val * 1024 + r.val, by omega⟩ (col t d))) fun s r hl => rfl)
    have hs : s.val < 8 := s.isLt
    have h : 8 * (t.val / 8) + s.val < cfg0.N := by show _ < 8; omega
    have e1 : (8 * (t.val / 8) + s.val) % 8 = s.val := by omega
    have e2 : (8 * (t.val / 8) + s.val) / 8 = t.val / 8 := by omega
    simp only [part, dif_pos h, row, col, e1, e2, ix2_0, ix2_1]

theorem final (c : Dev nD) : (dats m 0 c).arrAt 2 cfg0.N = OUT (aH m c) (aD m c) := by
  refine (dats m 0 c).arrAt_eq_of_covers 2 _ (by decide +kernel) fun t hf y => ?_
  obtain ⟨e, d, rfl⟩ : ∃ e d, y = ix2 e d := ⟨_, _, eq_ix2 y⟩
  blk_simp
  rw [after0_2]
  exact (acc_at m c t ((flush0_2 t).mp hf) e d).trans (congrArg _ (emb t _ _).symm)

end Cert.Kernel11Ideal.Mm

namespace Cert.Reference11Ideal.Mm

open Idealize.ShloMosaic Idealize.ShloMosaic.TcCoe Idealize.ShloMosaic.Pointwise
open Cert.Reference11Ideal Cert.Reference11Ideal.Gen
open Cert.Kernel11Ideal.Mm (OUT)

theorem ref (H : Vec Ideal S8192x1024 .bf16) (D : Vec Ideal S8192x1536 .bf16) :
    transpose S1024x1536 [1, 0] (Host.dotGeneral (F := Ideal) (φ₁ := .f32) (φ₂ := .f32) dot_S8192x1536_S8192x1024_S1536x1024_0_0_1_1_n_n none (extf .f32 D bitsLt_bf16_f32) (extf .f32 H bitsLt_bf16_f32)) transposes_S1536x1024_S1024x1536_1_0 = OUT H D := funext fun i => by
  obtain ⟨e, d, rfl⟩ : ∃ e d, i = ix2 e d := ⟨_, _, eq_ix2 i⟩
  pointwise [OUT]
  exact Finset.sum_congr rfl fun r _ => mul_comm _ _

end Cert.Reference11Ideal.Mm

namespace Cert

open Idealize.ShloMosaic Idealize.ShloMosaic.TcCoe Idealize.SL.Sem

/-- The call and its reference, from equal arguments, end with equal results. -/
theorem algebraic11 : Cert.algebraic_Kernel11Ideal_Reference11Ideal := by
  intro m g m' g' _ hag
  refine ⟨fun c => Kernel11Ideal.Mm.OUT (Kernel11Ideal.Mm.aH m c) (Kernel11Ideal.Mm.aD m c),
    (θ_run _ _ _).mono (fun _ h c => ?_) (Cert.Kernel11Ideal.Value.run_blocks m g),
    (θ_run _ _ _).mono (fun _ h c => ?_) (Cert.Reference11Ideal.Value.run m' g')⟩
  · obtain ⟨h0, hk⟩ := h c
    exact ⟨h0.trans (Kernel11Ideal.Mm.final m c), hk⟩
  · obtain ⟨h0, hk⟩ := h c
    obtain ⟨e0, e1⟩ := hag c
    simp only [Kernel11Ideal.Mm.aH, Kernel11Ideal.Mm.aD, ← e0, ← e1]
    exact ⟨h0.trans (Reference11Ideal.Mm.ref _ _), hk⟩

theorem frame_kernel11_ideal : Cert.quiescent_Kernel11Ideal := fun m g _ => Cert.Kernel11Ideal.Gen.frame (F := Ideal) m g
theorem frame_kernel11 : Cert.quiescent_Kernel11 := by
  have h := fun m g (_ : True) => Cert.Kernel11Ideal.Gen.frame (F := Bits) m g
  exact Eq.mp (by sl_kernel_rfl) h
theorem frame_reference11 : Cert.quiescent_Reference11Ideal := by
  intro m g _
  hlo_run
  · intro c; simp
  · exact funext fun g => by
      obtain ⟨_, s⟩ := g
      cases s with
      | reg s => exact s.elim0
      | dma s => exact s.elim0

end Cert
end
-- ==== Proof.Mm.K12.lean ====
/- The weight gradient of a mixer's last product. -/
module

public import proofs.«01_k».proof.Defs
public import proofs.«01_k».proof.Proof.Gen.Kernel12
public import proofs.«01_k».proof.Proof.Gen.Kernel12Ideal.Value
public import proofs.«01_k».proof.Proof.Gen.Reference12Ideal.Run
public import Idealize.ShloMosaic.Lib.Pipeline.ValueKit
public import Idealize.ShloMosaic.Lib.Pointwise

@[expose] public section

set_option maxRecDepth 16384

noncomputable section

namespace Cert.Kernel12Ideal.Mm

open Idealize.ShloMosaic Idealize.ShloMosaic.TcCoe Idealize.ShloMosaic.Pointwise
open Idealize.ShloMosaic.Pipeline (Dat Cfg Window)
open Cert.Kernel12Ideal Cert.Kernel12Ideal.Gen Cert.Kernel12Ideal.Value

variable (m : (ℓ : Loc nD τ sig) → Buf (Elt Ideal) ℓ)

theorem pay_zero (e : Fin 1024) (d : Fin 1024) : k0_pay1 (F := Ideal) (ix2 e d) = 0 := by
  pointwise [k0_pay1]
theorem pay_add (acc : Vec Ideal S1024x1024 .f32) (a : Vec Ideal S1024x1024 .bf16) (b : Vec Ideal S1024x1024 .f32) (e : Fin 1024) (d : Fin 1024) :
    k0_pay2 acc a b (ix2 e d) = acc (ix2 e d) + ∑ r, a (ix2 r e) * b (ix2 r d) := by
  pointwise [k0_pay2]

/-- The result as a function of the arguments. -/
def OUT (H : Vec Ideal S8192x1024 .bf16) (D : Vec Ideal S8192x1024 .f32) : Vec Ideal S1024x1024 .f32 := fun i =>
  ∑ r : Fin 8192, H (ix2 r (i 0)) * D (ix2 r (i 1))

theorem idx : ∀ t : Fin cfg0.N, win0_0.index t = ![t.val % 8, 0] ∧ win0_1.index t = ![t.val % 8, t.val / 8] ∧ win0_2.index t = ![0, t.val / 8] := (by decide +kernel : ∀ t : Fin grid0.N, _)

abbrev aH (c : Dev nD) : Vec Ideal S8192x1024 .bf16 := m ((c : Thread nD τ).loc main_arg0)
abbrev aD (c : Dev nD) : Vec Ideal S8192x1024 .f32 := m ((c : Thread nD τ).loc main_arg1)

def row (t : Fin cfg0.N) (r : Fin 1024) : Fin 8192 := ⟨t.val % 8 * 1024 + r.val, by omega⟩
theorem col_lt (t : Fin cfg0.N) (d : Fin 1024) : t.val / 8 * 1024 + d.val < 1024 := by have : t.val < 8 := t.isLt; omega
def col (t : Fin cfg0.N) (d : Fin 1024) : Fin 1024 := ⟨t.val / 8 * 1024 + d.val, col_lt t d⟩

theorem rd0 (c : Dev nD) (t : Fin cfg0.N) (r : Fin 1024) (e : Fin 1024) : iblk m c 0 t (ix2 r e) = aH m c (ix2 (row t r) e) := by
  unfold row; blk_ext [iblk, V, idx t]
theorem rd1 (c : Dev nD) (t : Fin cfg0.N) (r : Fin 1024) (d : Fin 1024) : iblk m c 1 t (ix2 r d) = aD m c (ix2 (row t r) (col t d)) := by
  unfold row col; blk_ext [iblk, V, idx t]
theorem emb (t : Fin cfg0.N) (e : Fin 1024) (d : Fin 1024) : ((View.whole main_v0).slice (win0_2.rect t)).emb (ix2 e d) = ix2 e (col t d) := by
  unfold col; blk_ext [idx t]

/-- What one point adds to its column tile. -/
def part (c : Dev nD) (p : ℕ) (i : S1024x1024.Idx) : EReal :=
  if h : p < cfg0.N then ∑ r : Fin 1024, aH m c (ix2 (row ⟨p, h⟩ r) (i 0)) * aD m c (ix2 (row ⟨p, h⟩ r) (col ⟨p, h⟩ (i 1))) else 0

theorem step_at (c : Dev nD) (p : ℕ) (h : p < cfg0.N) (acc : Vec Ideal S1024x1024 .f32) (i : S1024x1024.Idx) :
    k0_pay2 acc (iblk m c 0 ⟨p, h⟩) (iblk m c 1 ⟨p, h⟩) i = acc i + part m c p i := by
  obtain ⟨e, d, rfl⟩ : ∃ e d, i = ix2 e d := ⟨_, _, eq_ix2 i⟩
  rw [pay_add]
  simp only [rd0, rd1, part, dif_pos h, ix2_0, ix2_1]

theorem acc_at (c : Dev nD) (t : Fin cfg0.N) (hm : t.val % 8 = 7) (e : Fin 1024) (d : Fin 1024) :
    outsAt0 m c t.val t.isLt (ix2 e d) = OUT (aH m c) (aD m c) (ix2 e (col t d)) := by
  have hN : t.val < 8 := t.isLt
  rw [outsAt_2_eq]
  refine (Pipeline.accAt_add_apply (ι := S1024x1024.Idx) (β := EReal) (reset2 m c) (step2 m c) (fun _ => 0) (part m c) (8 * (t.val / 8)) 7
    (fun h i => (step_at m c _ h _ i).trans (congrArg (· + _) ?_)) (fun p h acc i _ _ => step_at m c p h acc i) _ (by omega) _ _).trans ?_
  · obtain ⟨e, d, rfl⟩ : ∃ e d, i = ix2 e d := ⟨_, _, eq_ix2 i⟩
    exact pay_zero e d
  · rw [hm, zero_add, Finset.sum_range]
    refine (Finset.sum_congr rfl fun s _ => ?_).trans (Fin.sum_mul_add_congr (S := 8) (n := 1024) (L := 8192)
      (F := fun s r => aH m c (ix2 ⟨s.val * 1024 + r.val, by omega⟩ e) * aD m c (ix2 ⟨s.val * 1024 + r.val, by omega⟩ (col t d))) fun s r hl => rfl)
    have hs : s.val < 8 := s.isLt
    have h : 8 * (t.val / 8) + s.val < cfg0.N := by show _ < 8; omega
    have e1 : (8 * (t.val / 8) + s.val) % 8 = s.val := by omega
    have e2 : (8 * (t.val / 8) + s.val) / 8 = t.val / 8 := by omega
    simp only [part, dif_pos h, row, col, e1, e2, ix2_0, ix2_1]

theorem final (c : Dev nD) : (dats m 0 c).arrAt 2 cfg0.N = OUT (aH m c) (aD m c) := by
  refine (dats m 0 c).arrAt_eq_of_covers 2 _ (by decide +kernel) fun t hf y => ?_
  obtain ⟨e, d, rfl⟩ : ∃ e d, y = ix2 e d := ⟨_, _, eq_ix2 y⟩
  blk_simp
  rw [after0_2]
  exact (acc_at m c t ((flush0_2 t).mp hf) e d).trans (congrArg _ (emb t _ _).symm)

end Cert.Kernel12Ideal.Mm

namespace Cert.Reference12Ideal.Mm

open Idealize.ShloMosaic Idealize.ShloMosaic.TcCoe Idealize.ShloMosaic.Pointwise
open Cert.Reference12Ideal Cert.Reference12Ideal.Gen
open Cert.Kernel12Ideal.Mm (OUT)

theorem ref (H : Vec Ideal S8192x1024 .bf16) (D : Vec Ideal S8192x1024 .f32) :
    transpose S1024x1024 [1, 0] (Host.dotGeneral (F := Ideal) (φ₁ := .f32) (φ₂ := .f32) dot_S8192x1024_S8192x1024_S1024x1024_0_0_1_1_n_n none D (extf .f32 H bitsLt_bf16_f32)) transposes_S1024x1024_S1024x1024_1_0 = OUT H D := funext fun i => by
  obtain ⟨e, d, rfl⟩ : ∃ e d, i = ix2 e d := ⟨_, _, eq_ix2 i⟩
  pointwise [OUT]
  exact Finset.sum_congr rfl fun r _ => mul_comm _ _

end Cert.Reference12Ideal.Mm

namespace Cert

open Idealize.ShloMosaic Idealize.ShloMosaic.TcCoe Idealize.SL.Sem

/-- The call and its reference, from equal arguments, end with equal results. -/
theorem algebraic12 : Cert.algebraic_Kernel12Ideal_Reference12Ideal := by
  intro m g m' g' _ hag
  refine ⟨fun c => Kernel12Ideal.Mm.OUT (Kernel12Ideal.Mm.aH m c) (Kernel12Ideal.Mm.aD m c),
    (θ_run _ _ _).mono (fun _ h c => ?_) (Cert.Kernel12Ideal.Value.run_blocks m g),
    (θ_run _ _ _).mono (fun _ h c => ?_) (Cert.Reference12Ideal.Value.run m' g')⟩
  · obtain ⟨h0, hk⟩ := h c
    exact ⟨h0.trans (Kernel12Ideal.Mm.final m c), hk⟩
  · obtain ⟨h0, hk⟩ := h c
    obtain ⟨e0, e1⟩ := hag c
    simp only [Kernel12Ideal.Mm.aH, Kernel12Ideal.Mm.aD, ← e0, ← e1]
    exact ⟨h0.trans (Reference12Ideal.Mm.ref _ _), hk⟩

theorem frame_kernel12_ideal : Cert.quiescent_Kernel12Ideal := fun m g _ => Cert.Kernel12Ideal.Gen.frame (F := Ideal) m g
theorem frame_kernel12 : Cert.quiescent_Kernel12 := by
  have h := fun m g (_ : True) => Cert.Kernel12Ideal.Gen.frame (F := Bits) m g
  exact Eq.mp (by sl_kernel_rfl) h
theorem frame_reference12 : Cert.quiescent_Reference12Ideal := by
  intro m g _
  hlo_run
  · intro c; simp
  · exact funext fun g => by
      obtain ⟨_, s⟩ := g
      cases s with
      | reg s => exact s.elim0
      | dma s => exact s.elim0

end Cert
end
-- ==== Proof.Mm.K13.lean ====
/- The product that enters mixer A, without its last 128 columns. -/
module

public import proofs.«01_k».proof.Defs
public import proofs.«01_k».proof.Proof.Gen.Kernel13
public import proofs.«01_k».proof.Proof.Gen.Kernel13Ideal.Value
public import proofs.«01_k».proof.Proof.Gen.Reference13Ideal.Run
public import Idealize.ShloMosaic.Lib.Pipeline.ValueKit
public import Idealize.ShloMosaic.Lib.Pointwise

@[expose] public section

set_option maxRecDepth 16384

noncomputable section

namespace Cert.Kernel13Ideal.Mm

open Idealize.ShloMosaic Idealize.ShloMosaic.TcCoe Idealize.ShloMosaic.Pointwise
open Idealize.ShloMosaic.Pipeline (Dat Cfg Window)
open Cert.Kernel13Ideal Cert.Kernel13Ideal.Gen

variable (m : (ℓ : Loc nD τ sig) → Buf (Elt Ideal) ℓ)

theorem pay (a w : Vec Ideal S1024x1024 .bf16) (r d : Fin 1024) :
    k0_pay1 a w (ix2 r d) = ∑ e, a (ix2 r e) * w (ix2 e d) := by
  pointwise [k0_pay1]

/-- The result as a function of the arguments. -/
def OUT (H : Vec Ideal S8192x1024 .bf16) (W : Vec Ideal S1024x4224 .bf16) : Vec Ideal S8192x4096 .bf16 := fun i =>
  ∑ e : Fin 1024, H (ix2 (i 0) e) * W (ix2 e ⟨(i 1).val, by have : (i 1).val < 4096 := (i 1).isLt; omega⟩)

theorem idx : ∀ t : Fin cfg0.N, win0_0.index t = ![t.val % 8, 0] ∧ win0_1.index t = ![0, t.val / 8] ∧ win0_2.index t = ![t.val % 8, t.val / 8] := (by decide +kernel : ∀ t : Fin grid0.N, _)

abbrev aH (c : Dev nD) : Vec Ideal S8192x1024 .bf16 := m ((c : Thread nD τ).loc main_arg0)
abbrev aW (c : Dev nD) : Vec Ideal S1024x4224 .bf16 := m ((c : Thread nD τ).loc main_arg1)

def row (t : Fin cfg0.N) (r : Fin 1024) : Fin 8192 := ⟨t.val % 8 * 1024 + r.val, by omega⟩
theorem col_lt (t : Fin cfg0.N) (d : Fin 1024) : t.val / 8 * 1024 + d.val < 4096 := by have : t.val < 32 := t.isLt; omega
def col (t : Fin cfg0.N) (d : Fin 1024) : Fin 4096 := ⟨t.val / 8 * 1024 + d.val, col_lt t d⟩

theorem rd0 (c : Dev nD) (t : Fin cfg0.N) (r : Fin 1024) (e : Fin 1024) : iblk m c 0 t (ix2 r e) = aH m c (ix2 (row t r) e) := by
  unfold row; blk_ext [iblk, V, idx t]
theorem rd1 (c : Dev nD) (t : Fin cfg0.N) (e : Fin 1024) (d : Fin 1024) :
    X0_1 m c t (ix2 e d) = aW m c (ix2 e ⟨(col t d).val, by have := (col t d).isLt; omega⟩) := by
  unfold X0_1 Pipeline.Window.fill col
  rw [dif_pos (moved0_1 t _)]
  blk_ext [iblk, V, idx t]
theorem emb (t : Fin cfg0.N) (r : Fin 1024) (d : Fin 1024) : ((View.whole main_v0).slice (win0_2.rect t)).emb (ix2 r d) = ix2 (row t r) (col t d) := by
  unfold row col; blk_ext [idx t]

theorem final (c : Dev nD) : (dats m 0 c).arrAt 2 cfg0.N = OUT (aH m c) (aW m c) := by
  refine (dats m 0 c).arrAt_eq_of_covers 2 _ (by decide +kernel) fun t _ y => ?_
  obtain ⟨r, d, rfl⟩ : ∃ r d, y = ix2 r d := ⟨_, _, eq_ix2 y⟩
  blk_simp
  rw [after0_2]
  unfold outsAt0
  frame_out
  refine (pay _ _ _ _).trans ?_
  refine Eq.trans ?_ (congrArg _ (emb t _ _).symm)
  simp only [rd0, rd1, OUT, ix2_0, ix2_1]

end Cert.Kernel13Ideal.Mm

namespace Cert.Reference13Ideal.Mm

open Idealize.ShloMosaic Idealize.ShloMosaic.TcCoe Idealize.ShloMosaic.Pointwise
open Cert.Reference13Ideal Cert.Reference13Ideal.Gen
open Cert.Kernel13Ideal.Mm (OUT)

theorem ref (H : Vec Ideal S8192x1024 .bf16) (W : Vec Ideal S1024x4224 .bf16) :
    truncf .bf16 (extractStridedSlice S8192x4096 ![0, 0] (Host.dotGeneral (F := Ideal) (φ₁ := .f32) (φ₂ := .f32) dot_S8192x1024_S1024x4224_S8192x4224_1_0_0_1_n_n none (extf .f32 H bitsLt_bf16_f32) (extf .f32 W bitsLt_bf16_f32)) slices_S8192x4224_S8192x4096_0_0) bitsLt_bf16_f32 = OUT H W := funext fun i => by
  obtain ⟨r, d, rfl⟩ : ∃ r d, i = ix2 r d := ⟨_, _, eq_ix2 i⟩
  pointwise [OUT]

end Cert.Reference13Ideal.Mm

namespace Cert

open Idealize.ShloMosaic Idealize.ShloMosaic.TcCoe Idealize.SL.Sem

/-- The call and its reference, from equal arguments, end with equal results. -/
theorem algebraic13 : Cert.algebraic_Kernel13Ideal_Reference13Ideal := by
  intro m g m' g' _ hag
  refine ⟨fun c => Kernel13Ideal.Mm.OUT (Kernel13Ideal.Mm.aH m c) (Kernel13Ideal.Mm.aW m c),
    (θ_run _ _ _).mono (fun _ h c => ?_) (Cert.Kernel13Ideal.Value.run_blocks m g),
    (θ_run _ _ _).mono (fun _ h c => ?_) (Cert.Reference13Ideal.Value.run m' g')⟩
  · obtain ⟨h0, hk⟩ := h c
    exact ⟨h0.trans (Kernel13Ideal.Mm.final m c), hk⟩
  · obtain ⟨h0, hk⟩ := h c
    obtain ⟨e0, e1⟩ := hag c
    simp only [Kernel13Ideal.Mm.aH, Kernel13Ideal.Mm.aW, ← e0, ← e1]
    exact ⟨h0.trans (Reference13Ideal.Mm.ref _ _), hk⟩

theorem frame_kernel13_ideal : Cert.quiescent_Kernel13Ideal := fun m g _ => Cert.Kernel13Ideal.Gen.frame (F := Ideal) m g
theorem frame_kernel13 : Cert.quiescent_Kernel13 := by
  have h := fun m g (_ : True) => Cert.Kernel13Ideal.Gen.frame (F := Bits) m g
  exact Eq.mp (by sl_kernel_rfl) h
theorem frame_reference13 : Cert.quiescent_Reference13Ideal := by
  intro m g _
  hlo_run
  · intro c; simp
  · exact funext fun g => by
      obtain ⟨_, s⟩ := g
      cases s with
      | reg s => exact s.elim0
      | dma s => exact s.elim0

end Cert
end
-- ==== Proof.Mm.K14.lean ====
/- The product that leaves mixer A, onto the residual. -/
module

public import proofs.«01_k».proof.Defs
public import proofs.«01_k».proof.Proof.Gen.Kernel14
public import proofs.«01_k».proof.Proof.Gen.Kernel14Ideal.Value
public import proofs.«01_k».proof.Proof.Gen.Reference14Ideal.Run
public import Idealize.ShloMosaic.Lib.Pipeline.ValueKit
public import Idealize.ShloMosaic.Lib.Pointwise

@[expose] public section

set_option maxRecDepth 16384

noncomputable section

namespace Cert.Kernel14Ideal.Mm

open Idealize.ShloMosaic Idealize.ShloMosaic.TcCoe Idealize.ShloMosaic.Pointwise
open Idealize.ShloMosaic.Pipeline (Dat Cfg Window)
open Cert.Kernel14Ideal Cert.Kernel14Ideal.Gen

variable (m : (ℓ : Loc nD τ sig) → Buf (Elt Ideal) ℓ)

theorem pay (a : Vec Ideal S1024x1024 .bf16) (w : Vec Ideal S1024x1024 .bf16) (x : Vec Ideal S1024x1024 .f32) (r : Fin 1024) (d : Fin 1024) :
    k0_pay1 a w x (ix2 r d) = ∑ e, a (ix2 r e) * w (ix2 e d) + x (ix2 r d) := by
  pointwise [k0_pay1]

/-- The result as a function of the arguments. -/
def OUT (A : Vec Ideal S8192x1024 .bf16) (W : Vec Ideal S1024x1024 .bf16) (X : Vec Ideal S8192x1024 .f32) : Vec Ideal S8192x1024 .f32 := fun i =>
  ∑ e, A (ix2 (i 0) e) * W (ix2 e (i 1)) + X i

theorem idx : ∀ t : Fin cfg0.N, win0_0.index t = ![t.val, 0] ∧ win0_1.index t = ![0, 0] ∧ win0_2.index t = ![t.val, 0] ∧ win0_3.index t = ![t.val, 0] := (by decide +kernel : ∀ t : Fin grid0.N, _)

abbrev aA (c : Dev nD) : Vec Ideal S8192x1024 .bf16 := m ((c : Thread nD τ).loc main_arg0)
abbrev aW (c : Dev nD) : Vec Ideal S1024x1024 .bf16 := m ((c : Thread nD τ).loc main_arg1)
abbrev aX (c : Dev nD) : Vec Ideal S8192x1024 .f32 := m ((c : Thread nD τ).loc main_arg2)

theorem row_lt (t : Fin cfg0.N) (r : Fin 1024) : t.val * 1024 + r.val < 8192 := by have : t.val < 8 := t.isLt; omega
def row (t : Fin cfg0.N) (r : Fin 1024) : Fin 8192 := ⟨t.val * 1024 + r.val, row_lt t r⟩

theorem rd0 (c : Dev nD) (t : Fin cfg0.N) (r : Fin 1024) (e : Fin 1024) : iblk m c 0 t (ix2 r e) = aA m c (ix2 (row t r) e) := by
  unfold row; blk_ext [iblk, V, idx t]
theorem rd1 (c : Dev nD) (t : Fin cfg0.N) (e : Fin 1024) (d : Fin 1024) : iblk m c 1 t (ix2 e d) = aW m c (ix2 e d) := by
  blk_ext [iblk, V, idx t]
theorem rd2 (c : Dev nD) (t : Fin cfg0.N) (r : Fin 1024) (d : Fin 1024) : iblk m c 2 t (ix2 r d) = aX m c (ix2 (row t r) d) := by
  unfold row; blk_ext [iblk, V, idx t]
theorem emb (t : Fin cfg0.N) (r : Fin 1024) (d : Fin 1024) : ((View.whole main_v0).slice (win0_3.rect t)).emb (ix2 r d) = ix2 (row t r) d := by
  unfold row; blk_ext [idx t]

theorem final (c : Dev nD) : (dats m 0 c).arrAt 3 cfg0.N = OUT (aA m c) (aW m c) (aX m c) := by
  refine (dats m 0 c).arrAt_eq_of_covers 3 _ (by decide +kernel) fun t _ y => ?_
  obtain ⟨r, d, rfl⟩ : ∃ r d, y = ix2 r d := ⟨_, _, eq_ix2 y⟩
  blk_simp
  rw [after0_3]
  unfold out0_3
  frame_out
  refine (pay _ _ _ _ _).trans ?_
  refine Eq.trans ?_ (congrArg _ (emb t _ _).symm)
  simp only [rd0, rd1, rd2, OUT, ix2_0, ix2_1]

end Cert.Kernel14Ideal.Mm

namespace Cert.Reference14Ideal.Mm

open Idealize.ShloMosaic Idealize.ShloMosaic.TcCoe Idealize.ShloMosaic.Pointwise
open Cert.Reference14Ideal Cert.Reference14Ideal.Gen
open Cert.Kernel14Ideal.Mm (OUT)

theorem ref (A : Vec Ideal S8192x1024 .bf16) (W : Vec Ideal S1024x1024 .bf16) (X : Vec Ideal S8192x1024 .f32) :
    addf X (Host.dotGeneral (F := Ideal) dot_S8192x1024_S1024x1024_S8192x1024_1_0_0_1_n_n none (extf .f32 A bitsLt_bf16_f32) (extf .f32 W bitsLt_bf16_f32)) = OUT A W X := funext fun i => by
  obtain ⟨r, d, rfl⟩ : ∃ r d, i = ix2 r d := ⟨_, _, eq_ix2 i⟩
  pointwise [OUT]
  exact add_comm _ _

end Cert.Reference14Ideal.Mm

namespace Cert

open Idealize.ShloMosaic Idealize.ShloMosaic.TcCoe Idealize.SL.Sem

/-- The call and its reference, from equal arguments, end with equal results. -/
theorem algebraic14 : Cert.algebraic_Kernel14Ideal_Reference14Ideal := by
  intro m g m' g' _ hag
  refine ⟨fun c => Kernel14Ideal.Mm.OUT (Kernel14Ideal.Mm.aA m c) (Kernel14Ideal.Mm.aW m c) (Kernel14Ideal.Mm.aX m c),
    (θ_run _ _ _).mono (fun _ h c => ?_) (Cert.Kernel14Ideal.Value.run_blocks m g),
    (θ_run _ _ _).mono (fun _ h c => ?_) (Cert.Reference14Ideal.Value.run m' g')⟩
  · obtain ⟨h0, hk⟩ := h c
    exact ⟨h0.trans (Kernel14Ideal.Mm.final m c), hk⟩
  · obtain ⟨h0, hk⟩ := h c
    obtain ⟨e0, e1, e2⟩ := hag c
    simp only [Kernel14Ideal.Mm.aA, Kernel14Ideal.Mm.aW, Kernel14Ideal.Mm.aX, ← e0, ← e1, ← e2]
    exact ⟨h0.trans (Reference14Ideal.Mm.ref _ _ _), hk⟩

theorem frame_kernel14_ideal : Cert.quiescent_Kernel14Ideal := fun m g _ => Cert.Kernel14Ideal.Gen.frame (F := Ideal) m g
theorem frame_kernel14 : Cert.quiescent_Kernel14 := by
  have h := fun m g (_ : True) => Cert.Kernel14Ideal.Gen.frame (F := Bits) m g
  exact Eq.mp (by sl_kernel_rfl) h
theorem frame_reference14 : Cert.quiescent_Reference14Ideal := by
  intro m g _
  hlo_run
  · intro c; simp
  · exact funext fun g => by
      obtain ⟨_, s⟩ := g
      cases s with
      | reg s => exact s.elim0
      | dma s => exact s.elim0

end Cert
end
-- ==== Proof.Mm.K15.lean ====
/- The product that enters the attention, with its bias. -/
module

public import proofs.«01_k».proof.Defs
public import proofs.«01_k».proof.Proof.Gen.Kernel15
public import proofs.«01_k».proof.Proof.Gen.Kernel15Ideal.Value
public import proofs.«01_k».proof.Proof.Gen.Reference15Ideal.Run
public import Idealize.ShloMosaic.Lib.Pipeline.ValueKit
public import Idealize.ShloMosaic.Lib.Pointwise

@[expose] public section

set_option maxRecDepth 16384

noncomputable section

namespace Cert.Kernel15Ideal.Mm

open Idealize.ShloMosaic Idealize.ShloMosaic.TcCoe Idealize.ShloMosaic.Pointwise
open Idealize.ShloMosaic.Pipeline (Dat Cfg Window)
open Cert.Kernel15Ideal Cert.Kernel15Ideal.Gen

variable (m : (ℓ : Loc nD τ sig) → Buf (Elt Ideal) ℓ)

theorem pay (a : Vec Ideal S1024x1024 .bf16) (w : Vec Ideal S1024x1536 .bf16) (b : Vec Ideal S1x1536 .f32) (r : Fin 1024) (d : Fin 1536) :
    k0_pay1 a w b (ix2 r d) = ∑ e, a (ix2 r e) * w (ix2 e d) + b (ix2 0 d) := by
  pointwise [k0_pay1]

/-- The result as a function of the arguments. -/
def OUT (A : Vec Ideal S8192x1024 .bf16) (W : Vec Ideal S1024x1536 .bf16) (B : Vec Ideal S1x1536 .f32) : Vec Ideal S8192x1536 .f32 := fun i =>
  ∑ e, A (ix2 (i 0) e) * W (ix2 e (i 1)) + B (ix2 0 (i 1))

theorem idx : ∀ t : Fin cfg0.N, win0_0.index t = ![t.val, 0] ∧ win0_1.index t = ![0, 0] ∧ win0_2.index t = ![0, 0] ∧ win0_3.index t = ![t.val, 0] := (by decide +kernel : ∀ t : Fin grid0.N, _)

abbrev aA (c : Dev nD) : Vec Ideal S8192x1024 .bf16 := m ((c : Thread nD τ).loc main_arg0)
abbrev aW (c : Dev nD) : Vec Ideal S1024x1536 .bf16 := m ((c : Thread nD τ).loc main_arg1)
abbrev aB (c : Dev nD) : Vec Ideal S1x1536 .f32 := m ((c : Thread nD τ).loc main_arg2)

theorem row_lt (t : Fin cfg0.N) (r : Fin 1024) : t.val * 1024 + r.val < 8192 := by have : t.val < 8 := t.isLt; omega
def row (t : Fin cfg0.N) (r : Fin 1024) : Fin 8192 := ⟨t.val * 1024 + r.val, row_lt t r⟩

theorem rd0 (c : Dev nD) (t : Fin cfg0.N) (r : Fin 1024) (e : Fin 1024) : iblk m c 0 t (ix2 r e) = aA m c (ix2 (row t r) e) := by
  unfold row; blk_ext [iblk, V, idx t]
theorem rd1 (c : Dev nD) (t : Fin cfg0.N) (e : Fin 1024) (d : Fin 1536) : iblk m c 1 t (ix2 e d) = aW m c (ix2 e d) := by
  blk_ext [iblk, V, idx t]
theorem rd2 (c : Dev nD) (t : Fin cfg0.N) (d : Fin 1536) : iblk m c 2 t (ix2 0 d) = aB m c (ix2 0 d) := by
  blk_ext [iblk, V, idx t]
theorem emb (t : Fin cfg0.N) (r : Fin 1024) (d : Fin 1536) : ((View.whole main_v0).slice (win0_3.rect t)).emb (ix2 r d) = ix2 (row t r) d := by
  unfold row; blk_ext [idx t]

theorem final (c : Dev nD) : (dats m 0 c).arrAt 3 cfg0.N = OUT (aA m c) (aW m c) (aB m c) := by
  refine (dats m 0 c).arrAt_eq_of_covers 3 _ (by decide +kernel) fun t _ y => ?_
  obtain ⟨r, d, rfl⟩ : ∃ r d, y = ix2 r d := ⟨_, _, eq_ix2 y⟩
  blk_simp
  rw [after0_3]
  unfold out0_3
  frame_out
  refine (pay _ _ _ _ _).trans ?_
  refine Eq.trans ?_ (congrArg _ (emb t _ _).symm)
  simp only [rd0, rd1, rd2, OUT, ix2_0, ix2_1]

end Cert.Kernel15Ideal.Mm

namespace Cert.Reference15Ideal.Mm

open Idealize.ShloMosaic Idealize.ShloMosaic.TcCoe Idealize.ShloMosaic.Pointwise
open Cert.Reference15Ideal Cert.Reference15Ideal.Gen
open Cert.Kernel15Ideal.Mm (OUT)

theorem ref (A : Vec Ideal S8192x1024 .bf16) (W : Vec Ideal S1024x1536 .bf16) (B : Vec Ideal S1x1536 .f32) :
    addf (Host.dotGeneral (F := Ideal) dot_S8192x1024_S1024x1536_S8192x1536_1_0_0_1_n_n none (extf .f32 A bitsLt_bf16_f32) (extf .f32 W bitsLt_bf16_f32)) (broadcastInDim S8192x1536 ![0, 1] bcast_S1x1536_S8192x1536_0_1 B) = OUT A W B := funext fun i => by
  obtain ⟨r, d, rfl⟩ : ∃ r d, i = ix2 r d := ⟨_, _, eq_ix2 i⟩
  pointwise [OUT]

end Cert.Reference15Ideal.Mm

namespace Cert

open Idealize.ShloMosaic Idealize.ShloMosaic.TcCoe Idealize.SL.Sem

/-- The call and its reference, from equal arguments, end with equal results. -/
theorem algebraic15 : Cert.algebraic_Kernel15Ideal_Reference15Ideal := by
  intro m g m' g' _ hag
  refine ⟨fun c => Kernel15Ideal.Mm.OUT (Kernel15Ideal.Mm.aA m c) (Kernel15Ideal.Mm.aW m c) (Kernel15Ideal.Mm.aB m c),
    (θ_run _ _ _).mono (fun _ h c => ?_) (Cert.Kernel15Ideal.Value.run_blocks m g),
    (θ_run _ _ _).mono (fun _ h c => ?_) (Cert.Reference15Ideal.Value.run m' g')⟩
  · obtain ⟨h0, hk⟩ := h c
    exact ⟨h0.trans (Kernel15Ideal.Mm.final m c), hk⟩
  · obtain ⟨h0, hk⟩ := h c
    obtain ⟨e0, e1, e2⟩ := hag c
    simp only [Kernel15Ideal.Mm.aA, Kernel15Ideal.Mm.aW, Kernel15Ideal.Mm.aB, ← e0, ← e1, ← e2]
    exact ⟨h0.trans (Reference15Ideal.Mm.ref _ _ _), hk⟩

theorem frame_kernel15_ideal : Cert.quiescent_Kernel15Ideal := fun m g _ => Cert.Kernel15Ideal.Gen.frame (F := Ideal) m g
theorem frame_kernel15 : Cert.quiescent_Kernel15 := by
  have h := fun m g (_ : True) => Cert.Kernel15Ideal.Gen.frame (F := Bits) m g
  exact Eq.mp (by sl_kernel_rfl) h
theorem frame_reference15 : Cert.quiescent_Reference15Ideal := by
  intro m g _
  hlo_run
  · intro c; simp
  · exact funext fun g => by
      obtain ⟨_, s⟩ := g
      cases s with
      | reg s => exact s.elim0
      | dma s => exact s.elim0

end Cert
end
-- ==== Proof.Mm.K16.lean ====
/- The product that leaves the attention, with its bias, onto the residual. -/
module

public import proofs.«01_k».proof.Defs
public import proofs.«01_k».proof.Proof.Gen.Kernel16
public import proofs.«01_k».proof.Proof.Gen.Kernel16Ideal.Value
public import proofs.«01_k».proof.Proof.Gen.Reference16Ideal.Run
public import Idealize.ShloMosaic.Lib.Pipeline.ValueKit
public import Idealize.ShloMosaic.Lib.Pointwise

@[expose] public section

set_option maxRecDepth 16384

noncomputable section

namespace Cert.Kernel16Ideal.Mm

open Idealize.ShloMosaic Idealize.ShloMosaic.TcCoe Idealize.ShloMosaic.Pointwise
open Idealize.ShloMosaic.Pipeline (Dat Cfg Window)
open Cert.Kernel16Ideal Cert.Kernel16Ideal.Gen

variable (m : (ℓ : Loc nD τ sig) → Buf (Elt Ideal) ℓ)

theorem pay (a : Vec Ideal S1024x1024 .bf16) (w : Vec Ideal S1024x1024 .bf16) (b : Vec Ideal S1x1024 .f32) (x : Vec Ideal S1024x1024 .f32) (r : Fin 1024) (d : Fin 1024) :
    k0_pay1 a w b x (ix2 r d) = ∑ e, a (ix2 r e) * w (ix2 e d) + b (ix2 0 d) + x (ix2 r d) := by
  pointwise [k0_pay1]

/-- The result as a function of the arguments. -/
def OUT (A : Vec Ideal S8192x1024 .bf16) (W : Vec Ideal S1024x1024 .bf16) (B : Vec Ideal S1x1024 .f32) (X : Vec Ideal S8192x1024 .f32) : Vec Ideal S8192x1024 .f32 := fun i =>
  ∑ e, A (ix2 (i 0) e) * W (ix2 e (i 1)) + B (ix2 0 (i 1)) + X i

theorem idx : ∀ t : Fin cfg0.N, win0_0.index t = ![t.val, 0] ∧ win0_1.index t = ![0, 0] ∧ win0_2.index t = ![0, 0] ∧ win0_3.index t = ![t.val, 0] ∧ win0_4.index t = ![t.val, 0] := (by decide +kernel : ∀ t : Fin grid0.N, _)

abbrev aA (c : Dev nD) : Vec Ideal S8192x1024 .bf16 := m ((c : Thread nD τ).loc main_arg0)
abbrev aW (c : Dev nD) : Vec Ideal S1024x1024 .bf16 := m ((c : Thread nD τ).loc main_arg1)
abbrev aB (c : Dev nD) : Vec Ideal S1x1024 .f32 := m ((c : Thread nD τ).loc main_arg2)
abbrev aX (c : Dev nD) : Vec Ideal S8192x1024 .f32 := m ((c : Thread nD τ).loc main_arg3)

theorem row_lt (t : Fin cfg0.N) (r : Fin 1024) : t.val * 1024 + r.val < 8192 := by have : t.val < 8 := t.isLt; omega
def row (t : Fin cfg0.N) (r : Fin 1024) : Fin 8192 := ⟨t.val * 1024 + r.val, row_lt t r⟩

theorem rd0 (c : Dev nD) (t : Fin cfg0.N) (r : Fin 1024) (e : Fin 1024) : iblk m c 0 t (ix2 r e) = aA m c (ix2 (row t r) e) := by
  unfold row; blk_ext [iblk, V, idx t]
theorem rd1 (c : Dev nD) (t : Fin cfg0.N) (e : Fin 1024) (d : Fin 1024) : iblk m c 1 t (ix2 e d) = aW m c (ix2 e d) := by
  blk_ext [iblk, V, idx t]
theorem rd2 (c : Dev nD) (t : Fin cfg0.N) (d : Fin 1024) : iblk m c 2 t (ix2 0 d) = aB m c (ix2 0 d) := by
  blk_ext [iblk, V, idx t]
theorem rd3 (c : Dev nD) (t : Fin cfg0.N) (r : Fin 1024) (d : Fin 1024) : iblk m c 3 t (ix2 r d) = aX m c (ix2 (row t r) d) := by
  unfold row; blk_ext [iblk, V, idx t]
theorem emb (t : Fin cfg0.N) (r : Fin 1024) (d : Fin 1024) : ((View.whole main_v0).slice (win0_4.rect t)).emb (ix2 r d) = ix2 (row t r) d := by
  unfold row; blk_ext [idx t]

theorem final (c : Dev nD) : (dats m 0 c).arrAt 4 cfg0.N = OUT (aA m c) (aW m c) (aB m c) (aX m c) := by
  refine (dats m 0 c).arrAt_eq_of_covers 4 _ (by decide +kernel) fun t _ y => ?_
  obtain ⟨r, d, rfl⟩ : ∃ r d, y = ix2 r d := ⟨_, _, eq_ix2 y⟩
  blk_simp
  rw [after0_4]
  unfold out0_4
  frame_out
  refine (pay _ _ _ _ _ _).trans ?_
  refine Eq.trans ?_ (congrArg _ (emb t _ _).symm)
  simp only [rd0, rd1, rd2, rd3, OUT, ix2_0, ix2_1]

end Cert.Kernel16Ideal.Mm

namespace Cert.Reference16Ideal.Mm

open Idealize.ShloMosaic Idealize.ShloMosaic.TcCoe Idealize.ShloMosaic.Pointwise
open Cert.Reference16Ideal Cert.Reference16Ideal.Gen
open Cert.Kernel16Ideal.Mm (OUT)

theorem ref (A : Vec Ideal S8192x1024 .bf16) (W : Vec Ideal S1024x1024 .bf16) (B : Vec Ideal S1x1024 .f32) (X : Vec Ideal S8192x1024 .f32) :
    addf X (addf (Host.dotGeneral (F := Ideal) dot_S8192x1024_S1024x1024_S8192x1024_1_0_0_1_n_n none (extf .f32 A bitsLt_bf16_f32) (extf .f32 W bitsLt_bf16_f32)) (broadcastInDim S8192x1024 ![0, 1] bcast_S1x1024_S8192x1024_0_1 B)) = OUT A W B X := funext fun i => by
  obtain ⟨r, d, rfl⟩ : ∃ r d, i = ix2 r d := ⟨_, _, eq_ix2 i⟩
  pointwise [OUT]
  exact add_comm _ _

end Cert.Reference16Ideal.Mm

namespace Cert

open Idealize.ShloMosaic Idealize.ShloMosaic.TcCoe Idealize.SL.Sem

/-- The call and its reference, from equal arguments, end with equal results. -/
theorem algebraic16 : Cert.algebraic_Kernel16Ideal_Reference16Ideal := by
  intro m g m' g' _ hag
  refine ⟨fun c => Kernel16Ideal.Mm.OUT (Kernel16Ideal.Mm.aA m c) (Kernel16Ideal.Mm.aW m c) (Kernel16Ideal.Mm.aB m c) (Kernel16Ideal.Mm.aX m c),
    (θ_run _ _ _).mono (fun _ h c => ?_) (Cert.Kernel16Ideal.Value.run_blocks m g),
    (θ_run _ _ _).mono (fun _ h c => ?_) (Cert.Reference16Ideal.Value.run m' g')⟩
  · obtain ⟨h0, hk⟩ := h c
    exact ⟨h0.trans (Kernel16Ideal.Mm.final m c), hk⟩
  · obtain ⟨h0, hk⟩ := h c
    obtain ⟨e0, e1, e2, e3⟩ := hag c
    simp only [Kernel16Ideal.Mm.aA, Kernel16Ideal.Mm.aW, Kernel16Ideal.Mm.aB, Kernel16Ideal.Mm.aX, ← e0, ← e1, ← e2, ← e3]
    exact ⟨h0.trans (Reference16Ideal.Mm.ref _ _ _ _), hk⟩

theorem frame_kernel16_ideal : Cert.quiescent_Kernel16Ideal := fun m g _ => Cert.Kernel16Ideal.Gen.frame (F := Ideal) m g
theorem frame_kernel16 : Cert.quiescent_Kernel16 := by
  have h := fun m g (_ : True) => Cert.Kernel16Ideal.Gen.frame (F := Bits) m g
  exact Eq.mp (by sl_kernel_rfl) h
theorem frame_reference16 : Cert.quiescent_Reference16Ideal := by
  intro m g _
  hlo_run
  · intro c; simp
  · exact funext fun g => by
      obtain ⟨_, s⟩ := g
      cases s with
      | reg s => exact s.elim0
      | dma s => exact s.elim0

end Cert
end
-- ==== Proof.Mm.K17.lean ====
/- The gradient of what enters a mixer's last product. -/
module

public import proofs.«01_k».proof.Defs
public import proofs.«01_k».proof.Proof.Gen.Kernel17
public import proofs.«01_k».proof.Proof.Gen.Kernel17Ideal.Value
public import proofs.«01_k».proof.Proof.Gen.Reference17Ideal.Run
public import Idealize.ShloMosaic.Lib.Pipeline.ValueKit
public import Idealize.ShloMosaic.Lib.Pointwise

@[expose] public section

set_option maxRecDepth 16384

noncomputable section

namespace Cert.Kernel17Ideal.Mm

open Idealize.ShloMosaic Idealize.ShloMosaic.TcCoe Idealize.ShloMosaic.Pointwise
open Idealize.ShloMosaic.Pipeline (Dat Cfg Window)
open Cert.Kernel17Ideal Cert.Kernel17Ideal.Gen

variable (m : (ℓ : Loc nD τ sig) → Buf (Elt Ideal) ℓ)

theorem pay (a : Vec Ideal S512x1024 .f32) (w : Vec Ideal S1024x1024 .bf16) (r : Fin 512) (d : Fin 1024) :
    k0_pay1 a w (ix2 r d) = ∑ e, a (ix2 r e) * w (ix2 d e) := by
  pointwise [k0_pay1]

/-- The result as a function of the arguments. -/
def OUT (A : Vec Ideal S8192x1024 .f32) (W : Vec Ideal S1024x1024 .bf16) : Vec Ideal S8192x1024 .f32 := fun i =>
  ∑ e, A (ix2 (i 0) e) * W (ix2 (i 1) e)

theorem idx : ∀ t : Fin cfg0.N, win0_0.index t = ![t.val, 0] ∧ win0_1.index t = ![0, 0] ∧ win0_2.index t = ![t.val, 0] := (by decide +kernel : ∀ t : Fin grid0.N, _)

abbrev aA (c : Dev nD) : Vec Ideal S8192x1024 .f32 := m ((c : Thread nD τ).loc main_arg0)
abbrev aW (c : Dev nD) : Vec Ideal S1024x1024 .bf16 := m ((c : Thread nD τ).loc main_arg1)

theorem row_lt (t : Fin cfg0.N) (r : Fin 512) : t.val * 512 + r.val < 8192 := by have : t.val < 16 := t.isLt; omega
def row (t : Fin cfg0.N) (r : Fin 512) : Fin 8192 := ⟨t.val * 512 + r.val, row_lt t r⟩

theorem rd0 (c : Dev nD) (t : Fin cfg0.N) (r : Fin 512) (e : Fin 1024) : iblk m c 0 t (ix2 r e) = aA m c (ix2 (row t r) e) := by
  unfold row; blk_ext [iblk, V, idx t]
theorem rd1 (c : Dev nD) (t : Fin cfg0.N) (e : Fin 1024) (d : Fin 1024) : iblk m c 1 t (ix2 e d) = aW m c (ix2 e d) := by
  blk_ext [iblk, V, idx t]
theorem emb (t : Fin cfg0.N) (r : Fin 512) (d : Fin 1024) : ((View.whole main_v0).slice (win0_2.rect t)).emb (ix2 r d) = ix2 (row t r) d := by
  unfold row; blk_ext [idx t]

theorem final (c : Dev nD) : (dats m 0 c).arrAt 2 cfg0.N = OUT (aA m c) (aW m c) := by
  refine (dats m 0 c).arrAt_eq_of_covers 2 _ (by decide +kernel) fun t _ y => ?_
  obtain ⟨r, d, rfl⟩ : ∃ r d, y = ix2 r d := ⟨_, _, eq_ix2 y⟩
  blk_simp
  rw [after0_2]
  unfold out0_2
  frame_out
  refine (pay _ _ _ _).trans ?_
  refine Eq.trans ?_ (congrArg _ (emb t _ _).symm)
  simp only [rd0, rd1, OUT, ix2_0, ix2_1]

end Cert.Kernel17Ideal.Mm

namespace Cert.Reference17Ideal.Mm

open Idealize.ShloMosaic Idealize.ShloMosaic.TcCoe Idealize.ShloMosaic.Pointwise
open Cert.Reference17Ideal Cert.Reference17Ideal.Gen
open Cert.Kernel17Ideal.Mm (OUT)

theorem ref (A : Vec Ideal S8192x1024 .f32) (W : Vec Ideal S1024x1024 .bf16) :
    Host.dotGeneral (F := Ideal) (φ₁ := .f32) (φ₂ := .f32) dot_S8192x1024_S1024x1024_S8192x1024_1_1_0_0_n_n none A (extf .f32 W bitsLt_bf16_f32) = OUT A W := funext fun i => by
  obtain ⟨r, d, rfl⟩ : ∃ r d, i = ix2 r d := ⟨_, _, eq_ix2 i⟩
  pointwise [OUT]

end Cert.Reference17Ideal.Mm

namespace Cert

open Idealize.ShloMosaic Idealize.ShloMosaic.TcCoe Idealize.SL.Sem

/-- The call and its reference, from equal arguments, end with equal results. -/
theorem algebraic17 : Cert.algebraic_Kernel17Ideal_Reference17Ideal := by
  intro m g m' g' _ hag
  refine ⟨fun c => Kernel17Ideal.Mm.OUT (Kernel17Ideal.Mm.aA m c) (Kernel17Ideal.Mm.aW m c),
    (θ_run _ _ _).mono (fun _ h c => ?_) (Cert.Kernel17Ideal.Value.run_blocks m g),
    (θ_run _ _ _).mono (fun _ h c => ?_) (Cert.Reference17Ideal.Value.run m' g')⟩
  · obtain ⟨h0, hk⟩ := h c
    exact ⟨h0.trans (Kernel17Ideal.Mm.final m c), hk⟩
  · obtain ⟨h0, hk⟩ := h c
    obtain ⟨e0, e1⟩ := hag c
    simp only [Kernel17Ideal.Mm.aA, Kernel17Ideal.Mm.aW, ← e0, ← e1]
    exact ⟨h0.trans (Reference17Ideal.Mm.ref _ _), hk⟩

theorem frame_kernel17_ideal : Cert.quiescent_Kernel17Ideal := fun m g _ => Cert.Kernel17Ideal.Gen.frame (F := Ideal) m g
theorem frame_kernel17 : Cert.quiescent_Kernel17 := by
  have h := fun m g (_ : True) => Cert.Kernel17Ideal.Gen.frame (F := Bits) m g
  exact Eq.mp (by sl_kernel_rfl) h
theorem frame_reference17 : Cert.quiescent_Reference17Ideal := by
  intro m g _
  hlo_run
  · intro c; simp
  · exact funext fun g => by
      obtain ⟨_, s⟩ := g
      cases s with
      | reg s => exact s.elim0
      | dma s => exact s.elim0

end Cert
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_finite
public import Idealize.ShloMosaic.Adequacy
public import Idealize.ShloMosaic.Init
public import proofs.«01_k».proof.Proof.Scan.Frames
public import proofs.«01_k».proof.Proof.Scan.Values
public import proofs.«01_k».proof.Proof.Ffn.FwdRef
public import proofs.«01_k».proof.Proof.Gen.Kernel5Ideal.Value
public import proofs.«01_k».proof.Proof.Gen.Kernel5
public import proofs.«01_k».proof.Proof.Gen.Reference5Ideal.Run
public import proofs.«01_k».proof.Proof.Ffn.BwdRef
public import proofs.«01_k».proof.Proof.Mm.K6
public import proofs.«01_k».proof.Proof.Mm.K7
public import proofs.«01_k».proof.Proof.Mm.K8
public import proofs.«01_k».proof.Proof.Mm.K9
public import proofs.«01_k».proof.Proof.Mm.K10
public import proofs.«01_k».proof.Proof.Mm.K11
public import proofs.«01_k».proof.Proof.Mm.K12
public import proofs.«01_k».proof.Proof.Mm.K13
public import proofs.«01_k».proof.Proof.Mm.K14
public import proofs.«01_k».proof.Proof.Mm.K15
public import proofs.«01_k».proof.Proof.Mm.K16
public import proofs.«01_k».proof.Proof.Mm.K17

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Pre_finite.Gen.facts, Cert.frame_kernel, Cert.frame_kernel_ideal, Cert.frame_kernel_ideal_finite,
  Cert.frame_reference_ideal, Cert.frame_reference_ideal_finite,
  Cert.frame_kernel2, Cert.frame_kernel2_ideal, Cert.frame_reference2,
  Cert.frame_kernel5, Cert.frame_kernel5_ideal, Cert.frame_reference5,
  Cert.frame_kernel6, Cert.frame_kernel6_ideal, Cert.frame_reference6,
  Cert.frame_kernel7, Cert.frame_kernel7_ideal, Cert.frame_reference7,
  Cert.frame_kernel8, Cert.frame_kernel8_ideal, Cert.frame_reference8,
  Cert.frame_kernel9, Cert.frame_kernel9_ideal, Cert.frame_reference9,
  Cert.frame_kernel10, Cert.frame_kernel10_ideal, Cert.frame_reference10,
  Cert.frame_kernel11, Cert.frame_kernel11_ideal, Cert.frame_reference11,
  Cert.frame_kernel12, Cert.frame_kernel12_ideal, Cert.frame_reference12,
  Cert.frame_kernel13, Cert.frame_kernel13_ideal, Cert.frame_reference13,
  Cert.frame_kernel14, Cert.frame_kernel14_ideal, Cert.frame_reference14,
  Cert.frame_kernel15, Cert.frame_kernel15_ideal, Cert.frame_reference15,
  Cert.frame_kernel16, Cert.frame_kernel16_ideal, Cert.frame_reference16,
  Cert.frame_kernel17, Cert.frame_kernel17_ideal, Cert.frame_reference17,
  trivial, Cert.algebraic, trivial, Cert.algebraic2, trivial, Cert.algebraic5,
  trivial, Cert.algebraic6,
  trivial, Cert.algebraic7,
  trivial, Cert.algebraic8,
  trivial, Cert.algebraic9,
  trivial, Cert.algebraic10,
  trivial, Cert.algebraic11,
  trivial, Cert.algebraic12,
  trivial, Cert.algebraic13,
  trivial, Cert.algebraic14,
  trivial, Cert.algebraic15,
  trivial, Cert.algebraic16,
  trivial, Cert.algebraic17⟩

end Cert.Proof

end
